-- ==== Defs.lean ====
def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_KernelGlaIdeal_gate_logits_above_minus_infinity [hPre_gate_logits_above_minus_infinity : Cert.Pre_gate_logits_above_minus_infinity.Facts] (m : (ℓ : Loc Cert.KernelGlaIdeal.nD Cert.KernelGlaIdeal.τ Cert.KernelGlaIdeal.sig) → Buf (Elt Ideal) ℓ) : Prop :=
  ∀ c : Dev Cert.KernelGlaIdeal.nD,
    (Cert.Pre_gate_logits_above_minus_infinity.fn (F := Ideal) (m ((c.tc : Thread Cert.KernelGlaIdeal.nD Cert.KernelGlaIdeal.τ).loc Cert.KernelGlaIdeal.main_arg0)) (m ((c.tc : Thread Cert.KernelGlaIdeal.nD Cert.KernelGlaIdeal.τ).loc Cert.KernelGlaIdeal.main_arg1)) (m ((c.tc : Thread Cert.KernelGlaIdeal.nD Cert.KernelGlaIdeal.τ).loc Cert.KernelGlaIdeal.main_arg2)) (m ((c.tc : Thread Cert.KernelGlaIdeal.nD Cert.KernelGlaIdeal.τ).loc Cert.KernelGlaIdeal.main_arg3)) (m ((c.tc : Thread Cert.KernelGlaIdeal.nD Cert.KernelGlaIdeal.τ).loc Cert.KernelGlaIdeal.main_arg4)) (m ((c.tc : Thread Cert.KernelGlaIdeal.nD Cert.KernelGlaIdeal.τ).loc Cert.KernelGlaIdeal.main_arg5)) (m ((c.tc : Thread Cert.KernelGlaIdeal.nD Cert.KernelGlaIdeal.τ).loc Cert.KernelGlaIdeal.main_arg6)) (m ((c.tc : Thread Cert.KernelGlaIdeal.nD Cert.KernelGlaIdeal.τ).loc Cert.KernelGlaIdeal.main_arg7))) = (fun _ => 1#1)

def Pre_ReferenceGlaIdeal (m : (ℓ : Loc Cert.ReferenceGlaIdeal.nD Cert.ReferenceGlaIdeal.τ Cert.ReferenceGlaIdeal.sig) → Buf (Elt Ideal) ℓ) : Prop :=
  True

def Pre_ReferenceGlaIdeal_gate_logits_above_minus_infinity [hPre_gate_logits_above_minus_infinity : Cert.Pre_gate_logits_above_minus_infinity.Facts] (m : (ℓ : Loc Cert.ReferenceGlaIdeal.nD Cert.ReferenceGlaIdeal.τ Cert.ReferenceGlaIdeal.sig) → Buf (Elt Ideal) ℓ) : Prop :=
  ∀ c : Dev Cert.ReferenceGlaIdeal.nD,
    (Cert.Pre_gate_logits_above_minus_infinity.fn (F := Ideal) (m ((c.tc : Thread Cert.ReferenceGlaIdeal.nD Cert.ReferenceGlaIdeal.τ).loc Cert.ReferenceGlaIdeal.main_arg0)) (m ((c.tc : Thread Cert.ReferenceGlaIdeal.nD Cert.ReferenceGlaIdeal.τ).loc Cert.ReferenceGlaIdeal.main_arg1)) (m ((c.tc : Thread Cert.ReferenceGlaIdeal.nD Cert.ReferenceGlaIdeal.τ).loc Cert.ReferenceGlaIdeal.main_arg2)) (m ((c.tc : Thread Cert.ReferenceGlaIdeal.nD Cert.ReferenceGlaIdeal.τ).loc Cert.ReferenceGlaIdeal.main_arg3)) (m ((c.tc : Thread Cert.ReferenceGlaIdeal.nD Cert.ReferenceGlaIdeal.τ).loc Cert.ReferenceGlaIdeal.main_arg4)) (m ((c.tc : Thread Cert.ReferenceGlaIdeal.nD Cert.ReferenceGlaIdeal.τ).loc Cert.ReferenceGlaIdeal.main_arg5)) (m ((c.tc : Thread Cert.ReferenceGlaIdeal.nD Cert.ReferenceGlaIdeal.τ).loc Cert.ReferenceGlaIdeal.main_arg6)) (m ((c.tc : Thread Cert.ReferenceGlaIdeal.nD Cert.ReferenceGlaIdeal.τ).loc Cert.ReferenceGlaIdeal.main_arg7))) = (fun _ => 1#1)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9)
      ∧ r.2.mem ((c.tc : Thread Cert.KernelTail.nD Cert.KernelTail.τ).loc Cert.KernelTail.main_arg10) = m ((c.tc : Thread Cert.KernelTail.nD Cert.KernelTail.τ).loc Cert.KernelTail.main_arg10)
      ∧ r.2.mem ((c.tc : Thread Cert.KernelTail.nD Cert.KernelTail.τ).loc Cert.KernelTail.main_arg11) = m ((c.tc : Thread Cert.KernelTail.nD Cert.KernelTail.τ).loc Cert.KernelTail.main_arg11))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
      ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
      ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1)
      ∧ r.2.mem ((c.tc : Thread Cert.KernelGla.nD Cert.KernelGla.τ).loc Cert.KernelGla.main_arg2) = m ((c.tc : Thread Cert.KernelGla.nD Cert.KernelGla.τ).loc Cert.KernelGla.main_arg2)
      ∧ r.2.mem ((c.tc : Thread Cert.KernelGla.nD Cert.KernelGla.τ).loc Cert.KernelGla.main_arg3) = m ((c.tc : Thread Cert.KernelGla.nD Cert.KernelGla.τ).loc Cert.KernelGla.main_arg3)
      ∧ r.2.mem ((c.tc : Thread Cert.KernelGla.nD Cert.KernelGla.τ).loc Cert.KernelGla.main_arg4) = m ((c.tc : Thread Cert.KernelGla.nD Cert.KernelGla.τ).loc Cert.KernelGla.main_arg4)
      ∧ r.2.mem ((c.tc : Thread Cert.KernelGla.nD Cert.KernelGla.τ).loc Cert.KernelGla.main_arg5) = m ((c.tc : Thread Cert.KernelGla.nD Cert.KernelGla.τ).loc Cert.KernelGla.main_arg5)
      ∧ r.2.mem ((c.tc : Thread Cert.KernelGla.nD Cert.KernelGla.τ).loc Cert.KernelGla.main_arg6) = m ((c.tc : Thread Cert.KernelGla.nD Cert.KernelGla.τ).loc Cert.KernelGla.main_arg6)
      ∧ r.2.mem ((c.tc : Thread Cert.KernelGla.nD Cert.KernelGla.τ).loc Cert.KernelGla.main_arg7) = m ((c.tc : Thread Cert.KernelGla.nD Cert.KernelGla.τ).loc Cert.KernelGla.main_arg7))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
      ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
      ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3)
      ∧ r.2.mem ((c.tc : Thread Cert.KernelGlaIdeal.nD Cert.KernelGlaIdeal.τ).loc Cert.KernelGlaIdeal.main_arg4) = m ((c.tc : Thread Cert.KernelGlaIdeal.nD Cert.KernelGlaIdeal.τ).loc Cert.KernelGlaIdeal.main_arg4)
      ∧ r.2.mem ((c.tc : Thread Cert.KernelGlaIdeal.nD Cert.KernelGlaIdeal.τ).loc Cert.KernelGlaIdeal.main_arg5) = m ((c.tc : Thread Cert.KernelGlaIdeal.nD Cert.KernelGlaIdeal.τ).loc Cert.KernelGlaIdeal.main_arg5)
      ∧ r.2.mem ((c.tc : Thread Cert.KernelGlaIdeal.nD Cert.KernelGlaIdeal.τ).loc Cert.KernelGlaIdeal.main_arg6) = m ((c.tc : Thread Cert.KernelGlaIdeal.nD Cert.KernelGlaIdeal.τ).loc Cert.KernelGlaIdeal.main_arg6)
      ∧ r.2.mem ((c.tc : Thread Cert.KernelGlaIdeal.nD Cert.KernelGlaIdeal.τ).loc Cert.KernelGlaIdeal.main_arg7) = m ((c.tc : Thread Cert.KernelGlaIdeal.nD Cert.KernelGlaIdeal.τ).loc Cert.KernelGlaIdeal.main_arg7))
      ∧ r.2.sem = fun _ => 0)

def quiescent_KernelGlaIdeal_pre_gate_logits_above_minus_infinity [hKernelGlaIdeal : Cert.KernelGlaIdeal.Facts] [hPre_gate_logits_above_minus_infinity : Cert.Pre_gate_logits_above_minus_infinity.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal_gate_logits_above_minus_infinity m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
      ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
      ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3)
      ∧ r.2.mem ((c.tc : Thread Cert.KernelGlaIdeal.nD Cert.KernelGlaIdeal.τ).loc Cert.KernelGlaIdeal.main_arg4) = m ((c.tc : Thread Cert.KernelGlaIdeal.nD Cert.KernelGlaIdeal.τ).loc Cert.KernelGlaIdeal.main_arg4)
      ∧ r.2.mem ((c.tc : Thread Cert.KernelGlaIdeal.nD Cert.KernelGlaIdeal.τ).loc Cert.KernelGlaIdeal.main_arg5) = m ((c.tc : Thread Cert.KernelGlaIdeal.nD Cert.KernelGlaIdeal.τ).loc Cert.KernelGlaIdeal.main_arg5)
      ∧ r.2.mem ((c.tc : Thread Cert.KernelGlaIdeal.nD Cert.KernelGlaIdeal.τ).loc Cert.KernelGlaIdeal.main_arg6) = m ((c.tc : Thread Cert.KernelGlaIdeal.nD Cert.KernelGlaIdeal.τ).loc Cert.KernelGlaIdeal.main_arg6)
      ∧ r.2.mem ((c.tc : Thread Cert.KernelGlaIdeal.nD Cert.KernelGlaIdeal.τ).loc Cert.KernelGlaIdeal.main_arg7) = m ((c.tc : Thread Cert.KernelGlaIdeal.nD Cert.KernelGlaIdeal.τ).loc Cert.KernelGlaIdeal.main_arg7))
      ∧ r.2.sem = fun _ => 0)

def quiescent_ReferenceGlaIdeal [hReferenceGlaIdeal : Cert.ReferenceGlaIdeal.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1)
      ∧ r.2.mem ((c.tc : Thread Cert.ReferenceGlaIdeal.nD Cert.ReferenceGlaIdeal.τ).loc Cert.ReferenceGlaIdeal.main_arg2) = m ((c.tc : Thread Cert.ReferenceGlaIdeal.nD Cert.ReferenceGlaIdeal.τ).loc Cert.ReferenceGlaIdeal.main_arg2)
      ∧ r.2.mem ((c.tc : Thread Cert.ReferenceGlaIdeal.nD Cert.ReferenceGlaIdeal.τ).loc Cert.ReferenceGlaIdeal.main_arg3) = m ((c.tc : Thread Cert.ReferenceGlaIdeal.nD Cert.ReferenceGlaIdeal.τ).loc Cert.ReferenceGlaIdeal.main_arg3)
      ∧ r.2.mem ((c.tc : Thread Cert.ReferenceGlaIdeal.nD Cert.ReferenceGlaIdeal.τ).loc Cert.ReferenceGlaIdeal.main_arg4) = m ((c.tc : Thread Cert.ReferenceGlaIdeal.nD Cert.ReferenceGlaIdeal.τ).loc Cert.ReferenceGlaIdeal.main_arg4)
      ∧ r.2.mem ((c.tc : Thread Cert.ReferenceGlaIdeal.nD Cert.ReferenceGlaIdeal.τ).loc Cert.ReferenceGlaIdeal.main_arg5) = m ((c.tc : Thread Cert.ReferenceGlaIdeal.nD Cert.ReferenceGlaIdeal.τ).loc Cert.ReferenceGlaIdeal.main_arg5)
      ∧ r.2.mem ((c.tc : Thread Cert.ReferenceGlaIdeal.nD Cert.ReferenceGlaIdeal.τ).loc Cert.ReferenceGlaIdeal.main_arg6) = m ((c.tc : Thread Cert.ReferenceGlaIdeal.nD Cert.ReferenceGlaIdeal.τ).loc Cert.ReferenceGlaIdeal.main_arg6)
      ∧ r.2.mem ((c.tc : Thread Cert.ReferenceGlaIdeal.nD Cert.ReferenceGlaIdeal.τ).loc Cert.ReferenceGlaIdeal.main_arg7) = m ((c.tc : Thread Cert.ReferenceGlaIdeal.nD Cert.ReferenceGlaIdeal.τ).loc Cert.ReferenceGlaIdeal.main_arg7))
      ∧ r.2.sem = fun _ => 0)

def quiescent_ReferenceGlaIdeal_pre_gate_logits_above_minus_infinity [hReferenceGlaIdeal : Cert.ReferenceGlaIdeal.Facts] [hPre_gate_logits_above_minus_infinity : Cert.Pre_gate_logits_above_minus_infinity.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal_gate_logits_above_minus_infinity m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1)
      ∧ r.2.mem ((c.tc : Thread Cert.ReferenceGlaIdeal.nD Cert.ReferenceGlaIdeal.τ).loc Cert.ReferenceGlaIdeal.main_arg2) = m ((c.tc : Thread Cert.ReferenceGlaIdeal.nD Cert.ReferenceGlaIdeal.τ).loc Cert.ReferenceGlaIdeal.main_arg2)
      ∧ r.2.mem ((c.tc : Thread Cert.ReferenceGlaIdeal.nD Cert.ReferenceGlaIdeal.τ).loc Cert.ReferenceGlaIdeal.main_arg3) = m ((c.tc : Thread Cert.ReferenceGlaIdeal.nD Cert.ReferenceGlaIdeal.τ).loc Cert.ReferenceGlaIdeal.main_arg3)
      ∧ r.2.mem ((c.tc : Thread Cert.ReferenceGlaIdeal.nD Cert.ReferenceGlaIdeal.τ).loc Cert.ReferenceGlaIdeal.main_arg4) = m ((c.tc : Thread Cert.ReferenceGlaIdeal.nD Cert.ReferenceGlaIdeal.τ).loc Cert.ReferenceGlaIdeal.main_arg4)
      ∧ r.2.mem ((c.tc : Thread Cert.ReferenceGlaIdeal.nD Cert.ReferenceGlaIdeal.τ).loc Cert.ReferenceGlaIdeal.main_arg5) = m ((c.tc : Thread Cert.ReferenceGlaIdeal.nD Cert.ReferenceGlaIdeal.τ).loc Cert.ReferenceGlaIdeal.main_arg5)
      ∧ r.2.mem ((c.tc : Thread Cert.ReferenceGlaIdeal.nD Cert.ReferenceGlaIdeal.τ).loc Cert.ReferenceGlaIdeal.main_arg6) = m ((c.tc : Thread Cert.ReferenceGlaIdeal.nD Cert.ReferenceGlaIdeal.τ).loc Cert.ReferenceGlaIdeal.main_arg6)
      ∧ r.2.mem ((c.tc : Thread Cert.ReferenceGlaIdeal.nD Cert.ReferenceGlaIdeal.τ).loc Cert.ReferenceGlaIdeal.main_arg7) = m ((c.tc : Thread Cert.ReferenceGlaIdeal.nD Cert.ReferenceGlaIdeal.τ).loc Cert.ReferenceGlaIdeal.main_arg7))
      ∧ r.2.sem = fun _ => 0)

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)
      ∧ m' ((c.tc : Thread Cert.ReferenceTailIdeal.nD Cert.ReferenceTailIdeal.τ).loc Cert.ReferenceTailIdeal.main_arg10) = m ((c.tc : Thread Cert.KernelTailIdeal.nD Cert.KernelTailIdeal.τ).loc Cert.KernelTailIdeal.main_arg10)
      ∧ m' ((c.tc : Thread Cert.ReferenceTailIdeal.nD Cert.ReferenceTailIdeal.τ).loc Cert.ReferenceTailIdeal.main_arg11) = m ((c.tc : Thread Cert.KernelTailIdeal.nD Cert.KernelTailIdeal.τ).loc Cert.KernelTailIdeal.main_arg11)) →
    ∃ (v0 : (c : Dev Cert.KernelTailIdeal.nD) → Buf (Elt Ideal) ((c.tc : Thread Cert.KernelTailIdeal.nD Cert.KernelTailIdeal.τ).loc Cert.KernelTailIdeal.main_v14)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v14) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
          ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
          ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v36) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11))

def preserves_KernelGla_KernelGlaIdeal : Prop :=
  True

def algebraic_KernelGlaIdeal_ReferenceGlaIdeal_pre_gate_logits_above_minus_infinity [hKernelGlaIdeal : Cert.KernelGlaIdeal.Facts] [hReferenceGlaIdeal : Cert.ReferenceGlaIdeal.Facts] [hPre_gate_logits_above_minus_infinity : Cert.Pre_gate_logits_above_minus_infinity.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg)
    (m' : (ℓ : Loc Cert.ReferenceGlaIdeal.nD Cert.ReferenceGlaIdeal.τ Cert.ReferenceGlaIdeal.sig) → Buf (Elt Ideal) ℓ) (g' : Dev Cert.ReferenceGlaIdeal.nD → PrngReg), Pre_KernelGlaIdeal_gate_logits_above_minus_infinity m →
    (∀ c : Dev Cert.KernelGlaIdeal.nD,
      m' ((c.tc : Thread Cert.ReferenceGlaIdeal.nD Cert.ReferenceGlaIdeal.τ).loc Cert.ReferenceGlaIdeal.main_arg0) = m ((c.tc : Thread Cert.KernelGlaIdeal.nD Cert.KernelGlaIdeal.τ).loc Cert.KernelGlaIdeal.main_arg0)
      ∧ m' ((c.tc : Thread Cert.ReferenceGlaIdeal.nD Cert.ReferenceGlaIdeal.τ).loc Cert.ReferenceGlaIdeal.main_arg1) = m ((c.tc : Thread Cert.KernelGlaIdeal.nD Cert.KernelGlaIdeal.τ).loc Cert.KernelGlaIdeal.main_arg1)
      ∧ m' ((c.tc : Thread Cert.ReferenceGlaIdeal.nD Cert.ReferenceGlaIdeal.τ).loc Cert.ReferenceGlaIdeal.main_arg2) = m ((c.tc : Thread Cert.KernelGlaIdeal.nD Cert.KernelGlaIdeal.τ).loc Cert.KernelGlaIdeal.main_arg2)
      ∧ m' ((c.tc : Thread Cert.ReferenceGlaIdeal.nD Cert.ReferenceGlaIdeal.τ).loc Cert.ReferenceGlaIdeal.main_arg3) = m ((c.tc : Thread Cert.KernelGlaIdeal.nD Cert.KernelGlaIdeal.τ).loc Cert.KernelGlaIdeal.main_arg3)
      ∧ m' ((c.tc : Thread Cert.ReferenceGlaIdeal.nD Cert.ReferenceGlaIdeal.τ).loc Cert.ReferenceGlaIdeal.main_arg4) = m ((c.tc : Thread Cert.KernelGlaIdeal.nD Cert.KernelGlaIdeal.τ).loc Cert.KernelGlaIdeal.main_arg4)
      ∧ m' ((c.tc : Thread Cert.ReferenceGlaIdeal.nD Cert.ReferenceGlaIdeal.τ).loc Cert.ReferenceGlaIdeal.main_arg5) = m ((c.tc : Thread Cert.KernelGlaIdeal.nD Cert.KernelGlaIdeal.τ).loc Cert.KernelGlaIdeal.main_arg5)
      ∧ m' ((c.tc : Thread Cert.ReferenceGlaIdeal.nD Cert.ReferenceGlaIdeal.τ).loc Cert.ReferenceGlaIdeal.main_arg6) = m ((c.tc : Thread Cert.KernelGlaIdeal.nD Cert.KernelGlaIdeal.τ).loc Cert.KernelGlaIdeal.main_arg6)
      ∧ m' ((c.tc : Thread Cert.ReferenceGlaIdeal.nD Cert.ReferenceGlaIdeal.τ).loc Cert.ReferenceGlaIdeal.main_arg7) = m ((c.tc : Thread Cert.KernelGlaIdeal.nD Cert.KernelGlaIdeal.τ).loc Cert.KernelGlaIdeal.main_arg7)) →
    ∃ (v0 : (c : Dev Cert.KernelGlaIdeal.nD) → Buf (Elt Ideal) ((c.tc : Thread Cert.KernelGlaIdeal.nD Cert.KernelGlaIdeal.τ).loc Cert.KernelGlaIdeal.main_v100_0)) (v1 : (c : Dev Cert.KernelGlaIdeal.nD) → Buf (Elt Ideal) ((c.tc : Thread Cert.KernelGlaIdeal.nD Cert.KernelGlaIdeal.τ).loc Cert.KernelGlaIdeal.main_v100_1)) (v2 : (c : Dev Cert.KernelGlaIdeal.nD) → Buf (Elt Ideal) ((c.tc : Thread Cert.KernelGlaIdeal.nD Cert.KernelGlaIdeal.τ).loc Cert.KernelGlaIdeal.main_v100_2)) (v3 : (c : Dev Cert.KernelGlaIdeal.nD) → Buf (Elt Ideal) ((c.tc : Thread Cert.KernelGlaIdeal.nD Cert.KernelGlaIdeal.τ).loc Cert.KernelGlaIdeal.main_v100_3)) (v4 : (c : Dev Cert.KernelGlaIdeal.nD) → Buf (Elt Ideal) ((c.tc : Thread Cert.KernelGlaIdeal.nD Cert.KernelGlaIdeal.τ).loc Cert.KernelGlaIdeal.main_v100_4)) (v5 : (c : Dev Cert.KernelGlaIdeal.nD) → Buf (Elt Ideal) ((c.tc : Thread Cert.KernelGlaIdeal.nD Cert.KernelGlaIdeal.τ).loc Cert.KernelGlaIdeal.main_v100_5)),
      θ_run (Cert.KernelGlaIdeal.defs (F := Ideal)) (onTc (τ := Cert.KernelGlaIdeal.τ) (Cert.KernelGlaIdeal.main (F := Ideal))) ⟨m, fun _ => 0, g⟩ (fun r => ∀ c : Dev Cert.KernelGlaIdeal.nD,
          r.2.mem ((c.tc : Thread Cert.KernelGlaIdeal.nD Cert.KernelGlaIdeal.τ).loc Cert.KernelGlaIdeal.main_v100_0) = v0 c
          ∧ r.2.mem ((c.tc : Thread Cert.KernelGlaIdeal.nD Cert.KernelGlaIdeal.τ).loc Cert.KernelGlaIdeal.main_v100_1) = v1 c
          ∧ r.2.mem ((c.tc : Thread Cert.KernelGlaIdeal.nD Cert.KernelGlaIdeal.τ).loc Cert.KernelGlaIdeal.main_v100_2) = v2 c
          ∧ r.2.mem ((c.tc : Thread Cert.KernelGlaIdeal.nD Cert.KernelGlaIdeal.τ).loc Cert.KernelGlaIdeal.main_v100_3) = v3 c
          ∧ r.2.mem ((c.tc : Thread Cert.KernelGlaIdeal.nD Cert.KernelGlaIdeal.τ).loc Cert.KernelGlaIdeal.main_v100_4) = v4 c
          ∧ r.2.mem ((c.tc : Thread Cert.KernelGlaIdeal.nD Cert.KernelGlaIdeal.τ).loc Cert.KernelGlaIdeal.main_v100_5) = v5 c
          ∧ r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
          ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
          ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
          ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3)
          ∧ r.2.mem ((c.tc : Thread Cert.KernelGlaIdeal.nD Cert.KernelGlaIdeal.τ).loc Cert.KernelGlaIdeal.main_arg4) = m ((c.tc : Thread Cert.KernelGlaIdeal.nD Cert.KernelGlaIdeal.τ).loc Cert.KernelGlaIdeal.main_arg4)
          ∧ r.2.mem ((c.tc : Thread Cert.KernelGlaIdeal.nD Cert.KernelGlaIdeal.τ).loc Cert.KernelGlaIdeal.main_arg5) = m ((c.tc : Thread Cert.KernelGlaIdeal.nD Cert.KernelGlaIdeal.τ).loc Cert.KernelGlaIdeal.main_arg5)
          ∧ r.2.mem ((c.tc : Thread Cert.KernelGlaIdeal.nD Cert.KernelGlaIdeal.τ).loc Cert.KernelGlaIdeal.main_arg6) = m ((c.tc : Thread Cert.KernelGlaIdeal.nD Cert.KernelGlaIdeal.τ).loc Cert.KernelGlaIdeal.main_arg6)
          ∧ r.2.mem ((c.tc : Thread Cert.KernelGlaIdeal.nD Cert.KernelGlaIdeal.τ).loc Cert.KernelGlaIdeal.main_arg7) = m ((c.tc : Thread Cert.KernelGlaIdeal.nD Cert.KernelGlaIdeal.τ).loc Cert.KernelGlaIdeal.main_arg7))
      ∧ θ_run (Cert.ReferenceGlaIdeal.defs (F := Ideal)) (onTc (τ := Cert.ReferenceGlaIdeal.τ) (Cert.ReferenceGlaIdeal.main (F := Ideal))) ⟨m', fun _ => 0, g'⟩ (fun r => ∀ c : Dev Cert.ReferenceGlaIdeal.nD,
          r.2.mem ((c.tc : Thread Cert.ReferenceGlaIdeal.nD Cert.ReferenceGlaIdeal.τ).loc Cert.ReferenceGlaIdeal.main_v149) = v0 c
          ∧ r.2.mem ((c.tc : Thread Cert.ReferenceGlaIdeal.nD Cert.ReferenceGlaIdeal.τ).loc Cert.ReferenceGlaIdeal.main_v151) = v1 c
          ∧ r.2.mem ((c.tc : Thread Cert.ReferenceGlaIdeal.nD Cert.ReferenceGlaIdeal.τ).loc Cert.ReferenceGlaIdeal.main_v153) = v2 c
          ∧ r.2.mem ((c.tc : Thread Cert.ReferenceGlaIdeal.nD Cert.ReferenceGlaIdeal.τ).loc Cert.ReferenceGlaIdeal.main_v155) = v3 c
          ∧ r.2.mem ((c.tc : Thread Cert.ReferenceGlaIdeal.nD Cert.ReferenceGlaIdeal.τ).loc Cert.ReferenceGlaIdeal.main_v157) = v4 c
          ∧ r.2.mem ((c.tc : Thread Cert.ReferenceGlaIdeal.nD Cert.ReferenceGlaIdeal.τ).loc Cert.ReferenceGlaIdeal.main_v159) = v5 c
          ∧ r.2.mem ((c.tc : Thread Cert.ReferenceGlaIdeal.nD Cert.ReferenceGlaIdeal.τ).loc Cert.ReferenceGlaIdeal.main_arg0) = m' ((c.tc : Thread Cert.ReferenceGlaIdeal.nD Cert.ReferenceGlaIdeal.τ).loc Cert.ReferenceGlaIdeal.main_arg0)
          ∧ r.2.mem ((c.tc : Thread Cert.ReferenceGlaIdeal.nD Cert.ReferenceGlaIdeal.τ).loc Cert.ReferenceGlaIdeal.main_arg1) = m' ((c.tc : Thread Cert.ReferenceGlaIdeal.nD Cert.ReferenceGlaIdeal.τ).loc Cert.ReferenceGlaIdeal.main_arg1)
          ∧ r.2.mem ((c.tc : Thread Cert.ReferenceGlaIdeal.nD Cert.ReferenceGlaIdeal.τ).loc Cert.ReferenceGlaIdeal.main_arg2) = m' ((c.tc : Thread Cert.ReferenceGlaIdeal.nD Cert.ReferenceGlaIdeal.τ).loc Cert.ReferenceGlaIdeal.main_arg2)
          ∧ r.2.mem ((c.tc : Thread Cert.ReferenceGlaIdeal.nD Cert.ReferenceGlaIdeal.τ).loc Cert.ReferenceGlaIdeal.main_arg3) = m' ((c.tc : Thread Cert.ReferenceGlaIdeal.nD Cert.ReferenceGlaIdeal.τ).loc Cert.ReferenceGlaIdeal.main_arg3)
          ∧ r.2.mem ((c.tc : Thread Cert.ReferenceGlaIdeal.nD Cert.ReferenceGlaIdeal.τ).loc Cert.ReferenceGlaIdeal.main_arg4) = m' ((c.tc : Thread Cert.ReferenceGlaIdeal.nD Cert.ReferenceGlaIdeal.τ).loc Cert.ReferenceGlaIdeal.main_arg4)
          ∧ r.2.mem ((c.tc : Thread Cert.ReferenceGlaIdeal.nD Cert.ReferenceGlaIdeal.τ).loc Cert.ReferenceGlaIdeal.main_arg5) = m' ((c.tc : Thread Cert.ReferenceGlaIdeal.nD Cert.ReferenceGlaIdeal.τ).loc Cert.ReferenceGlaIdeal.main_arg5)
          ∧ r.2.mem ((c.tc : Thread Cert.ReferenceGlaIdeal.nD Cert.ReferenceGlaIdeal.τ).loc Cert.ReferenceGlaIdeal.main_arg6) = m' ((c.tc : Thread Cert.ReferenceGlaIdeal.nD Cert.ReferenceGlaIdeal.τ).loc Cert.ReferenceGlaIdeal.main_arg6)
          ∧ r.2.mem ((c.tc : Thread Cert.ReferenceGlaIdeal.nD Cert.ReferenceGlaIdeal.τ).loc Cert.ReferenceGlaIdeal.main_arg7) = m' ((c.tc : Thread Cert.ReferenceGlaIdeal.nD Cert.ReferenceGlaIdeal.τ).loc Cert.ReferenceGlaIdeal.main_arg7))

def Claim : Prop :=
  ∃ (hKernelTail : Cert.KernelTail.Facts) (hKernelTailIdeal : Cert.KernelTailIdeal.Facts) (hReferenceTailIdeal : Cert.ReferenceTailIdeal.Facts) (hKernelGla : Cert.KernelGla.Facts) (hKernelGlaIdeal : Cert.KernelGlaIdeal.Facts) (hReferenceGlaIdeal : Cert.ReferenceGlaIdeal.Facts) (hPre_gate_logits_above_minus_infinity : Cert.Pre_gate_logits_above_minus_infinity.Facts),
    quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelGla (hKernelGla := hKernelGla)
    ∧ quiescent_KernelGlaIdeal (hKernelGlaIdeal := hKernelGlaIdeal)
    ∧ quiescent_KernelGlaIdeal_pre_gate_logits_above_minus_infinity (hKernelGlaIdeal := hKernelGlaIdeal) (hPre_gate_logits_above_minus_infinity := hPre_gate_logits_above_minus_infinity)
    ∧ quiescent_ReferenceGlaIdeal (hReferenceGlaIdeal := hReferenceGlaIdeal)
    ∧ quiescent_ReferenceGlaIdeal_pre_gate_logits_above_minus_infinity (hReferenceGlaIdeal := hReferenceGlaIdeal) (hPre_gate_logits_above_minus_infinity := hPre_gate_logits_above_minus_infinity)
    ∧ preserves_KernelTail_KernelTailIdeal
    ∧ algebraic_KernelTailIdeal_ReferenceTailIdeal (hKernelTailIdeal := hKernelTailIdeal) (hReferenceTailIdeal := hReferenceTailIdeal)
    ∧ preserves_KernelGla_KernelGlaIdeal
    ∧ algebraic_KernelGlaIdeal_ReferenceGlaIdeal_pre_gate_logits_above_minus_infinity (hKernelGlaIdeal := hKernelGlaIdeal) (hReferenceGlaIdeal := hReferenceGlaIdeal) (hPre_gate_logits_above_minus_infinity := hPre_gate_logits_above_minus_infinity)
-- ==== Pre_gate_logits_above_minus_infinity.lean ====
abbrev S8x4096x1024 : Shape := ⟨3, ![8, 4096, 1024]⟩
abbrev S1x1024 : Shape := ⟨2, ![1, 1024]⟩
abbrev S1x1024x8208 : Shape := ⟨3, ![1, 1024, 8208]⟩
abbrev S1x64 : Shape := ⟨2, ![1, 64]⟩
abbrev S1x16x512 : Shape := ⟨3, ![1, 16, 512]⟩
abbrev S1x512 : Shape := ⟨2, ![1, 512]⟩
abbrev S1x256 : Shape := ⟨2, ![1, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x8208 : Shape := ⟨2, ![1024, 8208]⟩
abbrev S8x4096x8208 : Shape := ⟨3, ![8, 4096, 8208]⟩
abbrev S8x4096x512 : Shape := ⟨3, ![8, 4096, 512]⟩
abbrev S8x4096x16 : Shape := ⟨3, ![8, 4096, 16]⟩
abbrev S16x512 : Shape := ⟨2, ![16, 512]⟩
abbrev S512 : Shape := ⟨1, ![512]⟩
abbrev S1x1x512 : Shape := ⟨3, ![1, 1, 512]⟩

class Facts : Prop where
  shapeCasts_S1x1024_S1024 : S1x1024.ShapeCasts S1024
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  shapeCasts_S1x1024x8208_S1024x8208 : S1x1024x8208.ShapeCasts S1024x8208
  slices_S8x4096x8208_S8x4096x1024_0_0_0 : S8x4096x8208.Slices ![0, 0, 0] S8x4096x1024
  slices_S8x4096x8208_S8x4096x1024_0_0_1024 : S8x4096x8208.Slices ![0, 0, 1024] S8x4096x1024
  slices_S8x4096x8208_S8x4096x1024_0_0_2048 : S8x4096x8208.Slices ![0, 0, 2048] S8x4096x1024
  slices_S8x4096x8208_S8x4096x512_0_0_3072 : S8x4096x8208.Slices ![0, 0, 3072] S8x4096x512
  slices_S8x4096x8208_S8x4096x512_0_0_3584 : S8x4096x8208.Slices ![0, 0, 3584] S8x4096x512
  slices_S8x4096x8208_S8x4096x1024_0_0_4096 : S8x4096x8208.Slices ![0, 0, 4096] S8x4096x1024
  slices_S8x4096x8208_S8x4096x1024_0_0_5120 : S8x4096x8208.Slices ![0, 0, 5120] S8x4096x1024
  slices_S8x4096x8208_S8x4096x16_0_0_6144 : S8x4096x8208.Slices ![0, 0, 6144] S8x4096x16
  slices_S8x4096x8208_S8x4096x1024_0_0_6160 : S8x4096x8208.Slices ![0, 0, 6160] S8x4096x1024
  slices_S8x4096x8208_S8x4096x1024_0_0_7184 : S8x4096x8208.Slices ![0, 0, 7184] S8x4096x1024
  shapeCasts_S1x16x512_S16x512 : S1x16x512.ShapeCasts S16x512
  shapeCasts_S1x512_S512 : S1x512.ShapeCasts S512
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  dot_S8x4096x1024_S1024x8208_S8x4096x8208_2_0_01_1_n_n_wf : DotDims.WF S8x4096x1024 S1024x8208 S8x4096x8208 [2] [0] [0, 1] [1] [] []
  dot_S8x4096x16_S16x512_S8x4096x512_2_0_01_1_n_n_wf : DotDims.WF S8x4096x16 S16x512 S8x4096x512 [2] [0] [0, 1] [1] [] []

variable [Facts]

def dot_S8x4096x1024_S1024x8208_S8x4096x8208_2_0_01_1_n_n : DotDims S8x4096x1024 S1024x8208 S8x4096x8208 where
  lhsContracting := [2]
  rhsContracting := [0]
  lhsNonContracting := [0, 1]
  rhsNonContracting := [1]
  lhsBatch := []
  rhsBatch := []
  wf := dot_S8x4096x1024_S1024x8208_S8x4096x8208_2_0_01_1_n_n_wf
def dot_S8x4096x16_S16x512_S8x4096x512_2_0_01_1_n_n : DotDims S8x4096x16 S16x512 S8x4096x512 where
  lhsContracting := [2]
  rhsContracting := [0]
  lhsNonContracting := [0, 1]
  rhsNonContracting := [1]
  lhsBatch := []
  rhsBatch := []
  wf := dot_S8x4096x16_S16x512_S8x4096x512_2_0_01_1_n_n_wf
def fn_part1 {F : FTy → Type} [FloatOps F] (main_arg5 : FVec F S1x16x512 .f32) (main_arg6 : FVec F S1x512 .f32) (main_v15 : FVec F S8x4096x8208 .f32) : IVec S8x4096x512 1 :=
  let main_v21 : FVec F S8x4096x1024 .f32 := (extractStridedSlice S8x4096x1024 ![0, 0, 4096] · slices_S8x4096x8208_S8x4096x1024_0_0_4096) main_v15
  let main_v22 : FVec F S8x4096x1024 .f32 := (extractStridedSlice S8x4096x1024 ![0, 0, 5120] · slices_S8x4096x8208_S8x4096x1024_0_0_5120) main_v15
  let main_v23 : FVec F S8x4096x16 .f32 := (extractStridedSlice S8x4096x16 ![0, 0, 6144] · slices_S8x4096x8208_S8x4096x16_0_0_6144) main_v15
  let main_v24 : FVec F S8x4096x1024 .f32 := (extractStridedSlice S8x4096x1024 ![0, 0, 6160] · slices_S8x4096x8208_S8x4096x1024_0_0_6160) main_v15
  let main_v25 : FVec F S8x4096x1024 .f32 := (extractStridedSlice S8x4096x1024 ![0, 0, 7184] · slices_S8x4096x8208_S8x4096x1024_0_0_7184) main_v15
  let main_v26 : FVec F S16x512 .f32 := shapeCast S16x512 main_arg5 shapeCasts_S1x16x512_S16x512
  let main_v27 : FVec F S8x4096x512 .f32 := (fun l r => Host.dotGeneral dot_S8x4096x16_S16x512_S8x4096x512_2_0_01_1_n_n none l r) main_v23 main_v26
  let main_v28 : FVec F S512 .f32 := shapeCast S512 main_arg6 shapeCasts_S1x512_S512
  let main_v29 : FVec F S1x1x512 .f32 := broadcastInDim S1x1x512 ![2] bcast_S512_S1x1x512_2 main_v28
  let main_v30 : FVec F S8x4096x512 .f32 := broadcastInDim S8x4096x512 ![0, 1, 2] bcast_S1x1x512_S8x4096x512_0_1_2 main_v29
  let main_v31 : FVec F S8x4096x512 .f32 := addf main_v27 main_v30
  let main_cst_2 : FVec F S_ .f32 := constant S_ .f32 0xFF800000#32
  let main_v32 : FVec F S8x4096x512 .f32 := broadcastInDim S8x4096x512 ![] bcast_S_S8x4096x512 main_cst_2
  let main_v33 : IVec S8x4096x512 1 := cmpf .ogt main_v31 main_v32
  main_v33

def fn {F : FTy → Type} [FloatOps F] (main_arg0 : FVec F S8x4096x1024 .f32) (main_arg1 : FVec F S1x1024 .f32) (main_arg2 : FVec F S1x1024x8208 .f32) (main_arg3 : FVec F S1x64 .f32) (main_arg4 : FVec F S1x64 .f32) (main_arg5 : FVec F S1x16x512 .f32) (main_arg6 : FVec F S1x512 .f32) (main_arg7 : FVec F S1x256 .f32) : IVec S8x4096x512 1 :=
  let main_v0 : FVec F S1024 .f32 := shapeCast S1024 main_arg1 shapeCasts_S1x1024_S1024
  let main_v1 : FVec F S8x4096x1024 .f32 := mulf main_arg0 main_arg0
  let main_cst : FVec F S_ .f32 := constant S_ .f32 0x00000000#32
  let main_v2 : FVec F S8x4096 .f32 := (fun x v => Host.reduceAdd x v reducesTo_S8x4096x1024_S8x4096_d2 h_S_) main_v1 main_cst
  let main_v3 : FVec F S8x4096x1 .f32 := broadcastInDim S8x4096x1 ![0, 1] bcast_S8x4096_S8x4096x1_0_1 main_v2
  let main_cst_0 : FVec F S_ .f32 := constant S_ .f32 0x44800000#32
  let main_v4 : FVec F S8x4096x1 .f32 := broadcastInDim S8x4096x1 ![] bcast_S_S8x4096x1 main_cst_0
  let main_v5 : FVec F S8x4096x1 .f32 := Host.divf main_v3 main_v4
  let main_cst_1 : FVec F S_ .f32 := constant S_ .f32 0x358637BD#32
  let main_v6 : FVec F S8x4096x1 .f32 := broadcastInDim S8x4096x1 ![] bcast_S_S8x4096x1 main_cst_1
  let main_v7 : FVec F S8x4096x1 .f32 := addf main_v5 main_v6
  let main_v8 : FVec F S8x4096x1 .f32 := Host.rsqrt main_v7
  let main_v9 : FVec F S8x4096x1024 .f32 := broadcastInDim S8x4096x1024 ![0, 1, 2] bcast_S8x4096x1_S8x4096x1024_0_1_2 main_v8
  let main_v10 : FVec F S8x4096x1024 .f32 := mulf main_arg0 main_v9
  let main_v11 : FVec F S1x1x1024 .f32 := broadcastInDim S1x1x1024 ![2] bcast_S1024_S1x1x1024_2 main_v0
  let main_v12 : FVec F S8x4096x1024 .f32 := broadcastInDim S8x4096x1024 ![0, 1, 2] bcast_S1x1x1024_S8x4096x1024_0_1_2 main_v11
  let main_v13 : FVec F S8x4096x1024 .f32 := mulf main_v10 main_v12
  let main_v14 : FVec F S1024x8208 .f32 := shapeCast S1024x8208 main_arg2 shapeCasts_S1x1024x8208_S1024x8208
  let main_v15 : FVec F S8x4096x8208 .f32 := (fun l r => Host.dotGeneral dot_S8x4096x1024_S1024x8208_S8x4096x8208_2_0_01_1_n_n none l r) main_v13 main_v14
  let main_v16 : FVec F S8x4096x1024 .f32 := (extractStridedSlice S8x4096x1024 ![0, 0, 0] · slices_S8x4096x8208_S8x4096x1024_0_0_0) main_v15
  let main_v17 : FVec F S8x4096x1024 .f32 := (extractStridedSlice S8x4096x1024 ![0, 0, 1024] · slices_S8x4096x8208_S8x4096x1024_0_0_1024) main_v15
  let main_v18 : FVec F S8x4096x1024 .f32 := (extractStridedSlice S8x4096x1024 ![0, 0, 2048] · slices_S8x4096x8208_S8x4096x1024_0_0_2048) main_v15
  let main_v19 : FVec F S8x4096x512 .f32 := (extractStridedSlice S8x4096x512 ![0, 0, 3072] · slices_S8x4096x8208_S8x4096x512_0_0_3072) main_v15
  let main_v20 : FVec F S8x4096x512 .f32 := (extractStridedSlice S8x4096x512 ![0, 0, 3584] · slices_S8x4096x8208_S8x4096x512_0_0_3584) main_v15
  fn_part1 (F := F) main_arg5 main_arg6 main_v15
-- ==== KernelTail.lean ====
abbrev S32768x1024 : Shape := ⟨2, ![32768, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 27
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceTailIdeal.lean ====
abbrev S32768x1024 : Shape := ⟨2, ![32768, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S1024x1024, .f32⟩
  | .hbm, ⟨17, _⟩ => ⟨S32768x1024, .f32⟩
  | .hbm, ⟨18, _⟩ => ⟨S32768x1024, .f32⟩
  | .hbm, ⟨19, _⟩ => ⟨S1024x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S1024x1024, .f32⟩
  | .hbm, ⟨24, _⟩ => ⟨S32768x1024, .f32⟩
  | .hbm, ⟨25, _⟩ => ⟨S32768x1024, .f32⟩
  | .hbm, ⟨26, _⟩ => ⟨S1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S1024x2816, .f32⟩
  | .hbm, ⟨44, _⟩ => ⟨S32768x2816, .f32⟩
  | .hbm, ⟨45, _⟩ => ⟨S32768x2816, .f32⟩
  | .hbm, ⟨46, _⟩ => ⟨S32768x2816, .f32⟩
  | .hbm, ⟨47, _⟩ => ⟨S_, .f32⟩
  | .hbm, ⟨48, _⟩ => ⟨S32768x2816, .f32⟩
  | .hbm, ⟨49, _⟩ => ⟨S32768x2816, .f32⟩
  | .hbm, ⟨50, _⟩ => ⟨S_, .f32⟩
  | .hbm, ⟨51, _⟩ => ⟨S32768x2816, .f32⟩
  | .hbm, ⟨52, _⟩ => ⟨S32768x2816, .f32⟩
  | .hbm, ⟨53, _⟩ => ⟨S32768x2816, .f32⟩
  | .hbm, ⟨54, _⟩ => ⟨S1024x2816, .f32⟩
  | .hbm, ⟨55, _⟩ => ⟨S32768x2816, .f32⟩
  | .hbm, ⟨56, _⟩ => ⟨S32768x2816, .f32⟩
  | .hbm, ⟨57, _⟩ => ⟨S2816x1024, .f32⟩
  | .hbm, ⟨58, _⟩ => ⟨S32768x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== KernelGla.lean ====
abbrev S8x4096x1024 : Shape := ⟨3, ![8, 4096, 1024]⟩
abbrev S1x1024 : Shape := ⟨2, ![1, 1024]⟩
abbrev S1x1024x8208 : Shape := ⟨3, ![1, 1024, 8208]⟩
abbrev S1x64 : Shape := ⟨2, ![1, 64]⟩
abbrev S1x16x512 : Shape := ⟨3, ![1, 16, 512]⟩
abbrev S1x512 : Shape := ⟨2, ![1, 512]⟩
abbrev S1x256 : Shape := ⟨2, ![1, 256]⟩
abbrev S32768x1024 : Shape := ⟨2, ![32768, 1024]⟩
abbrev S1024 : Shape := ⟨1, ![1024]⟩
abbrev S1024x8208 : Shape := ⟨2, ![1024, 8208]⟩
abbrev S64 : Shape := ⟨1, ![64]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S4x64 : Shape := ⟨2, ![4, 64]⟩
abbrev S256x256 : Shape := ⟨2, ![256, 256]⟩
abbrev S64x64 : Shape := ⟨2, ![64, 64]⟩
abbrev S256x64 : Shape := ⟨2, ![256, 64]⟩
abbrev S256x128 : Shape := ⟨2, ![256, 128]⟩
abbrev S512x1024 : Shape := ⟨2, ![512, 1024]⟩
abbrev S1024x2048 : Shape := ⟨2, ![1024, 2048]⟩
abbrev S512x512 : Shape := ⟨2, ![512, 512]⟩
abbrev S4x128x256 : Shape := ⟨3, ![4, 128, 256]⟩
abbrev S512x1 : Shape := ⟨2, ![512, 1]⟩
abbrev S1024x128 : Shape := ⟨2, ![1024, 128]⟩
abbrev S512x128 : Shape := ⟨2, ![512, 128]⟩
abbrev S1024x512 : Shape := ⟨2, ![1024, 512]⟩
abbrev S1024x256 : Shape := ⟨2, ![1024, 256]⟩
abbrev S512x256 : Shape := ⟨2, ![512, 256]⟩
abbrev S64x128 : Shape := ⟨2, ![64, 128]⟩
abbrev S128x128 : Shape := ⟨2, ![128, 128]⟩
abbrev S128x256 : Shape := ⟨2, ![128, 256]⟩
abbrev S1x128 : Shape := ⟨2, ![1, 128]⟩
abbrev S32x128 : Shape := ⟨2, ![32, 128]⟩
abbrev S16x128 : Shape := ⟨2, ![16, 128]⟩
abbrev S8x128 : Shape := ⟨2, ![8, 128]⟩
abbrev S192x128 : Shape := ⟨2, ![192, 128]⟩
abbrev S64x256 : Shape := ⟨2, ![64, 256]⟩
abbrev S1x128x256 : Shape := ⟨3, ![1, 128, 256]⟩
abbrev S64x1 : Shape := ⟨2, ![64, 1]⟩

abbrev nBuf : Space → Nat
  | .hbm => 148
  | .vmem => 30
  | .smem => 0
  | _ => 0

abbrev hbmTy0_0 (i : Nat) : BufTy := match i % 128 with
  | 0 => ⟨S8x4096x1024, .f32⟩
  | 1 => ⟨S1x1024, .f32⟩
  | 2 => ⟨S1x1024x8208, .f32⟩
  | 3 => ⟨S1x64, .f32⟩
  | 4 => ⟨S1x64, .f32⟩
  | 5 => ⟨S1x16x512, .f32⟩
  | 6 => ⟨S1x512, .f32⟩
  | 7 => ⟨S1x256, .f32⟩
  | 8 => ⟨S32768x1024, .f32⟩
  | 9 => ⟨S1024, .f32⟩
  | 10 => ⟨S1024x8208, .f32⟩
  | 11 => ⟨S64, .f32⟩
  | 12 => ⟨S64, .f32⟩
  | 13 => ⟨S16x512, .f32⟩
  | 14 => ⟨S512, .f32⟩
  | 15 => ⟨S256, .f32⟩
  | 16 => ⟨S_, .i32⟩
  | 17 => ⟨S_, .f32⟩
  | 18 => ⟨S128x512, .f32⟩
  | 19 => ⟨S128x512, .bf16⟩
  | 20 => ⟨S_, .f32⟩
  | 21 => ⟨S64, .f32⟩
  | 22 => ⟨S64, .f32⟩
  | 23 => ⟨S1x64, .f32⟩
  | 24 => ⟨S4x64, .f32⟩
  | 25 => ⟨S256, .f32⟩
  | 26 => ⟨S1x256, .f32⟩
  | 27 => ⟨S1x64, .f32⟩
  | 28 => ⟨S4x64, .f32⟩
  | 29 => ⟨S256, .f32⟩
  | 30 => ⟨S1x256, .f32⟩
  | 31 => ⟨S256x256, .i32⟩
  | 32 => ⟨S_, .i32⟩
  | 33 => ⟨S256x256, .i32⟩
  | 34 => ⟨S256x256, .i32⟩
  | 35 => ⟨S256x256, .i32⟩
  | 36 => ⟨S_, .i32⟩
  | 37 => ⟨S256x256, .i32⟩
  | 38 => ⟨S256x256, .i32⟩
  | 39 => ⟨S256x256, .i1⟩
  | 40 => ⟨S_, .f32⟩
  | 41 => ⟨S_, .f32⟩
  | 42 => ⟨S256x256, .f32⟩
  | 43 => ⟨S256x256, .f32⟩
  | 44 => ⟨S256x256, .f32⟩
  | 45 => ⟨S256x256, .bf16⟩
  | 46 => ⟨S64x64, .i32⟩
  | 47 => ⟨S64x64, .i32⟩
  | 48 => ⟨S64x64, .i1⟩
  | 49 => ⟨S_, .i32⟩
  | 50 => ⟨S64x64, .i32⟩
  | 51 => ⟨S64x64, .i32⟩
  | 52 => ⟨S_, .i32⟩
  | 53 => ⟨S64x64, .i32⟩
  | 54 => ⟨S64x64, .i32⟩
  | 55 => ⟨S_, .i32⟩
  | 56 => ⟨S64x64, .i32⟩
  | 57 => ⟨S64x64, .i32⟩
  | 58 => ⟨S_, .i32⟩
  | 59 => ⟨S64x64, .i32⟩
  | 60 => ⟨S64x64, .i32⟩
  | 61 => ⟨S_, .i32⟩
  | 62 => ⟨S64x64, .i32⟩
  | 63 => ⟨S64x64, .i1⟩
  | 64 => ⟨S_, .i32⟩
  | 65 => ⟨S64x64, .i32⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i32⟩
  | 72 => ⟨S64x64, .i1⟩
  | 73 => ⟨S64x64, .i32⟩
  | 74 => ⟨S64x64, .i1⟩
  | 75 => ⟨S64x64, .i1⟩
  | 76 => ⟨S_, .i32⟩
  | 77 => ⟨S64x64, .i32⟩
  | 78 => ⟨S64x64, .i32⟩
  | 79 => ⟨S_, .i32⟩
  | 80 => ⟨S64x64, .i32⟩
  | 81 => ⟨S64x64, .i32⟩
  | 82 => ⟨S_, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S64x64, .i32⟩
  | 90 => ⟨S64x64, .i1⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S64x64, .i32⟩
  | 98 => ⟨S64x64, .i32⟩
  | 99 => ⟨S64x64, .i1⟩
  | 100 => ⟨S64x64, .i32⟩
  | 101 => ⟨S64x64, .i1⟩
  | 102 => ⟨S64x64, .i1⟩
  | 103 => ⟨S_, .i32⟩
  | 104 => ⟨S64x64, .i32⟩
  | 105 => ⟨S64x64, .i32⟩
  | 106 => ⟨S_, .i32⟩
  | 107 => ⟨S64x64, .i32⟩
  | 108 => ⟨S64x64, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S_, .i32⟩
  | 116 => ⟨S64x64, .i32⟩
  | 117 => ⟨S64x64, .i1⟩
  | 118 => ⟨S_, .i32⟩
  | 119 => ⟨S64x64, .i32⟩
  | 120 => ⟨S64x64, .i32⟩
  | 121 => ⟨S_, .i32⟩
  | 122 => ⟨S64x64, .i32⟩
  | 123 => ⟨S64x64, .i32⟩
  | 124 => ⟨S64x64, .i32⟩
  | 125 => ⟨S64x64, .i32⟩
  | 126 => ⟨S64x64, .i1⟩
  | 127 => ⟨S64x64, .i32⟩
  | _ => ⟨S8x4096x1024, .f32⟩

abbrev hbmTy0_1 (i : Nat) : BufTy := match i % 128 with
  | 0 => ⟨S64x64, .i1⟩
  | 1 => ⟨S64x64, .i1⟩
  | 2 => ⟨S256x64, .i1⟩
  | 3 => ⟨S_, .f32⟩
  | 4 => ⟨S_, .f32⟩
  | 5 => ⟨S256x64, .f32⟩
  | 6 => ⟨S256x64, .f32⟩
  | 7 => ⟨S256x64, .f32⟩
  | 8 => ⟨S256x128, .f32⟩
  | 9 => ⟨S256x128, .bf16⟩
  | 10 => ⟨S1x1024, .f32⟩
  | 11 => ⟨S1024x8208, .bf16⟩
  | 12 => ⟨S1x512, .f32⟩
  | 13 => ⟨S1x256, .f32⟩
  | 14 => ⟨S32768x1024, .bf16⟩
  | 15 => ⟨S32768x1024, .bf16⟩
  | 16 => ⟨S32768x1024, .bf16⟩
  | 17 => ⟨S32768x1024, .bf16⟩
  | 18 => ⟨S32768x1024, .bf16⟩
  | 19 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8208, .bf16⟩
  | .local _ .vmem, ⟨4, _⟩ => ⟨S128x512, .bf16⟩
  | .local _ .vmem, ⟨5, _⟩ => ⟨S1x512, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S256x128, .bf16⟩
  | .local _ .vmem, ⟨10, _⟩ => ⟨S1x256, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x2048, .bf16⟩
  | .local _ .vmem, ⟨24, _⟩ => ⟨S512x512, .bf16⟩
  | .local _ .vmem, ⟨25, _⟩ => ⟨S512x512, .bf16⟩
  | .local _ .vmem, ⟨26, _⟩ => ⟨S512x1024, .bf16⟩
  | .local _ .vmem, ⟨27, _⟩ => ⟨S512x1024, .bf16⟩
  | .local _ .vmem, ⟨28, _⟩ => ⟨S512x512, .f32⟩
  | .local _ .vmem, ⟨29, _⟩ => ⟨S4x128x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_c_14 : Ref sig .tc := ⟨.hbm, 85, rfl⟩
abbrev main_v58 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_c_17 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_18 : Ref sig .tc := ⟨.hbm, 103, rfl⟩
abbrev main_v72 : Ref sig .tc := ⟨.hbm, 104, rfl⟩
abbrev main_v73 : Ref sig .tc := ⟨.hbm, 105, rfl⟩
abbrev main_c_19 : Ref sig .tc := ⟨.hbm, 106, rfl⟩
abbrev main_v74 : Ref sig .tc := ⟨.hbm, 107, rfl⟩
abbrev main_v75 : Ref sig .tc := ⟨.hbm, 108, rfl⟩
abbrev main_c_20 : Ref sig .tc := ⟨.hbm, 109, rfl⟩
abbrev main_v76 : Ref sig .tc := ⟨.hbm, 110, rfl⟩
abbrev main_v77 : Ref sig .tc := ⟨.hbm, 111, rfl⟩
abbrev main_c_21 : Ref sig .tc := ⟨.hbm, 112, rfl⟩
abbrev main_v78 : Ref sig .tc := ⟨.hbm, 113, rfl⟩
abbrev main_v79 : Ref sig .tc := ⟨.hbm, 114, rfl⟩
abbrev main_c_22 : Ref sig .tc := ⟨.hbm, 115, rfl⟩
abbrev main_v80 : Ref sig .tc := ⟨.hbm, 116, rfl⟩
abbrev main_v81 : Ref sig .tc := ⟨.hbm, 117, rfl⟩
abbrev main_c_23 : Ref sig .tc := ⟨.hbm, 118, rfl⟩
abbrev main_v82 : Ref sig .tc := ⟨.hbm, 119, rfl⟩
abbrev main_v83 : Ref sig .tc := ⟨.hbm, 120, rfl⟩
abbrev main_c_24 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_25 : Ref sig .tc := ⟨.hbm, 131, rfl⟩
abbrev main_cst_26 : Ref sig .tc := ⟨.hbm, 132, rfl⟩
abbrev main_call5_v0 : Ref sig .tc := ⟨.hbm, 133, rfl⟩
abbrev main_call5_v1 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100_0 : Ref sig .tc := ⟨.hbm, 142, rfl⟩
abbrev main_v100_1 : Ref sig .tc := ⟨.hbm, 143, rfl⟩
abbrev main_v100_2 : Ref sig .tc := ⟨.hbm, 144, rfl⟩
abbrev main_v100_3 : Ref sig .tc := ⟨.hbm, 145, rfl⟩
abbrev main_v100_4 : Ref sig .tc := ⟨.hbm, 146, rfl⟩
abbrev main_v100_5 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8208 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceGlaIdeal.lean ====
abbrev S8x4096x1024 : Shape := ⟨3, ![8, 4096, 1024]⟩
abbrev S1x1024 : Shape := ⟨2, ![1, 1024]⟩
abbrev S1x1024x8208 : Shape := ⟨3, ![1, 1024, 8208]⟩
abbrev S1x64 : Shape := ⟨2, ![1, 64]⟩
abbrev S1x16x512 : Shape := ⟨3, ![1, 16, 512]⟩
abbrev S1x512 : Shape := ⟨2, ![1, 512]⟩
abbrev S1x256 : Shape := ⟨2, ![1, 256]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x8208 : Shape := ⟨2, ![1024, 8208]⟩
abbrev S8x4096x8208 : Shape := ⟨3, ![8, 4096, 8208]⟩
abbrev S8x4096x512 : Shape := ⟨3, ![8, 4096, 512]⟩
abbrev S8x4096x16 : Shape := ⟨3, ![8, 4096, 16]⟩
abbrev S16x512 : Shape := ⟨2, ![16, 512]⟩
abbrev S512 : Shape := ⟨1, ![512]⟩
abbrev S1x1x512 : Shape := ⟨3, ![1, 1, 512]⟩
abbrev S8x4096x4x256 : Shape := ⟨4, ![8, 4096, 4, 256]⟩
abbrev S8x4x4096x256 : Shape := ⟨4, ![8, 4, 4096, 256]⟩
abbrev S8x4096x4x128 : Shape := ⟨4, ![8, 4096, 4, 128]⟩
abbrev S8x4x4096x128 : Shape := ⟨4, ![8, 4, 4096, 128]⟩
abbrev S8x4x64x64x128 : Shape := ⟨5, ![8, 4, 64, 64, 128]⟩
abbrev S64x8x4x64x128 : Shape := ⟨5, ![64, 8, 4, 64, 128]⟩
abbrev S8x4x64x64x256 : Shape := ⟨5, ![8, 4, 64, 64, 256]⟩
abbrev S64x8x4x64x256 : Shape := ⟨5, ![64, 8, 4, 64, 256]⟩
abbrev S64x64 : Shape := ⟨2, ![64, 64]⟩
abbrev S8x4x128x256 : Shape := ⟨4, ![8, 4, 128, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S8x4x64x1x128 : Shape := ⟨5, ![8, 4, 64, 1, 128]⟩
abbrev S8x4x1x64x128 : Shape := ⟨5, ![8, 4, 1, 64, 128]⟩
abbrev S64x64x1 : Shape := ⟨3, ![64, 64, 1]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S256 : Shape := ⟨1, ![256]⟩
abbrev S8x4096x4 : Shape := ⟨3, ![8, 4096, 4]⟩
abbrev S8x4096x4x1 : Shape := ⟨4, ![8, 4096, 4, 1]⟩
abbrev S1x1x1x256 : Shape := ⟨4, ![1, 1, 1, 256]⟩
abbrev S8x4096x16x64 : Shape := ⟨4, ![8, 4096, 16, 64]⟩
abbrev S64 : Shape := ⟨1, ![64]⟩
abbrev S8x4096x16x1 : Shape := ⟨4, ![8, 4096, 16, 1]⟩
abbrev S1x1x1x64 : Shape := ⟨4, ![1, 1, 1, 64]⟩
abbrev S32768x1024 : Shape := ⟨2, ![32768, 1024]⟩

abbrev nBuf : Space → Nat
  | .hbm => 309
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x8208, .f32⟩
  | 3 => ⟨S1x64, .f32⟩
  | 4 => ⟨S1x64, .f32⟩
  | 5 => ⟨S1x16x512, .f32⟩
  | 6 => ⟨S1x512, .f32⟩
  | 7 => ⟨S1x256, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x8208, .f32⟩
  | 26 => ⟨S8x4096x8208, .f32⟩
  | 27 => ⟨S8x4096x1024, .f32⟩
  | 28 => ⟨S8x4096x1024, .f32⟩
  | 29 => ⟨S8x4096x1024, .f32⟩
  | 30 => ⟨S8x4096x512, .f32⟩
  | 31 => ⟨S8x4096x512, .f32⟩
  | 32 => ⟨S8x4096x1024, .f32⟩
  | 33 => ⟨S8x4096x1024, .f32⟩
  | 34 => ⟨S8x4096x16, .f32⟩
  | 35 => ⟨S8x4096x1024, .f32⟩
  | 36 => ⟨S8x4096x1024, .f32⟩
  | 37 => ⟨S16x512, .f32⟩
  | 38 => ⟨S8x4096x512, .f32⟩
  | 39 => ⟨S512, .f32⟩
  | 40 => ⟨S1x1x512, .f32⟩
  | 41 => ⟨S8x4096x512, .f32⟩
  | 42 => ⟨S8x4096x512, .f32⟩
  | 43 => ⟨S8x4096x512, .f32⟩
  | 44 => ⟨S_, .f32⟩
  | 45 => ⟨S8x4096x512, .f32⟩
  | 46 => ⟨S8x4096x512, .f32⟩
  | 47 => ⟨S8x4096x512, .f32⟩
  | 48 => ⟨S8x4096x512, .f32⟩
  | 49 => ⟨S8x4096x512, .i1⟩
  | 50 => ⟨S8x4096x512, .f32⟩
  | 51 => ⟨S8x4096x512, .f32⟩
  | 52 => ⟨S8x4096x512, .f32⟩
  | 53 => ⟨S8x4096x512, .f32⟩
  | 54 => ⟨S8x4096x512, .f32⟩
  | 55 => ⟨S8x4096x512, .f32⟩
  | 56 => ⟨S8x4096x512, .f32⟩
  | 57 => ⟨S8x4096x512, .f32⟩
  | 58 => ⟨S8x4096x512, .f32⟩
  | 59 => ⟨S_, .f32⟩
  | 60 => ⟨S8x4096x512, .f32⟩
  | 61 => ⟨S8x4096x512, .f32⟩
  | 62 => ⟨S8x4096x4x256, .f32⟩
  | 63 => ⟨S8x4x4096x256, .f32⟩
  | 64 => ⟨S8x4096x4x128, .f32⟩
  | 65 => ⟨S8x4x4096x128, .f32⟩
  | 66 => ⟨S8x4096x4x128, .f32⟩
  | 67 => ⟨S8x4x4096x128, .f32⟩
  | 68 => ⟨S8x4096x4x128, .f32⟩
  | 69 => ⟨S8x4x4096x128, .f32⟩
  | 70 => ⟨S_, .f32⟩
  | 71 => ⟨S8x4x4096x128, .f32⟩
  | 72 => ⟨S8x4x4096x128, .f32⟩
  | 73 => ⟨S8x4x64x64x128, .f32⟩
  | 74 => ⟨S64x8x4x64x128, .f32⟩
  | 75 => ⟨S8x4x64x64x128, .f32⟩
  | 76 => ⟨S64x8x4x64x128, .f32⟩
  | 77 => ⟨S8x4x64x64x256, .f32⟩
  | 78 => ⟨S64x8x4x64x256, .f32⟩
  | 79 => ⟨S8x4x64x64x128, .f32⟩
  | 80 => ⟨S64x8x4x64x128, .f32⟩
  | 81 => ⟨S_, .i1⟩
  | 82 => ⟨S64x64, .i1⟩
  | 83 => ⟨S64x64, .i32⟩
  | 84 => ⟨S_, .i32⟩
  | 85 => ⟨S64x64, .i32⟩
  | 86 => ⟨S64x64, .i32⟩
  | 87 => ⟨S64x64, .i32⟩
  | 88 => ⟨S64x64, .i1⟩
  | 89 => ⟨S_, .i1⟩
  | 90 => ⟨S64x64, .i1⟩
  | 91 => ⟨S64x64, .i1⟩
  | 92 => ⟨S_, .f32⟩
  | 93 => ⟨S8x4x128x256, .f32⟩
  | 94 => ⟨S_, .f32⟩
  | 95 => ⟨S64x8x4x64x256, .f32⟩
  | 96 => ⟨S_, .i32⟩
  | 97 => ⟨S64x8x4x64x128, .f32⟩
  | 98 => ⟨S64x8x4x64x128, .f32⟩
  | 99 => ⟨S64x8x4x64x256, .f32⟩
  | 100 => ⟨S64x8x4x64x128, .f32⟩
  | 101 => ⟨S64x64, .i1⟩
  | 102 => ⟨S_, .i32⟩
  | 103 => ⟨S8x4x128x256, .f32⟩
  | 104 => ⟨S64x8x4x64x256, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1x8x4x64x128, .f32⟩
  | 112 => ⟨S8x4x64x128, .f32⟩
  | 113 => ⟨S_, .i32⟩
  | 114 => ⟨S_, .i32⟩
  | 115 => ⟨S_, .i32⟩
  | 116 => ⟨S_, .i32⟩
  | 117 => ⟨S1x8x4x64x128, .f32⟩
  | 118 => ⟨S8x4x64x128, .f32⟩
  | 119 => ⟨S_, .i32⟩
  | 120 => ⟨S_, .i32⟩
  | 121 => ⟨S_, .i32⟩
  | 122 => ⟨S_, .i32⟩
  | 123 => ⟨S1x8x4x64x256, .f32⟩
  | 124 => ⟨S8x4x64x256, .f32⟩
  | 125 => ⟨S_, .i32⟩
  | 126 => ⟨S_, .i32⟩
  | 127 => ⟨S_, .i32⟩
  | _ => ⟨S8x4096x1024, .f32⟩

abbrev hbmTy0_1 (i : Nat) : BufTy := match i % 128 with
  | 0 => ⟨S_, .i32⟩
  | 1 => ⟨S1x8x4x64x128, .f32⟩
  | 2 => ⟨S8x4x64x128, .f32⟩
  | 3 => ⟨S_, .f32⟩
  | 4 => ⟨S_, .f32⟩
  | 5 => ⟨S8x4x64x128, .f32⟩
  | 6 => ⟨S8x4x64x128, .f32⟩
  | 7 => ⟨S8x4x64x128, .f32⟩
  | 8 => ⟨S8x4x64x256, .f32⟩
  | 9 => ⟨S8x4x64x1x128, .f32⟩
  | 10 => ⟨S8x4x1x64x128, .f32⟩
  | 11 => ⟨S8x4x64x64x128, .f32⟩
  | 12 => ⟨S8x4x64x64x128, .f32⟩
  | 13 => ⟨S8x4x64x64x128, .f32⟩
  | 14 => ⟨S64x64x1, .i1⟩
  | 15 => ⟨S_, .f32⟩
  | 16 => ⟨S8x4x64x64x128, .f32⟩
  | 17 => ⟨S8x4x64x64x128, .f32⟩
  | 18 => ⟨S8x4x64x64x128, .f32⟩
  | 19 => ⟨S_, .f32⟩
  | 20 => ⟨S_, .f32⟩
  | 21 => ⟨S8x4x64x64x128, .i1⟩
  | 22 => ⟨S8x4x64x64x128, .f32⟩
  | 23 => ⟨S8x4x64x64x128, .f32⟩
  | 24 => ⟨S8x4x64x1x128, .f32⟩
  | 25 => ⟨S8x4x1x64x128, .f32⟩
  | 26 => ⟨S8x4x64x64x128, .f32⟩
  | 27 => ⟨S8x4x64x64x128, .f32⟩
  | 28 => ⟨S8x4x64x64x128, .f32⟩
  | 29 => ⟨S8x4x64x64x128, .f32⟩
  | 30 => ⟨S_, .f32⟩
  | 31 => ⟨S8x4x64x64, .f32⟩
  | 32 => ⟨S8x4x64x256, .f32⟩
  | 33 => ⟨S8x4x1x128, .f32⟩
  | 34 => ⟨S8x4x128, .f32⟩
  | 35 => ⟨S8x4x128, .f32⟩
  | 36 => ⟨S8x4x128x1, .f32⟩
  | 37 => ⟨S8x4x128x256, .f32⟩
  | 38 => ⟨S8x4x128x256, .f32⟩
  | 39 => ⟨S8x4x64x128, .f32⟩
  | 40 => ⟨S8x4x64x128, .f32⟩
  | 41 => ⟨S8x4x64x128, .f32⟩
  | 42 => ⟨S8x4x64x128, .f32⟩
  | 43 => ⟨S8x4x128x256, .f32⟩
  | 44 => ⟨S8x4x128x256, .f32⟩
  | 45 => ⟨S8x4x64x256, .f32⟩
  | 46 => ⟨S1x8x4x64x256, .f32⟩
  | 47 => ⟨S_, .i32⟩
  | 48 => ⟨S_, .i32⟩
  | 49 => ⟨S_, .i32⟩
  | 50 => ⟨S_, .i32⟩
  | 51 => ⟨S64x8x4x64x256, .f32⟩
  | 52 => ⟨S_, .i32⟩
  | 53 => ⟨S_, .i32⟩
  | 54 => ⟨S8x4x64x64x256, .f32⟩
  | 55 => ⟨S8x4x4096x256, .f32⟩
  | 56 => ⟨S8x4096x4x256, .f32⟩
  | 57 => ⟨S1024, .f32⟩
  | 58 => ⟨S8x4096x1024, .f32⟩
  | 59 => ⟨S_, .f32⟩
  | 60 => ⟨S8x4096, .f32⟩
  | 61 => ⟨S8x4096x1, .f32⟩
  | 62 => ⟨S_, .f32⟩
  | 63 => ⟨S8x4096x1, .f32⟩
  | 64 => ⟨S8x4096x1, .f32⟩
  | 65 => ⟨S_, .f32⟩
  | 66 => ⟨S8x4096x1, .f32⟩
  | 67 => ⟨S8x4096x1, .f32⟩
  | 68 => ⟨S8x4096x1, .f32⟩
  | 69 => ⟨S8x4096x1024, .f32⟩
  | 70 => ⟨S8x4096x1024, .f32⟩
  | 71 => ⟨S1x1x1024, .f32⟩
  | 72 => ⟨S8x4096x1024, .f32⟩
  | 73 => ⟨S8x4096x1024, .f32⟩
  | 74 => ⟨S1024x8208, .f32⟩
  | 75 => ⟨S8x4096x8208, .f32⟩
  | 76 => ⟨S8x4096x1024, .f32⟩
  | 77 => ⟨S8x4096x1024, .f32⟩
  | 78 => ⟨S8x4096x1024, .f32⟩
  | 79 => ⟨S8x4096x512, .f32⟩
  | 80 => ⟨S8x4096x512, .f32⟩
  | 81 => ⟨S8x4096x1024, .f32⟩
  | 82 => ⟨S8x4096x1024, .f32⟩
  | 83 => ⟨S8x4096x16, .f32⟩
  | 84 => ⟨S8x4096x1024, .f32⟩
  | 85 => ⟨S8x4096x1024, .f32⟩
  | 86 => ⟨S256, .f32⟩
  | 87 => ⟨S8x4096x4x256, .f32⟩
  | 88 => ⟨S_, .f32⟩
  | 89 => ⟨S8x4096x4, .f32⟩
  | 90 => ⟨S8x4096x4x1, .f32⟩
  | 91 => ⟨S_, .f32⟩
  | 92 => ⟨S8x4096x4x1, .f32⟩
  | 93 => ⟨S8x4096x4x1, .f32⟩
  | 94 => ⟨S_, .f32⟩
  | 95 => ⟨S8x4096x4x1, .f32⟩
  | 96 => ⟨S8x4096x4x1, .f32⟩
  | 97 => ⟨S8x4096x4x1, .f32⟩
  | 98 => ⟨S8x4096x4x256, .f32⟩
  | 99 => ⟨S8x4096x4x256, .f32⟩
  | 100 => ⟨S1x1x1x256, .f32⟩
  | 101 => ⟨S8x4096x4x256, .f32⟩
  | 102 => ⟨S8x4096x4x256, .f32⟩
  | 103 => ⟨S8x4096x1024, .f32⟩
  | 104 => ⟨S8x4096x1024, .f32⟩
  | 105 => ⟨S8x4096x1024, .f32⟩
  | 106 => ⟨S_, .f32⟩
  | 107 => ⟨S8x4096x1024, .f32⟩
  | 108 => ⟨S8x4096x1024, .f32⟩
  | 109 => ⟨S_, .f32⟩
  | 110 => ⟨S8x4096x1024, .f32⟩
  | 111 => ⟨S8x4096x1024, .f32⟩
  | 112 => ⟨S8x4096x1024, .f32⟩
  | 113 => ⟨S8x4096x1024, .f32⟩
  | 114 => ⟨S8x4096x16x64, .f32⟩
  | 115 => ⟨S64, .f32⟩
  | 116 => ⟨S8x4096x16x64, .f32⟩
  | 117 => ⟨S_, .f32⟩
  | 118 => ⟨S8x4096x16, .f32⟩
  | 119 => ⟨S8x4096x16x1, .f32⟩
  | 120 => ⟨S_, .f32⟩
  | 121 => ⟨S8x4096x16x1, .f32⟩
  | 122 => ⟨S8x4096x16x1, .f32⟩
  | 123 => ⟨S_, .f32⟩
  | 124 => ⟨S8x4096x16x1, .f32⟩
  | 125 => ⟨S8x4096x16x1, .f32⟩
  | 126 => ⟨S8x4096x16x1, .f32⟩
  | 127 => ⟨S8x4096x16x64, .f32⟩
  | _ => ⟨S8x4096x1024, .f32⟩

abbrev hbmTy0_2 (i : Nat) : BufTy := match i % 128 with
  | 0 => ⟨S8x4096x16x64, .f32⟩
  | 1 => ⟨S1x1x1x64, .f32⟩
  | 2 => ⟨S8x4096x16x64, .f32⟩
  | 3 => ⟨S8x4096x16x64, .f32⟩
  | 4 => ⟨S_, .f32⟩
  | 5 => ⟨S8x4096x16x64, .f32⟩
  | 6 => ⟨S8x4096x16x64, .f32⟩
  | 7 => ⟨S8x4096x16x64, .f32⟩
  | 8 => ⟨S64, .f32⟩
  | 9 => ⟨S8x4096x16x64, .f32⟩
  | 10 => ⟨S_, .f32⟩
  | 11 => ⟨S8x4096x16, .f32⟩
  | 12 => ⟨S8x4096x16x1, .f32⟩
  | 13 => ⟨S_, .f32⟩
  | 14 => ⟨S8x4096x16x1, .f32⟩
  | 15 => ⟨S8x4096x16x1, .f32⟩
  | 16 => ⟨S_, .f32⟩
  | 17 => ⟨S8x4096x16x1, .f32⟩
  | 18 => ⟨S8x4096x16x1, .f32⟩
  | 19 => ⟨S8x4096x16x1, .f32⟩
  | 20 => ⟨S8x4096x16x64, .f32⟩
  | 21 => ⟨S8x4096x16x64, .f32⟩
  | 22 => ⟨S1x1x1x64, .f32⟩
  | 23 => ⟨S8x4096x16x64, .f32⟩
  | 24 => ⟨S8x4096x16x64, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S_, .f32⟩
  | 31 => ⟨S8x4096x1024, .f32⟩
  | 32 => ⟨S8x4096x1024, .f32⟩
  | 33 => ⟨S8x4096x1024, .f32⟩
  | 34 => ⟨S8x4096x1024, .f32⟩
  | 35 => ⟨S_, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S32768x1024, .f32⟩
  | 42 => ⟨S32768x1024, .bf16⟩
  | 43 => ⟨S32768x1024, .f32⟩
  | 44 => ⟨S32768x1024, .bf16⟩
  | 45 => ⟨S32768x1024, .f32⟩
  | 46 => ⟨S32768x1024, .bf16⟩
  | 47 => ⟨S32768x1024, .f32⟩
  | 48 => ⟨S32768x1024, .bf16⟩
  | 49 => ⟨S32768x1024, .f32⟩
  | 50 => ⟨S32768x1024, .bf16⟩
  | 51 => ⟨S32768x1024, .f32⟩
  | 52 => ⟨S32768x1024, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c : Ref sig .tc := ⟨.hbm, 81, rfl⟩
abbrev main_v53 : Ref sig .tc := ⟨.hbm, 82, rfl⟩
abbrev main_call1_v0 : Ref sig .tc := ⟨.hbm, 83, rfl⟩
abbrev main_call1_c : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_c_0 : Ref sig .tc := ⟨.hbm, 89, rfl⟩
abbrev main_call1_v5 : Ref sig .tc := ⟨.hbm, 90, rfl⟩
abbrev main_v54 : Ref sig .tc := ⟨.hbm, 91, rfl⟩
abbrev main_cst_4 : Ref sig .tc := ⟨.hbm, 92, rfl⟩
abbrev main_v55 : Ref sig .tc := ⟨.hbm, 93, rfl⟩
abbrev main_cst_5 : Ref sig .tc := ⟨.hbm, 94, rfl⟩
abbrev main_v56 : Ref sig .tc := ⟨.hbm, 95, rfl⟩
abbrev main_c_6 : Ref sig .tc := ⟨.hbm, 96, rfl⟩
abbrev main_v57_0 : Ref sig .tc := ⟨.hbm, 97, rfl⟩
abbrev main_v57_1 : Ref sig .tc := ⟨.hbm, 98, rfl⟩
abbrev main_v57_2 : Ref sig .tc := ⟨.hbm, 99, rfl⟩
abbrev main_v57_3 : Ref sig .tc := ⟨.hbm, 100, rfl⟩
abbrev main_v57_4 : Ref sig .tc := ⟨.hbm, 101, rfl⟩
abbrev main_v57_5 : Ref sig .tc := ⟨.hbm, 102, rfl⟩
abbrev main_v57_6 : Ref sig .tc := ⟨.hbm, 103, rfl⟩
abbrev main_v57_7 : Ref sig .tc := ⟨.hbm, 104, rfl⟩
abbrev main_while0c_c_31 : Ref sig .tc := ⟨.hbm, 105, rfl⟩
abbrev main_while0c_v160 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v160 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v161 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_c_2 : Ref sig .tc := ⟨.hbm, 122, rfl⟩
abbrev main_while0b_call4_v0 : Ref sig .tc := ⟨.hbm, 123, rfl⟩
abbrev main_while0b_v162 : Ref sig .tc := ⟨.hbm, 124, rfl⟩
abbrev main_while0b_call5_c : Ref sig .tc := ⟨.hbm, 125, rfl⟩
abbrev main_while0b_call5_c_0 : Ref sig .tc := ⟨.hbm, 126, rfl⟩
abbrev main_while0b_call5_c_1 : Ref sig .tc := ⟨.hbm, 127, rfl⟩
abbrev main_while0b_call5_c_2 : Ref sig .tc := ⟨.hbm, 128, rfl⟩
abbrev main_while0b_call5_v0 : Ref sig .tc := ⟨.hbm, 129, rfl⟩
abbrev main_while0b_v163 : Ref sig .tc := ⟨.hbm, 130, rfl⟩
abbrev main_while0b_call6_call0_cst : Ref sig .tc := ⟨.hbm, 131, rfl⟩
abbrev main_while0b_call6_call0_v0 : Ref sig .tc := ⟨.hbm, 132, rfl⟩
abbrev main_while0b_v164 : Ref sig .tc := ⟨.hbm, 133, rfl⟩
abbrev main_while0b_v165 : Ref sig .tc := ⟨.hbm, 134, rfl⟩
abbrev main_while0b_v166 : Ref sig .tc := ⟨.hbm, 135, rfl⟩
abbrev main_while0b_v167 : Ref sig .tc := ⟨.hbm, 136, rfl⟩
abbrev main_while0b_v168 : Ref sig .tc := ⟨.hbm, 137, rfl⟩
abbrev main_while0b_v169 : Ref sig .tc := ⟨.hbm, 138, rfl⟩
abbrev main_while0b_v170 : Ref sig .tc := ⟨.hbm, 139, rfl⟩
abbrev main_while0b_v171 : Ref sig .tc := ⟨.hbm, 140, rfl⟩
abbrev main_while0b_v172 : Ref sig .tc := ⟨.hbm, 141, rfl⟩
abbrev main_while0b_v173 : Ref sig .tc := ⟨.hbm, 142, rfl⟩
abbrev main_while0b_cst_31 : Ref sig .tc := ⟨.hbm, 143, rfl⟩
abbrev main_while0b_v174 : Ref sig .tc := ⟨.hbm, 144, rfl⟩
abbrev main_while0b_v175 : Ref sig .tc := ⟨.hbm, 145, rfl⟩
abbrev main_while0b_v176 : Ref sig .tc := ⟨.hbm, 146, rfl⟩
abbrev main_while0b_cst_32 : Ref sig .tc := ⟨.hbm, 147, rfl⟩
abbrev main_while0b_call7_v0 : Ref sig .tc := ⟨.hbm, 148, rfl⟩
abbrev main_while0b_call7_v1 : Ref sig .tc := ⟨.hbm, 149, rfl⟩
abbrev main_while0b_call7_v2 : Ref sig .tc := ⟨.hbm, 150, rfl⟩
abbrev main_while0b_v177 : Ref sig .tc := ⟨.hbm, 151, rfl⟩
abbrev main_while0b_v178 : Ref sig .tc := ⟨.hbm, 152, rfl⟩
abbrev main_while0b_v179 : Ref sig .tc := ⟨.hbm, 153, rfl⟩
abbrev main_while0b_v180 : Ref sig .tc := ⟨.hbm, 154, rfl⟩
abbrev main_while0b_v181 : Ref sig .tc := ⟨.hbm, 155, rfl⟩
abbrev main_while0b_v182 : Ref sig .tc := ⟨.hbm, 156, rfl⟩
abbrev main_while0b_v183 : Ref sig .tc := ⟨.hbm, 157, rfl⟩
abbrev main_while0b_cst_33 : Ref sig .tc := ⟨.hbm, 158, rfl⟩
abbrev main_while0b_v184 : Ref sig .tc := ⟨.hbm, 159, rfl⟩
abbrev main_while0b_v185 : Ref sig .tc := ⟨.hbm, 160, rfl⟩
abbrev main_while0b_v186 : Ref sig .tc := ⟨.hbm, 161, rfl⟩
abbrev main_while0b_v187 : Ref sig .tc := ⟨.hbm, 162, rfl⟩
abbrev main_while0b_v188 : Ref sig .tc := ⟨.hbm, 163, rfl⟩
abbrev main_while0b_v189 : Ref sig .tc := ⟨.hbm, 164, rfl⟩
abbrev main_while0b_v190 : Ref sig .tc := ⟨.hbm, 165, rfl⟩
abbrev main_while0b_v191 : Ref sig .tc := ⟨.hbm, 166, rfl⟩
abbrev main_while0b_v192 : Ref sig .tc := ⟨.hbm, 167, rfl⟩
abbrev main_while0b_v193 : Ref sig .tc := ⟨.hbm, 168, rfl⟩
abbrev main_while0b_v194 : Ref sig .tc := ⟨.hbm, 169, rfl⟩
abbrev main_while0b_v195 : Ref sig .tc := ⟨.hbm, 170, rfl⟩
abbrev main_while0b_v196 : Ref sig .tc := ⟨.hbm, 171, rfl⟩
abbrev main_while0b_v197 : Ref sig .tc := ⟨.hbm, 172, rfl⟩
abbrev main_while0b_v198 : Ref sig .tc := ⟨.hbm, 173, rfl⟩
abbrev main_while0b_call8_v0 : Ref sig .tc := ⟨.hbm, 174, rfl⟩
abbrev main_while0b_call8_c : Ref sig .tc := ⟨.hbm, 175, rfl⟩
abbrev main_while0b_call8_c_0 : Ref sig .tc := ⟨.hbm, 176, rfl⟩
abbrev main_while0b_call8_c_1 : Ref sig .tc := ⟨.hbm, 177, rfl⟩
abbrev main_while0b_call8_c_2 : Ref sig .tc := ⟨.hbm, 178, rfl⟩
abbrev main_while0b_v199 : Ref sig .tc := ⟨.hbm, 179, rfl⟩
abbrev main_while0b_c_34 : Ref sig .tc := ⟨.hbm, 180, rfl⟩
abbrev main_while0b_v200 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩
abbrev main_v61 : Ref sig .tc := ⟨.hbm, 185, rfl⟩
abbrev main_v62 : Ref sig .tc := ⟨.hbm, 186, rfl⟩
abbrev main_cst_7 : Ref sig .tc := ⟨.hbm, 187, rfl⟩
abbrev main_v63 : Ref sig .tc := ⟨.hbm, 188, rfl⟩
abbrev main_v64 : Ref sig .tc := ⟨.hbm, 189, rfl⟩
abbrev main_cst_8 : Ref sig .tc := ⟨.hbm, 190, rfl⟩
abbrev main_v65 : Ref sig .tc := ⟨.hbm, 191, rfl⟩
abbrev main_v66 : Ref sig .tc := ⟨.hbm, 192, rfl⟩
abbrev main_cst_9 : Ref sig .tc := ⟨.hbm, 193, rfl⟩
abbrev main_v67 : Ref sig .tc := ⟨.hbm, 194, rfl⟩
abbrev main_v68 : Ref sig .tc := ⟨.hbm, 195, rfl⟩
abbrev main_v69 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_v81 : Ref sig .tc := ⟨.hbm, 208, rfl⟩
abbrev main_v82 : Ref sig .tc := ⟨.hbm, 209, rfl⟩
abbrev main_v83 : Ref sig .tc := ⟨.hbm, 210, rfl⟩
abbrev main_v84 : Ref sig .tc := ⟨.hbm, 211, rfl⟩
abbrev main_v85 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩
abbrev main_cst_10 : Ref sig .tc := ⟨.hbm, 216, rfl⟩
abbrev main_v89 : Ref sig .tc := ⟨.hbm, 217, rfl⟩
abbrev main_v90 : Ref sig .tc := ⟨.hbm, 218, rfl⟩
abbrev main_cst_11 : Ref sig .tc := ⟨.hbm, 219, rfl⟩
abbrev main_v91 : Ref sig .tc := ⟨.hbm, 220, rfl⟩
abbrev main_v92 : Ref sig .tc := ⟨.hbm, 221, rfl⟩
abbrev main_cst_12 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_call9_v0 : Ref sig .tc := ⟨.hbm, 232, rfl⟩
abbrev main_call9_v1 : Ref sig .tc := ⟨.hbm, 233, rfl⟩
abbrev main_call9_cst : Ref sig .tc := ⟨.hbm, 234, rfl⟩
abbrev main_call9_v2 : Ref sig .tc := ⟨.hbm, 235, rfl⟩
abbrev main_call9_v3 : Ref sig .tc := ⟨.hbm, 236, rfl⟩
abbrev main_call9_cst_0 : Ref sig .tc := ⟨.hbm, 237, rfl⟩
abbrev main_call9_v4 : Ref sig .tc := ⟨.hbm, 238, rfl⟩
abbrev main_call9_v5 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_cst_13 : Ref sig .tc := ⟨.hbm, 245, rfl⟩
abbrev main_v107 : Ref sig .tc := ⟨.hbm, 246, rfl⟩
abbrev main_v108 : Ref sig .tc := ⟨.hbm, 247, rfl⟩
abbrev main_cst_14 : Ref sig .tc := ⟨.hbm, 248, rfl⟩
abbrev main_v109 : Ref sig .tc := ⟨.hbm, 249, rfl⟩
abbrev main_v110 : Ref sig .tc := ⟨.hbm, 250, rfl⟩
abbrev main_cst_15 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_cst_16 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_cst_17 : Ref sig .tc := ⟨.hbm, 266, rfl⟩
abbrev main_v124 : Ref sig .tc := ⟨.hbm, 267, rfl⟩
abbrev main_v125 : Ref sig .tc := ⟨.hbm, 268, rfl⟩
abbrev main_cst_18 : Ref sig .tc := ⟨.hbm, 269, rfl⟩
abbrev main_v126 : Ref sig .tc := ⟨.hbm, 270, rfl⟩
abbrev main_v127 : Ref sig .tc := ⟨.hbm, 271, rfl⟩
abbrev main_cst_19 : Ref sig .tc := ⟨.hbm, 272, rfl⟩
abbrev main_v128 : Ref sig .tc := ⟨.hbm, 273, rfl⟩
abbrev main_v129 : Ref sig .tc := ⟨.hbm, 274, rfl⟩
abbrev main_v130 : Ref sig .tc := ⟨.hbm, 275, rfl⟩
abbrev main_v131 : Ref sig .tc := ⟨.hbm, 276, rfl⟩
abbrev main_v132 : Ref sig .tc := ⟨.hbm, 277, rfl⟩
abbrev main_v133 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_cst_20 : Ref sig .tc := ⟨.hbm, 283, rfl⟩
abbrev main_v138 : Ref sig .tc := ⟨.hbm, 284, rfl⟩
abbrev main_v139 : Ref sig .tc := ⟨.hbm, 285, rfl⟩
abbrev main_cst_21 : Ref sig .tc := ⟨.hbm, 286, rfl⟩
abbrev main_v140 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_cst_22 : Ref sig .tc := ⟨.hbm, 291, rfl⟩
abbrev main_v144 : Ref sig .tc := ⟨.hbm, 292, rfl⟩
abbrev main_v145 : Ref sig .tc := ⟨.hbm, 293, rfl⟩
abbrev main_cst_23 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_v155 : Ref sig .tc := ⟨.hbm, 304, rfl⟩
abbrev main_v156 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩

abbrev nD : Nat := 1
abbrev τ : Topo := Topo.v7x

variable {F : FTy → Type} [FloatOps F]

abbrev main_while0_count : Scf.Loop 32 := ⟨0#32, 64#32, 1#32⟩
-- ==== Proof.TailPay.lean ====
/- What the two halves of the tail's body compute, one row at a time: the merged branches, the first residual, the
   normalised row and the gated feed-forward row, as functions of the rows read. -/
module

public import proofs.«01_k».proof.Proof.Gen.KernelTailIdeal.Frame
public import Idealize.ShloMosaic.Lib.Pipeline.ValueKit

@[expose] public section

set_option maxRecDepth 16384

noncomputable section

namespace Cert.Tail

open Cert.KernelTailIdeal Cert.KernelTailIdeal.Gen
open Idealize.ShloMosaic Idealize.ShloMosaic.TcCoe Idealize.SL.Sem

/-- One entry of the two branches projected, gated and added: rows `o₁`, `o₂` of the branches, `s₁`, `s₂` of the gates. -/
def mergedRow (o₁ o₂ s₁ s₂ : Fin 1024 → EReal) (W₁ W₂ : Fin 1024 → Fin 1024 → EReal) (k : Fin 1024) : EReal :=
  s₁ k * (∑ i, o₁ i * W₁ i k) + s₂ k * (∑ i, o₂ i * W₂ i k)

/-- The residual row after the output projection. -/
def residRow (x u : Fin 1024 → EReal) (W : Fin 1024 → Fin 1024 → EReal) (k : Fin 1024) : EReal :=
  x k + ∑ i, u i * W i k

/-- A row divided by its root mean square (with the literal `1e-6` added under the root) and scaled by `g`. -/
def normRow (x g : Fin 1024 → EReal) (k : Fin 1024) : EReal :=
  x k * Ideal.rsqrt (Ideal.div (∑ i, x i * x i) (Ideal.ofBits FTy.f32 0x44800000#32) + Ideal.ofBits FTy.f32 0x358637BD#32) * g k

/-- The gated feed-forward row added to the residual row `x`; `h` is the normalised row. -/
def ffnRow (x h : Fin 1024 → EReal) (Wg Wu : Fin 1024 → Fin 2816 → EReal) (Wd : Fin 2816 → Fin 1024 → EReal)
    (k : Fin 1024) : EReal :=
  x k + ∑ j, (∑ i, h i * Wg i j) * Ideal.logistic (∑ i, h i * Wg i j) * (∑ i, h i * Wu i j) * Wd j k

/-- The whole tail on one row. -/
def tailRow (x o₁ o₂ s₁ s₂ : Fin 1024 → EReal) (W₁ W₂ Wo : Fin 1024 → Fin 1024 → EReal) (g : Fin 1024 → EReal)
    (Wg Wu : Fin 1024 → Fin 2816 → EReal) (Wd : Fin 2816 → Fin 1024 → EReal) (k : Fin 1024) : EReal :=
  ffnRow (residRow x (mergedRow o₁ o₂ s₁ s₂ W₁ W₂) Wo)
    (normRow (residRow x (mergedRow o₁ o₂ s₁ s₂ W₁ W₂) Wo) g) Wg Wu Wd k

/-- The merged row in the upper half. -/
theorem pay3_at (a : FVec Ideal S256x1024 .bf16) (w : FVec Ideal S1024x1024 .bf16) (b : FVec Ideal S256x1024 .bf16)
    (v : FVec Ideal S1024x1024 .bf16) (s g : FVec Ideal S256x1024 .bf16) (p : Fin 256) (k : Fin 1024) :
    k0_pay3 (F := Ideal) a w b v s g (ix2 p k)
      = mergedRow (fun i => a (ix2 p i)) (fun i => b (ix2 p i)) (fun i => s (ix2 p i)) (fun i => g (ix2 p i))
          (fun i l => w (ix2 i l)) (fun i l => v (ix2 i l)) k := by
  pointwise [k0_pay3, mergedRow]

/-- The merged row in the lower half. -/
theorem pay4_at (a : FVec Ideal S256x1024 .bf16) (w : FVec Ideal S1024x1024 .bf16) (b : FVec Ideal S256x1024 .bf16)
    (v : FVec Ideal S1024x1024 .bf16) (s g : FVec Ideal S256x1024 .bf16) (p : Fin 256) (k : Fin 1024) :
    k0_pay4 (F := Ideal) a w b v s g (ix2 p k)
      = mergedRow (fun i => a (ix2 p i)) (fun i => b (ix2 p i)) (fun i => s (ix2 p i)) (fun i => g (ix2 p i))
          (fun i l => w (ix2 i l)) (fun i l => v (ix2 i l)) k := by
  pointwise [k0_pay4, mergedRow]

/-- The residual row in the upper half. -/
theorem pay5_at (u : FVec Ideal S256x1024 .bf16) (x : FVec Ideal S256x1024 .f32) (v : FVec Ideal S1024x1024 .bf16)
    (p : Fin 256) (k : Fin 1024) :
    k0_pay5 (F := Ideal) u x v (ix2 p k)
      = residRow (fun i => x (ix2 p i)) (fun i => u (ix2 p i)) (fun i l => v (ix2 i l)) k := by
  pointwise [k0_pay5, residRow]

/-- The normalised row in the upper half. -/
theorem pay7_at (u : FVec Ideal S256x1024 .bf16) (x : FVec Ideal S256x1024 .f32) (v : FVec Ideal S1024x1024 .bf16)
    (g : FVec Ideal S1x1024 .f32) (p : Fin 256) (k : Fin 1024) :
    k0_pay7 (F := Ideal) u x v g (ix2 p k)
      = normRow (residRow (fun i => x (ix2 p i)) (fun i => u (ix2 p i)) (fun i l => v (ix2 i l)))
          (fun i => g (ix2 0 i)) k := by
  pointwise [k0_pay7, normRow]
  simp only [pay5_at]

/-- The residual row in the lower half. -/
theorem pay6_at (u : FVec Ideal S256x1024 .f32) (x : FVec Ideal S256x1024 .f32) (v : FVec Ideal S1024x1024 .bf16)
    (p : Fin 256) (k : Fin 1024) :
    k0_pay6 (F := Ideal) u x v (ix2 p k)
      = residRow (fun i => x (ix2 p i)) (fun i => u (ix2 p i)) (fun i l => v (ix2 i l)) k := by
  pointwise [k0_pay6, residRow]

/-- The normalised row in the lower half. -/
theorem pay8_at (u : FVec Ideal S256x1024 .f32) (x : FVec Ideal S256x1024 .f32) (v : FVec Ideal S1024x1024 .bf16)
    (g : FVec Ideal S1x1024 .f32) (p : Fin 256) (k : Fin 1024) :
    k0_pay8 (F := Ideal) u x v g (ix2 p k)
      = normRow (residRow (fun i => x (ix2 p i)) (fun i => u (ix2 p i)) (fun i l => v (ix2 i l)))
          (fun i => g (ix2 0 i)) k := by
  pointwise [k0_pay8, normRow]
  simp only [pay6_at]

/-- The stored row in the upper half, from the residual row and the normalised row. -/
theorem pay1_at (x : FVec Ideal S256x1024 .f32) (h : FVec Ideal S256x1024 .bf16) (v w : FVec Ideal S1024x2816 .bf16)
    (d : FVec Ideal S2816x1024 .bf16) (p : Fin 256) (k : Fin 1024) :
    k0_pay1 (F := Ideal) x h v w d (ix2 p k)
      = ffnRow (fun i => x (ix2 p i)) (fun i => h (ix2 p i)) (fun i l => v (ix2 i l)) (fun i l => w (ix2 i l))
          (fun i l => d (ix2 i l)) k := by
  pointwise [k0_pay1, ffnRow]

/-- The stored row in the lower half, from the residual row and the normalised row. -/
theorem pay2_at (x : FVec Ideal S256x1024 .f32) (h : FVec Ideal S256x1024 .f32) (v w : FVec Ideal S1024x2816 .bf16)
    (d : FVec Ideal S2816x1024 .bf16) (p : Fin 256) (k : Fin 1024) :
    k0_pay2 (F := Ideal) x h v w d (ix2 p k)
      = ffnRow (fun i => x (ix2 p i)) (fun i => h (ix2 p i)) (fun i l => v (ix2 i l)) (fun i l => w (ix2 i l))
          (fun i l => d (ix2 i l)) k := by
  pointwise [k0_pay2, ffnRow]

end Cert.Tail

end
-- ==== Proof.TailValue.lean ====
/- The tail's result array: every row is `tailRow` of the argument rows. -/
module

public import proofs.«01_k».proof.Proof.TailPay
public import proofs.«01_k».proof.Proof.Gen.KernelTailIdeal.Value

@[expose] public section

set_option maxRecDepth 16384

noncomputable section

namespace Cert.Tail

open Cert.KernelTailIdeal Cert.KernelTailIdeal.Gen
open Idealize.ShloMosaic Idealize.ShloMosaic.TcCoe Idealize.SL.Sem
open Idealize.ShloMosaic.Pipeline (Dat)

theorem ld_upper (p : Fin 256) (i : Fin 1024) :
    r0_0.idx (ix2 p i) = (ix2 ⟨p, by omega⟩ i) := by blk_ext <;> exact (Rect.idx_unit_val _ _ _ _ _).trans (by simp)

theorem ld_lower (p : Fin 256) (i : Fin 1024) :
    r0_2.idx (ix2 p i) = (ix2 ⟨256 + p, by omega⟩ i) := by blk_ext <;> exact (Rect.idx_unit_val _ _ _ _ _).trans (by simp)

theorem ld_square (p : Fin 1024) (i : Fin 1024) :
    r0_1.idx (ix2 p i) = (ix2 p i) := by blk_ext <;> exact (Rect.idx_unit_val _ _ _ _ _).trans (by simp)

theorem ld_scale (i : Fin 1024) :
    r0_3.idx (ix2 0 i) = (ix2 0 i) := by blk_ext <;> exact (Rect.idx_unit_val _ _ _ _ _).trans (by simp)

theorem ld_up (p : Fin 1024) (i : Fin 2816) :
    r0_4.idx (ix2 p i) = (ix2 p i) := by blk_ext <;> exact (Rect.idx_unit_val _ _ _ _ _).trans (by simp)

theorem ld_down (p : Fin 2816) (i : Fin 1024) :
    r0_5.idx (ix2 p i) = (ix2 p i) := by blk_ext <;> exact (Rect.idx_unit_val _ _ _ _ _).trans (by simp)

/-- The upper half's stored tile, row by row, over the blocks read. -/
theorem upper_at (x0 : FVec Ideal S512x1024 .f32) (x1 : FVec Ideal S512x1024 .bf16) (x2 : FVec Ideal S512x1024 .bf16) (x3 : FVec Ideal S512x1024 .bf16) (x4 : FVec Ideal S512x1024 .bf16) (x5 : FVec Ideal S1024x1024 .bf16) (x6 : FVec Ideal S1024x1024 .bf16) (x7 : FVec Ideal S1024x1024 .bf16) (x8 : FVec Ideal S1x1024 .f32) (x9 : FVec Ideal S1024x2816 .bf16) (x10 : FVec Ideal S1024x2816 .bf16) (x11 : FVec Ideal S2816x1024 .bf16)
    (p : Fin 256) (k : Fin 1024) :
    k0_pay1 (F := Ideal) (k0_pay5 (k0_pay9 x0 x1 x2 x3 x4 x5 x6 x7 x8 x9 x10 x11) (View.ld x0 r0_0) (View.ld x7 r0_1))
      (k0_pay7 (k0_pay9 x0 x1 x2 x3 x4 x5 x6 x7 x8 x9 x10 x11) (View.ld x0 r0_0) (View.ld x7 r0_1) (View.ld x8 r0_3))
      (View.ld x9 r0_4) (View.ld x10 r0_4) (View.ld x11 r0_5) (ix2 p k)
    = tailRow (fun i => x0 (ix2 ⟨p, by omega⟩ i))
      (fun i => x1 (ix2 ⟨p, by omega⟩ i))
      (fun i => x2 (ix2 ⟨p, by omega⟩ i))
      (fun i => x3 (ix2 ⟨p, by omega⟩ i))
      (fun i => x4 (ix2 ⟨p, by omega⟩ i))
      (fun i l => x5 (ix2 i l))
      (fun i l => x6 (ix2 i l))
      (fun i l => x7 (ix2 i l))
      (fun i => x8 (ix2 0 i))
      (fun i l => x9 (ix2 i l))
      (fun i l => x10 (ix2 i l))
      (fun i l => x11 (ix2 i l)) k := by
  rw [pay1_at]
  simp only [pay5_at, pay7_at, k0_pay9, pay3_at, tailRow, View.ld, ld_upper, ld_square, ld_scale, ld_up, ld_down]

/-- The lower half's stored tile, row by row, over the blocks read. -/
theorem lower_at (x0 : FVec Ideal S512x1024 .f32) (x1 : FVec Ideal S512x1024 .bf16) (x2 : FVec Ideal S512x1024 .bf16) (x3 : FVec Ideal S512x1024 .bf16) (x4 : FVec Ideal S512x1024 .bf16) (x5 : FVec Ideal S1024x1024 .bf16) (x6 : FVec Ideal S1024x1024 .bf16) (x7 : FVec Ideal S1024x1024 .bf16) (x8 : FVec Ideal S1x1024 .f32) (x9 : FVec Ideal S1024x2816 .bf16) (x10 : FVec Ideal S1024x2816 .bf16) (x11 : FVec Ideal S2816x1024 .bf16)
    (p : Fin 256) (k : Fin 1024) :
    k0_pay2 (F := Ideal) (k0_pay6 (k0_pay10 x0 x1 x2 x3 x4 x5 x6 x7 x8 x9 x10 x11) (View.ld x0 r0_2) (View.ld x7 r0_1))
      (k0_pay8 (k0_pay10 x0 x1 x2 x3 x4 x5 x6 x7 x8 x9 x10 x11) (View.ld x0 r0_2) (View.ld x7 r0_1) (View.ld x8 r0_3))
      (View.ld x9 r0_4) (View.ld x10 r0_4) (View.ld x11 r0_5) (ix2 p k)
    = tailRow (fun i => x0 (ix2 ⟨256 + p, by omega⟩ i))
      (fun i => x1 (ix2 ⟨256 + p, by omega⟩ i))
      (fun i => x2 (ix2 ⟨256 + p, by omega⟩ i))
      (fun i => x3 (ix2 ⟨256 + p, by omega⟩ i))
      (fun i => x4 (ix2 ⟨256 + p, by omega⟩ i))
      (fun i l => x5 (ix2 i l))
      (fun i l => x6 (ix2 i l))
      (fun i l => x7 (ix2 i l))
      (fun i => x8 (ix2 0 i))
      (fun i l => x9 (ix2 i l))
      (fun i l => x10 (ix2 i l))
      (fun i l => x11 (ix2 i l)) k := by
  rw [pay2_at]
  simp only [pay6_at, pay8_at, k0_pay10, pay4_at, tailRow, View.ld, ld_lower, ld_square, ld_scale, ld_up, ld_down]

/-- The tail of the layer over whole arrays: entry `(r, k)` is `tailRow` of the rows `r`. -/
def tailOf (a0 : FVec Ideal S32768x1024 .f32) (a1 : FVec Ideal S32768x1024 .bf16) (a2 : FVec Ideal S32768x1024 .bf16) (a3 : FVec Ideal S32768x1024 .bf16) (a4 : FVec Ideal S32768x1024 .bf16) (a5 : FVec Ideal S1x1024x1024 .f32) (a6 : FVec Ideal S1x1024x1024 .f32) (a7 : FVec Ideal S1x1024x1024 .f32) (a8 : FVec Ideal S1x1024 .f32) (a9 : FVec Ideal S1x1024x2816 .f32) (a10 : FVec Ideal S1x1024x2816 .f32) (a11 : FVec Ideal S1x2816x1024 .f32) :
    FVec Ideal S32768x1024 .f32 :=
  fun j => tailRow (fun i => a0 (ix2 (j 0) i))
      (fun i => a1 (ix2 (j 0) i))
      (fun i => a2 (ix2 (j 0) i))
      (fun i => a3 (ix2 (j 0) i))
      (fun i => a4 (ix2 (j 0) i))
      (fun i l => a5 (ix3 0 i l))
      (fun i l => a6 (ix3 0 i l))
      (fun i l => a7 (ix3 0 i l))
      (fun i => a8 (ix2 0 i))
      (fun i l => a9 (ix3 0 i l))
      (fun i l => a10 (ix3 0 i l))
      (fun i l => a11 (ix3 0 i l)) (j 1)

variable (m : (ℓ : Loc nD τ sig) → Buf (Elt Ideal) ℓ)

/-- The windows' block indices: row block `t` for the row arrays and the result, the whole array for the weights. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] :=
  (by decide +kernel : ∀ t : Fin grid0.N, _)

theorem row_lt (t : Fin cfg0.N) (q : Fin 512) : t.val * 512 + q.val < 32768 := by
  have h : t.val < 64 := lt_of_lt_of_eq t.isLt N_0
  omega

theorem blk0_at (c : Dev nD) (t : Fin cfg0.N) (q : Fin 512) (i : Fin 1024) :
    (iblk m c 0 t : FVec Ideal S512x1024 .f32) (ix2 q i) = (m ((c : Thread nD τ).loc main_arg0) : FVec Ideal S32768x1024 .f32) (ix2 ⟨t.val * 512 + q.val, row_lt t q⟩ i) := by
  blk_ext [iblk, V, idx t]

theorem blk1_at (c : Dev nD) (t : Fin cfg0.N) (q : Fin 512) (i : Fin 1024) :
    (iblk m c 1 t : FVec Ideal S512x1024 .bf16) (ix2 q i) = (m ((c : Thread nD τ).loc main_arg1) : FVec Ideal S32768x1024 .bf16) (ix2 ⟨t.val * 512 + q.val, row_lt t q⟩ i) := by
  blk_ext [iblk, V, idx t]

theorem blk2_at (c : Dev nD) (t : Fin cfg0.N) (q : Fin 512) (i : Fin 1024) :
    (iblk m c 2 t : FVec Ideal S512x1024 .bf16) (ix2 q i) = (m ((c : Thread nD τ).loc main_arg2) : FVec Ideal S32768x1024 .bf16) (ix2 ⟨t.val * 512 + q.val, row_lt t q⟩ i) := by
  blk_ext [iblk, V, idx t]

theorem blk3_at (c : Dev nD) (t : Fin cfg0.N) (q : Fin 512) (i : Fin 1024) :
    (iblk m c 3 t : FVec Ideal S512x1024 .bf16) (ix2 q i) = (m ((c : Thread nD τ).loc main_arg3) : FVec Ideal S32768x1024 .bf16) (ix2 ⟨t.val * 512 + q.val, row_lt t q⟩ i) := by
  blk_ext [iblk, V, idx t]

theorem blk4_at (c : Dev nD) (t : Fin cfg0.N) (q : Fin 512) (i : Fin 1024) :
    (iblk m c 4 t : FVec Ideal S512x1024 .bf16) (ix2 q i) = (m ((c : Thread nD τ).loc main_arg4) : FVec Ideal S32768x1024 .bf16) (ix2 ⟨t.val * 512 + q.val, row_lt t q⟩ i) := by
  blk_ext [iblk, V, idx t]

theorem blk5_at (c : Dev nD) (t : Fin cfg0.N) (q : Fin 1024) (i : Fin 1024) :
    (iblk m c 5 t : FVec Ideal S1024x1024 .bf16) (ix2 q i) = (m ((c : Thread nD τ).loc main_arg5) : FVec Ideal S1x1024x1024 .f32) (ix3 0 q i) := by
  blk_point [iblk, idx t]

theorem blk6_at (c : Dev nD) (t : Fin cfg0.N) (q : Fin 1024) (i : Fin 1024) :
    (iblk m c 6 t : FVec Ideal S1024x1024 .bf16) (ix2 q i) = (m ((c : Thread nD τ).loc main_arg6) : FVec Ideal S1x1024x1024 .f32) (ix3 0 q i) := by
  blk_point [iblk, idx t]

theorem blk7_at (c : Dev nD) (t : Fin cfg0.N) (q : Fin 1024) (i : Fin 1024) :
    (iblk m c 7 t : FVec Ideal S1024x1024 .bf16) (ix2 q i) = (m ((c : Thread nD τ).loc main_arg7) : FVec Ideal S1x1024x1024 .f32) (ix3 0 q i) := by
  blk_point [iblk, idx t]

theorem blk9_at (c : Dev nD) (t : Fin cfg0.N) (q : Fin 1024) (i : Fin 2816) :
    (iblk m c 9 t : FVec Ideal S1024x2816 .bf16) (ix2 q i) = (m ((c : Thread nD τ).loc main_arg9) : FVec Ideal S1x1024x2816 .f32) (ix3 0 q i) := by
  blk_point [iblk, idx t]

theorem blk10_at (c : Dev nD) (t : Fin cfg0.N) (q : Fin 1024) (i : Fin 2816) :
    (iblk m c 10 t : FVec Ideal S1024x2816 .bf16) (ix2 q i) = (m ((c : Thread nD τ).loc main_arg10) : FVec Ideal S1x1024x2816 .f32) (ix3 0 q i) := by
  blk_point [iblk, idx t]

theorem blk11_at (c : Dev nD) (t : Fin cfg0.N) (q : Fin 2816) (i : Fin 1024) :
    (iblk m c 11 t : FVec Ideal S2816x1024 .bf16) (ix2 q i) = (m ((c : Thread nD τ).loc main_arg11) : FVec Ideal S1x2816x1024 .f32) (ix3 0 q i) := by
  blk_point [iblk, idx t]

theorem blk8_at (c : Dev nD) (t : Fin cfg0.N) (i : Fin 1024) :
    (iblk m c 8 t : FVec Ideal S1x1024 .f32) (ix2 0 i) = (m ((c : Thread nD τ).loc main_arg8) : FVec Ideal S1x1024 .f32) (ix2 0 i) := by
  blk_point [iblk, idx t]

/-- What point `t` leaves at row `y 0` of its block is the tail's row `512 t + y 0`. -/
theorem point (c : Dev nD) (t : Fin cfg0.N) (y : S512x1024.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = tailOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y) := by
  unfold out0_12
  canon_tiles x h
  · idx_vars x
    refine (lower_at _ _ _ _ _ _ _ _ _ _ _ _ x0 x1).trans ?_
    have he : ((cfg0.win 12).blk t).view.emb y = ix2 ⟨t.val * 512 + (⟨256 + x0.val, by omega⟩ : Fin 512).val, row_lt t _⟩ x1 := by
      blk_ext [idx t]
    refine Eq.trans ?_ (congrArg _ he.symm)
    simp only [blk0_at, blk1_at, blk2_at, blk3_at, blk4_at, blk5_at, blk6_at, blk7_at, blk8_at, blk9_at, blk10_at,
      blk11_at]
    rfl
  · idx_vars x
    refine (upper_at _ _ _ _ _ _ _ _ _ _ _ _ x0 x1).trans ?_
    have he : ((cfg0.win 12).blk t).view.emb y = ix2 ⟨t.val * 512 + (⟨x0.val, by omega⟩ : Fin 512).val, row_lt t _⟩ x1 := by
      blk_ext [idx t]
    refine Eq.trans ?_ (congrArg _ he.symm)
    simp only [blk0_at, blk1_at, blk2_at, blk3_at, blk4_at, blk5_at, blk6_at, blk7_at, blk8_at, blk9_at, blk10_at,
      blk11_at]
    rfl

/-- The result array after the run. -/
theorem final (c : Dev nD) : (dats m 0 c).arrAt 12 (cfgs 0).N = tailOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  exact point m c t y

end Cert.Tail

end
-- ==== Proof.TailRef.lean ====
/- The tail's reference, stage by stage: its result array is `tailOf` of its arguments. -/
module

public import proofs.«01_k».proof.Proof.TailValue
public import proofs.«01_k».proof.Proof.Gen.ReferenceTailIdeal.Run

@[expose] public section

set_option maxRecDepth 16384

noncomputable section

namespace Cert.TailRef

open Cert.ReferenceTailIdeal Cert.ReferenceTailIdeal.Gen Cert.Tail
open Idealize.ShloMosaic Idealize.ShloMosaic.TcCoe Idealize.SL.Sem

/-- The merged branches over the whole array, as the reference writes them. -/
def merged (o₁ o₂ s₁ s₂ : FVec Ideal S32768x1024 .bf16) (W₁ W₂ : FVec Ideal S1x1024x1024 .f32) : FVec Ideal S32768x1024 .f32 :=
  addf (mulf (extf .f32 s₁ bitsLt_bf16_f32) (Host.dotGeneral dot_S32768x1024_S1024x1024_S32768x1024_1_0_0_1_n_n none (extf .f32 o₁ bitsLt_bf16_f32) (shapeCast S1024x1024 W₁ shapeCasts_S1x1024x1024_S1024x1024)))
    (mulf (extf .f32 s₂ bitsLt_bf16_f32) (Host.dotGeneral dot_S32768x1024_S1024x1024_S32768x1024_1_0_0_1_n_n none (extf .f32 o₂ bitsLt_bf16_f32) (shapeCast S1024x1024 W₂ shapeCasts_S1x1024x1024_S1024x1024)))

/-- The residual after the output projection. -/
def resid (x u : FVec Ideal S32768x1024 .f32) (W : FVec Ideal S1x1024x1024 .f32) : FVec Ideal S32768x1024 .f32 :=
  addf x (Host.dotGeneral dot_S32768x1024_S1024x1024_S32768x1024_1_0_0_1_n_n none u (shapeCast S1024x1024 W shapeCasts_S1x1024x1024_S1024x1024))

/-- The root-mean-square normalised array. -/
def normed (x : FVec Ideal S32768x1024 .f32) (g : FVec Ideal S1x1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 (shapeCast S1024 g shapeCasts_S1x1024_S1024)))

/-- `v` times the logistic function of `v`, spelt with a quotient. -/
def silu (v : FVec Ideal S32768x2816 .f32) : FVec Ideal S32768x2816 .f32 :=
  mulf v (Host.divf (broadcastInDim S32768x2816 ![] bcast_S_S32768x2816 (constant S_ .f32 0x3F800000#32)) (addf (broadcastInDim S32768x2816 ![] bcast_S_S32768x2816 (constant S_ .f32 0x3F800000#32)) (Host.exp (Host.negf v))))

/-- The feed-forward block added to the residual. -/
def ffn (x h : FVec Ideal S32768x1024 .f32) (Wg Wu : FVec Ideal S1x1024x2816 .f32) (Wd : FVec Ideal S1x2816x1024 .f32) : FVec Ideal S32768x1024 .f32 :=
  addf x (Host.dotGeneral dot_S32768x2816_S2816x1024_S32768x1024_1_0_0_1_n_n none (mulf (silu (Host.dotGeneral dot_S32768x1024_S1024x2816_S32768x2816_1_0_0_1_n_n none h (shapeCast S1024x2816 Wg shapeCasts_S1x1024x2816_S1024x2816))) (Host.dotGeneral dot_S32768x1024_S1024x2816_S32768x2816_1_0_0_1_n_n none h (shapeCast S1024x2816 Wu shapeCasts_S1x1024x2816_S1024x2816))) (shapeCast S2816x1024 Wd shapeCasts_S1x2816x1024_S2816x1024))

theorem merged_at (o₁ o₂ s₁ s₂ : FVec Ideal S32768x1024 .bf16) (W₁ W₂ : FVec Ideal S1x1024x1024 .f32) (r : Fin 32768) (k : Fin 1024) :
    merged o₁ o₂ s₁ s₂ W₁ W₂ (ix2 r k) = mergedRow (fun i => o₁ (ix2 r i)) (fun i => o₂ (ix2 r i)) (fun i => s₁ (ix2 r i)) (fun i => s₂ (ix2 r i))
      (fun i l => W₁ (ix3 0 i l)) (fun i l => W₂ (ix3 0 i l)) k := by
  pointwise [merged, mergedRow]

theorem resid_at (x u : FVec Ideal S32768x1024 .f32) (W : FVec Ideal S1x1024x1024 .f32) (r : Fin 32768) (k : Fin 1024) :
    resid x u W (ix2 r k) = residRow (fun i => x (ix2 r i)) (fun i => u (ix2 r i)) (fun i l => W (ix3 0 i l)) k := by
  pointwise [resid, residRow]

theorem normed_at (x : FVec Ideal S32768x1024 .f32) (g : FVec Ideal S1x1024 .f32) (r : Fin 32768) (k : Fin 1024) :
    normed x g (ix2 r k) = normRow (fun i => x (ix2 r i)) (fun i => g (ix2 0 i)) k := by
  pointwise [normed, normRow]

theorem silu_at (v : FVec Ideal S32768x2816 .f32) (r : Fin 32768) (k : Fin 2816) :
    silu v (ix2 r k) = v (ix2 r k) * Ideal.logistic (v (ix2 r k)) := by
  pointwise [silu]
  rfl

theorem ffn_at (x h : FVec Ideal S32768x1024 .f32) (Wg Wu : FVec Ideal S1x1024x2816 .f32) (Wd : FVec Ideal S1x2816x1024 .f32) (r : Fin 32768) (k : Fin 1024) :
    ffn x h Wg Wu Wd (ix2 r k) = ffnRow (fun i => x (ix2 r i)) (fun i => h (ix2 r i)) (fun i l => Wg (ix3 0 i l)) (fun i l => Wu (ix3 0 i l))
      (fun i l => Wd (ix3 0 i l)) k := by
  pointwise [ffn, ffnRow, silu_at]

variable (m : (ℓ : Loc nD τ sig) → Buf (Elt Ideal) ℓ)

set_option maxHeartbeats 1000000 in
/-- The reference's result array is the tail of its arguments. -/
theorem result (c : Dev nD) : Cert.ReferenceTailIdeal.Value.res_main_v36 m c
    = tailOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have e : Cert.ReferenceTailIdeal.Value.res_main_v36 m c
      = ffn (resid (m ((c.tc : Thread nD τ).loc main_arg0)) (merged (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)))
        (normed (resid (m ((c.tc : Thread nD τ).loc main_arg0)) (merged (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7))) (m ((c.tc : Thread nD τ).loc main_arg8)))
        (m ((c.tc : Thread nD τ).loc main_arg9)) (m ((c.tc : Thread nD τ).loc main_arg10)) (m ((c.tc : Thread nD τ).loc main_arg11)) := by
    unfold Cert.ReferenceTailIdeal.Value.res_main_v36
    rfl
  rw [e]
  funext j
  idx_vars j
  refine (ffn_at _ _ _ _ _ _ _).trans ?_
  simp only [normed_at, resid_at, merged_at]
  rfl

end Cert.TailRef

end
-- ==== Proof.TailClaims.lean ====
/- The tail's five claims: the three frames, that the idealization rewrites nothing, and the equality of the results. -/
module

public import proofs.«01_k».proof.Defs
public import proofs.«01_k».proof.Proof.Gen.KernelTail.Frame
public import proofs.«01_k».proof.Proof.TailRef
public import Idealize.ShloMosaic.Lib.Claim
public import Idealize.ShloMosaic.Lib.Quiescent

@[expose] public section

set_option maxRecDepth 16384

noncomputable section

namespace Cert.TailClaims

open Idealize.ShloMosaic Idealize.ShloMosaic.TcCoe Idealize.SL.Sem

theorem frame_p : Cert.quiescent_KernelTail := fun m ρ _ => Cert.KernelTail.Gen.frame m ρ

theorem frame_pi : Cert.quiescent_KernelTailIdeal := fun m ρ _ => Cert.KernelTailIdeal.Gen.frame m ρ

theorem frame_ri : Cert.quiescent_ReferenceTailIdeal := fun m ρ _ =>
  (θ_run Cert.ReferenceTailIdeal.defs _ _).mono (fun r h => ⟨fun c => (h c).2,
      Idealize.ShloMosaic.sem_eq_zero_of_no_sems (by decide) r.2⟩)
    (Cert.ReferenceTailIdeal.Value.run (F := Ideal) m ρ)

theorem preserves : Cert.preserves_KernelTail_KernelTailIdeal := trivial

/-- Over the extended reals the tail's kernel and its reference leave the same array. -/
theorem algebraic : Cert.algebraic_KernelTailIdeal_ReferenceTailIdeal := by
  pair_intro
  · run_from Cert.KernelTailIdeal.Gen.run_main m g
  · run_from Cert.ReferenceTailIdeal.Value.run m' g'
    obtain ⟨h0, h1, h2, h3, h4, h5, h6, h7, h8, h9, h10, h11⟩ := hagree c
    refine (Cert.TailRef.result m' c).trans ?_
    rw [h0, h1, h2, h3, h4, h5, h6, h7, h8, h9, h10, h11]
    exact (Cert.Tail.final m c).symm

end Cert.TailClaims

end
-- ==== Proof.GlaCore.lean ====
/- The arithmetic of the gated recurrence, apart from any program: the log gate, the running sums of a chunk of log
   gates, the six pivot levels by which the kernel splits a difference of two running sums, and the recurrence over
   chunks. Log gates are real numbers here; queries, keys, values and states may be infinite. -/
module

public import Idealize.ShloMosaic.Lib.Pipeline.ValueKit
public import Idealize.ShloMosaic.Lib.IdealHost

@[expose] public section

noncomputable section

namespace Cert.Gla

open Idealize.ShloMosaic

/-- A finite sum of real numbers, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem c16 : Ideal.ofBits FTy.f32 0x41800000#32 = ((16 : ℝ) : EReal) := by
  simp [Ideal.ofBits, Ideal.ieee]; rw [← EReal.coe_mul]; norm_num

theorem c16i : Ideal.ofBits FTy.f32 0x3D800000#32 = ((1 / 16 : ℝ) : EReal) := by
  simp [Ideal.ofBits, Ideal.ieee]; rw [← EReal.coe_mul]; norm_num

theorem c64 : Ideal.ofBits FTy.f32 0x42800000#32 = ((64 : ℝ) : EReal) := by
  simp [Ideal.ofBits, Ideal.ieee]; rw [← EReal.coe_mul]; norm_num

theorem c64i : Ideal.ofBits FTy.f32 0x3C800000#32 = ((1 / 64 : ℝ) : EReal) := by
  simp [Ideal.ofBits, Ideal.ieee]; rw [← EReal.coe_mul]; norm_num

/-- The log gate of a logit: a sixteenth of the log of its sigmoid. -/
def gate (z : EReal) : EReal :=
  (min z 0 - Ideal.log (1 + Ideal.exp (-(max z (-z))))) * Ideal.ofBits FTy.f32 0x3D800000#32

/-- The reference's spelling of the log gate, by the softplus of the negated logit. -/
def gateRef (z : EReal) : EReal :=
  Ideal.div (-(max (-z) 0 + Ideal.log1p (Ideal.exp (-(max (-z) (-(-z))))))) (Ideal.ofBits FTy.f32 0x41800000#32)

theorem gate_coe (r : ℝ) :
    gate (r : EReal) = (((min r 0 - Real.log (1 + Real.exp (-(max r (-r))))) * (1 / 16) : ℝ) : EReal) := by
  have h : ¬ (1 + Real.exp (-(max r (-r))) ≤ 0) := by have := Real.exp_pos (-(max r (-r))); linarith
  have hm : max (r : EReal) (-(r : EReal)) = ((max r (-r) : ℝ) : EReal) := by
    rw [← EReal.coe_neg]; exact (EReal.coe_strictMono.monotone.map_max).symm
  have hn : min (r : EReal) 0 = ((min r 0 : ℝ) : EReal) := by
    rw [← EReal.coe_zero]; exact (EReal.coe_strictMono.monotone.map_min).symm
  rw [gate, c16i, hm, hn, ← EReal.coe_neg, Ideal.exp_coe, ← EReal.coe_one, ← EReal.coe_add, Ideal.log_coe, if_neg h,
    ← EReal.coe_sub, ← EReal.coe_mul]

theorem gate_top : gate ⊤ = 0 := by
  have h : ¬ (1 : ℝ) ≤ 0 := by norm_num
  simp only [gate, EReal.neg_top, min_top_left, le_bot_iff, bot_le, sup_of_le_left, Ideal.exp_bot, add_zero]
  rw [← EReal.coe_one, Ideal.log_coe, if_neg h, Real.log_one, EReal.coe_zero, sub_zero, zero_mul]

/-- Above minus infinity the log gate is a real number, at most zero. -/
theorem gate_real {z : EReal} (hz : z ≠ ⊥) : ∃ r : ℝ, r ≤ 0 ∧ gate z = (r : EReal) := by
  induction z with
  | bot => exact absurd rfl hz
  | top => exact ⟨0, le_rfl, by rw [gate_top]; rfl⟩
  | coe r =>
    refine ⟨_, ?_, gate_coe r⟩
    have h1 : 0 ≤ Real.log (1 + Real.exp (-(max r (-r)))) :=
      Real.log_nonneg (by have := Real.exp_pos (-(max r (-r))); linarith)
    have h2 : min r 0 ≤ 0 := min_le_right _ _
    nlinarith

/-- Above minus infinity the two spellings of the log gate agree. -/
theorem gateRef_eq {z : EReal} (hz : z ≠ ⊥) : gateRef z = gate z := by
  have h16 : (16 : ℝ) ≠ 0 := by norm_num
  rw [gateRef, gate, c16, Ideal.div_coe h16, c16i]
  congr 1
  induction z with
  | bot => exact absurd rfl hz
  | top =>
    have h : ¬ (1 : ℝ) ≤ 0 := by norm_num
    simp only [Ideal.log1p, EReal.neg_top, EReal.neg_bot, min_top_left, bot_le, sup_of_le_left, sup_of_le_right, max_eq_right,
      Ideal.exp_bot, add_zero, zero_add]
    rw [← EReal.coe_one, Ideal.log_coe, if_neg h, Real.log_one, EReal.coe_zero, sub_zero, neg_zero]
  | coe r =>
    have h : ¬ (1 + Real.exp (-(max r (-r))) ≤ 0) := by have := Real.exp_pos (-(max r (-r))); linarith
    have hm : max (r : EReal) (-(r : EReal)) = ((max r (-r) : ℝ) : EReal) := by
      rw [← EReal.coe_neg]; exact (EReal.coe_strictMono.monotone.map_max).symm
    have hm' : max (-(r : EReal)) (-(-(r : EReal))) = ((max r (-r) : ℝ) : EReal) := by
      rw [neg_neg, max_comm]; exact hm
    have hn : min (r : EReal) 0 = ((min r 0 : ℝ) : EReal) := by
      rw [← EReal.coe_zero]; exact (EReal.coe_strictMono.monotone.map_min).symm
    have hx : max (-(r : EReal)) 0 = ((max (-r) 0 : ℝ) : EReal) := by
      rw [← EReal.coe_zero, ← EReal.coe_neg]; exact (EReal.coe_strictMono.monotone.map_max).symm
    rw [hm', hm, hn, hx, Ideal.log1p, ← EReal.coe_neg, Ideal.exp_coe, ← EReal.coe_one, ← EReal.coe_add, Ideal.log_coe,
      if_neg h, ← EReal.coe_add, ← EReal.coe_neg, ← EReal.coe_sub]
    congr 1
    have : max (-r) 0 = - min r 0 := by rw [← neg_zero, max_neg_neg, neg_zero]
    rw [this]; ring

/-- The running sum of a chunk's log gates up to and with row `i`. -/
def cum (g : Fin 64 → EReal) (i : Fin 64) : EReal := ∑ m, if m ≤ i then g m else 0

/-- The same over the real numbers. -/
def cumR (g : Fin 64 → ℝ) (i : Fin 64) : ℝ := ∑ m, if m ≤ i then g m else 0

theorem cum_coe (g : Fin 64 → ℝ) (i : Fin 64) : cum (fun m => (g m : EReal)) i = (cumR g i : EReal) := by
  rw [cum, cumR, coe_sum]
  exact Finset.sum_congr rfl fun m _ => by split_ifs <;> simp

/-- The running sum decreases, the log gates being at most zero. -/
theorem cumR_anti (g : Fin 64 → ℝ) (hg : ∀ m, g m ≤ 0) {i j : Fin 64} (h : j ≤ i) : cumR g i ≤ cumR g j := by
  refine Finset.sum_le_sum fun m _ => ?_
  by_cases h1 : m ≤ j
  · rw [if_pos (h1.trans h), if_pos h1]
  · rw [if_neg h1]; split_ifs
    · exact hg m
    · exact le_rfl

/-- A segment sum is the difference of two running sums. -/
theorem seg_eq (g : Fin 64 → ℝ) {i j : Fin 64} (h : j ≤ i) :
    (∑ m, if j < m ∧ m ≤ i then g m else 0) = cumR g i - cumR g j := by
  rw [cumR, cumR, ← Finset.sum_sub_distrib]
  refine Finset.sum_congr rfl fun m _ => ?_
  by_cases h1 : m ≤ j
  · rw [if_neg (fun hh => absurd hh.1 (not_lt.mpr h1)), if_pos (h1.trans h), if_pos h1, sub_self]
  · by_cases h2 : m ≤ i
    · rw [if_pos ⟨not_le.mp h1, h2⟩, if_pos h2, if_neg h1, sub_zero]
    · rw [if_neg (fun hh => h2 hh.2), if_neg h2, if_neg h1, sub_zero]

/-- Row `n·(i/n) + n − 1`: the last row of the block of `n` that holds row `i`. -/
def lastOf (n : ℕ) (hn : 64 % n = 0 ∧ 0 < n) (i : Fin 64) : Fin 64 :=
  ⟨n * (i.val / n) + n - 1, by
    have h1 : i.val / n < 64 / n := Nat.div_lt_div_of_lt_of_dvd (Nat.dvd_of_mod_eq_zero hn.1) i.isLt
    have h2 : n * (i.val / n + 1) ≤ n * (64 / n) := Nat.mul_le_mul_left _ h1
    rw [Nat.mul_div_cancel' (Nat.dvd_of_mod_eq_zero hn.1), Nat.mul_add, Nat.mul_one] at h2
    have := hn.2
    omega⟩

/-- Row `n·(i/n) − 1`: the row before the block of `n` that holds row `i` (row 0 where there is none). -/
def beforeOf (n : ℕ) (i : Fin 64) : Fin 64 := ⟨n * (i.val / n) - 1, by have := Nat.mul_div_le i.val n; omega⟩

/-- The exponent of row `i` at the level of blocks of `n`: in an odd block what lies between the pivot before the block
    and the row, in an even one what lies between the row and the block's last row. -/
def lev (n : ℕ) (hn : 64 % n = 0 ∧ 0 < n) (g : Fin 64 → EReal) (i : Fin 64) : EReal :=
  if i.val / n % 2 = 1 then cum g i - cum g (beforeOf n i) else cum g (lastOf n hn i) - cum g i

/-- Two rows of which the first lies in an odd block of `n` and the second in the block before. -/
def pairAt (n : ℕ) (i j : Fin 64) : Bool := i.val / n == j.val / n + 1 && i.val / n % 2 == 1

/-- At a pair's level the two exponents add up to the difference of the running sums. -/
theorem lev_pair (n : ℕ) (hn : 64 % n = 0 ∧ 0 < n) (g : Fin 64 → ℝ) (i j : Fin 64) (h : pairAt n i j = true) :
    Ideal.exp (lev n hn (fun m => (g m : EReal)) i) * Ideal.exp (lev n hn (fun m => (g m : EReal)) j)
      = Ideal.exp (cum (fun m => (g m : EReal)) i - cum (fun m => (g m : EReal)) j) := by
  simp only [pairAt, Bool.and_eq_true, beq_iff_eq] at h
  have hj : ¬ j.val / n % 2 = 1 := by omega
  have hp : beforeOf n i = lastOf n hn j := by
    apply Fin.ext
    show n * (i.val / n) - 1 = n * (j.val / n) + n - 1
    rw [h.1, Nat.mul_add, Nat.mul_one]
  rw [lev, lev, if_pos h.2, if_neg hj, hp]
  simp only [cum_coe, ← EReal.coe_sub, Ideal.exp_coe, ← EReal.coe_mul, ← Real.exp_add]
  congr 2
  ring

/-- The kernel's choice of scores over the levels: the diagonal, then blocks of 32, 16, 8, 4, 2 and 1. -/
def pick (i j : Fin 64) (d s32 s16 s8 s4 s2 s1 : EReal) : EReal :=
  if pairAt 1 i j then s1 else if pairAt 2 i j then s2 else if pairAt 4 i j then s4 else if pairAt 8 i j then s8
  else if pairAt 16 i j then s16 else if pairAt 32 i j then s32 else if i = j then d else 0

theorem pick_upper : ∀ i j : Fin 64, i < j →
    (pairAt 1 i j || pairAt 2 i j || pairAt 4 i j || pairAt 8 i j || pairAt 16 i j || pairAt 32 i j) = false := by
  decide +kernel

theorem pick_diag : ∀ i : Fin 64,
    (pairAt 1 i i || pairAt 2 i i || pairAt 4 i i || pairAt 8 i i || pairAt 16 i i || pairAt 32 i i) = false := by
  decide +kernel

theorem pick_lower : ∀ i j : Fin 64, j < i →
    (pairAt 1 i j || pairAt 2 i j || pairAt 4 i j || pairAt 8 i j || pairAt 16 i j || pairAt 32 i j) = true := by
  decide +kernel

/-- The score of query row `i` against key row `j`: their product under the gates between, and zero above the diagonal. -/
def score (q k : Fin 64 → Fin 128 → EReal) (g : Fin 64 → Fin 128 → EReal) (i j : Fin 64) : EReal :=
  if j ≤ i then ∑ l, q i l * k j l * Ideal.exp (cum (fun m => g m l) i - cum (fun m => g m l) j) else 0

/-- The score at one level. -/
def scoreAt (n : ℕ) (hn : 64 % n = 0 ∧ 0 < n) (q k : Fin 64 → Fin 128 → EReal) (g : Fin 64 → Fin 128 → EReal)
    (i j : Fin 64) : EReal :=
  ∑ l, (q i l * Ideal.exp (lev n hn (fun m => g m l) i)) * (k j l * Ideal.exp (lev n hn (fun m => g m l) j))

/-- A pair's score at its level is its score. -/
theorem scoreAt_eq (n : ℕ) (hn : 64 % n = 0 ∧ 0 < n) (q k : Fin 64 → Fin 128 → EReal) (g : Fin 64 → Fin 128 → ℝ)
    (i j : Fin 64) (h : pairAt n i j = true) (hij : j < i) :
    scoreAt n hn q k (fun m l => (g m l : EReal)) i j = score q k (fun m l => (g m l : EReal)) i j := by
  rw [scoreAt, score, if_pos hij.le]
  exact Finset.sum_congr rfl fun l _ => by rw [mul_mul_mul_comm, lev_pair n hn (fun m => g m l) i j h]

/-- The scores picked level by level are the scores. -/
theorem pick_eq (q k : Fin 64 → Fin 128 → EReal) (g : Fin 64 → Fin 128 → ℝ) (i j : Fin 64) :
    pick i j (∑ l, q i l * k j l)
      (scoreAt 32 (by decide) q k (fun m l => (g m l : EReal)) i j) (scoreAt 16 (by decide) q k (fun m l => (g m l : EReal)) i j)
      (scoreAt 8 (by decide) q k (fun m l => (g m l : EReal)) i j) (scoreAt 4 (by decide) q k (fun m l => (g m l : EReal)) i j)
      (scoreAt 2 (by decide) q k (fun m l => (g m l : EReal)) i j) (scoreAt 1 (by decide) q k (fun m l => (g m l : EReal)) i j)
      = score q k (fun m l => (g m l : EReal)) i j := by
  rcases lt_trichotomy i j with h | h | h
  · have hp := pick_upper i j h
    simp only [Bool.or_eq_false_iff] at hp
    obtain ⟨⟨⟨⟨⟨h1, h2⟩, h3⟩, h4⟩, h5⟩, h6⟩ := hp
    rw [score, if_neg (not_le.mpr h)]
    simp [pick, h1, h2, h3, h4, h5, h6, h.ne]
  · subst h
    have hp := pick_diag i
    simp only [Bool.or_eq_false_iff] at hp
    obtain ⟨⟨⟨⟨⟨h1, h2⟩, h3⟩, h4⟩, h5⟩, h6⟩ := hp
    rw [score, if_pos le_rfl]
    simp only [pick, h1, h2, h3, h4, h5, h6, if_true, if_false, Bool.false_eq_true]
    refine Finset.sum_congr rfl fun l _ => ?_
    rw [cum_coe, ← EReal.coe_sub, sub_self, Ideal.exp_coe, Real.exp_zero, EReal.coe_one, mul_one]
  · have hp := pick_lower i j h
    unfold pick
    split_ifs with h1 h2 h3 h4 h5 h6
    · exact scoreAt_eq 1 _ q k g i j h1 h
    · exact scoreAt_eq 2 _ q k g i j h2 h
    · exact scoreAt_eq 4 _ q k g i j h3 h
    · exact scoreAt_eq 8 _ q k g i j h4 h
    · exact scoreAt_eq 16 _ q k g i j h5 h
    · exact scoreAt_eq 32 _ q k g i j h6 h
    · simp [h1, h2, h3, h4, h5, h6] at hp
    · simp [h1, h2, h3, h4, h5, h6] at hp

/-- The reference's exponent, cut off at zero, is the difference of the running sums on and below the diagonal. -/
theorem cut_eq (g : Fin 64 → ℝ) (hg : ∀ m, g m ≤ 0) {i j : Fin 64} (h : j ≤ i) :
    min (cum (fun m => (g m : EReal)) i - cum (fun m => (g m : EReal)) j) 0
      = cum (fun m => (g m : EReal)) i - cum (fun m => (g m : EReal)) j := by
  refine min_eq_left ?_
  rw [cum_coe, cum_coe, ← EReal.coe_sub, ← EReal.coe_zero, EReal.coe_le_coe_iff]
  have := cumR_anti g hg h
  linarith

/-- The state after a chunk, from the state before it. -/
def stepS (k : Fin 64 → Fin 128 → EReal) (v : Fin 64 → Fin 256 → EReal) (g : Fin 64 → Fin 128 → EReal)
    (S : Fin 128 → Fin 256 → EReal) (a : Fin 128) (c : Fin 256) : EReal :=
  S a c * Ideal.exp (cum (fun m => g m a) 63)
    + ∑ j, k j a * Ideal.exp (cum (fun m => g m a) 63 - cum (fun m => g m a) j) * v j c

/-- A chunk's output row, from the state before it. -/
def outRow (q k : Fin 64 → Fin 128 → EReal) (v : Fin 64 → Fin 256 → EReal) (g : Fin 64 → Fin 128 → EReal)
    (S : Fin 128 → Fin 256 → EReal) (i : Fin 64) (c : Fin 256) : EReal :=
  (∑ l, q i l * Ideal.exp (cum (fun m => g m l) i) * S l c) + ∑ j, score q k g i j * v j c

/-- The state before chunk `n` of a sequence, from zero. -/
def stateAt (k : ℕ → Fin 64 → Fin 128 → EReal) (v : ℕ → Fin 64 → Fin 256 → EReal) (g : ℕ → Fin 64 → Fin 128 → EReal) :
    ℕ → Fin 128 → Fin 256 → EReal
  | 0 => fun _ _ => 0
  | n + 1 => stepS (k n) (v n) (g n) (stateAt k v g n)

/-- An output row divided by its root mean square, scaled and gated. -/
def gatedRow (o ng : Fin 256 → EReal) (s : EReal) (c : Fin 256) : EReal :=
  o c * Ideal.rsqrt (Ideal.div (∑ i, o i * o i) (Ideal.ofBits FTy.f32 0x43800000#32) + Ideal.ofBits FTy.f32 0x358637BD#32) * ng c * s

end Cert.Gla
-- ==== Proof.GlaStage.lean ====
/- The kernel's body, one chunk of one head at a time: what the printed body computes of a chunk's exponents, of its
   output and of the state it hands on, as functions of the rows read. -/
module

public import proofs.«01_k».proof.Proof.Gen.KernelGlaIdeal.Skeleton
public import proofs.«01_k».proof.Proof.GlaCore
public import Idealize.ShloMosaic.Lib.Pipeline.ValueKit

@[expose] public section

set_option maxRecDepth 16384

noncomputable section

namespace Cert.Gla

open Cert.KernelGlaIdeal Cert.KernelGlaIdeal.Gen
open Idealize.ShloMosaic Idealize.ShloMosaic.TcCoe Idealize.SL.Sem

/-- A chunk's log gates and what their rounding drops, one above the other. -/
def hilo (g : FVec Ideal S64x128 .f32) : FVec Ideal S128x128 .bf16 :=
  concatenate S128x128 0 [⟨S64x128, truncf .bf16 g bitsLt_bf16_f32⟩,
    ⟨S64x128, truncf .bf16 (subf g (extf .f32 (truncf .bf16 g bitsLt_bf16_f32) bitsLt_bf16_f32)) bitsLt_bf16_f32⟩]
    concatenates_S64x128_S64x128_S128x128_d0

/-- The level matrix times the log gates of two chunks side by side. -/
def pairC (cm : FVec Ideal S256x128 .bf16) (g0 g1 : FVec Ideal S64x128 .f32) : FVec Ideal S256x256 .f32 :=
  matmul dot_S256x128_S128x256_S256x256_1_0_0_1_n_n none cm
    (concatenate S128x256 1 [⟨S128x128, hilo g0⟩, ⟨S128x128, hilo g1⟩] concatenates_S128x128_S128x128_S128x256_d1)
    (constant S256x256 .f32 0x00000000#32)

/-- The first chunk's half of the product. -/
def half0 (P : FVec Ideal S256x256 .f32) : FVec Ideal S256x128 .f32 :=
  extractStridedSlice S256x128 ![0, 0] P slices_S256x256_o0_0_S256x128

/-- The second chunk's half of the product. -/
def half1 (P : FVec Ideal S256x256 .f32) : FVec Ideal S256x128 .f32 :=
  extractStridedSlice S256x128 ![0, 128] P slices_S256x256_o0_128_S256x128

/-- The running sums of a half. -/
def cumC (A : FVec Ideal S256x128 .f32) : FVec Ideal S64x128 .f32 :=
  extractStridedSlice S64x128 ![0, 0] A slices_S256x128_o0_0_S64x128

/-- From row `b` of the running sums, 32 rows subtracted from row `p`. -/
def lo32 (C : FVec Ideal S64x128 .f32) (p b : ℕ) (hp : S64x128.Slices ![p, 0] S1x128) (hb : S64x128.Slices ![b, 0] S32x128) :
    FVec Ideal S32x128 .f32 :=
  subf (broadcastTo S32x128 (extractStridedSlice S1x128 ![p, 0] C hp) broadcasts_S1x128_S32x128)
    (extractStridedSlice S32x128 ![b, 0] C hb)

/-- From row `b` of the running sums, 32 rows less row `p`. -/
def up32 (C : FVec Ideal S64x128 .f32) (p b : ℕ) (hp : S64x128.Slices ![p, 0] S1x128) (hb : S64x128.Slices ![b, 0] S32x128) :
    FVec Ideal S32x128 .f32 :=
  subf (extractStridedSlice S32x128 ![b, 0] C hb)
    (broadcastTo S32x128 (extractStridedSlice S1x128 ![p, 0] C hp) broadcasts_S1x128_S32x128)

/-- From row `b` of the running sums, 16 rows subtracted from row `p`. -/
def lo16 (C : FVec Ideal S64x128 .f32) (p b : ℕ) (hp : S64x128.Slices ![p, 0] S1x128) (hb : S64x128.Slices ![b, 0] S16x128) :
    FVec Ideal S16x128 .f32 :=
  subf (broadcastTo S16x128 (extractStridedSlice S1x128 ![p, 0] C hp) broadcasts_S1x128_S16x128)
    (extractStridedSlice S16x128 ![b, 0] C hb)

/-- From row `b` of the running sums, 16 rows less row `p`. -/
def up16 (C : FVec Ideal S64x128 .f32) (p b : ℕ) (hp : S64x128.Slices ![p, 0] S1x128) (hb : S64x128.Slices ![b, 0] S16x128) :
    FVec Ideal S16x128 .f32 :=
  subf (extractStridedSlice S16x128 ![b, 0] C hb)
    (broadcastTo S16x128 (extractStridedSlice S1x128 ![p, 0] C hp) broadcasts_S1x128_S16x128)

/-- From row `b` of the running sums, 8 rows subtracted from row `p`. -/
def lo8 (C : FVec Ideal S64x128 .f32) (p b : ℕ) (hp : S64x128.Slices ![p, 0] S1x128) (hb : S64x128.Slices ![b, 0] S8x128) :
    FVec Ideal S8x128 .f32 :=
  subf (broadcastTo S8x128 (extractStridedSlice S1x128 ![p, 0] C hp) broadcasts_S1x128_S8x128)
    (extractStridedSlice S8x128 ![b, 0] C hb)

/-- From row `b` of the running sums, 8 rows less row `p`. -/
def up8 (C : FVec Ideal S64x128 .f32) (p b : ℕ) (hp : S64x128.Slices ![p, 0] S1x128) (hb : S64x128.Slices ![b, 0] S8x128) :
    FVec Ideal S8x128 .f32 :=
  subf (extractStridedSlice S8x128 ![b, 0] C hb)
    (broadcastTo S8x128 (extractStridedSlice S1x128 ![p, 0] C hp) broadcasts_S1x128_S8x128)

/-- A chunk's exponents: eight blocks of 64 rows, namely the running sums, what is left to the chunk's end, and the six
    levels. -/
def argC (A : FVec Ideal S256x128 .f32) : FVec Ideal S512x128 .f32 :=
  concatenate S512x128 0 [⟨S64x128, cumC A⟩,
    ⟨S64x128, subf (broadcastTo S64x128 (extractStridedSlice S1x128 ![63, 0] (cumC A) slices_S64x128_o63_0_S1x128) broadcasts_S1x128_S64x128) (cumC A)⟩,
    ⟨S32x128, lo32 (cumC A) 31 0 slices_S64x128_o31_0_S1x128 slices_S64x128_o0_0_S32x128⟩,
    ⟨S32x128, up32 (cumC A) 31 32 slices_S64x128_o31_0_S1x128 slices_S64x128_o32_0_S32x128⟩,
    ⟨S16x128, lo16 (cumC A) 15 0 slices_S64x128_o15_0_S1x128 slices_S64x128_o0_0_S16x128⟩,
    ⟨S16x128, up16 (cumC A) 15 16 slices_S64x128_o15_0_S1x128 slices_S64x128_o16_0_S16x128⟩,
    ⟨S16x128, lo16 (cumC A) 47 32 slices_S64x128_o47_0_S1x128 slices_S64x128_o32_0_S16x128⟩,
    ⟨S16x128, up16 (cumC A) 47 48 slices_S64x128_o47_0_S1x128 slices_S64x128_o48_0_S16x128⟩,
    ⟨S8x128, lo8 (cumC A) 7 0 slices_S64x128_o7_0_S1x128 slices_S64x128_o0_0_S8x128⟩,
    ⟨S8x128, up8 (cumC A) 7 8 slices_S64x128_o7_0_S1x128 slices_S64x128_o8_0_S8x128⟩,
    ⟨S8x128, lo8 (cumC A) 23 16 slices_S64x128_o23_0_S1x128 slices_S64x128_o16_0_S8x128⟩,
    ⟨S8x128, up8 (cumC A) 23 24 slices_S64x128_o23_0_S1x128 slices_S64x128_o24_0_S8x128⟩,
    ⟨S8x128, lo8 (cumC A) 39 32 slices_S64x128_o39_0_S1x128 slices_S64x128_o32_0_S8x128⟩,
    ⟨S8x128, up8 (cumC A) 39 40 slices_S64x128_o39_0_S1x128 slices_S64x128_o40_0_S8x128⟩,
    ⟨S8x128, lo8 (cumC A) 55 48 slices_S64x128_o55_0_S1x128 slices_S64x128_o48_0_S8x128⟩,
    ⟨S8x128, up8 (cumC A) 55 56 slices_S64x128_o55_0_S1x128 slices_S64x128_o56_0_S8x128⟩,
    ⟨S192x128, extractStridedSlice S192x128 ![64, 0] A slices_S256x128_o64_0_S192x128⟩]
    concatenates_S64x128_S64x128_S32x128_S32x128_S16x128_S16x128_S16x128_S16x128_S8x128_S8x128_S8x128_S8x128_S8x128_S8x128_S8x128_S8x128_S192x128_S512x128_d0

/-- Their exponentials. -/
def exC (arg : FVec Ideal S512x128 .f32) : FVec Ideal S512x128 .bf16 := exp (truncf .bf16 arg bitsLt_bf16_f32)

/-- The products of queries and keys scaled by the 64 exponentials from row `b`. -/
def scL (q k : FVec Ideal S64x128 .bf16) (ex : FVec Ideal S512x128 .bf16) (b : ℕ) (hb : S512x128.Slices ![b, 0] S64x128) :
    FVec Ideal S64x64 .f32 :=
  matmul dot_S64x128_S64x128_S64x64_1_1_0_0_n_n none (mulf q (extractStridedSlice S64x128 ![b, 0] ex hb))
    (mulf k (extractStridedSlice S64x128 ![b, 0] ex hb)) (constant S64x64 .f32 0x00000000#32)

/-- The level mask for blocks of `2 ^ sh` rows. -/
def maskC (sh : BitVec 32) : IVec S64x64 1 :=
  andi (cmpi .eq (shrsi (iota .tc S64x64 32 [0] iota_S64x64_d0_w32) (broadcast S64x64 sh))
      (addi (shrsi (iota .tc S64x64 32 [1] iota_S64x64_d1_w32) (broadcast S64x64 sh)) (broadcast S64x64 1#32)))
    (cmpi .eq (andi (shrsi (iota .tc S64x64 32 [0] iota_S64x64_d0_w32) (broadcast S64x64 sh)) (broadcast S64x64 1#32))
      (broadcast S64x64 1#32))

/-- A chunk's scores. -/
def scoreC (q k : FVec Ideal S64x128 .bf16) (ex : FVec Ideal S512x128 .bf16) : FVec Ideal S64x64 .f32 :=
  select (maskC 0#32) (scL q k ex 448 slices_S512x128_o448_0_S64x128)
  (select (maskC 1#32) (scL q k ex 384 slices_S512x128_o384_0_S64x128)
  (select (maskC 2#32) (scL q k ex 320 slices_S512x128_o320_0_S64x128)
  (select (maskC 3#32) (scL q k ex 256 slices_S512x128_o256_0_S64x128)
  (select (maskC 4#32) (scL q k ex 192 slices_S512x128_o192_0_S64x128)
  (select (maskC 5#32) (scL q k ex 128 slices_S512x128_o128_0_S64x128)
  (select (cmpi .eq (iota .tc S64x64 32 [0] iota_S64x64_d0_w32) (iota .tc S64x64 32 [1] iota_S64x64_d1_w32))
    (matmul dot_S64x128_S64x128_S64x64_1_1_0_0_n_n none q k (constant S64x64 .f32 0x00000000#32))
    (broadcast S64x64 (Scalar.ofBits .f32 0x00000000#32))))))))

/-- A chunk's output before the norm. -/
def oC (arg : FVec Ideal S512x128 .f32) (q k : FVec Ideal S64x128 .bf16) (v : FVec Ideal S64x256 .bf16)
    (S : FVec Ideal S128x256 .f32) : FVec Ideal S64x256 .f32 :=
  addf (matmul dot_S64x64_S64x256_S64x256_1_0_0_1_n_n none (truncf .bf16 (scoreC q k (exC arg)) bitsLt_bf16_f32) v
      (constant S64x256 .f32 0x00000000#32))
    (matmul dot_S64x128_S128x256_S64x256_1_0_0_1_n_n none
      (mulf q (extractStridedSlice S64x128 ![0, 0] (exC arg) slices_S512x128_o0_0_S64x128))
      (truncf .bf16 S bitsLt_bf16_f32) (constant S64x256 .f32 0x00000000#32))

/-- An output normalised, scaled and gated. -/
def ogC (o : FVec Ideal S64x256 .f32) (ng : FVec Ideal S1x256 .f32) (sr : FVec Ideal S64x256 .bf16) : FVec Ideal S64x256 .bf16 :=
  truncf .bf16 (mulf (mulf (mulf o (broadcastTo S64x256 (rsqrt (addf (divf (shapeCast S64x1
      (multiReduction .add [1] S64 (mulf o o) 0x00000000#32 reduces_S64x256_S64 (.inl rfl) rfl) shapeCasts_S64_S64x1)
      (broadcast S64x1 (Scalar.ofBits .f32 0x43800000#32))) (broadcast S64x1 (Scalar.ofBits .f32 0x358637BD#32))))
      broadcasts_S64x1_S64x256))
    (broadcastTo S64x256 (shapeCast S1x256 ng shapeCasts_S1x256_S1x256) broadcasts_S1x256_S64x256))
    (extf .f32 sr bitsLt_bf16_f32)) bitsLt_bf16_f32

/-- The state after a chunk. -/
def stC (arg : FVec Ideal S512x128 .f32) (k : FVec Ideal S64x128 .bf16) (v : FVec Ideal S64x256 .bf16)
    (S : FVec Ideal S128x256 .f32) : FVec Ideal S128x256 .f32 :=
  addf (mulf S (concatenate S128x256 1
      [⟨S128x128, transpose S128x128 [1, 0] (broadcastTo S128x128 (shapeCast S1x128
          (exp (extractStridedSlice S1x128 ![63, 0] arg slices_S512x128_o63_0_S1x128)) shapeCasts_S1x128_S1x128)
          broadcasts_S1x128_S128x128) transposes_S128x128_p1_0_S128x128⟩,
       ⟨S128x128, transpose S128x128 [1, 0] (broadcastTo S128x128 (shapeCast S1x128
          (exp (extractStridedSlice S1x128 ![63, 0] arg slices_S512x128_o63_0_S1x128)) shapeCasts_S1x128_S1x128)
          broadcasts_S1x128_S128x128) transposes_S128x128_p1_0_S128x128⟩]
      concatenates_S128x128_S128x128_S128x256_d1))
    (matmul dot_S64x128_S64x256_S128x256_0_0_1_1_n_n none
      (mulf k (extractStridedSlice S64x128 ![64, 0] (exC arg) slices_S512x128_o64_0_S64x128)) v
      (constant S128x256 .f32 0x00000000#32))

end Cert.Gla
-- ==== Proof.GlaUnit.lean ====
/- The exponents of a chunk read at an entry: the running sums, what is left to the chunk's end, and the six pivot
   levels, from the log gates and the level matrix. -/
module

public import proofs.«01_k».proof.Proof.GlaStage
public import Idealize.ShloMosaic.Lib.Pipeline.Value

@[expose] public section

set_option maxRecDepth 16384

noncomputable section

namespace Cert.Gla

open Cert.KernelGlaIdeal Cert.KernelGlaIdeal.Gen
open Idealize.ShloMosaic Idealize.ShloMosaic.TcCoe Idealize.SL.Sem

theorem hilo_at (g : FVec Ideal S64x128 .f32) (m : Fin 128) (l : Fin 128) :
    hilo g (ix2 m l) = if h : m.val < 64 then g (ix2 ⟨m.val, h⟩ l)
      else g (ix2 ⟨m.val - 64, by omega⟩ l) - g (ix2 ⟨m.val - 64, by omega⟩ l) := by
  pointwise [hilo]

theorem half0_at (cm : FVec Ideal S256x128 .bf16) (g0 g1 : FVec Ideal S64x128 .f32) (r : Fin 256) (l : Fin 128) :
    half0 (pairC cm g0 g1) (ix2 r l) = ∑ m : Fin 128, cm (ix2 r m) * hilo g0 (ix2 m l) := by
  pointwise [half0, pairC]

theorem half1_at (cm : FVec Ideal S256x128 .bf16) (g0 g1 : FVec Ideal S64x128 .f32) (r : Fin 256) (l : Fin 128) :
    half1 (pairC cm g0 g1) (ix2 r l) = ∑ m : Fin 128, cm (ix2 r m) * hilo g1 (ix2 m l) := by
  pointwise [half1, pairC]

/-- Which log gates row `r` of the level matrix adds up. -/
def segB (r : Fin 256) (m : Fin 64) : Bool :=
  if r.val / 64 = 0 then decide (m.val ≤ r.val % 64)
  else if r.val / 64 = 1 then segN 4 (r.val % 64) m.val
  else if r.val / 64 = 2 then segN 2 (r.val % 64) m.val else segN 1 (r.val % 64) m.val
where
  /-- The segment between a row and its pivot, at blocks of `n`. -/
  segN (n i m : ℕ) : Bool :=
    if i / n % 2 = 1 then decide (n * (i / n) - 1 < m ∧ m ≤ i) else decide (i < m ∧ m ≤ n * (i / n) + n - 1)

theorem segB_4 (r : Fin 256) (m : Fin 64) (h : r.val / 64 = 1) : segB r m = segB.segN 4 (r.val % 64) m.val := by
  rw [segB, if_neg (by omega), if_pos h]

theorem segB_2 (r : Fin 256) (m : Fin 64) (h : r.val / 64 = 2) : segB r m = segB.segN 2 (r.val % 64) m.val := by
  rw [segB, if_neg (by omega), if_neg (by omega), if_pos h]

theorem segB_1 (r : Fin 256) (m : Fin 64) (h : r.val / 64 = 3) : segB r m = segB.segN 1 (r.val % 64) m.val := by
  rw [segB, if_neg (by omega), if_neg (by omega), if_neg (by omega)]

/-- The level matrix read at an entry. -/
def IsLevels (cm : FVec Ideal S256x128 .bf16) : Prop :=
  ∀ (r : Fin 256) (m : Fin 128), cm (ix2 r m) = if segB r ⟨m.val % 64, Nat.mod_lt _ (by decide)⟩ then 1 else 0

/-- A row of the level matrix times a chunk of real log gates. -/
theorem levels_sum (cm : FVec Ideal S256x128 .bf16) (hcm : IsLevels cm) (g : FVec Ideal S64x128 .f32) (G : Fin 64 → ℝ) (l : Fin 128)
    (hg : ∀ m, g (ix2 m l) = (G m : EReal)) (r : Fin 256) :
    ∑ m : Fin 128, cm (ix2 r m) * hilo g (ix2 m l) = ((∑ m : Fin 64, if segB r m then G m else 0 : ℝ) : EReal) := by
  rw [show (∑ m : Fin 128, cm (ix2 r m) * hilo g (ix2 m l))
      = ∑ m : Fin (64 + 64), cm (ix2 r (m : Fin 128)) * hilo g (ix2 (m : Fin 128) l) from rfl, Fin.sum_univ_add]
  have h2 : ∀ m : Fin 64, cm (ix2 r (Fin.natAdd 64 m : Fin 128)) * hilo g (ix2 (Fin.natAdd 64 m : Fin 128) l) = 0 := by
    intro m
    rw [hilo_at, dif_neg (by simp), hg, ← EReal.coe_sub, sub_self, EReal.coe_zero, mul_zero]
  rw [Finset.sum_congr rfl (fun m _ => h2 m), Finset.sum_const_zero, add_zero, coe_sum]
  refine Finset.sum_congr rfl fun m _ => ?_
  have hm : (⟨(Fin.castAdd 64 m : Fin 128).val % 64, Nat.mod_lt _ (by decide)⟩ : Fin 64) = m :=
    Fin.ext (Nat.mod_eq_of_lt m.isLt)
  rw [hilo_at, dif_pos (show (Fin.castAdd 64 m : Fin 128).val < 64 from m.isLt), hcm, hm]
  rw [show g (ix2 (⟨(Fin.castAdd 64 m : Fin 128).val, m.isLt⟩ : Fin 64) l) = (G m : EReal) from hg m]
  split_ifs <;> simp

theorem arg_p0 (A : FVec Ideal S256x128 .f32) (i : Fin 64) (l : Fin 128) :
    argC A (ix2 (⟨0 + i.val, by omega⟩ : Fin 512) l) = A (ix2 (⟨i.val, by omega⟩ : Fin 256) l) := by
  refine (concatenate_apply_piece (0 : Fin S512x128.rank) _ _ _ 0 (by show 0 < 17; decide) S64x128 _ rfl rfl 0 (by simp [S64x128, S32x128, S16x128, S8x128, S192x128, S512x128]) (ix2 i l)
    (by intro b hb; fin_cases b; exacts [absurd rfl hb, rfl]) rfl).trans ?_
  pointwise [cumC]

theorem arg_p1 (A : FVec Ideal S256x128 .f32) (i : Fin 64) (l : Fin 128) :
    argC A (ix2 (⟨64 + i.val, by omega⟩ : Fin 512) l) = A (ix2 (⟨63, by omega⟩ : Fin 256) l) - A (ix2 (⟨i.val, by omega⟩ : Fin 256) l) := by
  refine (concatenate_apply_piece (0 : Fin S512x128.rank) _ _ _ 1 (by show 1 < 17; decide) S64x128 _ rfl rfl 64 (by simp [S64x128, S32x128, S16x128, S8x128, S192x128, S512x128]) (ix2 i l)
    (by intro b hb; fin_cases b; exacts [absurd rfl hb, rfl]) rfl).trans ?_
  pointwise [cumC]

theorem arg_p2 (A : FVec Ideal S256x128 .f32) (i : Fin 32) (l : Fin 128) :
    argC A (ix2 (⟨128 + i.val, by omega⟩ : Fin 512) l) = A (ix2 (⟨31, by omega⟩ : Fin 256) l) - A (ix2 (⟨0 + i.val, by omega⟩ : Fin 256) l) := by
  refine (concatenate_apply_piece (0 : Fin S512x128.rank) _ _ _ 2 (by show 2 < 17; decide) S32x128 _ rfl rfl 128 (by simp [S64x128, S32x128, S16x128, S8x128, S192x128, S512x128]) (ix2 i l)
    (by intro b hb; fin_cases b; exacts [absurd rfl hb, rfl]) rfl).trans ?_
  pointwise [cumC, lo32]

theorem arg_p3 (A : FVec Ideal S256x128 .f32) (i : Fin 32) (l : Fin 128) :
    argC A (ix2 (⟨160 + i.val, by omega⟩ : Fin 512) l) = A (ix2 (⟨32 + i.val, by omega⟩ : Fin 256) l) - A (ix2 (⟨31, by omega⟩ : Fin 256) l) := by
  refine (concatenate_apply_piece (0 : Fin S512x128.rank) _ _ _ 3 (by show 3 < 17; decide) S32x128 _ rfl rfl 160 (by simp [S64x128, S32x128, S16x128, S8x128, S192x128, S512x128]) (ix2 i l)
    (by intro b hb; fin_cases b; exacts [absurd rfl hb, rfl]) rfl).trans ?_
  pointwise [cumC, up32]

theorem arg_p4 (A : FVec Ideal S256x128 .f32) (i : Fin 16) (l : Fin 128) :
    argC A (ix2 (⟨192 + i.val, by omega⟩ : Fin 512) l) = A (ix2 (⟨15, by omega⟩ : Fin 256) l) - A (ix2 (⟨0 + i.val, by omega⟩ : Fin 256) l) := by
  refine (concatenate_apply_piece (0 : Fin S512x128.rank) _ _ _ 4 (by show 4 < 17; decide) S16x128 _ rfl rfl 192 (by simp [S64x128, S32x128, S16x128, S8x128, S192x128, S512x128]) (ix2 i l)
    (by intro b hb; fin_cases b; exacts [absurd rfl hb, rfl]) rfl).trans ?_
  pointwise [cumC, lo16]

theorem arg_p5 (A : FVec Ideal S256x128 .f32) (i : Fin 16) (l : Fin 128) :
    argC A (ix2 (⟨208 + i.val, by omega⟩ : Fin 512) l) = A (ix2 (⟨16 + i.val, by omega⟩ : Fin 256) l) - A (ix2 (⟨15, by omega⟩ : Fin 256) l) := by
  refine (concatenate_apply_piece (0 : Fin S512x128.rank) _ _ _ 5 (by show 5 < 17; decide) S16x128 _ rfl rfl 208 (by simp [S64x128, S32x128, S16x128, S8x128, S192x128, S512x128]) (ix2 i l)
    (by intro b hb; fin_cases b; exacts [absurd rfl hb, rfl]) rfl).trans ?_
  pointwise [cumC, up16]

theorem arg_p6 (A : FVec Ideal S256x128 .f32) (i : Fin 16) (l : Fin 128) :
    argC A (ix2 (⟨224 + i.val, by omega⟩ : Fin 512) l) = A (ix2 (⟨47, by omega⟩ : Fin 256) l) - A (ix2 (⟨32 + i.val, by omega⟩ : Fin 256) l) := by
  refine (concatenate_apply_piece (0 : Fin S512x128.rank) _ _ _ 6 (by show 6 < 17; decide) S16x128 _ rfl rfl 224 (by simp [S64x128, S32x128, S16x128, S8x128, S192x128, S512x128]) (ix2 i l)
    (by intro b hb; fin_cases b; exacts [absurd rfl hb, rfl]) rfl).trans ?_
  pointwise [cumC, lo16]

theorem arg_p7 (A : FVec Ideal S256x128 .f32) (i : Fin 16) (l : Fin 128) :
    argC A (ix2 (⟨240 + i.val, by omega⟩ : Fin 512) l) = A (ix2 (⟨48 + i.val, by omega⟩ : Fin 256) l) - A (ix2 (⟨47, by omega⟩ : Fin 256) l) := by
  refine (concatenate_apply_piece (0 : Fin S512x128.rank) _ _ _ 7 (by show 7 < 17; decide) S16x128 _ rfl rfl 240 (by simp [S64x128, S32x128, S16x128, S8x128, S192x128, S512x128]) (ix2 i l)
    (by intro b hb; fin_cases b; exacts [absurd rfl hb, rfl]) rfl).trans ?_
  pointwise [cumC, up16]

theorem arg_p8 (A : FVec Ideal S256x128 .f32) (i : Fin 8) (l : Fin 128) :
    argC A (ix2 (⟨256 + i.val, by omega⟩ : Fin 512) l) = A (ix2 (⟨7, by omega⟩ : Fin 256) l) - A (ix2 (⟨0 + i.val, by omega⟩ : Fin 256) l) := by
  refine (concatenate_apply_piece (0 : Fin S512x128.rank) _ _ _ 8 (by show 8 < 17; decide) S8x128 _ rfl rfl 256 (by simp [S64x128, S32x128, S16x128, S8x128, S192x128, S512x128]) (ix2 i l)
    (by intro b hb; fin_cases b; exacts [absurd rfl hb, rfl]) rfl).trans ?_
  pointwise [cumC, lo8]

theorem arg_p9 (A : FVec Ideal S256x128 .f32) (i : Fin 8) (l : Fin 128) :
    argC A (ix2 (⟨264 + i.val, by omega⟩ : Fin 512) l) = A (ix2 (⟨8 + i.val, by omega⟩ : Fin 256) l) - A (ix2 (⟨7, by omega⟩ : Fin 256) l) := by
  refine (concatenate_apply_piece (0 : Fin S512x128.rank) _ _ _ 9 (by show 9 < 17; decide) S8x128 _ rfl rfl 264 (by simp [S64x128, S32x128, S16x128, S8x128, S192x128, S512x128]) (ix2 i l)
    (by intro b hb; fin_cases b; exacts [absurd rfl hb, rfl]) rfl).trans ?_
  pointwise [cumC, up8]

theorem arg_p10 (A : FVec Ideal S256x128 .f32) (i : Fin 8) (l : Fin 128) :
    argC A (ix2 (⟨272 + i.val, by omega⟩ : Fin 512) l) = A (ix2 (⟨23, by omega⟩ : Fin 256) l) - A (ix2 (⟨16 + i.val, by omega⟩ : Fin 256) l) := by
  refine (concatenate_apply_piece (0 : Fin S512x128.rank) _ _ _ 10 (by show 10 < 17; decide) S8x128 _ rfl rfl 272 (by simp [S64x128, S32x128, S16x128, S8x128, S192x128, S512x128]) (ix2 i l)
    (by intro b hb; fin_cases b; exacts [absurd rfl hb, rfl]) rfl).trans ?_
  pointwise [cumC, lo8]

theorem arg_p11 (A : FVec Ideal S256x128 .f32) (i : Fin 8) (l : Fin 128) :
    argC A (ix2 (⟨280 + i.val, by omega⟩ : Fin 512) l) = A (ix2 (⟨24 + i.val, by omega⟩ : Fin 256) l) - A (ix2 (⟨23, by omega⟩ : Fin 256) l) := by
  refine (concatenate_apply_piece (0 : Fin S512x128.rank) _ _ _ 11 (by show 11 < 17; decide) S8x128 _ rfl rfl 280 (by simp [S64x128, S32x128, S16x128, S8x128, S192x128, S512x128]) (ix2 i l)
    (by intro b hb; fin_cases b; exacts [absurd rfl hb, rfl]) rfl).trans ?_
  pointwise [cumC, up8]

theorem arg_p12 (A : FVec Ideal S256x128 .f32) (i : Fin 8) (l : Fin 128) :
    argC A (ix2 (⟨288 + i.val, by omega⟩ : Fin 512) l) = A (ix2 (⟨39, by omega⟩ : Fin 256) l) - A (ix2 (⟨32 + i.val, by omega⟩ : Fin 256) l) := by
  refine (concatenate_apply_piece (0 : Fin S512x128.rank) _ _ _ 12 (by show 12 < 17; decide) S8x128 _ rfl rfl 288 (by simp [S64x128, S32x128, S16x128, S8x128, S192x128, S512x128]) (ix2 i l)
    (by intro b hb; fin_cases b; exacts [absurd rfl hb, rfl]) rfl).trans ?_
  pointwise [cumC, lo8]

theorem arg_p13 (A : FVec Ideal S256x128 .f32) (i : Fin 8) (l : Fin 128) :
    argC A (ix2 (⟨296 + i.val, by omega⟩ : Fin 512) l) = A (ix2 (⟨40 + i.val, by omega⟩ : Fin 256) l) - A (ix2 (⟨39, by omega⟩ : Fin 256) l) := by
  refine (concatenate_apply_piece (0 : Fin S512x128.rank) _ _ _ 13 (by show 13 < 17; decide) S8x128 _ rfl rfl 296 (by simp [S64x128, S32x128, S16x128, S8x128, S192x128, S512x128]) (ix2 i l)
    (by intro b hb; fin_cases b; exacts [absurd rfl hb, rfl]) rfl).trans ?_
  pointwise [cumC, up8]

theorem arg_p14 (A : FVec Ideal S256x128 .f32) (i : Fin 8) (l : Fin 128) :
    argC A (ix2 (⟨304 + i.val, by omega⟩ : Fin 512) l) = A (ix2 (⟨55, by omega⟩ : Fin 256) l) - A (ix2 (⟨48 + i.val, by omega⟩ : Fin 256) l) := by
  refine (concatenate_apply_piece (0 : Fin S512x128.rank) _ _ _ 14 (by show 14 < 17; decide) S8x128 _ rfl rfl 304 (by simp [S64x128, S32x128, S16x128, S8x128, S192x128, S512x128]) (ix2 i l)
    (by intro b hb; fin_cases b; exacts [absurd rfl hb, rfl]) rfl).trans ?_
  pointwise [cumC, lo8]

theorem arg_p15 (A : FVec Ideal S256x128 .f32) (i : Fin 8) (l : Fin 128) :
    argC A (ix2 (⟨312 + i.val, by omega⟩ : Fin 512) l) = A (ix2 (⟨56 + i.val, by omega⟩ : Fin 256) l) - A (ix2 (⟨55, by omega⟩ : Fin 256) l) := by
  refine (concatenate_apply_piece (0 : Fin S512x128.rank) _ _ _ 15 (by show 15 < 17; decide) S8x128 _ rfl rfl 312 (by simp [S64x128, S32x128, S16x128, S8x128, S192x128, S512x128]) (ix2 i l)
    (by intro b hb; fin_cases b; exacts [absurd rfl hb, rfl]) rfl).trans ?_
  pointwise [cumC, up8]

theorem arg_p16 (A : FVec Ideal S256x128 .f32) (i : Fin 192) (l : Fin 128) :
    argC A (ix2 (⟨320 + i.val, by omega⟩ : Fin 512) l) = A (ix2 (⟨64 + i.val, by omega⟩ : Fin 256) l) := by
  refine (concatenate_apply_piece (0 : Fin S512x128.rank) _ _ _ 16 (by show 16 < 17; decide) S192x128 _ rfl rfl 320 (by simp [S64x128, S32x128, S16x128, S8x128, S192x128, S512x128]) (ix2 i l)
    (by intro b hb; fin_cases b; exacts [absurd rfl hb, rfl]) rfl).trans ?_
  pointwise [cumC]

/-- The first 64 rows of a half are the running sums. -/
def IsCum (A : FVec Ideal S256x128 .f32) (l : Fin 128) (g : Fin 64 → EReal) : Prop :=
  ∀ (i : ℕ) (h : i < 64), A (ix2 (⟨i, by omega⟩ : Fin 256) l) = cum g ⟨i, h⟩

/-- The level of blocks of 32. -/
theorem arg_lev32 (A : FVec Ideal S256x128 .f32) (l : Fin 128) (g : Fin 64 → EReal) (hA : IsCum A l g) (i : Fin 64) :
    argC A (ix2 (⟨128 + i.val, by omega⟩ : Fin 512) l) = lev 32 (by decide) g i := by
  rcases (by omega : (i.val < 32 ∧ 0 ≤ i.val) ∨ (i.val < 64 ∧ 32 ≤ i.val)) with ⟨h1, h2⟩ | ⟨h1, h2⟩
  · have e : (⟨128 + i.val, by omega⟩ : Fin 512) = ⟨128 + (⟨i.val - 0, by omega⟩ : Fin 32).val, by omega⟩ :=
      Fin.ext (by show 128 + i.val = 128 + (i.val - 0); omega)
    rw [e, arg_p2, hA _ (by omega), hA _ (by show _ < 64; omega), lev, if_neg (by omega)]
    congr 2
    · exact Fin.ext (by show 31 = 32 * (i.val / 32) + 32 - 1; omega)
    · exact Fin.ext (by show 0 + (i.val - 0) = i.val; omega)
  · have e : (⟨128 + i.val, by omega⟩ : Fin 512) = ⟨160 + (⟨i.val - 32, by omega⟩ : Fin 32).val, by omega⟩ :=
      Fin.ext (by show 128 + i.val = 160 + (i.val - 32); omega)
    rw [e, arg_p3, hA _ (by omega), hA _ (by show _ < 64; omega), lev, if_pos (by omega)]
    congr 2
    · exact Fin.ext (by show 32 + (i.val - 32) = i.val; omega)
    · exact Fin.ext (by show 31 = 32 * (i.val / 32) - 1; omega)

/-- The level of blocks of 16. -/
theorem arg_lev16 (A : FVec Ideal S256x128 .f32) (l : Fin 128) (g : Fin 64 → EReal) (hA : IsCum A l g) (i : Fin 64) :
    argC A (ix2 (⟨192 + i.val, by omega⟩ : Fin 512) l) = lev 16 (by decide) g i := by
  rcases (by omega : (i.val < 16 ∧ 0 ≤ i.val) ∨ (i.val < 32 ∧ 16 ≤ i.val) ∨ (i.val < 48 ∧ 32 ≤ i.val) ∨ (i.val < 64 ∧ 48 ≤ i.val)) with ⟨h1, h2⟩ | ⟨h1, h2⟩ | ⟨h1, h2⟩ | ⟨h1, h2⟩
  · have e : (⟨192 + i.val, by omega⟩ : Fin 512) = ⟨192 + (⟨i.val - 0, by omega⟩ : Fin 16).val, by omega⟩ :=
      Fin.ext (by show 192 + i.val = 192 + (i.val - 0); omega)
    rw [e, arg_p4, hA _ (by omega), hA _ (by show _ < 64; omega), lev, if_neg (by omega)]
    congr 2
    · exact Fin.ext (by show 15 = 16 * (i.val / 16) + 16 - 1; omega)
    · exact Fin.ext (by show 0 + (i.val - 0) = i.val; omega)
  · have e : (⟨192 + i.val, by omega⟩ : Fin 512) = ⟨208 + (⟨i.val - 16, by omega⟩ : Fin 16).val, by omega⟩ :=
      Fin.ext (by show 192 + i.val = 208 + (i.val - 16); omega)
    rw [e, arg_p5, hA _ (by omega), hA _ (by show _ < 64; omega), lev, if_pos (by omega)]
    congr 2
    · exact Fin.ext (by show 16 + (i.val - 16) = i.val; omega)
    · exact Fin.ext (by show 15 = 16 * (i.val / 16) - 1; omega)
  · have e : (⟨192 + i.val, by omega⟩ : Fin 512) = ⟨224 + (⟨i.val - 32, by omega⟩ : Fin 16).val, by omega⟩ :=
      Fin.ext (by show 192 + i.val = 224 + (i.val - 32); omega)
    rw [e, arg_p6, hA _ (by omega), hA _ (by show _ < 64; omega), lev, if_neg (by omega)]
    congr 2
    · exact Fin.ext (by show 47 = 16 * (i.val / 16) + 16 - 1; omega)
    · exact Fin.ext (by show 32 + (i.val - 32) = i.val; omega)
  · have e : (⟨192 + i.val, by omega⟩ : Fin 512) = ⟨240 + (⟨i.val - 48, by omega⟩ : Fin 16).val, by omega⟩ :=
      Fin.ext (by show 192 + i.val = 240 + (i.val - 48); omega)
    rw [e, arg_p7, hA _ (by omega), hA _ (by show _ < 64; omega), lev, if_pos (by omega)]
    congr 2
    · exact Fin.ext (by show 48 + (i.val - 48) = i.val; omega)
    · exact Fin.ext (by show 47 = 16 * (i.val / 16) - 1; omega)

/-- The level of blocks of 8. -/
theorem arg_lev8 (A : FVec Ideal S256x128 .f32) (l : Fin 128) (g : Fin 64 → EReal) (hA : IsCum A l g) (i : Fin 64) :
    argC A (ix2 (⟨256 + i.val, by omega⟩ : Fin 512) l) = lev 8 (by decide) g i := by
  rcases (by omega : (i.val < 8 ∧ 0 ≤ i.val) ∨ (i.val < 16 ∧ 8 ≤ i.val) ∨ (i.val < 24 ∧ 16 ≤ i.val) ∨ (i.val < 32 ∧ 24 ≤ i.val) ∨ (i.val < 40 ∧ 32 ≤ i.val) ∨ (i.val < 48 ∧ 40 ≤ i.val) ∨ (i.val < 56 ∧ 48 ≤ i.val) ∨ (i.val < 64 ∧ 56 ≤ i.val)) with ⟨h1, h2⟩ | ⟨h1, h2⟩ | ⟨h1, h2⟩ | ⟨h1, h2⟩ | ⟨h1, h2⟩ | ⟨h1, h2⟩ | ⟨h1, h2⟩ | ⟨h1, h2⟩
  · have e : (⟨256 + i.val, by omega⟩ : Fin 512) = ⟨256 + (⟨i.val - 0, by omega⟩ : Fin 8).val, by omega⟩ :=
      Fin.ext (by show 256 + i.val = 256 + (i.val - 0); omega)
    rw [e, arg_p8, hA _ (by omega), hA _ (by show _ < 64; omega), lev, if_neg (by omega)]
    congr 2
    · exact Fin.ext (by show 7 = 8 * (i.val / 8) + 8 - 1; omega)
    · exact Fin.ext (by show 0 + (i.val - 0) = i.val; omega)
  · have e : (⟨256 + i.val, by omega⟩ : Fin 512) = ⟨264 + (⟨i.val - 8, by omega⟩ : Fin 8).val, by omega⟩ :=
      Fin.ext (by show 256 + i.val = 264 + (i.val - 8); omega)
    rw [e, arg_p9, hA _ (by omega), hA _ (by show _ < 64; omega), lev, if_pos (by omega)]
    congr 2
    · exact Fin.ext (by show 8 + (i.val - 8) = i.val; omega)
    · exact Fin.ext (by show 7 = 8 * (i.val / 8) - 1; omega)
  · have e : (⟨256 + i.val, by omega⟩ : Fin 512) = ⟨272 + (⟨i.val - 16, by omega⟩ : Fin 8).val, by omega⟩ :=
      Fin.ext (by show 256 + i.val = 272 + (i.val - 16); omega)
    rw [e, arg_p10, hA _ (by omega), hA _ (by show _ < 64; omega), lev, if_neg (by omega)]
    congr 2
    · exact Fin.ext (by show 23 = 8 * (i.val / 8) + 8 - 1; omega)
    · exact Fin.ext (by show 16 + (i.val - 16) = i.val; omega)
  · have e : (⟨256 + i.val, by omega⟩ : Fin 512) = ⟨280 + (⟨i.val - 24, by omega⟩ : Fin 8).val, by omega⟩ :=
      Fin.ext (by show 256 + i.val = 280 + (i.val - 24); omega)
    rw [e, arg_p11, hA _ (by omega), hA _ (by show _ < 64; omega), lev, if_pos (by omega)]
    congr 2
    · exact Fin.ext (by show 24 + (i.val - 24) = i.val; omega)
    · exact Fin.ext (by show 23 = 8 * (i.val / 8) - 1; omega)
  · have e : (⟨256 + i.val, by omega⟩ : Fin 512) = ⟨288 + (⟨i.val - 32, by omega⟩ : Fin 8).val, by omega⟩ :=
      Fin.ext (by show 256 + i.val = 288 + (i.val - 32); omega)
    rw [e, arg_p12, hA _ (by omega), hA _ (by show _ < 64; omega), lev, if_neg (by omega)]
    congr 2
    · exact Fin.ext (by show 39 = 8 * (i.val / 8) + 8 - 1; omega)
    · exact Fin.ext (by show 32 + (i.val - 32) = i.val; omega)
  · have e : (⟨256 + i.val, by omega⟩ : Fin 512) = ⟨296 + (⟨i.val - 40, by omega⟩ : Fin 8).val, by omega⟩ :=
      Fin.ext (by show 256 + i.val = 296 + (i.val - 40); omega)
    rw [e, arg_p13, hA _ (by omega), hA _ (by show _ < 64; omega), lev, if_pos (by omega)]
    congr 2
    · exact Fin.ext (by show 40 + (i.val - 40) = i.val; omega)
    · exact Fin.ext (by show 39 = 8 * (i.val / 8) - 1; omega)
  · have e : (⟨256 + i.val, by omega⟩ : Fin 512) = ⟨304 + (⟨i.val - 48, by omega⟩ : Fin 8).val, by omega⟩ :=
      Fin.ext (by show 256 + i.val = 304 + (i.val - 48); omega)
    rw [e, arg_p14, hA _ (by omega), hA _ (by show _ < 64; omega), lev, if_neg (by omega)]
    congr 2
    · exact Fin.ext (by show 55 = 8 * (i.val / 8) + 8 - 1; omega)
    · exact Fin.ext (by show 48 + (i.val - 48) = i.val; omega)
  · have e : (⟨256 + i.val, by omega⟩ : Fin 512) = ⟨312 + (⟨i.val - 56, by omega⟩ : Fin 8).val, by omega⟩ :=
      Fin.ext (by show 256 + i.val = 312 + (i.val - 56); omega)
    rw [e, arg_p15, hA _ (by omega), hA _ (by show _ < 64; omega), lev, if_pos (by omega)]
    congr 2
    · exact Fin.ext (by show 56 + (i.val - 56) = i.val; omega)
    · exact Fin.ext (by show 55 = 8 * (i.val / 8) - 1; omega)

/-- The level of blocks of 4, from the level matrix. -/
theorem arg_lev4 (A : FVec Ideal S256x128 .f32) (l : Fin 128) (G : Fin 64 → ℝ)
    (hA : ∀ r : Fin 256, A (ix2 r l) = ((∑ m : Fin 64, if segB r m then G m else 0 : ℝ) : EReal)) (i : Fin 64) :
    argC A (ix2 (⟨320 + i.val, by omega⟩ : Fin 512) l) = lev 4 (by decide) (fun m => (G m : EReal)) i := by
  have e : (⟨320 + i.val, by omega⟩ : Fin 512) = ⟨320 + (⟨0 + i.val, by omega⟩ : Fin 192).val, by omega⟩ :=
    Fin.ext (by show 320 + i.val = 320 + (0 + i.val); omega)
  rw [e, arg_p16, hA, lev]
  simp only [cum_coe, ← EReal.coe_sub]
  have hd : (64 + (0 + i.val)) / 64 = 1 := by omega
  have hr : (64 + (0 + i.val)) % 64 = i.val := by omega
  by_cases ho : i.val / 4 % 2 = 1
  · rw [if_pos ho, ← seg_eq G (show beforeOf 4 i ≤ i from Fin.le_iff_val_le_val.mpr (by show 4 * (i.val / 4) - 1 ≤ i.val; omega))]
    congr 1
    refine Finset.sum_congr rfl fun m _ => if_congr ?_ rfl rfl
    rw [segB_4 _ _ hd, hr, segB.segN, if_pos ho]
    exact decide_eq_true_iff
  · rw [if_neg ho, ← seg_eq G (show i ≤ lastOf 4 (by decide) i from Fin.le_iff_val_le_val.mpr (by show i.val ≤ 4 * (i.val / 4) + 4 - 1; omega))]
    congr 1
    refine Finset.sum_congr rfl fun m _ => if_congr ?_ rfl rfl
    rw [segB_4 _ _ hd, hr, segB.segN, if_neg ho]
    exact decide_eq_true_iff

/-- The level of blocks of 2, from the level matrix. -/
theorem arg_lev2 (A : FVec Ideal S256x128 .f32) (l : Fin 128) (G : Fin 64 → ℝ)
    (hA : ∀ r : Fin 256, A (ix2 r l) = ((∑ m : Fin 64, if segB r m then G m else 0 : ℝ) : EReal)) (i : Fin 64) :
    argC A (ix2 (⟨384 + i.val, by omega⟩ : Fin 512) l) = lev 2 (by decide) (fun m => (G m : EReal)) i := by
  have e : (⟨384 + i.val, by omega⟩ : Fin 512) = ⟨320 + (⟨64 + i.val, by omega⟩ : Fin 192).val, by omega⟩ :=
    Fin.ext (by show 384 + i.val = 320 + (64 + i.val); omega)
  rw [e, arg_p16, hA, lev]
  simp only [cum_coe, ← EReal.coe_sub]
  have hd : (64 + (64 + i.val)) / 64 = 2 := by omega
  have hr : (64 + (64 + i.val)) % 64 = i.val := by omega
  by_cases ho : i.val / 2 % 2 = 1
  · rw [if_pos ho, ← seg_eq G (show beforeOf 2 i ≤ i from Fin.le_iff_val_le_val.mpr (by show 2 * (i.val / 2) - 1 ≤ i.val; omega))]
    congr 1
    refine Finset.sum_congr rfl fun m _ => if_congr ?_ rfl rfl
    rw [segB_2 _ _ hd, hr, segB.segN, if_pos ho]
    exact decide_eq_true_iff
  · rw [if_neg ho, ← seg_eq G (show i ≤ lastOf 2 (by decide) i from Fin.le_iff_val_le_val.mpr (by show i.val ≤ 2 * (i.val / 2) + 2 - 1; omega))]
    congr 1
    refine Finset.sum_congr rfl fun m _ => if_congr ?_ rfl rfl
    rw [segB_2 _ _ hd, hr, segB.segN, if_neg ho]
    exact decide_eq_true_iff

/-- The level of blocks of 1, from the level matrix. -/
theorem arg_lev1 (A : FVec Ideal S256x128 .f32) (l : Fin 128) (G : Fin 64 → ℝ)
    (hA : ∀ r : Fin 256, A (ix2 r l) = ((∑ m : Fin 64, if segB r m then G m else 0 : ℝ) : EReal)) (i : Fin 64) :
    argC A (ix2 (⟨448 + i.val, by omega⟩ : Fin 512) l) = lev 1 (by decide) (fun m => (G m : EReal)) i := by
  have e : (⟨448 + i.val, by omega⟩ : Fin 512) = ⟨320 + (⟨128 + i.val, by omega⟩ : Fin 192).val, by omega⟩ :=
    Fin.ext (by show 448 + i.val = 320 + (128 + i.val); omega)
  rw [e, arg_p16, hA, lev]
  simp only [cum_coe, ← EReal.coe_sub]
  have hd : (64 + (128 + i.val)) / 64 = 3 := by omega
  have hr : (64 + (128 + i.val)) % 64 = i.val := by omega
  by_cases ho : i.val / 1 % 2 = 1
  · rw [if_pos ho, ← seg_eq G (show beforeOf 1 i ≤ i from Fin.le_iff_val_le_val.mpr (by show 1 * (i.val / 1) - 1 ≤ i.val; omega))]
    congr 1
    refine Finset.sum_congr rfl fun m _ => if_congr ?_ rfl rfl
    rw [segB_1 _ _ hd, hr, segB.segN, if_pos ho]
    exact decide_eq_true_iff
  · rw [if_neg ho, ← seg_eq G (show i ≤ lastOf 1 (by decide) i from Fin.le_iff_val_le_val.mpr (by show i.val ≤ 1 * (i.val / 1) + 1 - 1; omega))]
    congr 1
    refine Finset.sum_congr rfl fun m _ => if_congr ?_ rfl rfl
    rw [segB_1 _ _ hd, hr, segB.segN, if_neg ho]
    exact decide_eq_true_iff

/-- A half of the product holds the running sums in its first 64 rows. -/
theorem isCum_of (A : FVec Ideal S256x128 .f32) (l : Fin 128) (G : Fin 64 → ℝ)
    (hA : ∀ r : Fin 256, A (ix2 r l) = ((∑ m : Fin 64, if segB r m then G m else 0 : ℝ) : EReal)) :
    IsCum A l (fun m => (G m : EReal)) := by
  intro i h
  rw [hA, cum_coe, cumR]
  congr 1
  refine Finset.sum_congr rfl fun m _ => if_congr ?_ rfl rfl
  have hd : i / 64 = 0 := by omega
  have hr : i % 64 = i := by omega
  rw [segB, if_pos hd]
  exact decide_eq_true_iff.trans (by rw [hr]; exact Iff.rfl)

end Cert.Gla
-- ==== Proof.GlaChunk.lean ====
/- One chunk of one head in the kernel's body, read at an entry: the state handed on and the output row are the
   recurrence's, from the queries, keys, values, log gates and state read. -/
module

public import proofs.«01_k».proof.Proof.GlaUnit

@[expose] public section

set_option maxRecDepth 16384

noncomputable section

namespace Cert.Gla

open Cert.KernelGlaIdeal Cert.KernelGlaIdeal.Gen
open Idealize.ShloMosaic Idealize.ShloMosaic.TcCoe Idealize.SL.Sem

/-- What a chunk's exponents are, for real log gates `g`. -/
structure ArgOk (arg : FVec Ideal S512x128 .f32) (g : Fin 64 → Fin 128 → EReal) : Prop where
  real : ∀ m l, ∃ r : ℝ, g m l = (r : EReal)
  run : ∀ (i : Fin 64) l, arg (ix2 (⟨i.val, by omega⟩ : Fin 512) l) = cum (fun m => g m l) i
  left : ∀ (i : Fin 64) l, arg (ix2 (⟨64 + i.val, by omega⟩ : Fin 512) l) = cum (fun m => g m l) 63 - cum (fun m => g m l) i
  l32 : ∀ (i : Fin 64) l, arg (ix2 (⟨128 + i.val, by omega⟩ : Fin 512) l) = lev 32 (by decide) (fun m => g m l) i
  l16 : ∀ (i : Fin 64) l, arg (ix2 (⟨192 + i.val, by omega⟩ : Fin 512) l) = lev 16 (by decide) (fun m => g m l) i
  l8 : ∀ (i : Fin 64) l, arg (ix2 (⟨256 + i.val, by omega⟩ : Fin 512) l) = lev 8 (by decide) (fun m => g m l) i
  l4 : ∀ (i : Fin 64) l, arg (ix2 (⟨320 + i.val, by omega⟩ : Fin 512) l) = lev 4 (by decide) (fun m => g m l) i
  l2 : ∀ (i : Fin 64) l, arg (ix2 (⟨384 + i.val, by omega⟩ : Fin 512) l) = lev 2 (by decide) (fun m => g m l) i
  l1 : ∀ (i : Fin 64) l, arg (ix2 (⟨448 + i.val, by omega⟩ : Fin 512) l) = lev 1 (by decide) (fun m => g m l) i

/-- The exponents from a half whose entries are the level sums of the log gates. -/
theorem argOk_of (A : FVec Ideal S256x128 .f32) (G : Fin 64 → Fin 128 → ℝ)
    (hA : ∀ (r : Fin 256) l, A (ix2 r l) = ((∑ m : Fin 64, if segB r m then G m l else 0 : ℝ) : EReal)) :
    ArgOk (argC A) (fun m l => (G m l : EReal)) := by
  have hC := fun l => isCum_of A l (fun m => G m l) (fun r => hA r l)
  refine ⟨fun m l => ⟨_, rfl⟩, fun i l => ?_, fun i l => ?_, fun i l => arg_lev32 A l _ (hC l) i, fun i l => arg_lev16 A l _ (hC l) i,
    fun i l => arg_lev8 A l _ (hC l) i, fun i l => arg_lev4 A l _ (fun r => hA r l) i, fun i l => arg_lev2 A l _ (fun r => hA r l) i,
    fun i l => arg_lev1 A l _ (fun r => hA r l) i⟩
  · have e : (⟨i.val, by omega⟩ : Fin 512) = ⟨0 + i.val, by omega⟩ := Fin.ext (by show i.val = 0 + i.val; omega)
    rw [e, arg_p0]; exact hC l i.val i.isLt
  · rw [arg_p1, hC l _ (by omega), hC l _ i.isLt]; rfl

theorem argOk_left (cm : FVec Ideal S256x128 .bf16) (hcm : IsLevels cm) (g0 g1 : FVec Ideal S64x128 .f32)
    (g : Fin 64 → Fin 128 → EReal) (hg : ∀ m l, g0 (ix2 m l) = g m l) (hr : ∀ m l, ∃ r : ℝ, g m l = (r : EReal)) :
    ArgOk (argC (half0 (pairC cm g0 g1))) g := by
  choose G hG using hr
  obtain rfl : g = fun m l => (G m l : EReal) := funext fun m => funext fun l => hG m l
  exact argOk_of _ G fun r l => (half0_at cm g0 g1 r l).trans (levels_sum cm hcm g0 (fun m => G m l) l (fun m => hg m l) r)

theorem argOk_right (cm : FVec Ideal S256x128 .bf16) (hcm : IsLevels cm) (g0 g1 : FVec Ideal S64x128 .f32)
    (g : Fin 64 → Fin 128 → EReal) (hg : ∀ m l, g1 (ix2 m l) = g m l) (hr : ∀ m l, ∃ r : ℝ, g m l = (r : EReal)) :
    ArgOk (argC (half1 (pairC cm g0 g1))) g := by
  choose G hG using hr
  obtain rfl : g = fun m l => (G m l : EReal) := funext fun m => funext fun l => hG m l
  exact argOk_of _ G fun r l => (half1_at cm g0 g1 r l).trans (levels_sum cm hcm g1 (fun m => G m l) l (fun m => hg m l) r)

/-- The state handed on. -/
theorem stC_at {arg : FVec Ideal S512x128 .f32} {g : Fin 64 → Fin 128 → EReal} (h : ArgOk arg g) (k : FVec Ideal S64x128 .bf16)
    (v : FVec Ideal S64x256 .bf16) (S : FVec Ideal S128x256 .f32)
    (K : Fin 64 → Fin 128 → EReal) (V : Fin 64 → Fin 256 → EReal) (T : Fin 128 → Fin 256 → EReal)
    (hk : ∀ j l, k (ix2 j l) = K j l) (hv : ∀ j c, v (ix2 j c) = V j c) (hS : ∀ a c, S (ix2 a c) = T a c) (a : Fin 128) (c : Fin 256) :
    stC arg k v S (ix2 a c) = stepS K V g T a c := by
  have e : stC arg k v S (ix2 a c) = S (ix2 a c) * Ideal.exp (arg (ix2 (⟨(63 : Fin 64).val, by decide⟩ : Fin 512) a))
      + ∑ j : Fin 64, k (ix2 j a) * Ideal.exp (arg (ix2 (⟨64 + j.val, by omega⟩ : Fin 512) a)) * v (ix2 j c) := by
    pointwise [stC, exC]
    rw [dite_eq_ite, ite_self]
  rw [e, stepS]
  simp only [h.run, h.left, hk, hv, hS]

theorem mask0 : ∀ i j : Fin 64, maskC 0#32 (ix2 i j) = if pairAt 1 i j then 1#1 else 0#1 := by decide +kernel
theorem mask1 : ∀ i j : Fin 64, maskC 1#32 (ix2 i j) = if pairAt 2 i j then 1#1 else 0#1 := by decide +kernel
theorem mask2 : ∀ i j : Fin 64, maskC 2#32 (ix2 i j) = if pairAt 4 i j then 1#1 else 0#1 := by decide +kernel
theorem mask3 : ∀ i j : Fin 64, maskC 3#32 (ix2 i j) = if pairAt 8 i j then 1#1 else 0#1 := by decide +kernel
theorem mask4 : ∀ i j : Fin 64, maskC 4#32 (ix2 i j) = if pairAt 16 i j then 1#1 else 0#1 := by decide +kernel
theorem mask5 : ∀ i j : Fin 64, maskC 5#32 (ix2 i j) = if pairAt 32 i j then 1#1 else 0#1 := by decide +kernel
theorem maskD : ∀ i j : Fin 64, (cmpi .eq (iota .tc S64x64 32 [0] iota_S64x64_d0_w32) (iota .tc S64x64 32 [1] iota_S64x64_d1_w32)) (ix2 i j)
    = if i = j then 1#1 else 0#1 := by decide +kernel

theorem sel_ite (p : Bool) (x y : EReal) : Scalar.select (if p then 1#1 else 0#1) x y = if p then x else y := by
  cases p <;> rfl

theorem sel_ite' (p : Prop) [Decidable p] (x y : EReal) : Scalar.select (if p then 1#1 else 0#1) x y = if p then x else y := by
  split_ifs <;> rfl

theorem scL_at (q k : FVec Ideal S64x128 .bf16) (arg : FVec Ideal S512x128 .f32) (b : ℕ) (hb : S512x128.Slices ![b, 0] S64x128)
    (h64 : b + 64 ≤ 512) (i j : Fin 64) :
    scL q k (exC arg) b hb (ix2 i j) = ∑ l : Fin 128, q (ix2 i l) * Ideal.exp (arg (ix2 (⟨b + i.val, by omega⟩ : Fin 512) l))
      * (k (ix2 j l) * Ideal.exp (arg (ix2 (⟨b + j.val, by omega⟩ : Fin 512) l))) := by
  pointwise [scL, exC]

/-- A chunk's scores. -/
theorem scoreC_at {arg : FVec Ideal S512x128 .f32} {g : Fin 64 → Fin 128 → EReal} (h : ArgOk arg g) (q k : FVec Ideal S64x128 .bf16)
    (Q K : Fin 64 → Fin 128 → EReal) (hq : ∀ j l, q (ix2 j l) = Q j l) (hk : ∀ j l, k (ix2 j l) = K j l) (i j : Fin 64) :
    scoreC q k (exC arg) (ix2 i j) = score Q K g i j := by
  have e : scoreC q k (exC arg) (ix2 i j) = Scalar.select (maskC 0#32 (ix2 i j)) (scL q k (exC arg) 448 slices_S512x128_o448_0_S64x128 (ix2 i j))
      (Scalar.select (maskC 1#32 (ix2 i j)) (scL q k (exC arg) 384 slices_S512x128_o384_0_S64x128 (ix2 i j))
      (Scalar.select (maskC 2#32 (ix2 i j)) (scL q k (exC arg) 320 slices_S512x128_o320_0_S64x128 (ix2 i j))
      (Scalar.select (maskC 3#32 (ix2 i j)) (scL q k (exC arg) 256 slices_S512x128_o256_0_S64x128 (ix2 i j))
      (Scalar.select (maskC 4#32 (ix2 i j)) (scL q k (exC arg) 192 slices_S512x128_o192_0_S64x128 (ix2 i j))
      (Scalar.select (maskC 5#32 (ix2 i j)) (scL q k (exC arg) 128 slices_S512x128_o128_0_S64x128 (ix2 i j))
      (Scalar.select ((cmpi .eq (iota .tc S64x64 32 [0] iota_S64x64_d0_w32) (iota .tc S64x64 32 [1] iota_S64x64_d1_w32)) (ix2 i j))
        (∑ l : Fin 128, q (ix2 i l) * k (ix2 j l)) 0)))))) := by
    have e1 : (matmul dot_S64x128_S64x128_S64x64_1_1_0_0_n_n none q k (constant S64x64 .f32 0x00000000#32) : FVec Ideal S64x64 .f32) (ix2 i j)
        = ∑ l : Fin 128, q (ix2 i l) * k (ix2 j l) := by pointwise
    have e2 : (broadcast S64x64 (Scalar.ofBits .f32 0x00000000#32) : FVec Ideal S64x64 .f32) (ix2 i j) = 0 := by pointwise
    rw [← e1, ← e2]
    rfl
  rw [e, mask0, mask1, mask2, mask3, mask4, mask5, maskD]
  simp only [sel_ite, sel_ite', scL_at _ _ _ 448 _ (by decide), scL_at _ _ _ 384 _ (by decide), scL_at _ _ _ 320 _ (by decide),
    scL_at _ _ _ 256 _ (by decide), scL_at _ _ _ 192 _ (by decide), scL_at _ _ _ 128 _ (by decide),
    h.l32, h.l16, h.l8, h.l4, h.l2, h.l1, hq, hk]
  have hr := h.real
  choose G hG using hr
  obtain rfl : g = fun m l => (G m l : EReal) := funext fun m => funext fun l => hG m l
  exact pick_eq Q K G i j

/-- A chunk's gated output. -/
theorem ogC_at {arg : FVec Ideal S512x128 .f32} {g : Fin 64 → Fin 128 → EReal} (h : ArgOk arg g) (q k : FVec Ideal S64x128 .bf16)
    (v : FVec Ideal S64x256 .bf16) (S : FVec Ideal S128x256 .f32) (ng : FVec Ideal S1x256 .f32) (sr : FVec Ideal S64x256 .bf16)
    (Q K : Fin 64 → Fin 128 → EReal) (V : Fin 64 → Fin 256 → EReal) (T : Fin 128 → Fin 256 → EReal)
    (hq : ∀ j l, q (ix2 j l) = Q j l) (hk : ∀ j l, k (ix2 j l) = K j l) (hv : ∀ j c, v (ix2 j c) = V j c)
    (hS : ∀ a c, S (ix2 a c) = T a c) (NG : Fin 256 → EReal) (hng : ∀ c, ng (ix2 0 c) = NG c)
    (R : Fin 64 → Fin 256 → EReal) (hsr : ∀ i c, sr (ix2 i c) = R i c) (i : Fin 64) (c : Fin 256) :
    ogC (oC arg q k v S) ng sr (ix2 i c) = gatedRow (fun c => outRow Q K V g T i c) NG (R i c) c := by
  have e1 : ∀ c, oC arg q k v S (ix2 i c) = outRow Q K V g T i c := by
    intro c
    have e : oC arg q k v S (ix2 i c) = (∑ j : Fin 64, scoreC q k (exC arg) (ix2 i j) * v (ix2 j c))
        + ∑ a : Fin 128, q (ix2 i a) * Ideal.exp (arg (ix2 (⟨i.val, by omega⟩ : Fin 512) a)) * S (ix2 a c) := by
      pointwise [oC, exC]
    rw [e, outRow, add_comm]
    simp only [scoreC_at h q k Q K hq hk, h.run, hq, hv, hS]
  have e2 : ogC (oC arg q k v S) ng sr (ix2 i c)
      = gatedRow (fun c => oC arg q k v S (ix2 i c)) (fun c => ng (ix2 0 c)) (sr (ix2 i c)) c := by
    generalize oC arg q k v S = o
    pointwise [ogC, gatedRow]
  rw [e2]
  simp only [e1, hng, hsr]

/-- A loaded state without its unit axis. -/
theorem stateCast_at (x : FVec Ideal S1x128x256 .f32) (a : Fin 128) (c : Fin 256) :
    (shapeCast S128x256 x shapeCasts_S1x128x256_S128x256 : FVec Ideal S128x256 .f32) (ix2 a c) = x (ix3 0 a c) := by pointwise

/-- The tile of an array at row `r0` and column `c0`. -/
def tl {n m : ℕ} [NeZero n] (X : Fin 512 → Fin n → EReal) (r0 c0 : ℕ) : Fin 64 → Fin m → EReal :=
  fun j l => X (Fin.ofNat 512 (r0 + j.val)) (Fin.ofNat n (c0 + l.val))

/-- A head's state after `u` chunks of a block, from the state `T`. -/
def stF (K : Fin 512 → Fin 512 → EReal) (V : Fin 512 → Fin 1024 → EReal) (G : Fin 512 → Fin 512 → EReal)
    (T : Fin 128 → Fin 256 → EReal) (h : ℕ) : ℕ → Fin 128 → Fin 256 → EReal
  | 0 => T
  | u + 1 => stepS (tl K (64 * u) (128 * h)) (tl V (64 * u) (256 * h)) (tl G (64 * u) (128 * h)) (stF K V G T h u)

/-- A head's gated output in chunk `u` of a block. -/
def ogF (Q K : Fin 512 → Fin 512 → EReal) (V : Fin 512 → Fin 1024 → EReal) (G : Fin 512 → Fin 512 → EReal)
    (NG : Fin 256 → EReal) (R : Fin 512 → Fin 1024 → EReal) (T : Fin 128 → Fin 256 → EReal) (h u : ℕ) (i : Fin 64) (c : Fin 256) : EReal :=
  gatedRow (fun c => outRow (tl Q (64 * u) (128 * h)) (tl K (64 * u) (128 * h)) (tl V (64 * u) (256 * h)) (tl G (64 * u) (128 * h))
    (stF K V G T h u) i c) NG (tl R (64 * u) (256 * h) i c) c

end Cert.Gla
-- ==== Proof.GlaPieces.lean ====
/- Arrays written piece by piece, read at an entry. -/
module

public import proofs.«01_k».proof.Proof.GlaChunk

@[expose] public section

set_option maxRecDepth 16384

noncomputable section

namespace Cert.Gla

open Cert.KernelGlaIdeal Cert.KernelGlaIdeal.Gen
open Idealize.ShloMosaic Idealize.ShloMosaic.TcCoe Idealize.SL.Sem

/-- A block's gated output. -/
def ogB (Q K : Fin 512 → Fin 512 → EReal) (V : Fin 512 → Fin 1024 → EReal) (G : Fin 512 → Fin 512 → EReal)
    (NG : Fin 256 → EReal) (R : Fin 512 → Fin 1024 → EReal) (T : Fin 4 → Fin 128 → Fin 256 → EReal) (p : Fin 512) (e : Fin 1024) : EReal :=
  ogF Q K V G NG R (T ⟨e.val / 256, by omega⟩) (e.val / 256) (p.val / 64) ⟨p.val % 64, by omega⟩ ⟨e.val % 256, by omega⟩

theorem og_close {Q K : Fin 512 → Fin 512 → EReal} {V : Fin 512 → Fin 1024 → EReal} {G : Fin 512 → Fin 512 → EReal}
    {NG : Fin 256 → EReal} {R : Fin 512 → Fin 1024 → EReal} {T : Fin 4 → Fin 128 → Fin 256 → EReal} {P : FVec Ideal S64x256 .bf16}
    {k : Fin 4} {h u : ℕ} (hP : ∀ i c, P (ix2 i c) = ogF Q K V G NG R (T k) h u i c) {p : Fin 512} {e : Fin 1024}
    (x : S64x256.Idx) (hk : k.val = h) (e0 : p.val = 64 * u + (x 0).val) (e1 : e.val = 256 * h + (x 1).val) :
    P x = ogB Q K V G NG R T p e := by
  idx_vars x
  replace e0 : p.val = 64 * u + x0.val := e0
  replace e1 : e.val = 256 * h + x1.val := e1
  rw [hP, ogB]
  have hx0 := x0.isLt
  have hx1 := x1.isLt
  have a1 : k = ⟨e.val / 256, by omega⟩ := Fin.ext (by show k.val = e.val / 256; omega)
  have a2 : h = e.val / 256 := by omega
  have a3 : u = p.val / 64 := by omega
  have a4 : x0 = ⟨p.val % 64, by omega⟩ := Fin.ext (by show x0.val = p.val % 64; omega)
  have a5 : x1 = ⟨e.val % 256, by omega⟩ := Fin.ext (by show x1.val = e.val % 256; omega)
  rw [← a1, ← a2, ← a3, ← a4, ← a5]

theorem uncast_at (x : FVec Ideal S128x256 .f32) (a : Fin 128) (c : Fin 256) :
    (shapeCast S1x128x256 x shapeCasts_S128x256_S1x128x256 : FVec Ideal S1x128x256 .f32) (ix3 0 a c) = x (ix2 a c) := by pointwise

theorem canon_hit (n : ℕ) (inb) (P : FVec Ideal S1x128x256 .f32) (L : List (View.Piece (Elt Ideal) S4x128x256 .f32))
    (h : Fin 4) (hn : h.val = n) (a : Fin 128) (c : Fin 256) :
    (View.canon ((⟨Rect.unit (s := S4x128x256) ![n, 0, 0] S1x128x256.size inb, P⟩ : View.Piece (Elt Ideal) S4x128x256 .f32) :: L)
      : FVec Ideal S4x128x256 .f32) (ix3 h a c) = P (ix3 0 a c) := by
  have e : (ix3 h a c : S4x128x256.Idx) = (Rect.unit (s := S4x128x256) ![n, 0, 0] S1x128x256.size inb).emb (ix3 0 a c : S1x128x256.Idx) := by
    subst hn
    blk_ext
  rw [e]
  exact View.canon_cons_emb _ _ _ _

theorem canon_skip (n : ℕ) (inb) (P : FVec Ideal S1x128x256 .f32) (L : List (View.Piece (Elt Ideal) S4x128x256 .f32))
    (h : Fin 4) (hn : h.val ≠ n) (a : Fin 128) (c : Fin 256) :
    (View.canon ((⟨Rect.unit (s := S4x128x256) ![n, 0, 0] S1x128x256.size inb, P⟩ : View.Piece (Elt Ideal) S4x128x256 .f32) :: L)
      : FVec Ideal S4x128x256 .f32) (ix3 h a c) = (View.canon L : FVec Ideal S4x128x256 .f32) (ix3 h a c) := by
  refine View.canon_cons_of_not_mem _ _ fun hm => hn ?_
  have hm' := (Rect.mem_set_unit (inb := inb)).mp hm (0 : Fin 3)
  have h1 : n ≤ h.val := hm'.1
  have h2 : h.val < n + 1 := hm'.2
  omega

theorem canon_states (S0 S1 S2 S3 : FVec Ideal S128x256 .f32) (L : List (View.Piece (Elt Ideal) S4x128x256 .f32))
    (F : Fin 4 → Fin 128 → Fin 256 → EReal) (h : Fin 4) (a : Fin 128) (c : Fin 256)
    (e0 : S0 (ix2 a c) = F 0 a c) (e1 : S1 (ix2 a c) = F 1 a c) (e2 : S2 (ix2 a c) = F 2 a c) (e3 : S3 (ix2 a c) = F 3 a c) :
    (View.canon ((⟨Rect.unit (s := S4x128x256) ![3, 0, 0] S1x128x256.size inb_S4x128x256_S1x128x256_3_0_0, shapeCast S1x128x256 S3 shapeCasts_S128x256_S1x128x256⟩ : View.Piece (Elt Ideal) S4x128x256 .f32)
      :: (⟨Rect.unit (s := S4x128x256) ![2, 0, 0] S1x128x256.size inb_S4x128x256_S1x128x256_2_0_0, shapeCast S1x128x256 S2 shapeCasts_S128x256_S1x128x256⟩ : View.Piece (Elt Ideal) S4x128x256 .f32)
      :: (⟨Rect.unit (s := S4x128x256) ![1, 0, 0] S1x128x256.size inb_S4x128x256_S1x128x256_1_0_0, shapeCast S1x128x256 S1 shapeCasts_S128x256_S1x128x256⟩ : View.Piece (Elt Ideal) S4x128x256 .f32)
      :: (⟨Rect.unit (s := S4x128x256) ![0, 0, 0] S1x128x256.size inb_S4x128x256_S1x128x256_0_0_0, shapeCast S1x128x256 S0 shapeCasts_S128x256_S1x128x256⟩ : View.Piece (Elt Ideal) S4x128x256 .f32)
      :: L) : FVec Ideal S4x128x256 .f32) (ix3 h a c) = F h a c := by
  fin_cases h
  · exact (((canon_skip 3 _ _ _ _ (by decide) a c).trans (canon_skip 2 _ _ _ _ (by decide) a c)).trans
      (canon_skip 1 _ _ _ _ (by decide) a c)).trans ((canon_hit 0 _ _ _ _ rfl a c).trans ((uncast_at _ a c).trans e0))
  · exact ((canon_skip 3 _ _ _ _ (by decide) a c).trans (canon_skip 2 _ _ _ _ (by decide) a c)).trans
      ((canon_hit 1 _ _ _ _ rfl a c).trans ((uncast_at _ a c).trans e1))
  · exact (canon_skip 3 _ _ _ _ (by decide) a c).trans ((canon_hit 2 _ _ _ _ rfl a c).trans ((uncast_at _ a c).trans e2))
  · exact (canon_hit 3 _ _ _ _ rfl a c).trans ((uncast_at _ a c).trans e3)

end Cert.Gla
-- ==== Proof.GlaBlock.lean ====
/- A block of rows: the products of its normed rows with the weights, and what the arrays kept by the body read. -/
module

public import proofs.«01_k».proof.Proof.GlaPieces
public import proofs.«01_k».proof.Proof.TailPay
public import Idealize.ShloMosaic.Lib.WholeRead

@[expose] public section

set_option maxRecDepth 16384

noncomputable section

namespace Cert.Gla

open Cert.KernelGlaIdeal Cert.KernelGlaIdeal.Gen
open Idealize.ShloMosaic Idealize.ShloMosaic.TcCoe Idealize.SL.Sem
open Cert.Tail (normRow)

/-- A normed row against column `n` of the in-projection. -/
def rowProj (x g : Fin 1024 → EReal) (w : Fin 1024 → Fin 8208 → EReal) (n : Fin 8208) : EReal := ∑ k, normRow x g k * w k n

/-- The same over a block's arrays. -/
def bproj (x0 : FVec Ideal S512x1024 .f32) (x1 : FVec Ideal S1x1024 .f32) (x2 : FVec Ideal S1024x8208 .bf16) (p : Fin 512) (n : Fin 8208) : EReal :=
  rowProj (fun k => x0 (ix2 p k)) (fun k => x1 (ix2 0 k)) (fun k n => x2 (ix2 k n)) n

theorem pay4_at (X : FVec Ideal S512x1024 .f32) (g : FVec Ideal S1x1024 .f32) (p : Fin 512) (k : Fin 1024) :
    k0_pay4 (F := Ideal) X g (ix2 p k) = normRow (fun k => X (ix2 p k)) (fun k => g (ix2 0 k)) k := by
  pointwise [k0_pay4, normRow]

theorem mm512_at (H : FVec Ideal S512x1024 .bf16) (W : FVec Ideal S1024x512 .bf16) (p : Fin 512) (l : Fin 512) :
    k0_pay13 (F := Ideal) H W (ix2 p l) = ∑ k : Fin 1024, H (ix2 p k) * W (ix2 k l) := by
  pointwise [k0_pay13]

theorem mmK_at (H : FVec Ideal S512x1024 .bf16) (W : FVec Ideal S1024x512 .bf16) (p : Fin 512) (l : Fin 512) :
    k0_pay387 (F := Ideal) H W (ix2 p l) = ∑ k : Fin 1024, H (ix2 p k) * W (ix2 k l) := by
  pointwise [k0_pay387]

theorem mm256_at (H : FVec Ideal S512x1024 .bf16) (W : FVec Ideal S1024x256 .bf16) (p : Fin 512) (l : Fin 256) :
    k0_pay26 (F := Ideal) H W (ix2 p l) = ∑ k : Fin 1024, H (ix2 p k) * W (ix2 k l) := by
  pointwise [k0_pay26]

/-- A head norm's entry: the mean of the squares comes as a product with `avg`. -/
def headN (y : Fin 256 → EReal) (avg : Fin 256 → EReal) (g : EReal) (l : Fin 256) : EReal :=
  y l * Ideal.rsqrt ((∑ a, y a * y a * avg a) + Ideal.ofBits .f32 0x358637BD#32) * g

theorem head_at (y : FVec Ideal S512x256 .f32) (g : FVec Ideal S1x256 .f32) (avg : FVec Ideal S256x256 .bf16) (p : Fin 512) (l : Fin 256) :
    k0_pay504 (F := Ideal) y g avg (ix2 p l) = headN (fun a => y (ix2 p a)) (fun a => avg (ix2 a l)) (g (ix2 0 l)) l := by
  pointwise [k0_pay504, headN]

theorem la_at (H : FVec Ideal S512x1024 .bf16) (W : FVec Ideal S1024x128 .bf16) (w2 : FVec Ideal S128x512 .bf16) (gb : FVec Ideal S1x512 .f32) (p : Fin 512) (l : Fin 512) :
    k0_pay16 (F := Ideal) H W w2 gb (ix2 p l)
      = gate ((∑ a : Fin 128, (∑ k : Fin 1024, H (ix2 p k) * W (ix2 k a)) * w2 (ix2 a l)) + gb (ix2 0 l)) := by
  pointwise [k0_pay16, gate]
  simp only [zero_sub]
  rfl

theorem scaled_at (Y : FVec Ideal S512x512 .f32) (p : Fin 512) (l : Fin 512) :
    k0_pay18 (F := Ideal) Y k0_pay17 (ix2 p l) = Y (ix2 p l) * Ideal.ofBits .f32 0x3DB504F3#32 := by pointwise [k0_pay18, k0_pay17]

theorem kept_at (Y : FVec Ideal S512x512 .f32) (p : Fin 512) (l : Fin 512) :
    k0_pay19 (F := Ideal) Y (ix2 p l) = Y (ix2 p l) := by pointwise [k0_pay19]

theorem silu_at (Y : FVec Ideal S512x512 .f32) (p : Fin 512) (l : Fin 512) :
    k0_pay27 (F := Ideal) Y (ix2 p l) = Y (ix2 p l) * Ideal.logistic (Y (ix2 p l)) := by pointwise [k0_pay27]

theorem gateo_at (Y : FVec Ideal S512x512 .f32) (p : Fin 512) (l : Fin 512) :
    k0_pay545 (F := Ideal) Y (ix2 p l) = Ideal.logistic (Y (ix2 p l)) := by pointwise [k0_pay545]

/-- An entry inside the last piece written. -/
theorem canon_in {s : Shape} {e : EltTy} (off size : Fin s.rank → ℕ) (inb) (w : (Rect.unit (s := s) off size inb).shape.Idx → Elt Ideal e)
    (L : List (View.Piece (Elt Ideal) s e)) (x : (Rect.unit (s := s) off size inb).shape.Idx) (y : s.Idx) (h : ∀ a, (y a).val = off a + (x a).val) :
    View.canon ((⟨Rect.unit (s := s) off size inb, w⟩ : View.Piece (Elt Ideal) s e) :: L) y = w x := by
  have e1 : y = (Rect.unit (s := s) off size inb).emb x := funext fun a => Fin.ext ((h a).trans (Rect.idx_unit_val _ _ _ _ _).symm)
  rw [e1]
  exact View.canon_cons_emb _ _ _ _

/-- An entry outside the last piece written. -/
theorem canon_out {s : Shape} {e : EltTy} (off size : Fin s.rank → ℕ) (inb) (w : (Rect.unit (s := s) off size inb).shape.Idx → Elt Ideal e)
    (L : List (View.Piece (Elt Ideal) s e)) (y : s.Idx) (a : Fin s.rank) (h : (y a).val < off a) :
    View.canon ((⟨Rect.unit (s := s) off size inb, w⟩ : View.Piece (Elt Ideal) s e) :: L) y = View.canon L y :=
  View.canon_cons_of_not_mem _ _ fun hm => absurd ((Rect.mem_set_unit (inb := inb)).mp hm a).1 (by omega)

/-- A load through a box of what was written: the written array at the box's entry. -/
theorem load_at {s : Shape} {e : EltTy} {sp : Space} (v : View sig .tc sp s e) (L : List (View.Piece (Elt Ideal) s e)) (off size : Fin s.rank → ℕ) (inb)
    (x : (Rect.unit (s := s) off size inb).shape.Idx) (y : s.Idx) (h : ∀ a, (y a).val = off a + (x a).val) :
    v.readCov (Val := Elt Ideal) L (Rect.unit (s := s) off size inb).toLoadRect x = View.canon L y := by
  have e1 : y = (Rect.unit (s := s) off size inb).toLoadRect.idx x := funext fun a => Fin.ext ((h a).trans (Rect.idx_unit_val _ _ _ _ _).symm)
  rw [e1]
  exact congrFun (View.readCov_eq_canon' v L _) x

theorem ofNat512 (r0 j : ℕ) (h : r0 + j < 512) : (Fin.ofNat 512 (r0 + j)).val = r0 + j := Nat.mod_eq_of_lt h
theorem ofNat1024 (r0 j : ℕ) (h : r0 + j < 1024) : (Fin.ofNat 1024 (r0 + j)).val = r0 + j := Nat.mod_eq_of_lt h

/-- A tile of an array kept whole. -/
theorem read_one {e : EltTy} {sp : Space} (v : View sig .tc sp S512x512 e) (P : Vec Ideal S512x512 e) (r0 c0 : ℕ) (inb0) (inb) (j : Fin 64) (l : Fin 128) :
    (v.readCov (Val := Elt Ideal) [⟨Rect.unit (s := S512x512) ![0, 0] S512x512.size inb0, P⟩] (Rect.unit (s := S512x512) ![r0, c0] S64x128.size inb).toLoadRect : Vec Ideal S64x128 e) (ix2 j l)
      = P (ix2 (Fin.ofNat 512 (r0 + j.val)) (Fin.ofNat 512 (c0 + l.val))) := by
  have a0 : r0 + 64 ≤ 512 := inb 0
  have a1 : c0 + 128 ≤ 512 := inb 1
  have hj := j.isLt
  have hl := l.isLt
  refine (load_at v _ _ _ inb (ix2 j l) (ix2 (Fin.ofNat 512 (r0 + j.val)) (Fin.ofNat 512 (c0 + l.val))) fun a => ?_).trans ?_
  · match a with
    | 0 => exact ofNat512 r0 j.val (by omega)
    | 1 => exact ofNat512 c0 l.val (by omega)
  · refine canon_in _ _ inb0 P [] (ix2 (Fin.ofNat 512 (r0 + j.val)) (Fin.ofNat 512 (c0 + l.val))) _ fun a => ?_
    match a with
    | 0 => exact (Nat.zero_add _).symm
    | 1 => exact (Nat.zero_add _).symm

/-- Two halves side by side, read at an entry. -/
theorem halves_at {e : EltTy} (F : Fin 512 → Fin 1024 → Elt Ideal e) (P0 P1 : Vec Ideal S512x512 e) (h0 : ∀ p l, P0 (ix2 p l) = F p ⟨l.val, by omega⟩)
    (h1 : ∀ p l, P1 (ix2 p l) = F p ⟨512 + l.val, by omega⟩) (inb0) (inb1) (p : Fin 512) (c : Fin 1024) :
    (View.canon (Val := Elt Ideal) [⟨Rect.unit (s := S512x1024) ![0, 512] S512x512.size inb1, P1⟩, ⟨Rect.unit (s := S512x1024) ![0, 0] S512x512.size inb0, P0⟩] : Vec Ideal S512x1024 e) (ix2 p c)
      = F p c := by
  have hc' := c.isLt
  by_cases hc : 512 ≤ c.val
  · refine (canon_in _ _ inb1 P1 _ (ix2 p (⟨c.val - 512, by omega⟩ : Fin 512)) _ fun a => ?_).trans
      ((h1 _ _).trans (congrArg (F p) (Fin.ext (show 512 + (c.val - 512) = c.val by omega))))
    match a with
    | 0 => exact (Nat.zero_add _).symm
    | 1 => show c.val = 512 + (c.val - 512); omega
  · refine (canon_out _ _ inb1 P1 _ _ (1 : Fin 2) (show c.val < 512 by omega)).trans
      ((canon_in _ _ inb0 P0 _ (ix2 p (⟨c.val, by omega⟩ : Fin 512)) _ fun a => ?_).trans (h0 _ _))
    match a with
    | 0 => exact (Nat.zero_add _).symm
    | 1 => exact (Nat.zero_add _).symm

/-- A tile of an array kept as two halves. -/
theorem read_two {e : EltTy} {sp : Space} (v : View sig .tc sp S512x1024 e) (F : Fin 512 → Fin 1024 → Elt Ideal e) (P0 P1 : Vec Ideal S512x512 e)
    (h0 : ∀ p l, P0 (ix2 p l) = F p ⟨l.val, by omega⟩) (h1 : ∀ p l, P1 (ix2 p l) = F p ⟨512 + l.val, by omega⟩) (r0 c0 : ℕ) (inb0) (inb1) (inb) (j : Fin 64) (l : Fin 256) :
    (v.readCov (Val := Elt Ideal) [⟨Rect.unit (s := S512x1024) ![0, 512] S512x512.size inb1, P1⟩, ⟨Rect.unit (s := S512x1024) ![0, 0] S512x512.size inb0, P0⟩]
        (Rect.unit (s := S512x1024) ![r0, c0] S64x256.size inb).toLoadRect : Vec Ideal S64x256 e) (ix2 j l)
      = F (Fin.ofNat 512 (r0 + j.val)) (Fin.ofNat 1024 (c0 + l.val)) := by
  have a0 : r0 + 64 ≤ 512 := inb 0
  have a1 : c0 + 256 ≤ 1024 := inb 1
  have hj := j.isLt
  have hl := l.isLt
  refine (load_at v _ _ _ inb (ix2 j l) (ix2 (Fin.ofNat 512 (r0 + j.val)) (Fin.ofNat 1024 (c0 + l.val))) fun a => ?_).trans
    (halves_at F P0 P1 h0 h1 inb0 inb1 _ _)
  match a with
  | 0 => exact ofNat512 r0 j.val (by omega)
  | 1 => exact ofNat1024 c0 l.val (by omega)

/-- Four tiles of 256 columns side by side, read at an entry. -/
theorem tiles_at (F : Fin 512 → Fin 1024 → EReal) (P0 P1 P2 P3 : FVec Ideal S512x256 .bf16)
    (h0 : ∀ p l, P0 (ix2 p l) = F p ⟨l.val, by omega⟩) (h1 : ∀ p l, P1 (ix2 p l) = F p ⟨256 + l.val, by omega⟩)
    (h2 : ∀ p l, P2 (ix2 p l) = F p ⟨512 + l.val, by omega⟩) (h3 : ∀ p l, P3 (ix2 p l) = F p ⟨768 + l.val, by omega⟩)
    (inb0) (inb1) (inb2) (inb3) (p : Fin 512) (c : Fin 1024) :
    (View.canon (Val := Elt Ideal) (s := S512x1024) (e := .bf16) [⟨Rect.unit (s := S512x1024) ![0, 768] S512x256.size inb3, P3⟩, ⟨Rect.unit (s := S512x1024) ![0, 512] S512x256.size inb2, P2⟩,
      ⟨Rect.unit (s := S512x1024) ![0, 256] S512x256.size inb1, P1⟩, ⟨Rect.unit (s := S512x1024) ![0, 0] S512x256.size inb0, P0⟩] : FVec Ideal S512x1024 .bf16) (ix2 p c)
      = F p c := by
  have hc' := c.isLt
  by_cases hc3 : 768 ≤ c.val
  · refine (canon_in (e := .bf16) _ _ inb3 P3 _ (ix2 p (⟨c.val - 768, by omega⟩ : Fin 256)) _ fun a => ?_).trans
      ((h3 _ _).trans (congrArg (F p) (Fin.ext (show 768 + (c.val - 768) = c.val by omega))))
    match a with
    | 0 => exact (Nat.zero_add _).symm
    | 1 => show c.val = 768 + (c.val - 768); omega
  refine (canon_out (e := .bf16) _ _ inb3 P3 _ _ (1 : Fin 2) (show c.val < 768 by omega)).trans ?_
  by_cases hc2 : 512 ≤ c.val
  · refine (canon_in (e := .bf16) _ _ inb2 P2 _ (ix2 p (⟨c.val - 512, by omega⟩ : Fin 256)) _ fun a => ?_).trans
      ((h2 _ _).trans (congrArg (F p) (Fin.ext (show 512 + (c.val - 512) = c.val by omega))))
    match a with
    | 0 => exact (Nat.zero_add _).symm
    | 1 => show c.val = 512 + (c.val - 512); omega
  refine (canon_out (e := .bf16) _ _ inb2 P2 _ _ (1 : Fin 2) (show c.val < 512 by omega)).trans ?_
  by_cases hc1 : 256 ≤ c.val
  · refine (canon_in (e := .bf16) _ _ inb1 P1 _ (ix2 p (⟨c.val - 256, by omega⟩ : Fin 256)) _ fun a => ?_).trans
      ((h1 _ _).trans (congrArg (F p) (Fin.ext (show 256 + (c.val - 256) = c.val by omega))))
    match a with
    | 0 => exact (Nat.zero_add _).symm
    | 1 => show c.val = 256 + (c.val - 256); omega
  refine (canon_out (e := .bf16) _ _ inb1 P1 _ _ (1 : Fin 2) (show c.val < 256 by omega)).trans ?_
  refine (canon_in (e := .bf16) _ _ inb0 P0 _ (ix2 p (⟨c.val, by omega⟩ : Fin 256)) _ fun a => ?_).trans (h0 _ _)
  match a with
  | 0 => exact (Nat.zero_add _).symm
  | 1 => exact (Nat.zero_add _).symm

/-- A block read whole. -/
theorem full_at {s : Shape} {e : EltTy} {sp : Space} (M : Memref sig .tc sp s e) (h : M.IsWhole) (X : Vec Ideal s e) (off : Fin s.rank → ℕ) (inb)
    (h0 : ∀ a, off a = 0) : (View.readAt (Elt Ideal) M.view (Rect.unit (s := s) off s.size inb).toLoadRect (h.unread X) : Vec Ideal s e) = X := by
  funext i
  refine (Memref.IsWhole.readAt_unread h X _ i).trans (congrArg X (funext fun a =>
    Fin.ext ((Rect.idx_unit_val _ _ _ _ _).trans (by rw [h0]; exact Nat.zero_add _))))

/-- Columns of the weights, read from column `c0`. -/
theorem cols_at {n n' : ℕ} {e : EltTy} {sp : Space} (M : Memref sig .tc sp ⟨2, ![1024, n']⟩ e) (h : M.IsWhole) (X : Vec Ideal ⟨2, ![1024, n']⟩ e) (c0 : ℕ) (inb)
    (k : Fin 1024) (l : Fin n) (hl : c0 + l.val < n') :
    (View.readAt (Elt Ideal) M.view (Rect.unit (s := ⟨2, ![1024, n']⟩) ![0, c0] (⟨2, ![1024, n]⟩ : Shape).size inb).toLoadRect (h.unread X) : Vec Ideal ⟨2, ![1024, n]⟩ e) (ix2 k l)
      = X (ix2 k ⟨c0 + l.val, hl⟩) := by
  refine (Memref.IsWhole.readAt_unread h X _ (ix2 k l)).trans (congrArg X (funext fun a => match a with
    | 0 => Fin.ext ((Rect.idx_unit_val _ _ _ _ _).trans (Nat.zero_add _))
    | 1 => Fin.ext (Rect.idx_unit_val _ _ _ _ _)))

end Cert.Gla
-- ==== Proof.GlaFields.lean ====
/- What one point of the grid works out of its block: queries, keys, values, gates and the results of the projection. -/
module

public import proofs.«01_k».proof.Proof.GlaBlock
public import proofs.«01_k».proof.Proof.GlaUnit

@[expose] public section

set_option maxRecDepth 16384

noncomputable section

namespace Cert.Gla

open Cert.KernelGlaIdeal Cert.KernelGlaIdeal.Gen
open Idealize.ShloMosaic Idealize.ShloMosaic.TcCoe Idealize.SL.Sem
open Cert.Tail (normRow)

variable (x0 : FVec Ideal S512x1024 .f32) (x1 : FVec Ideal S1x1024 .f32) (x2 : FVec Ideal S1024x8208 .bf16)

def bQ (p : Fin 512) (l : Fin 512) : EReal := bproj x0 x1 x2 p ⟨3072 + l.val, by omega⟩ * Ideal.ofBits .f32 0x3DB504F3#32
def bK (p : Fin 512) (l : Fin 512) : EReal := bproj x0 x1 x2 p ⟨3584 + l.val, by omega⟩
def bV (p : Fin 512) (c : Fin 1024) : EReal := bproj x0 x1 x2 p ⟨4096 + c.val, by omega⟩
def silu (y : EReal) : EReal := y * Ideal.logistic y
def bR (p : Fin 512) (c : Fin 1024) : EReal := silu (bproj x0 x1 x2 p ⟨5120 + c.val, by omega⟩)
def bLogit (x3 : FVec Ideal S128x512 .bf16) (x4 : FVec Ideal S1x512 .f32) (p l : Fin 512) : EReal :=
  (∑ a : Fin 128, bproj x0 x1 x2 p ⟨6144 + a.val, by omega⟩ * x3 (ix2 a l)) + x4 (ix2 0 l)
def bG (x3 : FVec Ideal S128x512 .bf16) (x4 : FVec Ideal S1x512 .f32) (p l : Fin 512) : EReal := gate (bLogit x0 x1 x2 x3 x4 p l)

/-- A head-normed column, of the columns that begin at `base`. -/
def bH (base : ℕ) (hb : base ≤ 4096) (gn : FVec Ideal S1x256 .f32) (avg : FVec Ideal S256x256 .bf16) (p : Fin 512) (c : Fin 1024) : EReal :=
  headN (fun a => bproj x0 x1 x2 p ⟨base + (256 * (c.val / 256) + a.val), by omega⟩) (fun a => avg (ix2 a ⟨c.val % 256, Nat.mod_lt _ (by decide)⟩))
    (gn (ix2 0 ⟨c.val % 256, Nat.mod_lt _ (by decide)⟩)) ⟨c.val % 256, Nat.mod_lt _ (by decide)⟩

def bVo (p : Fin 512) (c : Fin 1024) : EReal := bproj x0 x1 x2 p ⟨2048 + c.val, by omega⟩

/-- A merge gate, from the kept copy of the last columns. -/
def bgate (wb : FVec Ideal S1024x2048 .bf16) (p : Fin 512) (n : Fin 2048) : EReal :=
  Ideal.logistic (∑ k, normRow (fun k => x0 (ix2 p k)) (fun k => x1 (ix2 0 k)) k * wb (ix2 k n))

variable {x0 x1 x2}

theorem normed_at {sp sp' : Space} (M1 : Memref sig .tc sp S512x1024 .f32) (h1 : M1.IsWhole) (M2 : Memref sig .tc sp' S1x1024 .f32) (h2 : M2.IsWhole) (inb) (inb') (p : Fin 512) (k : Fin 1024) :
    k0_pay4 (F := Ideal) (View.readAt (Elt Ideal) M1.view (Rect.unit (s := S512x1024) ![0, 0] S512x1024.size inb).toLoadRect (h1.unread x0))
      (View.readAt (Elt Ideal) M2.view (Rect.unit (s := S1x1024) ![0, 0] S1x1024.size inb').toLoadRect (h2.unread x1)) (ix2 p k)
      = normRow (fun k => x0 (ix2 p k)) (fun k => x1 (ix2 0 k)) k := by
  rw [full_at M1 h1 x0 _ inb (fun a => match a with | 0 => rfl | 1 => rfl), full_at M2 h2 x1 _ inb' (fun a => match a with | 0 => rfl | 1 => rfl)]
  exact pay4_at _ _ _ _

theorem proj512_at {H : FVec Ideal S512x1024 .bf16} (hH : ∀ p k, H (ix2 p k) = normRow (fun k => x0 (ix2 p k)) (fun k => x1 (ix2 0 k)) k)
    {sp : Space} (M : Memref sig .tc sp S1024x8208 .bf16) (w : M.IsWhole) (c0 : ℕ) (inb) (p l : Fin 512) (n : Fin 8208) (hn : n.val = c0 + l.val) :
    k0_pay13 (F := Ideal) H (View.readAt (Elt Ideal) M.view (Rect.unit (s := S1024x8208) ![0, c0] S1024x512.size inb).toLoadRect (w.unread x2)) (ix2 p l) = bproj x0 x1 x2 p n := by
  obtain ⟨n, h'⟩ := n
  obtain rfl : n = c0 + l.val := hn
  refine (mm512_at _ _ _ _).trans ?_
  unfold bproj rowProj
  exact Finset.sum_congr rfl fun k _ => congrArg₂ (· * ·) (hH p k) (cols_at M w x2 c0 inb k l h')

theorem proj256_at {H : FVec Ideal S512x1024 .bf16} (hH : ∀ p k, H (ix2 p k) = normRow (fun k => x0 (ix2 p k)) (fun k => x1 (ix2 0 k)) k)
    {sp : Space} (M : Memref sig .tc sp S1024x8208 .bf16) (w : M.IsWhole) (c0 : ℕ) (inb) (p : Fin 512) (l : Fin 256) (n : Fin 8208) (hn : n.val = c0 + l.val) :
    k0_pay26 (F := Ideal) H (View.readAt (Elt Ideal) M.view (Rect.unit (s := S1024x8208) ![0, c0] S1024x256.size inb).toLoadRect (w.unread x2)) (ix2 p l) = bproj x0 x1 x2 p n := by
  obtain ⟨n, h'⟩ := n
  obtain rfl : n = c0 + l.val := hn
  refine (mm256_at _ _ _ _).trans ?_
  unfold bproj rowProj
  exact Finset.sum_congr rfl fun k _ => congrArg₂ (· * ·) (hH p k) (cols_at M w x2 c0 inb k l h')

theorem logit_at {H : FVec Ideal S512x1024 .bf16} (hH : ∀ p k, H (ix2 p k) = normRow (fun k => x0 (ix2 p k)) (fun k => x1 (ix2 0 k)) k)
    {sp sp3 sp4 : Space} (M : Memref sig .tc sp S1024x8208 .bf16) (w : M.IsWhole) (inb) (M3 : Memref sig .tc sp3 S128x512 .bf16) (w3 : M3.IsWhole) (x3 : FVec Ideal S128x512 .bf16) (inb3)
    (M4 : Memref sig .tc sp4 S1x512 .f32) (w4 : M4.IsWhole) (x4 : FVec Ideal S1x512 .f32) (inb4) (p l : Fin 512) :
    k0_pay16 (F := Ideal) H (View.readAt (Elt Ideal) M.view (Rect.unit (s := S1024x8208) ![0, 6144] S1024x128.size inb).toLoadRect (w.unread x2))
      (View.readAt (Elt Ideal) M3.view (Rect.unit (s := S128x512) ![0, 0] S128x512.size inb3).toLoadRect (w3.unread x3))
      (View.readAt (Elt Ideal) M4.view (Rect.unit (s := S1x512) ![0, 0] S1x512.size inb4).toLoadRect (w4.unread x4)) (ix2 p l) = bG x0 x1 x2 x3 x4 p l := by
  rw [full_at M3 w3 x3 _ inb3 (fun a => match a with | 0 => rfl | 1 => rfl), full_at M4 w4 x4 _ inb4 (fun a => match a with | 0 => rfl | 1 => rfl)]
  refine (la_at _ _ _ _ _ _).trans ?_
  unfold bG bLogit bproj rowProj
  refine congrArg (fun z => gate (z + x4 (ix2 0 l))) (Finset.sum_congr rfl fun a _ => congrArg (· * x3 (ix2 a l)) ?_)
  exact Finset.sum_congr rfl fun k _ => congrArg₂ (· * ·) (hH p k) (cols_at M w x2 6144 inb k a (by omega))

theorem headed_at {y : FVec Ideal S512x256 .f32} (base : ℕ) (hb : base ≤ 4096) (t : ℕ) (ht : t < 4)
    (hy : ∀ p (l : Fin 256), y (ix2 p l) = bproj x0 x1 x2 p ⟨base + (256 * t + l.val), by omega⟩)
    {sp sp' : Space} (M : Memref sig .tc sp S1x256 .f32) (w : M.IsWhole) (x5 : FVec Ideal S1x256 .f32) (inb) (M' : Memref sig .tc sp' S256x256 .bf16) (w' : M'.IsWhole) (x7 : FVec Ideal S256x256 .bf16) (inb')
    (p : Fin 512) (l : Fin 256) :
    k0_pay504 (F := Ideal) y (View.readAt (Elt Ideal) M.view (Rect.unit (s := S1x256) ![0, 0] S1x256.size inb).toLoadRect (w.unread x5))
      (View.readAt (Elt Ideal) M'.view (Rect.unit (s := S256x256) ![0, 0] S256x256.size inb').toLoadRect (w'.unread x7)) (ix2 p l)
      = bH x0 x1 x2 base hb x5 x7 p ⟨256 * t + l.val, by omega⟩ := by
  rw [full_at M w x5 _ inb (fun a => match a with | 0 => rfl | 1 => rfl), full_at M' w' x7 _ inb' (fun a => match a with | 0 => rfl | 1 => rfl)]
  have hl := l.isLt
  have e1 : (⟨(256 * t + l.val) % 256, Nat.mod_lt _ (by decide)⟩ : Fin 256) = l := Fin.ext (by show (256 * t + l.val) % 256 = l.val; omega)
  have e2 : (256 * t + l.val) / 256 = t := by omega
  refine (head_at _ _ _ _ _).trans ?_
  unfold bH
  simp only [e1, e2]
  exact congrArg (fun f => headN f _ _ _) (funext fun a => hy p a)

/-- A merge gate's entry. -/
theorem merged_at {H : FVec Ideal S512x1024 .bf16} (hH : ∀ p k, H (ix2 p k) = normRow (fun k => x0 (ix2 p k)) (fun k => x1 (ix2 0 k)) k)
    (W : FVec Ideal S1024x512 .bf16) (wb : FVec Ideal S1024x2048 .bf16) (p l : Fin 512) (n : Fin 2048) (hW : ∀ k, W (ix2 k l) = wb (ix2 k n)) :
    k0_pay545 (F := Ideal) (k0_pay387 (F := Ideal) H W) (ix2 p l) = bgate x0 x1 wb p n :=
  (gateo_at _ _ _).trans (congrArg Ideal.logistic ((mmK_at _ _ _ _).trans (Finset.sum_congr rfl fun k _ => congrArg₂ (· * ·) (hH p k) (hW k))))

/-- The last columns of the weights. -/
def wbOf (x2 : FVec Ideal S1024x8208 .bf16) : FVec Ideal S1024x2048 .bf16 := fun i => x2 (ix2 (i 0) ⟨6160 + (i 1).val, by have h : (i 1).val < 2048 := (i 1).isLt; omega⟩)

theorem last_cols {sp : Space} (M : Memref sig .tc sp S1024x8208 .bf16) (w : M.IsWhole) (inb) (k : Fin 1024) (n : Fin 2048) :
    k0_pay5 (F := Ideal) (View.readAt (Elt Ideal) M.view (Rect.unit (s := S1024x8208) ![0, 6160] S1024x2048.size inb).toLoadRect (w.unread x2)) (ix2 k n) = wbOf x2 (ix2 k n) := by
  refine Eq.trans ?_ (cols_at M w x2 6160 inb k n (by omega))
  pointwise [k0_pay5]

/-- A kept array read by columns. -/
theorem kept_cols {sp : Space} (v : View sig .tc sp S1024x2048 .bf16) (P : FVec Ideal S1024x2048 .bf16) (c0 : ℕ) (inb0) (inb) (k : Fin 1024) (l : Fin 512) (hl : c0 + l.val < 2048) :
    (v.readCov (Val := Elt Ideal) [⟨Rect.unit (s := S1024x2048) ![0, 0] S1024x2048.size inb0, P⟩] (Rect.unit (s := S1024x2048) ![0, c0] S1024x512.size inb).toLoadRect : FVec Ideal S1024x512 .bf16) (ix2 k l)
      = P (ix2 k ⟨c0 + l.val, hl⟩) := by
  refine (load_at (e := .bf16) v _ _ _ inb (ix2 k l) (ix2 k (⟨c0 + l.val, hl⟩ : Fin 2048)) fun a => ?_).trans ?_
  · match a with
    | 0 => exact (Nat.zero_add _).symm
    | 1 => rfl
  · refine canon_in (e := .bf16) _ _ inb0 P [] (ix2 k (⟨c0 + l.val, hl⟩ : Fin 2048)) _ fun a => ?_
    match a with
    | 0 => exact (Nat.zero_add _).symm
    | 1 => exact (Nat.zero_add _).symm

theorem plain_at (Y : FVec Ideal S512x512 .f32) (p : Fin 512) (l : Fin 512) : k0_pay29 (F := Ideal) Y (ix2 p l) = Y (ix2 p l) := by pointwise [k0_pay29]

theorem levels_kept (M : FVec Ideal S256x128 .bf16) (h : IsLevels M) : IsLevels (k0_pay6 (F := Ideal) M) := by
  intro r m
  refine Eq.trans ?_ (h r m)
  pointwise [k0_pay6]

/-- A state read back, one head of it. -/
theorem state_load {sp : Space} (M : Memref sig .tc sp S4x128x256 .f32) (w : M.IsWhole) (X : FVec Ideal S4x128x256 .f32) (h : Fin 4) (n : ℕ) (hn : h.val = n) (inb) (a : Fin 128) (e : Fin 256) :
    (View.readAt (Elt Ideal) M.view (Rect.unit (s := S4x128x256) ![n, 0, 0] S1x128x256.size inb).toLoadRect (w.unread X) : FVec Ideal S1x128x256 .f32) (ix3 0 a e) = X (ix3 h a e) := by
  subst hn
  have e1 : (ix3 h a e : S4x128x256.Idx) = (Rect.unit (s := S4x128x256) ![h.val, 0, 0] S1x128x256.size inb).toLoadRect.idx (ix3 0 a e : S1x128x256.Idx) := by
    funext b
    match b with
    | 0 => exact Fin.ext ((Nat.add_zero _).symm.trans (Rect.idx_unit_val _ _ inb (ix3 0 a e : S1x128x256.Idx) 0).symm)
    | 1 => exact Fin.ext ((Nat.zero_add _).symm.trans (Rect.idx_unit_val _ _ inb (ix3 0 a e : S1x128x256.Idx) 1).symm)
    | 2 => exact Fin.ext ((Nat.zero_add _).symm.trans (Rect.idx_unit_val _ _ inb (ix3 0 a e : S1x128x256.Idx) 2).symm)
  rw [e1]
  exact Memref.IsWhole.readAt_unread (Val := Elt Ideal) w X (Rect.unit (s := S4x128x256) ![h.val, 0, 0] S1x128x256.size inb).toLoadRect (ix3 0 a e : S1x128x256.Idx)

theorem state_cov {sp : Space} (v : View sig .tc sp S4x128x256 .f32) (L : List (View.Piece (Elt Ideal) S4x128x256 .f32)) (h : Fin 4) (n : ℕ) (hn : h.val = n) (inb) (a : Fin 128) (e : Fin 256) :
    (v.readCov (Val := Elt Ideal) L (Rect.unit (s := S4x128x256) ![n, 0, 0] S1x128x256.size inb).toLoadRect : FVec Ideal S1x128x256 .f32) (ix3 0 a e)
      = (View.canon L : FVec Ideal S4x128x256 .f32) (ix3 h a e) := by
  subst hn
  refine load_at (e := .f32) v _ _ _ inb (ix3 0 a e) (ix3 h a e) fun b => ?_
  match b with
  | 0 => exact (Nat.add_zero _).symm
  | 1 => exact (Nat.zero_add _).symm
  | 2 => exact (Nat.zero_add _).symm

theorem state_zero (inb) (h : Fin 4) (a : Fin 128) (e : Fin 256) :
    (View.canon (Val := Elt Ideal) (s := S4x128x256) (e := .f32) [⟨Rect.unit (s := S4x128x256) ![0, 0, 0] S4x128x256.size inb, k0_pay3 (F := Ideal)⟩] : FVec Ideal S4x128x256 .f32) (ix3 h a e) = 0 := by
  refine (canon_in (e := .f32) _ _ inb (k0_pay3 (F := Ideal)) [] (ix3 h a e) _ fun b => ?_).trans (by pointwise [k0_pay3])
  match b with
  | 0 => exact (Nat.zero_add _).symm
  | 1 => exact (Nat.zero_add _).symm
  | 2 => exact (Nat.zero_add _).symm

end Cert.Gla
-- ==== Proof.GlaIn.lean ====
/- The blocks that a point of the grid reads, from the arguments. -/
module

public import proofs.«01_k».proof.Proof.GlaFields
public import proofs.«01_k».proof.Proof.Gen.KernelGlaIdeal.Value
public import Idealize.ShloMosaic.Lib.StableHlo.RunRead

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

/-- The windows' block indices: row block `t` for the rows and the results, the whole array for the others. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

theorem pt_lt (t : Fin cfg0.N) : t.val < 64 := lt_of_lt_of_eq t.isLt N_0

/-- The sequence of point `t`. -/
def seqOf (t : Fin cfg0.N) : Fin 8 := ⟨t.val / 8, by have := pt_lt t; omega⟩
/-- The place in its sequence of row `p` of point `t`. -/
def posOf (t : Fin cfg0.N) (p : Fin 512) : Fin 4096 := ⟨t.val % 8 * 512 + p.val, by have := pt_lt t; omega⟩

theorem rows_at (X : FVec Ideal S8x4096x1024 .f32) (b : Fin 8) (s : Fin 4096) (k : Fin 1024) (r : Fin 32768) (hr : r.val = b.val * 4096 + s.val) :
    shapeCast S32768x1024 X shapeCasts_S8x4096x1024_S32768x1024 (ix2 r k) = X (ix3 b s k) :=
  shapeCast_apply _ _ _ _ (by
    rw [Shape.rowMajor_val_three, Shape.rowMajor_val_two]
    show (b.val * 4096 + s.val) * 1024 + k.val = r.val * 1024 + k.val
    rw [hr])

theorem blk0_at (c : Dev nD) (t : Fin cfg0.N) (p : Fin 512) (k : Fin 1024) :
    (iblk m c 0 t : FVec Ideal S512x1024 .f32) (ix2 p k) = (m ((c : Thread nD τ).loc main_arg0) : FVec Ideal S8x4096x1024 .f32) (ix3 (seqOf t) (posOf t p) k) := by
  have h := pt_lt t
  have e : (iblk m c 0 t : FVec Ideal S512x1024 .f32) (ix2 p k) = (V m c main_v0 : FVec Ideal S32768x1024 .f32) (ix2 ⟨t.val * 512 + p.val, by omega⟩ k) := by
    blk_ext [iblk, idx t]
  rw [e]
  unfold V
  after_reads_simp
  exact rows_at _ (seqOf t) (posOf t p) k ⟨t.val * 512 + p.val, by omega⟩ (by simp only [seqOf, posOf]; omega)

theorem blk1_at (c : Dev nD) (t : Fin cfg0.N) (k : Fin 1024) :
    (iblk m c 1 t : FVec Ideal S1x1024 .f32) (ix2 0 k) = (m ((c : Thread nD τ).loc main_arg1) : FVec Ideal S1x1024 .f32) (ix2 0 k) := by
  have e : (iblk m c 1 t : FVec Ideal S1x1024 .f32) (ix2 0 k) = (V m c main_v96 : FVec Ideal S1x1024 .f32) (ix2 0 k) := by blk_ext [iblk, idx t]
  rw [e]
  unfold V
  after_reads_simp
  show shapeCast S1x1024 (shapeCast S1024 (m ((c : Thread nD τ).loc main_arg1) : FVec Ideal S1x1024 .f32) shapeCasts_S1x1024_S1024) shapeCasts_S1024_S1x1024 (ix2 0 k) = _
  pointwise

theorem blk4_at (c : Dev nD) (t : Fin cfg0.N) (l : Fin 512) :
    (iblk m c 4 t : FVec Ideal S1x512 .f32) (ix2 0 l) = (m ((c : Thread nD τ).loc main_arg6) : FVec Ideal S1x512 .f32) (ix2 0 l) := by
  have e : (iblk m c 4 t : FVec Ideal S1x512 .f32) (ix2 0 l) = (V m c main_v98 : FVec Ideal S1x512 .f32) (ix2 0 l) := by blk_ext [iblk, idx t]
  rw [e]
  unfold V
  after_reads_simp
  show shapeCast S1x512 (shapeCast S512 (m ((c : Thread nD τ).loc main_arg6) : FVec Ideal S1x512 .f32) shapeCasts_S1x512_S512) shapeCasts_S512_S1x512 (ix2 0 l) = _
  pointwise

theorem tiled_at (Y : FVec Ideal S64 .f32) (l : Fin 256) :
    shapeCast S1x256 (shapeCast S256 (broadcastInDim S4x64 ![0, 1] bcast_S1x64_S4x64_0_1 (shapeCast S1x64 Y shapeCasts_S64_S1x64)) shapeCasts_S4x64_S256) shapeCasts_S256_S1x256 (ix2 0 l)
      = Y (ix1 ⟨l.val % 64, Nat.mod_lt _ (by decide)⟩) := by
  pointwise

theorem blk5_at (c : Dev nD) (t : Fin cfg0.N) (l : Fin 256) :
    (iblk m c 5 t : FVec Ideal S1x256 .f32) (ix2 0 l) = Scalar.mulf (F := Ideal) (φ := .f32) ((m ((c : Thread nD τ).loc main_arg3) : FVec Ideal S1x64 .f32) (ix2 0 ⟨l.val % 64, Nat.mod_lt _ (by decide)⟩)) (Ideal.ofBits .f32 1043900987#32) := by
  have e : (iblk m c 5 t : FVec Ideal S1x256 .f32) (ix2 0 l) = (V m c main_v15 : FVec Ideal S1x256 .f32) (ix2 0 l) := by blk_ext [iblk, idx t]
  rw [e]
  unfold V
  after_reads_simp
  refine (tiled_at (mulf (shapeCast S64 (m ((c : Thread nD τ).loc main_arg3) : FVec Ideal S1x64 .f32) shapeCasts_S1x64_S64) (broadcastInDim S64 ![] bcast_S_S64 (constant (F := Ideal) S_ .f32 1043900987#32))) l).trans ?_
  pointwise

theorem blk6_at (c : Dev nD) (t : Fin cfg0.N) (l : Fin 256) :
    (iblk m c 6 t : FVec Ideal S1x256 .f32) (ix2 0 l) = (m ((c : Thread nD τ).loc main_arg4) : FVec Ideal S1x64 .f32) (ix2 0 ⟨l.val % 64, Nat.mod_lt _ (by decide)⟩) := by
  have e : (iblk m c 6 t : FVec Ideal S1x256 .f32) (ix2 0 l) = (V m c main_v19 : FVec Ideal S1x256 .f32) (ix2 0 l) := by blk_ext [iblk, idx t]
  rw [e]
  unfold V
  after_reads_simp
  refine (tiled_at (shapeCast S64 (m ((c : Thread nD τ).loc main_arg4) : FVec Ideal S1x64 .f32) shapeCasts_S1x64_S64) l).trans ?_
  pointwise

theorem blk9_at (c : Dev nD) (t : Fin cfg0.N) (l : Fin 256) :
    (iblk m c 9 t : FVec Ideal S1x256 .f32) (ix2 0 l) = (m ((c : Thread nD τ).loc main_arg7) : FVec Ideal S1x256 .f32) (ix2 0 l) := by
  have e : (iblk m c 9 t : FVec Ideal S1x256 .f32) (ix2 0 l) = (V m c main_v99 : FVec Ideal S1x256 .f32) (ix2 0 l) := by blk_ext [iblk, idx t]
  rw [e]
  unfold V
  after_reads_simp
  show shapeCast S1x256 (shapeCast S256 (m ((c : Thread nD τ).loc main_arg7) : FVec Ideal S1x256 .f32) shapeCasts_S1x256_S256) shapeCasts_S256_S1x256 (ix2 0 l) = _
  pointwise

/-- Whether two columns lie in one head of the head norms. -/
def sameHead : IVec S256x256 1 :=
  cmpi CmpIPredicate.eq (Host.shrsi (iotaInDim S256x256 32 0) (broadcastInDim S256x256 ![] bcast_S_S256x256 (constantI S_ 32 6#32)))
    (Host.shrsi (iotaInDim S256x256 32 1) (broadcastInDim S256x256 ![] bcast_S_S256x256 (constantI S_ 32 6#32)))

theorem sameHead_at : ∀ a l : Fin 256, sameHead (ix2 a l) = if a.val / 64 = l.val / 64 then 1#1 else 0#1 := by
  decide +kernel

theorem blk7_at (c : Dev nD) (t : Fin cfg0.N) (a l : Fin 256) :
    (iblk m c 7 t : FVec Ideal S256x256 .bf16) (ix2 a l) = if a.val / 64 = l.val / 64 then Ideal.ofBits .f32 0x3C800000#32 else 0 := by
  have e : (iblk m c 7 t : FVec Ideal S256x256 .bf16) (ix2 a l) = (V m c main_v28 : FVec Ideal S256x256 .bf16) (ix2 a l) := by blk_ext [iblk, idx t]
  rw [e]
  unfold V
  after_reads_simp
  show Scalar.select (sameHead (ix2 a l)) (Ideal.ofBits .f32 1015021568#32) (Ideal.ofBits .f32 0#32) = _
  rw [sameHead_at]
  by_cases h : a.val / 64 = l.val / 64
  · rw [if_pos h, if_pos h]; rfl
  · rw [if_neg h, if_neg h]
    refine Eq.trans (b := Ideal.ofBits .f32 0#32) rfl ?_
    simp

end Cert.Gla
-- ==== Proof.GlaInB.lean ====
/- The blocks of the two weight matrices that a point of the grid reads. -/
module

public import proofs.«01_k».proof.Proof.GlaFields
public import proofs.«01_k».proof.Proof.Gen.KernelGlaIdeal.Value
public import Idealize.ShloMosaic.Lib.StableHlo.RunRead
public import Idealize.ShloMosaic.Lib.KernelVsHost
public import Idealize.ShloMosaic.Lib.ValueLayout

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

theorem idx2 : ∀ t : Fin cfg0.N, win0_2.index t = ![0, 0] ∧ win0_3.index t = ![0, 0] :=
  (by decide +kernel : ∀ t : Fin grid0.N, _)

theorem blk2_at (c : Dev nD) (t : Fin cfg0.N) (k : Fin 1024) (n : Fin 8208) :
    (iblk m c 2 t : FVec Ideal S1024x8208 .bf16) (ix2 k n) = (m ((c : Thread nD τ).loc main_arg2) : FVec Ideal S1x1024x8208 .f32) (ix3 0 k n) := by
  have e : (iblk m c 2 t : FVec Ideal S1024x8208 .bf16) (ix2 k n) = (V m c main_v97 : FVec Ideal S1024x8208 .bf16) (ix2 k n) := by blk_ext [iblk, idx2 t]
  rw [e]
  unfold V
  after_reads_simp
  exact ValueIdx.shapeCast_1ab_ab_apply _ shapeCasts_S1x1024x8208_S1024x8208 k n

theorem padRows_at (y : FVec Ideal S16x512 .f32) (z : FVec Ideal S_ .f32) (a : Fin 128) (l : Fin 512) :
    pad S128x512 ![0, 0] ![112, 0] ![0, 0] y z pads_S16x512_S128x512_01120_000 h_S_ (ix2 a l)
      = if h : a.val < 16 then y (ix2 ⟨a.val, h⟩ l) else z (Shape.Idx.first h_S_) := by
  by_cases h : a.val < 16
  · rw [dif_pos h]
    exact pad_apply_of_inside _ _ _ _ _ _ _ _ _ fun ax => match ax with
      | ⟨0, _⟩ => by show a.val = 0 + a.val * 1; omega
      | ⟨1, _⟩ => by show l.val = 0 + l.val * 1; omega
  · rw [dif_neg h]
    refine pad_apply_of_not_inside _ _ _ _ _ _ _ _ (0 : Fin 2) fun hh => ?_
    have h3 : (a.val - 0) / 1 < 16 := hh.2.2
    omega

/-- The gate weights with rows of zeros below them. -/
def padded (w : FVec Ideal S1x16x512 .f32) (a : Fin 128) (l : Fin 512) : EReal := if h : a.val < 16 then w (ix3 0 ⟨a.val, h⟩ l) else 0

theorem blk3_at (c : Dev nD) (t : Fin cfg0.N) (a : Fin 128) (l : Fin 512) :
    (iblk m c 3 t : FVec Ideal S128x512 .bf16) (ix2 a l) = padded (m ((c : Thread nD τ).loc main_arg5) : FVec Ideal S1x16x512 .f32) a l := by
  have e : (iblk m c 3 t : FVec Ideal S128x512 .bf16) (ix2 a l) = (V m c main_v9 : FVec Ideal S128x512 .bf16) (ix2 a l) := by blk_ext [iblk, idx2 t]
  rw [e]
  unfold V
  after_reads_simp
  refine (padRows_at (shapeCast S16x512 (m ((c : Thread nD τ).loc main_arg5) : FVec Ideal S1x16x512 .f32) shapeCasts_S1x16x512_S16x512) (sitofp (F := Ideal) .f32 (constantI S_ 32 0#32)) a l).trans ?_
  unfold padded
  by_cases h : a.val < 16
  · rw [dif_pos h, dif_pos h]
    exact ValueIdx.shapeCast_1ab_ab_apply _ shapeCasts_S1x16x512_S16x512 ⟨a.val, h⟩ l
  · rw [dif_neg h, dif_neg h]
    show (((0#32 : BitVec 32).toInt : ℝ) : EReal) = 0
    simp

end Cert.Gla
-- ==== Proof.GlaSpec.lean ====
/- The values of the call, from its arguments, and the blocks of a point of the grid in their terms. -/
module

public import proofs.«01_k».proof.Proof.GlaIn
public import proofs.«01_k».proof.Proof.GlaInB

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

section Spec
variable (x : FVec Ideal S8x4096x1024 .f32) (g : FVec Ideal S1x1024 .f32) (w : FVec Ideal S1x1024x8208 .f32)
  (w2 : FVec Ideal S1x16x512 .f32) (gb : FVec Ideal S1x512 .f32)

/-- A normed row of `x` against a column of the in-projection. -/
def P (b : Fin 8) (s : Fin 4096) (n : Fin 8208) : EReal :=
  rowProj (fun k => x (ix3 b s k)) (fun k => g (ix2 0 k)) (fun k n => w (ix3 0 k n)) n

def sQ (b : Fin 8) (s : Fin 4096) (l : Fin 512) : EReal := P x g w b s ⟨3072 + l.val, by omega⟩ * Ideal.ofBits .f32 0x3DB504F3#32
def sK (b : Fin 8) (s : Fin 4096) (l : Fin 512) : EReal := P x g w b s ⟨3584 + l.val, by omega⟩
def sV (b : Fin 8) (s : Fin 4096) (l : Fin 1024) : EReal := P x g w b s ⟨4096 + l.val, by omega⟩
def sR (b : Fin 8) (s : Fin 4096) (l : Fin 1024) : EReal := silu (P x g w b s ⟨5120 + l.val, by omega⟩)
def sLogit (b : Fin 8) (s : Fin 4096) (l : Fin 512) : EReal :=
  (∑ a : Fin 16, P x g w b s ⟨6144 + a.val, by omega⟩ * w2 (ix3 0 a l)) + gb (ix2 0 l)
def sG (b : Fin 8) (s : Fin 4096) (l : Fin 512) : EReal := gate (sLogit x g w w2 gb b s l)

/-- The columns of head `h` in chunk `n` of a sequence. -/
def ch {D d : ℕ} [NeZero D] (X : Fin 4096 → Fin D → EReal) (h : ℕ) (n : ℕ) : Fin 64 → Fin d → EReal :=
  fun j l => X (Fin.ofNat 4096 (64 * n + j.val)) (Fin.ofNat D (d * h + l.val))

/-- The state of head `h` before chunk `n` of sequence `b`. -/
def sState (b : Fin 8) (h : ℕ) (n : ℕ) : Fin 128 → Fin 256 → EReal :=
  stateAt (ch (sK x g w b) h) (ch (sV x g w b) h) (ch (sG x g w w2 gb b) h) n

/-- The gated output. -/
def sOg (ng : FVec Ideal S1x256 .f32) (b : Fin 8) (s : Fin 4096) (e : Fin 1024) : EReal :=
  gatedRow (fun c => outRow (ch (sQ x g w b) (e.val / 256) (s.val / 64)) (ch (sK x g w b) (e.val / 256) (s.val / 64)) (ch (sV x g w b) (e.val / 256) (s.val / 64)) (ch (sG x g w w2 gb b) (e.val / 256) (s.val / 64))
    (sState x g w w2 gb b (e.val / 256) (s.val / 64)) ⟨s.val % 64, Nat.mod_lt _ (by decide)⟩ c) (fun a => ng (ix2 0 a)) (sR x g w b s e) ⟨e.val % 256, Nat.mod_lt _ (by decide)⟩

/-- A head-normed column, of the columns that begin at `base`; `gn` is the head's gains. -/
def sHead (base : ℕ) (hb : base ≤ 4096) (gn : Fin 64 → EReal) (b : Fin 8) (s : Fin 4096) (e : Fin 1024) : EReal :=
  P x g w b s ⟨base + e.val, by omega⟩
    * Ideal.rsqrt (Ideal.div (∑ i : Fin 64, P x g w b s ⟨base + (64 * (e.val / 64) + i.val), by omega⟩ * P x g w b s ⟨base + (64 * (e.val / 64) + i.val), by omega⟩) (Ideal.ofBits .f32 0x42800000#32) + Ideal.ofBits .f32 0x358637BD#32)
    * gn ⟨e.val % 64, Nat.mod_lt _ (by decide)⟩

def sVo (b : Fin 8) (s : Fin 4096) (e : Fin 1024) : EReal := P x g w b s ⟨2048 + e.val, by omega⟩
def sGate (o : ℕ) (ho : o ≤ 1024) (b : Fin 8) (s : Fin 4096) (e : Fin 1024) : EReal := Ideal.logistic (P x g w b s ⟨6160 + (o + e.val), by omega⟩)

/-- A value by sequence and place as the array of rows. -/
def rows (f : Fin 8 → Fin 4096 → Fin 1024 → EReal) : FVec Ideal S32768x1024 .bf16 := fun j =>
  f ⟨(j 0).val / 4096, by have h : (j 0).val < 32768 := (j 0).isLt; omega⟩ ⟨(j 0).val % 4096, Nat.mod_lt _ (by decide)⟩ (j 1)

end Spec

variable (m : (ℓ : Loc nD τ sig) → Buf (Elt Ideal) ℓ)

abbrev aX (c : Dev nD) : FVec Ideal S8x4096x1024 .f32 := m ((c : Thread nD τ).loc main_arg0)
abbrev aN (c : Dev nD) : FVec Ideal S1x1024 .f32 := m ((c : Thread nD τ).loc main_arg1)
abbrev aW (c : Dev nD) : FVec Ideal S1x1024x8208 .f32 := m ((c : Thread nD τ).loc main_arg2)
abbrev aQn (c : Dev nD) : FVec Ideal S1x64 .f32 := m ((c : Thread nD τ).loc main_arg3)
abbrev aKn (c : Dev nD) : FVec Ideal S1x64 .f32 := m ((c : Thread nD τ).loc main_arg4)
abbrev aW2 (c : Dev nD) : FVec Ideal S1x16x512 .f32 := m ((c : Thread nD τ).loc main_arg5)
abbrev aGb (c : Dev nD) : FVec Ideal S1x512 .f32 := m ((c : Thread nD τ).loc main_arg6)
abbrev aOn (c : Dev nD) : FVec Ideal S1x256 .f32 := m ((c : Thread nD τ).loc main_arg7)

theorem bproj_at (c : Dev nD) (t : Fin cfg0.N) (p : Fin 512) (n : Fin 8208) :
    bproj (iblk m c 0 t) (iblk m c 1 t) (iblk m c 2 t) p n = P (aX m c) (aN m c) (aW m c) (seqOf t) (posOf t p) n := by
  unfold bproj P
  simp only [blk0_at, blk1_at, blk2_at]

theorem bQ_at (c : Dev nD) (t : Fin cfg0.N) (p l : Fin 512) : bQ (iblk m c 0 t) (iblk m c 1 t) (iblk m c 2 t) p l = sQ (aX m c) (aN m c) (aW m c) (seqOf t) (posOf t p) l :=
  congrArg (· * Ideal.ofBits .f32 0x3DB504F3#32) (bproj_at m c t p _)
theorem bK_at (c : Dev nD) (t : Fin cfg0.N) (p l : Fin 512) : bK (iblk m c 0 t) (iblk m c 1 t) (iblk m c 2 t) p l = sK (aX m c) (aN m c) (aW m c) (seqOf t) (posOf t p) l := bproj_at m c t p _
theorem bV_at (c : Dev nD) (t : Fin cfg0.N) (p : Fin 512) (l : Fin 1024) : bV (iblk m c 0 t) (iblk m c 1 t) (iblk m c 2 t) p l = sV (aX m c) (aN m c) (aW m c) (seqOf t) (posOf t p) l := bproj_at m c t p _
theorem bVo_at (c : Dev nD) (t : Fin cfg0.N) (p : Fin 512) (l : Fin 1024) : bVo (iblk m c 0 t) (iblk m c 1 t) (iblk m c 2 t) p l = sVo (aX m c) (aN m c) (aW m c) (seqOf t) (posOf t p) l := bproj_at m c t p _
theorem bR_at (c : Dev nD) (t : Fin cfg0.N) (p : Fin 512) (l : Fin 1024) : bR (iblk m c 0 t) (iblk m c 1 t) (iblk m c 2 t) p l = sR (aX m c) (aN m c) (aW m c) (seqOf t) (posOf t p) l :=
  congrArg silu (bproj_at m c t p _)

theorem padded_sum (f : Fin 128 → EReal) (w2 : FVec Ideal S1x16x512 .f32) (l : Fin 512) :
    ∑ a : Fin 128, f a * padded w2 a l = ∑ a : Fin 16, f ⟨a.val, by omega⟩ * w2 (ix3 0 a l) := by
  rw [Fin.sum_univ_add (a := 16) (b := 112) (fun a : Fin (16 + 112) => f a * padded w2 a l)]
  rw [Finset.sum_eq_zero (s := (Finset.univ : Finset (Fin 112))) (fun i _ => ?_), add_zero]
  · refine Finset.sum_congr rfl fun a _ => ?_
    have ha : (Fin.castAdd 112 a).val < 16 := a.isLt
    unfold padded
    rw [dif_pos ha]
    rfl
  · have hi : ¬ (Fin.natAdd 16 i).val < 16 := by simp
    unfold padded
    rw [dif_neg hi, mul_zero]

theorem bLogit_at (c : Dev nD) (t : Fin cfg0.N) (p l : Fin 512) :
    bLogit (iblk m c 0 t) (iblk m c 1 t) (iblk m c 2 t) (iblk m c 3 t) (iblk m c 4 t) p l = sLogit (aX m c) (aN m c) (aW m c) (aW2 m c) (aGb m c) (seqOf t) (posOf t p) l := by
  unfold bLogit sLogit
  rw [blk4_at]
  simp only [bproj_at, blk3_at]
  rw [padded_sum (fun a => P (aX m c) (aN m c) (aW m c) (seqOf t) (posOf t p) ⟨6144 + a.val, by omega⟩)]

theorem bG_at (c : Dev nD) (t : Fin cfg0.N) (p l : Fin 512) :
    bG (iblk m c 0 t) (iblk m c 1 t) (iblk m c 2 t) (iblk m c 3 t) (iblk m c 4 t) p l = sG (aX m c) (aN m c) (aW m c) (aW2 m c) (aGb m c) (seqOf t) (posOf t p) l :=
  congrArg gate (bLogit_at m c t p l)

/-- A tile of a block is a chunk of its sequence. -/
theorem tile_chunk {D d : ℕ} [NeZero D] (t : Fin cfg0.N) (X : Fin 512 → Fin D → EReal) (Y : Fin 4096 → Fin D → EReal)
    (hX : ∀ p l, X p l = Y (posOf t p) l) (u : ℕ) (hu : u < 8) (h : ℕ) :
    (tl X (64 * u) (d * h) : Fin 64 → Fin d → EReal) = ch Y h (8 * (t.val % 8) + u) := by
  funext j l
  refine (hX _ _).trans (congrArg (fun r => Y r _) (Fin.ext ?_))
  have := j.isLt
  show t.val % 8 * 512 + (64 * u + j.val) % 512 = (64 * (8 * (t.val % 8) + u) + j.val) % 4096
  omega

/-- The states inside a block continue the states of its sequence. -/
theorem stF_at (c : Dev nD) (t : Fin cfg0.N) (h : ℕ) (T : Fin 128 → Fin 256 → EReal)
    (hT : T = sState (aX m c) (aN m c) (aW m c) (aW2 m c) (aGb m c) (seqOf t) h (8 * (t.val % 8))) (u : ℕ) (hu : u ≤ 8) :
    stF (bK (iblk m c 0 t) (iblk m c 1 t) (iblk m c 2 t)) (bV (iblk m c 0 t) (iblk m c 1 t) (iblk m c 2 t)) (bG (iblk m c 0 t) (iblk m c 1 t) (iblk m c 2 t) (iblk m c 3 t) (iblk m c 4 t)) T h u
      = sState (aX m c) (aN m c) (aW m c) (aW2 m c) (aGb m c) (seqOf t) h (8 * (t.val % 8) + u) := by
  induction u with
  | zero => exact hT
  | succ u ih =>
    rw [stF, ih (by omega), tile_chunk t _ _ (bK_at m c t) u (by omega), tile_chunk t _ _ (bV_at m c t) u (by omega), tile_chunk t _ _ (bG_at m c t) u (by omega)]
    rfl

/-- The gated output of a block in terms of the sequence's values. -/
theorem ogB_spec (t : Fin cfg0.N) {Q K : Fin 512 → Fin 512 → EReal} {V : Fin 512 → Fin 1024 → EReal} {G : Fin 512 → Fin 512 → EReal}
    (NG : Fin 256 → EReal) {R : Fin 512 → Fin 1024 → EReal} (T : Fin 4 → Fin 128 → Fin 256 → EReal)
    (Yq Yk Yg : Fin 4096 → Fin 512 → EReal) (Yv Yr : Fin 4096 → Fin 1024 → EReal) (S : ℕ → ℕ → Fin 128 → Fin 256 → EReal)
    (hQ : ∀ p l, Q p l = Yq (posOf t p) l) (hK : ∀ p l, K p l = Yk (posOf t p) l) (hV : ∀ p l, V p l = Yv (posOf t p) l)
    (hG : ∀ p l, G p l = Yg (posOf t p) l) (hR : ∀ p l, R p l = Yr (posOf t p) l)
    (hS : ∀ (h : Fin 4) (u : ℕ), u ≤ 8 → stF K V G (T h) h.val u = S h.val (8 * (t.val % 8) + u)) (p : Fin 512) (e : Fin 1024) :
    ogB Q K V G NG R T p e = gatedRow (fun c => outRow (ch Yq (e.val / 256) ((posOf t p).val / 64)) (ch Yk (e.val / 256) ((posOf t p).val / 64)) (ch Yv (e.val / 256) ((posOf t p).val / 64)) (ch Yg (e.val / 256) ((posOf t p).val / 64))
      (S (e.val / 256) ((posOf t p).val / 64)) ⟨(posOf t p).val % 64, Nat.mod_lt _ (by decide)⟩ c) NG (Yr (posOf t p) e) ⟨e.val % 256, Nat.mod_lt _ (by decide)⟩ := by
  have hp := p.isLt
  have he := e.isLt
  have hu : p.val / 64 < 8 := by omega
  have hn : (posOf t p).val / 64 = 8 * (t.val % 8) + p.val / 64 := by
    show (t.val % 8 * 512 + p.val) / 64 = _
    omega
  have hi : (⟨(posOf t p).val % 64, Nat.mod_lt _ (by decide)⟩ : Fin 64) = ⟨p.val % 64, Nat.mod_lt _ (by decide)⟩ := Fin.ext (by
    show (t.val % 8 * 512 + p.val) % 64 = p.val % 64
    omega)
  have hr : (tl R (64 * (p.val / 64)) (256 * (e.val / 256)) : Fin 64 → Fin 256 → EReal) ⟨p.val % 64, Nat.mod_lt _ (by decide)⟩ ⟨e.val % 256, Nat.mod_lt _ (by decide)⟩ = Yr (posOf t p) e := by
    rw [← hR]
    unfold tl
    exact congrArg₂ R (Fin.ext (by show (64 * (p.val / 64) + p.val % 64) % 512 = p.val; omega)) (Fin.ext (by show (256 * (e.val / 256) + e.val % 256) % 1024 = e.val; omega))
  unfold ogB ogF
  rw [hn, hi, ← hr, ← hS ⟨e.val / 256, by omega⟩ (p.val / 64) (by omega), tile_chunk t _ _ hK _ hu, tile_chunk t _ _ hQ _ hu, tile_chunk t _ _ hV _ hu, tile_chunk t _ _ hG _ hu]

theorem ogB_at (c : Dev nD) (t : Fin cfg0.N) (T : Fin 4 → Fin 128 → Fin 256 → EReal)
    (hT : ∀ h, T h = sState (aX m c) (aN m c) (aW m c) (aW2 m c) (aGb m c) (seqOf t) h.val (8 * (t.val % 8))) (p : Fin 512) (e : Fin 1024) :
    ogB (bQ (iblk m c 0 t) (iblk m c 1 t) (iblk m c 2 t)) (bK (iblk m c 0 t) (iblk m c 1 t) (iblk m c 2 t)) (bV (iblk m c 0 t) (iblk m c 1 t) (iblk m c 2 t)) (bG (iblk m c 0 t) (iblk m c 1 t) (iblk m c 2 t) (iblk m c 3 t) (iblk m c 4 t))
      (fun a => (iblk m c 9 t : FVec Ideal S1x256 .f32) (ix2 0 a)) (bR (iblk m c 0 t) (iblk m c 1 t) (iblk m c 2 t)) T p e
      = sOg (aX m c) (aN m c) (aW m c) (aW2 m c) (aGb m c) (aOn m c) (seqOf t) (posOf t p) e := by
  have hng : (fun a => (iblk m c 9 t : FVec Ideal S1x256 .f32) (ix2 0 a)) = fun a => aOn m c (ix2 0 a) := funext fun a => blk9_at m c t a
  rw [hng]
  exact ogB_spec t _ T _ _ _ _ _ (fun h n => sState (aX m c) (aN m c) (aW m c) (aW2 m c) (aGb m c) (seqOf t) h n) (bQ_at m c t) (bK_at m c t) (bV_at m c t) (bG_at m c t) (bR_at m c t)
    (fun h u hu => stF_at m c t h.val (T h) (hT h) u hu) p e

end Cert.Gla
-- ==== Proof.GlaLev.lean ====
/- The level matrix that the host part builds. -/
module

public import proofs.«01_k».proof.Proof.GlaFields
public import proofs.«01_k».proof.Proof.Gen.KernelGlaIdeal.Value
public import Idealize.ShloMosaic.Lib.StableHlo.RunRead
public import Idealize.ShloMosaic.Lib.IdealHost

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

theorem idx8 : ∀ t : Fin cfg0.N, win0_8.index t = ![0, 0] :=
  (by decide +kernel : ∀ t : Fin grid0.N, _)

/-- The kernel's bit matrix for the segments of blocks of `2 ^ s`. -/
def levelBits (s m1 n1 : BitVec 32) : IVec S64x64 1 :=
  let r := iotaInDim S64x64 32 0
  let k := iotaInDim S64x64 32 1
  let sp : BitVec 32 → IVec S64x64 32 := fun x => broadcastInDim S64x64 ![] bcast_S_S64x64 (constantI S_ 32 x)
  let base := Host.shli (Host.shrsi r (sp s)) (sp s)
  let p := select (cmpi .eq (andi (Host.shrsi r (sp s)) (sp 1#32)) (sp 1#32)) (subi base (sp m1)) (addi base (sp n1))
  andi (cmpi .sgt k (minsi r p)) (cmpi .sle k (maxsi r p))

theorem levelBits4_at : ∀ i k : Fin 64, levelBits 2#32 1#32 3#32 (ix2 i k) = if segB.segN 4 i.val k.val then 1#1 else 0#1 := by
  decide +kernel
theorem levelBits2_at : ∀ i k : Fin 64, levelBits 1#32 1#32 1#32 (ix2 i k) = if segB.segN 2 i.val k.val then 1#1 else 0#1 := by
  decide +kernel
theorem levelBits1_at : ∀ i k : Fin 64, levelBits 0#32 1#32 0#32 (ix2 i k) = if segB.segN 1 i.val k.val then 1#1 else 0#1 := by
  decide +kernel

theorem rows31_at : ∀ i k : Fin 64, (cmpi .sle (iotaInDim S64x64 32 1) (iotaInDim S64x64 32 0) : IVec S64x64 1) (ix2 i k) = if k.val ≤ i.val then 1#1 else 0#1 := by
  decide +kernel

/-- Two copies side by side, read at an entry. -/
theorem twice_at (A : FVec Ideal S256x64 .f32) (h : Shape.Concatenates [S256x64, S256x64] S256x128 1) (r : Fin 256) (k : Fin 128) :
    concatenate S256x128 1 [⟨S256x64, A⟩, ⟨S256x64, A⟩] h (ix2 r k) = A (ix2 r ⟨k.val % 64, Nat.mod_lt _ (by decide)⟩) := by
  rcases Nat.lt_or_ge k.val 64 with hk | hk
  · refine concatenate_apply_piece (t := S256x128) (1 : Fin 2) [⟨S256x64, A⟩, ⟨S256x64, A⟩] h (ix2 r k) 0 (show 0 < 2 by decide) S256x64 A rfl rfl 0 rfl (ix2 r ⟨k.val % 64, Nat.mod_lt _ (by decide)⟩) ?_ ?_
    · intro b hb
      match b, hb with
      | ⟨0, _⟩, _ => rfl
      | ⟨1, _⟩, hb => exact absurd rfl hb
    · show 0 + k.val % 64 = k.val
      omega
  · refine concatenate_apply_piece (t := S256x128) (1 : Fin 2) [⟨S256x64, A⟩, ⟨S256x64, A⟩] h (ix2 r k) 1 (show 1 < 2 by decide) S256x64 A rfl rfl 64 rfl (ix2 r ⟨k.val % 64, Nat.mod_lt _ (by decide)⟩) ?_ ?_
    · intro b hb
      match b, hb with
      | ⟨0, _⟩, _ => rfl
      | ⟨1, _⟩, hb => exact absurd rfl hb
    · show 64 + k.val % 64 = k.val
      have := k.isLt
      omega

/-- Four matrices one below the other, read at an entry of piece `p`. -/
theorem four_at (A B C D : IVec S64x64 1) (h : Shape.Concatenates [S64x64, S64x64, S64x64, S64x64] S256x64 0) (r : Fin 256) (k : Fin 64) :
    concatenate S256x64 0 [⟨S64x64, A⟩, ⟨S64x64, B⟩, ⟨S64x64, C⟩, ⟨S64x64, D⟩] h (ix2 r k)
      = if r.val / 64 = 0 then A (ix2 ⟨r.val % 64, Nat.mod_lt _ (by decide)⟩ k)
        else if r.val / 64 = 1 then B (ix2 ⟨r.val % 64, Nat.mod_lt _ (by decide)⟩ k)
        else if r.val / 64 = 2 then C (ix2 ⟨r.val % 64, Nat.mod_lt _ (by decide)⟩ k)
        else D (ix2 ⟨r.val % 64, Nat.mod_lt _ (by decide)⟩ k) := by
  have hr := r.isLt
  have go : ∀ (p : ℕ) (hp : p < 4) (X : IVec S64x64 1) (hX : [(⟨S64x64, A⟩ : (s : Shape) × (s.Idx → BitVec 1)), ⟨S64x64, B⟩, ⟨S64x64, C⟩, ⟨S64x64, D⟩][p] = ⟨S64x64, X⟩)
      (hs : (((([(⟨S64x64, A⟩ : (s : Shape) × (s.Idx → BitVec 1)), ⟨S64x64, B⟩, ⟨S64x64, C⟩, ⟨S64x64, D⟩]).take p).map (·.1)).map fun s => if h : s.rank = S256x64.rank then s.size ((0 : Fin S256x64.rank).cast h.symm) else 0).sum = 64 * p),
      r.val / 64 = p → concatenate S256x64 0 [⟨S64x64, A⟩, ⟨S64x64, B⟩, ⟨S64x64, C⟩, ⟨S64x64, D⟩] h (ix2 r k) = X (ix2 ⟨r.val % 64, Nat.mod_lt _ (by decide)⟩ k) := by
    intro p hp X hX hs hrp
    refine concatenate_apply_piece (t := S256x64) (0 : Fin 2) [⟨S64x64, A⟩, ⟨S64x64, B⟩, ⟨S64x64, C⟩, ⟨S64x64, D⟩] h (ix2 r k) p hp S64x64 X hX rfl (64 * p) hs (ix2 ⟨r.val % 64, Nat.mod_lt _ (by decide)⟩ k) ?_ ?_
    · intro b hb
      match b, hb with
      | ⟨0, _⟩, hb => exact absurd rfl hb
      | ⟨1, _⟩, _ => rfl
    · show 64 * p + r.val % 64 = r.val
      omega
  split
  · exact go 0 (by decide) A rfl rfl ‹_›
  split
  · exact go 1 (by decide) B rfl rfl ‹_›
  split
  · exact go 2 (by decide) C rfl rfl ‹_›
  · exact go 3 (by decide) D rfl rfl (by omega)

/-- Four bit matrices one below the other are the level matrix's bits. -/
theorem four_bits (A B C D : IVec S64x64 1) (r : Fin 256) (k : Fin 64) (hA : ∀ i k : Fin 64, A (ix2 i k) = if k.val ≤ i.val then 1#1 else 0#1)
    (hB : ∀ i k : Fin 64, B (ix2 i k) = if segB.segN 4 i.val k.val then 1#1 else 0#1) (hC : ∀ i k : Fin 64, C (ix2 i k) = if segB.segN 2 i.val k.val then 1#1 else 0#1)
    (hD : ∀ i k : Fin 64, D (ix2 i k) = if segB.segN 1 i.val k.val then 1#1 else 0#1) :
    (if r.val / 64 = 0 then A (ix2 ⟨r.val % 64, Nat.mod_lt _ (by decide)⟩ k)
        else if r.val / 64 = 1 then B (ix2 ⟨r.val % 64, Nat.mod_lt _ (by decide)⟩ k)
        else if r.val / 64 = 2 then C (ix2 ⟨r.val % 64, Nat.mod_lt _ (by decide)⟩ k)
        else D (ix2 ⟨r.val % 64, Nat.mod_lt _ (by decide)⟩ k)) = if segB r k then 1#1 else 0#1 := by
  simp only [hA, hB, hC, hD]
  unfold segB
  split
  · simp only [decide_eq_true_eq]
  split
  · rfl
  split <;> rfl

theorem bit_val (b : Bool) (c : BitVec 1) (h : c = if b then 1#1 else 0#1) :
    Scalar.select c (Ideal.ofBits .f32 0x3F800000#32) (Ideal.ofBits .f32 0#32) = if b then (1 : EReal) else 0 := by
  subst h
  cases b
  · refine Eq.trans (b := Ideal.ofBits .f32 0#32) rfl ?_
    simp
  · refine Eq.trans (b := Ideal.ofBits .f32 0x3F800000#32) rfl ?_
    simp [Ideal.ofBits_one_f32]

theorem up31 (c : Dev nD) : (StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 122 (Proc.tc.devRef main_v31) : IVec S64x64 1) = cmpi .sle (iotaInDim S64x64 32 1) (iotaInDim S64x64 32 0) := by
  after_reads_simp
theorem up51 (c : Dev nD) : (StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 122 (Proc.tc.devRef main_v51) : IVec S64x64 1) = levelBits 2#32 1#32 3#32 := by
  after_reads_simp
  rfl
theorem up71 (c : Dev nD) : (StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 122 (Proc.tc.devRef main_v71) : IVec S64x64 1) = levelBits 1#32 1#32 1#32 := by
  after_reads_simp
  rfl
theorem up91 (c : Dev nD) : (StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 122 (Proc.tc.devRef main_v91) : IVec S64x64 1) = levelBits 0#32 1#32 0#32 := by
  after_reads_simp
  rfl

theorem blk8_at (c : Dev nD) (t : Fin cfg0.N) : IsLevels (iblk m c 8 t : FVec Ideal S256x128 .bf16) := by
  intro r k
  have e : (iblk m c 8 t : FVec Ideal S256x128 .bf16) (ix2 r k) = (V m c main_v95 : FVec Ideal S256x128 .bf16) (ix2 r k) := by blk_ext [iblk, idx8 t]
  rw [e]
  unfold V
  after_reads_simp
  rw [show ∀ X : FVec Ideal S256x128 .f32, truncf (F := Ideal) .bf16 X bitsLt_bf16_f32 (ix2 r k) = X (ix2 r k) from fun _ => rfl]
  rw [twice_at]
  generalize (⟨k.val % 64, Nat.mod_lt _ (by decide)⟩ : Fin 64) = k'
  after_reads_simp
  exact bit_val (segB r k') _ ((four_at _ _ _ _ concatenates_S64x64_S64x64_S64x64_S64x64_S256x64_d0 r k').trans
    (four_bits _ _ _ _ r k' (fun i k => (congrFun (up31 m c) (ix2 i k)).trans (rows31_at i k)) (fun i k => (congrFun (up51 m c) (ix2 i k)).trans (levelBits4_at i k))
      (fun i k => (congrFun (up71 m c) (ix2 i k)).trans (levelBits2_at i k)) (fun i k => (congrFun (up91 m c) (ix2 i k)).trans (levelBits1_at i k))))

end Cert.Gla
-- ==== Proof.GlaNorm.lean ====
/- The head norms: the mean of the squares as a product with a block matrix of `1/64`. -/
module

public import proofs.«01_k».proof.Proof.GlaSpec

@[expose] public section

set_option maxRecDepth 16384

noncomputable section

namespace Cert.Gla

open Cert.KernelGlaIdeal Cert.KernelGlaIdeal.Gen
open Idealize.ShloMosaic Idealize.ShloMosaic.TcCoe Idealize.SL.Sem

/-- The matrix that averages over heads of 64 columns. -/
def IsAvg (M : FVec Ideal S256x256 .bf16) : Prop :=
  ∀ a l : Fin 256, M (ix2 a l) = if a.val / 64 = l.val / 64 then Ideal.ofBits .f32 0x3C800000#32 else 0

/-- A sum over the columns of one head of four. -/
theorem head_sum (f : Fin 256 → EReal) (q : Fin 4) :
    ∑ a : Fin 256, (if a.val / 64 = q.val then f a else 0) = ∑ i : Fin 64, f ⟨64 * q.val + i.val, by omega⟩ := by
  rw [← Finset.sum_filter]
  refine (Finset.sum_bij (fun (i : Fin 64) _ => (⟨64 * q.val + i.val, by omega⟩ : Fin 256)) ?_ ?_ ?_ ?_).symm
  · intro i _
    have := i.isLt
    simp only [Finset.mem_filter, Finset.mem_univ, true_and]
    omega
  · intro i _ j _ h
    have := congrArg Fin.val h
    simp only at this
    exact Fin.ext (by omega)
  · intro a ha
    simp only [Finset.mem_filter, Finset.mem_univ, true_and] at ha
    exact ⟨⟨a.val - 64 * q.val, by omega⟩, Finset.mem_univ _, Fin.ext (by show 64 * q.val + (a.val - 64 * q.val) = a.val; omega)⟩
  · intro i _
    rfl

/-- A nonnegative real factor out of a sum. -/
theorem sum_mul_const {ι : Type} (t : Finset ι) (f : ι → EReal) (r : ℝ) (hr : 0 ≤ r) : (∑ i ∈ t, f i) * (r : EReal) = ∑ i ∈ t, f i * (r : EReal) := by
  classical
  induction t using Finset.induction_on with
  | empty => simp
  | insert a t ha ih =>
    rw [Finset.sum_insert ha, Finset.sum_insert ha, EReal.right_distrib_of_nonneg_of_ne_top (EReal.coe_nonneg.mpr hr) (EReal.coe_ne_top r), ih]

/-- The mean over a head. -/
theorem mean_eq (y : Fin 256 → EReal) (avg : Fin 256 → EReal) (q : Fin 4) (h : ∀ a, avg a = if a.val / 64 = q.val then Ideal.ofBits .f32 0x3C800000#32 else 0) :
    (∑ a, y a * y a * avg a) = Ideal.div (∑ i : Fin 64, y ⟨64 * q.val + i.val, by omega⟩ * y ⟨64 * q.val + i.val, by omega⟩) (Ideal.ofBits .f32 0x42800000#32) := by
  have e : ∀ a, y a * y a * avg a = if a.val / 64 = q.val then y a * y a * ((1 / 64 : ℝ) : EReal) else 0 := by
    intro a
    rw [h a, c64i]
    split
    · rfl
    · exact mul_zero _
  simp only [e]
  rw [head_sum (fun a => y a * y a * ((1 / 64 : ℝ) : EReal)) q, c64]
  rw [Ideal.div_coe (by norm_num)]
  exact (sum_mul_const _ _ (1 / 64) (by norm_num)).symm

/-- A head-normed column of a block. -/
theorem head_eq {x0 : FVec Ideal S512x1024 .f32} {x1 : FVec Ideal S1x1024 .f32} {x2 : FVec Ideal S1024x8208 .bf16} {avg : FVec Ideal S256x256 .bf16} {p : Fin 512}
    {x : FVec Ideal S8x4096x1024 .f32} {g : FVec Ideal S1x1024 .f32} {w : FVec Ideal S1x1024x8208 .f32} {b : Fin 8} {s : Fin 4096} {base : ℕ} {hb : base ≤ 4096}
    (ha : IsAvg avg) (hp : ∀ n, bproj x0 x1 x2 p n = P x g w b s n) (gn : FVec Ideal S1x256 .f32) (G : Fin 64 → EReal)
    (hG : ∀ l : Fin 256, gn (ix2 0 l) = G ⟨l.val % 64, Nat.mod_lt _ (by decide)⟩) (e : Fin 1024) :
    bH x0 x1 x2 base hb gn avg p e = sHead x g w base hb G b s e := by
  have he := e.isLt
  unfold bH headN sHead
  rw [mean_eq _ _ ⟨e.val % 256 / 64, by omega⟩ (fun a => ha a ⟨e.val % 256, by omega⟩)]
  simp only [hp, hG]
  have e1 : base + (256 * (e.val / 256) + e.val % 256) = base + e.val := by omega
  have e2 : ∀ i : ℕ, base + (256 * (e.val / 256) + (64 * (e.val % 256 / 64) + i)) = base + (64 * (e.val / 64) + i) := by intro i; omega
  have e3 : e.val % 256 % 64 = e.val % 64 := by omega
  simp only [e1, e2, e3]

end Cert.Gla
-- ==== Proof.GlaCaseA.lean ====
/- The kernel's body in case A: the state and the gated output of each chunk of each head, from the arrays that the body
   keeps in its scratch buffers. -/
module

public import proofs.«01_k».proof.Proof.GlaChunk
public import proofs.«01_k».proof.Proof.GlaPieces
public import proofs.«01_k».proof.Proof.Gen.KernelGlaIdeal.Frame

@[expose] public section

set_option maxRecDepth 16384

noncomputable section

namespace Cert.Gla.CaseA

open Cert.KernelGlaIdeal Cert.KernelGlaIdeal.Gen Cert.KernelGlaIdeal.Gen.kernelRun0_A.sl
open Idealize.ShloMosaic Idealize.ShloMosaic.TcCoe Idealize.SL.Sem

variable {c : Dev nD} {i : grid0.Coords} {m1 : Memref sig .tc .vmem S512x1024 .f32} {w1 : m1.IsWhole} {m2 : Memref sig .tc .vmem S1x1024 .f32} {w2 : m2.IsWhole} {m3 : Memref sig .tc .vmem S1024x8208 .bf16} {w3 : m3.IsWhole} {m4 : Memref sig .tc .vmem S128x512 .bf16} {w4 : m4.IsWhole} {m5 : Memref sig .tc .vmem S1x512 .f32} {w5 : m5.IsWhole} {m6 : Memref sig .tc .vmem S1x256 .f32} {w6 : m6.IsWhole} {m7 : Memref sig .tc .vmem S1x256 .f32} {w7 : m7.IsWhole} {m8 : Memref sig .tc .vmem S256x256 .bf16} {w8 : m8.IsWhole} {m9 : Memref sig .tc .vmem S256x128 .bf16} {w9 : m9.IsWhole} {m10 : Memref sig .tc .vmem S1x256 .f32} {w10 : m10.IsWhole} {m11 : Memref sig .tc .vmem S512x1024 .bf16} {w11 : m11.IsWhole} {m12 : Memref sig .tc .vmem S512x1024 .bf16} {w12 : m12.IsWhole} {m13 : Memref sig .tc .vmem S512x1024 .bf16} {w13 : m13.IsWhole} {m14 : Memref sig .tc .vmem S512x1024 .bf16} {w14 : m14.IsWhole} {m15 : Memref sig .tc .vmem S512x1024 .bf16} {w15 : m15.IsWhole} {m16 : Memref sig .tc .vmem S512x1024 .bf16} {w16 : m16.IsWhole} {m17 : Memref sig .tc .vmem S1024x2048 .bf16} {w17 : m17.IsWhole} {m18 : Memref sig .tc .vmem S512x512 .bf16} {w18 : m18.IsWhole} {m19 : Memref sig .tc .vmem S512x512 .bf16} {w19 : m19.IsWhole} {m20 : Memref sig .tc .vmem S512x1024 .bf16} {w20 : m20.IsWhole} {m21 : Memref sig .tc .vmem S512x1024 .bf16} {w21 : m21.IsWhole} {m22 : Memref sig .tc .vmem S512x512 .f32} {w22 : m22.IsWhole} {m23 : Memref sig .tc .vmem S4x128x256 .f32} {w23 : m23.IsWhole} {x0 : Vec Ideal S512x1024 .f32} {x1 : Vec Ideal S1x1024 .f32} {x2 : Vec Ideal S1024x8208 .bf16} {x3 : Vec Ideal S128x512 .bf16} {x4 : Vec Ideal S1x512 .f32} {x5 : Vec Ideal S1x256 .f32} {x6 : Vec Ideal S1x256 .f32} {x7 : Vec Ideal S256x256 .bf16} {x8 : Vec Ideal S256x128 .bf16} {x9 : Vec Ideal S1x256 .f32}
  {Q K : Fin 512 → Fin 512 → EReal} {V : Fin 512 → Fin 1024 → EReal} {G : Fin 512 → Fin 512 → EReal} {R : Fin 512 → Fin 1024 → EReal}
  {NG : Fin 256 → EReal} {T : Fin 4 → Fin 128 → Fin 256 → EReal}

/-- What the arrays kept by the body, the level matrix, the norm's scale and the states found read. -/
structure Reads (c : Dev nD) (m1 : Memref sig .tc .vmem S512x1024 .f32) (w1 : m1.IsWhole) (m2 : Memref sig .tc .vmem S1x1024 .f32) (w2 : m2.IsWhole) (m3 : Memref sig .tc .vmem S1024x8208 .bf16) (w3 : m3.IsWhole) (m4 : Memref sig .tc .vmem S128x512 .bf16) (w4 : m4.IsWhole) (m5 : Memref sig .tc .vmem S1x512 .f32) (w5 : m5.IsWhole) (m6 : Memref sig .tc .vmem S1x256 .f32) (w6 : m6.IsWhole) (m7 : Memref sig .tc .vmem S1x256 .f32) (w7 : m7.IsWhole) (m8 : Memref sig .tc .vmem S256x256 .bf16) (w8 : m8.IsWhole) (m9 : Memref sig .tc .vmem S256x128 .bf16) (w9 : m9.IsWhole) (m10 : Memref sig .tc .vmem S1x256 .f32) (w10 : m10.IsWhole) (m11 : Memref sig .tc .vmem S512x1024 .bf16) (w11 : m11.IsWhole) (m12 : Memref sig .tc .vmem S512x1024 .bf16) (w12 : m12.IsWhole) (m13 : Memref sig .tc .vmem S512x1024 .bf16) (w13 : m13.IsWhole) (m14 : Memref sig .tc .vmem S512x1024 .bf16) (w14 : m14.IsWhole) (m15 : Memref sig .tc .vmem S512x1024 .bf16) (w15 : m15.IsWhole) (m16 : Memref sig .tc .vmem S512x1024 .bf16) (w16 : m16.IsWhole) (m17 : Memref sig .tc .vmem S1024x2048 .bf16) (w17 : m17.IsWhole) (m18 : Memref sig .tc .vmem S512x512 .bf16) (w18 : m18.IsWhole) (m19 : Memref sig .tc .vmem S512x512 .bf16) (w19 : m19.IsWhole) (m20 : Memref sig .tc .vmem S512x1024 .bf16) (w20 : m20.IsWhole) (m21 : Memref sig .tc .vmem S512x1024 .bf16) (w21 : m21.IsWhole) (m22 : Memref sig .tc .vmem S512x512 .f32) (w22 : m22.IsWhole) (m23 : Memref sig .tc .vmem S4x128x256 .f32) (w23 : m23.IsWhole) (x0 : Vec Ideal S512x1024 .f32) (x1 : Vec Ideal S1x1024 .f32) (x2 : Vec Ideal S1024x8208 .bf16) (x3 : Vec Ideal S128x512 .bf16) (x4 : Vec Ideal S1x512 .f32) (x5 : Vec Ideal S1x256 .f32) (x6 : Vec Ideal S1x256 .f32) (x7 : Vec Ideal S256x256 .bf16) (x8 : Vec Ideal S256x128 .bf16) (x9 : Vec Ideal S1x256 .f32)
    (Q K : Fin 512 → Fin 512 → EReal) (V : Fin 512 → Fin 1024 → EReal) (G : Fin 512 → Fin 512 → EReal) (R : Fin 512 → Fin 1024 → EReal)
    (NG : Fin 256 → EReal) (T : Fin 4 → Fin 128 → Fin 256 → EReal) : Prop where
  lev : IsLevels (r_1 c m9 w9 x8)
  real : ∀ p l, ∃ r : ℝ, G p l = (r : EReal)
  q : ∀ (r0 c0 : ℕ) (inb) (j : Fin 64) (l : Fin 128), (m18.view.readCov (HS1_1 c m1 w1 m2 w2 m3 w3 x0 x1 x2) (Rect.unit (s := S512x512) ![r0, c0] S64x128.size inb).toLoadRect : FVec Ideal S64x128 .bf16) (ix2 j l) = Q (Fin.ofNat 512 (r0 + j.val)) (Fin.ofNat 512 (c0 + l.val))
  k : ∀ (r0 c0 : ℕ) (inb) (j : Fin 64) (l : Fin 128), (m19.view.readCov (HS2_1 c m1 w1 m2 w2 m3 w3 x0 x1 x2) (Rect.unit (s := S512x512) ![r0, c0] S64x128.size inb).toLoadRect : FVec Ideal S64x128 .bf16) (ix2 j l) = K (Fin.ofNat 512 (r0 + j.val)) (Fin.ofNat 512 (c0 + l.val))
  v : ∀ (r0 c0 : ℕ) (inb) (j : Fin 64) (l : Fin 256), (m20.view.readCov (HS3_2 c m1 w1 m2 w2 m3 w3 x0 x1 x2) (Rect.unit (s := S512x1024) ![r0, c0] S64x256.size inb).toLoadRect : FVec Ideal S64x256 .bf16) (ix2 j l) = V (Fin.ofNat 512 (r0 + j.val)) (Fin.ofNat 1024 (c0 + l.val))
  r : ∀ (r0 c0 : ℕ) (inb) (j : Fin 64) (l : Fin 256), (m21.view.readCov (HS4_2 c m1 w1 m2 w2 m3 w3 x0 x1 x2) (Rect.unit (s := S512x1024) ![r0, c0] S64x256.size inb).toLoadRect : FVec Ideal S64x256 .bf16) (ix2 j l) = R (Fin.ofNat 512 (r0 + j.val)) (Fin.ofNat 1024 (c0 + l.val))
  g : ∀ (r0 c0 : ℕ) (inb) (j : Fin 64) (l : Fin 128), (m22.view.readCov (HS5_1 c m1 w1 m2 w2 m3 w3 m4 w4 m5 w5 x0 x1 x2 x3 x4) (Rect.unit (s := S512x512) ![r0, c0] S64x128.size inb).toLoadRect : FVec Ideal S64x128 .f32) (ix2 j l) = G (Fin.ofNat 512 (r0 + j.val)) (Fin.ofNat 512 (c0 + l.val))
  ng : ∀ a, (View.readAt (Elt Ideal) m10.view (Rect.unit ![0, 0] S1x256.size inb_S1x256_S1x256_0_0).toLoadRect (w10.unread x9) : FVec Ideal S1x256 .f32) (ix2 0 a) = NG a
  t0 : ∀ a e, ((v3977 (F := Ideal) c m23) : FVec Ideal S1x128x256 .f32) (ix3 0 a e) = T 0 a e
  t1 : ∀ a e, ((v4192 c m1 w1 m2 w2 m3 w3 m4 w4 m5 w5 m9 w9 m19 m20 m22 m23 x0 x1 x2 x3 x4 x8) : FVec Ideal S1x128x256 .f32) (ix3 0 a e) = T 1 a e
  t2 : ∀ a e, ((v4395 c m1 w1 m2 w2 m3 w3 m4 w4 m5 w5 m9 w9 m19 m20 m22 m23 x0 x1 x2 x3 x4 x8) : FVec Ideal S1x128x256 .f32) (ix3 0 a e) = T 2 a e
  t3 : ∀ a e, ((v4625 c m1 w1 m2 w2 m3 w3 m4 w4 m5 w5 m9 w9 m19 m20 m22 m23 x0 x1 x2 x3 x4 x8) : FVec Ideal S1x128x256 .f32) (ix3 0 a e) = T 3 a e

variable (L : Reads c m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 x0 x1 x2 x3 x4 x5 x6 x7 x8 x9 Q K V G R NG T)
include L

theorem st_0_0 (a : Fin 128) (e : Fin 256) : (shapeCast S128x256 (v3977 (F := Ideal) c m23) shapeCasts_S1x128x256_S128x256 : FVec Ideal S128x256 .f32) (ix2 a e) = stF K V G (T 0) 0 0 a e :=
  (stateCast_at _ a e).trans (L.t0 a e)

theorem og_0_0 (j : Fin 64) (e : Fin 256) : ((r_596 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 0) 0 0 j e :=
  ogC_at (argOk_left (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 0) (128 * 0)) (fun a l => L.g 0 0 _ a l) (fun _ _ => L.real _ _))
    (v2246 c m1 w1 m2 w2 m3 w3 m18 x0 x1 x2) (v2247 c m1 w1 m2 w2 m3 w3 m19 x0 x1 x2) (v2248 c m1 w1 m2 w2 m3 w3 m20 x0 x1 x2) (shapeCast S128x256 (v3977 (F := Ideal) c m23) shapeCasts_S1x128x256_S128x256 : FVec Ideal S128x256 .f32) _ (v3998 c m1 w1 m2 w2 m3 w3 m21 x0 x1 x2)
    (tl Q (64 * 0) (128 * 0)) (tl K (64 * 0) (128 * 0)) (tl V (64 * 0) (256 * 0)) (stF K V G (T 0) 0 0) (fun a l => L.q 0 0 _ a l) (fun a l => L.k 0 0 _ a l) (fun a l => L.v 0 0 _ a l) (st_0_0 L) NG L.ng (tl R (64 * 0) (256 * 0)) (fun a l => L.r 0 0 _ a l) j e

theorem st_0_1 (a : Fin 128) (e : Fin 256) : (r_595 c m1 w1 m2 w2 m3 w3 m4 w4 m5 w5 m9 w9 m19 m20 m22 m23 x0 x1 x2 x3 x4 x8) (ix2 a e) = stF K V G (T 0) 0 1 a e :=
  stC_at (argOk_left (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 0) (128 * 0)) (fun a l => L.g 0 0 _ a l) (fun _ _ => L.real _ _))
    (v2247 c m1 w1 m2 w2 m3 w3 m19 x0 x1 x2) (v2248 c m1 w1 m2 w2 m3 w3 m20 x0 x1 x2) (shapeCast S128x256 (v3977 (F := Ideal) c m23) shapeCasts_S1x128x256_S128x256 : FVec Ideal S128x256 .f32)
    (tl K (64 * 0) (128 * 0)) (tl V (64 * 0) (256 * 0)) (stF K V G (T 0) 0 0) (fun a l => L.k 0 0 _ a l) (fun a l => L.v 0 0 _ a l) (st_0_0 L) a e

theorem og_0_1 (j : Fin 64) (e : Fin 256) : ((k0_pay727 (r_386 c m1 w1 m2 w2 m3 w3 m4 w4 m5 w5 m9 w9 m18 m19 m20 m22 x0 x1 x2 x3 x4 x8) (r_387 c m1 w1 m2 w2 m3 w3 m4 w4 m5 w5 m9 w9 m18 m22 x0 x1 x2 x3 x4 x8) (r_595 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4022 c m1 w1 m2 w2 m3 w3 m21 x0 x1 x2)) : FVec Ideal S64x256 .bf16) (ix2 j e)
    = ogF Q K V G NG R (T 0) 0 1 j e :=
  ogC_at (argOk_right (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 1) (128 * 0)) (fun a l => L.g 64 0 _ a l) (fun _ _ => L.real _ _))
    (v2298 c m1 w1 m2 w2 m3 w3 m18 x0 x1 x2) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8) _ (v4022 c m1 w1 m2 w2 m3 w3 m21 x0 x1 x2)
    (tl Q (64 * 1) (128 * 0)) (tl K (64 * 1) (128 * 0)) (tl V (64 * 1) (256 * 0)) (stF K V G (T 0) 0 1) (fun a l => L.q 64 0 _ a l) (fun a l => L.k 64 0 _ a l) (fun a l => L.v 64 0 _ a l) (st_0_1 L) NG L.ng (tl R (64 * 1) (256 * 0)) (fun a l => L.r 64 0 _ a l) j e

theorem st_0_2 (a : Fin 128) (e : Fin 256) : (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8)) (ix2 a e) = stF K V G (T 0) 0 2 a e :=
  stC_at (argOk_right (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 1) (128 * 0)) (fun a l => L.g 64 0 _ a l) (fun _ _ => L.real _ _))
    (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8)
    (tl K (64 * 1) (128 * 0)) (tl V (64 * 1) (256 * 0)) (stF K V G (T 0) 0 1) (fun a l => L.k 64 0 _ a l) (fun a l => L.v 64 0 _ a l) (st_0_1 L) a e

theorem og_0_2 (j : Fin 64) (e : Fin 256) : ((k0_pay730 (r_598 c m1 w1 m2 w2 m3 w3 m4 w4 m5 w5 m9 w9 m18 m19 m20 m22 m23 x0 x1 x2 x3 x4 x8) (r_599 c m10 w10 x9) (v4046 c m1 w1 m2 w2 m3 w3 m21 x0 x1 x2)) : FVec Ideal S64x256 .bf16) (ix2 j e)
    = ogF Q K V G NG R (T 0) 0 2 j e :=
  ogC_at (argOk_left (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 2) (128 * 0)) (fun a l => L.g 128 0 _ a l) (fun _ _ => L.real _ _))
    (v2368 c m1 w1 m2 w2 m3 w3 m18 x0 x1 x2) (v2369 c m1 w1 m2 w2 m3 w3 m19 x0 x1 x2) (v2370 c m1 w1 m2 w2 m3 w3 m20 x0 x1 x2) (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8)) _ (v4046 c m1 w1 m2 w2 m3 w3 m21 x0 x1 x2)
    (tl Q (64 * 2) (128 * 0)) (tl K (64 * 2) (128 * 0)) (tl V (64 * 2) (256 * 0)) (stF K V G (T 0) 0 2) (fun a l => L.q 128 0 _ a l) (fun a l => L.k 128 0 _ a l) (fun a l => L.v 128 0 _ a l) (st_0_2 L) NG L.ng (tl R (64 * 2) (256 * 0)) (fun a l => L.r 128 0 _ a l) j e

theorem st_0_3 (a : Fin 128) (e : Fin 256) : (r_597 c m1 w1 m2 w2 m3 w3 m4 w4 m5 w5 m9 w9 m19 m20 m22 m23 x0 x1 x2 x3 x4 x8) (ix2 a e) = stF K V G (T 0) 0 3 a e :=
  stC_at (argOk_left (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 2) (128 * 0)) (fun a l => L.g 128 0 _ a l) (fun _ _ => L.real _ _))
    (v2369 c m1 w1 m2 w2 m3 w3 m19 x0 x1 x2) (v2370 c m1 w1 m2 w2 m3 w3 m20 x0 x1 x2) (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8))
    (tl K (64 * 2) (128 * 0)) (tl V (64 * 2) (256 * 0)) (stF K V G (T 0) 0 2) (fun a l => L.k 128 0 _ a l) (fun a l => L.v 128 0 _ a l) (st_0_2 L) a e

theorem og_0_3 (j : Fin 64) (e : Fin 256) : ((k0_pay732 (r_397 c m1 w1 m2 w2 m3 w3 m4 w4 m5 w5 m9 w9 m18 m19 m20 m22 x0 x1 x2 x3 x4 x8) (r_398 c m1 w1 m2 w2 m3 w3 m4 w4 m5 w5 m9 w9 m18 m22 x0 x1 x2 x3 x4 x8) (r_597 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4070 c m1 w1 m2 w2 m3 w3 m21 x0 x1 x2)) : FVec Ideal S64x256 .bf16) (ix2 j e)
    = ogF Q K V G NG R (T 0) 0 3 j e :=
  ogC_at (argOk_right (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 3) (128 * 0)) (fun a l => L.g 192 0 _ a l) (fun _ _ => L.real _ _))
    (v2420 c m1 w1 m2 w2 m3 w3 m18 x0 x1 x2) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8) _ (v4070 c m1 w1 m2 w2 m3 w3 m21 x0 x1 x2)
    (tl Q (64 * 3) (128 * 0)) (tl K (64 * 3) (128 * 0)) (tl V (64 * 3) (256 * 0)) (stF K V G (T 0) 0 3) (fun a l => L.q 192 0 _ a l) (fun a l => L.k 192 0 _ a l) (fun a l => L.v 192 0 _ a l) (st_0_3 L) NG L.ng (tl R (64 * 3) (256 * 0)) (fun a l => L.r 192 0 _ a l) j e

theorem st_0_4 (a : Fin 128) (e : Fin 256) : (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8)) (ix2 a e) = stF K V G (T 0) 0 4 a e :=
  stC_at (argOk_right (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 3) (128 * 0)) (fun a l => L.g 192 0 _ a l) (fun _ _ => L.real _ _))
    (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8)
    (tl K (64 * 3) (128 * 0)) (tl V (64 * 3) (256 * 0)) (stF K V G (T 0) 0 3) (fun a l => L.k 192 0 _ a l) (fun a l => L.v 192 0 _ a l) (st_0_3 L) a e

theorem og_0_4 (j : Fin 64) (e : Fin 256) : ((k0_pay737 (r_600 c m1 w1 m2 w2 m3 w3 m4 w4 m5 w5 m9 w9 m18 m19 m20 m22 m23 x0 x1 x2 x3 x4 x8) (r_602 c m1 w1 m2 w2 m3 w3 m4 w4 m5 w5 m9 w9 m18 m19 m20 m22 m23 x0 x1 x2 x3 x4 x8) k0_pay736 (View.readAt (Elt Ideal) m10.view (Rect.unit ![0, 0] S1x256.size inb_S1x256_S1x256_0_0).toLoadRect (w10.unread x9)) (v4094 c m1 w1 m2 w2 m3 w3 m21 x0 x1 x2)) : FVec Ideal S64x256 .bf16) (ix2 j e)
    = ogF Q K V G NG R (T 0) 0 4 j e :=
  ogC_at (argOk_left (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 4) (128 * 0)) (fun a l => L.g 256 0 _ a l) (fun _ _ => L.real _ _))
    (v2472 c m1 w1 m2 w2 m3 w3 m18 x0 x1 x2) (v2473 c m1 w1 m2 w2 m3 w3 m19 x0 x1 x2) (v2474 c m1 w1 m2 w2 m3 w3 m20 x0 x1 x2) (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8)) _ (v4094 c m1 w1 m2 w2 m3 w3 m21 x0 x1 x2)
    (tl Q (64 * 4) (128 * 0)) (tl K (64 * 4) (128 * 0)) (tl V (64 * 4) (256 * 0)) (stF K V G (T 0) 0 4) (fun a l => L.q 256 0 _ a l) (fun a l => L.k 256 0 _ a l) (fun a l => L.v 256 0 _ a l) (st_0_4 L) NG L.ng (tl R (64 * 4) (256 * 0)) (fun a l => L.r 256 0 _ a l) j e

theorem st_0_5 (a : Fin 128) (e : Fin 256) : (r_601 c m1 w1 m2 w2 m3 w3 m4 w4 m5 w5 m9 w9 m19 m20 m22 m23 x0 x1 x2 x3 x4 x8) (ix2 a e) = stF K V G (T 0) 0 5 a e :=
  stC_at (argOk_left (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 4) (128 * 0)) (fun a l => L.g 256 0 _ a l) (fun _ _ => L.real _ _))
    (v2473 c m1 w1 m2 w2 m3 w3 m19 x0 x1 x2) (v2474 c m1 w1 m2 w2 m3 w3 m20 x0 x1 x2) (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8))
    (tl K (64 * 4) (128 * 0)) (tl V (64 * 4) (256 * 0)) (stF K V G (T 0) 0 4) (fun a l => L.k 256 0 _ a l) (fun a l => L.v 256 0 _ a l) (st_0_4 L) a e

theorem og_0_5 (j : Fin 64) (e : Fin 256) : ((k0_pay739 (r_410 c m1 w1 m2 w2 m3 w3 m4 w4 m5 w5 m9 w9 m18 m19 m20 m22 x0 x1 x2 x3 x4 x8) (r_411 c m1 w1 m2 w2 m3 w3 m4 w4 m5 w5 m9 w9 m18 m22 x0 x1 x2 x3 x4 x8) (r_601 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4118 c m1 w1 m2 w2 m3 w3 m21 x0 x1 x2)) : FVec Ideal S64x256 .bf16) (ix2 j e)
    = ogF Q K V G NG R (T 0) 0 5 j e :=
  ogC_at (argOk_right (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 5) (128 * 0)) (fun a l => L.g 320 0 _ a l) (fun _ _ => L.real _ _))
    (v2524 c m1 w1 m2 w2 m3 w3 m18 x0 x1 x2) (v2525 c m1 w1 m2 w2 m3 w3 m19 x0 x1 x2) (v2526 c m1 w1 m2 w2 m3 w3 m20 x0 x1 x2) (r_601 c m1 w1 m2 w2 m3 w3 m4 w4 m5 w5 m9 w9 m19 m20 m22 m23 x0 x1 x2 x3 x4 x8) _ (v4118 c m1 w1 m2 w2 m3 w3 m21 x0 x1 x2)
    (tl Q (64 * 5) (128 * 0)) (tl K (64 * 5) (128 * 0)) (tl V (64 * 5) (256 * 0)) (stF K V G (T 0) 0 5) (fun a l => L.q 320 0 _ a l) (fun a l => L.k 320 0 _ a l) (fun a l => L.v 320 0 _ a l) (st_0_5 L) NG L.ng (tl R (64 * 5) (256 * 0)) (fun a l => L.r 320 0 _ a l) j e

theorem st_0_6 (a : Fin 128) (e : Fin 256) : (r_603 c m1 w1 m2 w2 m3 w3 m4 w4 m5 w5 m9 w9 m19 m20 m22 m23 x0 x1 x2 x3 x4 x8) (ix2 a e) = stF K V G (T 0) 0 6 a e :=
  stC_at (argOk_right (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 5) (128 * 0)) (fun a l => L.g 320 0 _ a l) (fun _ _ => L.real _ _))
    (v2525 c m1 w1 m2 w2 m3 w3 m19 x0 x1 x2) (v2526 c m1 w1 m2 w2 m3 w3 m20 x0 x1 x2) (r_601 c m1 w1 m2 w2 m3 w3 m4 w4 m5 w5 m9 w9 m19 m20 m22 m23 x0 x1 x2 x3 x4 x8)
    (tl K (64 * 5) (128 * 0)) (tl V (64 * 5) (256 * 0)) (stF K V G (T 0) 0 5) (fun a l => L.k 320 0 _ a l) (fun a l => L.v 320 0 _ a l) (st_0_5 L) a e

theorem og_0_6 (j : Fin 64) (e : Fin 256) : ((r_606 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 0) 0 6 j e :=
  ogC_at (argOk_left (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 6) (128 * 0)) (fun a l => L.g 384 0 _ a l) (fun _ _ => L.real _ _))
    (v2576 c m1 w1 m2 w2 m3 w3 m18 x0 x1 x2) (v2577 c m1 w1 m2 w2 m3 w3 m19 x0 x1 x2) (v2578 c m1 w1 m2 w2 m3 w3 m20 x0 x1 x2) (r_603 c m1 w1 m2 w2 m3 w3 m4 w4 m5 w5 m9 w9 m19 m20 m22 m23 x0 x1 x2 x3 x4 x8) _ (v4160 c m1 w1 m2 w2 m3 w3 m21 x0 x1 x2)
    (tl Q (64 * 6) (128 * 0)) (tl K (64 * 6) (128 * 0)) (tl V (64 * 6) (256 * 0)) (stF K V G (T 0) 0 6) (fun a l => L.q 384 0 _ a l) (fun a l => L.k 384 0 _ a l) (fun a l => L.v 384 0 _ a l) (st_0_6 L) NG L.ng (tl R (64 * 6) (256 * 0)) (fun a l => L.r 384 0 _ a l) j e

theorem st_0_7 (a : Fin 128) (e : Fin 256) : (r_605 c m1 w1 m2 w2 m3 w3 m4 w4 m5 w5 m9 w9 m19 m20 m22 m23 x0 x1 x2 x3 x4 x8) (ix2 a e) = stF K V G (T 0) 0 7 a e :=
  stC_at (argOk_left (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 6) (128 * 0)) (fun a l => L.g 384 0 _ a l) (fun _ _ => L.real _ _))
    (v2577 c m1 w1 m2 w2 m3 w3 m19 x0 x1 x2) (v2578 c m1 w1 m2 w2 m3 w3 m20 x0 x1 x2) (r_603 c m1 w1 m2 w2 m3 w3 m4 w4 m5 w5 m9 w9 m19 m20 m22 m23 x0 x1 x2 x3 x4 x8)
    (tl K (64 * 6) (128 * 0)) (tl V (64 * 6) (256 * 0)) (stF K V G (T 0) 0 6) (fun a l => L.k 384 0 _ a l) (fun a l => L.v 384 0 _ a l) (st_0_6 L) a e

theorem og_0_7 (j : Fin 64) (e : Fin 256) : ((k0_pay744 (r_425 c m1 w1 m2 w2 m3 w3 m4 w4 m5 w5 m9 w9 m18 m19 m20 m22 x0 x1 x2 x3 x4 x8) (r_426 c m1 w1 m2 w2 m3 w3 m4 w4 m5 w5 m9 w9 m18 m22 x0 x1 x2 x3 x4 x8) (r_605 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4184 c m1 w1 m2 w2 m3 w3 m21 x0 x1 x2)) : FVec Ideal S64x256 .bf16) (ix2 j e)
    = ogF Q K V G NG R (T 0) 0 7 j e :=
  ogC_at (argOk_right (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 7) (128 * 0)) (fun a l => L.g 448 0 _ a l) (fun _ _ => L.real _ _))
    (v2628 c m1 w1 m2 w2 m3 w3 m18 x0 x1 x2) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8) _ (v4184 c m1 w1 m2 w2 m3 w3 m21 x0 x1 x2)
    (tl Q (64 * 7) (128 * 0)) (tl K (64 * 7) (128 * 0)) (tl V (64 * 7) (256 * 0)) (stF K V G (T 0) 0 7) (fun a l => L.q 448 0 _ a l) (fun a l => L.k 448 0 _ a l) (fun a l => L.v 448 0 _ a l) (st_0_7 L) NG L.ng (tl R (64 * 7) (256 * 0)) (fun a l => L.r 448 0 _ a l) j e

theorem st_0_8 (a : Fin 128) (e : Fin 256) : (stC (argC (half1 (pairC (r_1 c m9 w9 x8) (v584 c m1 w1 m2 w2 m3 w3 m4 w4 m5 w5 m22 x0 x1 x2 x3 x4) (v590 c m1 w1 m2 w2 m3 w3 m4 w4 m5 w5 m22 x0 x1 x2 x3 x4)))) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8)) (ix2 a e) = stF K V G (T 0) 0 8 a e :=
  stC_at (argOk_right (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 7) (128 * 0)) (fun a l => L.g 448 0 _ a l) (fun _ _ => L.real _ _))
    (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8)
    (tl K (64 * 7) (128 * 0)) (tl V (64 * 7) (256 * 0)) (stF K V G (T 0) 0 7) (fun a l => L.k 448 0 _ a l) (fun a l => L.v 448 0 _ a l) (st_0_7 L) a e

theorem st_1_0 (a : Fin 128) (e : Fin 256) : (shapeCast S128x256 (v4192 c m1 w1 m2 w2 m3 w3 m4 w4 m5 w5 m9 w9 m19 m20 m22 m23 x0 x1 x2 x3 x4 x8) shapeCasts_S1x128x256_S128x256 : FVec Ideal S128x256 .f32) (ix2 a e) = stF K V G (T 1) 1 0 a e :=
  (stateCast_at _ a e).trans (L.t1 a e)

theorem og_1_0 (j : Fin 64) (e : Fin 256) : ((k0_pay750 (r_607 c m1 w1 m2 w2 m3 w3 m4 w4 m5 w5 m9 w9 m18 m19 m20 m22 m23 x0 x1 x2 x3 x4 x8) (r_609 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4213 c m1 w1 m2 w2 m3 w3 m21 x0 x1 x2)) : FVec Ideal S64x256 .bf16) (ix2 j e)
    = ogF Q K V G NG R (T 1) 1 0 j e :=
  ogC_at (argOk_left (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 0) (128 * 1)) (fun a l => L.g 0 128 _ a l) (fun _ _ => L.real _ _))
    (v2685 c m1 w1 m2 w2 m3 w3 m18 x0 x1 x2) (v2686 c m1 w1 m2 w2 m3 w3 m19 x0 x1 x2) (v2687 c m1 w1 m2 w2 m3 w3 m20 x0 x1 x2) (shapeCast S128x256 (v4192 c m1 w1 m2 w2 m3 w3 m4 w4 m5 w5 m9 w9 m19 m20 m22 m23 x0 x1 x2 x3 x4 x8) shapeCasts_S1x128x256_S128x256 : FVec Ideal S128x256 .f32) _ (v4213 c m1 w1 m2 w2 m3 w3 m21 x0 x1 x2)
    (tl Q (64 * 0) (128 * 1)) (tl K (64 * 0) (128 * 1)) (tl V (64 * 0) (256 * 1)) (stF K V G (T 1) 1 0) (fun a l => L.q 0 128 _ a l) (fun a l => L.k 0 128 _ a l) (fun a l => L.v 0 256 _ a l) (st_1_0 L) NG L.ng (tl R (64 * 0) (256 * 1)) (fun a l => L.r 0 256 _ a l) j e

theorem st_1_1 (a : Fin 128) (e : Fin 256) : (r_608 c m1 w1 m2 w2 m3 w3 m4 w4 m5 w5 m9 w9 m19 m20 m22 m23 x0 x1 x2 x3 x4 x8) (ix2 a e) = stF K V G (T 1) 1 1 a e :=
  stC_at (argOk_left (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 0) (128 * 1)) (fun a l => L.g 0 128 _ a l) (fun _ _ => L.real _ _))
    (v2686 c m1 w1 m2 w2 m3 w3 m19 x0 x1 x2) (v2687 c m1 w1 m2 w2 m3 w3 m20 x0 x1 x2) (shapeCast S128x256 (v4192 c m1 w1 m2 w2 m3 w3 m4 w4 m5 w5 m9 w9 m19 m20 m22 m23 x0 x1 x2 x3 x4 x8) shapeCasts_S1x128x256_S128x256 : FVec Ideal S128x256 .f32)
    (tl K (64 * 0) (128 * 1)) (tl V (64 * 0) (256 * 1)) (stF K V G (T 1) 1 0) (fun a l => L.k 0 128 _ a l) (fun a l => L.v 0 256 _ a l) (st_1_0 L) a e

theorem og_1_1 (j : Fin 64) (e : Fin 256) : ((k0_pay752 (r_436 c m1 w1 m2 w2 m3 w3 m4 w4 m5 w5 m9 w9 m18 m19 m20 m22 x0 x1 x2 x3 x4 x8) (r_437 c m1 w1 m2 w2 m3 w3 m4 w4 m5 w5 m9 w9 m18 m22 x0 x1 x2 x3 x4 x8) (r_608 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4237 c m1 w1 m2 w2 m3 w3 m21 x0 x1 x2)) : FVec Ideal S64x256 .bf16) (ix2 j e)
    = ogF Q K V G NG R (T 1) 1 1 j e :=
  ogC_at (argOk_right (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 1) (128 * 1)) (fun a l => L.g 64 128 _ a l) (fun _ _ => L.real _ _))
    (v2737 c m1 w1 m2 w2 m3 w3 m18 x0 x1 x2) (v2738 c m1 w1 m2 w2 m3 w3 m19 x0 x1 x2) (v2739 c m1 w1 m2 w2 m3 w3 m20 x0 x1 x2) (r_608 c m1 w1 m2 w2 m3 w3 m4 w4 m5 w5 m9 w9 m19 m20 m22 m23 x0 x1 x2 x3 x4 x8) _ (v4237 c m1 w1 m2 w2 m3 w3 m21 x0 x1 x2)
    (tl Q (64 * 1) (128 * 1)) (tl K (64 * 1) (128 * 1)) (tl V (64 * 1) (256 * 1)) (stF K V G (T 1) 1 1) (fun a l => L.q 64 128 _ a l) (fun a l => L.k 64 128 _ a l) (fun a l => L.v 64 256 _ a l) (st_1_1 L) NG L.ng (tl R (64 * 1) (256 * 1)) (fun a l => L.r 64 256 _ a l) j e

theorem st_1_2 (a : Fin 128) (e : Fin 256) : (r_610 c m1 w1 m2 w2 m3 w3 m4 w4 m5 w5 m9 w9 m19 m20 m22 m23 x0 x1 x2 x3 x4 x8) (ix2 a e) = stF K V G (T 1) 1 2 a e :=
  stC_at (argOk_right (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 1) (128 * 1)) (fun a l => L.g 64 128 _ a l) (fun _ _ => L.real _ _))
    (v2738 c m1 w1 m2 w2 m3 w3 m19 x0 x1 x2) (v2739 c m1 w1 m2 w2 m3 w3 m20 x0 x1 x2) (r_608 c m1 w1 m2 w2 m3 w3 m4 w4 m5 w5 m9 w9 m19 m20 m22 m23 x0 x1 x2 x3 x4 x8)
    (tl K (64 * 1) (128 * 1)) (tl V (64 * 1) (256 * 1)) (stF K V G (T 1) 1 1) (fun a l => L.k 64 128 _ a l) (fun a l => L.v 64 256 _ a l) (st_1_1 L) a e

theorem og_1_2 (j : Fin 64) (e : Fin 256) : ((k0_pay754 (r_443 c m1 w1 m2 w2 m3 w3 m4 w4 m5 w5 m9 w9 m18 m19 m20 m22 x0 x1 x2 x3 x4 x8) (r_444 c m1 w1 m2 w2 m3 w3 m4 w4 m5 w5 m9 w9 m18 m22 x0 x1 x2 x3 x4 x8) (r_610 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4261 c m1 w1 m2 w2 m3 w3 m21 x0 x1 x2)) : FVec Ideal S64x256 .bf16) (ix2 j e)
    = ogF Q K V G NG R (T 1) 1 2 j e :=
  ogC_at (argOk_left (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 2) (128 * 1)) (fun a l => L.g 128 128 _ a l) (fun _ _ => L.real _ _))
    (v2789 c m1 w1 m2 w2 m3 w3 m18 x0 x1 x2) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8) _ (v4261 c m1 w1 m2 w2 m3 w3 m21 x0 x1 x2)
    (tl Q (64 * 2) (128 * 1)) (tl K (64 * 2) (128 * 1)) (tl V (64 * 2) (256 * 1)) (stF K V G (T 1) 1 2) (fun a l => L.q 128 128 _ a l) (fun a l => L.k 128 128 _ a l) (fun a l => L.v 128 256 _ a l) (st_1_2 L) NG L.ng (tl R (64 * 2) (256 * 1)) (fun a l => L.r 128 256 _ a l) j e

theorem st_1_3 (a : Fin 128) (e : Fin 256) : (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8)) (ix2 a e) = stF K V G (T 1) 1 3 a e :=
  stC_at (argOk_left (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 2) (128 * 1)) (fun a l => L.g 128 128 _ a l) (fun _ _ => L.real _ _))
    (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8)
    (tl K (64 * 2) (128 * 1)) (tl V (64 * 2) (256 * 1)) (stF K V G (T 1) 1 2) (fun a l => L.k 128 128 _ a l) (fun a l => L.v 128 256 _ a l) (st_1_2 L) a e

theorem og_1_3 (j : Fin 64) (e : Fin 256) : ((k0_pay757 (r_612 c m1 w1 m2 w2 m3 w3 m4 w4 m5 w5 m9 w9 m10 w10 m18 m19 m20 m22 m23 x0 x1 x2 x3 x4 x8 x9) (v4285 c m1 w1 m2 w2 m3 w3 m21 x0 x1 x2)) : FVec Ideal S64x256 .bf16) (ix2 j e)
    = ogF Q K V G NG R (T 1) 1 3 j e :=
  ogC_at (argOk_right (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 3) (128 * 1)) (fun a l => L.g 192 128 _ a l) (fun _ _ => L.real _ _))
    (v2841 c m1 w1 m2 w2 m3 w3 m18 x0 x1 x2) (v2842 c m1 w1 m2 w2 m3 w3 m19 x0 x1 x2) (v2843 c m1 w1 m2 w2 m3 w3 m20 x0 x1 x2) (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8)) _ (v4285 c m1 w1 m2 w2 m3 w3 m21 x0 x1 x2)
    (tl Q (64 * 3) (128 * 1)) (tl K (64 * 3) (128 * 1)) (tl V (64 * 3) (256 * 1)) (stF K V G (T 1) 1 3) (fun a l => L.q 192 128 _ a l) (fun a l => L.k 192 128 _ a l) (fun a l => L.v 192 256 _ a l) (st_1_3 L) NG L.ng (tl R (64 * 3) (256 * 1)) (fun a l => L.r 192 256 _ a l) j e

theorem st_1_4 (a : Fin 128) (e : Fin 256) : (r_611 c m1 w1 m2 w2 m3 w3 m4 w4 m5 w5 m9 w9 m19 m20 m22 m23 x0 x1 x2 x3 x4 x8) (ix2 a e) = stF K V G (T 1) 1 4 a e :=
  stC_at (argOk_right (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 3) (128 * 1)) (fun a l => L.g 192 128 _ a l) (fun _ _ => L.real _ _))
    (v2842 c m1 w1 m2 w2 m3 w3 m19 x0 x1 x2) (v2843 c m1 w1 m2 w2 m3 w3 m20 x0 x1 x2) (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8))
    (tl K (64 * 3) (128 * 1)) (tl V (64 * 3) (256 * 1)) (stF K V G (T 1) 1 3) (fun a l => L.k 192 128 _ a l) (fun a l => L.v 192 256 _ a l) (st_1_3 L) a e

theorem og_1_4 (j : Fin 64) (e : Fin 256) : ((k0_pay761 (r_457 c m1 w1 m2 w2 m3 w3 m4 w4 m5 w5 m9 w9 m18 m19 m20 m22 x0 x1 x2 x3 x4 x8) (r_458 c m1 w1 m2 w2 m3 w3 m4 w4 m5 w5 m9 w9 m18 m22 x0 x1 x2 x3 x4 x8) (r_611 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4315 c m1 w1 m2 w2 m3 w3 m21 x0 x1 x2)) : FVec Ideal S64x256 .bf16) (ix2 j e)
    = ogF Q K V G NG R (T 1) 1 4 j e :=
  ogC_at (argOk_left (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 4) (128 * 1)) (fun a l => L.g 256 128 _ a l) (fun _ _ => L.real _ _))
    (v2893 c m1 w1 m2 w2 m3 w3 m18 x0 x1 x2) (v2894 c m1 w1 m2 w2 m3 w3 m19 x0 x1 x2) (v2895 c m1 w1 m2 w2 m3 w3 m20 x0 x1 x2) (r_611 c m1 w1 m2 w2 m3 w3 m4 w4 m5 w5 m9 w9 m19 m20 m22 m23 x0 x1 x2 x3 x4 x8) _ (v4315 c m1 w1 m2 w2 m3 w3 m21 x0 x1 x2)
    (tl Q (64 * 4) (128 * 1)) (tl K (64 * 4) (128 * 1)) (tl V (64 * 4) (256 * 1)) (stF K V G (T 1) 1 4) (fun a l => L.q 256 128 _ a l) (fun a l => L.k 256 128 _ a l) (fun a l => L.v 256 256 _ a l) (st_1_4 L) NG L.ng (tl R (64 * 4) (256 * 1)) (fun a l => L.r 256 256 _ a l) j e

theorem st_1_5 (a : Fin 128) (e : Fin 256) : (r_614 c m1 w1 m2 w2 m3 w3 m4 w4 m5 w5 m9 w9 m19 m20 m22 m23 x0 x1 x2 x3 x4 x8) (ix2 a e) = stF K V G (T 1) 1 5 a e :=
  stC_at (argOk_left (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 4) (128 * 1)) (fun a l => L.g 256 128 _ a l) (fun _ _ => L.real _ _))
    (v2894 c m1 w1 m2 w2 m3 w3 m19 x0 x1 x2) (v2895 c m1 w1 m2 w2 m3 w3 m20 x0 x1 x2) (r_611 c m1 w1 m2 w2 m3 w3 m4 w4 m5 w5 m9 w9 m19 m20 m22 m23 x0 x1 x2 x3 x4 x8)
    (tl K (64 * 4) (128 * 1)) (tl V (64 * 4) (256 * 1)) (stF K V G (T 1) 1 4) (fun a l => L.k 256 128 _ a l) (fun a l => L.v 256 256 _ a l) (st_1_4 L) a e

theorem og_1_5 (j : Fin 64) (e : Fin 256) : ((k0_pay764 (r_465 c m1 w1 m2 w2 m3 w3 m4 w4 m5 w5 m9 w9 m18 m19 m20 m22 x0 x1 x2 x3 x4 x8) (r_615 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4339 c m1 w1 m2 w2 m3 w3 m21 x0 x1 x2)) : FVec Ideal S64x256 .bf16) (ix2 j e)
    = ogF Q K V G NG R (T 1) 1 5 j e :=
  ogC_at (argOk_right (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 5) (128 * 1)) (fun a l => L.g 320 128 _ a l) (fun _ _ => L.real _ _))
    (v2945 c m1 w1 m2 w2 m3 w3 m18 x0 x1 x2) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8) _ (v4339 c m1 w1 m2 w2 m3 w3 m21 x0 x1 x2)
    (tl Q (64 * 5) (128 * 1)) (tl K (64 * 5) (128 * 1)) (tl V (64 * 5) (256 * 1)) (stF K V G (T 1) 1 5) (fun a l => L.q 320 128 _ a l) (fun a l => L.k 320 128 _ a l) (fun a l => L.v 320 256 _ a l) (st_1_5 L) NG L.ng (tl R (64 * 5) (256 * 1)) (fun a l => L.r 320 256 _ a l) j e

theorem st_1_6 (a : Fin 128) (e : Fin 256) : (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8)) (ix2 a e) = stF K V G (T 1) 1 6 a e :=
  stC_at (argOk_right (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 5) (128 * 1)) (fun a l => L.g 320 128 _ a l) (fun _ _ => L.real _ _))
    (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8)
    (tl K (64 * 5) (128 * 1)) (tl V (64 * 5) (256 * 1)) (stF K V G (T 1) 1 5) (fun a l => L.k 320 128 _ a l) (fun a l => L.v 320 256 _ a l) (st_1_5 L) a e

theorem og_1_6 (j : Fin 64) (e : Fin 256) : ((k0_pay767 (r_617 c m1 w1 m2 w2 m3 w3 m4 w4 m5 w5 m9 w9 m10 w10 m18 m19 m20 m22 m23 x0 x1 x2 x3 x4 x8 x9) (v4363 c m1 w1 m2 w2 m3 w3 m21 x0 x1 x2)) : FVec Ideal S64x256 .bf16) (ix2 j e)
    = ogF Q K V G NG R (T 1) 1 6 j e :=
  ogC_at (argOk_left (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 6) (128 * 1)) (fun a l => L.g 384 128 _ a l) (fun _ _ => L.real _ _))
    (v3015 c m1 w1 m2 w2 m3 w3 m18 x0 x1 x2) (v3016 c m1 w1 m2 w2 m3 w3 m19 x0 x1 x2) (v3017 c m1 w1 m2 w2 m3 w3 m20 x0 x1 x2) (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8)) _ (v4363 c m1 w1 m2 w2 m3 w3 m21 x0 x1 x2)
    (tl Q (64 * 6) (128 * 1)) (tl K (64 * 6) (128 * 1)) (tl V (64 * 6) (256 * 1)) (stF K V G (T 1) 1 6) (fun a l => L.q 384 128 _ a l) (fun a l => L.k 384 128 _ a l) (fun a l => L.v 384 256 _ a l) (st_1_6 L) NG L.ng (tl R (64 * 6) (256 * 1)) (fun a l => L.r 384 256 _ a l) j e

theorem st_1_7 (a : Fin 128) (e : Fin 256) : (r_616 c m1 w1 m2 w2 m3 w3 m4 w4 m5 w5 m9 w9 m19 m20 m22 m23 x0 x1 x2 x3 x4 x8) (ix2 a e) = stF K V G (T 1) 1 7 a e :=
  stC_at (argOk_left (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 6) (128 * 1)) (fun a l => L.g 384 128 _ a l) (fun _ _ => L.real _ _))
    (v3016 c m1 w1 m2 w2 m3 w3 m19 x0 x1 x2) (v3017 c m1 w1 m2 w2 m3 w3 m20 x0 x1 x2) (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8))
    (tl K (64 * 6) (128 * 1)) (tl V (64 * 6) (256 * 1)) (stF K V G (T 1) 1 6) (fun a l => L.k 384 128 _ a l) (fun a l => L.v 384 256 _ a l) (st_1_6 L) a e

theorem og_1_7 (j : Fin 64) (e : Fin 256) : ((k0_pay768 (r_482 c m1 w1 m2 w2 m3 w3 m4 w4 m5 w5 m9 w9 m18 m19 m20 m22 x0 x1 x2 x3 x4 x8) (r_483 c m1 w1 m2 w2 m3 w3 m4 w4 m5 w5 m9 w9 m18 m22 x0 x1 x2 x3 x4 x8) (r_616 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4387 c m1 w1 m2 w2 m3 w3 m21 x0 x1 x2)) : FVec Ideal S64x256 .bf16) (ix2 j e)
    = ogF Q K V G NG R (T 1) 1 7 j e :=
  ogC_at (argOk_right (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 7) (128 * 1)) (fun a l => L.g 448 128 _ a l) (fun _ _ => L.real _ _))
    (v3067 c m1 w1 m2 w2 m3 w3 m18 x0 x1 x2) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8) _ (v4387 c m1 w1 m2 w2 m3 w3 m21 x0 x1 x2)
    (tl Q (64 * 7) (128 * 1)) (tl K (64 * 7) (128 * 1)) (tl V (64 * 7) (256 * 1)) (stF K V G (T 1) 1 7) (fun a l => L.q 448 128 _ a l) (fun a l => L.k 448 128 _ a l) (fun a l => L.v 448 256 _ a l) (st_1_7 L) NG L.ng (tl R (64 * 7) (256 * 1)) (fun a l => L.r 448 256 _ a l) j e

theorem st_1_8 (a : Fin 128) (e : Fin 256) : (stC (argC (half1 (pairC (r_1 c m9 w9 x8) (v1106 c m1 w1 m2 w2 m3 w3 m4 w4 m5 w5 m22 x0 x1 x2 x3 x4) (v1112 c m1 w1 m2 w2 m3 w3 m4 w4 m5 w5 m22 x0 x1 x2 x3 x4)))) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8)) (ix2 a e) = stF K V G (T 1) 1 8 a e :=
  stC_at (argOk_right (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 7) (128 * 1)) (fun a l => L.g 448 128 _ a l) (fun _ _ => L.real _ _))
    (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8)
    (tl K (64 * 7) (128 * 1)) (tl V (64 * 7) (256 * 1)) (stF K V G (T 1) 1 7) (fun a l => L.k 448 128 _ a l) (fun a l => L.v 448 256 _ a l) (st_1_7 L) a e

theorem st_2_0 (a : Fin 128) (e : Fin 256) : (shapeCast S128x256 (v4395 c m1 w1 m2 w2 m3 w3 m4 w4 m5 w5 m9 w9 m19 m20 m22 m23 x0 x1 x2 x3 x4 x8) shapeCasts_S1x128x256_S128x256 : FVec Ideal S128x256 .f32) (ix2 a e) = stF K V G (T 2) 2 0 a e :=
  (stateCast_at _ a e).trans (L.t2 a e)

theorem og_2_0 (j : Fin 64) (e : Fin 256) : ((k0_pay773 (r_618 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4416 c m1 w1 m2 w2 m3 w3 m21 x0 x1 x2)) : FVec Ideal S64x256 .bf16) (ix2 j e)
    = ogF Q K V G NG R (T 2) 2 0 j e :=
  ogC_at (argOk_left (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 0) (128 * 2)) (fun a l => L.g 0 256 _ a l) (fun _ _ => L.real _ _))
    (v3119 c m1 w1 m2 w2 m3 w3 m18 x0 x1 x2) (v3120 c m1 w1 m2 w2 m3 w3 m19 x0 x1 x2) (v3121 c m1 w1 m2 w2 m3 w3 m20 x0 x1 x2) (shapeCast S128x256 (v4395 c m1 w1 m2 w2 m3 w3 m4 w4 m5 w5 m9 w9 m19 m20 m22 m23 x0 x1 x2 x3 x4 x8) shapeCasts_S1x128x256_S128x256 : FVec Ideal S128x256 .f32) _ (v4416 c m1 w1 m2 w2 m3 w3 m21 x0 x1 x2)
    (tl Q (64 * 0) (128 * 2)) (tl K (64 * 0) (128 * 2)) (tl V (64 * 0) (256 * 2)) (stF K V G (T 2) 2 0) (fun a l => L.q 0 256 _ a l) (fun a l => L.k 0 256 _ a l) (fun a l => L.v 0 512 _ a l) (st_2_0 L) NG L.ng (tl R (64 * 0) (256 * 2)) (fun a l => L.r 0 512 _ a l) j e

theorem st_2_1 (a : Fin 128) (e : Fin 256) : (r_619 c m1 w1 m2 w2 m3 w3 m4 w4 m5 w5 m9 w9 m19 m20 m22 m23 x0 x1 x2 x3 x4 x8) (ix2 a e) = stF K V G (T 2) 2 1 a e :=
  stC_at (argOk_left (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 0) (128 * 2)) (fun a l => L.g 0 256 _ a l) (fun _ _ => L.real _ _))
    (v3120 c m1 w1 m2 w2 m3 w3 m19 x0 x1 x2) (v3121 c m1 w1 m2 w2 m3 w3 m20 x0 x1 x2) (shapeCast S128x256 (v4395 c m1 w1 m2 w2 m3 w3 m4 w4 m5 w5 m9 w9 m19 m20 m22 m23 x0 x1 x2 x3 x4 x8) shapeCasts_S1x128x256_S128x256 : FVec Ideal S128x256 .f32)
    (tl K (64 * 0) (128 * 2)) (tl V (64 * 0) (256 * 2)) (stF K V G (T 2) 2 0) (fun a l => L.k 0 256 _ a l) (fun a l => L.v 0 512 _ a l) (st_2_0 L) a e

theorem og_2_1 (j : Fin 64) (e : Fin 256) : ((r_621 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 2) 2 1 j e :=
  ogC_at (argOk_right (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 1) (128 * 2)) (fun a l => L.g 64 256 _ a l) (fun _ _ => L.real _ _))
    (v3171 c m1 w1 m2 w2 m3 w3 m18 x0 x1 x2) (v3172 c m1 w1 m2 w2 m3 w3 m19 x0 x1 x2) (v3173 c m1 w1 m2 w2 m3 w3 m20 x0 x1 x2) (r_619 c m1 w1 m2 w2 m3 w3 m4 w4 m5 w5 m9 w9 m19 m20 m22 m23 x0 x1 x2 x3 x4 x8) _ (v4440 c m1 w1 m2 w2 m3 w3 m21 x0 x1 x2)
    (tl Q (64 * 1) (128 * 2)) (tl K (64 * 1) (128 * 2)) (tl V (64 * 1) (256 * 2)) (stF K V G (T 2) 2 1) (fun a l => L.q 64 256 _ a l) (fun a l => L.k 64 256 _ a l) (fun a l => L.v 64 512 _ a l) (st_2_1 L) NG L.ng (tl R (64 * 1) (256 * 2)) (fun a l => L.r 64 512 _ a l) j e

theorem st_2_2 (a : Fin 128) (e : Fin 256) : (r_620 c m1 w1 m2 w2 m3 w3 m4 w4 m5 w5 m9 w9 m19 m20 m22 m23 x0 x1 x2 x3 x4 x8) (ix2 a e) = stF K V G (T 2) 2 2 a e :=
  stC_at (argOk_right (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 1) (128 * 2)) (fun a l => L.g 64 256 _ a l) (fun _ _ => L.real _ _))
    (v3172 c m1 w1 m2 w2 m3 w3 m19 x0 x1 x2) (v3173 c m1 w1 m2 w2 m3 w3 m20 x0 x1 x2) (r_619 c m1 w1 m2 w2 m3 w3 m4 w4 m5 w5 m9 w9 m19 m20 m22 m23 x0 x1 x2 x3 x4 x8)
    (tl K (64 * 1) (128 * 2)) (tl V (64 * 1) (256 * 2)) (stF K V G (T 2) 2 1) (fun a l => L.k 64 256 _ a l) (fun a l => L.v 64 512 _ a l) (st_2_1 L) a e

theorem og_2_2 (j : Fin 64) (e : Fin 256) : ((k0_pay780 (r_624 c m1 w1 m2 w2 m3 w3 m4 w4 m5 w5 m9 w9 m10 w10 m18 m19 m20 m22 m23 x0 x1 x2 x3 x4 x8 x9) (v4482 c m1 w1 m2 w2 m3 w3 m21 x0 x1 x2)) : FVec Ideal S64x256 .bf16) (ix2 j e)
    = ogF Q K V G NG R (T 2) 2 2 j e :=
  ogC_at (argOk_left (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 2) (128 * 2)) (fun a l => L.g 128 256 _ a l) (fun _ _ => L.real _ _))
    (v3223 c m1 w1 m2 w2 m3 w3 m18 x0 x1 x2) (v3224 c m1 w1 m2 w2 m3 w3 m19 x0 x1 x2) (v3225 c m1 w1 m2 w2 m3 w3 m20 x0 x1 x2) (r_620 c m1 w1 m2 w2 m3 w3 m4 w4 m5 w5 m9 w9 m19 m20 m22 m23 x0 x1 x2 x3 x4 x8) _ (v4482 c m1 w1 m2 w2 m3 w3 m21 x0 x1 x2)
    (tl Q (64 * 2) (128 * 2)) (tl K (64 * 2) (128 * 2)) (tl V (64 * 2) (256 * 2)) (stF K V G (T 2) 2 2) (fun a l => L.q 128 256 _ a l) (fun a l => L.k 128 256 _ a l) (fun a l => L.v 128 512 _ a l) (st_2_2 L) NG L.ng (tl R (64 * 2) (256 * 2)) (fun a l => L.r 128 512 _ a l) j e

theorem st_2_3 (a : Fin 128) (e : Fin 256) : (r_623 c m1 w1 m2 w2 m3 w3 m4 w4 m5 w5 m9 w9 m19 m20 m22 m23 x0 x1 x2 x3 x4 x8) (ix2 a e) = stF K V G (T 2) 2 3 a e :=
  stC_at (argOk_left (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 2) (128 * 2)) (fun a l => L.g 128 256 _ a l) (fun _ _ => L.real _ _))
    (v3224 c m1 w1 m2 w2 m3 w3 m19 x0 x1 x2) (v3225 c m1 w1 m2 w2 m3 w3 m20 x0 x1 x2) (r_620 c m1 w1 m2 w2 m3 w3 m4 w4 m5 w5 m9 w9 m19 m20 m22 m23 x0 x1 x2 x3 x4 x8)
    (tl K (64 * 2) (128 * 2)) (tl V (64 * 2) (256 * 2)) (stF K V G (T 2) 2 2) (fun a l => L.k 128 256 _ a l) (fun a l => L.v 128 512 _ a l) (st_2_2 L) a e

theorem og_2_3 (j : Fin 64) (e : Fin 256) : ((k0_pay782 (r_509 c m1 w1 m2 w2 m3 w3 m4 w4 m5 w5 m9 w9 m18 m19 m20 m22 x0 x1 x2 x3 x4 x8) (r_510 c m1 w1 m2 w2 m3 w3 m4 w4 m5 w5 m9 w9 m18 m22 x0 x1 x2 x3 x4 x8) (r_623 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4506 c m1 w1 m2 w2 m3 w3 m21 x0 x1 x2)) : FVec Ideal S64x256 .bf16) (ix2 j e)
    = ogF Q K V G NG R (T 2) 2 3 j e :=
  ogC_at (argOk_right (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 3) (128 * 2)) (fun a l => L.g 192 256 _ a l) (fun _ _ => L.real _ _))
    (v3275 c m1 w1 m2 w2 m3 w3 m18 x0 x1 x2) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8) _ (v4506 c m1 w1 m2 w2 m3 w3 m21 x0 x1 x2)
    (tl Q (64 * 3) (128 * 2)) (tl K (64 * 3) (128 * 2)) (tl V (64 * 3) (256 * 2)) (stF K V G (T 2) 2 3) (fun a l => L.q 192 256 _ a l) (fun a l => L.k 192 256 _ a l) (fun a l => L.v 192 512 _ a l) (st_2_3 L) NG L.ng (tl R (64 * 3) (256 * 2)) (fun a l => L.r 192 512 _ a l) j e

theorem st_2_4 (a : Fin 128) (e : Fin 256) : (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8)) (ix2 a e) = stF K V G (T 2) 2 4 a e :=
  stC_at (argOk_right (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 3) (128 * 2)) (fun a l => L.g 192 256 _ a l) (fun _ _ => L.real _ _))
    (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8)
    (tl K (64 * 3) (128 * 2)) (tl V (64 * 3) (256 * 2)) (stF K V G (T 2) 2 3) (fun a l => L.k 192 256 _ a l) (fun a l => L.v 192 512 _ a l) (st_2_3 L) a e

theorem og_2_4 (j : Fin 64) (e : Fin 256) : ((k0_pay786 (r_625 c m1 w1 m2 w2 m3 w3 m4 w4 m5 w5 m9 w9 m18 m19 m20 m22 m23 x0 x1 x2 x3 x4 x8) (r_627 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4530 c m1 w1 m2 w2 m3 w3 m21 x0 x1 x2)) : FVec Ideal S64x256 .bf16) (ix2 j e)
    = ogF Q K V G NG R (T 2) 2 4 j e :=
  ogC_at (argOk_left (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 4) (128 * 2)) (fun a l => L.g 256 256 _ a l) (fun _ _ => L.real _ _))
    (v3332 c m1 w1 m2 w2 m3 w3 m18 x0 x1 x2) (v3333 c m1 w1 m2 w2 m3 w3 m19 x0 x1 x2) (v3334 c m1 w1 m2 w2 m3 w3 m20 x0 x1 x2) (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8)) _ (v4530 c m1 w1 m2 w2 m3 w3 m21 x0 x1 x2)
    (tl Q (64 * 4) (128 * 2)) (tl K (64 * 4) (128 * 2)) (tl V (64 * 4) (256 * 2)) (stF K V G (T 2) 2 4) (fun a l => L.q 256 256 _ a l) (fun a l => L.k 256 256 _ a l) (fun a l => L.v 256 512 _ a l) (st_2_4 L) NG L.ng (tl R (64 * 4) (256 * 2)) (fun a l => L.r 256 512 _ a l) j e

theorem st_2_5 (a : Fin 128) (e : Fin 256) : (r_626 c m1 w1 m2 w2 m3 w3 m4 w4 m5 w5 m9 w9 m19 m20 m22 m23 x0 x1 x2 x3 x4 x8) (ix2 a e) = stF K V G (T 2) 2 5 a e :=
  stC_at (argOk_left (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 4) (128 * 2)) (fun a l => L.g 256 256 _ a l) (fun _ _ => L.real _ _))
    (v3333 c m1 w1 m2 w2 m3 w3 m19 x0 x1 x2) (v3334 c m1 w1 m2 w2 m3 w3 m20 x0 x1 x2) (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8))
    (tl K (64 * 4) (128 * 2)) (tl V (64 * 4) (256 * 2)) (stF K V G (T 2) 2 4) (fun a l => L.k 256 256 _ a l) (fun a l => L.v 256 512 _ a l) (st_2_4 L) a e

theorem og_2_5 (j : Fin 64) (e : Fin 256) : ((k0_pay788 (r_523 c m1 w1 m2 w2 m3 w3 m4 w4 m5 w5 m9 w9 m18 m19 m20 m22 x0 x1 x2 x3 x4 x8) (r_524 c m1 w1 m2 w2 m3 w3 m4 w4 m5 w5 m9 w9 m18 m22 x0 x1 x2 x3 x4 x8) (r_626 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4554 c m1 w1 m2 w2 m3 w3 m21 x0 x1 x2)) : FVec Ideal S64x256 .bf16) (ix2 j e)
    = ogF Q K V G NG R (T 2) 2 5 j e :=
  ogC_at (argOk_right (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 5) (128 * 2)) (fun a l => L.g 320 256 _ a l) (fun _ _ => L.real _ _))
    (v3384 c m1 w1 m2 w2 m3 w3 m18 x0 x1 x2) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8) _ (v4554 c m1 w1 m2 w2 m3 w3 m21 x0 x1 x2)
    (tl Q (64 * 5) (128 * 2)) (tl K (64 * 5) (128 * 2)) (tl V (64 * 5) (256 * 2)) (stF K V G (T 2) 2 5) (fun a l => L.q 320 256 _ a l) (fun a l => L.k 320 256 _ a l) (fun a l => L.v 320 512 _ a l) (st_2_5 L) NG L.ng (tl R (64 * 5) (256 * 2)) (fun a l => L.r 320 512 _ a l) j e

theorem st_2_6 (a : Fin 128) (e : Fin 256) : (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8)) (ix2 a e) = stF K V G (T 2) 2 6 a e :=
  stC_at (argOk_right (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 5) (128 * 2)) (fun a l => L.g 320 256 _ a l) (fun _ _ => L.real _ _))
    (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8)
    (tl K (64 * 5) (128 * 2)) (tl V (64 * 5) (256 * 2)) (stF K V G (T 2) 2 5) (fun a l => L.k 320 256 _ a l) (fun a l => L.v 320 512 _ a l) (st_2_5 L) a e

theorem og_2_6 (j : Fin 64) (e : Fin 256) : ((k0_pay791 (r_628 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4578 c m1 w1 m2 w2 m3 w3 m21 x0 x1 x2)) : FVec Ideal S64x256 .bf16) (ix2 j e)
    = ogF Q K V G NG R (T 2) 2 6 j e :=
  ogC_at (argOk_left (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 6) (128 * 2)) (fun a l => L.g 384 256 _ a l) (fun _ _ => L.real _ _))
    (v3436 c m1 w1 m2 w2 m3 w3 m18 x0 x1 x2) (v3437 c m1 w1 m2 w2 m3 w3 m19 x0 x1 x2) (v3438 c m1 w1 m2 w2 m3 w3 m20 x0 x1 x2) (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8)) _ (v4578 c m1 w1 m2 w2 m3 w3 m21 x0 x1 x2)
    (tl Q (64 * 6) (128 * 2)) (tl K (64 * 6) (128 * 2)) (tl V (64 * 6) (256 * 2)) (stF K V G (T 2) 2 6) (fun a l => L.q 384 256 _ a l) (fun a l => L.k 384 256 _ a l) (fun a l => L.v 384 512 _ a l) (st_2_6 L) NG L.ng (tl R (64 * 6) (256 * 2)) (fun a l => L.r 384 512 _ a l) j e

theorem st_2_7 (a : Fin 128) (e : Fin 256) : (r_629 c m1 w1 m2 w2 m3 w3 m4 w4 m5 w5 m9 w9 m19 m20 m22 m23 x0 x1 x2 x3 x4 x8) (ix2 a e) = stF K V G (T 2) 2 7 a e :=
  stC_at (argOk_left (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 6) (128 * 2)) (fun a l => L.g 384 256 _ a l) (fun _ _ => L.real _ _))
    (v3437 c m1 w1 m2 w2 m3 w3 m19 x0 x1 x2) (v3438 c m1 w1 m2 w2 m3 w3 m20 x0 x1 x2) (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8))
    (tl K (64 * 6) (128 * 2)) (tl V (64 * 6) (256 * 2)) (stF K V G (T 2) 2 6) (fun a l => L.k 384 256 _ a l) (fun a l => L.v 384 512 _ a l) (st_2_6 L) a e

theorem og_2_7 (j : Fin 64) (e : Fin 256) : ((r_631 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 2) 2 7 j e :=
  ogC_at (argOk_right (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 7) (128 * 2)) (fun a l => L.g 448 256 _ a l) (fun _ _ => L.real _ _))
    (v3488 c m1 w1 m2 w2 m3 w3 m18 x0 x1 x2) (v3489 c m1 w1 m2 w2 m3 w3 m19 x0 x1 x2) (v3490 c m1 w1 m2 w2 m3 w3 m20 x0 x1 x2) (r_629 c m1 w1 m2 w2 m3 w3 m4 w4 m5 w5 m9 w9 m19 m20 m22 m23 x0 x1 x2 x3 x4 x8) _ (v4602 c m1 w1 m2 w2 m3 w3 m21 x0 x1 x2)
    (tl Q (64 * 7) (128 * 2)) (tl K (64 * 7) (128 * 2)) (tl V (64 * 7) (256 * 2)) (stF K V G (T 2) 2 7) (fun a l => L.q 448 256 _ a l) (fun a l => L.k 448 256 _ a l) (fun a l => L.v 448 512 _ a l) (st_2_7 L) NG L.ng (tl R (64 * 7) (256 * 2)) (fun a l => L.r 448 512 _ a l) j e

theorem st_2_8 (a : Fin 128) (e : Fin 256) : (r_630 c m1 w1 m2 w2 m3 w3 m4 w4 m5 w5 m9 w9 m19 m20 m22 m23 x0 x1 x2 x3 x4 x8) (ix2 a e) = stF K V G (T 2) 2 8 a e :=
  stC_at (argOk_right (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 7) (128 * 2)) (fun a l => L.g 448 256 _ a l) (fun _ _ => L.real _ _))
    (v3489 c m1 w1 m2 w2 m3 w3 m19 x0 x1 x2) (v3490 c m1 w1 m2 w2 m3 w3 m20 x0 x1 x2) (r_629 c m1 w1 m2 w2 m3 w3 m4 w4 m5 w5 m9 w9 m19 m20 m22 m23 x0 x1 x2 x3 x4 x8)
    (tl K (64 * 7) (128 * 2)) (tl V (64 * 7) (256 * 2)) (stF K V G (T 2) 2 7) (fun a l => L.k 448 256 _ a l) (fun a l => L.v 448 512 _ a l) (st_2_7 L) a e

theorem st_3_0 (a : Fin 128) (e : Fin 256) : (shapeCast S128x256 (v4625 c m1 w1 m2 w2 m3 w3 m4 w4 m5 w5 m9 w9 m19 m20 m22 m23 x0 x1 x2 x3 x4 x8) shapeCasts_S1x128x256_S128x256 : FVec Ideal S128x256 .f32) (ix2 a e) = stF K V G (T 3) 3 0 a e :=
  (stateCast_at _ a e).trans (L.t3 a e)

theorem og_3_0 (j : Fin 64) (e : Fin 256) : ((k0_pay799 (r_633 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4646 c m1 w1 m2 w2 m3 w3 m21 x0 x1 x2)) : FVec Ideal S64x256 .bf16) (ix2 j e)
    = ogF Q K V G NG R (T 3) 3 0 j e :=
  ogC_at (argOk_left (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 0) (128 * 3)) (fun a l => L.g 0 384 _ a l) (fun _ _ => L.real _ _))
    (v3540 c m1 w1 m2 w2 m3 w3 m18 x0 x1 x2) (v3541 c m1 w1 m2 w2 m3 w3 m19 x0 x1 x2) (v3542 c m1 w1 m2 w2 m3 w3 m20 x0 x1 x2) (shapeCast S128x256 (v4625 c m1 w1 m2 w2 m3 w3 m4 w4 m5 w5 m9 w9 m19 m20 m22 m23 x0 x1 x2 x3 x4 x8) shapeCasts_S1x128x256_S128x256 : FVec Ideal S128x256 .f32) _ (v4646 c m1 w1 m2 w2 m3 w3 m21 x0 x1 x2)
    (tl Q (64 * 0) (128 * 3)) (tl K (64 * 0) (128 * 3)) (tl V (64 * 0) (256 * 3)) (stF K V G (T 3) 3 0) (fun a l => L.q 0 384 _ a l) (fun a l => L.k 0 384 _ a l) (fun a l => L.v 0 768 _ a l) (st_3_0 L) NG L.ng (tl R (64 * 0) (256 * 3)) (fun a l => L.r 0 768 _ a l) j e

theorem st_3_1 (a : Fin 128) (e : Fin 256) : (r_632 c m1 w1 m2 w2 m3 w3 m4 w4 m5 w5 m9 w9 m19 m20 m22 m23 x0 x1 x2 x3 x4 x8) (ix2 a e) = stF K V G (T 3) 3 1 a e :=
  stC_at (argOk_left (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 0) (128 * 3)) (fun a l => L.g 0 384 _ a l) (fun _ _ => L.real _ _))
    (v3541 c m1 w1 m2 w2 m3 w3 m19 x0 x1 x2) (v3542 c m1 w1 m2 w2 m3 w3 m20 x0 x1 x2) (shapeCast S128x256 (v4625 c m1 w1 m2 w2 m3 w3 m4 w4 m5 w5 m9 w9 m19 m20 m22 m23 x0 x1 x2 x3 x4 x8) shapeCasts_S1x128x256_S128x256 : FVec Ideal S128x256 .f32)
    (tl K (64 * 0) (128 * 3)) (tl V (64 * 0) (256 * 3)) (stF K V G (T 3) 3 0) (fun a l => L.k 0 384 _ a l) (fun a l => L.v 0 768 _ a l) (st_3_0 L) a e

theorem og_3_1 (j : Fin 64) (e : Fin 256) : ((k0_pay801 (r_551 c m1 w1 m2 w2 m3 w3 m4 w4 m5 w5 m9 w9 m18 m19 m20 m22 x0 x1 x2 x3 x4 x8) (r_552 c m1 w1 m2 w2 m3 w3 m4 w4 m5 w5 m9 w9 m18 m22 x0 x1 x2 x3 x4 x8) (r_632 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4670 c m1 w1 m2 w2 m3 w3 m21 x0 x1 x2)) : FVec Ideal S64x256 .bf16) (ix2 j e)
    = ogF Q K V G NG R (T 3) 3 1 j e :=
  ogC_at (argOk_right (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 1) (128 * 3)) (fun a l => L.g 64 384 _ a l) (fun _ _ => L.real _ _))
    (v3592 c m1 w1 m2 w2 m3 w3 m18 x0 x1 x2) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8) _ (v4670 c m1 w1 m2 w2 m3 w3 m21 x0 x1 x2)
    (tl Q (64 * 1) (128 * 3)) (tl K (64 * 1) (128 * 3)) (tl V (64 * 1) (256 * 3)) (stF K V G (T 3) 3 1) (fun a l => L.q 64 384 _ a l) (fun a l => L.k 64 384 _ a l) (fun a l => L.v 64 768 _ a l) (st_3_1 L) NG L.ng (tl R (64 * 1) (256 * 3)) (fun a l => L.r 64 768 _ a l) j e

theorem st_3_2 (a : Fin 128) (e : Fin 256) : (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8)) (ix2 a e) = stF K V G (T 3) 3 2 a e :=
  stC_at (argOk_right (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 1) (128 * 3)) (fun a l => L.g 64 384 _ a l) (fun _ _ => L.real _ _))
    (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8)
    (tl K (64 * 1) (128 * 3)) (tl V (64 * 1) (256 * 3)) (stF K V G (T 3) 3 1) (fun a l => L.k 64 384 _ a l) (fun a l => L.v 64 768 _ a l) (st_3_1 L) a e

theorem og_3_2 (j : Fin 64) (e : Fin 256) : ((k0_pay805 (r_634 c m1 w1 m2 w2 m3 w3 m4 w4 m5 w5 m9 w9 m18 m19 m20 m22 m23 x0 x1 x2 x3 x4 x8) (r_636 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4694 c m1 w1 m2 w2 m3 w3 m21 x0 x1 x2)) : FVec Ideal S64x256 .bf16) (ix2 j e)
    = ogF Q K V G NG R (T 3) 3 2 j e :=
  ogC_at (argOk_left (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 2) (128 * 3)) (fun a l => L.g 128 384 _ a l) (fun _ _ => L.real _ _))
    (v3662 c m1 w1 m2 w2 m3 w3 m18 x0 x1 x2) (v3663 c m1 w1 m2 w2 m3 w3 m19 x0 x1 x2) (v3664 c m1 w1 m2 w2 m3 w3 m20 x0 x1 x2) (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8)) _ (v4694 c m1 w1 m2 w2 m3 w3 m21 x0 x1 x2)
    (tl Q (64 * 2) (128 * 3)) (tl K (64 * 2) (128 * 3)) (tl V (64 * 2) (256 * 3)) (stF K V G (T 3) 3 2) (fun a l => L.q 128 384 _ a l) (fun a l => L.k 128 384 _ a l) (fun a l => L.v 128 768 _ a l) (st_3_2 L) NG L.ng (tl R (64 * 2) (256 * 3)) (fun a l => L.r 128 768 _ a l) j e

theorem st_3_3 (a : Fin 128) (e : Fin 256) : (r_635 c m1 w1 m2 w2 m3 w3 m4 w4 m5 w5 m9 w9 m19 m20 m22 m23 x0 x1 x2 x3 x4 x8) (ix2 a e) = stF K V G (T 3) 3 3 a e :=
  stC_at (argOk_left (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 2) (128 * 3)) (fun a l => L.g 128 384 _ a l) (fun _ _ => L.real _ _))
    (v3663 c m1 w1 m2 w2 m3 w3 m19 x0 x1 x2) (v3664 c m1 w1 m2 w2 m3 w3 m20 x0 x1 x2) (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8))
    (tl K (64 * 2) (128 * 3)) (tl V (64 * 2) (256 * 3)) (stF K V G (T 3) 3 2) (fun a l => L.k 128 384 _ a l) (fun a l => L.v 128 768 _ a l) (st_3_2 L) a e

theorem og_3_3 (j : Fin 64) (e : Fin 256) : ((k0_pay807 (r_566 c m1 w1 m2 w2 m3 w3 m4 w4 m5 w5 m9 w9 m18 m19 m20 m22 x0 x1 x2 x3 x4 x8) (r_567 c m1 w1 m2 w2 m3 w3 m4 w4 m5 w5 m9 w9 m18 m22 x0 x1 x2 x3 x4 x8) (r_635 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4718 c m1 w1 m2 w2 m3 w3 m21 x0 x1 x2)) : FVec Ideal S64x256 .bf16) (ix2 j e)
    = ogF Q K V G NG R (T 3) 3 3 j e :=
  ogC_at (argOk_right (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 3) (128 * 3)) (fun a l => L.g 192 384 _ a l) (fun _ _ => L.real _ _))
    (v3714 c m1 w1 m2 w2 m3 w3 m18 x0 x1 x2) (v3715 c m1 w1 m2 w2 m3 w3 m19 x0 x1 x2) (v3716 c m1 w1 m2 w2 m3 w3 m20 x0 x1 x2) (r_635 c m1 w1 m2 w2 m3 w3 m4 w4 m5 w5 m9 w9 m19 m20 m22 m23 x0 x1 x2 x3 x4 x8) _ (v4718 c m1 w1 m2 w2 m3 w3 m21 x0 x1 x2)
    (tl Q (64 * 3) (128 * 3)) (tl K (64 * 3) (128 * 3)) (tl V (64 * 3) (256 * 3)) (stF K V G (T 3) 3 3) (fun a l => L.q 192 384 _ a l) (fun a l => L.k 192 384 _ a l) (fun a l => L.v 192 768 _ a l) (st_3_3 L) NG L.ng (tl R (64 * 3) (256 * 3)) (fun a l => L.r 192 768 _ a l) j e

theorem st_3_4 (a : Fin 128) (e : Fin 256) : (r_637 c m1 w1 m2 w2 m3 w3 m4 w4 m5 w5 m9 w9 m19 m20 m22 m23 x0 x1 x2 x3 x4 x8) (ix2 a e) = stF K V G (T 3) 3 4 a e :=
  stC_at (argOk_right (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 3) (128 * 3)) (fun a l => L.g 192 384 _ a l) (fun _ _ => L.real _ _))
    (v3715 c m1 w1 m2 w2 m3 w3 m19 x0 x1 x2) (v3716 c m1 w1 m2 w2 m3 w3 m20 x0 x1 x2) (r_635 c m1 w1 m2 w2 m3 w3 m4 w4 m5 w5 m9 w9 m19 m20 m22 m23 x0 x1 x2 x3 x4 x8)
    (tl K (64 * 3) (128 * 3)) (tl V (64 * 3) (256 * 3)) (stF K V G (T 3) 3 3) (fun a l => L.k 192 384 _ a l) (fun a l => L.v 192 768 _ a l) (st_3_3 L) a e

theorem og_3_4 (j : Fin 64) (e : Fin 256) : ((k0_pay809 (r_574 c m1 w1 m2 w2 m3 w3 m4 w4 m5 w5 m9 w9 m18 m19 m20 m22 x0 x1 x2 x3 x4 x8) (r_575 c m1 w1 m2 w2 m3 w3 m4 w4 m5 w5 m9 w9 m18 m22 x0 x1 x2 x3 x4 x8) (r_637 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4742 c m1 w1 m2 w2 m3 w3 m21 x0 x1 x2)) : FVec Ideal S64x256 .bf16) (ix2 j e)
    = ogF Q K V G NG R (T 3) 3 4 j e :=
  ogC_at (argOk_left (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 4) (128 * 3)) (fun a l => L.g 256 384 _ a l) (fun _ _ => L.real _ _))
    (v3766 c m1 w1 m2 w2 m3 w3 m18 x0 x1 x2) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8) _ (v4742 c m1 w1 m2 w2 m3 w3 m21 x0 x1 x2)
    (tl Q (64 * 4) (128 * 3)) (tl K (64 * 4) (128 * 3)) (tl V (64 * 4) (256 * 3)) (stF K V G (T 3) 3 4) (fun a l => L.q 256 384 _ a l) (fun a l => L.k 256 384 _ a l) (fun a l => L.v 256 768 _ a l) (st_3_4 L) NG L.ng (tl R (64 * 4) (256 * 3)) (fun a l => L.r 256 768 _ a l) j e

theorem st_3_5 (a : Fin 128) (e : Fin 256) : (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8)) (ix2 a e) = stF K V G (T 3) 3 5 a e :=
  stC_at (argOk_left (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 4) (128 * 3)) (fun a l => L.g 256 384 _ a l) (fun _ _ => L.real _ _))
    (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8)
    (tl K (64 * 4) (128 * 3)) (tl V (64 * 4) (256 * 3)) (stF K V G (T 3) 3 4) (fun a l => L.k 256 384 _ a l) (fun a l => L.v 256 768 _ a l) (st_3_4 L) a e

theorem og_3_5 (j : Fin 64) (e : Fin 256) : ((k0_pay812 (r_639 c m1 w1 m2 w2 m3 w3 m4 w4 m5 w5 m9 w9 m10 w10 m18 m19 m20 m22 m23 x0 x1 x2 x3 x4 x8 x9) (v4766 c m1 w1 m2 w2 m3 w3 m21 x0 x1 x2)) : FVec Ideal S64x256 .bf16) (ix2 j e)
    = ogF Q K V G NG R (T 3) 3 5 j e :=
  ogC_at (argOk_right (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 5) (128 * 3)) (fun a l => L.g 320 384 _ a l) (fun _ _ => L.real _ _))
    (v3818 c m1 w1 m2 w2 m3 w3 m18 x0 x1 x2) (v3819 c m1 w1 m2 w2 m3 w3 m19 x0 x1 x2) (v3820 c m1 w1 m2 w2 m3 w3 m20 x0 x1 x2) (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8)) _ (v4766 c m1 w1 m2 w2 m3 w3 m21 x0 x1 x2)
    (tl Q (64 * 5) (128 * 3)) (tl K (64 * 5) (128 * 3)) (tl V (64 * 5) (256 * 3)) (stF K V G (T 3) 3 5) (fun a l => L.q 320 384 _ a l) (fun a l => L.k 320 384 _ a l) (fun a l => L.v 320 768 _ a l) (st_3_5 L) NG L.ng (tl R (64 * 5) (256 * 3)) (fun a l => L.r 320 768 _ a l) j e

theorem st_3_6 (a : Fin 128) (e : Fin 256) : (r_638 c m1 w1 m2 w2 m3 w3 m4 w4 m5 w5 m9 w9 m19 m20 m22 m23 x0 x1 x2 x3 x4 x8) (ix2 a e) = stF K V G (T 3) 3 6 a e :=
  stC_at (argOk_right (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 5) (128 * 3)) (fun a l => L.g 320 384 _ a l) (fun _ _ => L.real _ _))
    (v3819 c m1 w1 m2 w2 m3 w3 m19 x0 x1 x2) (v3820 c m1 w1 m2 w2 m3 w3 m20 x0 x1 x2) (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8))
    (tl K (64 * 5) (128 * 3)) (tl V (64 * 5) (256 * 3)) (stF K V G (T 3) 3 5) (fun a l => L.k 320 384 _ a l) (fun a l => L.v 320 768 _ a l) (st_3_5 L) a e

theorem og_3_6 (j : Fin 64) (e : Fin 256) : ((k0_pay816 (r_641 c m1 w1 m2 w2 m3 w3 m4 w4 m5 w5 m9 w9 m10 w10 m18 m19 m20 m22 m23 x0 x1 x2 x3 x4 x8 x9) (v4805 c m1 w1 m2 w2 m3 w3 m21 x0 x1 x2)) : FVec Ideal S64x256 .bf16) (ix2 j e)
    = ogF Q K V G NG R (T 3) 3 6 j e :=
  ogC_at (argOk_left (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 6) (128 * 3)) (fun a l => L.g 384 384 _ a l) (fun _ _ => L.real _ _))
    (v3870 c m1 w1 m2 w2 m3 w3 m18 x0 x1 x2) (v3871 c m1 w1 m2 w2 m3 w3 m19 x0 x1 x2) (v3872 c m1 w1 m2 w2 m3 w3 m20 x0 x1 x2) (r_638 c m1 w1 m2 w2 m3 w3 m4 w4 m5 w5 m9 w9 m19 m20 m22 m23 x0 x1 x2 x3 x4 x8) _ (v4805 c m1 w1 m2 w2 m3 w3 m21 x0 x1 x2)
    (tl Q (64 * 6) (128 * 3)) (tl K (64 * 6) (128 * 3)) (tl V (64 * 6) (256 * 3)) (stF K V G (T 3) 3 6) (fun a l => L.q 384 384 _ a l) (fun a l => L.k 384 384 _ a l) (fun a l => L.v 384 768 _ a l) (st_3_6 L) NG L.ng (tl R (64 * 6) (256 * 3)) (fun a l => L.r 384 768 _ a l) j e

theorem st_3_7 (a : Fin 128) (e : Fin 256) : (r_640 c m1 w1 m2 w2 m3 w3 m4 w4 m5 w5 m9 w9 m19 m20 m22 m23 x0 x1 x2 x3 x4 x8) (ix2 a e) = stF K V G (T 3) 3 7 a e :=
  stC_at (argOk_left (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 6) (128 * 3)) (fun a l => L.g 384 384 _ a l) (fun _ _ => L.real _ _))
    (v3871 c m1 w1 m2 w2 m3 w3 m19 x0 x1 x2) (v3872 c m1 w1 m2 w2 m3 w3 m20 x0 x1 x2) (r_638 c m1 w1 m2 w2 m3 w3 m4 w4 m5 w5 m9 w9 m19 m20 m22 m23 x0 x1 x2 x3 x4 x8)
    (tl K (64 * 6) (128 * 3)) (tl V (64 * 6) (256 * 3)) (stF K V G (T 3) 3 6) (fun a l => L.k 384 384 _ a l) (fun a l => L.v 384 768 _ a l) (st_3_6 L) a e

theorem og_3_7 (j : Fin 64) (e : Fin 256) : ((k0_pay1 (r_642 c m1 w1 m2 w2 m3 w3 m4 w4 m5 w5 m9 w9 m18 m19 m20 m22 m23 x0 x1 x2 x3 x4 x8) (r_644 c m1 w1 m2 w2 m3 w3 m4 w4 m5 w5 m9 w9 m18 m19 m20 m22 m23 x0 x1 x2 x3 x4 x8) cst_1109 (View.readAt (Elt Ideal) m10.view (Rect.unit ![0, 0] S1x256.size inb_S1x256_S1x256_0_0).toLoadRect (w10.unread x9)) (v4829 c m1 w1 m2 w2 m3 w3 m21 x0 x1 x2)) : FVec Ideal S64x256 .bf16) (ix2 j e)
    = ogF Q K V G NG R (T 3) 3 7 j e :=
  ogC_at (argOk_right (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 7) (128 * 3)) (fun a l => L.g 448 384 _ a l) (fun _ _ => L.real _ _))
    (v3922 c m1 w1 m2 w2 m3 w3 m18 x0 x1 x2) (v3923 c m1 w1 m2 w2 m3 w3 m19 x0 x1 x2) (v3924 c m1 w1 m2 w2 m3 w3 m20 x0 x1 x2) (r_640 c m1 w1 m2 w2 m3 w3 m4 w4 m5 w5 m9 w9 m19 m20 m22 m23 x0 x1 x2 x3 x4 x8) _ (v4829 c m1 w1 m2 w2 m3 w3 m21 x0 x1 x2)
    (tl Q (64 * 7) (128 * 3)) (tl K (64 * 7) (128 * 3)) (tl V (64 * 7) (256 * 3)) (stF K V G (T 3) 3 7) (fun a l => L.q 448 384 _ a l) (fun a l => L.k 448 384 _ a l) (fun a l => L.v 448 768 _ a l) (st_3_7 L) NG L.ng (tl R (64 * 7) (256 * 3)) (fun a l => L.r 448 768 _ a l) j e

theorem st_3_8 (a : Fin 128) (e : Fin 256) : (r_643 c m1 w1 m2 w2 m3 w3 m4 w4 m5 w5 m9 w9 m19 m20 m22 m23 x0 x1 x2 x3 x4 x8) (ix2 a e) = stF K V G (T 3) 3 8 a e :=
  stC_at (argOk_right (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 7) (128 * 3)) (fun a l => L.g 448 384 _ a l) (fun _ _ => L.real _ _))
    (v3923 c m1 w1 m2 w2 m3 w3 m19 x0 x1 x2) (v3924 c m1 w1 m2 w2 m3 w3 m20 x0 x1 x2) (r_640 c m1 w1 m2 w2 m3 w3 m4 w4 m5 w5 m9 w9 m19 m20 m22 m23 x0 x1 x2 x3 x4 x8)
    (tl K (64 * 7) (128 * 3)) (tl V (64 * 7) (256 * 3)) (stF K V G (T 3) 3 7) (fun a l => L.k 448 384 _ a l) (fun a l => L.v 448 768 _ a l) (st_3_7 L) a e

/-- The gated output the body leaves. -/
theorem og_at (i : grid0.Coords) (hc0 : cond0_0 i) (hc1 : cond0_1 i) (p : Fin 512) (e : Fin 1024) :
    out0_A_15 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 p e) = ogB Q K V G NG R T p e := by
  unfold out0_A_15
  rw [View.read_writes_junk_eq_canon]
  show View.canon (Val := Elt Ideal) (s := S512x1024) (e := .bf16) [⟨Rect.unit (s := S512x1024) ![448, 768] ![64, 256] inb_S512x1024_S64x256_448_768, k0_pay1 (r_642 c m1 w1 m2 w2 m3 w3 m4 w4 m5 w5 m9 w9 m18 m19 m20 m22 m23 x0 x1 x2 x3 x4 x8) (r_644 c m1 w1 m2 w2 m3 w3 m4 w4 m5 w5 m9 w9 m18 m19 m20 m22 m23 x0 x1 x2 x3 x4 x8) cst_1109 (View.readAt (Elt Ideal) m10.view (Rect.unit ![0, 0] S1x256.size inb_S1x256_S1x256_0_0).toLoadRect (w10.unread x9)) (v4829 c m1 w1 m2 w2 m3 w3 m21 x0 x1 x2)⟩, ⟨Rect.unit (s := S512x1024) ![384, 768] S64x256.size inb_S512x1024_S64x256_384_768, k0_pay816 (r_641 c m1 w1 m2 w2 m3 w3 m4 w4 m5 w5 m9 w9 m10 w10 m18 m19 m20 m22 m23 x0 x1 x2 x3 x4 x8 x9) (v4805 c m1 w1 m2 w2 m3 w3 m21 x0 x1 x2)⟩, ⟨Rect.unit (s := S512x1024) ![320, 768] S64x256.size inb_S512x1024_S64x256_320_768, k0_pay812 (r_639 c m1 w1 m2 w2 m3 w3 m4 w4 m5 w5 m9 w9 m10 w10 m18 m19 m20 m22 m23 x0 x1 x2 x3 x4 x8 x9) (v4766 c m1 w1 m2 w2 m3 w3 m21 x0 x1 x2)⟩, ⟨Rect.unit (s := S512x1024) ![256, 768] S64x256.size inb_S512x1024_S64x256_256_768, k0_pay809 (r_574 c m1 w1 m2 w2 m3 w3 m4 w4 m5 w5 m9 w9 m18 m19 m20 m22 x0 x1 x2 x3 x4 x8) (r_575 c m1 w1 m2 w2 m3 w3 m4 w4 m5 w5 m9 w9 m18 m22 x0 x1 x2 x3 x4 x8) (r_637 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4742 c m1 w1 m2 w2 m3 w3 m21 x0 x1 x2)⟩, ⟨Rect.unit (s := S512x1024) ![192, 768] S64x256.size inb_S512x1024_S64x256_192_768, k0_pay807 (r_566 c m1 w1 m2 w2 m3 w3 m4 w4 m5 w5 m9 w9 m18 m19 m20 m22 x0 x1 x2 x3 x4 x8) (r_567 c m1 w1 m2 w2 m3 w3 m4 w4 m5 w5 m9 w9 m18 m22 x0 x1 x2 x3 x4 x8) (r_635 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4718 c m1 w1 m2 w2 m3 w3 m21 x0 x1 x2)⟩, ⟨Rect.unit (s := S512x1024) ![128, 768] S64x256.size inb_S512x1024_S64x256_128_768, k0_pay805 (r_634 c m1 w1 m2 w2 m3 w3 m4 w4 m5 w5 m9 w9 m18 m19 m20 m22 m23 x0 x1 x2 x3 x4 x8) (r_636 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4694 c m1 w1 m2 w2 m3 w3 m21 x0 x1 x2)⟩, ⟨Rect.unit (s := S512x1024) ![64, 768] S64x256.size inb_S512x1024_S64x256_64_768, k0_pay801 (r_551 c m1 w1 m2 w2 m3 w3 m4 w4 m5 w5 m9 w9 m18 m19 m20 m22 x0 x1 x2 x3 x4 x8) (r_552 c m1 w1 m2 w2 m3 w3 m4 w4 m5 w5 m9 w9 m18 m22 x0 x1 x2 x3 x4 x8) (r_632 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4670 c m1 w1 m2 w2 m3 w3 m21 x0 x1 x2)⟩, ⟨Rect.unit (s := S512x1024) ![0, 768] S64x256.size inb_S512x1024_S64x256_0_768, k0_pay799 (r_633 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4646 c m1 w1 m2 w2 m3 w3 m21 x0 x1 x2)⟩, ⟨Rect.unit (s := S512x1024) ![448, 512] S64x256.size inb_S512x1024_S64x256_448_512, r_631 c m1 w1 m2 w2 m3 w3 m4 w4 m5 w5 m9 w9 m10 w10 m18 m19 m20 m21 m22 m23 x0 x1 x2 x3 x4 x8 x9⟩, ⟨Rect.unit (s := S512x1024) ![384, 512] S64x256.size inb_S512x1024_S64x256_384_512, k0_pay791 (r_628 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4578 c m1 w1 m2 w2 m3 w3 m21 x0 x1 x2)⟩, ⟨Rect.unit (s := S512x1024) ![320, 512] S64x256.size inb_S512x1024_S64x256_320_512, k0_pay788 (r_523 c m1 w1 m2 w2 m3 w3 m4 w4 m5 w5 m9 w9 m18 m19 m20 m22 x0 x1 x2 x3 x4 x8) (r_524 c m1 w1 m2 w2 m3 w3 m4 w4 m5 w5 m9 w9 m18 m22 x0 x1 x2 x3 x4 x8) (r_626 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4554 c m1 w1 m2 w2 m3 w3 m21 x0 x1 x2)⟩, ⟨Rect.unit (s := S512x1024) ![256, 512] S64x256.size inb_S512x1024_S64x256_256_512, k0_pay786 (r_625 c m1 w1 m2 w2 m3 w3 m4 w4 m5 w5 m9 w9 m18 m19 m20 m22 m23 x0 x1 x2 x3 x4 x8) (r_627 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4530 c m1 w1 m2 w2 m3 w3 m21 x0 x1 x2)⟩, ⟨Rect.unit (s := S512x1024) ![192, 512] S64x256.size inb_S512x1024_S64x256_192_512, k0_pay782 (r_509 c m1 w1 m2 w2 m3 w3 m4 w4 m5 w5 m9 w9 m18 m19 m20 m22 x0 x1 x2 x3 x4 x8) (r_510 c m1 w1 m2 w2 m3 w3 m4 w4 m5 w5 m9 w9 m18 m22 x0 x1 x2 x3 x4 x8) (r_623 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4506 c m1 w1 m2 w2 m3 w3 m21 x0 x1 x2)⟩, ⟨Rect.unit (s := S512x1024) ![128, 512] S64x256.size inb_S512x1024_S64x256_128_512, k0_pay780 (r_624 c m1 w1 m2 w2 m3 w3 m4 w4 m5 w5 m9 w9 m10 w10 m18 m19 m20 m22 m23 x0 x1 x2 x3 x4 x8 x9) (v4482 c m1 w1 m2 w2 m3 w3 m21 x0 x1 x2)⟩, ⟨Rect.unit (s := S512x1024) ![64, 512] S64x256.size inb_S512x1024_S64x256_64_512, r_621 c m1 w1 m2 w2 m3 w3 m4 w4 m5 w5 m9 w9 m10 w10 m18 m19 m20 m21 m22 m23 x0 x1 x2 x3 x4 x8 x9⟩, ⟨Rect.unit (s := S512x1024) ![0, 512] S64x256.size inb_S512x1024_S64x256_0_512, k0_pay773 (r_618 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4416 c m1 w1 m2 w2 m3 w3 m21 x0 x1 x2)⟩, ⟨Rect.unit (s := S512x1024) ![448, 256] S64x256.size inb_S512x1024_S64x256_448_256, k0_pay768 (r_482 c m1 w1 m2 w2 m3 w3 m4 w4 m5 w5 m9 w9 m18 m19 m20 m22 x0 x1 x2 x3 x4 x8) (r_483 c m1 w1 m2 w2 m3 w3 m4 w4 m5 w5 m9 w9 m18 m22 x0 x1 x2 x3 x4 x8) (r_616 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4387 c m1 w1 m2 w2 m3 w3 m21 x0 x1 x2)⟩, ⟨Rect.unit (s := S512x1024) ![384, 256] S64x256.size inb_S512x1024_S64x256_384_256, k0_pay767 (r_617 c m1 w1 m2 w2 m3 w3 m4 w4 m5 w5 m9 w9 m10 w10 m18 m19 m20 m22 m23 x0 x1 x2 x3 x4 x8 x9) (v4363 c m1 w1 m2 w2 m3 w3 m21 x0 x1 x2)⟩, ⟨Rect.unit (s := S512x1024) ![320, 256] S64x256.size inb_S512x1024_S64x256_320_256, k0_pay764 (r_465 c m1 w1 m2 w2 m3 w3 m4 w4 m5 w5 m9 w9 m18 m19 m20 m22 x0 x1 x2 x3 x4 x8) (r_615 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4339 c m1 w1 m2 w2 m3 w3 m21 x0 x1 x2)⟩, ⟨Rect.unit (s := S512x1024) ![256, 256] S64x256.size inb_S512x1024_S64x256_256_256, k0_pay761 (r_457 c m1 w1 m2 w2 m3 w3 m4 w4 m5 w5 m9 w9 m18 m19 m20 m22 x0 x1 x2 x3 x4 x8) (r_458 c m1 w1 m2 w2 m3 w3 m4 w4 m5 w5 m9 w9 m18 m22 x0 x1 x2 x3 x4 x8) (r_611 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4315 c m1 w1 m2 w2 m3 w3 m21 x0 x1 x2)⟩, ⟨Rect.unit (s := S512x1024) ![192, 256] S64x256.size inb_S512x1024_S64x256_192_256, k0_pay757 (r_612 c m1 w1 m2 w2 m3 w3 m4 w4 m5 w5 m9 w9 m10 w10 m18 m19 m20 m22 m23 x0 x1 x2 x3 x4 x8 x9) (v4285 c m1 w1 m2 w2 m3 w3 m21 x0 x1 x2)⟩, ⟨Rect.unit (s := S512x1024) ![128, 256] S64x256.size inb_S512x1024_S64x256_128_256, k0_pay754 (r_443 c m1 w1 m2 w2 m3 w3 m4 w4 m5 w5 m9 w9 m18 m19 m20 m22 x0 x1 x2 x3 x4 x8) (r_444 c m1 w1 m2 w2 m3 w3 m4 w4 m5 w5 m9 w9 m18 m22 x0 x1 x2 x3 x4 x8) (r_610 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4261 c m1 w1 m2 w2 m3 w3 m21 x0 x1 x2)⟩, ⟨Rect.unit (s := S512x1024) ![64, 256] S64x256.size inb_S512x1024_S64x256_64_256, k0_pay752 (r_436 c m1 w1 m2 w2 m3 w3 m4 w4 m5 w5 m9 w9 m18 m19 m20 m22 x0 x1 x2 x3 x4 x8) (r_437 c m1 w1 m2 w2 m3 w3 m4 w4 m5 w5 m9 w9 m18 m22 x0 x1 x2 x3 x4 x8) (r_608 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4237 c m1 w1 m2 w2 m3 w3 m21 x0 x1 x2)⟩, ⟨Rect.unit (s := S512x1024) ![0, 256] S64x256.size inb_S512x1024_S64x256_0_256, k0_pay750 (r_607 c m1 w1 m2 w2 m3 w3 m4 w4 m5 w5 m9 w9 m18 m19 m20 m22 m23 x0 x1 x2 x3 x4 x8) (r_609 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4213 c m1 w1 m2 w2 m3 w3 m21 x0 x1 x2)⟩, ⟨Rect.unit (s := S512x1024) ![448, 0] S64x256.size inb_S512x1024_S64x256_448_0, k0_pay744 (r_425 c m1 w1 m2 w2 m3 w3 m4 w4 m5 w5 m9 w9 m18 m19 m20 m22 x0 x1 x2 x3 x4 x8) (r_426 c m1 w1 m2 w2 m3 w3 m4 w4 m5 w5 m9 w9 m18 m22 x0 x1 x2 x3 x4 x8) (r_605 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4184 c m1 w1 m2 w2 m3 w3 m21 x0 x1 x2)⟩, ⟨Rect.unit (s := S512x1024) ![384, 0] S64x256.size inb_S512x1024_S64x256_384_0, r_606 c m1 w1 m2 w2 m3 w3 m4 w4 m5 w5 m9 w9 m10 w10 m18 m19 m20 m21 m22 m23 x0 x1 x2 x3 x4 x8 x9⟩, ⟨Rect.unit (s := S512x1024) ![320, 0] S64x256.size inb_S512x1024_S64x256_320_0, k0_pay739 (r_410 c m1 w1 m2 w2 m3 w3 m4 w4 m5 w5 m9 w9 m18 m19 m20 m22 x0 x1 x2 x3 x4 x8) (r_411 c m1 w1 m2 w2 m3 w3 m4 w4 m5 w5 m9 w9 m18 m22 x0 x1 x2 x3 x4 x8) (r_601 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4118 c m1 w1 m2 w2 m3 w3 m21 x0 x1 x2)⟩, ⟨Rect.unit (s := S512x1024) ![256, 0] S64x256.size inb_S512x1024_S64x256_256_0, k0_pay737 (r_600 c m1 w1 m2 w2 m3 w3 m4 w4 m5 w5 m9 w9 m18 m19 m20 m22 m23 x0 x1 x2 x3 x4 x8) (r_602 c m1 w1 m2 w2 m3 w3 m4 w4 m5 w5 m9 w9 m18 m19 m20 m22 m23 x0 x1 x2 x3 x4 x8) k0_pay736 (View.readAt (Elt Ideal) m10.view (Rect.unit ![0, 0] S1x256.size inb_S1x256_S1x256_0_0).toLoadRect (w10.unread x9)) (v4094 c m1 w1 m2 w2 m3 w3 m21 x0 x1 x2)⟩, ⟨Rect.unit (s := S512x1024) ![192, 0] S64x256.size inb_S512x1024_S64x256_192_0, k0_pay732 (r_397 c m1 w1 m2 w2 m3 w3 m4 w4 m5 w5 m9 w9 m18 m19 m20 m22 x0 x1 x2 x3 x4 x8) (r_398 c m1 w1 m2 w2 m3 w3 m4 w4 m5 w5 m9 w9 m18 m22 x0 x1 x2 x3 x4 x8) (r_597 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4070 c m1 w1 m2 w2 m3 w3 m21 x0 x1 x2)⟩, ⟨Rect.unit (s := S512x1024) ![128, 0] S64x256.size inb_S512x1024_S64x256_128_0, k0_pay730 (r_598 c m1 w1 m2 w2 m3 w3 m4 w4 m5 w5 m9 w9 m18 m19 m20 m22 m23 x0 x1 x2 x3 x4 x8) (r_599 c m10 w10 x9) (v4046 c m1 w1 m2 w2 m3 w3 m21 x0 x1 x2)⟩, ⟨Rect.unit (s := S512x1024) ![64, 0] S64x256.size inb_S512x1024_S64x256_64_0, k0_pay727 (r_386 c m1 w1 m2 w2 m3 w3 m4 w4 m5 w5 m9 w9 m18 m19 m20 m22 x0 x1 x2 x3 x4 x8) (r_387 c m1 w1 m2 w2 m3 w3 m4 w4 m5 w5 m9 w9 m18 m22 x0 x1 x2 x3 x4 x8) (r_595 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4022 c m1 w1 m2 w2 m3 w3 m21 x0 x1 x2)⟩, ⟨Rect.unit (s := S512x1024) ![0, 0] S64x256.size inb_S512x1024_S64x256_0_0, r_596 c m1 w1 m2 w2 m3 w3 m4 w4 m5 w5 m9 w9 m10 w10 m18 m19 m20 m21 m22 m23 x0 x1 x2 x3 x4 x8 x9⟩] (ix2 p e) = _
  canon_tiles x n
  · exact og_close (k := 3) (og_3_7 L) x rfl (by first | exact n0 | exact n0.trans (Nat.zero_add _).symm | omega) (by first | exact n1 | exact n1.trans (Nat.zero_add _).symm | omega)
  · exact og_close (k := 3) (og_3_6 L) x rfl (by first | exact n0 | exact n0.trans (Nat.zero_add _).symm | omega) (by first | exact n1 | exact n1.trans (Nat.zero_add _).symm | omega)
  · exact og_close (k := 3) (og_3_5 L) x rfl (by first | exact n0 | exact n0.trans (Nat.zero_add _).symm | omega) (by first | exact n1 | exact n1.trans (Nat.zero_add _).symm | omega)
  · exact og_close (k := 3) (og_3_4 L) x rfl (by first | exact n0 | exact n0.trans (Nat.zero_add _).symm | omega) (by first | exact n1 | exact n1.trans (Nat.zero_add _).symm | omega)
  · exact og_close (k := 3) (og_3_3 L) x rfl (by first | exact n0 | exact n0.trans (Nat.zero_add _).symm | omega) (by first | exact n1 | exact n1.trans (Nat.zero_add _).symm | omega)
  · exact og_close (k := 3) (og_3_2 L) x rfl (by first | exact n0 | exact n0.trans (Nat.zero_add _).symm | omega) (by first | exact n1 | exact n1.trans (Nat.zero_add _).symm | omega)
  · exact og_close (k := 3) (og_3_1 L) x rfl (by first | exact n0 | exact n0.trans (Nat.zero_add _).symm | omega) (by first | exact n1 | exact n1.trans (Nat.zero_add _).symm | omega)
  · exact og_close (k := 3) (og_3_0 L) x rfl (by first | exact n0 | exact n0.trans (Nat.zero_add _).symm | omega) (by first | exact n1 | exact n1.trans (Nat.zero_add _).symm | omega)
  · exact og_close (k := 2) (og_2_7 L) x rfl (by first | exact n0 | exact n0.trans (Nat.zero_add _).symm | omega) (by first | exact n1 | exact n1.trans (Nat.zero_add _).symm | omega)
  · exact og_close (k := 2) (og_2_6 L) x rfl (by first | exact n0 | exact n0.trans (Nat.zero_add _).symm | omega) (by first | exact n1 | exact n1.trans (Nat.zero_add _).symm | omega)
  · exact og_close (k := 2) (og_2_5 L) x rfl (by first | exact n0 | exact n0.trans (Nat.zero_add _).symm | omega) (by first | exact n1 | exact n1.trans (Nat.zero_add _).symm | omega)
  · exact og_close (k := 2) (og_2_4 L) x rfl (by first | exact n0 | exact n0.trans (Nat.zero_add _).symm | omega) (by first | exact n1 | exact n1.trans (Nat.zero_add _).symm | omega)
  · exact og_close (k := 2) (og_2_3 L) x rfl (by first | exact n0 | exact n0.trans (Nat.zero_add _).symm | omega) (by first | exact n1 | exact n1.trans (Nat.zero_add _).symm | omega)
  · exact og_close (k := 2) (og_2_2 L) x rfl (by first | exact n0 | exact n0.trans (Nat.zero_add _).symm | omega) (by first | exact n1 | exact n1.trans (Nat.zero_add _).symm | omega)
  · exact og_close (k := 2) (og_2_1 L) x rfl (by first | exact n0 | exact n0.trans (Nat.zero_add _).symm | omega) (by first | exact n1 | exact n1.trans (Nat.zero_add _).symm | omega)
  · exact og_close (k := 2) (og_2_0 L) x rfl (by first | exact n0 | exact n0.trans (Nat.zero_add _).symm | omega) (by first | exact n1 | exact n1.trans (Nat.zero_add _).symm | omega)
  · exact og_close (k := 1) (og_1_7 L) x rfl (by first | exact n0 | exact n0.trans (Nat.zero_add _).symm | omega) (by first | exact n1 | exact n1.trans (Nat.zero_add _).symm | omega)
  · exact og_close (k := 1) (og_1_6 L) x rfl (by first | exact n0 | exact n0.trans (Nat.zero_add _).symm | omega) (by first | exact n1 | exact n1.trans (Nat.zero_add _).symm | omega)
  · exact og_close (k := 1) (og_1_5 L) x rfl (by first | exact n0 | exact n0.trans (Nat.zero_add _).symm | omega) (by first | exact n1 | exact n1.trans (Nat.zero_add _).symm | omega)
  · exact og_close (k := 1) (og_1_4 L) x rfl (by first | exact n0 | exact n0.trans (Nat.zero_add _).symm | omega) (by first | exact n1 | exact n1.trans (Nat.zero_add _).symm | omega)
  · exact og_close (k := 1) (og_1_3 L) x rfl (by first | exact n0 | exact n0.trans (Nat.zero_add _).symm | omega) (by first | exact n1 | exact n1.trans (Nat.zero_add _).symm | omega)
  · exact og_close (k := 1) (og_1_2 L) x rfl (by first | exact n0 | exact n0.trans (Nat.zero_add _).symm | omega) (by first | exact n1 | exact n1.trans (Nat.zero_add _).symm | omega)
  · exact og_close (k := 1) (og_1_1 L) x rfl (by first | exact n0 | exact n0.trans (Nat.zero_add _).symm | omega) (by first | exact n1 | exact n1.trans (Nat.zero_add _).symm | omega)
  · exact og_close (k := 1) (og_1_0 L) x rfl (by first | exact n0 | exact n0.trans (Nat.zero_add _).symm | omega) (by first | exact n1 | exact n1.trans (Nat.zero_add _).symm | omega)
  · exact og_close (k := 0) (og_0_7 L) x rfl (by first | exact n0 | exact n0.trans (Nat.zero_add _).symm | omega) (by first | exact n1 | exact n1.trans (Nat.zero_add _).symm | omega)
  · exact og_close (k := 0) (og_0_6 L) x rfl (by first | exact n0 | exact n0.trans (Nat.zero_add _).symm | omega) (by first | exact n1 | exact n1.trans (Nat.zero_add _).symm | omega)
  · exact og_close (k := 0) (og_0_5 L) x rfl (by first | exact n0 | exact n0.trans (Nat.zero_add _).symm | omega) (by first | exact n1 | exact n1.trans (Nat.zero_add _).symm | omega)
  · exact og_close (k := 0) (og_0_4 L) x rfl (by first | exact n0 | exact n0.trans (Nat.zero_add _).symm | omega) (by first | exact n1 | exact n1.trans (Nat.zero_add _).symm | omega)
  · exact og_close (k := 0) (og_0_3 L) x rfl (by first | exact n0 | exact n0.trans (Nat.zero_add _).symm | omega) (by first | exact n1 | exact n1.trans (Nat.zero_add _).symm | omega)
  · exact og_close (k := 0) (og_0_2 L) x rfl (by first | exact n0 | exact n0.trans (Nat.zero_add _).symm | omega) (by first | exact n1 | exact n1.trans (Nat.zero_add _).symm | omega)
  · exact og_close (k := 0) (og_0_1 L) x rfl (by first | exact n0 | exact n0.trans (Nat.zero_add _).symm | omega) (by first | exact n1 | exact n1.trans (Nat.zero_add _).symm | omega)
  · exact og_close (k := 0) (og_0_0 L) x rfl (by first | exact n0 | exact n0.trans (Nat.zero_add _).symm | omega) (by first | exact n1 | exact n1.trans (Nat.zero_add _).symm | omega)

/-- The state the body leaves. -/
theorem state_at (i : grid0.Coords) (hc0 : cond0_0 i) (hc1 : cond0_1 i) (h : Fin 4) (a : Fin 128) (e : Fin 256) :
    sout0_A_6 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix3 h a e) = stF K V G (T h) h.val 8 a e := by
  unfold sout0_A_6
  rw [View.read_writes_junk_eq_canon]
  exact canon_states (stC (argC (half1 (pairC (r_1 c m9 w9 x8) (v584 c m1 w1 m2 w2 m3 w3 m4 w4 m5 w5 m22 x0 x1 x2 x3 x4) (v590 c m1 w1 m2 w2 m3 w3 m4 w4 m5 w5 m22 x0 x1 x2 x3 x4)))) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8)) (stC (argC (half1 (pairC (r_1 c m9 w9 x8) (v1106 c m1 w1 m2 w2 m3 w3 m4 w4 m5 w5 m22 x0 x1 x2 x3 x4) (v1112 c m1 w1 m2 w2 m3 w3 m4 w4 m5 w5 m22 x0 x1 x2 x3 x4)))) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8)) (r_630 c m1 w1 m2 w2 m3 w3 m4 w4 m5 w5 m9 w9 m19 m20 m22 m23 x0 x1 x2 x3 x4 x8) (r_643 c m1 w1 m2 w2 m3 w3 m4 w4 m5 w5 m9 w9 m19 m20 m22 m23 x0 x1 x2 x3 x4 x8) _ (fun h a e => stF K V G (T h) h.val 8 a e) h a e (st_0_8 L a e) (st_1_8 L a e) (st_2_8 L a e) (st_3_8 L a e)

end Cert.Gla.CaseA
-- ==== Proof.GlaRunA.lean ====
/- What the body reads back in case A, and the five results of the projection that it leaves. -/
module

public import proofs.«01_k».proof.Proof.GlaCaseA
public import proofs.«01_k».proof.Proof.GlaFields

@[expose] public section

set_option maxRecDepth 16384

noncomputable section

namespace Cert.Gla.CaseA

open Cert.KernelGlaIdeal Cert.KernelGlaIdeal.Gen Cert.KernelGlaIdeal.Gen.kernelRun0_A.sl
open Idealize.ShloMosaic Idealize.ShloMosaic.TcCoe Idealize.SL.Sem
open Cert.Tail (normRow)

variable {c : Dev nD} {i : grid0.Coords} {m1 : Memref sig .tc .vmem S512x1024 .f32} {w1 : m1.IsWhole} {m2 : Memref sig .tc .vmem S1x1024 .f32} {w2 : m2.IsWhole} {m3 : Memref sig .tc .vmem S1024x8208 .bf16} {w3 : m3.IsWhole} {m4 : Memref sig .tc .vmem S128x512 .bf16} {w4 : m4.IsWhole} {m5 : Memref sig .tc .vmem S1x512 .f32} {w5 : m5.IsWhole} {m6 : Memref sig .tc .vmem S1x256 .f32} {w6 : m6.IsWhole} {m7 : Memref sig .tc .vmem S1x256 .f32} {w7 : m7.IsWhole} {m8 : Memref sig .tc .vmem S256x256 .bf16} {w8 : m8.IsWhole} {m9 : Memref sig .tc .vmem S256x128 .bf16} {w9 : m9.IsWhole} {m10 : Memref sig .tc .vmem S1x256 .f32} {w10 : m10.IsWhole} {m11 : Memref sig .tc .vmem S512x1024 .bf16} {w11 : m11.IsWhole} {m12 : Memref sig .tc .vmem S512x1024 .bf16} {w12 : m12.IsWhole} {m13 : Memref sig .tc .vmem S512x1024 .bf16} {w13 : m13.IsWhole} {m14 : Memref sig .tc .vmem S512x1024 .bf16} {w14 : m14.IsWhole} {m15 : Memref sig .tc .vmem S512x1024 .bf16} {w15 : m15.IsWhole} {m16 : Memref sig .tc .vmem S512x1024 .bf16} {w16 : m16.IsWhole} {m17 : Memref sig .tc .vmem S1024x2048 .bf16} {w17 : m17.IsWhole} {m18 : Memref sig .tc .vmem S512x512 .bf16} {w18 : m18.IsWhole} {m19 : Memref sig .tc .vmem S512x512 .bf16} {w19 : m19.IsWhole} {m20 : Memref sig .tc .vmem S512x1024 .bf16} {w20 : m20.IsWhole} {m21 : Memref sig .tc .vmem S512x1024 .bf16} {w21 : m21.IsWhole} {m22 : Memref sig .tc .vmem S512x512 .f32} {w22 : m22.IsWhole} {m23 : Memref sig .tc .vmem S4x128x256 .f32} {w23 : m23.IsWhole} {x0 : Vec Ideal S512x1024 .f32} {x1 : Vec Ideal S1x1024 .f32} {x2 : Vec Ideal S1024x8208 .bf16} {x3 : Vec Ideal S128x512 .bf16} {x4 : Vec Ideal S1x512 .f32} {x5 : Vec Ideal S1x256 .f32} {x6 : Vec Ideal S1x256 .f32} {x7 : Vec Ideal S256x256 .bf16} {x8 : Vec Ideal S256x128 .bf16} {x9 : Vec Ideal S1x256 .f32}

theorem row_at (p : Fin 512) (k : Fin 1024) : r c m1 w1 m2 w2 x0 x1 (ix2 p k) = normRow (fun k => x0 (ix2 p k)) (fun k => x1 (ix2 0 k)) k :=
  normed_at m1 w1 m2 w2 _ _ p k

theorem r_2_at (p l : Fin 512) (n : Fin 8208) (hn : n.val = 3072 + l.val) : (r_2 c m1 w1 m2 w2 m3 w3 x0 x1 x2) (ix2 p l) = bproj x0 x1 x2 p n :=
  proj512_at (H := r c m1 w1 m2 w2 x0 x1) row_at m3 w3 3072 _ p l n hn

theorem r_3_at (p l : Fin 512) (n : Fin 8208) (hn : n.val = 3584 + l.val) : (r_3 c m1 w1 m2 w2 m3 w3 x0 x1 x2) (ix2 p l) = bproj x0 x1 x2 p n :=
  proj512_at (H := r c m1 w1 m2 w2 x0 x1) row_at m3 w3 3584 _ p l n hn

theorem r_4_at (p l : Fin 512) (n : Fin 8208) (hn : n.val = 4096 + l.val) : (r_4 c m1 w1 m2 w2 m3 w3 x0 x1 x2) (ix2 p l) = bproj x0 x1 x2 p n :=
  proj512_at (H := r c m1 w1 m2 w2 x0 x1) row_at m3 w3 4096 _ p l n hn

theorem r_5_at (p l : Fin 512) (n : Fin 8208) (hn : n.val = 5632 + l.val) : (r_5 c m1 w1 m2 w2 m3 w3 x0 x1 x2) (ix2 p l) = bproj x0 x1 x2 p n :=
  proj512_at (H := r c m1 w1 m2 w2 x0 x1) row_at m3 w3 5632 _ p l n hn

theorem r_6_at (p l : Fin 512) (n : Fin 8208) (hn : n.val = 2048 + l.val) : (r_6 c m1 w1 m2 w2 m3 w3 x0 x1 x2) (ix2 p l) = bproj x0 x1 x2 p n :=
  proj512_at (H := r c m1 w1 m2 w2 x0 x1) row_at m3 w3 2048 _ p l n hn

theorem r_9_at (p l : Fin 512) (n : Fin 8208) (hn : n.val = 2560 + l.val) : (r_9 c m1 w1 m2 w2 m3 w3 x0 x1 x2) (ix2 p l) = bproj x0 x1 x2 p n :=
  proj512_at (H := r c m1 w1 m2 w2 x0 x1) row_at m3 w3 2560 _ p l n hn

theorem r_8_at (p : Fin 512) (l : Fin 256) (n : Fin 8208) (hn : n.val = 0 + l.val) : (r_8 c m1 w1 m2 w2 m3 w3 x0 x1 x2) (ix2 p l) = bproj x0 x1 x2 p n :=
  proj256_at (H := r c m1 w1 m2 w2 x0 x1) row_at m3 w3 0 _ p l n hn

theorem r_152_at (p : Fin 512) (l : Fin 256) (n : Fin 8208) (hn : n.val = 256 + l.val) : (r_152 c m1 w1 m2 w2 m3 w3 x0 x1 x2) (ix2 p l) = bproj x0 x1 x2 p n :=
  proj256_at (H := r c m1 w1 m2 w2 x0 x1) row_at m3 w3 256 _ p l n hn

theorem r_390_at (p : Fin 512) (l : Fin 256) (n : Fin 8208) (hn : n.val = 512 + l.val) : (r_390 c m1 w1 m2 w2 m3 w3 x0 x1 x2) (ix2 p l) = bproj x0 x1 x2 p n :=
  proj256_at (H := r c m1 w1 m2 w2 x0 x1) row_at m3 w3 512 _ p l n hn

theorem r_469_at (p : Fin 512) (l : Fin 256) (n : Fin 8208) (hn : n.val = 768 + l.val) : (r_469 c m1 w1 m2 w2 m3 w3 x0 x1 x2) (ix2 p l) = bproj x0 x1 x2 p n :=
  proj256_at (H := r c m1 w1 m2 w2 x0 x1) row_at m3 w3 768 _ p l n hn

theorem r_555_at (p : Fin 512) (l : Fin 256) (n : Fin 8208) (hn : n.val = 1024 + l.val) : (r_555 c m1 w1 m2 w2 m3 w3 x0 x1 x2) (ix2 p l) = bproj x0 x1 x2 p n :=
  proj256_at (H := r c m1 w1 m2 w2 x0 x1) row_at m3 w3 1024 _ p l n hn

theorem r_604_at (p : Fin 512) (l : Fin 256) (n : Fin 8208) (hn : n.val = 1280 + l.val) : (r_604 c m1 w1 m2 w2 m3 w3 x0 x1 x2) (ix2 p l) = bproj x0 x1 x2 p n :=
  proj256_at (H := r c m1 w1 m2 w2 x0 x1) row_at m3 w3 1280 _ p l n hn

theorem r_613_at (p : Fin 512) (l : Fin 256) (n : Fin 8208) (hn : n.val = 1536 + l.val) : (r_613 c m1 w1 m2 w2 m3 w3 x0 x1 x2) (ix2 p l) = bproj x0 x1 x2 p n :=
  proj256_at (H := r c m1 w1 m2 w2 x0 x1) row_at m3 w3 1536 _ p l n hn

theorem r_622_at (p : Fin 512) (l : Fin 256) (n : Fin 8208) (hn : n.val = 1792 + l.val) : (r_622 c m1 w1 m2 w2 m3 w3 x0 x1 x2) (ix2 p l) = bproj x0 x1 x2 p n :=
  proj256_at (H := r c m1 w1 m2 w2 x0 x1) row_at m3 w3 1792 _ p l n hn

theorem v_left (p l : Fin 512) : (k0_pay20 (r_4 c m1 w1 m2 w2 m3 w3 x0 x1 x2)) (ix2 p l) = bV x0 x1 x2 p ⟨l.val, by omega⟩ :=
  (kept_at _ _ _).trans (r_4_at p l _ rfl)

theorem v_right (p l : Fin 512) : (k0_pay22 (r c m1 w1 m2 w2 x0 x1) (View.readAt (Elt Ideal) m3.view (Rect.unit (s := S1024x8208) ![0, 4608] S1024x512.size inb_S1024x8208_S1024x512_0_4608).toLoadRect (w3.unread x2))) (ix2 p l) = bV x0 x1 x2 p ⟨512 + l.val, by omega⟩ :=
  (kept_at _ _ _).trans (proj512_at (H := r c m1 w1 m2 w2 x0 x1) row_at m3 w3 4608 _ p l _ (show 4096 + (512 + l.val) = 4608 + l.val by omega))

theorem r_left (p l : Fin 512) : (k0_pay25 (r_7 c m1 w1 m2 w2 m3 w3 x0 x1 x2)) (ix2 p l) = bR x0 x1 x2 p ⟨l.val, by omega⟩ :=
  (silu_at _ _ _).trans (congrArg silu (proj512_at (H := r c m1 w1 m2 w2 x0 x1) row_at m3 w3 5120 _ p l _ rfl))

theorem r_right (p l : Fin 512) : (k0_pay27 (r_5 c m1 w1 m2 w2 m3 w3 x0 x1 x2)) (ix2 p l) = bR x0 x1 x2 p ⟨512 + l.val, by omega⟩ :=
  (silu_at _ _ _).trans (congrArg silu (r_5_at p l _ (show 5120 + (512 + l.val) = 5632 + l.val by omega)))

/-- What the body reads back. -/
theorem reads (hl : IsLevels x8) (hg : ∀ p l, ∃ r : ℝ, bG x0 x1 x2 x3 x4 p l = (r : EReal)) :
    Reads c m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 x0 x1 x2 x3 x4 x5 x6 x7 x8 x9 (bQ x0 x1 x2) (bK x0 x1 x2) (bV x0 x1 x2) (bG x0 x1 x2 x3 x4) (bR x0 x1 x2) (fun a => x9 (ix2 0 a)) (fun _ _ _ => 0) where
  lev := (congrArg (fun M => IsLevels (k0_pay6 (F := Ideal) M)) (full_at m9 w9 x8 _ _ (fun a => match a with | 0 => rfl | 1 => rfl))).mpr (levels_kept x8 hl)
  real := hg
  q r0 c0 inb j l := (read_one m18.view _ r0 c0 _ inb j l).trans ((scaled_at _ _ _).trans (congrArg (· * Ideal.ofBits .f32 0x3DB504F3#32) (r_2_at _ _ _ rfl)))
  k r0 c0 inb j l := (read_one m19.view _ r0 c0 _ inb j l).trans ((kept_at _ _ _).trans (r_3_at _ _ _ rfl))
  v r0 c0 inb j l := read_two m20.view (bV x0 x1 x2) _ _ v_left v_right r0 c0 _ _ inb j l
  r r0 c0 inb j l := read_two m21.view (bR x0 x1 x2) _ _ r_left r_right r0 c0 _ _ inb j l
  g r0 c0 inb j l := (read_one m22.view _ r0 c0 _ inb j l).trans (logit_at (H := r c m1 w1 m2 w2 x0 x1) row_at m3 w3 _ m4 w4 x3 _ m5 w5 x4 _ _ _)
  ng a := congrFun (full_at m10 w10 x9 _ _ (fun a => match a with | 0 => rfl | 1 => rfl)) (ix2 0 a)
  t0 a e := (state_cov m23.view _ 0 0 rfl _ a e).trans (state_zero _ 0 a e)
  t1 a e := ((state_cov m23.view _ 1 1 rfl _ a e).trans (canon_skip 0 _ _ _ 1 (by decide) a e)).trans (state_zero _ 1 a e)
  t2 a e := (((state_cov m23.view _ 2 2 rfl _ a e).trans (canon_skip 1 _ _ _ 2 (by decide) a e)).trans (canon_skip 0 _ _ _ 2 (by decide) a e)).trans (state_zero _ 2 a e)
  t3 a e := ((((state_cov m23.view _ 3 3 rfl _ a e).trans (canon_skip 2 _ _ _ 3 (by decide) a e)).trans (canon_skip 1 _ _ _ 3 (by decide) a e)).trans (canon_skip 0 _ _ _ 3 (by decide) a e)).trans (state_zero _ 3 a e)

theorem q_tile0 (p : Fin 512) (l : Fin 256) : ((r_153 c m1 w1 m2 w2 m3 w3 m6 w6 m8 w8 x0 x1 x2 x5 x7) : FVec Ideal S512x256 .bf16) (ix2 p l) = bH x0 x1 x2 0 (by decide) x5 x7 p ⟨256 * 0 + l.val, by omega⟩ :=
  headed_at (y := (r_8 c m1 w1 m2 w2 m3 w3 x0 x1 x2)) 0 (by decide) 0 (by decide) (fun p l => r_8_at p l _ (show 0 + (256 * 0 + l.val) = 0 + l.val by omega)) m6 w6 x5 _ m8 w8 x7 _ p l

theorem q_tile1 (p : Fin 512) (l : Fin 256) : ((k0_pay504 (r_152 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))) : FVec Ideal S512x256 .bf16) (ix2 p l) = bH x0 x1 x2 0 (by decide) x5 x7 p ⟨256 * 1 + l.val, by omega⟩ :=
  headed_at (y := (r_152 c m1 w1 m2 w2 m3 w3 x0 x1 x2)) 0 (by decide) 1 (by decide) (fun p l => r_152_at p l _ (show 0 + (256 * 1 + l.val) = 256 + l.val by omega)) m6 w6 x5 _ m8 w8 x7 _ p l

theorem q_tile2 (p : Fin 512) (l : Fin 256) : ((k0_pay589 (r_470 c m6 w6 x5) (r_471 c m1 w1 m2 w2 m3 w3 m8 w8 x0 x1 x2 x7)) : FVec Ideal S512x256 .bf16) (ix2 p l) = bH x0 x1 x2 0 (by decide) x5 x7 p ⟨256 * 2 + l.val, by omega⟩ :=
  headed_at (y := (r_390 c m1 w1 m2 w2 m3 w3 x0 x1 x2)) 0 (by decide) 2 (by decide) (fun p l => r_390_at p l _ (show 0 + (256 * 2 + l.val) = 512 + l.val by omega)) m6 w6 x5 _ m8 w8 x7 _ p l

theorem q_tile3 (p : Fin 512) (l : Fin 256) : ((k0_pay680 (r_469 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))) : FVec Ideal S512x256 .bf16) (ix2 p l) = bH x0 x1 x2 0 (by decide) x5 x7 p ⟨256 * 3 + l.val, by omega⟩ :=
  headed_at (y := (r_469 c m1 w1 m2 w2 m3 w3 x0 x1 x2)) 0 (by decide) 3 (by decide) (fun p l => r_469_at p l _ (show 0 + (256 * 3 + l.val) = 768 + l.val by omega)) m6 w6 x5 _ m8 w8 x7 _ p l

theorem q_at (i : grid0.Coords) (hc0 : cond0_0 i) (hc1 : cond0_1 i) (p : Fin 512) (e : Fin 1024) :
    out0_A_10 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 p e) = bH x0 x1 x2 0 (by decide) x5 x7 p e := by
  unfold out0_A_10
  rw [View.read_writes_junk_eq_canon]
  show View.canon (Val := Elt Ideal) (s := S512x1024) (e := .bf16) [⟨Rect.unit (s := S512x1024) ![0, 768] S512x256.size inb_S512x1024_S512x256_0_768, k0_pay680 (r_469 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))⟩, ⟨Rect.unit (s := S512x1024) ![0, 512] S512x256.size inb_S512x1024_S512x256_0_512, k0_pay589 (r_470 c m6 w6 x5) (r_471 c m1 w1 m2 w2 m3 w3 m8 w8 x0 x1 x2 x7)⟩, ⟨Rect.unit (s := S512x1024) ![0, 256] S512x256.size inb_S512x1024_S512x256_0_256, k0_pay504 (r_152 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))⟩, ⟨Rect.unit (s := S512x1024) ![0, 0] S512x256.size inb_S512x1024_S512x256_0_0, r_153 c m1 w1 m2 w2 m3 w3 m6 w6 m8 w8 x0 x1 x2 x5 x7⟩] (ix2 p e) = _
  exact tiles_at (bH x0 x1 x2 0 (by decide) x5 x7) _ _ _ _ (fun p l => (q_tile0 p l).trans (congrArg _ (Fin.ext (Nat.zero_add _)))) q_tile1 q_tile2 q_tile3 _ _ _ _ p e

theorem k_tile0 (p : Fin 512) (l : Fin 256) : ((k0_pay741 (r_555 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 0 + l.val, by omega⟩ :=
  headed_at (y := (r_555 c m1 w1 m2 w2 m3 w3 x0 x1 x2)) 1024 (by decide) 0 (by decide) (fun p l => r_555_at p l _ (show 1024 + (256 * 0 + l.val) = 1024 + l.val by omega)) m7 w7 x6 _ m8 w8 x7 _ p l

theorem k_tile1 (p : Fin 512) (l : Fin 256) : ((k0_pay777 (r_604 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 1 + l.val, by omega⟩ :=
  headed_at (y := (r_604 c m1 w1 m2 w2 m3 w3 x0 x1 x2)) 1024 (by decide) 1 (by decide) (fun p l => r_604_at p l _ (show 1024 + (256 * 1 + l.val) = 1280 + l.val by omega)) m7 w7 x6 _ m8 w8 x7 _ p l

theorem k_tile2 (p : Fin 512) (l : Fin 256) : ((k0_pay795 (r_613 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 2 + l.val, by omega⟩ :=
  headed_at (y := (r_613 c m1 w1 m2 w2 m3 w3 x0 x1 x2)) 1024 (by decide) 2 (by decide) (fun p l => r_613_at p l _ (show 1024 + (256 * 2 + l.val) = 1536 + l.val by omega)) m7 w7 x6 _ m8 w8 x7 _ p l

theorem k_tile3 (p : Fin 512) (l : Fin 256) : ((k0_pay813 (r_622 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 3 + l.val, by omega⟩ :=
  headed_at (y := (r_622 c m1 w1 m2 w2 m3 w3 x0 x1 x2)) 1024 (by decide) 3 (by decide) (fun p l => r_622_at p l _ (show 1024 + (256 * 3 + l.val) = 1792 + l.val by omega)) m7 w7 x6 _ m8 w8 x7 _ p l

theorem k_at (i : grid0.Coords) (hc0 : cond0_0 i) (hc1 : cond0_1 i) (p : Fin 512) (e : Fin 1024) :
    out0_A_11 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 p e) = bH x0 x1 x2 1024 (by decide) x6 x7 p e := by
  unfold out0_A_11
  rw [View.read_writes_junk_eq_canon]
  show View.canon (Val := Elt Ideal) (s := S512x1024) (e := .bf16) [⟨Rect.unit (s := S512x1024) ![0, 768] S512x256.size inb_S512x1024_S512x256_0_768, k0_pay813 (r_622 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 512] S512x256.size inb_S512x1024_S512x256_0_512, k0_pay795 (r_613 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 256] S512x256.size inb_S512x1024_S512x256_0_256, k0_pay777 (r_604 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 0] S512x256.size inb_S512x1024_S512x256_0_0, k0_pay741 (r_555 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩] (ix2 p e) = _
  exact tiles_at (bH x0 x1 x2 1024 (by decide) x6 x7) _ _ _ _ (fun p l => (k_tile0 p l).trans (congrArg _ (Fin.ext (Nat.zero_add _)))) k_tile1 k_tile2 k_tile3 _ _ _ _ p e

theorem v_at (i : grid0.Coords) (hc0 : cond0_0 i) (hc1 : cond0_1 i) (p : Fin 512) (e : Fin 1024) :
    out0_A_12 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 p e) = bVo x0 x1 x2 p e := by
  unfold out0_A_12
  rw [View.read_writes_junk_eq_canon]
  show View.canon (Val := Elt Ideal) (s := S512x1024) (e := .bf16) [⟨Rect.unit (s := S512x1024) ![0, 512] S512x512.size inb_S512x1024_S512x512_0_512, k0_pay388 (r_9 c m1 w1 m2 w2 m3 w3 x0 x1 x2)⟩, ⟨Rect.unit (s := S512x1024) ![0, 0] S512x512.size inb_S512x1024_S512x512_0_0, k0_pay29 (r_6 c m1 w1 m2 w2 m3 w3 x0 x1 x2)⟩] (ix2 p e) = _
  exact halves_at (e := .bf16) (bVo x0 x1 x2) _ _ (fun p l => (plain_at _ _ _).trans (r_6_at p l _ rfl)) (fun p l => (plain_at _ _ _).trans (r_9_at p l _ (show 2048 + (512 + l.val) = 2560 + l.val by omega))) _ _ p e

theorem gs_at (i : grid0.Coords) (hc0 : cond0_0 i) (hc1 : cond0_1 i) (p : Fin 512) (e : Fin 1024) :
    out0_A_13 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 p e) = bgate x0 x1 (wbOf x2) p ⟨0 + e.val, by omega⟩ := by
  unfold out0_A_13
  rw [View.read_writes_junk_eq_canon]
  show View.canon (Val := Elt Ideal) (s := S512x1024) (e := .bf16) [⟨Rect.unit (s := S512x1024) ![0, 512] S512x512.size inb_S512x1024_S512x512_0_512, k0_pay635 (r_429 c m1 w1 m2 w2 m3 w3 m17 x0 x1 x2)⟩, ⟨Rect.unit (s := S512x1024) ![0, 0] S512x512.size inb_S512x1024_S512x512_0_0, k0_pay545 (r_294 c m1 w1 m2 w2 m3 w3 m17 x0 x1 x2)⟩] (ix2 p e) = _
  exact halves_at (e := .bf16) (fun p e => bgate x0 x1 (wbOf x2) p ⟨0 + e.val, by omega⟩) _ _ (fun p l => (merged_at (H := r c m1 w1 m2 w2 x0 x1) row_at _ (wbOf x2) p l ⟨0 + l.val, by omega⟩ (fun k => (kept_cols m17.view _ 0 _ _ k l (by omega)).trans (last_cols m3 w3 _ k _))).trans (congrArg _ (Fin.ext (show 0 + l.val = 0 + (l.val) by omega)))) (fun p l => (merged_at (H := r c m1 w1 m2 w2 x0 x1) row_at _ (wbOf x2) p l ⟨512 + l.val, by omega⟩ (fun k => (kept_cols m17.view _ 512 _ _ k l (by omega)).trans (last_cols m3 w3 _ k _))).trans (congrArg _ (Fin.ext (show 512 + l.val = 0 + (512 + l.val) by omega)))) _ _ p e

theorem gg_at (i : grid0.Coords) (hc0 : cond0_0 i) (hc1 : cond0_1 i) (p : Fin 512) (e : Fin 1024) :
    out0_A_14 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 p e) = bgate x0 x1 (wbOf x2) p ⟨1024 + e.val, by omega⟩ := by
  unfold out0_A_14
  rw [View.read_writes_junk_eq_canon]
  show View.canon (Val := Elt Ideal) (s := S512x1024) (e := .bf16) [⟨Rect.unit (s := S512x1024) ![0, 512] S512x512.size inb_S512x1024_S512x512_0_512, k0_pay759 (r_594 c m1 w1 m2 w2 m3 w3 m17 x0 x1 x2)⟩, ⟨Rect.unit (s := S512x1024) ![0, 0] S512x512.size inb_S512x1024_S512x512_0_0, k0_pay722 (r_513 c m1 w1 m2 w2 m3 w3 m17 x0 x1 x2)⟩] (ix2 p e) = _
  exact halves_at (e := .bf16) (fun p e => bgate x0 x1 (wbOf x2) p ⟨1024 + e.val, by omega⟩) _ _ (fun p l => (merged_at (H := r c m1 w1 m2 w2 x0 x1) row_at _ (wbOf x2) p l ⟨1024 + l.val, by omega⟩ (fun k => (kept_cols m17.view _ 1024 _ _ k l (by omega)).trans (last_cols m3 w3 _ k _))).trans (congrArg _ (Fin.ext (show 1024 + l.val = 1024 + (l.val) by omega)))) (fun p l => (merged_at (H := r c m1 w1 m2 w2 x0 x1) row_at _ (wbOf x2) p l ⟨1536 + l.val, by omega⟩ (fun k => (kept_cols m17.view _ 1536 _ _ k l (by omega)).trans (last_cols m3 w3 _ k _))).trans (congrArg _ (Fin.ext (show 1536 + l.val = 1024 + (512 + l.val) by omega)))) _ _ p e

/-- The kept copy of the last columns. -/
theorem keep_at (i : grid0.Coords) (hc0 : cond0_0 i) (hc1 : cond0_1 i) (k : Fin 1024) (n : Fin 2048) :
    sout0_A_0 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 (ix2 k n) = wbOf x2 (ix2 k n) := by
  unfold sout0_A_0
  rw [View.read_writes_junk_eq_canon]
  refine (canon_in (e := .bf16) (s := S1024x2048) ![0, 0] S1024x2048.size inb_S1024x2048_S1024x2048_0_0 _ [] (ix2 k n) _ fun a => ?_).trans (last_cols m3 w3 _ k n)
  match a with
  | 0 => exact (Nat.zero_add _).symm
  | 1 => exact (Nat.zero_add _).symm

end Cert.Gla.CaseA
-- ==== Proof.GlaCaseB.lean ====
/- The kernel's body in case B: the state and the gated output of each chunk of each head, from the arrays that the body
   keeps in its scratch buffers. -/
module

public import proofs.«01_k».proof.Proof.GlaChunk
public import proofs.«01_k».proof.Proof.GlaPieces
public import proofs.«01_k».proof.Proof.Gen.KernelGlaIdeal.Frame

@[expose] public section

set_option maxRecDepth 16384

noncomputable section

namespace Cert.Gla.CaseB

open Cert.KernelGlaIdeal Cert.KernelGlaIdeal.Gen Cert.KernelGlaIdeal.Gen.kernelRun0_B.sl
open Idealize.ShloMosaic Idealize.ShloMosaic.TcCoe Idealize.SL.Sem

variable {c : Dev nD} {i : grid0.Coords} {m1 : Memref sig .tc .vmem S512x1024 .f32} {w1 : m1.IsWhole} {m2 : Memref sig .tc .vmem S1x1024 .f32} {w2 : m2.IsWhole} {m3 : Memref sig .tc .vmem S1024x8208 .bf16} {w3 : m3.IsWhole} {m4 : Memref sig .tc .vmem S128x512 .bf16} {w4 : m4.IsWhole} {m5 : Memref sig .tc .vmem S1x512 .f32} {w5 : m5.IsWhole} {m6 : Memref sig .tc .vmem S1x256 .f32} {w6 : m6.IsWhole} {m7 : Memref sig .tc .vmem S1x256 .f32} {w7 : m7.IsWhole} {m8 : Memref sig .tc .vmem S256x256 .bf16} {w8 : m8.IsWhole} {m9 : Memref sig .tc .vmem S256x128 .bf16} {w9 : m9.IsWhole} {m10 : Memref sig .tc .vmem S1x256 .f32} {w10 : m10.IsWhole} {m11 : Memref sig .tc .vmem S512x1024 .bf16} {w11 : m11.IsWhole} {m12 : Memref sig .tc .vmem S512x1024 .bf16} {w12 : m12.IsWhole} {m13 : Memref sig .tc .vmem S512x1024 .bf16} {w13 : m13.IsWhole} {m14 : Memref sig .tc .vmem S512x1024 .bf16} {w14 : m14.IsWhole} {m15 : Memref sig .tc .vmem S512x1024 .bf16} {w15 : m15.IsWhole} {m16 : Memref sig .tc .vmem S512x1024 .bf16} {w16 : m16.IsWhole} {m17 : Memref sig .tc .vmem S1024x2048 .bf16} {w17 : m17.IsWhole} {m18 : Memref sig .tc .vmem S512x512 .bf16} {w18 : m18.IsWhole} {m19 : Memref sig .tc .vmem S512x512 .bf16} {w19 : m19.IsWhole} {m20 : Memref sig .tc .vmem S512x1024 .bf16} {w20 : m20.IsWhole} {m21 : Memref sig .tc .vmem S512x1024 .bf16} {w21 : m21.IsWhole} {m22 : Memref sig .tc .vmem S512x512 .f32} {w22 : m22.IsWhole} {m23 : Memref sig .tc .vmem S4x128x256 .f32} {w23 : m23.IsWhole} {x0 : Vec Ideal S512x1024 .f32} {x1 : Vec Ideal S1x1024 .f32} {x2 : Vec Ideal S1024x8208 .bf16} {x3 : Vec Ideal S128x512 .bf16} {x4 : Vec Ideal S1x512 .f32} {x5 : Vec Ideal S1x256 .f32} {x6 : Vec Ideal S1x256 .f32} {x7 : Vec Ideal S256x256 .bf16} {x8 : Vec Ideal S256x128 .bf16} {x9 : Vec Ideal S1x256 .f32} {xs0 : Vec Ideal S1024x2048 .bf16} {xs6 : Vec Ideal S4x128x256 .f32}
  {Q K : Fin 512 → Fin 512 → EReal} {V : Fin 512 → Fin 1024 → EReal} {G : Fin 512 → Fin 512 → EReal} {R : Fin 512 → Fin 1024 → EReal}
  {NG : Fin 256 → EReal} {T : Fin 4 → Fin 128 → Fin 256 → EReal}

/-- What the arrays kept by the body, the level matrix, the norm's scale and the states found read. -/
structure Reads (c : Dev nD) (m1 : Memref sig .tc .vmem S512x1024 .f32) (w1 : m1.IsWhole) (m2 : Memref sig .tc .vmem S1x1024 .f32) (w2 : m2.IsWhole) (m3 : Memref sig .tc .vmem S1024x8208 .bf16) (w3 : m3.IsWhole) (m4 : Memref sig .tc .vmem S128x512 .bf16) (w4 : m4.IsWhole) (m5 : Memref sig .tc .vmem S1x512 .f32) (w5 : m5.IsWhole) (m6 : Memref sig .tc .vmem S1x256 .f32) (w6 : m6.IsWhole) (m7 : Memref sig .tc .vmem S1x256 .f32) (w7 : m7.IsWhole) (m8 : Memref sig .tc .vmem S256x256 .bf16) (w8 : m8.IsWhole) (m9 : Memref sig .tc .vmem S256x128 .bf16) (w9 : m9.IsWhole) (m10 : Memref sig .tc .vmem S1x256 .f32) (w10 : m10.IsWhole) (m11 : Memref sig .tc .vmem S512x1024 .bf16) (w11 : m11.IsWhole) (m12 : Memref sig .tc .vmem S512x1024 .bf16) (w12 : m12.IsWhole) (m13 : Memref sig .tc .vmem S512x1024 .bf16) (w13 : m13.IsWhole) (m14 : Memref sig .tc .vmem S512x1024 .bf16) (w14 : m14.IsWhole) (m15 : Memref sig .tc .vmem S512x1024 .bf16) (w15 : m15.IsWhole) (m16 : Memref sig .tc .vmem S512x1024 .bf16) (w16 : m16.IsWhole) (m17 : Memref sig .tc .vmem S1024x2048 .bf16) (w17 : m17.IsWhole) (m18 : Memref sig .tc .vmem S512x512 .bf16) (w18 : m18.IsWhole) (m19 : Memref sig .tc .vmem S512x512 .bf16) (w19 : m19.IsWhole) (m20 : Memref sig .tc .vmem S512x1024 .bf16) (w20 : m20.IsWhole) (m21 : Memref sig .tc .vmem S512x1024 .bf16) (w21 : m21.IsWhole) (m22 : Memref sig .tc .vmem S512x512 .f32) (w22 : m22.IsWhole) (m23 : Memref sig .tc .vmem S4x128x256 .f32) (w23 : m23.IsWhole) (x0 : Vec Ideal S512x1024 .f32) (x1 : Vec Ideal S1x1024 .f32) (x2 : Vec Ideal S1024x8208 .bf16) (x3 : Vec Ideal S128x512 .bf16) (x4 : Vec Ideal S1x512 .f32) (x5 : Vec Ideal S1x256 .f32) (x6 : Vec Ideal S1x256 .f32) (x7 : Vec Ideal S256x256 .bf16) (x8 : Vec Ideal S256x128 .bf16) (x9 : Vec Ideal S1x256 .f32) (xs0 : Vec Ideal S1024x2048 .bf16) (xs6 : Vec Ideal S4x128x256 .f32)
    (Q K : Fin 512 → Fin 512 → EReal) (V : Fin 512 → Fin 1024 → EReal) (G : Fin 512 → Fin 512 → EReal) (R : Fin 512 → Fin 1024 → EReal)
    (NG : Fin 256 → EReal) (T : Fin 4 → Fin 128 → Fin 256 → EReal) : Prop where
  lev : IsLevels (r_1 c m9 w9 x8)
  real : ∀ p l, ∃ r : ℝ, G p l = (r : EReal)
  q : ∀ (r0 c0 : ℕ) (inb) (j : Fin 64) (l : Fin 128), (m18.view.readCov (HS1_1 c m1 w1 m2 w2 m3 w3 x0 x1 x2) (Rect.unit (s := S512x512) ![r0, c0] S64x128.size inb).toLoadRect : FVec Ideal S64x128 .bf16) (ix2 j l) = Q (Fin.ofNat 512 (r0 + j.val)) (Fin.ofNat 512 (c0 + l.val))
  k : ∀ (r0 c0 : ℕ) (inb) (j : Fin 64) (l : Fin 128), (m19.view.readCov (HS2_1 c m1 w1 m2 w2 m3 w3 x0 x1 x2) (Rect.unit (s := S512x512) ![r0, c0] S64x128.size inb).toLoadRect : FVec Ideal S64x128 .bf16) (ix2 j l) = K (Fin.ofNat 512 (r0 + j.val)) (Fin.ofNat 512 (c0 + l.val))
  v : ∀ (r0 c0 : ℕ) (inb) (j : Fin 64) (l : Fin 256), (m20.view.readCov (HS3_2 c m1 w1 m2 w2 m3 w3 x0 x1 x2) (Rect.unit (s := S512x1024) ![r0, c0] S64x256.size inb).toLoadRect : FVec Ideal S64x256 .bf16) (ix2 j l) = V (Fin.ofNat 512 (r0 + j.val)) (Fin.ofNat 1024 (c0 + l.val))
  r : ∀ (r0 c0 : ℕ) (inb) (j : Fin 64) (l : Fin 256), (m21.view.readCov (HS4_2 c m1 w1 m2 w2 m3 w3 x0 x1 x2) (Rect.unit (s := S512x1024) ![r0, c0] S64x256.size inb).toLoadRect : FVec Ideal S64x256 .bf16) (ix2 j l) = R (Fin.ofNat 512 (r0 + j.val)) (Fin.ofNat 1024 (c0 + l.val))
  g : ∀ (r0 c0 : ℕ) (inb) (j : Fin 64) (l : Fin 128), (m22.view.readCov (HS5_1 c m1 w1 m2 w2 m3 w3 m4 w4 m5 w5 x0 x1 x2 x3 x4) (Rect.unit (s := S512x512) ![r0, c0] S64x128.size inb).toLoadRect : FVec Ideal S64x128 .f32) (ix2 j l) = G (Fin.ofNat 512 (r0 + j.val)) (Fin.ofNat 512 (c0 + l.val))
  ng : ∀ a, (View.readAt (Elt Ideal) m10.view (Rect.unit ![0, 0] S1x256.size inb_S1x256_S1x256_0_0).toLoadRect (w10.unread x9) : FVec Ideal S1x256 .f32) (ix2 0 a) = NG a
  t0 : ∀ a e, ((View.readAt (Elt Ideal) m23.view (Rect.unit (s := S4x128x256) ![0, 0, 0] S1x128x256.size inb_S4x128x256_S1x128x256_0_0_0).toLoadRect (w23.unread xs6)) : FVec Ideal S1x128x256 .f32) (ix3 0 a e) = T 0 a e
  t1 : ∀ a e, ((v4192 c m23 w23 xs6) : FVec Ideal S1x128x256 .f32) (ix3 0 a e) = T 1 a e
  t2 : ∀ a e, ((v4395 c m23 w23 xs6) : FVec Ideal S1x128x256 .f32) (ix3 0 a e) = T 2 a e
  t3 : ∀ a e, ((v4625 c m23 w23 xs6) : FVec Ideal S1x128x256 .f32) (ix3 0 a e) = T 3 a e

variable (L : Reads c m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 x0 x1 x2 x3 x4 x5 x6 x7 x8 x9 xs0 xs6 Q K V G R NG T)
include L

theorem st_0_0 (a : Fin 128) (e : Fin 256) : (shapeCast S128x256 (View.readAt (Elt Ideal) m23.view (Rect.unit (s := S4x128x256) ![0, 0, 0] S1x128x256.size inb_S4x128x256_S1x128x256_0_0_0).toLoadRect (w23.unread xs6)) shapeCasts_S1x128x256_S128x256 : FVec Ideal S128x256 .f32) (ix2 a e) = stF K V G (T 0) 0 0 a e :=
  (stateCast_at _ a e).trans (L.t0 a e)

theorem og_0_0 (j : Fin 64) (e : Fin 256) : ((r_596 c m1 w1 m2 w2 m3 w3 m4 w4 m5 w5 m9 w9 m10 w10 m18 m19 m20 m21 m22 m23 w23 x0 x1 x2 x3 x4 x8 x9 xs6) : FVec Ideal S64x256 .bf16) (ix2 j e)
    = ogF Q K V G NG R (T 0) 0 0 j e :=
  ogC_at (argOk_left (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 0) (128 * 0)) (fun a l => L.g 0 0 _ a l) (fun _ _ => L.real _ _))
    (v2246 c m1 w1 m2 w2 m3 w3 m18 x0 x1 x2) (v2247 c m1 w1 m2 w2 m3 w3 m19 x0 x1 x2) (v2248 c m1 w1 m2 w2 m3 w3 m20 x0 x1 x2) (shapeCast S128x256 (View.readAt (Elt Ideal) m23.view (Rect.unit (s := S4x128x256) ![0, 0, 0] S1x128x256.size inb_S4x128x256_S1x128x256_0_0_0).toLoadRect (w23.unread xs6)) shapeCasts_S1x128x256_S128x256 : FVec Ideal S128x256 .f32) _ (v3998 c m1 w1 m2 w2 m3 w3 m21 x0 x1 x2)
    (tl Q (64 * 0) (128 * 0)) (tl K (64 * 0) (128 * 0)) (tl V (64 * 0) (256 * 0)) (stF K V G (T 0) 0 0) (fun a l => L.q 0 0 _ a l) (fun a l => L.k 0 0 _ a l) (fun a l => L.v 0 0 _ a l) (st_0_0 L) NG L.ng (tl R (64 * 0) (256 * 0)) (fun a l => L.r 0 0 _ a l) j e

theorem st_0_1 (a : Fin 128) (e : Fin 256) : (r_595 c m1 w1 m2 w2 m3 w3 m4 w4 m5 w5 m9 w9 m19 m20 m22 m23 w23 x0 x1 x2 x3 x4 x8 xs6) (ix2 a e) = stF K V G (T 0) 0 1 a e :=
  stC_at (argOk_left (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 0) (128 * 0)) (fun a l => L.g 0 0 _ a l) (fun _ _ => L.real _ _))
    (v2247 c m1 w1 m2 w2 m3 w3 m19 x0 x1 x2) (v2248 c m1 w1 m2 w2 m3 w3 m20 x0 x1 x2) (shapeCast S128x256 (View.readAt (Elt Ideal) m23.view (Rect.unit (s := S4x128x256) ![0, 0, 0] S1x128x256.size inb_S4x128x256_S1x128x256_0_0_0).toLoadRect (w23.unread xs6)) shapeCasts_S1x128x256_S128x256 : FVec Ideal S128x256 .f32)
    (tl K (64 * 0) (128 * 0)) (tl V (64 * 0) (256 * 0)) (stF K V G (T 0) 0 0) (fun a l => L.k 0 0 _ a l) (fun a l => L.v 0 0 _ a l) (st_0_0 L) a e

theorem og_0_1 (j : Fin 64) (e : Fin 256) : ((k0_pay727 (r_386 c m1 w1 m2 w2 m3 w3 m4 w4 m5 w5 m9 w9 m18 m19 m20 m22 x0 x1 x2 x3 x4 x8) (r_387 c m1 w1 m2 w2 m3 w3 m4 w4 m5 w5 m9 w9 m18 m22 x0 x1 x2 x3 x4 x8) (r_595 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4022 c m1 w1 m2 w2 m3 w3 m21 x0 x1 x2)) : FVec Ideal S64x256 .bf16) (ix2 j e)
    = ogF Q K V G NG R (T 0) 0 1 j e :=
  ogC_at (argOk_right (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 1) (128 * 0)) (fun a l => L.g 64 0 _ a l) (fun _ _ => L.real _ _))
    (v2298 c m1 w1 m2 w2 m3 w3 m18 x0 x1 x2) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 w23 x0 x1 x2 x3 x4 x8 xs6) _ (v4022 c m1 w1 m2 w2 m3 w3 m21 x0 x1 x2)
    (tl Q (64 * 1) (128 * 0)) (tl K (64 * 1) (128 * 0)) (tl V (64 * 1) (256 * 0)) (stF K V G (T 0) 0 1) (fun a l => L.q 64 0 _ a l) (fun a l => L.k 64 0 _ a l) (fun a l => L.v 64 0 _ a l) (st_0_1 L) NG L.ng (tl R (64 * 1) (256 * 0)) (fun a l => L.r 64 0 _ a l) j e

theorem st_0_2 (a : Fin 128) (e : Fin 256) : (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 w23 x0 x1 x2 x3 x4 x8 xs6)) (ix2 a e) = stF K V G (T 0) 0 2 a e :=
  stC_at (argOk_right (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 1) (128 * 0)) (fun a l => L.g 64 0 _ a l) (fun _ _ => L.real _ _))
    (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 w23 x0 x1 x2 x3 x4 x8 xs6)
    (tl K (64 * 1) (128 * 0)) (tl V (64 * 1) (256 * 0)) (stF K V G (T 0) 0 1) (fun a l => L.k 64 0 _ a l) (fun a l => L.v 64 0 _ a l) (st_0_1 L) a e

theorem og_0_2 (j : Fin 64) (e : Fin 256) : ((k0_pay730 (r_598 c m1 w1 m2 w2 m3 w3 m4 w4 m5 w5 m9 w9 m18 m19 m20 m22 m23 w23 x0 x1 x2 x3 x4 x8 xs6) (r_599 c m10 w10 x9) (v4046 c m1 w1 m2 w2 m3 w3 m21 x0 x1 x2)) : FVec Ideal S64x256 .bf16) (ix2 j e)
    = ogF Q K V G NG R (T 0) 0 2 j e :=
  ogC_at (argOk_left (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 2) (128 * 0)) (fun a l => L.g 128 0 _ a l) (fun _ _ => L.real _ _))
    (v2368 c m1 w1 m2 w2 m3 w3 m18 x0 x1 x2) (v2369 c m1 w1 m2 w2 m3 w3 m19 x0 x1 x2) (v2370 c m1 w1 m2 w2 m3 w3 m20 x0 x1 x2) (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 w23 x0 x1 x2 x3 x4 x8 xs6)) _ (v4046 c m1 w1 m2 w2 m3 w3 m21 x0 x1 x2)
    (tl Q (64 * 2) (128 * 0)) (tl K (64 * 2) (128 * 0)) (tl V (64 * 2) (256 * 0)) (stF K V G (T 0) 0 2) (fun a l => L.q 128 0 _ a l) (fun a l => L.k 128 0 _ a l) (fun a l => L.v 128 0 _ a l) (st_0_2 L) NG L.ng (tl R (64 * 2) (256 * 0)) (fun a l => L.r 128 0 _ a l) j e

theorem st_0_3 (a : Fin 128) (e : Fin 256) : (r_597 c m1 w1 m2 w2 m3 w3 m4 w4 m5 w5 m9 w9 m19 m20 m22 m23 w23 x0 x1 x2 x3 x4 x8 xs6) (ix2 a e) = stF K V G (T 0) 0 3 a e :=
  stC_at (argOk_left (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 2) (128 * 0)) (fun a l => L.g 128 0 _ a l) (fun _ _ => L.real _ _))
    (v2369 c m1 w1 m2 w2 m3 w3 m19 x0 x1 x2) (v2370 c m1 w1 m2 w2 m3 w3 m20 x0 x1 x2) (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 w23 x0 x1 x2 x3 x4 x8 xs6))
    (tl K (64 * 2) (128 * 0)) (tl V (64 * 2) (256 * 0)) (stF K V G (T 0) 0 2) (fun a l => L.k 128 0 _ a l) (fun a l => L.v 128 0 _ a l) (st_0_2 L) a e

theorem og_0_3 (j : Fin 64) (e : Fin 256) : ((k0_pay732 (r_397 c m1 w1 m2 w2 m3 w3 m4 w4 m5 w5 m9 w9 m18 m19 m20 m22 x0 x1 x2 x3 x4 x8) (r_398 c m1 w1 m2 w2 m3 w3 m4 w4 m5 w5 m9 w9 m18 m22 x0 x1 x2 x3 x4 x8) (r_597 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4070 c m1 w1 m2 w2 m3 w3 m21 x0 x1 x2)) : FVec Ideal S64x256 .bf16) (ix2 j e)
    = ogF Q K V G NG R (T 0) 0 3 j e :=
  ogC_at (argOk_right (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 3) (128 * 0)) (fun a l => L.g 192 0 _ a l) (fun _ _ => L.real _ _))
    (v2420 c m1 w1 m2 w2 m3 w3 m18 x0 x1 x2) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 w23 x0 x1 x2 x3 x4 x8 xs6) _ (v4070 c m1 w1 m2 w2 m3 w3 m21 x0 x1 x2)
    (tl Q (64 * 3) (128 * 0)) (tl K (64 * 3) (128 * 0)) (tl V (64 * 3) (256 * 0)) (stF K V G (T 0) 0 3) (fun a l => L.q 192 0 _ a l) (fun a l => L.k 192 0 _ a l) (fun a l => L.v 192 0 _ a l) (st_0_3 L) NG L.ng (tl R (64 * 3) (256 * 0)) (fun a l => L.r 192 0 _ a l) j e

theorem st_0_4 (a : Fin 128) (e : Fin 256) : (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 w23 x0 x1 x2 x3 x4 x8 xs6)) (ix2 a e) = stF K V G (T 0) 0 4 a e :=
  stC_at (argOk_right (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 3) (128 * 0)) (fun a l => L.g 192 0 _ a l) (fun _ _ => L.real _ _))
    (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 w23 x0 x1 x2 x3 x4 x8 xs6)
    (tl K (64 * 3) (128 * 0)) (tl V (64 * 3) (256 * 0)) (stF K V G (T 0) 0 3) (fun a l => L.k 192 0 _ a l) (fun a l => L.v 192 0 _ a l) (st_0_3 L) a e

theorem og_0_4 (j : Fin 64) (e : Fin 256) : ((k0_pay737 (r_600 c m1 w1 m2 w2 m3 w3 m4 w4 m5 w5 m9 w9 m18 m19 m20 m22 m23 w23 x0 x1 x2 x3 x4 x8 xs6) (r_602 c m1 w1 m2 w2 m3 w3 m4 w4 m5 w5 m9 w9 m18 m19 m20 m22 m23 w23 x0 x1 x2 x3 x4 x8 xs6) k0_pay736 (View.readAt (Elt Ideal) m10.view (Rect.unit ![0, 0] S1x256.size inb_S1x256_S1x256_0_0).toLoadRect (w10.unread x9)) (v4094 c m1 w1 m2 w2 m3 w3 m21 x0 x1 x2)) : FVec Ideal S64x256 .bf16) (ix2 j e)
    = ogF Q K V G NG R (T 0) 0 4 j e :=
  ogC_at (argOk_left (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 4) (128 * 0)) (fun a l => L.g 256 0 _ a l) (fun _ _ => L.real _ _))
    (v2472 c m1 w1 m2 w2 m3 w3 m18 x0 x1 x2) (v2473 c m1 w1 m2 w2 m3 w3 m19 x0 x1 x2) (v2474 c m1 w1 m2 w2 m3 w3 m20 x0 x1 x2) (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 w23 x0 x1 x2 x3 x4 x8 xs6)) _ (v4094 c m1 w1 m2 w2 m3 w3 m21 x0 x1 x2)
    (tl Q (64 * 4) (128 * 0)) (tl K (64 * 4) (128 * 0)) (tl V (64 * 4) (256 * 0)) (stF K V G (T 0) 0 4) (fun a l => L.q 256 0 _ a l) (fun a l => L.k 256 0 _ a l) (fun a l => L.v 256 0 _ a l) (st_0_4 L) NG L.ng (tl R (64 * 4) (256 * 0)) (fun a l => L.r 256 0 _ a l) j e

theorem st_0_5 (a : Fin 128) (e : Fin 256) : (r_601 c m1 w1 m2 w2 m3 w3 m4 w4 m5 w5 m9 w9 m19 m20 m22 m23 w23 x0 x1 x2 x3 x4 x8 xs6) (ix2 a e) = stF K V G (T 0) 0 5 a e :=
  stC_at (argOk_left (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 4) (128 * 0)) (fun a l => L.g 256 0 _ a l) (fun _ _ => L.real _ _))
    (v2473 c m1 w1 m2 w2 m3 w3 m19 x0 x1 x2) (v2474 c m1 w1 m2 w2 m3 w3 m20 x0 x1 x2) (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 w23 x0 x1 x2 x3 x4 x8 xs6))
    (tl K (64 * 4) (128 * 0)) (tl V (64 * 4) (256 * 0)) (stF K V G (T 0) 0 4) (fun a l => L.k 256 0 _ a l) (fun a l => L.v 256 0 _ a l) (st_0_4 L) a e

theorem og_0_5 (j : Fin 64) (e : Fin 256) : ((k0_pay739 (r_410 c m1 w1 m2 w2 m3 w3 m4 w4 m5 w5 m9 w9 m18 m19 m20 m22 x0 x1 x2 x3 x4 x8) (r_411 c m1 w1 m2 w2 m3 w3 m4 w4 m5 w5 m9 w9 m18 m22 x0 x1 x2 x3 x4 x8) (r_601 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4118 c m1 w1 m2 w2 m3 w3 m21 x0 x1 x2)) : FVec Ideal S64x256 .bf16) (ix2 j e)
    = ogF Q K V G NG R (T 0) 0 5 j e :=
  ogC_at (argOk_right (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 5) (128 * 0)) (fun a l => L.g 320 0 _ a l) (fun _ _ => L.real _ _))
    (v2524 c m1 w1 m2 w2 m3 w3 m18 x0 x1 x2) (v2525 c m1 w1 m2 w2 m3 w3 m19 x0 x1 x2) (v2526 c m1 w1 m2 w2 m3 w3 m20 x0 x1 x2) (r_601 c m1 w1 m2 w2 m3 w3 m4 w4 m5 w5 m9 w9 m19 m20 m22 m23 w23 x0 x1 x2 x3 x4 x8 xs6) _ (v4118 c m1 w1 m2 w2 m3 w3 m21 x0 x1 x2)
    (tl Q (64 * 5) (128 * 0)) (tl K (64 * 5) (128 * 0)) (tl V (64 * 5) (256 * 0)) (stF K V G (T 0) 0 5) (fun a l => L.q 320 0 _ a l) (fun a l => L.k 320 0 _ a l) (fun a l => L.v 320 0 _ a l) (st_0_5 L) NG L.ng (tl R (64 * 5) (256 * 0)) (fun a l => L.r 320 0 _ a l) j e

theorem st_0_6 (a : Fin 128) (e : Fin 256) : (r_603 c m1 w1 m2 w2 m3 w3 m4 w4 m5 w5 m9 w9 m19 m20 m22 m23 w23 x0 x1 x2 x3 x4 x8 xs6) (ix2 a e) = stF K V G (T 0) 0 6 a e :=
  stC_at (argOk_right (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 5) (128 * 0)) (fun a l => L.g 320 0 _ a l) (fun _ _ => L.real _ _))
    (v2525 c m1 w1 m2 w2 m3 w3 m19 x0 x1 x2) (v2526 c m1 w1 m2 w2 m3 w3 m20 x0 x1 x2) (r_601 c m1 w1 m2 w2 m3 w3 m4 w4 m5 w5 m9 w9 m19 m20 m22 m23 w23 x0 x1 x2 x3 x4 x8 xs6)
    (tl K (64 * 5) (128 * 0)) (tl V (64 * 5) (256 * 0)) (stF K V G (T 0) 0 5) (fun a l => L.k 320 0 _ a l) (fun a l => L.v 320 0 _ a l) (st_0_5 L) a e

theorem og_0_6 (j : Fin 64) (e : Fin 256) : ((r_606 c m1 w1 m2 w2 m3 w3 m4 w4 m5 w5 m9 w9 m10 w10 m18 m19 m20 m21 m22 m23 w23 x0 x1 x2 x3 x4 x8 x9 xs6) : FVec Ideal S64x256 .bf16) (ix2 j e)
    = ogF Q K V G NG R (T 0) 0 6 j e :=
  ogC_at (argOk_left (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 6) (128 * 0)) (fun a l => L.g 384 0 _ a l) (fun _ _ => L.real _ _))
    (v2576 c m1 w1 m2 w2 m3 w3 m18 x0 x1 x2) (v2577 c m1 w1 m2 w2 m3 w3 m19 x0 x1 x2) (v2578 c m1 w1 m2 w2 m3 w3 m20 x0 x1 x2) (r_603 c m1 w1 m2 w2 m3 w3 m4 w4 m5 w5 m9 w9 m19 m20 m22 m23 w23 x0 x1 x2 x3 x4 x8 xs6) _ (v4160 c m1 w1 m2 w2 m3 w3 m21 x0 x1 x2)
    (tl Q (64 * 6) (128 * 0)) (tl K (64 * 6) (128 * 0)) (tl V (64 * 6) (256 * 0)) (stF K V G (T 0) 0 6) (fun a l => L.q 384 0 _ a l) (fun a l => L.k 384 0 _ a l) (fun a l => L.v 384 0 _ a l) (st_0_6 L) NG L.ng (tl R (64 * 6) (256 * 0)) (fun a l => L.r 384 0 _ a l) j e

theorem st_0_7 (a : Fin 128) (e : Fin 256) : (r_605 c m1 w1 m2 w2 m3 w3 m4 w4 m5 w5 m9 w9 m19 m20 m22 m23 w23 x0 x1 x2 x3 x4 x8 xs6) (ix2 a e) = stF K V G (T 0) 0 7 a e :=
  stC_at (argOk_left (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 6) (128 * 0)) (fun a l => L.g 384 0 _ a l) (fun _ _ => L.real _ _))
    (v2577 c m1 w1 m2 w2 m3 w3 m19 x0 x1 x2) (v2578 c m1 w1 m2 w2 m3 w3 m20 x0 x1 x2) (r_603 c m1 w1 m2 w2 m3 w3 m4 w4 m5 w5 m9 w9 m19 m20 m22 m23 w23 x0 x1 x2 x3 x4 x8 xs6)
    (tl K (64 * 6) (128 * 0)) (tl V (64 * 6) (256 * 0)) (stF K V G (T 0) 0 6) (fun a l => L.k 384 0 _ a l) (fun a l => L.v 384 0 _ a l) (st_0_6 L) a e

theorem og_0_7 (j : Fin 64) (e : Fin 256) : ((k0_pay744 (r_425 c m1 w1 m2 w2 m3 w3 m4 w4 m5 w5 m9 w9 m18 m19 m20 m22 x0 x1 x2 x3 x4 x8) (r_426 c m1 w1 m2 w2 m3 w3 m4 w4 m5 w5 m9 w9 m18 m22 x0 x1 x2 x3 x4 x8) (r_605 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4184 c m1 w1 m2 w2 m3 w3 m21 x0 x1 x2)) : FVec Ideal S64x256 .bf16) (ix2 j e)
    = ogF Q K V G NG R (T 0) 0 7 j e :=
  ogC_at (argOk_right (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 7) (128 * 0)) (fun a l => L.g 448 0 _ a l) (fun _ _ => L.real _ _))
    (v2628 c m1 w1 m2 w2 m3 w3 m18 x0 x1 x2) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 w23 x0 x1 x2 x3 x4 x8 xs6) _ (v4184 c m1 w1 m2 w2 m3 w3 m21 x0 x1 x2)
    (tl Q (64 * 7) (128 * 0)) (tl K (64 * 7) (128 * 0)) (tl V (64 * 7) (256 * 0)) (stF K V G (T 0) 0 7) (fun a l => L.q 448 0 _ a l) (fun a l => L.k 448 0 _ a l) (fun a l => L.v 448 0 _ a l) (st_0_7 L) NG L.ng (tl R (64 * 7) (256 * 0)) (fun a l => L.r 448 0 _ a l) j e

theorem st_0_8 (a : Fin 128) (e : Fin 256) : (stC (argC (half1 (pairC (r_1 c m9 w9 x8) (v584 c m1 w1 m2 w2 m3 w3 m4 w4 m5 w5 m22 x0 x1 x2 x3 x4) (v590 c m1 w1 m2 w2 m3 w3 m4 w4 m5 w5 m22 x0 x1 x2 x3 x4)))) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 w23 x0 x1 x2 x3 x4 x8 xs6)) (ix2 a e) = stF K V G (T 0) 0 8 a e :=
  stC_at (argOk_right (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 7) (128 * 0)) (fun a l => L.g 448 0 _ a l) (fun _ _ => L.real _ _))
    (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 w23 x0 x1 x2 x3 x4 x8 xs6)
    (tl K (64 * 7) (128 * 0)) (tl V (64 * 7) (256 * 0)) (stF K V G (T 0) 0 7) (fun a l => L.k 448 0 _ a l) (fun a l => L.v 448 0 _ a l) (st_0_7 L) a e

theorem st_1_0 (a : Fin 128) (e : Fin 256) : (shapeCast S128x256 (v4192 c m23 w23 xs6) shapeCasts_S1x128x256_S128x256 : FVec Ideal S128x256 .f32) (ix2 a e) = stF K V G (T 1) 1 0 a e :=
  (stateCast_at _ a e).trans (L.t1 a e)

theorem og_1_0 (j : Fin 64) (e : Fin 256) : ((k0_pay750 (r_607 c m1 w1 m2 w2 m3 w3 m4 w4 m5 w5 m9 w9 m18 m19 m20 m22 m23 w23 x0 x1 x2 x3 x4 x8 xs6) (r_609 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4213 c m1 w1 m2 w2 m3 w3 m21 x0 x1 x2)) : FVec Ideal S64x256 .bf16) (ix2 j e)
    = ogF Q K V G NG R (T 1) 1 0 j e :=
  ogC_at (argOk_left (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 0) (128 * 1)) (fun a l => L.g 0 128 _ a l) (fun _ _ => L.real _ _))
    (v2685 c m1 w1 m2 w2 m3 w3 m18 x0 x1 x2) (v2686 c m1 w1 m2 w2 m3 w3 m19 x0 x1 x2) (v2687 c m1 w1 m2 w2 m3 w3 m20 x0 x1 x2) (shapeCast S128x256 (v4192 c m23 w23 xs6) shapeCasts_S1x128x256_S128x256 : FVec Ideal S128x256 .f32) _ (v4213 c m1 w1 m2 w2 m3 w3 m21 x0 x1 x2)
    (tl Q (64 * 0) (128 * 1)) (tl K (64 * 0) (128 * 1)) (tl V (64 * 0) (256 * 1)) (stF K V G (T 1) 1 0) (fun a l => L.q 0 128 _ a l) (fun a l => L.k 0 128 _ a l) (fun a l => L.v 0 256 _ a l) (st_1_0 L) NG L.ng (tl R (64 * 0) (256 * 1)) (fun a l => L.r 0 256 _ a l) j e

theorem st_1_1 (a : Fin 128) (e : Fin 256) : (r_608 c m1 w1 m2 w2 m3 w3 m4 w4 m5 w5 m9 w9 m19 m20 m22 m23 w23 x0 x1 x2 x3 x4 x8 xs6) (ix2 a e) = stF K V G (T 1) 1 1 a e :=
  stC_at (argOk_left (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 0) (128 * 1)) (fun a l => L.g 0 128 _ a l) (fun _ _ => L.real _ _))
    (v2686 c m1 w1 m2 w2 m3 w3 m19 x0 x1 x2) (v2687 c m1 w1 m2 w2 m3 w3 m20 x0 x1 x2) (shapeCast S128x256 (v4192 c m23 w23 xs6) shapeCasts_S1x128x256_S128x256 : FVec Ideal S128x256 .f32)
    (tl K (64 * 0) (128 * 1)) (tl V (64 * 0) (256 * 1)) (stF K V G (T 1) 1 0) (fun a l => L.k 0 128 _ a l) (fun a l => L.v 0 256 _ a l) (st_1_0 L) a e

theorem og_1_1 (j : Fin 64) (e : Fin 256) : ((k0_pay752 (r_436 c m1 w1 m2 w2 m3 w3 m4 w4 m5 w5 m9 w9 m18 m19 m20 m22 x0 x1 x2 x3 x4 x8) (r_437 c m1 w1 m2 w2 m3 w3 m4 w4 m5 w5 m9 w9 m18 m22 x0 x1 x2 x3 x4 x8) (r_608 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4237 c m1 w1 m2 w2 m3 w3 m21 x0 x1 x2)) : FVec Ideal S64x256 .bf16) (ix2 j e)
    = ogF Q K V G NG R (T 1) 1 1 j e :=
  ogC_at (argOk_right (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 1) (128 * 1)) (fun a l => L.g 64 128 _ a l) (fun _ _ => L.real _ _))
    (v2737 c m1 w1 m2 w2 m3 w3 m18 x0 x1 x2) (v2738 c m1 w1 m2 w2 m3 w3 m19 x0 x1 x2) (v2739 c m1 w1 m2 w2 m3 w3 m20 x0 x1 x2) (r_608 c m1 w1 m2 w2 m3 w3 m4 w4 m5 w5 m9 w9 m19 m20 m22 m23 w23 x0 x1 x2 x3 x4 x8 xs6) _ (v4237 c m1 w1 m2 w2 m3 w3 m21 x0 x1 x2)
    (tl Q (64 * 1) (128 * 1)) (tl K (64 * 1) (128 * 1)) (tl V (64 * 1) (256 * 1)) (stF K V G (T 1) 1 1) (fun a l => L.q 64 128 _ a l) (fun a l => L.k 64 128 _ a l) (fun a l => L.v 64 256 _ a l) (st_1_1 L) NG L.ng (tl R (64 * 1) (256 * 1)) (fun a l => L.r 64 256 _ a l) j e

theorem st_1_2 (a : Fin 128) (e : Fin 256) : (r_610 c m1 w1 m2 w2 m3 w3 m4 w4 m5 w5 m9 w9 m19 m20 m22 m23 w23 x0 x1 x2 x3 x4 x8 xs6) (ix2 a e) = stF K V G (T 1) 1 2 a e :=
  stC_at (argOk_right (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 1) (128 * 1)) (fun a l => L.g 64 128 _ a l) (fun _ _ => L.real _ _))
    (v2738 c m1 w1 m2 w2 m3 w3 m19 x0 x1 x2) (v2739 c m1 w1 m2 w2 m3 w3 m20 x0 x1 x2) (r_608 c m1 w1 m2 w2 m3 w3 m4 w4 m5 w5 m9 w9 m19 m20 m22 m23 w23 x0 x1 x2 x3 x4 x8 xs6)
    (tl K (64 * 1) (128 * 1)) (tl V (64 * 1) (256 * 1)) (stF K V G (T 1) 1 1) (fun a l => L.k 64 128 _ a l) (fun a l => L.v 64 256 _ a l) (st_1_1 L) a e

theorem og_1_2 (j : Fin 64) (e : Fin 256) : ((k0_pay754 (r_443 c m1 w1 m2 w2 m3 w3 m4 w4 m5 w5 m9 w9 m18 m19 m20 m22 x0 x1 x2 x3 x4 x8) (r_444 c m1 w1 m2 w2 m3 w3 m4 w4 m5 w5 m9 w9 m18 m22 x0 x1 x2 x3 x4 x8) (r_610 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4261 c m1 w1 m2 w2 m3 w3 m21 x0 x1 x2)) : FVec Ideal S64x256 .bf16) (ix2 j e)
    = ogF Q K V G NG R (T 1) 1 2 j e :=
  ogC_at (argOk_left (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 2) (128 * 1)) (fun a l => L.g 128 128 _ a l) (fun _ _ => L.real _ _))
    (v2789 c m1 w1 m2 w2 m3 w3 m18 x0 x1 x2) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 w23 x0 x1 x2 x3 x4 x8 xs6) _ (v4261 c m1 w1 m2 w2 m3 w3 m21 x0 x1 x2)
    (tl Q (64 * 2) (128 * 1)) (tl K (64 * 2) (128 * 1)) (tl V (64 * 2) (256 * 1)) (stF K V G (T 1) 1 2) (fun a l => L.q 128 128 _ a l) (fun a l => L.k 128 128 _ a l) (fun a l => L.v 128 256 _ a l) (st_1_2 L) NG L.ng (tl R (64 * 2) (256 * 1)) (fun a l => L.r 128 256 _ a l) j e

theorem st_1_3 (a : Fin 128) (e : Fin 256) : (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 w23 x0 x1 x2 x3 x4 x8 xs6)) (ix2 a e) = stF K V G (T 1) 1 3 a e :=
  stC_at (argOk_left (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 2) (128 * 1)) (fun a l => L.g 128 128 _ a l) (fun _ _ => L.real _ _))
    (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 w23 x0 x1 x2 x3 x4 x8 xs6)
    (tl K (64 * 2) (128 * 1)) (tl V (64 * 2) (256 * 1)) (stF K V G (T 1) 1 2) (fun a l => L.k 128 128 _ a l) (fun a l => L.v 128 256 _ a l) (st_1_2 L) a e

theorem og_1_3 (j : Fin 64) (e : Fin 256) : ((k0_pay757 (r_612 c m1 w1 m2 w2 m3 w3 m4 w4 m5 w5 m9 w9 m10 w10 m18 m19 m20 m22 m23 w23 x0 x1 x2 x3 x4 x8 x9 xs6) (v4285 c m1 w1 m2 w2 m3 w3 m21 x0 x1 x2)) : FVec Ideal S64x256 .bf16) (ix2 j e)
    = ogF Q K V G NG R (T 1) 1 3 j e :=
  ogC_at (argOk_right (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 3) (128 * 1)) (fun a l => L.g 192 128 _ a l) (fun _ _ => L.real _ _))
    (v2841 c m1 w1 m2 w2 m3 w3 m18 x0 x1 x2) (v2842 c m1 w1 m2 w2 m3 w3 m19 x0 x1 x2) (v2843 c m1 w1 m2 w2 m3 w3 m20 x0 x1 x2) (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 w23 x0 x1 x2 x3 x4 x8 xs6)) _ (v4285 c m1 w1 m2 w2 m3 w3 m21 x0 x1 x2)
    (tl Q (64 * 3) (128 * 1)) (tl K (64 * 3) (128 * 1)) (tl V (64 * 3) (256 * 1)) (stF K V G (T 1) 1 3) (fun a l => L.q 192 128 _ a l) (fun a l => L.k 192 128 _ a l) (fun a l => L.v 192 256 _ a l) (st_1_3 L) NG L.ng (tl R (64 * 3) (256 * 1)) (fun a l => L.r 192 256 _ a l) j e

theorem st_1_4 (a : Fin 128) (e : Fin 256) : (r_611 c m1 w1 m2 w2 m3 w3 m4 w4 m5 w5 m9 w9 m19 m20 m22 m23 w23 x0 x1 x2 x3 x4 x8 xs6) (ix2 a e) = stF K V G (T 1) 1 4 a e :=
  stC_at (argOk_right (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 3) (128 * 1)) (fun a l => L.g 192 128 _ a l) (fun _ _ => L.real _ _))
    (v2842 c m1 w1 m2 w2 m3 w3 m19 x0 x1 x2) (v2843 c m1 w1 m2 w2 m3 w3 m20 x0 x1 x2) (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 w23 x0 x1 x2 x3 x4 x8 xs6))
    (tl K (64 * 3) (128 * 1)) (tl V (64 * 3) (256 * 1)) (stF K V G (T 1) 1 3) (fun a l => L.k 192 128 _ a l) (fun a l => L.v 192 256 _ a l) (st_1_3 L) a e

theorem og_1_4 (j : Fin 64) (e : Fin 256) : ((k0_pay761 (r_457 c m1 w1 m2 w2 m3 w3 m4 w4 m5 w5 m9 w9 m18 m19 m20 m22 x0 x1 x2 x3 x4 x8) (r_458 c m1 w1 m2 w2 m3 w3 m4 w4 m5 w5 m9 w9 m18 m22 x0 x1 x2 x3 x4 x8) (r_611 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4315 c m1 w1 m2 w2 m3 w3 m21 x0 x1 x2)) : FVec Ideal S64x256 .bf16) (ix2 j e)
    = ogF Q K V G NG R (T 1) 1 4 j e :=
  ogC_at (argOk_left (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 4) (128 * 1)) (fun a l => L.g 256 128 _ a l) (fun _ _ => L.real _ _))
    (v2893 c m1 w1 m2 w2 m3 w3 m18 x0 x1 x2) (v2894 c m1 w1 m2 w2 m3 w3 m19 x0 x1 x2) (v2895 c m1 w1 m2 w2 m3 w3 m20 x0 x1 x2) (r_611 c m1 w1 m2 w2 m3 w3 m4 w4 m5 w5 m9 w9 m19 m20 m22 m23 w23 x0 x1 x2 x3 x4 x8 xs6) _ (v4315 c m1 w1 m2 w2 m3 w3 m21 x0 x1 x2)
    (tl Q (64 * 4) (128 * 1)) (tl K (64 * 4) (128 * 1)) (tl V (64 * 4) (256 * 1)) (stF K V G (T 1) 1 4) (fun a l => L.q 256 128 _ a l) (fun a l => L.k 256 128 _ a l) (fun a l => L.v 256 256 _ a l) (st_1_4 L) NG L.ng (tl R (64 * 4) (256 * 1)) (fun a l => L.r 256 256 _ a l) j e

theorem st_1_5 (a : Fin 128) (e : Fin 256) : (r_614 c m1 w1 m2 w2 m3 w3 m4 w4 m5 w5 m9 w9 m19 m20 m22 m23 w23 x0 x1 x2 x3 x4 x8 xs6) (ix2 a e) = stF K V G (T 1) 1 5 a e :=
  stC_at (argOk_left (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 4) (128 * 1)) (fun a l => L.g 256 128 _ a l) (fun _ _ => L.real _ _))
    (v2894 c m1 w1 m2 w2 m3 w3 m19 x0 x1 x2) (v2895 c m1 w1 m2 w2 m3 w3 m20 x0 x1 x2) (r_611 c m1 w1 m2 w2 m3 w3 m4 w4 m5 w5 m9 w9 m19 m20 m22 m23 w23 x0 x1 x2 x3 x4 x8 xs6)
    (tl K (64 * 4) (128 * 1)) (tl V (64 * 4) (256 * 1)) (stF K V G (T 1) 1 4) (fun a l => L.k 256 128 _ a l) (fun a l => L.v 256 256 _ a l) (st_1_4 L) a e

theorem og_1_5 (j : Fin 64) (e : Fin 256) : ((k0_pay764 (r_465 c m1 w1 m2 w2 m3 w3 m4 w4 m5 w5 m9 w9 m18 m19 m20 m22 x0 x1 x2 x3 x4 x8) (r_615 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4339 c m1 w1 m2 w2 m3 w3 m21 x0 x1 x2)) : FVec Ideal S64x256 .bf16) (ix2 j e)
    = ogF Q K V G NG R (T 1) 1 5 j e :=
  ogC_at (argOk_right (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 5) (128 * 1)) (fun a l => L.g 320 128 _ a l) (fun _ _ => L.real _ _))
    (v2945 c m1 w1 m2 w2 m3 w3 m18 x0 x1 x2) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 w23 x0 x1 x2 x3 x4 x8 xs6) _ (v4339 c m1 w1 m2 w2 m3 w3 m21 x0 x1 x2)
    (tl Q (64 * 5) (128 * 1)) (tl K (64 * 5) (128 * 1)) (tl V (64 * 5) (256 * 1)) (stF K V G (T 1) 1 5) (fun a l => L.q 320 128 _ a l) (fun a l => L.k 320 128 _ a l) (fun a l => L.v 320 256 _ a l) (st_1_5 L) NG L.ng (tl R (64 * 5) (256 * 1)) (fun a l => L.r 320 256 _ a l) j e

theorem st_1_6 (a : Fin 128) (e : Fin 256) : (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 w23 x0 x1 x2 x3 x4 x8 xs6)) (ix2 a e) = stF K V G (T 1) 1 6 a e :=
  stC_at (argOk_right (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 5) (128 * 1)) (fun a l => L.g 320 128 _ a l) (fun _ _ => L.real _ _))
    (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 w23 x0 x1 x2 x3 x4 x8 xs6)
    (tl K (64 * 5) (128 * 1)) (tl V (64 * 5) (256 * 1)) (stF K V G (T 1) 1 5) (fun a l => L.k 320 128 _ a l) (fun a l => L.v 320 256 _ a l) (st_1_5 L) a e

theorem og_1_6 (j : Fin 64) (e : Fin 256) : ((k0_pay767 (r_617 c m1 w1 m2 w2 m3 w3 m4 w4 m5 w5 m9 w9 m10 w10 m18 m19 m20 m22 m23 w23 x0 x1 x2 x3 x4 x8 x9 xs6) (v4363 c m1 w1 m2 w2 m3 w3 m21 x0 x1 x2)) : FVec Ideal S64x256 .bf16) (ix2 j e)
    = ogF Q K V G NG R (T 1) 1 6 j e :=
  ogC_at (argOk_left (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 6) (128 * 1)) (fun a l => L.g 384 128 _ a l) (fun _ _ => L.real _ _))
    (v3015 c m1 w1 m2 w2 m3 w3 m18 x0 x1 x2) (v3016 c m1 w1 m2 w2 m3 w3 m19 x0 x1 x2) (v3017 c m1 w1 m2 w2 m3 w3 m20 x0 x1 x2) (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 w23 x0 x1 x2 x3 x4 x8 xs6)) _ (v4363 c m1 w1 m2 w2 m3 w3 m21 x0 x1 x2)
    (tl Q (64 * 6) (128 * 1)) (tl K (64 * 6) (128 * 1)) (tl V (64 * 6) (256 * 1)) (stF K V G (T 1) 1 6) (fun a l => L.q 384 128 _ a l) (fun a l => L.k 384 128 _ a l) (fun a l => L.v 384 256 _ a l) (st_1_6 L) NG L.ng (tl R (64 * 6) (256 * 1)) (fun a l => L.r 384 256 _ a l) j e

theorem st_1_7 (a : Fin 128) (e : Fin 256) : (r_616 c m1 w1 m2 w2 m3 w3 m4 w4 m5 w5 m9 w9 m19 m20 m22 m23 w23 x0 x1 x2 x3 x4 x8 xs6) (ix2 a e) = stF K V G (T 1) 1 7 a e :=
  stC_at (argOk_left (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 6) (128 * 1)) (fun a l => L.g 384 128 _ a l) (fun _ _ => L.real _ _))
    (v3016 c m1 w1 m2 w2 m3 w3 m19 x0 x1 x2) (v3017 c m1 w1 m2 w2 m3 w3 m20 x0 x1 x2) (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 w23 x0 x1 x2 x3 x4 x8 xs6))
    (tl K (64 * 6) (128 * 1)) (tl V (64 * 6) (256 * 1)) (stF K V G (T 1) 1 6) (fun a l => L.k 384 128 _ a l) (fun a l => L.v 384 256 _ a l) (st_1_6 L) a e

theorem og_1_7 (j : Fin 64) (e : Fin 256) : ((k0_pay768 (r_482 c m1 w1 m2 w2 m3 w3 m4 w4 m5 w5 m9 w9 m18 m19 m20 m22 x0 x1 x2 x3 x4 x8) (r_483 c m1 w1 m2 w2 m3 w3 m4 w4 m5 w5 m9 w9 m18 m22 x0 x1 x2 x3 x4 x8) (r_616 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4387 c m1 w1 m2 w2 m3 w3 m21 x0 x1 x2)) : FVec Ideal S64x256 .bf16) (ix2 j e)
    = ogF Q K V G NG R (T 1) 1 7 j e :=
  ogC_at (argOk_right (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 7) (128 * 1)) (fun a l => L.g 448 128 _ a l) (fun _ _ => L.real _ _))
    (v3067 c m1 w1 m2 w2 m3 w3 m18 x0 x1 x2) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 w23 x0 x1 x2 x3 x4 x8 xs6) _ (v4387 c m1 w1 m2 w2 m3 w3 m21 x0 x1 x2)
    (tl Q (64 * 7) (128 * 1)) (tl K (64 * 7) (128 * 1)) (tl V (64 * 7) (256 * 1)) (stF K V G (T 1) 1 7) (fun a l => L.q 448 128 _ a l) (fun a l => L.k 448 128 _ a l) (fun a l => L.v 448 256 _ a l) (st_1_7 L) NG L.ng (tl R (64 * 7) (256 * 1)) (fun a l => L.r 448 256 _ a l) j e

theorem st_1_8 (a : Fin 128) (e : Fin 256) : (stC (argC (half1 (pairC (r_1 c m9 w9 x8) (v1106 c m1 w1 m2 w2 m3 w3 m4 w4 m5 w5 m22 x0 x1 x2 x3 x4) (v1112 c m1 w1 m2 w2 m3 w3 m4 w4 m5 w5 m22 x0 x1 x2 x3 x4)))) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 w23 x0 x1 x2 x3 x4 x8 xs6)) (ix2 a e) = stF K V G (T 1) 1 8 a e :=
  stC_at (argOk_right (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 7) (128 * 1)) (fun a l => L.g 448 128 _ a l) (fun _ _ => L.real _ _))
    (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 w23 x0 x1 x2 x3 x4 x8 xs6)
    (tl K (64 * 7) (128 * 1)) (tl V (64 * 7) (256 * 1)) (stF K V G (T 1) 1 7) (fun a l => L.k 448 128 _ a l) (fun a l => L.v 448 256 _ a l) (st_1_7 L) a e

theorem st_2_0 (a : Fin 128) (e : Fin 256) : (shapeCast S128x256 (v4395 c m23 w23 xs6) shapeCasts_S1x128x256_S128x256 : FVec Ideal S128x256 .f32) (ix2 a e) = stF K V G (T 2) 2 0 a e :=
  (stateCast_at _ a e).trans (L.t2 a e)

theorem og_2_0 (j : Fin 64) (e : Fin 256) : ((k0_pay773 (r_618 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4416 c m1 w1 m2 w2 m3 w3 m21 x0 x1 x2)) : FVec Ideal S64x256 .bf16) (ix2 j e)
    = ogF Q K V G NG R (T 2) 2 0 j e :=
  ogC_at (argOk_left (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 0) (128 * 2)) (fun a l => L.g 0 256 _ a l) (fun _ _ => L.real _ _))
    (v3119 c m1 w1 m2 w2 m3 w3 m18 x0 x1 x2) (v3120 c m1 w1 m2 w2 m3 w3 m19 x0 x1 x2) (v3121 c m1 w1 m2 w2 m3 w3 m20 x0 x1 x2) (shapeCast S128x256 (v4395 c m23 w23 xs6) shapeCasts_S1x128x256_S128x256 : FVec Ideal S128x256 .f32) _ (v4416 c m1 w1 m2 w2 m3 w3 m21 x0 x1 x2)
    (tl Q (64 * 0) (128 * 2)) (tl K (64 * 0) (128 * 2)) (tl V (64 * 0) (256 * 2)) (stF K V G (T 2) 2 0) (fun a l => L.q 0 256 _ a l) (fun a l => L.k 0 256 _ a l) (fun a l => L.v 0 512 _ a l) (st_2_0 L) NG L.ng (tl R (64 * 0) (256 * 2)) (fun a l => L.r 0 512 _ a l) j e

theorem st_2_1 (a : Fin 128) (e : Fin 256) : (r_619 c m1 w1 m2 w2 m3 w3 m4 w4 m5 w5 m9 w9 m19 m20 m22 m23 w23 x0 x1 x2 x3 x4 x8 xs6) (ix2 a e) = stF K V G (T 2) 2 1 a e :=
  stC_at (argOk_left (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 0) (128 * 2)) (fun a l => L.g 0 256 _ a l) (fun _ _ => L.real _ _))
    (v3120 c m1 w1 m2 w2 m3 w3 m19 x0 x1 x2) (v3121 c m1 w1 m2 w2 m3 w3 m20 x0 x1 x2) (shapeCast S128x256 (v4395 c m23 w23 xs6) shapeCasts_S1x128x256_S128x256 : FVec Ideal S128x256 .f32)
    (tl K (64 * 0) (128 * 2)) (tl V (64 * 0) (256 * 2)) (stF K V G (T 2) 2 0) (fun a l => L.k 0 256 _ a l) (fun a l => L.v 0 512 _ a l) (st_2_0 L) a e

theorem og_2_1 (j : Fin 64) (e : Fin 256) : ((r_621 c m1 w1 m2 w2 m3 w3 m4 w4 m5 w5 m9 w9 m10 w10 m18 m19 m20 m21 m22 m23 w23 x0 x1 x2 x3 x4 x8 x9 xs6) : FVec Ideal S64x256 .bf16) (ix2 j e)
    = ogF Q K V G NG R (T 2) 2 1 j e :=
  ogC_at (argOk_right (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 1) (128 * 2)) (fun a l => L.g 64 256 _ a l) (fun _ _ => L.real _ _))
    (v3171 c m1 w1 m2 w2 m3 w3 m18 x0 x1 x2) (v3172 c m1 w1 m2 w2 m3 w3 m19 x0 x1 x2) (v3173 c m1 w1 m2 w2 m3 w3 m20 x0 x1 x2) (r_619 c m1 w1 m2 w2 m3 w3 m4 w4 m5 w5 m9 w9 m19 m20 m22 m23 w23 x0 x1 x2 x3 x4 x8 xs6) _ (v4440 c m1 w1 m2 w2 m3 w3 m21 x0 x1 x2)
    (tl Q (64 * 1) (128 * 2)) (tl K (64 * 1) (128 * 2)) (tl V (64 * 1) (256 * 2)) (stF K V G (T 2) 2 1) (fun a l => L.q 64 256 _ a l) (fun a l => L.k 64 256 _ a l) (fun a l => L.v 64 512 _ a l) (st_2_1 L) NG L.ng (tl R (64 * 1) (256 * 2)) (fun a l => L.r 64 512 _ a l) j e

theorem st_2_2 (a : Fin 128) (e : Fin 256) : (r_620 c m1 w1 m2 w2 m3 w3 m4 w4 m5 w5 m9 w9 m19 m20 m22 m23 w23 x0 x1 x2 x3 x4 x8 xs6) (ix2 a e) = stF K V G (T 2) 2 2 a e :=
  stC_at (argOk_right (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 1) (128 * 2)) (fun a l => L.g 64 256 _ a l) (fun _ _ => L.real _ _))
    (v3172 c m1 w1 m2 w2 m3 w3 m19 x0 x1 x2) (v3173 c m1 w1 m2 w2 m3 w3 m20 x0 x1 x2) (r_619 c m1 w1 m2 w2 m3 w3 m4 w4 m5 w5 m9 w9 m19 m20 m22 m23 w23 x0 x1 x2 x3 x4 x8 xs6)
    (tl K (64 * 1) (128 * 2)) (tl V (64 * 1) (256 * 2)) (stF K V G (T 2) 2 1) (fun a l => L.k 64 256 _ a l) (fun a l => L.v 64 512 _ a l) (st_2_1 L) a e

theorem og_2_2 (j : Fin 64) (e : Fin 256) : ((k0_pay780 (r_624 c m1 w1 m2 w2 m3 w3 m4 w4 m5 w5 m9 w9 m10 w10 m18 m19 m20 m22 m23 w23 x0 x1 x2 x3 x4 x8 x9 xs6) (v4482 c m1 w1 m2 w2 m3 w3 m21 x0 x1 x2)) : FVec Ideal S64x256 .bf16) (ix2 j e)
    = ogF Q K V G NG R (T 2) 2 2 j e :=
  ogC_at (argOk_left (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 2) (128 * 2)) (fun a l => L.g 128 256 _ a l) (fun _ _ => L.real _ _))
    (v3223 c m1 w1 m2 w2 m3 w3 m18 x0 x1 x2) (v3224 c m1 w1 m2 w2 m3 w3 m19 x0 x1 x2) (v3225 c m1 w1 m2 w2 m3 w3 m20 x0 x1 x2) (r_620 c m1 w1 m2 w2 m3 w3 m4 w4 m5 w5 m9 w9 m19 m20 m22 m23 w23 x0 x1 x2 x3 x4 x8 xs6) _ (v4482 c m1 w1 m2 w2 m3 w3 m21 x0 x1 x2)
    (tl Q (64 * 2) (128 * 2)) (tl K (64 * 2) (128 * 2)) (tl V (64 * 2) (256 * 2)) (stF K V G (T 2) 2 2) (fun a l => L.q 128 256 _ a l) (fun a l => L.k 128 256 _ a l) (fun a l => L.v 128 512 _ a l) (st_2_2 L) NG L.ng (tl R (64 * 2) (256 * 2)) (fun a l => L.r 128 512 _ a l) j e

theorem st_2_3 (a : Fin 128) (e : Fin 256) : (r_623 c m1 w1 m2 w2 m3 w3 m4 w4 m5 w5 m9 w9 m19 m20 m22 m23 w23 x0 x1 x2 x3 x4 x8 xs6) (ix2 a e) = stF K V G (T 2) 2 3 a e :=
  stC_at (argOk_left (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 2) (128 * 2)) (fun a l => L.g 128 256 _ a l) (fun _ _ => L.real _ _))
    (v3224 c m1 w1 m2 w2 m3 w3 m19 x0 x1 x2) (v3225 c m1 w1 m2 w2 m3 w3 m20 x0 x1 x2) (r_620 c m1 w1 m2 w2 m3 w3 m4 w4 m5 w5 m9 w9 m19 m20 m22 m23 w23 x0 x1 x2 x3 x4 x8 xs6)
    (tl K (64 * 2) (128 * 2)) (tl V (64 * 2) (256 * 2)) (stF K V G (T 2) 2 2) (fun a l => L.k 128 256 _ a l) (fun a l => L.v 128 512 _ a l) (st_2_2 L) a e

theorem og_2_3 (j : Fin 64) (e : Fin 256) : ((k0_pay782 (r_509 c m1 w1 m2 w2 m3 w3 m4 w4 m5 w5 m9 w9 m18 m19 m20 m22 x0 x1 x2 x3 x4 x8) (r_510 c m1 w1 m2 w2 m3 w3 m4 w4 m5 w5 m9 w9 m18 m22 x0 x1 x2 x3 x4 x8) (r_623 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4506 c m1 w1 m2 w2 m3 w3 m21 x0 x1 x2)) : FVec Ideal S64x256 .bf16) (ix2 j e)
    = ogF Q K V G NG R (T 2) 2 3 j e :=
  ogC_at (argOk_right (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 3) (128 * 2)) (fun a l => L.g 192 256 _ a l) (fun _ _ => L.real _ _))
    (v3275 c m1 w1 m2 w2 m3 w3 m18 x0 x1 x2) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 w23 x0 x1 x2 x3 x4 x8 xs6) _ (v4506 c m1 w1 m2 w2 m3 w3 m21 x0 x1 x2)
    (tl Q (64 * 3) (128 * 2)) (tl K (64 * 3) (128 * 2)) (tl V (64 * 3) (256 * 2)) (stF K V G (T 2) 2 3) (fun a l => L.q 192 256 _ a l) (fun a l => L.k 192 256 _ a l) (fun a l => L.v 192 512 _ a l) (st_2_3 L) NG L.ng (tl R (64 * 3) (256 * 2)) (fun a l => L.r 192 512 _ a l) j e

theorem st_2_4 (a : Fin 128) (e : Fin 256) : (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 w23 x0 x1 x2 x3 x4 x8 xs6)) (ix2 a e) = stF K V G (T 2) 2 4 a e :=
  stC_at (argOk_right (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 3) (128 * 2)) (fun a l => L.g 192 256 _ a l) (fun _ _ => L.real _ _))
    (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 w23 x0 x1 x2 x3 x4 x8 xs6)
    (tl K (64 * 3) (128 * 2)) (tl V (64 * 3) (256 * 2)) (stF K V G (T 2) 2 3) (fun a l => L.k 192 256 _ a l) (fun a l => L.v 192 512 _ a l) (st_2_3 L) a e

theorem og_2_4 (j : Fin 64) (e : Fin 256) : ((k0_pay786 (r_625 c m1 w1 m2 w2 m3 w3 m4 w4 m5 w5 m9 w9 m18 m19 m20 m22 m23 w23 x0 x1 x2 x3 x4 x8 xs6) (r_627 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4530 c m1 w1 m2 w2 m3 w3 m21 x0 x1 x2)) : FVec Ideal S64x256 .bf16) (ix2 j e)
    = ogF Q K V G NG R (T 2) 2 4 j e :=
  ogC_at (argOk_left (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 4) (128 * 2)) (fun a l => L.g 256 256 _ a l) (fun _ _ => L.real _ _))
    (v3332 c m1 w1 m2 w2 m3 w3 m18 x0 x1 x2) (v3333 c m1 w1 m2 w2 m3 w3 m19 x0 x1 x2) (v3334 c m1 w1 m2 w2 m3 w3 m20 x0 x1 x2) (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 w23 x0 x1 x2 x3 x4 x8 xs6)) _ (v4530 c m1 w1 m2 w2 m3 w3 m21 x0 x1 x2)
    (tl Q (64 * 4) (128 * 2)) (tl K (64 * 4) (128 * 2)) (tl V (64 * 4) (256 * 2)) (stF K V G (T 2) 2 4) (fun a l => L.q 256 256 _ a l) (fun a l => L.k 256 256 _ a l) (fun a l => L.v 256 512 _ a l) (st_2_4 L) NG L.ng (tl R (64 * 4) (256 * 2)) (fun a l => L.r 256 512 _ a l) j e

theorem st_2_5 (a : Fin 128) (e : Fin 256) : (r_626 c m1 w1 m2 w2 m3 w3 m4 w4 m5 w5 m9 w9 m19 m20 m22 m23 w23 x0 x1 x2 x3 x4 x8 xs6) (ix2 a e) = stF K V G (T 2) 2 5 a e :=
  stC_at (argOk_left (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 4) (128 * 2)) (fun a l => L.g 256 256 _ a l) (fun _ _ => L.real _ _))
    (v3333 c m1 w1 m2 w2 m3 w3 m19 x0 x1 x2) (v3334 c m1 w1 m2 w2 m3 w3 m20 x0 x1 x2) (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 w23 x0 x1 x2 x3 x4 x8 xs6))
    (tl K (64 * 4) (128 * 2)) (tl V (64 * 4) (256 * 2)) (stF K V G (T 2) 2 4) (fun a l => L.k 256 256 _ a l) (fun a l => L.v 256 512 _ a l) (st_2_4 L) a e

theorem og_2_5 (j : Fin 64) (e : Fin 256) : ((k0_pay788 (r_523 c m1 w1 m2 w2 m3 w3 m4 w4 m5 w5 m9 w9 m18 m19 m20 m22 x0 x1 x2 x3 x4 x8) (r_524 c m1 w1 m2 w2 m3 w3 m4 w4 m5 w5 m9 w9 m18 m22 x0 x1 x2 x3 x4 x8) (r_626 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4554 c m1 w1 m2 w2 m3 w3 m21 x0 x1 x2)) : FVec Ideal S64x256 .bf16) (ix2 j e)
    = ogF Q K V G NG R (T 2) 2 5 j e :=
  ogC_at (argOk_right (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 5) (128 * 2)) (fun a l => L.g 320 256 _ a l) (fun _ _ => L.real _ _))
    (v3384 c m1 w1 m2 w2 m3 w3 m18 x0 x1 x2) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 w23 x0 x1 x2 x3 x4 x8 xs6) _ (v4554 c m1 w1 m2 w2 m3 w3 m21 x0 x1 x2)
    (tl Q (64 * 5) (128 * 2)) (tl K (64 * 5) (128 * 2)) (tl V (64 * 5) (256 * 2)) (stF K V G (T 2) 2 5) (fun a l => L.q 320 256 _ a l) (fun a l => L.k 320 256 _ a l) (fun a l => L.v 320 512 _ a l) (st_2_5 L) NG L.ng (tl R (64 * 5) (256 * 2)) (fun a l => L.r 320 512 _ a l) j e

theorem st_2_6 (a : Fin 128) (e : Fin 256) : (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 w23 x0 x1 x2 x3 x4 x8 xs6)) (ix2 a e) = stF K V G (T 2) 2 6 a e :=
  stC_at (argOk_right (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 5) (128 * 2)) (fun a l => L.g 320 256 _ a l) (fun _ _ => L.real _ _))
    (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 w23 x0 x1 x2 x3 x4 x8 xs6)
    (tl K (64 * 5) (128 * 2)) (tl V (64 * 5) (256 * 2)) (stF K V G (T 2) 2 5) (fun a l => L.k 320 256 _ a l) (fun a l => L.v 320 512 _ a l) (st_2_5 L) a e

theorem og_2_6 (j : Fin 64) (e : Fin 256) : ((k0_pay791 (r_628 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4578 c m1 w1 m2 w2 m3 w3 m21 x0 x1 x2)) : FVec Ideal S64x256 .bf16) (ix2 j e)
    = ogF Q K V G NG R (T 2) 2 6 j e :=
  ogC_at (argOk_left (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 6) (128 * 2)) (fun a l => L.g 384 256 _ a l) (fun _ _ => L.real _ _))
    (v3436 c m1 w1 m2 w2 m3 w3 m18 x0 x1 x2) (v3437 c m1 w1 m2 w2 m3 w3 m19 x0 x1 x2) (v3438 c m1 w1 m2 w2 m3 w3 m20 x0 x1 x2) (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 w23 x0 x1 x2 x3 x4 x8 xs6)) _ (v4578 c m1 w1 m2 w2 m3 w3 m21 x0 x1 x2)
    (tl Q (64 * 6) (128 * 2)) (tl K (64 * 6) (128 * 2)) (tl V (64 * 6) (256 * 2)) (stF K V G (T 2) 2 6) (fun a l => L.q 384 256 _ a l) (fun a l => L.k 384 256 _ a l) (fun a l => L.v 384 512 _ a l) (st_2_6 L) NG L.ng (tl R (64 * 6) (256 * 2)) (fun a l => L.r 384 512 _ a l) j e

theorem st_2_7 (a : Fin 128) (e : Fin 256) : (r_629 c m1 w1 m2 w2 m3 w3 m4 w4 m5 w5 m9 w9 m19 m20 m22 m23 w23 x0 x1 x2 x3 x4 x8 xs6) (ix2 a e) = stF K V G (T 2) 2 7 a e :=
  stC_at (argOk_left (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 6) (128 * 2)) (fun a l => L.g 384 256 _ a l) (fun _ _ => L.real _ _))
    (v3437 c m1 w1 m2 w2 m3 w3 m19 x0 x1 x2) (v3438 c m1 w1 m2 w2 m3 w3 m20 x0 x1 x2) (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 w23 x0 x1 x2 x3 x4 x8 xs6))
    (tl K (64 * 6) (128 * 2)) (tl V (64 * 6) (256 * 2)) (stF K V G (T 2) 2 6) (fun a l => L.k 384 256 _ a l) (fun a l => L.v 384 512 _ a l) (st_2_6 L) a e

theorem og_2_7 (j : Fin 64) (e : Fin 256) : ((r_631 c m1 w1 m2 w2 m3 w3 m4 w4 m5 w5 m9 w9 m10 w10 m18 m19 m20 m21 m22 m23 w23 x0 x1 x2 x3 x4 x8 x9 xs6) : FVec Ideal S64x256 .bf16) (ix2 j e)
    = ogF Q K V G NG R (T 2) 2 7 j e :=
  ogC_at (argOk_right (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 7) (128 * 2)) (fun a l => L.g 448 256 _ a l) (fun _ _ => L.real _ _))
    (v3488 c m1 w1 m2 w2 m3 w3 m18 x0 x1 x2) (v3489 c m1 w1 m2 w2 m3 w3 m19 x0 x1 x2) (v3490 c m1 w1 m2 w2 m3 w3 m20 x0 x1 x2) (r_629 c m1 w1 m2 w2 m3 w3 m4 w4 m5 w5 m9 w9 m19 m20 m22 m23 w23 x0 x1 x2 x3 x4 x8 xs6) _ (v4602 c m1 w1 m2 w2 m3 w3 m21 x0 x1 x2)
    (tl Q (64 * 7) (128 * 2)) (tl K (64 * 7) (128 * 2)) (tl V (64 * 7) (256 * 2)) (stF K V G (T 2) 2 7) (fun a l => L.q 448 256 _ a l) (fun a l => L.k 448 256 _ a l) (fun a l => L.v 448 512 _ a l) (st_2_7 L) NG L.ng (tl R (64 * 7) (256 * 2)) (fun a l => L.r 448 512 _ a l) j e

theorem st_2_8 (a : Fin 128) (e : Fin 256) : (r_630 c m1 w1 m2 w2 m3 w3 m4 w4 m5 w5 m9 w9 m19 m20 m22 m23 w23 x0 x1 x2 x3 x4 x8 xs6) (ix2 a e) = stF K V G (T 2) 2 8 a e :=
  stC_at (argOk_right (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 7) (128 * 2)) (fun a l => L.g 448 256 _ a l) (fun _ _ => L.real _ _))
    (v3489 c m1 w1 m2 w2 m3 w3 m19 x0 x1 x2) (v3490 c m1 w1 m2 w2 m3 w3 m20 x0 x1 x2) (r_629 c m1 w1 m2 w2 m3 w3 m4 w4 m5 w5 m9 w9 m19 m20 m22 m23 w23 x0 x1 x2 x3 x4 x8 xs6)
    (tl K (64 * 7) (128 * 2)) (tl V (64 * 7) (256 * 2)) (stF K V G (T 2) 2 7) (fun a l => L.k 448 256 _ a l) (fun a l => L.v 448 512 _ a l) (st_2_7 L) a e

theorem st_3_0 (a : Fin 128) (e : Fin 256) : (shapeCast S128x256 (v4625 c m23 w23 xs6) shapeCasts_S1x128x256_S128x256 : FVec Ideal S128x256 .f32) (ix2 a e) = stF K V G (T 3) 3 0 a e :=
  (stateCast_at _ a e).trans (L.t3 a e)

theorem og_3_0 (j : Fin 64) (e : Fin 256) : ((k0_pay799 (r_633 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4646 c m1 w1 m2 w2 m3 w3 m21 x0 x1 x2)) : FVec Ideal S64x256 .bf16) (ix2 j e)
    = ogF Q K V G NG R (T 3) 3 0 j e :=
  ogC_at (argOk_left (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 0) (128 * 3)) (fun a l => L.g 0 384 _ a l) (fun _ _ => L.real _ _))
    (v3540 c m1 w1 m2 w2 m3 w3 m18 x0 x1 x2) (v3541 c m1 w1 m2 w2 m3 w3 m19 x0 x1 x2) (v3542 c m1 w1 m2 w2 m3 w3 m20 x0 x1 x2) (shapeCast S128x256 (v4625 c m23 w23 xs6) shapeCasts_S1x128x256_S128x256 : FVec Ideal S128x256 .f32) _ (v4646 c m1 w1 m2 w2 m3 w3 m21 x0 x1 x2)
    (tl Q (64 * 0) (128 * 3)) (tl K (64 * 0) (128 * 3)) (tl V (64 * 0) (256 * 3)) (stF K V G (T 3) 3 0) (fun a l => L.q 0 384 _ a l) (fun a l => L.k 0 384 _ a l) (fun a l => L.v 0 768 _ a l) (st_3_0 L) NG L.ng (tl R (64 * 0) (256 * 3)) (fun a l => L.r 0 768 _ a l) j e

theorem st_3_1 (a : Fin 128) (e : Fin 256) : (r_632 c m1 w1 m2 w2 m3 w3 m4 w4 m5 w5 m9 w9 m19 m20 m22 m23 w23 x0 x1 x2 x3 x4 x8 xs6) (ix2 a e) = stF K V G (T 3) 3 1 a e :=
  stC_at (argOk_left (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 0) (128 * 3)) (fun a l => L.g 0 384 _ a l) (fun _ _ => L.real _ _))
    (v3541 c m1 w1 m2 w2 m3 w3 m19 x0 x1 x2) (v3542 c m1 w1 m2 w2 m3 w3 m20 x0 x1 x2) (shapeCast S128x256 (v4625 c m23 w23 xs6) shapeCasts_S1x128x256_S128x256 : FVec Ideal S128x256 .f32)
    (tl K (64 * 0) (128 * 3)) (tl V (64 * 0) (256 * 3)) (stF K V G (T 3) 3 0) (fun a l => L.k 0 384 _ a l) (fun a l => L.v 0 768 _ a l) (st_3_0 L) a e

theorem og_3_1 (j : Fin 64) (e : Fin 256) : ((k0_pay801 (r_551 c m1 w1 m2 w2 m3 w3 m4 w4 m5 w5 m9 w9 m18 m19 m20 m22 x0 x1 x2 x3 x4 x8) (r_552 c m1 w1 m2 w2 m3 w3 m4 w4 m5 w5 m9 w9 m18 m22 x0 x1 x2 x3 x4 x8) (r_632 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4670 c m1 w1 m2 w2 m3 w3 m21 x0 x1 x2)) : FVec Ideal S64x256 .bf16) (ix2 j e)
    = ogF Q K V G NG R (T 3) 3 1 j e :=
  ogC_at (argOk_right (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 1) (128 * 3)) (fun a l => L.g 64 384 _ a l) (fun _ _ => L.real _ _))
    (v3592 c m1 w1 m2 w2 m3 w3 m18 x0 x1 x2) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 w23 x0 x1 x2 x3 x4 x8 xs6) _ (v4670 c m1 w1 m2 w2 m3 w3 m21 x0 x1 x2)
    (tl Q (64 * 1) (128 * 3)) (tl K (64 * 1) (128 * 3)) (tl V (64 * 1) (256 * 3)) (stF K V G (T 3) 3 1) (fun a l => L.q 64 384 _ a l) (fun a l => L.k 64 384 _ a l) (fun a l => L.v 64 768 _ a l) (st_3_1 L) NG L.ng (tl R (64 * 1) (256 * 3)) (fun a l => L.r 64 768 _ a l) j e

theorem st_3_2 (a : Fin 128) (e : Fin 256) : (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 w23 x0 x1 x2 x3 x4 x8 xs6)) (ix2 a e) = stF K V G (T 3) 3 2 a e :=
  stC_at (argOk_right (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 1) (128 * 3)) (fun a l => L.g 64 384 _ a l) (fun _ _ => L.real _ _))
    (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 w23 x0 x1 x2 x3 x4 x8 xs6)
    (tl K (64 * 1) (128 * 3)) (tl V (64 * 1) (256 * 3)) (stF K V G (T 3) 3 1) (fun a l => L.k 64 384 _ a l) (fun a l => L.v 64 768 _ a l) (st_3_1 L) a e

theorem og_3_2 (j : Fin 64) (e : Fin 256) : ((k0_pay805 (r_634 c m1 w1 m2 w2 m3 w3 m4 w4 m5 w5 m9 w9 m18 m19 m20 m22 m23 w23 x0 x1 x2 x3 x4 x8 xs6) (r_636 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4694 c m1 w1 m2 w2 m3 w3 m21 x0 x1 x2)) : FVec Ideal S64x256 .bf16) (ix2 j e)
    = ogF Q K V G NG R (T 3) 3 2 j e :=
  ogC_at (argOk_left (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 2) (128 * 3)) (fun a l => L.g 128 384 _ a l) (fun _ _ => L.real _ _))
    (v3662 c m1 w1 m2 w2 m3 w3 m18 x0 x1 x2) (v3663 c m1 w1 m2 w2 m3 w3 m19 x0 x1 x2) (v3664 c m1 w1 m2 w2 m3 w3 m20 x0 x1 x2) (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 w23 x0 x1 x2 x3 x4 x8 xs6)) _ (v4694 c m1 w1 m2 w2 m3 w3 m21 x0 x1 x2)
    (tl Q (64 * 2) (128 * 3)) (tl K (64 * 2) (128 * 3)) (tl V (64 * 2) (256 * 3)) (stF K V G (T 3) 3 2) (fun a l => L.q 128 384 _ a l) (fun a l => L.k 128 384 _ a l) (fun a l => L.v 128 768 _ a l) (st_3_2 L) NG L.ng (tl R (64 * 2) (256 * 3)) (fun a l => L.r 128 768 _ a l) j e

theorem st_3_3 (a : Fin 128) (e : Fin 256) : (r_635 c m1 w1 m2 w2 m3 w3 m4 w4 m5 w5 m9 w9 m19 m20 m22 m23 w23 x0 x1 x2 x3 x4 x8 xs6) (ix2 a e) = stF K V G (T 3) 3 3 a e :=
  stC_at (argOk_left (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 2) (128 * 3)) (fun a l => L.g 128 384 _ a l) (fun _ _ => L.real _ _))
    (v3663 c m1 w1 m2 w2 m3 w3 m19 x0 x1 x2) (v3664 c m1 w1 m2 w2 m3 w3 m20 x0 x1 x2) (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 w23 x0 x1 x2 x3 x4 x8 xs6))
    (tl K (64 * 2) (128 * 3)) (tl V (64 * 2) (256 * 3)) (stF K V G (T 3) 3 2) (fun a l => L.k 128 384 _ a l) (fun a l => L.v 128 768 _ a l) (st_3_2 L) a e

theorem og_3_3 (j : Fin 64) (e : Fin 256) : ((k0_pay807 (r_566 c m1 w1 m2 w2 m3 w3 m4 w4 m5 w5 m9 w9 m18 m19 m20 m22 x0 x1 x2 x3 x4 x8) (r_567 c m1 w1 m2 w2 m3 w3 m4 w4 m5 w5 m9 w9 m18 m22 x0 x1 x2 x3 x4 x8) (r_635 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4718 c m1 w1 m2 w2 m3 w3 m21 x0 x1 x2)) : FVec Ideal S64x256 .bf16) (ix2 j e)
    = ogF Q K V G NG R (T 3) 3 3 j e :=
  ogC_at (argOk_right (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 3) (128 * 3)) (fun a l => L.g 192 384 _ a l) (fun _ _ => L.real _ _))
    (v3714 c m1 w1 m2 w2 m3 w3 m18 x0 x1 x2) (v3715 c m1 w1 m2 w2 m3 w3 m19 x0 x1 x2) (v3716 c m1 w1 m2 w2 m3 w3 m20 x0 x1 x2) (r_635 c m1 w1 m2 w2 m3 w3 m4 w4 m5 w5 m9 w9 m19 m20 m22 m23 w23 x0 x1 x2 x3 x4 x8 xs6) _ (v4718 c m1 w1 m2 w2 m3 w3 m21 x0 x1 x2)
    (tl Q (64 * 3) (128 * 3)) (tl K (64 * 3) (128 * 3)) (tl V (64 * 3) (256 * 3)) (stF K V G (T 3) 3 3) (fun a l => L.q 192 384 _ a l) (fun a l => L.k 192 384 _ a l) (fun a l => L.v 192 768 _ a l) (st_3_3 L) NG L.ng (tl R (64 * 3) (256 * 3)) (fun a l => L.r 192 768 _ a l) j e

theorem st_3_4 (a : Fin 128) (e : Fin 256) : (r_637 c m1 w1 m2 w2 m3 w3 m4 w4 m5 w5 m9 w9 m19 m20 m22 m23 w23 x0 x1 x2 x3 x4 x8 xs6) (ix2 a e) = stF K V G (T 3) 3 4 a e :=
  stC_at (argOk_right (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 3) (128 * 3)) (fun a l => L.g 192 384 _ a l) (fun _ _ => L.real _ _))
    (v3715 c m1 w1 m2 w2 m3 w3 m19 x0 x1 x2) (v3716 c m1 w1 m2 w2 m3 w3 m20 x0 x1 x2) (r_635 c m1 w1 m2 w2 m3 w3 m4 w4 m5 w5 m9 w9 m19 m20 m22 m23 w23 x0 x1 x2 x3 x4 x8 xs6)
    (tl K (64 * 3) (128 * 3)) (tl V (64 * 3) (256 * 3)) (stF K V G (T 3) 3 3) (fun a l => L.k 192 384 _ a l) (fun a l => L.v 192 768 _ a l) (st_3_3 L) a e

theorem og_3_4 (j : Fin 64) (e : Fin 256) : ((k0_pay809 (r_574 c m1 w1 m2 w2 m3 w3 m4 w4 m5 w5 m9 w9 m18 m19 m20 m22 x0 x1 x2 x3 x4 x8) (r_575 c m1 w1 m2 w2 m3 w3 m4 w4 m5 w5 m9 w9 m18 m22 x0 x1 x2 x3 x4 x8) (r_637 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4742 c m1 w1 m2 w2 m3 w3 m21 x0 x1 x2)) : FVec Ideal S64x256 .bf16) (ix2 j e)
    = ogF Q K V G NG R (T 3) 3 4 j e :=
  ogC_at (argOk_left (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 4) (128 * 3)) (fun a l => L.g 256 384 _ a l) (fun _ _ => L.real _ _))
    (v3766 c m1 w1 m2 w2 m3 w3 m18 x0 x1 x2) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 w23 x0 x1 x2 x3 x4 x8 xs6) _ (v4742 c m1 w1 m2 w2 m3 w3 m21 x0 x1 x2)
    (tl Q (64 * 4) (128 * 3)) (tl K (64 * 4) (128 * 3)) (tl V (64 * 4) (256 * 3)) (stF K V G (T 3) 3 4) (fun a l => L.q 256 384 _ a l) (fun a l => L.k 256 384 _ a l) (fun a l => L.v 256 768 _ a l) (st_3_4 L) NG L.ng (tl R (64 * 4) (256 * 3)) (fun a l => L.r 256 768 _ a l) j e

theorem st_3_5 (a : Fin 128) (e : Fin 256) : (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 w23 x0 x1 x2 x3 x4 x8 xs6)) (ix2 a e) = stF K V G (T 3) 3 5 a e :=
  stC_at (argOk_left (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 4) (128 * 3)) (fun a l => L.g 256 384 _ a l) (fun _ _ => L.real _ _))
    (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 w23 x0 x1 x2 x3 x4 x8 xs6)
    (tl K (64 * 4) (128 * 3)) (tl V (64 * 4) (256 * 3)) (stF K V G (T 3) 3 4) (fun a l => L.k 256 384 _ a l) (fun a l => L.v 256 768 _ a l) (st_3_4 L) a e

theorem og_3_5 (j : Fin 64) (e : Fin 256) : ((k0_pay812 (r_639 c m1 w1 m2 w2 m3 w3 m4 w4 m5 w5 m9 w9 m10 w10 m18 m19 m20 m22 m23 w23 x0 x1 x2 x3 x4 x8 x9 xs6) (v4766 c m1 w1 m2 w2 m3 w3 m21 x0 x1 x2)) : FVec Ideal S64x256 .bf16) (ix2 j e)
    = ogF Q K V G NG R (T 3) 3 5 j e :=
  ogC_at (argOk_right (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 5) (128 * 3)) (fun a l => L.g 320 384 _ a l) (fun _ _ => L.real _ _))
    (v3818 c m1 w1 m2 w2 m3 w3 m18 x0 x1 x2) (v3819 c m1 w1 m2 w2 m3 w3 m19 x0 x1 x2) (v3820 c m1 w1 m2 w2 m3 w3 m20 x0 x1 x2) (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 w23 x0 x1 x2 x3 x4 x8 xs6)) _ (v4766 c m1 w1 m2 w2 m3 w3 m21 x0 x1 x2)
    (tl Q (64 * 5) (128 * 3)) (tl K (64 * 5) (128 * 3)) (tl V (64 * 5) (256 * 3)) (stF K V G (T 3) 3 5) (fun a l => L.q 320 384 _ a l) (fun a l => L.k 320 384 _ a l) (fun a l => L.v 320 768 _ a l) (st_3_5 L) NG L.ng (tl R (64 * 5) (256 * 3)) (fun a l => L.r 320 768 _ a l) j e

theorem st_3_6 (a : Fin 128) (e : Fin 256) : (r_638 c m1 w1 m2 w2 m3 w3 m4 w4 m5 w5 m9 w9 m19 m20 m22 m23 w23 x0 x1 x2 x3 x4 x8 xs6) (ix2 a e) = stF K V G (T 3) 3 6 a e :=
  stC_at (argOk_right (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 5) (128 * 3)) (fun a l => L.g 320 384 _ a l) (fun _ _ => L.real _ _))
    (v3819 c m1 w1 m2 w2 m3 w3 m19 x0 x1 x2) (v3820 c m1 w1 m2 w2 m3 w3 m20 x0 x1 x2) (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 w23 x0 x1 x2 x3 x4 x8 xs6))
    (tl K (64 * 5) (128 * 3)) (tl V (64 * 5) (256 * 3)) (stF K V G (T 3) 3 5) (fun a l => L.k 320 384 _ a l) (fun a l => L.v 320 768 _ a l) (st_3_5 L) a e

theorem og_3_6 (j : Fin 64) (e : Fin 256) : ((k0_pay816 (r_641 c m1 w1 m2 w2 m3 w3 m4 w4 m5 w5 m9 w9 m10 w10 m18 m19 m20 m22 m23 w23 x0 x1 x2 x3 x4 x8 x9 xs6) (v4805 c m1 w1 m2 w2 m3 w3 m21 x0 x1 x2)) : FVec Ideal S64x256 .bf16) (ix2 j e)
    = ogF Q K V G NG R (T 3) 3 6 j e :=
  ogC_at (argOk_left (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 6) (128 * 3)) (fun a l => L.g 384 384 _ a l) (fun _ _ => L.real _ _))
    (v3870 c m1 w1 m2 w2 m3 w3 m18 x0 x1 x2) (v3871 c m1 w1 m2 w2 m3 w3 m19 x0 x1 x2) (v3872 c m1 w1 m2 w2 m3 w3 m20 x0 x1 x2) (r_638 c m1 w1 m2 w2 m3 w3 m4 w4 m5 w5 m9 w9 m19 m20 m22 m23 w23 x0 x1 x2 x3 x4 x8 xs6) _ (v4805 c m1 w1 m2 w2 m3 w3 m21 x0 x1 x2)
    (tl Q (64 * 6) (128 * 3)) (tl K (64 * 6) (128 * 3)) (tl V (64 * 6) (256 * 3)) (stF K V G (T 3) 3 6) (fun a l => L.q 384 384 _ a l) (fun a l => L.k 384 384 _ a l) (fun a l => L.v 384 768 _ a l) (st_3_6 L) NG L.ng (tl R (64 * 6) (256 * 3)) (fun a l => L.r 384 768 _ a l) j e

theorem st_3_7 (a : Fin 128) (e : Fin 256) : (r_640 c m1 w1 m2 w2 m3 w3 m4 w4 m5 w5 m9 w9 m19 m20 m22 m23 w23 x0 x1 x2 x3 x4 x8 xs6) (ix2 a e) = stF K V G (T 3) 3 7 a e :=
  stC_at (argOk_left (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 6) (128 * 3)) (fun a l => L.g 384 384 _ a l) (fun _ _ => L.real _ _))
    (v3871 c m1 w1 m2 w2 m3 w3 m19 x0 x1 x2) (v3872 c m1 w1 m2 w2 m3 w3 m20 x0 x1 x2) (r_638 c m1 w1 m2 w2 m3 w3 m4 w4 m5 w5 m9 w9 m19 m20 m22 m23 w23 x0 x1 x2 x3 x4 x8 xs6)
    (tl K (64 * 6) (128 * 3)) (tl V (64 * 6) (256 * 3)) (stF K V G (T 3) 3 6) (fun a l => L.k 384 384 _ a l) (fun a l => L.v 384 768 _ a l) (st_3_6 L) a e

theorem og_3_7 (j : Fin 64) (e : Fin 256) : ((k0_pay1 (r_642 c m1 w1 m2 w2 m3 w3 m4 w4 m5 w5 m9 w9 m18 m19 m20 m22 m23 w23 x0 x1 x2 x3 x4 x8 xs6) (r_644 c m1 w1 m2 w2 m3 w3 m4 w4 m5 w5 m9 w9 m18 m19 m20 m22 m23 w23 x0 x1 x2 x3 x4 x8 xs6) cst_1109 (View.readAt (Elt Ideal) m10.view (Rect.unit ![0, 0] S1x256.size inb_S1x256_S1x256_0_0).toLoadRect (w10.unread x9)) (v4829 c m1 w1 m2 w2 m3 w3 m21 x0 x1 x2)) : FVec Ideal S64x256 .bf16) (ix2 j e)
    = ogF Q K V G NG R (T 3) 3 7 j e :=
  ogC_at (argOk_right (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 7) (128 * 3)) (fun a l => L.g 448 384 _ a l) (fun _ _ => L.real _ _))
    (v3922 c m1 w1 m2 w2 m3 w3 m18 x0 x1 x2) (v3923 c m1 w1 m2 w2 m3 w3 m19 x0 x1 x2) (v3924 c m1 w1 m2 w2 m3 w3 m20 x0 x1 x2) (r_640 c m1 w1 m2 w2 m3 w3 m4 w4 m5 w5 m9 w9 m19 m20 m22 m23 w23 x0 x1 x2 x3 x4 x8 xs6) _ (v4829 c m1 w1 m2 w2 m3 w3 m21 x0 x1 x2)
    (tl Q (64 * 7) (128 * 3)) (tl K (64 * 7) (128 * 3)) (tl V (64 * 7) (256 * 3)) (stF K V G (T 3) 3 7) (fun a l => L.q 448 384 _ a l) (fun a l => L.k 448 384 _ a l) (fun a l => L.v 448 768 _ a l) (st_3_7 L) NG L.ng (tl R (64 * 7) (256 * 3)) (fun a l => L.r 448 768 _ a l) j e

theorem st_3_8 (a : Fin 128) (e : Fin 256) : (r_643 c m1 w1 m2 w2 m3 w3 m4 w4 m5 w5 m9 w9 m19 m20 m22 m23 w23 x0 x1 x2 x3 x4 x8 xs6) (ix2 a e) = stF K V G (T 3) 3 8 a e :=
  stC_at (argOk_right (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 7) (128 * 3)) (fun a l => L.g 448 384 _ a l) (fun _ _ => L.real _ _))
    (v3923 c m1 w1 m2 w2 m3 w3 m19 x0 x1 x2) (v3924 c m1 w1 m2 w2 m3 w3 m20 x0 x1 x2) (r_640 c m1 w1 m2 w2 m3 w3 m4 w4 m5 w5 m9 w9 m19 m20 m22 m23 w23 x0 x1 x2 x3 x4 x8 xs6)
    (tl K (64 * 7) (128 * 3)) (tl V (64 * 7) (256 * 3)) (stF K V G (T 3) 3 7) (fun a l => L.k 448 384 _ a l) (fun a l => L.v 448 768 _ a l) (st_3_7 L) a e

/-- The gated output the body leaves. -/
theorem og_at (i : grid0.Coords) (hc0 : ¬cond0_0 i) (hc1 : ¬cond0_1 i) (p : Fin 512) (e : Fin 1024) :
    out0_B_15 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix2 p e) = ogB Q K V G NG R T p e := by
  unfold out0_B_15
  rw [View.read_writes_junk_eq_canon]
  show View.canon (Val := Elt Ideal) (s := S512x1024) (e := .bf16) [⟨Rect.unit (s := S512x1024) ![448, 768] ![64, 256] inb_S512x1024_S64x256_448_768, k0_pay1 (r_642 c m1 w1 m2 w2 m3 w3 m4 w4 m5 w5 m9 w9 m18 m19 m20 m22 m23 w23 x0 x1 x2 x3 x4 x8 xs6) (r_644 c m1 w1 m2 w2 m3 w3 m4 w4 m5 w5 m9 w9 m18 m19 m20 m22 m23 w23 x0 x1 x2 x3 x4 x8 xs6) cst_1109 (View.readAt (Elt Ideal) m10.view (Rect.unit ![0, 0] S1x256.size inb_S1x256_S1x256_0_0).toLoadRect (w10.unread x9)) (v4829 c m1 w1 m2 w2 m3 w3 m21 x0 x1 x2)⟩, ⟨Rect.unit (s := S512x1024) ![384, 768] S64x256.size inb_S512x1024_S64x256_384_768, k0_pay816 (r_641 c m1 w1 m2 w2 m3 w3 m4 w4 m5 w5 m9 w9 m10 w10 m18 m19 m20 m22 m23 w23 x0 x1 x2 x3 x4 x8 x9 xs6) (v4805 c m1 w1 m2 w2 m3 w3 m21 x0 x1 x2)⟩, ⟨Rect.unit (s := S512x1024) ![320, 768] S64x256.size inb_S512x1024_S64x256_320_768, k0_pay812 (r_639 c m1 w1 m2 w2 m3 w3 m4 w4 m5 w5 m9 w9 m10 w10 m18 m19 m20 m22 m23 w23 x0 x1 x2 x3 x4 x8 x9 xs6) (v4766 c m1 w1 m2 w2 m3 w3 m21 x0 x1 x2)⟩, ⟨Rect.unit (s := S512x1024) ![256, 768] S64x256.size inb_S512x1024_S64x256_256_768, k0_pay809 (r_574 c m1 w1 m2 w2 m3 w3 m4 w4 m5 w5 m9 w9 m18 m19 m20 m22 x0 x1 x2 x3 x4 x8) (r_575 c m1 w1 m2 w2 m3 w3 m4 w4 m5 w5 m9 w9 m18 m22 x0 x1 x2 x3 x4 x8) (r_637 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4742 c m1 w1 m2 w2 m3 w3 m21 x0 x1 x2)⟩, ⟨Rect.unit (s := S512x1024) ![192, 768] S64x256.size inb_S512x1024_S64x256_192_768, k0_pay807 (r_566 c m1 w1 m2 w2 m3 w3 m4 w4 m5 w5 m9 w9 m18 m19 m20 m22 x0 x1 x2 x3 x4 x8) (r_567 c m1 w1 m2 w2 m3 w3 m4 w4 m5 w5 m9 w9 m18 m22 x0 x1 x2 x3 x4 x8) (r_635 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4718 c m1 w1 m2 w2 m3 w3 m21 x0 x1 x2)⟩, ⟨Rect.unit (s := S512x1024) ![128, 768] S64x256.size inb_S512x1024_S64x256_128_768, k0_pay805 (r_634 c m1 w1 m2 w2 m3 w3 m4 w4 m5 w5 m9 w9 m18 m19 m20 m22 m23 w23 x0 x1 x2 x3 x4 x8 xs6) (r_636 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4694 c m1 w1 m2 w2 m3 w3 m21 x0 x1 x2)⟩, ⟨Rect.unit (s := S512x1024) ![64, 768] S64x256.size inb_S512x1024_S64x256_64_768, k0_pay801 (r_551 c m1 w1 m2 w2 m3 w3 m4 w4 m5 w5 m9 w9 m18 m19 m20 m22 x0 x1 x2 x3 x4 x8) (r_552 c m1 w1 m2 w2 m3 w3 m4 w4 m5 w5 m9 w9 m18 m22 x0 x1 x2 x3 x4 x8) (r_632 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4670 c m1 w1 m2 w2 m3 w3 m21 x0 x1 x2)⟩, ⟨Rect.unit (s := S512x1024) ![0, 768] S64x256.size inb_S512x1024_S64x256_0_768, k0_pay799 (r_633 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4646 c m1 w1 m2 w2 m3 w3 m21 x0 x1 x2)⟩, ⟨Rect.unit (s := S512x1024) ![448, 512] S64x256.size inb_S512x1024_S64x256_448_512, r_631 c m1 w1 m2 w2 m3 w3 m4 w4 m5 w5 m9 w9 m10 w10 m18 m19 m20 m21 m22 m23 w23 x0 x1 x2 x3 x4 x8 x9 xs6⟩, ⟨Rect.unit (s := S512x1024) ![384, 512] S64x256.size inb_S512x1024_S64x256_384_512, k0_pay791 (r_628 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4578 c m1 w1 m2 w2 m3 w3 m21 x0 x1 x2)⟩, ⟨Rect.unit (s := S512x1024) ![320, 512] S64x256.size inb_S512x1024_S64x256_320_512, k0_pay788 (r_523 c m1 w1 m2 w2 m3 w3 m4 w4 m5 w5 m9 w9 m18 m19 m20 m22 x0 x1 x2 x3 x4 x8) (r_524 c m1 w1 m2 w2 m3 w3 m4 w4 m5 w5 m9 w9 m18 m22 x0 x1 x2 x3 x4 x8) (r_626 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4554 c m1 w1 m2 w2 m3 w3 m21 x0 x1 x2)⟩, ⟨Rect.unit (s := S512x1024) ![256, 512] S64x256.size inb_S512x1024_S64x256_256_512, k0_pay786 (r_625 c m1 w1 m2 w2 m3 w3 m4 w4 m5 w5 m9 w9 m18 m19 m20 m22 m23 w23 x0 x1 x2 x3 x4 x8 xs6) (r_627 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4530 c m1 w1 m2 w2 m3 w3 m21 x0 x1 x2)⟩, ⟨Rect.unit (s := S512x1024) ![192, 512] S64x256.size inb_S512x1024_S64x256_192_512, k0_pay782 (r_509 c m1 w1 m2 w2 m3 w3 m4 w4 m5 w5 m9 w9 m18 m19 m20 m22 x0 x1 x2 x3 x4 x8) (r_510 c m1 w1 m2 w2 m3 w3 m4 w4 m5 w5 m9 w9 m18 m22 x0 x1 x2 x3 x4 x8) (r_623 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4506 c m1 w1 m2 w2 m3 w3 m21 x0 x1 x2)⟩, ⟨Rect.unit (s := S512x1024) ![128, 512] S64x256.size inb_S512x1024_S64x256_128_512, k0_pay780 (r_624 c m1 w1 m2 w2 m3 w3 m4 w4 m5 w5 m9 w9 m10 w10 m18 m19 m20 m22 m23 w23 x0 x1 x2 x3 x4 x8 x9 xs6) (v4482 c m1 w1 m2 w2 m3 w3 m21 x0 x1 x2)⟩, ⟨Rect.unit (s := S512x1024) ![64, 512] S64x256.size inb_S512x1024_S64x256_64_512, r_621 c m1 w1 m2 w2 m3 w3 m4 w4 m5 w5 m9 w9 m10 w10 m18 m19 m20 m21 m22 m23 w23 x0 x1 x2 x3 x4 x8 x9 xs6⟩, ⟨Rect.unit (s := S512x1024) ![0, 512] S64x256.size inb_S512x1024_S64x256_0_512, k0_pay773 (r_618 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4416 c m1 w1 m2 w2 m3 w3 m21 x0 x1 x2)⟩, ⟨Rect.unit (s := S512x1024) ![448, 256] S64x256.size inb_S512x1024_S64x256_448_256, k0_pay768 (r_482 c m1 w1 m2 w2 m3 w3 m4 w4 m5 w5 m9 w9 m18 m19 m20 m22 x0 x1 x2 x3 x4 x8) (r_483 c m1 w1 m2 w2 m3 w3 m4 w4 m5 w5 m9 w9 m18 m22 x0 x1 x2 x3 x4 x8) (r_616 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4387 c m1 w1 m2 w2 m3 w3 m21 x0 x1 x2)⟩, ⟨Rect.unit (s := S512x1024) ![384, 256] S64x256.size inb_S512x1024_S64x256_384_256, k0_pay767 (r_617 c m1 w1 m2 w2 m3 w3 m4 w4 m5 w5 m9 w9 m10 w10 m18 m19 m20 m22 m23 w23 x0 x1 x2 x3 x4 x8 x9 xs6) (v4363 c m1 w1 m2 w2 m3 w3 m21 x0 x1 x2)⟩, ⟨Rect.unit (s := S512x1024) ![320, 256] S64x256.size inb_S512x1024_S64x256_320_256, k0_pay764 (r_465 c m1 w1 m2 w2 m3 w3 m4 w4 m5 w5 m9 w9 m18 m19 m20 m22 x0 x1 x2 x3 x4 x8) (r_615 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4339 c m1 w1 m2 w2 m3 w3 m21 x0 x1 x2)⟩, ⟨Rect.unit (s := S512x1024) ![256, 256] S64x256.size inb_S512x1024_S64x256_256_256, k0_pay761 (r_457 c m1 w1 m2 w2 m3 w3 m4 w4 m5 w5 m9 w9 m18 m19 m20 m22 x0 x1 x2 x3 x4 x8) (r_458 c m1 w1 m2 w2 m3 w3 m4 w4 m5 w5 m9 w9 m18 m22 x0 x1 x2 x3 x4 x8) (r_611 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4315 c m1 w1 m2 w2 m3 w3 m21 x0 x1 x2)⟩, ⟨Rect.unit (s := S512x1024) ![192, 256] S64x256.size inb_S512x1024_S64x256_192_256, k0_pay757 (r_612 c m1 w1 m2 w2 m3 w3 m4 w4 m5 w5 m9 w9 m10 w10 m18 m19 m20 m22 m23 w23 x0 x1 x2 x3 x4 x8 x9 xs6) (v4285 c m1 w1 m2 w2 m3 w3 m21 x0 x1 x2)⟩, ⟨Rect.unit (s := S512x1024) ![128, 256] S64x256.size inb_S512x1024_S64x256_128_256, k0_pay754 (r_443 c m1 w1 m2 w2 m3 w3 m4 w4 m5 w5 m9 w9 m18 m19 m20 m22 x0 x1 x2 x3 x4 x8) (r_444 c m1 w1 m2 w2 m3 w3 m4 w4 m5 w5 m9 w9 m18 m22 x0 x1 x2 x3 x4 x8) (r_610 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4261 c m1 w1 m2 w2 m3 w3 m21 x0 x1 x2)⟩, ⟨Rect.unit (s := S512x1024) ![64, 256] S64x256.size inb_S512x1024_S64x256_64_256, k0_pay752 (r_436 c m1 w1 m2 w2 m3 w3 m4 w4 m5 w5 m9 w9 m18 m19 m20 m22 x0 x1 x2 x3 x4 x8) (r_437 c m1 w1 m2 w2 m3 w3 m4 w4 m5 w5 m9 w9 m18 m22 x0 x1 x2 x3 x4 x8) (r_608 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4237 c m1 w1 m2 w2 m3 w3 m21 x0 x1 x2)⟩, ⟨Rect.unit (s := S512x1024) ![0, 256] S64x256.size inb_S512x1024_S64x256_0_256, k0_pay750 (r_607 c m1 w1 m2 w2 m3 w3 m4 w4 m5 w5 m9 w9 m18 m19 m20 m22 m23 w23 x0 x1 x2 x3 x4 x8 xs6) (r_609 c m1 w1 m2 w2 m3 w3 m4 w4 m5 w5 m9 w9 m18 m19 m20 m22 m23 w23 x0 x1 x2 x3 x4 x8 xs6) (View.readAt (Elt Ideal) m10.view (Rect.unit ![0, 0] S1x256.size inb_S1x256_S1x256_0_0).toLoadRect (w10.unread x9)) (v4213 c m1 w1 m2 w2 m3 w3 m21 x0 x1 x2)⟩, ⟨Rect.unit (s := S512x1024) ![448, 0] S64x256.size inb_S512x1024_S64x256_448_0, k0_pay744 (r_425 c m1 w1 m2 w2 m3 w3 m4 w4 m5 w5 m9 w9 m18 m19 m20 m22 x0 x1 x2 x3 x4 x8) (r_426 c m1 w1 m2 w2 m3 w3 m4 w4 m5 w5 m9 w9 m18 m22 x0 x1 x2 x3 x4 x8) (r_605 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4184 c m1 w1 m2 w2 m3 w3 m21 x0 x1 x2)⟩, ⟨Rect.unit (s := S512x1024) ![384, 0] S64x256.size inb_S512x1024_S64x256_384_0, r_606 c m1 w1 m2 w2 m3 w3 m4 w4 m5 w5 m9 w9 m10 w10 m18 m19 m20 m21 m22 m23 w23 x0 x1 x2 x3 x4 x8 x9 xs6⟩, ⟨Rect.unit (s := S512x1024) ![320, 0] S64x256.size inb_S512x1024_S64x256_320_0, k0_pay739 (r_410 c m1 w1 m2 w2 m3 w3 m4 w4 m5 w5 m9 w9 m18 m19 m20 m22 x0 x1 x2 x3 x4 x8) (r_411 c m1 w1 m2 w2 m3 w3 m4 w4 m5 w5 m9 w9 m18 m22 x0 x1 x2 x3 x4 x8) (r_601 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4118 c m1 w1 m2 w2 m3 w3 m21 x0 x1 x2)⟩, ⟨Rect.unit (s := S512x1024) ![256, 0] S64x256.size inb_S512x1024_S64x256_256_0, k0_pay737 (r_600 c m1 w1 m2 w2 m3 w3 m4 w4 m5 w5 m9 w9 m18 m19 m20 m22 m23 w23 x0 x1 x2 x3 x4 x8 xs6) (r_602 c m1 w1 m2 w2 m3 w3 m4 w4 m5 w5 m9 w9 m18 m19 m20 m22 m23 w23 x0 x1 x2 x3 x4 x8 xs6) k0_pay736 (View.readAt (Elt Ideal) m10.view (Rect.unit ![0, 0] S1x256.size inb_S1x256_S1x256_0_0).toLoadRect (w10.unread x9)) (v4094 c m1 w1 m2 w2 m3 w3 m21 x0 x1 x2)⟩, ⟨Rect.unit (s := S512x1024) ![192, 0] S64x256.size inb_S512x1024_S64x256_192_0, k0_pay732 (r_397 c m1 w1 m2 w2 m3 w3 m4 w4 m5 w5 m9 w9 m18 m19 m20 m22 x0 x1 x2 x3 x4 x8) (r_398 c m1 w1 m2 w2 m3 w3 m4 w4 m5 w5 m9 w9 m18 m22 x0 x1 x2 x3 x4 x8) (r_597 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4070 c m1 w1 m2 w2 m3 w3 m21 x0 x1 x2)⟩, ⟨Rect.unit (s := S512x1024) ![128, 0] S64x256.size inb_S512x1024_S64x256_128_0, k0_pay730 (r_598 c m1 w1 m2 w2 m3 w3 m4 w4 m5 w5 m9 w9 m18 m19 m20 m22 m23 w23 x0 x1 x2 x3 x4 x8 xs6) (r_599 c m10 w10 x9) (v4046 c m1 w1 m2 w2 m3 w3 m21 x0 x1 x2)⟩, ⟨Rect.unit (s := S512x1024) ![64, 0] S64x256.size inb_S512x1024_S64x256_64_0, k0_pay727 (r_386 c m1 w1 m2 w2 m3 w3 m4 w4 m5 w5 m9 w9 m18 m19 m20 m22 x0 x1 x2 x3 x4 x8) (r_387 c m1 w1 m2 w2 m3 w3 m4 w4 m5 w5 m9 w9 m18 m22 x0 x1 x2 x3 x4 x8) (r_595 c m1 w1 m2 w2 m3 w3 m4 w4 m5 w5 m9 w9 m19 m20 m22 m23 w23 x0 x1 x2 x3 x4 x8 xs6) (View.readAt (Elt Ideal) m10.view (Rect.unit ![0, 0] S1x256.size inb_S1x256_S1x256_0_0).toLoadRect (w10.unread x9)) (v4022 c m1 w1 m2 w2 m3 w3 m21 x0 x1 x2)⟩, ⟨Rect.unit (s := S512x1024) ![0, 0] S64x256.size inb_S512x1024_S64x256_0_0, r_596 c m1 w1 m2 w2 m3 w3 m4 w4 m5 w5 m9 w9 m10 w10 m18 m19 m20 m21 m22 m23 w23 x0 x1 x2 x3 x4 x8 x9 xs6⟩] (ix2 p e) = _
  canon_tiles x n
  · exact og_close (k := 3) (og_3_7 L) x rfl (by first | exact n0 | exact n0.trans (Nat.zero_add _).symm | omega) (by first | exact n1 | exact n1.trans (Nat.zero_add _).symm | omega)
  · exact og_close (k := 3) (og_3_6 L) x rfl (by first | exact n0 | exact n0.trans (Nat.zero_add _).symm | omega) (by first | exact n1 | exact n1.trans (Nat.zero_add _).symm | omega)
  · exact og_close (k := 3) (og_3_5 L) x rfl (by first | exact n0 | exact n0.trans (Nat.zero_add _).symm | omega) (by first | exact n1 | exact n1.trans (Nat.zero_add _).symm | omega)
  · exact og_close (k := 3) (og_3_4 L) x rfl (by first | exact n0 | exact n0.trans (Nat.zero_add _).symm | omega) (by first | exact n1 | exact n1.trans (Nat.zero_add _).symm | omega)
  · exact og_close (k := 3) (og_3_3 L) x rfl (by first | exact n0 | exact n0.trans (Nat.zero_add _).symm | omega) (by first | exact n1 | exact n1.trans (Nat.zero_add _).symm | omega)
  · exact og_close (k := 3) (og_3_2 L) x rfl (by first | exact n0 | exact n0.trans (Nat.zero_add _).symm | omega) (by first | exact n1 | exact n1.trans (Nat.zero_add _).symm | omega)
  · exact og_close (k := 3) (og_3_1 L) x rfl (by first | exact n0 | exact n0.trans (Nat.zero_add _).symm | omega) (by first | exact n1 | exact n1.trans (Nat.zero_add _).symm | omega)
  · exact og_close (k := 3) (og_3_0 L) x rfl (by first | exact n0 | exact n0.trans (Nat.zero_add _).symm | omega) (by first | exact n1 | exact n1.trans (Nat.zero_add _).symm | omega)
  · exact og_close (k := 2) (og_2_7 L) x rfl (by first | exact n0 | exact n0.trans (Nat.zero_add _).symm | omega) (by first | exact n1 | exact n1.trans (Nat.zero_add _).symm | omega)
  · exact og_close (k := 2) (og_2_6 L) x rfl (by first | exact n0 | exact n0.trans (Nat.zero_add _).symm | omega) (by first | exact n1 | exact n1.trans (Nat.zero_add _).symm | omega)
  · exact og_close (k := 2) (og_2_5 L) x rfl (by first | exact n0 | exact n0.trans (Nat.zero_add _).symm | omega) (by first | exact n1 | exact n1.trans (Nat.zero_add _).symm | omega)
  · exact og_close (k := 2) (og_2_4 L) x rfl (by first | exact n0 | exact n0.trans (Nat.zero_add _).symm | omega) (by first | exact n1 | exact n1.trans (Nat.zero_add _).symm | omega)
  · exact og_close (k := 2) (og_2_3 L) x rfl (by first | exact n0 | exact n0.trans (Nat.zero_add _).symm | omega) (by first | exact n1 | exact n1.trans (Nat.zero_add _).symm | omega)
  · exact og_close (k := 2) (og_2_2 L) x rfl (by first | exact n0 | exact n0.trans (Nat.zero_add _).symm | omega) (by first | exact n1 | exact n1.trans (Nat.zero_add _).symm | omega)
  · exact og_close (k := 2) (og_2_1 L) x rfl (by first | exact n0 | exact n0.trans (Nat.zero_add _).symm | omega) (by first | exact n1 | exact n1.trans (Nat.zero_add _).symm | omega)
  · exact og_close (k := 2) (og_2_0 L) x rfl (by first | exact n0 | exact n0.trans (Nat.zero_add _).symm | omega) (by first | exact n1 | exact n1.trans (Nat.zero_add _).symm | omega)
  · exact og_close (k := 1) (og_1_7 L) x rfl (by first | exact n0 | exact n0.trans (Nat.zero_add _).symm | omega) (by first | exact n1 | exact n1.trans (Nat.zero_add _).symm | omega)
  · exact og_close (k := 1) (og_1_6 L) x rfl (by first | exact n0 | exact n0.trans (Nat.zero_add _).symm | omega) (by first | exact n1 | exact n1.trans (Nat.zero_add _).symm | omega)
  · exact og_close (k := 1) (og_1_5 L) x rfl (by first | exact n0 | exact n0.trans (Nat.zero_add _).symm | omega) (by first | exact n1 | exact n1.trans (Nat.zero_add _).symm | omega)
  · exact og_close (k := 1) (og_1_4 L) x rfl (by first | exact n0 | exact n0.trans (Nat.zero_add _).symm | omega) (by first | exact n1 | exact n1.trans (Nat.zero_add _).symm | omega)
  · exact og_close (k := 1) (og_1_3 L) x rfl (by first | exact n0 | exact n0.trans (Nat.zero_add _).symm | omega) (by first | exact n1 | exact n1.trans (Nat.zero_add _).symm | omega)
  · exact og_close (k := 1) (og_1_2 L) x rfl (by first | exact n0 | exact n0.trans (Nat.zero_add _).symm | omega) (by first | exact n1 | exact n1.trans (Nat.zero_add _).symm | omega)
  · exact og_close (k := 1) (og_1_1 L) x rfl (by first | exact n0 | exact n0.trans (Nat.zero_add _).symm | omega) (by first | exact n1 | exact n1.trans (Nat.zero_add _).symm | omega)
  · exact og_close (k := 1) (og_1_0 L) x rfl (by first | exact n0 | exact n0.trans (Nat.zero_add _).symm | omega) (by first | exact n1 | exact n1.trans (Nat.zero_add _).symm | omega)
  · exact og_close (k := 0) (og_0_7 L) x rfl (by first | exact n0 | exact n0.trans (Nat.zero_add _).symm | omega) (by first | exact n1 | exact n1.trans (Nat.zero_add _).symm | omega)
  · exact og_close (k := 0) (og_0_6 L) x rfl (by first | exact n0 | exact n0.trans (Nat.zero_add _).symm | omega) (by first | exact n1 | exact n1.trans (Nat.zero_add _).symm | omega)
  · exact og_close (k := 0) (og_0_5 L) x rfl (by first | exact n0 | exact n0.trans (Nat.zero_add _).symm | omega) (by first | exact n1 | exact n1.trans (Nat.zero_add _).symm | omega)
  · exact og_close (k := 0) (og_0_4 L) x rfl (by first | exact n0 | exact n0.trans (Nat.zero_add _).symm | omega) (by first | exact n1 | exact n1.trans (Nat.zero_add _).symm | omega)
  · exact og_close (k := 0) (og_0_3 L) x rfl (by first | exact n0 | exact n0.trans (Nat.zero_add _).symm | omega) (by first | exact n1 | exact n1.trans (Nat.zero_add _).symm | omega)
  · exact og_close (k := 0) (og_0_2 L) x rfl (by first | exact n0 | exact n0.trans (Nat.zero_add _).symm | omega) (by first | exact n1 | exact n1.trans (Nat.zero_add _).symm | omega)
  · exact og_close (k := 0) (og_0_1 L) x rfl (by first | exact n0 | exact n0.trans (Nat.zero_add _).symm | omega) (by first | exact n1 | exact n1.trans (Nat.zero_add _).symm | omega)
  · exact og_close (k := 0) (og_0_0 L) x rfl (by first | exact n0 | exact n0.trans (Nat.zero_add _).symm | omega) (by first | exact n1 | exact n1.trans (Nat.zero_add _).symm | omega)

/-- The state the body leaves. -/
theorem state_at (i : grid0.Coords) (hc0 : ¬cond0_0 i) (hc1 : ¬cond0_1 i) (h : Fin 4) (a : Fin 128) (e : Fin 256) :
    sout0_B_6 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix3 h a e) = stF K V G (T h) h.val 8 a e := by
  unfold sout0_B_6
  rw [View.read_writes_junk_eq_canon]
  exact canon_states (stC (argC (half1 (pairC (r_1 c m9 w9 x8) (v584 c m1 w1 m2 w2 m3 w3 m4 w4 m5 w5 m22 x0 x1 x2 x3 x4) (v590 c m1 w1 m2 w2 m3 w3 m4 w4 m5 w5 m22 x0 x1 x2 x3 x4)))) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 w23 x0 x1 x2 x3 x4 x8 xs6)) (stC (argC (half1 (pairC (r_1 c m9 w9 x8) (v1106 c m1 w1 m2 w2 m3 w3 m4 w4 m5 w5 m22 x0 x1 x2 x3 x4) (v1112 c m1 w1 m2 w2 m3 w3 m4 w4 m5 w5 m22 x0 x1 x2 x3 x4)))) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 w23 x0 x1 x2 x3 x4 x8 xs6)) (r_630 c m1 w1 m2 w2 m3 w3 m4 w4 m5 w5 m9 w9 m19 m20 m22 m23 w23 x0 x1 x2 x3 x4 x8 xs6) (r_643 c m1 w1 m2 w2 m3 w3 m4 w4 m5 w5 m9 w9 m19 m20 m22 m23 w23 x0 x1 x2 x3 x4 x8 xs6) _ (fun h a e => stF K V G (T h) h.val 8 a e) h a e (st_0_8 L a e) (st_1_8 L a e) (st_2_8 L a e) (st_3_8 L a e)

end Cert.Gla.CaseB
-- ==== Proof.GlaRunB.lean ====
/- What the body reads back in case B, and the five results of the projection that it leaves. -/
module

public import proofs.«01_k».proof.Proof.GlaCaseB
public import proofs.«01_k».proof.Proof.GlaFields

@[expose] public section

set_option maxRecDepth 16384

noncomputable section

namespace Cert.Gla.CaseB

open Cert.KernelGlaIdeal Cert.KernelGlaIdeal.Gen Cert.KernelGlaIdeal.Gen.kernelRun0_B.sl
open Idealize.ShloMosaic Idealize.ShloMosaic.TcCoe Idealize.SL.Sem
open Cert.Tail (normRow)

variable {c : Dev nD} {i : grid0.Coords} {m1 : Memref sig .tc .vmem S512x1024 .f32} {w1 : m1.IsWhole} {m2 : Memref sig .tc .vmem S1x1024 .f32} {w2 : m2.IsWhole} {m3 : Memref sig .tc .vmem S1024x8208 .bf16} {w3 : m3.IsWhole} {m4 : Memref sig .tc .vmem S128x512 .bf16} {w4 : m4.IsWhole} {m5 : Memref sig .tc .vmem S1x512 .f32} {w5 : m5.IsWhole} {m6 : Memref sig .tc .vmem S1x256 .f32} {w6 : m6.IsWhole} {m7 : Memref sig .tc .vmem S1x256 .f32} {w7 : m7.IsWhole} {m8 : Memref sig .tc .vmem S256x256 .bf16} {w8 : m8.IsWhole} {m9 : Memref sig .tc .vmem S256x128 .bf16} {w9 : m9.IsWhole} {m10 : Memref sig .tc .vmem S1x256 .f32} {w10 : m10.IsWhole} {m11 : Memref sig .tc .vmem S512x1024 .bf16} {w11 : m11.IsWhole} {m12 : Memref sig .tc .vmem S512x1024 .bf16} {w12 : m12.IsWhole} {m13 : Memref sig .tc .vmem S512x1024 .bf16} {w13 : m13.IsWhole} {m14 : Memref sig .tc .vmem S512x1024 .bf16} {w14 : m14.IsWhole} {m15 : Memref sig .tc .vmem S512x1024 .bf16} {w15 : m15.IsWhole} {m16 : Memref sig .tc .vmem S512x1024 .bf16} {w16 : m16.IsWhole} {m17 : Memref sig .tc .vmem S1024x2048 .bf16} {w17 : m17.IsWhole} {m18 : Memref sig .tc .vmem S512x512 .bf16} {w18 : m18.IsWhole} {m19 : Memref sig .tc .vmem S512x512 .bf16} {w19 : m19.IsWhole} {m20 : Memref sig .tc .vmem S512x1024 .bf16} {w20 : m20.IsWhole} {m21 : Memref sig .tc .vmem S512x1024 .bf16} {w21 : m21.IsWhole} {m22 : Memref sig .tc .vmem S512x512 .f32} {w22 : m22.IsWhole} {m23 : Memref sig .tc .vmem S4x128x256 .f32} {w23 : m23.IsWhole} {x0 : Vec Ideal S512x1024 .f32} {x1 : Vec Ideal S1x1024 .f32} {x2 : Vec Ideal S1024x8208 .bf16} {x3 : Vec Ideal S128x512 .bf16} {x4 : Vec Ideal S1x512 .f32} {x5 : Vec Ideal S1x256 .f32} {x6 : Vec Ideal S1x256 .f32} {x7 : Vec Ideal S256x256 .bf16} {x8 : Vec Ideal S256x128 .bf16} {x9 : Vec Ideal S1x256 .f32} {xs0 : Vec Ideal S1024x2048 .bf16} {xs6 : Vec Ideal S4x128x256 .f32}

theorem row_at (p : Fin 512) (k : Fin 1024) : r c m1 w1 m2 w2 x0 x1 (ix2 p k) = normRow (fun k => x0 (ix2 p k)) (fun k => x1 (ix2 0 k)) k :=
  normed_at m1 w1 m2 w2 _ _ p k

theorem r_2_at (p l : Fin 512) (n : Fin 8208) (hn : n.val = 3072 + l.val) : (r_2 c m1 w1 m2 w2 m3 w3 x0 x1 x2) (ix2 p l) = bproj x0 x1 x2 p n :=
  proj512_at (H := r c m1 w1 m2 w2 x0 x1) row_at m3 w3 3072 _ p l n hn

theorem r_3_at (p l : Fin 512) (n : Fin 8208) (hn : n.val = 3584 + l.val) : (r_3 c m1 w1 m2 w2 m3 w3 x0 x1 x2) (ix2 p l) = bproj x0 x1 x2 p n :=
  proj512_at (H := r c m1 w1 m2 w2 x0 x1) row_at m3 w3 3584 _ p l n hn

theorem r_4_at (p l : Fin 512) (n : Fin 8208) (hn : n.val = 4096 + l.val) : (r_4 c m1 w1 m2 w2 m3 w3 x0 x1 x2) (ix2 p l) = bproj x0 x1 x2 p n :=
  proj512_at (H := r c m1 w1 m2 w2 x0 x1) row_at m3 w3 4096 _ p l n hn

theorem r_5_at (p l : Fin 512) (n : Fin 8208) (hn : n.val = 5632 + l.val) : (r_5 c m1 w1 m2 w2 m3 w3 x0 x1 x2) (ix2 p l) = bproj x0 x1 x2 p n :=
  proj512_at (H := r c m1 w1 m2 w2 x0 x1) row_at m3 w3 5632 _ p l n hn

theorem r_6_at (p l : Fin 512) (n : Fin 8208) (hn : n.val = 2048 + l.val) : (r_6 c m1 w1 m2 w2 m3 w3 x0 x1 x2) (ix2 p l) = bproj x0 x1 x2 p n :=
  proj512_at (H := r c m1 w1 m2 w2 x0 x1) row_at m3 w3 2048 _ p l n hn

theorem r_9_at (p l : Fin 512) (n : Fin 8208) (hn : n.val = 2560 + l.val) : (r_9 c m1 w1 m2 w2 m3 w3 x0 x1 x2) (ix2 p l) = bproj x0 x1 x2 p n :=
  proj512_at (H := r c m1 w1 m2 w2 x0 x1) row_at m3 w3 2560 _ p l n hn

theorem r_8_at (p : Fin 512) (l : Fin 256) (n : Fin 8208) (hn : n.val = 0 + l.val) : (r_8 c m1 w1 m2 w2 m3 w3 x0 x1 x2) (ix2 p l) = bproj x0 x1 x2 p n :=
  proj256_at (H := r c m1 w1 m2 w2 x0 x1) row_at m3 w3 0 _ p l n hn

theorem r_152_at (p : Fin 512) (l : Fin 256) (n : Fin 8208) (hn : n.val = 256 + l.val) : (r_152 c m1 w1 m2 w2 m3 w3 x0 x1 x2) (ix2 p l) = bproj x0 x1 x2 p n :=
  proj256_at (H := r c m1 w1 m2 w2 x0 x1) row_at m3 w3 256 _ p l n hn

theorem r_390_at (p : Fin 512) (l : Fin 256) (n : Fin 8208) (hn : n.val = 512 + l.val) : (r_390 c m1 w1 m2 w2 m3 w3 x0 x1 x2) (ix2 p l) = bproj x0 x1 x2 p n :=
  proj256_at (H := r c m1 w1 m2 w2 x0 x1) row_at m3 w3 512 _ p l n hn

theorem r_469_at (p : Fin 512) (l : Fin 256) (n : Fin 8208) (hn : n.val = 768 + l.val) : (r_469 c m1 w1 m2 w2 m3 w3 x0 x1 x2) (ix2 p l) = bproj x0 x1 x2 p n :=
  proj256_at (H := r c m1 w1 m2 w2 x0 x1) row_at m3 w3 768 _ p l n hn

theorem r_555_at (p : Fin 512) (l : Fin 256) (n : Fin 8208) (hn : n.val = 1024 + l.val) : (r_555 c m1 w1 m2 w2 m3 w3 x0 x1 x2) (ix2 p l) = bproj x0 x1 x2 p n :=
  proj256_at (H := r c m1 w1 m2 w2 x0 x1) row_at m3 w3 1024 _ p l n hn

theorem r_604_at (p : Fin 512) (l : Fin 256) (n : Fin 8208) (hn : n.val = 1280 + l.val) : (r_604 c m1 w1 m2 w2 m3 w3 x0 x1 x2) (ix2 p l) = bproj x0 x1 x2 p n :=
  proj256_at (H := r c m1 w1 m2 w2 x0 x1) row_at m3 w3 1280 _ p l n hn

theorem r_613_at (p : Fin 512) (l : Fin 256) (n : Fin 8208) (hn : n.val = 1536 + l.val) : (r_613 c m1 w1 m2 w2 m3 w3 x0 x1 x2) (ix2 p l) = bproj x0 x1 x2 p n :=
  proj256_at (H := r c m1 w1 m2 w2 x0 x1) row_at m3 w3 1536 _ p l n hn

theorem r_622_at (p : Fin 512) (l : Fin 256) (n : Fin 8208) (hn : n.val = 1792 + l.val) : (r_622 c m1 w1 m2 w2 m3 w3 x0 x1 x2) (ix2 p l) = bproj x0 x1 x2 p n :=
  proj256_at (H := r c m1 w1 m2 w2 x0 x1) row_at m3 w3 1792 _ p l n hn

theorem v_left (p l : Fin 512) : (k0_pay20 (r_4 c m1 w1 m2 w2 m3 w3 x0 x1 x2)) (ix2 p l) = bV x0 x1 x2 p ⟨l.val, by omega⟩ :=
  (kept_at _ _ _).trans (r_4_at p l _ rfl)

theorem v_right (p l : Fin 512) : (k0_pay22 (r c m1 w1 m2 w2 x0 x1) (View.readAt (Elt Ideal) m3.view (Rect.unit (s := S1024x8208) ![0, 4608] S1024x512.size inb_S1024x8208_S1024x512_0_4608).toLoadRect (w3.unread x2))) (ix2 p l) = bV x0 x1 x2 p ⟨512 + l.val, by omega⟩ :=
  (kept_at _ _ _).trans (proj512_at (H := r c m1 w1 m2 w2 x0 x1) row_at m3 w3 4608 _ p l _ (show 4096 + (512 + l.val) = 4608 + l.val by omega))

theorem r_left (p l : Fin 512) : (k0_pay25 (r_7 c m1 w1 m2 w2 m3 w3 x0 x1 x2)) (ix2 p l) = bR x0 x1 x2 p ⟨l.val, by omega⟩ :=
  (silu_at _ _ _).trans (congrArg silu (proj512_at (H := r c m1 w1 m2 w2 x0 x1) row_at m3 w3 5120 _ p l _ rfl))

theorem r_right (p l : Fin 512) : (k0_pay27 (r_5 c m1 w1 m2 w2 m3 w3 x0 x1 x2)) (ix2 p l) = bR x0 x1 x2 p ⟨512 + l.val, by omega⟩ :=
  (silu_at _ _ _).trans (congrArg silu (r_5_at p l _ (show 5120 + (512 + l.val) = 5632 + l.val by omega)))

/-- What the body reads back. -/
theorem reads (hl : IsLevels x8) (hg : ∀ p l, ∃ r : ℝ, bG x0 x1 x2 x3 x4 p l = (r : EReal)) :
    Reads c m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 x0 x1 x2 x3 x4 x5 x6 x7 x8 x9 xs0 xs6 (bQ x0 x1 x2) (bK x0 x1 x2) (bV x0 x1 x2) (bG x0 x1 x2 x3 x4) (bR x0 x1 x2) (fun a => x9 (ix2 0 a)) (fun h a e => xs6 (ix3 h a e)) where
  lev := (congrArg (fun M => IsLevels (k0_pay6 (F := Ideal) M)) (full_at m9 w9 x8 _ _ (fun a => match a with | 0 => rfl | 1 => rfl))).mpr (levels_kept x8 hl)
  real := hg
  q r0 c0 inb j l := (read_one m18.view _ r0 c0 _ inb j l).trans ((scaled_at _ _ _).trans (congrArg (· * Ideal.ofBits .f32 0x3DB504F3#32) (r_2_at _ _ _ rfl)))
  k r0 c0 inb j l := (read_one m19.view _ r0 c0 _ inb j l).trans ((kept_at _ _ _).trans (r_3_at _ _ _ rfl))
  v r0 c0 inb j l := read_two m20.view (bV x0 x1 x2) _ _ v_left v_right r0 c0 _ _ inb j l
  r r0 c0 inb j l := read_two m21.view (bR x0 x1 x2) _ _ r_left r_right r0 c0 _ _ inb j l
  g r0 c0 inb j l := (read_one m22.view _ r0 c0 _ inb j l).trans (logit_at (H := r c m1 w1 m2 w2 x0 x1) row_at m3 w3 _ m4 w4 x3 _ m5 w5 x4 _ _ _)
  ng a := congrFun (full_at m10 w10 x9 _ _ (fun a => match a with | 0 => rfl | 1 => rfl)) (ix2 0 a)
  t0 a e := state_load m23 w23 xs6 0 0 rfl _ a e
  t1 a e := state_load m23 w23 xs6 1 1 rfl _ a e
  t2 a e := state_load m23 w23 xs6 2 2 rfl _ a e
  t3 a e := state_load m23 w23 xs6 3 3 rfl _ a e

theorem q_tile0 (p : Fin 512) (l : Fin 256) : ((r_153 c m1 w1 m2 w2 m3 w3 m6 w6 m8 w8 x0 x1 x2 x5 x7) : FVec Ideal S512x256 .bf16) (ix2 p l) = bH x0 x1 x2 0 (by decide) x5 x7 p ⟨256 * 0 + l.val, by omega⟩ :=
  headed_at (y := (r_8 c m1 w1 m2 w2 m3 w3 x0 x1 x2)) 0 (by decide) 0 (by decide) (fun p l => r_8_at p l _ (show 0 + (256 * 0 + l.val) = 0 + l.val by omega)) m6 w6 x5 _ m8 w8 x7 _ p l

theorem q_tile1 (p : Fin 512) (l : Fin 256) : ((k0_pay504 (r_152 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))) : FVec Ideal S512x256 .bf16) (ix2 p l) = bH x0 x1 x2 0 (by decide) x5 x7 p ⟨256 * 1 + l.val, by omega⟩ :=
  headed_at (y := (r_152 c m1 w1 m2 w2 m3 w3 x0 x1 x2)) 0 (by decide) 1 (by decide) (fun p l => r_152_at p l _ (show 0 + (256 * 1 + l.val) = 256 + l.val by omega)) m6 w6 x5 _ m8 w8 x7 _ p l

theorem q_tile2 (p : Fin 512) (l : Fin 256) : ((k0_pay589 (r_470 c m6 w6 x5) (r_471 c m1 w1 m2 w2 m3 w3 m8 w8 x0 x1 x2 x7)) : FVec Ideal S512x256 .bf16) (ix2 p l) = bH x0 x1 x2 0 (by decide) x5 x7 p ⟨256 * 2 + l.val, by omega⟩ :=
  headed_at (y := (r_390 c m1 w1 m2 w2 m3 w3 x0 x1 x2)) 0 (by decide) 2 (by decide) (fun p l => r_390_at p l _ (show 0 + (256 * 2 + l.val) = 512 + l.val by omega)) m6 w6 x5 _ m8 w8 x7 _ p l

theorem q_tile3 (p : Fin 512) (l : Fin 256) : ((k0_pay680 (r_469 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))) : FVec Ideal S512x256 .bf16) (ix2 p l) = bH x0 x1 x2 0 (by decide) x5 x7 p ⟨256 * 3 + l.val, by omega⟩ :=
  headed_at (y := (r_469 c m1 w1 m2 w2 m3 w3 x0 x1 x2)) 0 (by decide) 3 (by decide) (fun p l => r_469_at p l _ (show 0 + (256 * 3 + l.val) = 768 + l.val by omega)) m6 w6 x5 _ m8 w8 x7 _ p l

theorem q_at (i : grid0.Coords) (hc0 : ¬cond0_0 i) (hc1 : ¬cond0_1 i) (p : Fin 512) (e : Fin 1024) :
    out0_B_10 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix2 p e) = bH x0 x1 x2 0 (by decide) x5 x7 p e := by
  unfold out0_B_10
  rw [View.read_writes_junk_eq_canon]
  show View.canon (Val := Elt Ideal) (s := S512x1024) (e := .bf16) [⟨Rect.unit (s := S512x1024) ![0, 768] S512x256.size inb_S512x1024_S512x256_0_768, k0_pay680 (r_469 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))⟩, ⟨Rect.unit (s := S512x1024) ![0, 512] S512x256.size inb_S512x1024_S512x256_0_512, k0_pay589 (r_470 c m6 w6 x5) (r_471 c m1 w1 m2 w2 m3 w3 m8 w8 x0 x1 x2 x7)⟩, ⟨Rect.unit (s := S512x1024) ![0, 256] S512x256.size inb_S512x1024_S512x256_0_256, k0_pay504 (r_152 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))⟩, ⟨Rect.unit (s := S512x1024) ![0, 0] S512x256.size inb_S512x1024_S512x256_0_0, r_153 c m1 w1 m2 w2 m3 w3 m6 w6 m8 w8 x0 x1 x2 x5 x7⟩] (ix2 p e) = _
  exact tiles_at (bH x0 x1 x2 0 (by decide) x5 x7) _ _ _ _ (fun p l => (q_tile0 p l).trans (congrArg _ (Fin.ext (Nat.zero_add _)))) q_tile1 q_tile2 q_tile3 _ _ _ _ p e

theorem k_tile0 (p : Fin 512) (l : Fin 256) : ((k0_pay741 (r_555 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 0 + l.val, by omega⟩ :=
  headed_at (y := (r_555 c m1 w1 m2 w2 m3 w3 x0 x1 x2)) 1024 (by decide) 0 (by decide) (fun p l => r_555_at p l _ (show 1024 + (256 * 0 + l.val) = 1024 + l.val by omega)) m7 w7 x6 _ m8 w8 x7 _ p l

theorem k_tile1 (p : Fin 512) (l : Fin 256) : ((k0_pay777 (r_604 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 1 + l.val, by omega⟩ :=
  headed_at (y := (r_604 c m1 w1 m2 w2 m3 w3 x0 x1 x2)) 1024 (by decide) 1 (by decide) (fun p l => r_604_at p l _ (show 1024 + (256 * 1 + l.val) = 1280 + l.val by omega)) m7 w7 x6 _ m8 w8 x7 _ p l

theorem k_tile2 (p : Fin 512) (l : Fin 256) : ((k0_pay795 (r_613 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 2 + l.val, by omega⟩ :=
  headed_at (y := (r_613 c m1 w1 m2 w2 m3 w3 x0 x1 x2)) 1024 (by decide) 2 (by decide) (fun p l => r_613_at p l _ (show 1024 + (256 * 2 + l.val) = 1536 + l.val by omega)) m7 w7 x6 _ m8 w8 x7 _ p l

theorem k_tile3 (p : Fin 512) (l : Fin 256) : ((k0_pay813 (r_622 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 3 + l.val, by omega⟩ :=
  headed_at (y := (r_622 c m1 w1 m2 w2 m3 w3 x0 x1 x2)) 1024 (by decide) 3 (by decide) (fun p l => r_622_at p l _ (show 1024 + (256 * 3 + l.val) = 1792 + l.val by omega)) m7 w7 x6 _ m8 w8 x7 _ p l

theorem k_at (i : grid0.Coords) (hc0 : ¬cond0_0 i) (hc1 : ¬cond0_1 i) (p : Fin 512) (e : Fin 1024) :
    out0_B_11 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix2 p e) = bH x0 x1 x2 1024 (by decide) x6 x7 p e := by
  unfold out0_B_11
  rw [View.read_writes_junk_eq_canon]
  show View.canon (Val := Elt Ideal) (s := S512x1024) (e := .bf16) [⟨Rect.unit (s := S512x1024) ![0, 768] S512x256.size inb_S512x1024_S512x256_0_768, k0_pay813 (r_622 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 512] S512x256.size inb_S512x1024_S512x256_0_512, k0_pay795 (r_613 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 256] S512x256.size inb_S512x1024_S512x256_0_256, k0_pay777 (r_604 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 0] S512x256.size inb_S512x1024_S512x256_0_0, k0_pay741 (r_555 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩] (ix2 p e) = _
  exact tiles_at (bH x0 x1 x2 1024 (by decide) x6 x7) _ _ _ _ (fun p l => (k_tile0 p l).trans (congrArg _ (Fin.ext (Nat.zero_add _)))) k_tile1 k_tile2 k_tile3 _ _ _ _ p e

theorem v_at (i : grid0.Coords) (hc0 : ¬cond0_0 i) (hc1 : ¬cond0_1 i) (p : Fin 512) (e : Fin 1024) :
    out0_B_12 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix2 p e) = bVo x0 x1 x2 p e := by
  unfold out0_B_12
  rw [View.read_writes_junk_eq_canon]
  show View.canon (Val := Elt Ideal) (s := S512x1024) (e := .bf16) [⟨Rect.unit (s := S512x1024) ![0, 512] S512x512.size inb_S512x1024_S512x512_0_512, k0_pay388 (r_9 c m1 w1 m2 w2 m3 w3 x0 x1 x2)⟩, ⟨Rect.unit (s := S512x1024) ![0, 0] S512x512.size inb_S512x1024_S512x512_0_0, k0_pay29 (r_6 c m1 w1 m2 w2 m3 w3 x0 x1 x2)⟩] (ix2 p e) = _
  exact halves_at (e := .bf16) (bVo x0 x1 x2) _ _ (fun p l => (plain_at _ _ _).trans (r_6_at p l _ rfl)) (fun p l => (plain_at _ _ _).trans (r_9_at p l _ (show 2048 + (512 + l.val) = 2560 + l.val by omega))) _ _ p e

theorem gs_at (i : grid0.Coords) (hc0 : ¬cond0_0 i) (hc1 : ¬cond0_1 i) (p : Fin 512) (e : Fin 1024) :
    out0_B_13 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix2 p e) = bgate x0 x1 xs0 p ⟨0 + e.val, by omega⟩ := by
  unfold out0_B_13
  rw [View.read_writes_junk_eq_canon]
  show View.canon (Val := Elt Ideal) (s := S512x1024) (e := .bf16) [⟨Rect.unit (s := S512x1024) ![0, 512] S512x512.size inb_S512x1024_S512x512_0_512, k0_pay635 (r_429 c m1 w1 m2 w2 m17 w17 x0 x1 xs0)⟩, ⟨Rect.unit (s := S512x1024) ![0, 0] S512x512.size inb_S512x1024_S512x512_0_0, k0_pay545 (r_294 c m1 w1 m2 w2 m17 w17 x0 x1 xs0)⟩] (ix2 p e) = _
  exact halves_at (e := .bf16) (fun p e => bgate x0 x1 xs0 p ⟨0 + e.val, by omega⟩) _ _ (fun p l => (merged_at (H := r c m1 w1 m2 w2 x0 x1) row_at _ xs0 p l ⟨0 + l.val, by omega⟩ (fun k => cols_at (n := 512) (n' := 2048) m17 w17 xs0 0 _ k l (by omega))).trans (congrArg _ (Fin.ext (show 0 + l.val = 0 + (l.val) by omega)))) (fun p l => (merged_at (H := r c m1 w1 m2 w2 x0 x1) row_at _ xs0 p l ⟨512 + l.val, by omega⟩ (fun k => cols_at (n := 512) (n' := 2048) m17 w17 xs0 512 _ k l (by omega))).trans (congrArg _ (Fin.ext (show 512 + l.val = 0 + (512 + l.val) by omega)))) _ _ p e

theorem gg_at (i : grid0.Coords) (hc0 : ¬cond0_0 i) (hc1 : ¬cond0_1 i) (p : Fin 512) (e : Fin 1024) :
    out0_B_14 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 xs6 (ix2 p e) = bgate x0 x1 xs0 p ⟨1024 + e.val, by omega⟩ := by
  unfold out0_B_14
  rw [View.read_writes_junk_eq_canon]
  show View.canon (Val := Elt Ideal) (s := S512x1024) (e := .bf16) [⟨Rect.unit (s := S512x1024) ![0, 512] S512x512.size inb_S512x1024_S512x512_0_512, k0_pay759 (r_594 c m1 w1 m2 w2 m17 w17 x0 x1 xs0)⟩, ⟨Rect.unit (s := S512x1024) ![0, 0] S512x512.size inb_S512x1024_S512x512_0_0, k0_pay722 (r_513 c m1 w1 m2 w2 m17 w17 x0 x1 xs0)⟩] (ix2 p e) = _
  exact halves_at (e := .bf16) (fun p e => bgate x0 x1 xs0 p ⟨1024 + e.val, by omega⟩) _ _ (fun p l => (merged_at (H := r c m1 w1 m2 w2 x0 x1) row_at _ xs0 p l ⟨1024 + l.val, by omega⟩ (fun k => cols_at (n := 512) (n' := 2048) m17 w17 xs0 1024 _ k l (by omega))).trans (congrArg _ (Fin.ext (show 1024 + l.val = 1024 + (l.val) by omega)))) (fun p l => (merged_at (H := r c m1 w1 m2 w2 x0 x1) row_at _ xs0 p l ⟨1536 + l.val, by omega⟩ (fun k => cols_at (n := 512) (n' := 2048) m17 w17 xs0 1536 _ k l (by omega))).trans (congrArg _ (Fin.ext (show 1536 + l.val = 1024 + (512 + l.val) by omega)))) _ _ p e

end Cert.Gla.CaseB
-- ==== Proof.GlaCaseC.lean ====
/- The kernel's body in case C: the state and the gated output of each chunk of each head, from the arrays that the body
   keeps in its scratch buffers. -/
module

public import proofs.«01_k».proof.Proof.GlaChunk
public import proofs.«01_k».proof.Proof.GlaPieces
public import proofs.«01_k».proof.Proof.Gen.KernelGlaIdeal.Frame

@[expose] public section

set_option maxRecDepth 16384

noncomputable section

namespace Cert.Gla.CaseC

open Cert.KernelGlaIdeal Cert.KernelGlaIdeal.Gen Cert.KernelGlaIdeal.Gen.kernelRun0_C.sl
open Idealize.ShloMosaic Idealize.ShloMosaic.TcCoe Idealize.SL.Sem

variable {c : Dev nD} {i : grid0.Coords} {m1 : Memref sig .tc .vmem S512x1024 .f32} {w1 : m1.IsWhole} {m2 : Memref sig .tc .vmem S1x1024 .f32} {w2 : m2.IsWhole} {m3 : Memref sig .tc .vmem S1024x8208 .bf16} {w3 : m3.IsWhole} {m4 : Memref sig .tc .vmem S128x512 .bf16} {w4 : m4.IsWhole} {m5 : Memref sig .tc .vmem S1x512 .f32} {w5 : m5.IsWhole} {m6 : Memref sig .tc .vmem S1x256 .f32} {w6 : m6.IsWhole} {m7 : Memref sig .tc .vmem S1x256 .f32} {w7 : m7.IsWhole} {m8 : Memref sig .tc .vmem S256x256 .bf16} {w8 : m8.IsWhole} {m9 : Memref sig .tc .vmem S256x128 .bf16} {w9 : m9.IsWhole} {m10 : Memref sig .tc .vmem S1x256 .f32} {w10 : m10.IsWhole} {m11 : Memref sig .tc .vmem S512x1024 .bf16} {w11 : m11.IsWhole} {m12 : Memref sig .tc .vmem S512x1024 .bf16} {w12 : m12.IsWhole} {m13 : Memref sig .tc .vmem S512x1024 .bf16} {w13 : m13.IsWhole} {m14 : Memref sig .tc .vmem S512x1024 .bf16} {w14 : m14.IsWhole} {m15 : Memref sig .tc .vmem S512x1024 .bf16} {w15 : m15.IsWhole} {m16 : Memref sig .tc .vmem S512x1024 .bf16} {w16 : m16.IsWhole} {m17 : Memref sig .tc .vmem S1024x2048 .bf16} {w17 : m17.IsWhole} {m18 : Memref sig .tc .vmem S512x512 .bf16} {w18 : m18.IsWhole} {m19 : Memref sig .tc .vmem S512x512 .bf16} {w19 : m19.IsWhole} {m20 : Memref sig .tc .vmem S512x1024 .bf16} {w20 : m20.IsWhole} {m21 : Memref sig .tc .vmem S512x1024 .bf16} {w21 : m21.IsWhole} {m22 : Memref sig .tc .vmem S512x512 .f32} {w22 : m22.IsWhole} {m23 : Memref sig .tc .vmem S4x128x256 .f32} {w23 : m23.IsWhole} {x0 : Vec Ideal S512x1024 .f32} {x1 : Vec Ideal S1x1024 .f32} {x2 : Vec Ideal S1024x8208 .bf16} {x3 : Vec Ideal S128x512 .bf16} {x4 : Vec Ideal S1x512 .f32} {x5 : Vec Ideal S1x256 .f32} {x6 : Vec Ideal S1x256 .f32} {x7 : Vec Ideal S256x256 .bf16} {x8 : Vec Ideal S256x128 .bf16} {x9 : Vec Ideal S1x256 .f32} {xs0 : Vec Ideal S1024x2048 .bf16}
  {Q K : Fin 512 → Fin 512 → EReal} {V : Fin 512 → Fin 1024 → EReal} {G : Fin 512 → Fin 512 → EReal} {R : Fin 512 → Fin 1024 → EReal}
  {NG : Fin 256 → EReal} {T : Fin 4 → Fin 128 → Fin 256 → EReal}

/-- What the arrays kept by the body, the level matrix, the norm's scale and the states found read. -/
structure Reads (c : Dev nD) (m1 : Memref sig .tc .vmem S512x1024 .f32) (w1 : m1.IsWhole) (m2 : Memref sig .tc .vmem S1x1024 .f32) (w2 : m2.IsWhole) (m3 : Memref sig .tc .vmem S1024x8208 .bf16) (w3 : m3.IsWhole) (m4 : Memref sig .tc .vmem S128x512 .bf16) (w4 : m4.IsWhole) (m5 : Memref sig .tc .vmem S1x512 .f32) (w5 : m5.IsWhole) (m6 : Memref sig .tc .vmem S1x256 .f32) (w6 : m6.IsWhole) (m7 : Memref sig .tc .vmem S1x256 .f32) (w7 : m7.IsWhole) (m8 : Memref sig .tc .vmem S256x256 .bf16) (w8 : m8.IsWhole) (m9 : Memref sig .tc .vmem S256x128 .bf16) (w9 : m9.IsWhole) (m10 : Memref sig .tc .vmem S1x256 .f32) (w10 : m10.IsWhole) (m11 : Memref sig .tc .vmem S512x1024 .bf16) (w11 : m11.IsWhole) (m12 : Memref sig .tc .vmem S512x1024 .bf16) (w12 : m12.IsWhole) (m13 : Memref sig .tc .vmem S512x1024 .bf16) (w13 : m13.IsWhole) (m14 : Memref sig .tc .vmem S512x1024 .bf16) (w14 : m14.IsWhole) (m15 : Memref sig .tc .vmem S512x1024 .bf16) (w15 : m15.IsWhole) (m16 : Memref sig .tc .vmem S512x1024 .bf16) (w16 : m16.IsWhole) (m17 : Memref sig .tc .vmem S1024x2048 .bf16) (w17 : m17.IsWhole) (m18 : Memref sig .tc .vmem S512x512 .bf16) (w18 : m18.IsWhole) (m19 : Memref sig .tc .vmem S512x512 .bf16) (w19 : m19.IsWhole) (m20 : Memref sig .tc .vmem S512x1024 .bf16) (w20 : m20.IsWhole) (m21 : Memref sig .tc .vmem S512x1024 .bf16) (w21 : m21.IsWhole) (m22 : Memref sig .tc .vmem S512x512 .f32) (w22 : m22.IsWhole) (m23 : Memref sig .tc .vmem S4x128x256 .f32) (w23 : m23.IsWhole) (x0 : Vec Ideal S512x1024 .f32) (x1 : Vec Ideal S1x1024 .f32) (x2 : Vec Ideal S1024x8208 .bf16) (x3 : Vec Ideal S128x512 .bf16) (x4 : Vec Ideal S1x512 .f32) (x5 : Vec Ideal S1x256 .f32) (x6 : Vec Ideal S1x256 .f32) (x7 : Vec Ideal S256x256 .bf16) (x8 : Vec Ideal S256x128 .bf16) (x9 : Vec Ideal S1x256 .f32) (xs0 : Vec Ideal S1024x2048 .bf16)
    (Q K : Fin 512 → Fin 512 → EReal) (V : Fin 512 → Fin 1024 → EReal) (G : Fin 512 → Fin 512 → EReal) (R : Fin 512 → Fin 1024 → EReal)
    (NG : Fin 256 → EReal) (T : Fin 4 → Fin 128 → Fin 256 → EReal) : Prop where
  lev : IsLevels (r_1 c m9 w9 x8)
  real : ∀ p l, ∃ r : ℝ, G p l = (r : EReal)
  q : ∀ (r0 c0 : ℕ) (inb) (j : Fin 64) (l : Fin 128), (m18.view.readCov (HS1_1 c m1 w1 m2 w2 m3 w3 x0 x1 x2) (Rect.unit (s := S512x512) ![r0, c0] S64x128.size inb).toLoadRect : FVec Ideal S64x128 .bf16) (ix2 j l) = Q (Fin.ofNat 512 (r0 + j.val)) (Fin.ofNat 512 (c0 + l.val))
  k : ∀ (r0 c0 : ℕ) (inb) (j : Fin 64) (l : Fin 128), (m19.view.readCov (HS2_1 c m1 w1 m2 w2 m3 w3 x0 x1 x2) (Rect.unit (s := S512x512) ![r0, c0] S64x128.size inb).toLoadRect : FVec Ideal S64x128 .bf16) (ix2 j l) = K (Fin.ofNat 512 (r0 + j.val)) (Fin.ofNat 512 (c0 + l.val))
  v : ∀ (r0 c0 : ℕ) (inb) (j : Fin 64) (l : Fin 256), (m20.view.readCov (HS3_2 c m1 w1 m2 w2 m3 w3 x0 x1 x2) (Rect.unit (s := S512x1024) ![r0, c0] S64x256.size inb).toLoadRect : FVec Ideal S64x256 .bf16) (ix2 j l) = V (Fin.ofNat 512 (r0 + j.val)) (Fin.ofNat 1024 (c0 + l.val))
  r : ∀ (r0 c0 : ℕ) (inb) (j : Fin 64) (l : Fin 256), (m21.view.readCov (HS4_2 c m1 w1 m2 w2 m3 w3 x0 x1 x2) (Rect.unit (s := S512x1024) ![r0, c0] S64x256.size inb).toLoadRect : FVec Ideal S64x256 .bf16) (ix2 j l) = R (Fin.ofNat 512 (r0 + j.val)) (Fin.ofNat 1024 (c0 + l.val))
  g : ∀ (r0 c0 : ℕ) (inb) (j : Fin 64) (l : Fin 128), (m22.view.readCov (HS5_1 c m1 w1 m2 w2 m3 w3 m4 w4 m5 w5 x0 x1 x2 x3 x4) (Rect.unit (s := S512x512) ![r0, c0] S64x128.size inb).toLoadRect : FVec Ideal S64x128 .f32) (ix2 j l) = G (Fin.ofNat 512 (r0 + j.val)) (Fin.ofNat 512 (c0 + l.val))
  ng : ∀ a, (View.readAt (Elt Ideal) m10.view (Rect.unit ![0, 0] S1x256.size inb_S1x256_S1x256_0_0).toLoadRect (w10.unread x9) : FVec Ideal S1x256 .f32) (ix2 0 a) = NG a
  t0 : ∀ a e, ((v3977 (F := Ideal) c m23) : FVec Ideal S1x128x256 .f32) (ix3 0 a e) = T 0 a e
  t1 : ∀ a e, ((v4192 c m1 w1 m2 w2 m3 w3 m4 w4 m5 w5 m9 w9 m19 m20 m22 m23 x0 x1 x2 x3 x4 x8) : FVec Ideal S1x128x256 .f32) (ix3 0 a e) = T 1 a e
  t2 : ∀ a e, ((v4395 c m1 w1 m2 w2 m3 w3 m4 w4 m5 w5 m9 w9 m19 m20 m22 m23 x0 x1 x2 x3 x4 x8) : FVec Ideal S1x128x256 .f32) (ix3 0 a e) = T 2 a e
  t3 : ∀ a e, ((v4625 c m1 w1 m2 w2 m3 w3 m4 w4 m5 w5 m9 w9 m19 m20 m22 m23 x0 x1 x2 x3 x4 x8) : FVec Ideal S1x128x256 .f32) (ix3 0 a e) = T 3 a e

variable (L : Reads c m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 x0 x1 x2 x3 x4 x5 x6 x7 x8 x9 xs0 Q K V G R NG T)
include L

theorem st_0_0 (a : Fin 128) (e : Fin 256) : (shapeCast S128x256 (v3977 (F := Ideal) c m23) shapeCasts_S1x128x256_S128x256 : FVec Ideal S128x256 .f32) (ix2 a e) = stF K V G (T 0) 0 0 a e :=
  (stateCast_at _ a e).trans (L.t0 a e)

theorem og_0_0 (j : Fin 64) (e : Fin 256) : ((r_596 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 0) 0 0 j e :=
  ogC_at (argOk_left (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 0) (128 * 0)) (fun a l => L.g 0 0 _ a l) (fun _ _ => L.real _ _))
    (v2246 c m1 w1 m2 w2 m3 w3 m18 x0 x1 x2) (v2247 c m1 w1 m2 w2 m3 w3 m19 x0 x1 x2) (v2248 c m1 w1 m2 w2 m3 w3 m20 x0 x1 x2) (shapeCast S128x256 (v3977 (F := Ideal) c m23) shapeCasts_S1x128x256_S128x256 : FVec Ideal S128x256 .f32) _ (v3998 c m1 w1 m2 w2 m3 w3 m21 x0 x1 x2)
    (tl Q (64 * 0) (128 * 0)) (tl K (64 * 0) (128 * 0)) (tl V (64 * 0) (256 * 0)) (stF K V G (T 0) 0 0) (fun a l => L.q 0 0 _ a l) (fun a l => L.k 0 0 _ a l) (fun a l => L.v 0 0 _ a l) (st_0_0 L) NG L.ng (tl R (64 * 0) (256 * 0)) (fun a l => L.r 0 0 _ a l) j e

theorem st_0_1 (a : Fin 128) (e : Fin 256) : (r_595 c m1 w1 m2 w2 m3 w3 m4 w4 m5 w5 m9 w9 m19 m20 m22 m23 x0 x1 x2 x3 x4 x8) (ix2 a e) = stF K V G (T 0) 0 1 a e :=
  stC_at (argOk_left (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 0) (128 * 0)) (fun a l => L.g 0 0 _ a l) (fun _ _ => L.real _ _))
    (v2247 c m1 w1 m2 w2 m3 w3 m19 x0 x1 x2) (v2248 c m1 w1 m2 w2 m3 w3 m20 x0 x1 x2) (shapeCast S128x256 (v3977 (F := Ideal) c m23) shapeCasts_S1x128x256_S128x256 : FVec Ideal S128x256 .f32)
    (tl K (64 * 0) (128 * 0)) (tl V (64 * 0) (256 * 0)) (stF K V G (T 0) 0 0) (fun a l => L.k 0 0 _ a l) (fun a l => L.v 0 0 _ a l) (st_0_0 L) a e

theorem og_0_1 (j : Fin 64) (e : Fin 256) : ((k0_pay727 (r_386 c m1 w1 m2 w2 m3 w3 m4 w4 m5 w5 m9 w9 m18 m19 m20 m22 x0 x1 x2 x3 x4 x8) (r_387 c m1 w1 m2 w2 m3 w3 m4 w4 m5 w5 m9 w9 m18 m22 x0 x1 x2 x3 x4 x8) (r_595 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4022 c m1 w1 m2 w2 m3 w3 m21 x0 x1 x2)) : FVec Ideal S64x256 .bf16) (ix2 j e)
    = ogF Q K V G NG R (T 0) 0 1 j e :=
  ogC_at (argOk_right (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 1) (128 * 0)) (fun a l => L.g 64 0 _ a l) (fun _ _ => L.real _ _))
    (v2298 c m1 w1 m2 w2 m3 w3 m18 x0 x1 x2) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8) _ (v4022 c m1 w1 m2 w2 m3 w3 m21 x0 x1 x2)
    (tl Q (64 * 1) (128 * 0)) (tl K (64 * 1) (128 * 0)) (tl V (64 * 1) (256 * 0)) (stF K V G (T 0) 0 1) (fun a l => L.q 64 0 _ a l) (fun a l => L.k 64 0 _ a l) (fun a l => L.v 64 0 _ a l) (st_0_1 L) NG L.ng (tl R (64 * 1) (256 * 0)) (fun a l => L.r 64 0 _ a l) j e

theorem st_0_2 (a : Fin 128) (e : Fin 256) : (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8)) (ix2 a e) = stF K V G (T 0) 0 2 a e :=
  stC_at (argOk_right (r_1 c m9 w9 x8) L.lev (v206 c m1 w1 m2 w2 m3 w3 m4 w4 m5 w5 m22 x0 x1 x2 x3 x4) (v212 c m1 w1 m2 w2 m3 w3 m4 w4 m5 w5 m22 x0 x1 x2 x3 x4) (tl G (64 * 1) (128 * 0)) (fun a l => L.g 64 0 _ a l) (fun _ _ => L.real _ _))
    (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8)
    (tl K (64 * 1) (128 * 0)) (tl V (64 * 1) (256 * 0)) (stF K V G (T 0) 0 1) (fun a l => L.k 64 0 _ a l) (fun a l => L.v 64 0 _ a l) (st_0_1 L) a e

theorem og_0_2 (j : Fin 64) (e : Fin 256) : ((k0_pay730 (r_598 c m1 w1 m2 w2 m3 w3 m4 w4 m5 w5 m9 w9 m18 m19 m20 m22 m23 x0 x1 x2 x3 x4 x8) (r_599 c m10 w10 x9) (v4046 c m1 w1 m2 w2 m3 w3 m21 x0 x1 x2)) : FVec Ideal S64x256 .bf16) (ix2 j e)
    = ogF Q K V G NG R (T 0) 0 2 j e :=
  ogC_at (argOk_left (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 2) (128 * 0)) (fun a l => L.g 128 0 _ a l) (fun _ _ => L.real _ _))
    (v2368 c m1 w1 m2 w2 m3 w3 m18 x0 x1 x2) (v2369 c m1 w1 m2 w2 m3 w3 m19 x0 x1 x2) (v2370 c m1 w1 m2 w2 m3 w3 m20 x0 x1 x2) (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8)) _ (v4046 c m1 w1 m2 w2 m3 w3 m21 x0 x1 x2)
    (tl Q (64 * 2) (128 * 0)) (tl K (64 * 2) (128 * 0)) (tl V (64 * 2) (256 * 0)) (stF K V G (T 0) 0 2) (fun a l => L.q 128 0 _ a l) (fun a l => L.k 128 0 _ a l) (fun a l => L.v 128 0 _ a l) (st_0_2 L) NG L.ng (tl R (64 * 2) (256 * 0)) (fun a l => L.r 128 0 _ a l) j e

theorem st_0_3 (a : Fin 128) (e : Fin 256) : (r_597 c m1 w1 m2 w2 m3 w3 m4 w4 m5 w5 m9 w9 m19 m20 m22 m23 x0 x1 x2 x3 x4 x8) (ix2 a e) = stF K V G (T 0) 0 3 a e :=
  stC_at (argOk_left (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 2) (128 * 0)) (fun a l => L.g 128 0 _ a l) (fun _ _ => L.real _ _))
    (v2369 c m1 w1 m2 w2 m3 w3 m19 x0 x1 x2) (v2370 c m1 w1 m2 w2 m3 w3 m20 x0 x1 x2) (stC (argC (half1 (pairC (r_1 c m9 w9 x8) (v206 c m1 w1 m2 w2 m3 w3 m4 w4 m5 w5 m22 x0 x1 x2 x3 x4) (v212 c m1 w1 m2 w2 m3 w3 m4 w4 m5 w5 m22 x0 x1 x2 x3 x4)))) (v2299 c m1 w1 m2 w2 m3 w3 m19 x0 x1 x2) (v2300 c m1 w1 m2 w2 m3 w3 m20 x0 x1 x2) (r_595 c m1 w1 m2 w2 m3 w3 m4 w4 m5 w5 m9 w9 m19 m20 m22 m23 x0 x1 x2 x3 x4 x8))
    (tl K (64 * 2) (128 * 0)) (tl V (64 * 2) (256 * 0)) (stF K V G (T 0) 0 2) (fun a l => L.k 128 0 _ a l) (fun a l => L.v 128 0 _ a l) (st_0_2 L) a e

theorem og_0_3 (j : Fin 64) (e : Fin 256) : ((k0_pay732 (r_397 c m1 w1 m2 w2 m3 w3 m4 w4 m5 w5 m9 w9 m18 m19 m20 m22 x0 x1 x2 x3 x4 x8) (r_398 c m1 w1 m2 w2 m3 w3 m4 w4 m5 w5 m9 w9 m18 m22 x0 x1 x2 x3 x4 x8) (r_597 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4070 c m1 w1 m2 w2 m3 w3 m21 x0 x1 x2)) : FVec Ideal S64x256 .bf16) (ix2 j e)
    = ogF Q K V G NG R (T 0) 0 3 j e :=
  ogC_at (argOk_right (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 3) (128 * 0)) (fun a l => L.g 192 0 _ a l) (fun _ _ => L.real _ _))
    (v2420 c m1 w1 m2 w2 m3 w3 m18 x0 x1 x2) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8) _ (v4070 c m1 w1 m2 w2 m3 w3 m21 x0 x1 x2)
    (tl Q (64 * 3) (128 * 0)) (tl K (64 * 3) (128 * 0)) (tl V (64 * 3) (256 * 0)) (stF K V G (T 0) 0 3) (fun a l => L.q 192 0 _ a l) (fun a l => L.k 192 0 _ a l) (fun a l => L.v 192 0 _ a l) (st_0_3 L) NG L.ng (tl R (64 * 3) (256 * 0)) (fun a l => L.r 192 0 _ a l) j e

theorem st_0_4 (a : Fin 128) (e : Fin 256) : (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8)) (ix2 a e) = stF K V G (T 0) 0 4 a e :=
  stC_at (argOk_right (r_1 c m9 w9 x8) L.lev (v332 c m1 w1 m2 w2 m3 w3 m4 w4 m5 w5 m22 x0 x1 x2 x3 x4) (v338 c m1 w1 m2 w2 m3 w3 m4 w4 m5 w5 m22 x0 x1 x2 x3 x4) (tl G (64 * 3) (128 * 0)) (fun a l => L.g 192 0 _ a l) (fun _ _ => L.real _ _))
    (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8)
    (tl K (64 * 3) (128 * 0)) (tl V (64 * 3) (256 * 0)) (stF K V G (T 0) 0 3) (fun a l => L.k 192 0 _ a l) (fun a l => L.v 192 0 _ a l) (st_0_3 L) a e

theorem og_0_4 (j : Fin 64) (e : Fin 256) : ((k0_pay737 (r_600 c m1 w1 m2 w2 m3 w3 m4 w4 m5 w5 m9 w9 m18 m19 m20 m22 m23 x0 x1 x2 x3 x4 x8) (r_602 c m1 w1 m2 w2 m3 w3 m4 w4 m5 w5 m9 w9 m18 m19 m20 m22 m23 x0 x1 x2 x3 x4 x8) k0_pay736 (View.readAt (Elt Ideal) m10.view (Rect.unit ![0, 0] S1x256.size inb_S1x256_S1x256_0_0).toLoadRect (w10.unread x9)) (v4094 c m1 w1 m2 w2 m3 w3 m21 x0 x1 x2)) : FVec Ideal S64x256 .bf16) (ix2 j e)
    = ogF Q K V G NG R (T 0) 0 4 j e :=
  ogC_at (argOk_left (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 4) (128 * 0)) (fun a l => L.g 256 0 _ a l) (fun _ _ => L.real _ _))
    (v2472 c m1 w1 m2 w2 m3 w3 m18 x0 x1 x2) (v2473 c m1 w1 m2 w2 m3 w3 m19 x0 x1 x2) (v2474 c m1 w1 m2 w2 m3 w3 m20 x0 x1 x2) (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8)) _ (v4094 c m1 w1 m2 w2 m3 w3 m21 x0 x1 x2)
    (tl Q (64 * 4) (128 * 0)) (tl K (64 * 4) (128 * 0)) (tl V (64 * 4) (256 * 0)) (stF K V G (T 0) 0 4) (fun a l => L.q 256 0 _ a l) (fun a l => L.k 256 0 _ a l) (fun a l => L.v 256 0 _ a l) (st_0_4 L) NG L.ng (tl R (64 * 4) (256 * 0)) (fun a l => L.r 256 0 _ a l) j e

theorem st_0_5 (a : Fin 128) (e : Fin 256) : (r_601 c m1 w1 m2 w2 m3 w3 m4 w4 m5 w5 m9 w9 m19 m20 m22 m23 x0 x1 x2 x3 x4 x8) (ix2 a e) = stF K V G (T 0) 0 5 a e :=
  stC_at (argOk_left (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 4) (128 * 0)) (fun a l => L.g 256 0 _ a l) (fun _ _ => L.real _ _))
    (v2473 c m1 w1 m2 w2 m3 w3 m19 x0 x1 x2) (v2474 c m1 w1 m2 w2 m3 w3 m20 x0 x1 x2) (stC (argC (half1 (pairC (r_1 c m9 w9 x8) (v332 c m1 w1 m2 w2 m3 w3 m4 w4 m5 w5 m22 x0 x1 x2 x3 x4) (v338 c m1 w1 m2 w2 m3 w3 m4 w4 m5 w5 m22 x0 x1 x2 x3 x4)))) (v2421 c m1 w1 m2 w2 m3 w3 m19 x0 x1 x2) (v2422 c m1 w1 m2 w2 m3 w3 m20 x0 x1 x2) (r_597 c m1 w1 m2 w2 m3 w3 m4 w4 m5 w5 m9 w9 m19 m20 m22 m23 x0 x1 x2 x3 x4 x8))
    (tl K (64 * 4) (128 * 0)) (tl V (64 * 4) (256 * 0)) (stF K V G (T 0) 0 4) (fun a l => L.k 256 0 _ a l) (fun a l => L.v 256 0 _ a l) (st_0_4 L) a e

theorem og_0_5 (j : Fin 64) (e : Fin 256) : ((k0_pay739 (r_410 c m1 w1 m2 w2 m3 w3 m4 w4 m5 w5 m9 w9 m18 m19 m20 m22 x0 x1 x2 x3 x4 x8) (r_411 c m1 w1 m2 w2 m3 w3 m4 w4 m5 w5 m9 w9 m18 m22 x0 x1 x2 x3 x4 x8) (r_601 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4118 c m1 w1 m2 w2 m3 w3 m21 x0 x1 x2)) : FVec Ideal S64x256 .bf16) (ix2 j e)
    = ogF Q K V G NG R (T 0) 0 5 j e :=
  ogC_at (argOk_right (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 5) (128 * 0)) (fun a l => L.g 320 0 _ a l) (fun _ _ => L.real _ _))
    (v2524 c m1 w1 m2 w2 m3 w3 m18 x0 x1 x2) (v2525 c m1 w1 m2 w2 m3 w3 m19 x0 x1 x2) (v2526 c m1 w1 m2 w2 m3 w3 m20 x0 x1 x2) (r_601 c m1 w1 m2 w2 m3 w3 m4 w4 m5 w5 m9 w9 m19 m20 m22 m23 x0 x1 x2 x3 x4 x8) _ (v4118 c m1 w1 m2 w2 m3 w3 m21 x0 x1 x2)
    (tl Q (64 * 5) (128 * 0)) (tl K (64 * 5) (128 * 0)) (tl V (64 * 5) (256 * 0)) (stF K V G (T 0) 0 5) (fun a l => L.q 320 0 _ a l) (fun a l => L.k 320 0 _ a l) (fun a l => L.v 320 0 _ a l) (st_0_5 L) NG L.ng (tl R (64 * 5) (256 * 0)) (fun a l => L.r 320 0 _ a l) j e

theorem st_0_6 (a : Fin 128) (e : Fin 256) : (r_603 c m1 w1 m2 w2 m3 w3 m4 w4 m5 w5 m9 w9 m19 m20 m22 m23 x0 x1 x2 x3 x4 x8) (ix2 a e) = stF K V G (T 0) 0 6 a e :=
  stC_at (argOk_right (r_1 c m9 w9 x8) L.lev (v458 c m1 w1 m2 w2 m3 w3 m4 w4 m5 w5 m22 x0 x1 x2 x3 x4) (v464 c m1 w1 m2 w2 m3 w3 m4 w4 m5 w5 m22 x0 x1 x2 x3 x4) (tl G (64 * 5) (128 * 0)) (fun a l => L.g 320 0 _ a l) (fun _ _ => L.real _ _))
    (v2525 c m1 w1 m2 w2 m3 w3 m19 x0 x1 x2) (v2526 c m1 w1 m2 w2 m3 w3 m20 x0 x1 x2) (r_601 c m1 w1 m2 w2 m3 w3 m4 w4 m5 w5 m9 w9 m19 m20 m22 m23 x0 x1 x2 x3 x4 x8)
    (tl K (64 * 5) (128 * 0)) (tl V (64 * 5) (256 * 0)) (stF K V G (T 0) 0 5) (fun a l => L.k 320 0 _ a l) (fun a l => L.v 320 0 _ a l) (st_0_5 L) a e

theorem og_0_6 (j : Fin 64) (e : Fin 256) : ((r_606 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 0) 0 6 j e :=
  ogC_at (argOk_left (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 6) (128 * 0)) (fun a l => L.g 384 0 _ a l) (fun _ _ => L.real _ _))
    (v2576 c m1 w1 m2 w2 m3 w3 m18 x0 x1 x2) (v2577 c m1 w1 m2 w2 m3 w3 m19 x0 x1 x2) (v2578 c m1 w1 m2 w2 m3 w3 m20 x0 x1 x2) (r_603 c m1 w1 m2 w2 m3 w3 m4 w4 m5 w5 m9 w9 m19 m20 m22 m23 x0 x1 x2 x3 x4 x8) _ (v4160 c m1 w1 m2 w2 m3 w3 m21 x0 x1 x2)
    (tl Q (64 * 6) (128 * 0)) (tl K (64 * 6) (128 * 0)) (tl V (64 * 6) (256 * 0)) (stF K V G (T 0) 0 6) (fun a l => L.q 384 0 _ a l) (fun a l => L.k 384 0 _ a l) (fun a l => L.v 384 0 _ a l) (st_0_6 L) NG L.ng (tl R (64 * 6) (256 * 0)) (fun a l => L.r 384 0 _ a l) j e

theorem st_0_7 (a : Fin 128) (e : Fin 256) : (r_605 c m1 w1 m2 w2 m3 w3 m4 w4 m5 w5 m9 w9 m19 m20 m22 m23 x0 x1 x2 x3 x4 x8) (ix2 a e) = stF K V G (T 0) 0 7 a e :=
  stC_at (argOk_left (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 6) (128 * 0)) (fun a l => L.g 384 0 _ a l) (fun _ _ => L.real _ _))
    (v2577 c m1 w1 m2 w2 m3 w3 m19 x0 x1 x2) (v2578 c m1 w1 m2 w2 m3 w3 m20 x0 x1 x2) (r_603 c m1 w1 m2 w2 m3 w3 m4 w4 m5 w5 m9 w9 m19 m20 m22 m23 x0 x1 x2 x3 x4 x8)
    (tl K (64 * 6) (128 * 0)) (tl V (64 * 6) (256 * 0)) (stF K V G (T 0) 0 6) (fun a l => L.k 384 0 _ a l) (fun a l => L.v 384 0 _ a l) (st_0_6 L) a e

theorem og_0_7 (j : Fin 64) (e : Fin 256) : ((k0_pay744 (r_425 c m1 w1 m2 w2 m3 w3 m4 w4 m5 w5 m9 w9 m18 m19 m20 m22 x0 x1 x2 x3 x4 x8) (r_426 c m1 w1 m2 w2 m3 w3 m4 w4 m5 w5 m9 w9 m18 m22 x0 x1 x2 x3 x4 x8) (r_605 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4184 c m1 w1 m2 w2 m3 w3 m21 x0 x1 x2)) : FVec Ideal S64x256 .bf16) (ix2 j e)
    = ogF Q K V G NG R (T 0) 0 7 j e :=
  ogC_at (argOk_right (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 7) (128 * 0)) (fun a l => L.g 448 0 _ a l) (fun _ _ => L.real _ _))
    (v2628 c m1 w1 m2 w2 m3 w3 m18 x0 x1 x2) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8) _ (v4184 c m1 w1 m2 w2 m3 w3 m21 x0 x1 x2)
    (tl Q (64 * 7) (128 * 0)) (tl K (64 * 7) (128 * 0)) (tl V (64 * 7) (256 * 0)) (stF K V G (T 0) 0 7) (fun a l => L.q 448 0 _ a l) (fun a l => L.k 448 0 _ a l) (fun a l => L.v 448 0 _ a l) (st_0_7 L) NG L.ng (tl R (64 * 7) (256 * 0)) (fun a l => L.r 448 0 _ a l) j e

theorem st_0_8 (a : Fin 128) (e : Fin 256) : (stC (argC (half1 (pairC (r_1 c m9 w9 x8) (v584 c m1 w1 m2 w2 m3 w3 m4 w4 m5 w5 m22 x0 x1 x2 x3 x4) (v590 c m1 w1 m2 w2 m3 w3 m4 w4 m5 w5 m22 x0 x1 x2 x3 x4)))) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8)) (ix2 a e) = stF K V G (T 0) 0 8 a e :=
  stC_at (argOk_right (r_1 c m9 w9 x8) L.lev (v584 c m1 w1 m2 w2 m3 w3 m4 w4 m5 w5 m22 x0 x1 x2 x3 x4) (v590 c m1 w1 m2 w2 m3 w3 m4 w4 m5 w5 m22 x0 x1 x2 x3 x4) (tl G (64 * 7) (128 * 0)) (fun a l => L.g 448 0 _ a l) (fun _ _ => L.real _ _))
    (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8)
    (tl K (64 * 7) (128 * 0)) (tl V (64 * 7) (256 * 0)) (stF K V G (T 0) 0 7) (fun a l => L.k 448 0 _ a l) (fun a l => L.v 448 0 _ a l) (st_0_7 L) a e

theorem st_1_0 (a : Fin 128) (e : Fin 256) : (shapeCast S128x256 (v4192 c m1 w1 m2 w2 m3 w3 m4 w4 m5 w5 m9 w9 m19 m20 m22 m23 x0 x1 x2 x3 x4 x8) shapeCasts_S1x128x256_S128x256 : FVec Ideal S128x256 .f32) (ix2 a e) = stF K V G (T 1) 1 0 a e :=
  (stateCast_at _ a e).trans (L.t1 a e)

theorem og_1_0 (j : Fin 64) (e : Fin 256) : ((k0_pay750 (r_607 c m1 w1 m2 w2 m3 w3 m4 w4 m5 w5 m9 w9 m18 m19 m20 m22 m23 x0 x1 x2 x3 x4 x8) (r_609 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4213 c m1 w1 m2 w2 m3 w3 m21 x0 x1 x2)) : FVec Ideal S64x256 .bf16) (ix2 j e)
    = ogF Q K V G NG R (T 1) 1 0 j e :=
  ogC_at (argOk_left (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 0) (128 * 1)) (fun a l => L.g 0 128 _ a l) (fun _ _ => L.real _ _))
    (v2685 c m1 w1 m2 w2 m3 w3 m18 x0 x1 x2) (v2686 c m1 w1 m2 w2 m3 w3 m19 x0 x1 x2) (v2687 c m1 w1 m2 w2 m3 w3 m20 x0 x1 x2) (shapeCast S128x256 (v4192 c m1 w1 m2 w2 m3 w3 m4 w4 m5 w5 m9 w9 m19 m20 m22 m23 x0 x1 x2 x3 x4 x8) shapeCasts_S1x128x256_S128x256 : FVec Ideal S128x256 .f32) _ (v4213 c m1 w1 m2 w2 m3 w3 m21 x0 x1 x2)
    (tl Q (64 * 0) (128 * 1)) (tl K (64 * 0) (128 * 1)) (tl V (64 * 0) (256 * 1)) (stF K V G (T 1) 1 0) (fun a l => L.q 0 128 _ a l) (fun a l => L.k 0 128 _ a l) (fun a l => L.v 0 256 _ a l) (st_1_0 L) NG L.ng (tl R (64 * 0) (256 * 1)) (fun a l => L.r 0 256 _ a l) j e

theorem st_1_1 (a : Fin 128) (e : Fin 256) : (r_608 c m1 w1 m2 w2 m3 w3 m4 w4 m5 w5 m9 w9 m19 m20 m22 m23 x0 x1 x2 x3 x4 x8) (ix2 a e) = stF K V G (T 1) 1 1 a e :=
  stC_at (argOk_left (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 0) (128 * 1)) (fun a l => L.g 0 128 _ a l) (fun _ _ => L.real _ _))
    (v2686 c m1 w1 m2 w2 m3 w3 m19 x0 x1 x2) (v2687 c m1 w1 m2 w2 m3 w3 m20 x0 x1 x2) (shapeCast S128x256 (v4192 c m1 w1 m2 w2 m3 w3 m4 w4 m5 w5 m9 w9 m19 m20 m22 m23 x0 x1 x2 x3 x4 x8) shapeCasts_S1x128x256_S128x256 : FVec Ideal S128x256 .f32)
    (tl K (64 * 0) (128 * 1)) (tl V (64 * 0) (256 * 1)) (stF K V G (T 1) 1 0) (fun a l => L.k 0 128 _ a l) (fun a l => L.v 0 256 _ a l) (st_1_0 L) a e

theorem og_1_1 (j : Fin 64) (e : Fin 256) : ((k0_pay752 (r_436 c m1 w1 m2 w2 m3 w3 m4 w4 m5 w5 m9 w9 m18 m19 m20 m22 x0 x1 x2 x3 x4 x8) (r_437 c m1 w1 m2 w2 m3 w3 m4 w4 m5 w5 m9 w9 m18 m22 x0 x1 x2 x3 x4 x8) (r_608 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4237 c m1 w1 m2 w2 m3 w3 m21 x0 x1 x2)) : FVec Ideal S64x256 .bf16) (ix2 j e)
    = ogF Q K V G NG R (T 1) 1 1 j e :=
  ogC_at (argOk_right (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 1) (128 * 1)) (fun a l => L.g 64 128 _ a l) (fun _ _ => L.real _ _))
    (v2737 c m1 w1 m2 w2 m3 w3 m18 x0 x1 x2) (v2738 c m1 w1 m2 w2 m3 w3 m19 x0 x1 x2) (v2739 c m1 w1 m2 w2 m3 w3 m20 x0 x1 x2) (r_608 c m1 w1 m2 w2 m3 w3 m4 w4 m5 w5 m9 w9 m19 m20 m22 m23 x0 x1 x2 x3 x4 x8) _ (v4237 c m1 w1 m2 w2 m3 w3 m21 x0 x1 x2)
    (tl Q (64 * 1) (128 * 1)) (tl K (64 * 1) (128 * 1)) (tl V (64 * 1) (256 * 1)) (stF K V G (T 1) 1 1) (fun a l => L.q 64 128 _ a l) (fun a l => L.k 64 128 _ a l) (fun a l => L.v 64 256 _ a l) (st_1_1 L) NG L.ng (tl R (64 * 1) (256 * 1)) (fun a l => L.r 64 256 _ a l) j e

theorem st_1_2 (a : Fin 128) (e : Fin 256) : (r_610 c m1 w1 m2 w2 m3 w3 m4 w4 m5 w5 m9 w9 m19 m20 m22 m23 x0 x1 x2 x3 x4 x8) (ix2 a e) = stF K V G (T 1) 1 2 a e :=
  stC_at (argOk_right (r_1 c m9 w9 x8) L.lev (v710 c m1 w1 m2 w2 m3 w3 m4 w4 m5 w5 m22 x0 x1 x2 x3 x4) (v716 c m1 w1 m2 w2 m3 w3 m4 w4 m5 w5 m22 x0 x1 x2 x3 x4) (tl G (64 * 1) (128 * 1)) (fun a l => L.g 64 128 _ a l) (fun _ _ => L.real _ _))
    (v2738 c m1 w1 m2 w2 m3 w3 m19 x0 x1 x2) (v2739 c m1 w1 m2 w2 m3 w3 m20 x0 x1 x2) (r_608 c m1 w1 m2 w2 m3 w3 m4 w4 m5 w5 m9 w9 m19 m20 m22 m23 x0 x1 x2 x3 x4 x8)
    (tl K (64 * 1) (128 * 1)) (tl V (64 * 1) (256 * 1)) (stF K V G (T 1) 1 1) (fun a l => L.k 64 128 _ a l) (fun a l => L.v 64 256 _ a l) (st_1_1 L) a e

theorem og_1_2 (j : Fin 64) (e : Fin 256) : ((k0_pay754 (r_443 c m1 w1 m2 w2 m3 w3 m4 w4 m5 w5 m9 w9 m18 m19 m20 m22 x0 x1 x2 x3 x4 x8) (r_444 c m1 w1 m2 w2 m3 w3 m4 w4 m5 w5 m9 w9 m18 m22 x0 x1 x2 x3 x4 x8) (r_610 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4261 c m1 w1 m2 w2 m3 w3 m21 x0 x1 x2)) : FVec Ideal S64x256 .bf16) (ix2 j e)
    = ogF Q K V G NG R (T 1) 1 2 j e :=
  ogC_at (argOk_left (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 2) (128 * 1)) (fun a l => L.g 128 128 _ a l) (fun _ _ => L.real _ _))
    (v2789 c m1 w1 m2 w2 m3 w3 m18 x0 x1 x2) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8) _ (v4261 c m1 w1 m2 w2 m3 w3 m21 x0 x1 x2)
    (tl Q (64 * 2) (128 * 1)) (tl K (64 * 2) (128 * 1)) (tl V (64 * 2) (256 * 1)) (stF K V G (T 1) 1 2) (fun a l => L.q 128 128 _ a l) (fun a l => L.k 128 128 _ a l) (fun a l => L.v 128 256 _ a l) (st_1_2 L) NG L.ng (tl R (64 * 2) (256 * 1)) (fun a l => L.r 128 256 _ a l) j e

theorem st_1_3 (a : Fin 128) (e : Fin 256) : (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8)) (ix2 a e) = stF K V G (T 1) 1 3 a e :=
  stC_at (argOk_left (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 2) (128 * 1)) (fun a l => L.g 128 128 _ a l) (fun _ _ => L.real _ _))
    (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8)
    (tl K (64 * 2) (128 * 1)) (tl V (64 * 2) (256 * 1)) (stF K V G (T 1) 1 2) (fun a l => L.k 128 128 _ a l) (fun a l => L.v 128 256 _ a l) (st_1_2 L) a e

theorem og_1_3 (j : Fin 64) (e : Fin 256) : ((k0_pay757 (r_612 c m1 w1 m2 w2 m3 w3 m4 w4 m5 w5 m9 w9 m10 w10 m18 m19 m20 m22 m23 x0 x1 x2 x3 x4 x8 x9) (v4285 c m1 w1 m2 w2 m3 w3 m21 x0 x1 x2)) : FVec Ideal S64x256 .bf16) (ix2 j e)
    = ogF Q K V G NG R (T 1) 1 3 j e :=
  ogC_at (argOk_right (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 3) (128 * 1)) (fun a l => L.g 192 128 _ a l) (fun _ _ => L.real _ _))
    (v2841 c m1 w1 m2 w2 m3 w3 m18 x0 x1 x2) (v2842 c m1 w1 m2 w2 m3 w3 m19 x0 x1 x2) (v2843 c m1 w1 m2 w2 m3 w3 m20 x0 x1 x2) (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8)) _ (v4285 c m1 w1 m2 w2 m3 w3 m21 x0 x1 x2)
    (tl Q (64 * 3) (128 * 1)) (tl K (64 * 3) (128 * 1)) (tl V (64 * 3) (256 * 1)) (stF K V G (T 1) 1 3) (fun a l => L.q 192 128 _ a l) (fun a l => L.k 192 128 _ a l) (fun a l => L.v 192 256 _ a l) (st_1_3 L) NG L.ng (tl R (64 * 3) (256 * 1)) (fun a l => L.r 192 256 _ a l) j e

theorem st_1_4 (a : Fin 128) (e : Fin 256) : (r_611 c m1 w1 m2 w2 m3 w3 m4 w4 m5 w5 m9 w9 m19 m20 m22 m23 x0 x1 x2 x3 x4 x8) (ix2 a e) = stF K V G (T 1) 1 4 a e :=
  stC_at (argOk_right (r_1 c m9 w9 x8) L.lev (v836 c m1 w1 m2 w2 m3 w3 m4 w4 m5 w5 m22 x0 x1 x2 x3 x4) (v842 c m1 w1 m2 w2 m3 w3 m4 w4 m5 w5 m22 x0 x1 x2 x3 x4) (tl G (64 * 3) (128 * 1)) (fun a l => L.g 192 128 _ a l) (fun _ _ => L.real _ _))
    (v2842 c m1 w1 m2 w2 m3 w3 m19 x0 x1 x2) (v2843 c m1 w1 m2 w2 m3 w3 m20 x0 x1 x2) (stC (argC (half0 (pairC (r_1 c m9 w9 x8) (v836 c m1 w1 m2 w2 m3 w3 m4 w4 m5 w5 m22 x0 x1 x2 x3 x4) (v842 c m1 w1 m2 w2 m3 w3 m4 w4 m5 w5 m22 x0 x1 x2 x3 x4)))) (v2790 c m1 w1 m2 w2 m3 w3 m19 x0 x1 x2) (v2791 c m1 w1 m2 w2 m3 w3 m20 x0 x1 x2) (r_610 c m1 w1 m2 w2 m3 w3 m4 w4 m5 w5 m9 w9 m19 m20 m22 m23 x0 x1 x2 x3 x4 x8))
    (tl K (64 * 3) (128 * 1)) (tl V (64 * 3) (256 * 1)) (stF K V G (T 1) 1 3) (fun a l => L.k 192 128 _ a l) (fun a l => L.v 192 256 _ a l) (st_1_3 L) a e

theorem og_1_4 (j : Fin 64) (e : Fin 256) : ((k0_pay761 (r_457 c m1 w1 m2 w2 m3 w3 m4 w4 m5 w5 m9 w9 m18 m19 m20 m22 x0 x1 x2 x3 x4 x8) (r_458 c m1 w1 m2 w2 m3 w3 m4 w4 m5 w5 m9 w9 m18 m22 x0 x1 x2 x3 x4 x8) (r_611 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4315 c m1 w1 m2 w2 m3 w3 m21 x0 x1 x2)) : FVec Ideal S64x256 .bf16) (ix2 j e)
    = ogF Q K V G NG R (T 1) 1 4 j e :=
  ogC_at (argOk_left (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 4) (128 * 1)) (fun a l => L.g 256 128 _ a l) (fun _ _ => L.real _ _))
    (v2893 c m1 w1 m2 w2 m3 w3 m18 x0 x1 x2) (v2894 c m1 w1 m2 w2 m3 w3 m19 x0 x1 x2) (v2895 c m1 w1 m2 w2 m3 w3 m20 x0 x1 x2) (r_611 c m1 w1 m2 w2 m3 w3 m4 w4 m5 w5 m9 w9 m19 m20 m22 m23 x0 x1 x2 x3 x4 x8) _ (v4315 c m1 w1 m2 w2 m3 w3 m21 x0 x1 x2)
    (tl Q (64 * 4) (128 * 1)) (tl K (64 * 4) (128 * 1)) (tl V (64 * 4) (256 * 1)) (stF K V G (T 1) 1 4) (fun a l => L.q 256 128 _ a l) (fun a l => L.k 256 128 _ a l) (fun a l => L.v 256 256 _ a l) (st_1_4 L) NG L.ng (tl R (64 * 4) (256 * 1)) (fun a l => L.r 256 256 _ a l) j e

theorem st_1_5 (a : Fin 128) (e : Fin 256) : (r_614 c m1 w1 m2 w2 m3 w3 m4 w4 m5 w5 m9 w9 m19 m20 m22 m23 x0 x1 x2 x3 x4 x8) (ix2 a e) = stF K V G (T 1) 1 5 a e :=
  stC_at (argOk_left (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 4) (128 * 1)) (fun a l => L.g 256 128 _ a l) (fun _ _ => L.real _ _))
    (v2894 c m1 w1 m2 w2 m3 w3 m19 x0 x1 x2) (v2895 c m1 w1 m2 w2 m3 w3 m20 x0 x1 x2) (r_611 c m1 w1 m2 w2 m3 w3 m4 w4 m5 w5 m9 w9 m19 m20 m22 m23 x0 x1 x2 x3 x4 x8)
    (tl K (64 * 4) (128 * 1)) (tl V (64 * 4) (256 * 1)) (stF K V G (T 1) 1 4) (fun a l => L.k 256 128 _ a l) (fun a l => L.v 256 256 _ a l) (st_1_4 L) a e

theorem og_1_5 (j : Fin 64) (e : Fin 256) : ((k0_pay764 (r_465 c m1 w1 m2 w2 m3 w3 m4 w4 m5 w5 m9 w9 m18 m19 m20 m22 x0 x1 x2 x3 x4 x8) (r_615 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4339 c m1 w1 m2 w2 m3 w3 m21 x0 x1 x2)) : FVec Ideal S64x256 .bf16) (ix2 j e)
    = ogF Q K V G NG R (T 1) 1 5 j e :=
  ogC_at (argOk_right (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 5) (128 * 1)) (fun a l => L.g 320 128 _ a l) (fun _ _ => L.real _ _))
    (v2945 c m1 w1 m2 w2 m3 w3 m18 x0 x1 x2) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8) _ (v4339 c m1 w1 m2 w2 m3 w3 m21 x0 x1 x2)
    (tl Q (64 * 5) (128 * 1)) (tl K (64 * 5) (128 * 1)) (tl V (64 * 5) (256 * 1)) (stF K V G (T 1) 1 5) (fun a l => L.q 320 128 _ a l) (fun a l => L.k 320 128 _ a l) (fun a l => L.v 320 256 _ a l) (st_1_5 L) NG L.ng (tl R (64 * 5) (256 * 1)) (fun a l => L.r 320 256 _ a l) j e

theorem st_1_6 (a : Fin 128) (e : Fin 256) : (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8)) (ix2 a e) = stF K V G (T 1) 1 6 a e :=
  stC_at (argOk_right (r_1 c m9 w9 x8) L.lev (v980 c m1 w1 m2 w2 m3 w3 m4 w4 m5 w5 m22 x0 x1 x2 x3 x4) (v986 c m1 w1 m2 w2 m3 w3 m4 w4 m5 w5 m22 x0 x1 x2 x3 x4) (tl G (64 * 5) (128 * 1)) (fun a l => L.g 320 128 _ a l) (fun _ _ => L.real _ _))
    (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8)
    (tl K (64 * 5) (128 * 1)) (tl V (64 * 5) (256 * 1)) (stF K V G (T 1) 1 5) (fun a l => L.k 320 128 _ a l) (fun a l => L.v 320 256 _ a l) (st_1_5 L) a e

theorem og_1_6 (j : Fin 64) (e : Fin 256) : ((k0_pay767 (r_617 c m1 w1 m2 w2 m3 w3 m4 w4 m5 w5 m9 w9 m10 w10 m18 m19 m20 m22 m23 x0 x1 x2 x3 x4 x8 x9) (v4363 c m1 w1 m2 w2 m3 w3 m21 x0 x1 x2)) : FVec Ideal S64x256 .bf16) (ix2 j e)
    = ogF Q K V G NG R (T 1) 1 6 j e :=
  ogC_at (argOk_left (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 6) (128 * 1)) (fun a l => L.g 384 128 _ a l) (fun _ _ => L.real _ _))
    (v3015 c m1 w1 m2 w2 m3 w3 m18 x0 x1 x2) (v3016 c m1 w1 m2 w2 m3 w3 m19 x0 x1 x2) (v3017 c m1 w1 m2 w2 m3 w3 m20 x0 x1 x2) (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8)) _ (v4363 c m1 w1 m2 w2 m3 w3 m21 x0 x1 x2)
    (tl Q (64 * 6) (128 * 1)) (tl K (64 * 6) (128 * 1)) (tl V (64 * 6) (256 * 1)) (stF K V G (T 1) 1 6) (fun a l => L.q 384 128 _ a l) (fun a l => L.k 384 128 _ a l) (fun a l => L.v 384 256 _ a l) (st_1_6 L) NG L.ng (tl R (64 * 6) (256 * 1)) (fun a l => L.r 384 256 _ a l) j e

theorem st_1_7 (a : Fin 128) (e : Fin 256) : (r_616 c m1 w1 m2 w2 m3 w3 m4 w4 m5 w5 m9 w9 m19 m20 m22 m23 x0 x1 x2 x3 x4 x8) (ix2 a e) = stF K V G (T 1) 1 7 a e :=
  stC_at (argOk_left (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 6) (128 * 1)) (fun a l => L.g 384 128 _ a l) (fun _ _ => L.real _ _))
    (v3016 c m1 w1 m2 w2 m3 w3 m19 x0 x1 x2) (v3017 c m1 w1 m2 w2 m3 w3 m20 x0 x1 x2) (stC (argC (half1 (pairC (r_1 c m9 w9 x8) (v980 c m1 w1 m2 w2 m3 w3 m4 w4 m5 w5 m22 x0 x1 x2 x3 x4) (v986 c m1 w1 m2 w2 m3 w3 m4 w4 m5 w5 m22 x0 x1 x2 x3 x4)))) (v2946 c m1 w1 m2 w2 m3 w3 m19 x0 x1 x2) (v2947 c m1 w1 m2 w2 m3 w3 m20 x0 x1 x2) (r_614 c m1 w1 m2 w2 m3 w3 m4 w4 m5 w5 m9 w9 m19 m20 m22 m23 x0 x1 x2 x3 x4 x8))
    (tl K (64 * 6) (128 * 1)) (tl V (64 * 6) (256 * 1)) (stF K V G (T 1) 1 6) (fun a l => L.k 384 128 _ a l) (fun a l => L.v 384 256 _ a l) (st_1_6 L) a e

theorem og_1_7 (j : Fin 64) (e : Fin 256) : ((k0_pay768 (r_482 c m1 w1 m2 w2 m3 w3 m4 w4 m5 w5 m9 w9 m18 m19 m20 m22 x0 x1 x2 x3 x4 x8) (r_483 c m1 w1 m2 w2 m3 w3 m4 w4 m5 w5 m9 w9 m18 m22 x0 x1 x2 x3 x4 x8) (r_616 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4387 c m1 w1 m2 w2 m3 w3 m21 x0 x1 x2)) : FVec Ideal S64x256 .bf16) (ix2 j e)
    = ogF Q K V G NG R (T 1) 1 7 j e :=
  ogC_at (argOk_right (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 7) (128 * 1)) (fun a l => L.g 448 128 _ a l) (fun _ _ => L.real _ _))
    (v3067 c m1 w1 m2 w2 m3 w3 m18 x0 x1 x2) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8) _ (v4387 c m1 w1 m2 w2 m3 w3 m21 x0 x1 x2)
    (tl Q (64 * 7) (128 * 1)) (tl K (64 * 7) (128 * 1)) (tl V (64 * 7) (256 * 1)) (stF K V G (T 1) 1 7) (fun a l => L.q 448 128 _ a l) (fun a l => L.k 448 128 _ a l) (fun a l => L.v 448 256 _ a l) (st_1_7 L) NG L.ng (tl R (64 * 7) (256 * 1)) (fun a l => L.r 448 256 _ a l) j e

theorem st_1_8 (a : Fin 128) (e : Fin 256) : (stC (argC (half1 (pairC (r_1 c m9 w9 x8) (v1106 c m1 w1 m2 w2 m3 w3 m4 w4 m5 w5 m22 x0 x1 x2 x3 x4) (v1112 c m1 w1 m2 w2 m3 w3 m4 w4 m5 w5 m22 x0 x1 x2 x3 x4)))) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8)) (ix2 a e) = stF K V G (T 1) 1 8 a e :=
  stC_at (argOk_right (r_1 c m9 w9 x8) L.lev (v1106 c m1 w1 m2 w2 m3 w3 m4 w4 m5 w5 m22 x0 x1 x2 x3 x4) (v1112 c m1 w1 m2 w2 m3 w3 m4 w4 m5 w5 m22 x0 x1 x2 x3 x4) (tl G (64 * 7) (128 * 1)) (fun a l => L.g 448 128 _ a l) (fun _ _ => L.real _ _))
    (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8)
    (tl K (64 * 7) (128 * 1)) (tl V (64 * 7) (256 * 1)) (stF K V G (T 1) 1 7) (fun a l => L.k 448 128 _ a l) (fun a l => L.v 448 256 _ a l) (st_1_7 L) a e

theorem st_2_0 (a : Fin 128) (e : Fin 256) : (shapeCast S128x256 (v4395 c m1 w1 m2 w2 m3 w3 m4 w4 m5 w5 m9 w9 m19 m20 m22 m23 x0 x1 x2 x3 x4 x8) shapeCasts_S1x128x256_S128x256 : FVec Ideal S128x256 .f32) (ix2 a e) = stF K V G (T 2) 2 0 a e :=
  (stateCast_at _ a e).trans (L.t2 a e)

theorem og_2_0 (j : Fin 64) (e : Fin 256) : ((k0_pay773 (r_618 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4416 c m1 w1 m2 w2 m3 w3 m21 x0 x1 x2)) : FVec Ideal S64x256 .bf16) (ix2 j e)
    = ogF Q K V G NG R (T 2) 2 0 j e :=
  ogC_at (argOk_left (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 0) (128 * 2)) (fun a l => L.g 0 256 _ a l) (fun _ _ => L.real _ _))
    (v3119 c m1 w1 m2 w2 m3 w3 m18 x0 x1 x2) (v3120 c m1 w1 m2 w2 m3 w3 m19 x0 x1 x2) (v3121 c m1 w1 m2 w2 m3 w3 m20 x0 x1 x2) (shapeCast S128x256 (v4395 c m1 w1 m2 w2 m3 w3 m4 w4 m5 w5 m9 w9 m19 m20 m22 m23 x0 x1 x2 x3 x4 x8) shapeCasts_S1x128x256_S128x256 : FVec Ideal S128x256 .f32) _ (v4416 c m1 w1 m2 w2 m3 w3 m21 x0 x1 x2)
    (tl Q (64 * 0) (128 * 2)) (tl K (64 * 0) (128 * 2)) (tl V (64 * 0) (256 * 2)) (stF K V G (T 2) 2 0) (fun a l => L.q 0 256 _ a l) (fun a l => L.k 0 256 _ a l) (fun a l => L.v 0 512 _ a l) (st_2_0 L) NG L.ng (tl R (64 * 0) (256 * 2)) (fun a l => L.r 0 512 _ a l) j e

theorem st_2_1 (a : Fin 128) (e : Fin 256) : (r_619 c m1 w1 m2 w2 m3 w3 m4 w4 m5 w5 m9 w9 m19 m20 m22 m23 x0 x1 x2 x3 x4 x8) (ix2 a e) = stF K V G (T 2) 2 1 a e :=
  stC_at (argOk_left (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 0) (128 * 2)) (fun a l => L.g 0 256 _ a l) (fun _ _ => L.real _ _))
    (v3120 c m1 w1 m2 w2 m3 w3 m19 x0 x1 x2) (v3121 c m1 w1 m2 w2 m3 w3 m20 x0 x1 x2) (shapeCast S128x256 (v4395 c m1 w1 m2 w2 m3 w3 m4 w4 m5 w5 m9 w9 m19 m20 m22 m23 x0 x1 x2 x3 x4 x8) shapeCasts_S1x128x256_S128x256 : FVec Ideal S128x256 .f32)
    (tl K (64 * 0) (128 * 2)) (tl V (64 * 0) (256 * 2)) (stF K V G (T 2) 2 0) (fun a l => L.k 0 256 _ a l) (fun a l => L.v 0 512 _ a l) (st_2_0 L) a e

theorem og_2_1 (j : Fin 64) (e : Fin 256) : ((r_621 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 2) 2 1 j e :=
  ogC_at (argOk_right (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 1) (128 * 2)) (fun a l => L.g 64 256 _ a l) (fun _ _ => L.real _ _))
    (v3171 c m1 w1 m2 w2 m3 w3 m18 x0 x1 x2) (v3172 c m1 w1 m2 w2 m3 w3 m19 x0 x1 x2) (v3173 c m1 w1 m2 w2 m3 w3 m20 x0 x1 x2) (r_619 c m1 w1 m2 w2 m3 w3 m4 w4 m5 w5 m9 w9 m19 m20 m22 m23 x0 x1 x2 x3 x4 x8) _ (v4440 c m1 w1 m2 w2 m3 w3 m21 x0 x1 x2)
    (tl Q (64 * 1) (128 * 2)) (tl K (64 * 1) (128 * 2)) (tl V (64 * 1) (256 * 2)) (stF K V G (T 2) 2 1) (fun a l => L.q 64 256 _ a l) (fun a l => L.k 64 256 _ a l) (fun a l => L.v 64 512 _ a l) (st_2_1 L) NG L.ng (tl R (64 * 1) (256 * 2)) (fun a l => L.r 64 512 _ a l) j e

theorem st_2_2 (a : Fin 128) (e : Fin 256) : (r_620 c m1 w1 m2 w2 m3 w3 m4 w4 m5 w5 m9 w9 m19 m20 m22 m23 x0 x1 x2 x3 x4 x8) (ix2 a e) = stF K V G (T 2) 2 2 a e :=
  stC_at (argOk_right (r_1 c m9 w9 x8) L.lev (v1232 c m1 w1 m2 w2 m3 w3 m4 w4 m5 w5 m22 x0 x1 x2 x3 x4) (v1238 c m1 w1 m2 w2 m3 w3 m4 w4 m5 w5 m22 x0 x1 x2 x3 x4) (tl G (64 * 1) (128 * 2)) (fun a l => L.g 64 256 _ a l) (fun _ _ => L.real _ _))
    (v3172 c m1 w1 m2 w2 m3 w3 m19 x0 x1 x2) (v3173 c m1 w1 m2 w2 m3 w3 m20 x0 x1 x2) (r_619 c m1 w1 m2 w2 m3 w3 m4 w4 m5 w5 m9 w9 m19 m20 m22 m23 x0 x1 x2 x3 x4 x8)
    (tl K (64 * 1) (128 * 2)) (tl V (64 * 1) (256 * 2)) (stF K V G (T 2) 2 1) (fun a l => L.k 64 256 _ a l) (fun a l => L.v 64 512 _ a l) (st_2_1 L) a e

theorem og_2_2 (j : Fin 64) (e : Fin 256) : ((k0_pay780 (r_624 c m1 w1 m2 w2 m3 w3 m4 w4 m5 w5 m9 w9 m10 w10 m18 m19 m20 m22 m23 x0 x1 x2 x3 x4 x8 x9) (v4482 c m1 w1 m2 w2 m3 w3 m21 x0 x1 x2)) : FVec Ideal S64x256 .bf16) (ix2 j e)
    = ogF Q K V G NG R (T 2) 2 2 j e :=
  ogC_at (argOk_left (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 2) (128 * 2)) (fun a l => L.g 128 256 _ a l) (fun _ _ => L.real _ _))
    (v3223 c m1 w1 m2 w2 m3 w3 m18 x0 x1 x2) (v3224 c m1 w1 m2 w2 m3 w3 m19 x0 x1 x2) (v3225 c m1 w1 m2 w2 m3 w3 m20 x0 x1 x2) (r_620 c m1 w1 m2 w2 m3 w3 m4 w4 m5 w5 m9 w9 m19 m20 m22 m23 x0 x1 x2 x3 x4 x8) _ (v4482 c m1 w1 m2 w2 m3 w3 m21 x0 x1 x2)
    (tl Q (64 * 2) (128 * 2)) (tl K (64 * 2) (128 * 2)) (tl V (64 * 2) (256 * 2)) (stF K V G (T 2) 2 2) (fun a l => L.q 128 256 _ a l) (fun a l => L.k 128 256 _ a l) (fun a l => L.v 128 512 _ a l) (st_2_2 L) NG L.ng (tl R (64 * 2) (256 * 2)) (fun a l => L.r 128 512 _ a l) j e

theorem st_2_3 (a : Fin 128) (e : Fin 256) : (r_623 c m1 w1 m2 w2 m3 w3 m4 w4 m5 w5 m9 w9 m19 m20 m22 m23 x0 x1 x2 x3 x4 x8) (ix2 a e) = stF K V G (T 2) 2 3 a e :=
  stC_at (argOk_left (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 2) (128 * 2)) (fun a l => L.g 128 256 _ a l) (fun _ _ => L.real _ _))
    (v3224 c m1 w1 m2 w2 m3 w3 m19 x0 x1 x2) (v3225 c m1 w1 m2 w2 m3 w3 m20 x0 x1 x2) (r_620 c m1 w1 m2 w2 m3 w3 m4 w4 m5 w5 m9 w9 m19 m20 m22 m23 x0 x1 x2 x3 x4 x8)
    (tl K (64 * 2) (128 * 2)) (tl V (64 * 2) (256 * 2)) (stF K V G (T 2) 2 2) (fun a l => L.k 128 256 _ a l) (fun a l => L.v 128 512 _ a l) (st_2_2 L) a e

theorem og_2_3 (j : Fin 64) (e : Fin 256) : ((k0_pay782 (r_509 c m1 w1 m2 w2 m3 w3 m4 w4 m5 w5 m9 w9 m18 m19 m20 m22 x0 x1 x2 x3 x4 x8) (r_510 c m1 w1 m2 w2 m3 w3 m4 w4 m5 w5 m9 w9 m18 m22 x0 x1 x2 x3 x4 x8) (r_623 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4506 c m1 w1 m2 w2 m3 w3 m21 x0 x1 x2)) : FVec Ideal S64x256 .bf16) (ix2 j e)
    = ogF Q K V G NG R (T 2) 2 3 j e :=
  ogC_at (argOk_right (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 3) (128 * 2)) (fun a l => L.g 192 256 _ a l) (fun _ _ => L.real _ _))
    (v3275 c m1 w1 m2 w2 m3 w3 m18 x0 x1 x2) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8) _ (v4506 c m1 w1 m2 w2 m3 w3 m21 x0 x1 x2)
    (tl Q (64 * 3) (128 * 2)) (tl K (64 * 3) (128 * 2)) (tl V (64 * 3) (256 * 2)) (stF K V G (T 2) 2 3) (fun a l => L.q 192 256 _ a l) (fun a l => L.k 192 256 _ a l) (fun a l => L.v 192 512 _ a l) (st_2_3 L) NG L.ng (tl R (64 * 3) (256 * 2)) (fun a l => L.r 192 512 _ a l) j e

theorem st_2_4 (a : Fin 128) (e : Fin 256) : (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8)) (ix2 a e) = stF K V G (T 2) 2 4 a e :=
  stC_at (argOk_right (r_1 c m9 w9 x8) L.lev (v1358 c m1 w1 m2 w2 m3 w3 m4 w4 m5 w5 m22 x0 x1 x2 x3 x4) (v1364 c m1 w1 m2 w2 m3 w3 m4 w4 m5 w5 m22 x0 x1 x2 x3 x4) (tl G (64 * 3) (128 * 2)) (fun a l => L.g 192 256 _ a l) (fun _ _ => L.real _ _))
    (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8)
    (tl K (64 * 3) (128 * 2)) (tl V (64 * 3) (256 * 2)) (stF K V G (T 2) 2 3) (fun a l => L.k 192 256 _ a l) (fun a l => L.v 192 512 _ a l) (st_2_3 L) a e

theorem og_2_4 (j : Fin 64) (e : Fin 256) : ((k0_pay786 (r_625 c m1 w1 m2 w2 m3 w3 m4 w4 m5 w5 m9 w9 m18 m19 m20 m22 m23 x0 x1 x2 x3 x4 x8) (r_627 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4530 c m1 w1 m2 w2 m3 w3 m21 x0 x1 x2)) : FVec Ideal S64x256 .bf16) (ix2 j e)
    = ogF Q K V G NG R (T 2) 2 4 j e :=
  ogC_at (argOk_left (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 4) (128 * 2)) (fun a l => L.g 256 256 _ a l) (fun _ _ => L.real _ _))
    (v3332 c m1 w1 m2 w2 m3 w3 m18 x0 x1 x2) (v3333 c m1 w1 m2 w2 m3 w3 m19 x0 x1 x2) (v3334 c m1 w1 m2 w2 m3 w3 m20 x0 x1 x2) (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8)) _ (v4530 c m1 w1 m2 w2 m3 w3 m21 x0 x1 x2)
    (tl Q (64 * 4) (128 * 2)) (tl K (64 * 4) (128 * 2)) (tl V (64 * 4) (256 * 2)) (stF K V G (T 2) 2 4) (fun a l => L.q 256 256 _ a l) (fun a l => L.k 256 256 _ a l) (fun a l => L.v 256 512 _ a l) (st_2_4 L) NG L.ng (tl R (64 * 4) (256 * 2)) (fun a l => L.r 256 512 _ a l) j e

theorem st_2_5 (a : Fin 128) (e : Fin 256) : (r_626 c m1 w1 m2 w2 m3 w3 m4 w4 m5 w5 m9 w9 m19 m20 m22 m23 x0 x1 x2 x3 x4 x8) (ix2 a e) = stF K V G (T 2) 2 5 a e :=
  stC_at (argOk_left (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 4) (128 * 2)) (fun a l => L.g 256 256 _ a l) (fun _ _ => L.real _ _))
    (v3333 c m1 w1 m2 w2 m3 w3 m19 x0 x1 x2) (v3334 c m1 w1 m2 w2 m3 w3 m20 x0 x1 x2) (stC (argC (half1 (pairC (r_1 c m9 w9 x8) (v1358 c m1 w1 m2 w2 m3 w3 m4 w4 m5 w5 m22 x0 x1 x2 x3 x4) (v1364 c m1 w1 m2 w2 m3 w3 m4 w4 m5 w5 m22 x0 x1 x2 x3 x4)))) (v3276 c m1 w1 m2 w2 m3 w3 m19 x0 x1 x2) (v3277 c m1 w1 m2 w2 m3 w3 m20 x0 x1 x2) (r_623 c m1 w1 m2 w2 m3 w3 m4 w4 m5 w5 m9 w9 m19 m20 m22 m23 x0 x1 x2 x3 x4 x8))
    (tl K (64 * 4) (128 * 2)) (tl V (64 * 4) (256 * 2)) (stF K V G (T 2) 2 4) (fun a l => L.k 256 256 _ a l) (fun a l => L.v 256 512 _ a l) (st_2_4 L) a e

theorem og_2_5 (j : Fin 64) (e : Fin 256) : ((k0_pay788 (r_523 c m1 w1 m2 w2 m3 w3 m4 w4 m5 w5 m9 w9 m18 m19 m20 m22 x0 x1 x2 x3 x4 x8) (r_524 c m1 w1 m2 w2 m3 w3 m4 w4 m5 w5 m9 w9 m18 m22 x0 x1 x2 x3 x4 x8) (r_626 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4554 c m1 w1 m2 w2 m3 w3 m21 x0 x1 x2)) : FVec Ideal S64x256 .bf16) (ix2 j e)
    = ogF Q K V G NG R (T 2) 2 5 j e :=
  ogC_at (argOk_right (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 5) (128 * 2)) (fun a l => L.g 320 256 _ a l) (fun _ _ => L.real _ _))
    (v3384 c m1 w1 m2 w2 m3 w3 m18 x0 x1 x2) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8) _ (v4554 c m1 w1 m2 w2 m3 w3 m21 x0 x1 x2)
    (tl Q (64 * 5) (128 * 2)) (tl K (64 * 5) (128 * 2)) (tl V (64 * 5) (256 * 2)) (stF K V G (T 2) 2 5) (fun a l => L.q 320 256 _ a l) (fun a l => L.k 320 256 _ a l) (fun a l => L.v 320 512 _ a l) (st_2_5 L) NG L.ng (tl R (64 * 5) (256 * 2)) (fun a l => L.r 320 512 _ a l) j e

theorem st_2_6 (a : Fin 128) (e : Fin 256) : (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8)) (ix2 a e) = stF K V G (T 2) 2 6 a e :=
  stC_at (argOk_right (r_1 c m9 w9 x8) L.lev (v1484 c m1 w1 m2 w2 m3 w3 m4 w4 m5 w5 m22 x0 x1 x2 x3 x4) (v1490 c m1 w1 m2 w2 m3 w3 m4 w4 m5 w5 m22 x0 x1 x2 x3 x4) (tl G (64 * 5) (128 * 2)) (fun a l => L.g 320 256 _ a l) (fun _ _ => L.real _ _))
    (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8)
    (tl K (64 * 5) (128 * 2)) (tl V (64 * 5) (256 * 2)) (stF K V G (T 2) 2 5) (fun a l => L.k 320 256 _ a l) (fun a l => L.v 320 512 _ a l) (st_2_5 L) a e

theorem og_2_6 (j : Fin 64) (e : Fin 256) : ((k0_pay791 (r_628 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4578 c m1 w1 m2 w2 m3 w3 m21 x0 x1 x2)) : FVec Ideal S64x256 .bf16) (ix2 j e)
    = ogF Q K V G NG R (T 2) 2 6 j e :=
  ogC_at (argOk_left (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 6) (128 * 2)) (fun a l => L.g 384 256 _ a l) (fun _ _ => L.real _ _))
    (v3436 c m1 w1 m2 w2 m3 w3 m18 x0 x1 x2) (v3437 c m1 w1 m2 w2 m3 w3 m19 x0 x1 x2) (v3438 c m1 w1 m2 w2 m3 w3 m20 x0 x1 x2) (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8)) _ (v4578 c m1 w1 m2 w2 m3 w3 m21 x0 x1 x2)
    (tl Q (64 * 6) (128 * 2)) (tl K (64 * 6) (128 * 2)) (tl V (64 * 6) (256 * 2)) (stF K V G (T 2) 2 6) (fun a l => L.q 384 256 _ a l) (fun a l => L.k 384 256 _ a l) (fun a l => L.v 384 512 _ a l) (st_2_6 L) NG L.ng (tl R (64 * 6) (256 * 2)) (fun a l => L.r 384 512 _ a l) j e

theorem st_2_7 (a : Fin 128) (e : Fin 256) : (r_629 c m1 w1 m2 w2 m3 w3 m4 w4 m5 w5 m9 w9 m19 m20 m22 m23 x0 x1 x2 x3 x4 x8) (ix2 a e) = stF K V G (T 2) 2 7 a e :=
  stC_at (argOk_left (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 6) (128 * 2)) (fun a l => L.g 384 256 _ a l) (fun _ _ => L.real _ _))
    (v3437 c m1 w1 m2 w2 m3 w3 m19 x0 x1 x2) (v3438 c m1 w1 m2 w2 m3 w3 m20 x0 x1 x2) (stC (argC (half1 (pairC (r_1 c m9 w9 x8) (v1484 c m1 w1 m2 w2 m3 w3 m4 w4 m5 w5 m22 x0 x1 x2 x3 x4) (v1490 c m1 w1 m2 w2 m3 w3 m4 w4 m5 w5 m22 x0 x1 x2 x3 x4)))) (v3385 c m1 w1 m2 w2 m3 w3 m19 x0 x1 x2) (v3386 c m1 w1 m2 w2 m3 w3 m20 x0 x1 x2) (r_626 c m1 w1 m2 w2 m3 w3 m4 w4 m5 w5 m9 w9 m19 m20 m22 m23 x0 x1 x2 x3 x4 x8))
    (tl K (64 * 6) (128 * 2)) (tl V (64 * 6) (256 * 2)) (stF K V G (T 2) 2 6) (fun a l => L.k 384 256 _ a l) (fun a l => L.v 384 512 _ a l) (st_2_6 L) a e

theorem og_2_7 (j : Fin 64) (e : Fin 256) : ((r_631 c m1 w1 m2 w2 m3 w3 m4 w4 m5 w5 m9 w9 m10 w10 m18 m19 m20 m21 m22 m23 x0 x1 x2 x3 x4 x8 x9) : FVec Ideal S64x256 .bf16) (ix2 j e)
    = ogF Q K V G NG R (T 2) 2 7 j e :=
  ogC_at (argOk_right (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 7) (128 * 2)) (fun a l => L.g 448 256 _ a l) (fun _ _ => L.real _ _))
    (v3488 c m1 w1 m2 w2 m3 w3 m18 x0 x1 x2) (v3489 c m1 w1 m2 w2 m3 w3 m19 x0 x1 x2) (v3490 c m1 w1 m2 w2 m3 w3 m20 x0 x1 x2) (r_629 c m1 w1 m2 w2 m3 w3 m4 w4 m5 w5 m9 w9 m19 m20 m22 m23 x0 x1 x2 x3 x4 x8) _ (v4602 c m1 w1 m2 w2 m3 w3 m21 x0 x1 x2)
    (tl Q (64 * 7) (128 * 2)) (tl K (64 * 7) (128 * 2)) (tl V (64 * 7) (256 * 2)) (stF K V G (T 2) 2 7) (fun a l => L.q 448 256 _ a l) (fun a l => L.k 448 256 _ a l) (fun a l => L.v 448 512 _ a l) (st_2_7 L) NG L.ng (tl R (64 * 7) (256 * 2)) (fun a l => L.r 448 512 _ a l) j e

theorem st_2_8 (a : Fin 128) (e : Fin 256) : (r_630 c m1 w1 m2 w2 m3 w3 m4 w4 m5 w5 m9 w9 m19 m20 m22 m23 x0 x1 x2 x3 x4 x8) (ix2 a e) = stF K V G (T 2) 2 8 a e :=
  stC_at (argOk_right (r_1 c m9 w9 x8) L.lev (v1610 c m1 w1 m2 w2 m3 w3 m4 w4 m5 w5 m22 x0 x1 x2 x3 x4) (v1616 c m1 w1 m2 w2 m3 w3 m4 w4 m5 w5 m22 x0 x1 x2 x3 x4) (tl G (64 * 7) (128 * 2)) (fun a l => L.g 448 256 _ a l) (fun _ _ => L.real _ _))
    (v3489 c m1 w1 m2 w2 m3 w3 m19 x0 x1 x2) (v3490 c m1 w1 m2 w2 m3 w3 m20 x0 x1 x2) (r_629 c m1 w1 m2 w2 m3 w3 m4 w4 m5 w5 m9 w9 m19 m20 m22 m23 x0 x1 x2 x3 x4 x8)
    (tl K (64 * 7) (128 * 2)) (tl V (64 * 7) (256 * 2)) (stF K V G (T 2) 2 7) (fun a l => L.k 448 256 _ a l) (fun a l => L.v 448 512 _ a l) (st_2_7 L) a e

theorem st_3_0 (a : Fin 128) (e : Fin 256) : (shapeCast S128x256 (v4625 c m1 w1 m2 w2 m3 w3 m4 w4 m5 w5 m9 w9 m19 m20 m22 m23 x0 x1 x2 x3 x4 x8) shapeCasts_S1x128x256_S128x256 : FVec Ideal S128x256 .f32) (ix2 a e) = stF K V G (T 3) 3 0 a e :=
  (stateCast_at _ a e).trans (L.t3 a e)

theorem og_3_0 (j : Fin 64) (e : Fin 256) : ((k0_pay799 (r_633 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4646 c m1 w1 m2 w2 m3 w3 m21 x0 x1 x2)) : FVec Ideal S64x256 .bf16) (ix2 j e)
    = ogF Q K V G NG R (T 3) 3 0 j e :=
  ogC_at (argOk_left (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 0) (128 * 3)) (fun a l => L.g 0 384 _ a l) (fun _ _ => L.real _ _))
    (v3540 c m1 w1 m2 w2 m3 w3 m18 x0 x1 x2) (v3541 c m1 w1 m2 w2 m3 w3 m19 x0 x1 x2) (v3542 c m1 w1 m2 w2 m3 w3 m20 x0 x1 x2) (shapeCast S128x256 (v4625 c m1 w1 m2 w2 m3 w3 m4 w4 m5 w5 m9 w9 m19 m20 m22 m23 x0 x1 x2 x3 x4 x8) shapeCasts_S1x128x256_S128x256 : FVec Ideal S128x256 .f32) _ (v4646 c m1 w1 m2 w2 m3 w3 m21 x0 x1 x2)
    (tl Q (64 * 0) (128 * 3)) (tl K (64 * 0) (128 * 3)) (tl V (64 * 0) (256 * 3)) (stF K V G (T 3) 3 0) (fun a l => L.q 0 384 _ a l) (fun a l => L.k 0 384 _ a l) (fun a l => L.v 0 768 _ a l) (st_3_0 L) NG L.ng (tl R (64 * 0) (256 * 3)) (fun a l => L.r 0 768 _ a l) j e

theorem st_3_1 (a : Fin 128) (e : Fin 256) : (r_632 c m1 w1 m2 w2 m3 w3 m4 w4 m5 w5 m9 w9 m19 m20 m22 m23 x0 x1 x2 x3 x4 x8) (ix2 a e) = stF K V G (T 3) 3 1 a e :=
  stC_at (argOk_left (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 0) (128 * 3)) (fun a l => L.g 0 384 _ a l) (fun _ _ => L.real _ _))
    (v3541 c m1 w1 m2 w2 m3 w3 m19 x0 x1 x2) (v3542 c m1 w1 m2 w2 m3 w3 m20 x0 x1 x2) (shapeCast S128x256 (v4625 c m1 w1 m2 w2 m3 w3 m4 w4 m5 w5 m9 w9 m19 m20 m22 m23 x0 x1 x2 x3 x4 x8) shapeCasts_S1x128x256_S128x256 : FVec Ideal S128x256 .f32)
    (tl K (64 * 0) (128 * 3)) (tl V (64 * 0) (256 * 3)) (stF K V G (T 3) 3 0) (fun a l => L.k 0 384 _ a l) (fun a l => L.v 0 768 _ a l) (st_3_0 L) a e

theorem og_3_1 (j : Fin 64) (e : Fin 256) : ((k0_pay801 (r_551 c m1 w1 m2 w2 m3 w3 m4 w4 m5 w5 m9 w9 m18 m19 m20 m22 x0 x1 x2 x3 x4 x8) (r_552 c m1 w1 m2 w2 m3 w3 m4 w4 m5 w5 m9 w9 m18 m22 x0 x1 x2 x3 x4 x8) (r_632 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4670 c m1 w1 m2 w2 m3 w3 m21 x0 x1 x2)) : FVec Ideal S64x256 .bf16) (ix2 j e)
    = ogF Q K V G NG R (T 3) 3 1 j e :=
  ogC_at (argOk_right (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 1) (128 * 3)) (fun a l => L.g 64 384 _ a l) (fun _ _ => L.real _ _))
    (v3592 c m1 w1 m2 w2 m3 w3 m18 x0 x1 x2) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8) _ (v4670 c m1 w1 m2 w2 m3 w3 m21 x0 x1 x2)
    (tl Q (64 * 1) (128 * 3)) (tl K (64 * 1) (128 * 3)) (tl V (64 * 1) (256 * 3)) (stF K V G (T 3) 3 1) (fun a l => L.q 64 384 _ a l) (fun a l => L.k 64 384 _ a l) (fun a l => L.v 64 768 _ a l) (st_3_1 L) NG L.ng (tl R (64 * 1) (256 * 3)) (fun a l => L.r 64 768 _ a l) j e

theorem st_3_2 (a : Fin 128) (e : Fin 256) : (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8)) (ix2 a e) = stF K V G (T 3) 3 2 a e :=
  stC_at (argOk_right (r_1 c m9 w9 x8) L.lev (v1740 c m1 w1 m2 w2 m3 w3 m4 w4 m5 w5 m22 x0 x1 x2 x3 x4) (v1746 c m1 w1 m2 w2 m3 w3 m4 w4 m5 w5 m22 x0 x1 x2 x3 x4) (tl G (64 * 1) (128 * 3)) (fun a l => L.g 64 384 _ a l) (fun _ _ => L.real _ _))
    (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8)
    (tl K (64 * 1) (128 * 3)) (tl V (64 * 1) (256 * 3)) (stF K V G (T 3) 3 1) (fun a l => L.k 64 384 _ a l) (fun a l => L.v 64 768 _ a l) (st_3_1 L) a e

theorem og_3_2 (j : Fin 64) (e : Fin 256) : ((k0_pay805 (r_634 c m1 w1 m2 w2 m3 w3 m4 w4 m5 w5 m9 w9 m18 m19 m20 m22 m23 x0 x1 x2 x3 x4 x8) (r_636 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4694 c m1 w1 m2 w2 m3 w3 m21 x0 x1 x2)) : FVec Ideal S64x256 .bf16) (ix2 j e)
    = ogF Q K V G NG R (T 3) 3 2 j e :=
  ogC_at (argOk_left (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 2) (128 * 3)) (fun a l => L.g 128 384 _ a l) (fun _ _ => L.real _ _))
    (v3662 c m1 w1 m2 w2 m3 w3 m18 x0 x1 x2) (v3663 c m1 w1 m2 w2 m3 w3 m19 x0 x1 x2) (v3664 c m1 w1 m2 w2 m3 w3 m20 x0 x1 x2) (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8)) _ (v4694 c m1 w1 m2 w2 m3 w3 m21 x0 x1 x2)
    (tl Q (64 * 2) (128 * 3)) (tl K (64 * 2) (128 * 3)) (tl V (64 * 2) (256 * 3)) (stF K V G (T 3) 3 2) (fun a l => L.q 128 384 _ a l) (fun a l => L.k 128 384 _ a l) (fun a l => L.v 128 768 _ a l) (st_3_2 L) NG L.ng (tl R (64 * 2) (256 * 3)) (fun a l => L.r 128 768 _ a l) j e

theorem st_3_3 (a : Fin 128) (e : Fin 256) : (r_635 c m1 w1 m2 w2 m3 w3 m4 w4 m5 w5 m9 w9 m19 m20 m22 m23 x0 x1 x2 x3 x4 x8) (ix2 a e) = stF K V G (T 3) 3 3 a e :=
  stC_at (argOk_left (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 2) (128 * 3)) (fun a l => L.g 128 384 _ a l) (fun _ _ => L.real _ _))
    (v3663 c m1 w1 m2 w2 m3 w3 m19 x0 x1 x2) (v3664 c m1 w1 m2 w2 m3 w3 m20 x0 x1 x2) (stC (argC (half1 (pairC (r_1 c m9 w9 x8) (v1740 c m1 w1 m2 w2 m3 w3 m4 w4 m5 w5 m22 x0 x1 x2 x3 x4) (v1746 c m1 w1 m2 w2 m3 w3 m4 w4 m5 w5 m22 x0 x1 x2 x3 x4)))) (v3593 c m1 w1 m2 w2 m3 w3 m19 x0 x1 x2) (v3594 c m1 w1 m2 w2 m3 w3 m20 x0 x1 x2) (r_632 c m1 w1 m2 w2 m3 w3 m4 w4 m5 w5 m9 w9 m19 m20 m22 m23 x0 x1 x2 x3 x4 x8))
    (tl K (64 * 2) (128 * 3)) (tl V (64 * 2) (256 * 3)) (stF K V G (T 3) 3 2) (fun a l => L.k 128 384 _ a l) (fun a l => L.v 128 768 _ a l) (st_3_2 L) a e

theorem og_3_3 (j : Fin 64) (e : Fin 256) : ((k0_pay807 (r_566 c m1 w1 m2 w2 m3 w3 m4 w4 m5 w5 m9 w9 m18 m19 m20 m22 x0 x1 x2 x3 x4 x8) (r_567 c m1 w1 m2 w2 m3 w3 m4 w4 m5 w5 m9 w9 m18 m22 x0 x1 x2 x3 x4 x8) (r_635 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4718 c m1 w1 m2 w2 m3 w3 m21 x0 x1 x2)) : FVec Ideal S64x256 .bf16) (ix2 j e)
    = ogF Q K V G NG R (T 3) 3 3 j e :=
  ogC_at (argOk_right (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 3) (128 * 3)) (fun a l => L.g 192 384 _ a l) (fun _ _ => L.real _ _))
    (v3714 c m1 w1 m2 w2 m3 w3 m18 x0 x1 x2) (v3715 c m1 w1 m2 w2 m3 w3 m19 x0 x1 x2) (v3716 c m1 w1 m2 w2 m3 w3 m20 x0 x1 x2) (r_635 c m1 w1 m2 w2 m3 w3 m4 w4 m5 w5 m9 w9 m19 m20 m22 m23 x0 x1 x2 x3 x4 x8) _ (v4718 c m1 w1 m2 w2 m3 w3 m21 x0 x1 x2)
    (tl Q (64 * 3) (128 * 3)) (tl K (64 * 3) (128 * 3)) (tl V (64 * 3) (256 * 3)) (stF K V G (T 3) 3 3) (fun a l => L.q 192 384 _ a l) (fun a l => L.k 192 384 _ a l) (fun a l => L.v 192 768 _ a l) (st_3_3 L) NG L.ng (tl R (64 * 3) (256 * 3)) (fun a l => L.r 192 768 _ a l) j e

theorem st_3_4 (a : Fin 128) (e : Fin 256) : (r_637 c m1 w1 m2 w2 m3 w3 m4 w4 m5 w5 m9 w9 m19 m20 m22 m23 x0 x1 x2 x3 x4 x8) (ix2 a e) = stF K V G (T 3) 3 4 a e :=
  stC_at (argOk_right (r_1 c m9 w9 x8) L.lev (v1866 c m1 w1 m2 w2 m3 w3 m4 w4 m5 w5 m22 x0 x1 x2 x3 x4) (v1872 c m1 w1 m2 w2 m3 w3 m4 w4 m5 w5 m22 x0 x1 x2 x3 x4) (tl G (64 * 3) (128 * 3)) (fun a l => L.g 192 384 _ a l) (fun _ _ => L.real _ _))
    (v3715 c m1 w1 m2 w2 m3 w3 m19 x0 x1 x2) (v3716 c m1 w1 m2 w2 m3 w3 m20 x0 x1 x2) (r_635 c m1 w1 m2 w2 m3 w3 m4 w4 m5 w5 m9 w9 m19 m20 m22 m23 x0 x1 x2 x3 x4 x8)
    (tl K (64 * 3) (128 * 3)) (tl V (64 * 3) (256 * 3)) (stF K V G (T 3) 3 3) (fun a l => L.k 192 384 _ a l) (fun a l => L.v 192 768 _ a l) (st_3_3 L) a e

theorem og_3_4 (j : Fin 64) (e : Fin 256) : ((k0_pay809 (r_574 c m1 w1 m2 w2 m3 w3 m4 w4 m5 w5 m9 w9 m18 m19 m20 m22 x0 x1 x2 x3 x4 x8) (r_575 c m1 w1 m2 w2 m3 w3 m4 w4 m5 w5 m9 w9 m18 m22 x0 x1 x2 x3 x4 x8) (r_637 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4742 c m1 w1 m2 w2 m3 w3 m21 x0 x1 x2)) : FVec Ideal S64x256 .bf16) (ix2 j e)
    = ogF Q K V G NG R (T 3) 3 4 j e :=
  ogC_at (argOk_left (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 4) (128 * 3)) (fun a l => L.g 256 384 _ a l) (fun _ _ => L.real _ _))
    (v3766 c m1 w1 m2 w2 m3 w3 m18 x0 x1 x2) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8) _ (v4742 c m1 w1 m2 w2 m3 w3 m21 x0 x1 x2)
    (tl Q (64 * 4) (128 * 3)) (tl K (64 * 4) (128 * 3)) (tl V (64 * 4) (256 * 3)) (stF K V G (T 3) 3 4) (fun a l => L.q 256 384 _ a l) (fun a l => L.k 256 384 _ a l) (fun a l => L.v 256 768 _ a l) (st_3_4 L) NG L.ng (tl R (64 * 4) (256 * 3)) (fun a l => L.r 256 768 _ a l) j e

theorem st_3_5 (a : Fin 128) (e : Fin 256) : (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8)) (ix2 a e) = stF K V G (T 3) 3 5 a e :=
  stC_at (argOk_left (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 4) (128 * 3)) (fun a l => L.g 256 384 _ a l) (fun _ _ => L.real _ _))
    (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8)
    (tl K (64 * 4) (128 * 3)) (tl V (64 * 4) (256 * 3)) (stF K V G (T 3) 3 4) (fun a l => L.k 256 384 _ a l) (fun a l => L.v 256 768 _ a l) (st_3_4 L) a e

theorem og_3_5 (j : Fin 64) (e : Fin 256) : ((k0_pay812 (r_639 c m1 w1 m2 w2 m3 w3 m4 w4 m5 w5 m9 w9 m10 w10 m18 m19 m20 m22 m23 x0 x1 x2 x3 x4 x8 x9) (v4766 c m1 w1 m2 w2 m3 w3 m21 x0 x1 x2)) : FVec Ideal S64x256 .bf16) (ix2 j e)
    = ogF Q K V G NG R (T 3) 3 5 j e :=
  ogC_at (argOk_right (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 5) (128 * 3)) (fun a l => L.g 320 384 _ a l) (fun _ _ => L.real _ _))
    (v3818 c m1 w1 m2 w2 m3 w3 m18 x0 x1 x2) (v3819 c m1 w1 m2 w2 m3 w3 m19 x0 x1 x2) (v3820 c m1 w1 m2 w2 m3 w3 m20 x0 x1 x2) (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8)) _ (v4766 c m1 w1 m2 w2 m3 w3 m21 x0 x1 x2)
    (tl Q (64 * 5) (128 * 3)) (tl K (64 * 5) (128 * 3)) (tl V (64 * 5) (256 * 3)) (stF K V G (T 3) 3 5) (fun a l => L.q 320 384 _ a l) (fun a l => L.k 320 384 _ a l) (fun a l => L.v 320 768 _ a l) (st_3_5 L) NG L.ng (tl R (64 * 5) (256 * 3)) (fun a l => L.r 320 768 _ a l) j e

theorem st_3_6 (a : Fin 128) (e : Fin 256) : (r_638 c m1 w1 m2 w2 m3 w3 m4 w4 m5 w5 m9 w9 m19 m20 m22 m23 x0 x1 x2 x3 x4 x8) (ix2 a e) = stF K V G (T 3) 3 6 a e :=
  stC_at (argOk_right (r_1 c m9 w9 x8) L.lev (v1992 c m1 w1 m2 w2 m3 w3 m4 w4 m5 w5 m22 x0 x1 x2 x3 x4) (v1998 c m1 w1 m2 w2 m3 w3 m4 w4 m5 w5 m22 x0 x1 x2 x3 x4) (tl G (64 * 5) (128 * 3)) (fun a l => L.g 320 384 _ a l) (fun _ _ => L.real _ _))
    (v3819 c m1 w1 m2 w2 m3 w3 m19 x0 x1 x2) (v3820 c m1 w1 m2 w2 m3 w3 m20 x0 x1 x2) (stC (argC (half0 (pairC (r_1 c m9 w9 x8) (v1992 c m1 w1 m2 w2 m3 w3 m4 w4 m5 w5 m22 x0 x1 x2 x3 x4) (v1998 c m1 w1 m2 w2 m3 w3 m4 w4 m5 w5 m22 x0 x1 x2 x3 x4)))) (v3767 c m1 w1 m2 w2 m3 w3 m19 x0 x1 x2) (v3768 c m1 w1 m2 w2 m3 w3 m20 x0 x1 x2) (r_637 c m1 w1 m2 w2 m3 w3 m4 w4 m5 w5 m9 w9 m19 m20 m22 m23 x0 x1 x2 x3 x4 x8))
    (tl K (64 * 5) (128 * 3)) (tl V (64 * 5) (256 * 3)) (stF K V G (T 3) 3 5) (fun a l => L.k 320 384 _ a l) (fun a l => L.v 320 768 _ a l) (st_3_5 L) a e

theorem og_3_6 (j : Fin 64) (e : Fin 256) : ((k0_pay816 (r_641 c m1 w1 m2 w2 m3 w3 m4 w4 m5 w5 m9 w9 m10 w10 m18 m19 m20 m22 m23 x0 x1 x2 x3 x4 x8 x9) (v4805 c m1 w1 m2 w2 m3 w3 m21 x0 x1 x2)) : FVec Ideal S64x256 .bf16) (ix2 j e)
    = ogF Q K V G NG R (T 3) 3 6 j e :=
  ogC_at (argOk_left (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 6) (128 * 3)) (fun a l => L.g 384 384 _ a l) (fun _ _ => L.real _ _))
    (v3870 c m1 w1 m2 w2 m3 w3 m18 x0 x1 x2) (v3871 c m1 w1 m2 w2 m3 w3 m19 x0 x1 x2) (v3872 c m1 w1 m2 w2 m3 w3 m20 x0 x1 x2) (r_638 c m1 w1 m2 w2 m3 w3 m4 w4 m5 w5 m9 w9 m19 m20 m22 m23 x0 x1 x2 x3 x4 x8) _ (v4805 c m1 w1 m2 w2 m3 w3 m21 x0 x1 x2)
    (tl Q (64 * 6) (128 * 3)) (tl K (64 * 6) (128 * 3)) (tl V (64 * 6) (256 * 3)) (stF K V G (T 3) 3 6) (fun a l => L.q 384 384 _ a l) (fun a l => L.k 384 384 _ a l) (fun a l => L.v 384 768 _ a l) (st_3_6 L) NG L.ng (tl R (64 * 6) (256 * 3)) (fun a l => L.r 384 768 _ a l) j e

theorem st_3_7 (a : Fin 128) (e : Fin 256) : (r_640 c m1 w1 m2 w2 m3 w3 m4 w4 m5 w5 m9 w9 m19 m20 m22 m23 x0 x1 x2 x3 x4 x8) (ix2 a e) = stF K V G (T 3) 3 7 a e :=
  stC_at (argOk_left (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 6) (128 * 3)) (fun a l => L.g 384 384 _ a l) (fun _ _ => L.real _ _))
    (v3871 c m1 w1 m2 w2 m3 w3 m19 x0 x1 x2) (v3872 c m1 w1 m2 w2 m3 w3 m20 x0 x1 x2) (r_638 c m1 w1 m2 w2 m3 w3 m4 w4 m5 w5 m9 w9 m19 m20 m22 m23 x0 x1 x2 x3 x4 x8)
    (tl K (64 * 6) (128 * 3)) (tl V (64 * 6) (256 * 3)) (stF K V G (T 3) 3 6) (fun a l => L.k 384 384 _ a l) (fun a l => L.v 384 768 _ a l) (st_3_6 L) a e

theorem og_3_7 (j : Fin 64) (e : Fin 256) : ((k0_pay1 (r_642 c m1 w1 m2 w2 m3 w3 m4 w4 m5 w5 m9 w9 m18 m19 m20 m22 m23 x0 x1 x2 x3 x4 x8) (r_644 c m1 w1 m2 w2 m3 w3 m4 w4 m5 w5 m9 w9 m18 m19 m20 m22 m23 x0 x1 x2 x3 x4 x8) cst_1109 (View.readAt (Elt Ideal) m10.view (Rect.unit ![0, 0] S1x256.size inb_S1x256_S1x256_0_0).toLoadRect (w10.unread x9)) (v4829 c m1 w1 m2 w2 m3 w3 m21 x0 x1 x2)) : FVec Ideal S64x256 .bf16) (ix2 j e)
    = ogF Q K V G NG R (T 3) 3 7 j e :=
  ogC_at (argOk_right (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 7) (128 * 3)) (fun a l => L.g 448 384 _ a l) (fun _ _ => L.real _ _))
    (v3922 c m1 w1 m2 w2 m3 w3 m18 x0 x1 x2) (v3923 c m1 w1 m2 w2 m3 w3 m19 x0 x1 x2) (v3924 c m1 w1 m2 w2 m3 w3 m20 x0 x1 x2) (r_640 c m1 w1 m2 w2 m3 w3 m4 w4 m5 w5 m9 w9 m19 m20 m22 m23 x0 x1 x2 x3 x4 x8) _ (v4829 c m1 w1 m2 w2 m3 w3 m21 x0 x1 x2)
    (tl Q (64 * 7) (128 * 3)) (tl K (64 * 7) (128 * 3)) (tl V (64 * 7) (256 * 3)) (stF K V G (T 3) 3 7) (fun a l => L.q 448 384 _ a l) (fun a l => L.k 448 384 _ a l) (fun a l => L.v 448 768 _ a l) (st_3_7 L) NG L.ng (tl R (64 * 7) (256 * 3)) (fun a l => L.r 448 768 _ a l) j e

theorem st_3_8 (a : Fin 128) (e : Fin 256) : (r_643 c m1 w1 m2 w2 m3 w3 m4 w4 m5 w5 m9 w9 m19 m20 m22 m23 x0 x1 x2 x3 x4 x8) (ix2 a e) = stF K V G (T 3) 3 8 a e :=
  stC_at (argOk_right (r_1 c m9 w9 x8) L.lev (v2118 c m1 w1 m2 w2 m3 w3 m4 w4 m5 w5 m22 x0 x1 x2 x3 x4) (v2124 c m1 w1 m2 w2 m3 w3 m4 w4 m5 w5 m22 x0 x1 x2 x3 x4) (tl G (64 * 7) (128 * 3)) (fun a l => L.g 448 384 _ a l) (fun _ _ => L.real _ _))
    (v3923 c m1 w1 m2 w2 m3 w3 m19 x0 x1 x2) (v3924 c m1 w1 m2 w2 m3 w3 m20 x0 x1 x2) (r_640 c m1 w1 m2 w2 m3 w3 m4 w4 m5 w5 m9 w9 m19 m20 m22 m23 x0 x1 x2 x3 x4 x8)
    (tl K (64 * 7) (128 * 3)) (tl V (64 * 7) (256 * 3)) (stF K V G (T 3) 3 7) (fun a l => L.k 448 384 _ a l) (fun a l => L.v 448 768 _ a l) (st_3_7 L) a e

/-- The gated output the body leaves. -/
theorem og_at (i : grid0.Coords) (hc0 : cond0_0 i) (hc1 : ¬cond0_1 i) (p : Fin 512) (e : Fin 1024) :
    out0_C_15 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix2 p e) = ogB Q K V G NG R T p e := by
  unfold out0_C_15
  rw [View.read_writes_junk_eq_canon]
  show View.canon (Val := Elt Ideal) (s := S512x1024) (e := .bf16) [⟨Rect.unit (s := S512x1024) ![448, 768] ![64, 256] inb_S512x1024_S64x256_448_768, k0_pay1 (r_642 c m1 w1 m2 w2 m3 w3 m4 w4 m5 w5 m9 w9 m18 m19 m20 m22 m23 x0 x1 x2 x3 x4 x8) (r_644 c m1 w1 m2 w2 m3 w3 m4 w4 m5 w5 m9 w9 m18 m19 m20 m22 m23 x0 x1 x2 x3 x4 x8) cst_1109 (View.readAt (Elt Ideal) m10.view (Rect.unit ![0, 0] S1x256.size inb_S1x256_S1x256_0_0).toLoadRect (w10.unread x9)) (v4829 c m1 w1 m2 w2 m3 w3 m21 x0 x1 x2)⟩, ⟨Rect.unit (s := S512x1024) ![384, 768] S64x256.size inb_S512x1024_S64x256_384_768, k0_pay816 (r_641 c m1 w1 m2 w2 m3 w3 m4 w4 m5 w5 m9 w9 m10 w10 m18 m19 m20 m22 m23 x0 x1 x2 x3 x4 x8 x9) (v4805 c m1 w1 m2 w2 m3 w3 m21 x0 x1 x2)⟩, ⟨Rect.unit (s := S512x1024) ![320, 768] S64x256.size inb_S512x1024_S64x256_320_768, k0_pay812 (r_639 c m1 w1 m2 w2 m3 w3 m4 w4 m5 w5 m9 w9 m10 w10 m18 m19 m20 m22 m23 x0 x1 x2 x3 x4 x8 x9) (v4766 c m1 w1 m2 w2 m3 w3 m21 x0 x1 x2)⟩, ⟨Rect.unit (s := S512x1024) ![256, 768] S64x256.size inb_S512x1024_S64x256_256_768, k0_pay809 (r_574 c m1 w1 m2 w2 m3 w3 m4 w4 m5 w5 m9 w9 m18 m19 m20 m22 x0 x1 x2 x3 x4 x8) (r_575 c m1 w1 m2 w2 m3 w3 m4 w4 m5 w5 m9 w9 m18 m22 x0 x1 x2 x3 x4 x8) (r_637 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4742 c m1 w1 m2 w2 m3 w3 m21 x0 x1 x2)⟩, ⟨Rect.unit (s := S512x1024) ![192, 768] S64x256.size inb_S512x1024_S64x256_192_768, k0_pay807 (r_566 c m1 w1 m2 w2 m3 w3 m4 w4 m5 w5 m9 w9 m18 m19 m20 m22 x0 x1 x2 x3 x4 x8) (r_567 c m1 w1 m2 w2 m3 w3 m4 w4 m5 w5 m9 w9 m18 m22 x0 x1 x2 x3 x4 x8) (r_635 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4718 c m1 w1 m2 w2 m3 w3 m21 x0 x1 x2)⟩, ⟨Rect.unit (s := S512x1024) ![128, 768] S64x256.size inb_S512x1024_S64x256_128_768, k0_pay805 (r_634 c m1 w1 m2 w2 m3 w3 m4 w4 m5 w5 m9 w9 m18 m19 m20 m22 m23 x0 x1 x2 x3 x4 x8) (r_636 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4694 c m1 w1 m2 w2 m3 w3 m21 x0 x1 x2)⟩, ⟨Rect.unit (s := S512x1024) ![64, 768] S64x256.size inb_S512x1024_S64x256_64_768, k0_pay801 (r_551 c m1 w1 m2 w2 m3 w3 m4 w4 m5 w5 m9 w9 m18 m19 m20 m22 x0 x1 x2 x3 x4 x8) (r_552 c m1 w1 m2 w2 m3 w3 m4 w4 m5 w5 m9 w9 m18 m22 x0 x1 x2 x3 x4 x8) (r_632 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4670 c m1 w1 m2 w2 m3 w3 m21 x0 x1 x2)⟩, ⟨Rect.unit (s := S512x1024) ![0, 768] S64x256.size inb_S512x1024_S64x256_0_768, k0_pay799 (r_633 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4646 c m1 w1 m2 w2 m3 w3 m21 x0 x1 x2)⟩, ⟨Rect.unit (s := S512x1024) ![448, 512] S64x256.size inb_S512x1024_S64x256_448_512, r_631 c m1 w1 m2 w2 m3 w3 m4 w4 m5 w5 m9 w9 m10 w10 m18 m19 m20 m21 m22 m23 x0 x1 x2 x3 x4 x8 x9⟩, ⟨Rect.unit (s := S512x1024) ![384, 512] S64x256.size inb_S512x1024_S64x256_384_512, k0_pay791 (r_628 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4578 c m1 w1 m2 w2 m3 w3 m21 x0 x1 x2)⟩, ⟨Rect.unit (s := S512x1024) ![320, 512] S64x256.size inb_S512x1024_S64x256_320_512, k0_pay788 (r_523 c m1 w1 m2 w2 m3 w3 m4 w4 m5 w5 m9 w9 m18 m19 m20 m22 x0 x1 x2 x3 x4 x8) (r_524 c m1 w1 m2 w2 m3 w3 m4 w4 m5 w5 m9 w9 m18 m22 x0 x1 x2 x3 x4 x8) (r_626 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4554 c m1 w1 m2 w2 m3 w3 m21 x0 x1 x2)⟩, ⟨Rect.unit (s := S512x1024) ![256, 512] S64x256.size inb_S512x1024_S64x256_256_512, k0_pay786 (r_625 c m1 w1 m2 w2 m3 w3 m4 w4 m5 w5 m9 w9 m18 m19 m20 m22 m23 x0 x1 x2 x3 x4 x8) (r_627 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4530 c m1 w1 m2 w2 m3 w3 m21 x0 x1 x2)⟩, ⟨Rect.unit (s := S512x1024) ![192, 512] S64x256.size inb_S512x1024_S64x256_192_512, k0_pay782 (r_509 c m1 w1 m2 w2 m3 w3 m4 w4 m5 w5 m9 w9 m18 m19 m20 m22 x0 x1 x2 x3 x4 x8) (r_510 c m1 w1 m2 w2 m3 w3 m4 w4 m5 w5 m9 w9 m18 m22 x0 x1 x2 x3 x4 x8) (r_623 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4506 c m1 w1 m2 w2 m3 w3 m21 x0 x1 x2)⟩, ⟨Rect.unit (s := S512x1024) ![128, 512] S64x256.size inb_S512x1024_S64x256_128_512, k0_pay780 (r_624 c m1 w1 m2 w2 m3 w3 m4 w4 m5 w5 m9 w9 m10 w10 m18 m19 m20 m22 m23 x0 x1 x2 x3 x4 x8 x9) (v4482 c m1 w1 m2 w2 m3 w3 m21 x0 x1 x2)⟩, ⟨Rect.unit (s := S512x1024) ![64, 512] S64x256.size inb_S512x1024_S64x256_64_512, r_621 c m1 w1 m2 w2 m3 w3 m4 w4 m5 w5 m9 w9 m10 w10 m18 m19 m20 m21 m22 m23 x0 x1 x2 x3 x4 x8 x9⟩, ⟨Rect.unit (s := S512x1024) ![0, 512] S64x256.size inb_S512x1024_S64x256_0_512, k0_pay773 (r_618 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4416 c m1 w1 m2 w2 m3 w3 m21 x0 x1 x2)⟩, ⟨Rect.unit (s := S512x1024) ![448, 256] S64x256.size inb_S512x1024_S64x256_448_256, k0_pay768 (r_482 c m1 w1 m2 w2 m3 w3 m4 w4 m5 w5 m9 w9 m18 m19 m20 m22 x0 x1 x2 x3 x4 x8) (r_483 c m1 w1 m2 w2 m3 w3 m4 w4 m5 w5 m9 w9 m18 m22 x0 x1 x2 x3 x4 x8) (r_616 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4387 c m1 w1 m2 w2 m3 w3 m21 x0 x1 x2)⟩, ⟨Rect.unit (s := S512x1024) ![384, 256] S64x256.size inb_S512x1024_S64x256_384_256, k0_pay767 (r_617 c m1 w1 m2 w2 m3 w3 m4 w4 m5 w5 m9 w9 m10 w10 m18 m19 m20 m22 m23 x0 x1 x2 x3 x4 x8 x9) (v4363 c m1 w1 m2 w2 m3 w3 m21 x0 x1 x2)⟩, ⟨Rect.unit (s := S512x1024) ![320, 256] S64x256.size inb_S512x1024_S64x256_320_256, k0_pay764 (r_465 c m1 w1 m2 w2 m3 w3 m4 w4 m5 w5 m9 w9 m18 m19 m20 m22 x0 x1 x2 x3 x4 x8) (r_615 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4339 c m1 w1 m2 w2 m3 w3 m21 x0 x1 x2)⟩, ⟨Rect.unit (s := S512x1024) ![256, 256] S64x256.size inb_S512x1024_S64x256_256_256, k0_pay761 (r_457 c m1 w1 m2 w2 m3 w3 m4 w4 m5 w5 m9 w9 m18 m19 m20 m22 x0 x1 x2 x3 x4 x8) (r_458 c m1 w1 m2 w2 m3 w3 m4 w4 m5 w5 m9 w9 m18 m22 x0 x1 x2 x3 x4 x8) (r_611 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4315 c m1 w1 m2 w2 m3 w3 m21 x0 x1 x2)⟩, ⟨Rect.unit (s := S512x1024) ![192, 256] S64x256.size inb_S512x1024_S64x256_192_256, k0_pay757 (r_612 c m1 w1 m2 w2 m3 w3 m4 w4 m5 w5 m9 w9 m10 w10 m18 m19 m20 m22 m23 x0 x1 x2 x3 x4 x8 x9) (v4285 c m1 w1 m2 w2 m3 w3 m21 x0 x1 x2)⟩, ⟨Rect.unit (s := S512x1024) ![128, 256] S64x256.size inb_S512x1024_S64x256_128_256, k0_pay754 (r_443 c m1 w1 m2 w2 m3 w3 m4 w4 m5 w5 m9 w9 m18 m19 m20 m22 x0 x1 x2 x3 x4 x8) (r_444 c m1 w1 m2 w2 m3 w3 m4 w4 m5 w5 m9 w9 m18 m22 x0 x1 x2 x3 x4 x8) (r_610 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4261 c m1 w1 m2 w2 m3 w3 m21 x0 x1 x2)⟩, ⟨Rect.unit (s := S512x1024) ![64, 256] S64x256.size inb_S512x1024_S64x256_64_256, k0_pay752 (r_436 c m1 w1 m2 w2 m3 w3 m4 w4 m5 w5 m9 w9 m18 m19 m20 m22 x0 x1 x2 x3 x4 x8) (r_437 c m1 w1 m2 w2 m3 w3 m4 w4 m5 w5 m9 w9 m18 m22 x0 x1 x2 x3 x4 x8) (r_608 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4237 c m1 w1 m2 w2 m3 w3 m21 x0 x1 x2)⟩, ⟨Rect.unit (s := S512x1024) ![0, 256] S64x256.size inb_S512x1024_S64x256_0_256, k0_pay750 (r_607 c m1 w1 m2 w2 m3 w3 m4 w4 m5 w5 m9 w9 m18 m19 m20 m22 m23 x0 x1 x2 x3 x4 x8) (r_609 c m1 w1 m2 w2 m3 w3 m4 w4 m5 w5 m9 w9 m18 m19 m20 m22 m23 x0 x1 x2 x3 x4 x8) (View.readAt (Elt Ideal) m10.view (Rect.unit ![0, 0] S1x256.size inb_S1x256_S1x256_0_0).toLoadRect (w10.unread x9)) (v4213 c m1 w1 m2 w2 m3 w3 m21 x0 x1 x2)⟩, ⟨Rect.unit (s := S512x1024) ![448, 0] S64x256.size inb_S512x1024_S64x256_448_0, k0_pay744 (r_425 c m1 w1 m2 w2 m3 w3 m4 w4 m5 w5 m9 w9 m18 m19 m20 m22 x0 x1 x2 x3 x4 x8) (r_426 c m1 w1 m2 w2 m3 w3 m4 w4 m5 w5 m9 w9 m18 m22 x0 x1 x2 x3 x4 x8) (r_605 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4184 c m1 w1 m2 w2 m3 w3 m21 x0 x1 x2)⟩, ⟨Rect.unit (s := S512x1024) ![384, 0] S64x256.size inb_S512x1024_S64x256_384_0, r_606 c m1 w1 m2 w2 m3 w3 m4 w4 m5 w5 m9 w9 m10 w10 m18 m19 m20 m21 m22 m23 x0 x1 x2 x3 x4 x8 x9⟩, ⟨Rect.unit (s := S512x1024) ![320, 0] S64x256.size inb_S512x1024_S64x256_320_0, k0_pay739 (r_410 c m1 w1 m2 w2 m3 w3 m4 w4 m5 w5 m9 w9 m18 m19 m20 m22 x0 x1 x2 x3 x4 x8) (r_411 c m1 w1 m2 w2 m3 w3 m4 w4 m5 w5 m9 w9 m18 m22 x0 x1 x2 x3 x4 x8) (r_601 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4118 c m1 w1 m2 w2 m3 w3 m21 x0 x1 x2)⟩, ⟨Rect.unit (s := S512x1024) ![256, 0] S64x256.size inb_S512x1024_S64x256_256_0, k0_pay737 (r_600 c m1 w1 m2 w2 m3 w3 m4 w4 m5 w5 m9 w9 m18 m19 m20 m22 m23 x0 x1 x2 x3 x4 x8) (r_602 c m1 w1 m2 w2 m3 w3 m4 w4 m5 w5 m9 w9 m18 m19 m20 m22 m23 x0 x1 x2 x3 x4 x8) k0_pay736 (View.readAt (Elt Ideal) m10.view (Rect.unit ![0, 0] S1x256.size inb_S1x256_S1x256_0_0).toLoadRect (w10.unread x9)) (v4094 c m1 w1 m2 w2 m3 w3 m21 x0 x1 x2)⟩, ⟨Rect.unit (s := S512x1024) ![192, 0] S64x256.size inb_S512x1024_S64x256_192_0, k0_pay732 (r_397 c m1 w1 m2 w2 m3 w3 m4 w4 m5 w5 m9 w9 m18 m19 m20 m22 x0 x1 x2 x3 x4 x8) (r_398 c m1 w1 m2 w2 m3 w3 m4 w4 m5 w5 m9 w9 m18 m22 x0 x1 x2 x3 x4 x8) (r_597 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4070 c m1 w1 m2 w2 m3 w3 m21 x0 x1 x2)⟩, ⟨Rect.unit (s := S512x1024) ![128, 0] S64x256.size inb_S512x1024_S64x256_128_0, k0_pay730 (r_598 c m1 w1 m2 w2 m3 w3 m4 w4 m5 w5 m9 w9 m18 m19 m20 m22 m23 x0 x1 x2 x3 x4 x8) (r_599 c m10 w10 x9) (v4046 c m1 w1 m2 w2 m3 w3 m21 x0 x1 x2)⟩, ⟨Rect.unit (s := S512x1024) ![64, 0] S64x256.size inb_S512x1024_S64x256_64_0, k0_pay727 (r_386 c m1 w1 m2 w2 m3 w3 m4 w4 m5 w5 m9 w9 m18 m19 m20 m22 x0 x1 x2 x3 x4 x8) (r_387 c m1 w1 m2 w2 m3 w3 m4 w4 m5 w5 m9 w9 m18 m22 x0 x1 x2 x3 x4 x8) (r_595 c m1 w1 m2 w2 m3 w3 m4 w4 m5 w5 m9 w9 m19 m20 m22 m23 x0 x1 x2 x3 x4 x8) (View.readAt (Elt Ideal) m10.view (Rect.unit ![0, 0] S1x256.size inb_S1x256_S1x256_0_0).toLoadRect (w10.unread x9)) (v4022 c m1 w1 m2 w2 m3 w3 m21 x0 x1 x2)⟩, ⟨Rect.unit (s := S512x1024) ![0, 0] S64x256.size inb_S512x1024_S64x256_0_0, r_596 c m1 w1 m2 w2 m3 w3 m4 w4 m5 w5 m9 w9 m10 w10 m18 m19 m20 m21 m22 m23 x0 x1 x2 x3 x4 x8 x9⟩] (ix2 p e) = _
  canon_tiles x n
  · exact og_close (k := 3) (og_3_7 L) x rfl (by first | exact n0 | exact n0.trans (Nat.zero_add _).symm | omega) (by first | exact n1 | exact n1.trans (Nat.zero_add _).symm | omega)
  · exact og_close (k := 3) (og_3_6 L) x rfl (by first | exact n0 | exact n0.trans (Nat.zero_add _).symm | omega) (by first | exact n1 | exact n1.trans (Nat.zero_add _).symm | omega)
  · exact og_close (k := 3) (og_3_5 L) x rfl (by first | exact n0 | exact n0.trans (Nat.zero_add _).symm | omega) (by first | exact n1 | exact n1.trans (Nat.zero_add _).symm | omega)
  · exact og_close (k := 3) (og_3_4 L) x rfl (by first | exact n0 | exact n0.trans (Nat.zero_add _).symm | omega) (by first | exact n1 | exact n1.trans (Nat.zero_add _).symm | omega)
  · exact og_close (k := 3) (og_3_3 L) x rfl (by first | exact n0 | exact n0.trans (Nat.zero_add _).symm | omega) (by first | exact n1 | exact n1.trans (Nat.zero_add _).symm | omega)
  · exact og_close (k := 3) (og_3_2 L) x rfl (by first | exact n0 | exact n0.trans (Nat.zero_add _).symm | omega) (by first | exact n1 | exact n1.trans (Nat.zero_add _).symm | omega)
  · exact og_close (k := 3) (og_3_1 L) x rfl (by first | exact n0 | exact n0.trans (Nat.zero_add _).symm | omega) (by first | exact n1 | exact n1.trans (Nat.zero_add _).symm | omega)
  · exact og_close (k := 3) (og_3_0 L) x rfl (by first | exact n0 | exact n0.trans (Nat.zero_add _).symm | omega) (by first | exact n1 | exact n1.trans (Nat.zero_add _).symm | omega)
  · exact og_close (k := 2) (og_2_7 L) x rfl (by first | exact n0 | exact n0.trans (Nat.zero_add _).symm | omega) (by first | exact n1 | exact n1.trans (Nat.zero_add _).symm | omega)
  · exact og_close (k := 2) (og_2_6 L) x rfl (by first | exact n0 | exact n0.trans (Nat.zero_add _).symm | omega) (by first | exact n1 | exact n1.trans (Nat.zero_add _).symm | omega)
  · exact og_close (k := 2) (og_2_5 L) x rfl (by first | exact n0 | exact n0.trans (Nat.zero_add _).symm | omega) (by first | exact n1 | exact n1.trans (Nat.zero_add _).symm | omega)
  · exact og_close (k := 2) (og_2_4 L) x rfl (by first | exact n0 | exact n0.trans (Nat.zero_add _).symm | omega) (by first | exact n1 | exact n1.trans (Nat.zero_add _).symm | omega)
  · exact og_close (k := 2) (og_2_3 L) x rfl (by first | exact n0 | exact n0.trans (Nat.zero_add _).symm | omega) (by first | exact n1 | exact n1.trans (Nat.zero_add _).symm | omega)
  · exact og_close (k := 2) (og_2_2 L) x rfl (by first | exact n0 | exact n0.trans (Nat.zero_add _).symm | omega) (by first | exact n1 | exact n1.trans (Nat.zero_add _).symm | omega)
  · exact og_close (k := 2) (og_2_1 L) x rfl (by first | exact n0 | exact n0.trans (Nat.zero_add _).symm | omega) (by first | exact n1 | exact n1.trans (Nat.zero_add _).symm | omega)
  · exact og_close (k := 2) (og_2_0 L) x rfl (by first | exact n0 | exact n0.trans (Nat.zero_add _).symm | omega) (by first | exact n1 | exact n1.trans (Nat.zero_add _).symm | omega)
  · exact og_close (k := 1) (og_1_7 L) x rfl (by first | exact n0 | exact n0.trans (Nat.zero_add _).symm | omega) (by first | exact n1 | exact n1.trans (Nat.zero_add _).symm | omega)
  · exact og_close (k := 1) (og_1_6 L) x rfl (by first | exact n0 | exact n0.trans (Nat.zero_add _).symm | omega) (by first | exact n1 | exact n1.trans (Nat.zero_add _).symm | omega)
  · exact og_close (k := 1) (og_1_5 L) x rfl (by first | exact n0 | exact n0.trans (Nat.zero_add _).symm | omega) (by first | exact n1 | exact n1.trans (Nat.zero_add _).symm | omega)
  · exact og_close (k := 1) (og_1_4 L) x rfl (by first | exact n0 | exact n0.trans (Nat.zero_add _).symm | omega) (by first | exact n1 | exact n1.trans (Nat.zero_add _).symm | omega)
  · exact og_close (k := 1) (og_1_3 L) x rfl (by first | exact n0 | exact n0.trans (Nat.zero_add _).symm | omega) (by first | exact n1 | exact n1.trans (Nat.zero_add _).symm | omega)
  · exact og_close (k := 1) (og_1_2 L) x rfl (by first | exact n0 | exact n0.trans (Nat.zero_add _).symm | omega) (by first | exact n1 | exact n1.trans (Nat.zero_add _).symm | omega)
  · exact og_close (k := 1) (og_1_1 L) x rfl (by first | exact n0 | exact n0.trans (Nat.zero_add _).symm | omega) (by first | exact n1 | exact n1.trans (Nat.zero_add _).symm | omega)
  · exact og_close (k := 1) (og_1_0 L) x rfl (by first | exact n0 | exact n0.trans (Nat.zero_add _).symm | omega) (by first | exact n1 | exact n1.trans (Nat.zero_add _).symm | omega)
  · exact og_close (k := 0) (og_0_7 L) x rfl (by first | exact n0 | exact n0.trans (Nat.zero_add _).symm | omega) (by first | exact n1 | exact n1.trans (Nat.zero_add _).symm | omega)
  · exact og_close (k := 0) (og_0_6 L) x rfl (by first | exact n0 | exact n0.trans (Nat.zero_add _).symm | omega) (by first | exact n1 | exact n1.trans (Nat.zero_add _).symm | omega)
  · exact og_close (k := 0) (og_0_5 L) x rfl (by first | exact n0 | exact n0.trans (Nat.zero_add _).symm | omega) (by first | exact n1 | exact n1.trans (Nat.zero_add _).symm | omega)
  · exact og_close (k := 0) (og_0_4 L) x rfl (by first | exact n0 | exact n0.trans (Nat.zero_add _).symm | omega) (by first | exact n1 | exact n1.trans (Nat.zero_add _).symm | omega)
  · exact og_close (k := 0) (og_0_3 L) x rfl (by first | exact n0 | exact n0.trans (Nat.zero_add _).symm | omega) (by first | exact n1 | exact n1.trans (Nat.zero_add _).symm | omega)
  · exact og_close (k := 0) (og_0_2 L) x rfl (by first | exact n0 | exact n0.trans (Nat.zero_add _).symm | omega) (by first | exact n1 | exact n1.trans (Nat.zero_add _).symm | omega)
  · exact og_close (k := 0) (og_0_1 L) x rfl (by first | exact n0 | exact n0.trans (Nat.zero_add _).symm | omega) (by first | exact n1 | exact n1.trans (Nat.zero_add _).symm | omega)
  · exact og_close (k := 0) (og_0_0 L) x rfl (by first | exact n0 | exact n0.trans (Nat.zero_add _).symm | omega) (by first | exact n1 | exact n1.trans (Nat.zero_add _).symm | omega)

/-- The state the body leaves. -/
theorem state_at (i : grid0.Coords) (hc0 : cond0_0 i) (hc1 : ¬cond0_1 i) (h : Fin 4) (a : Fin 128) (e : Fin 256) :
    sout0_C_6 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix3 h a e) = stF K V G (T h) h.val 8 a e := by
  unfold sout0_C_6
  rw [View.read_writes_junk_eq_canon]
  exact canon_states (stC (argC (half1 (pairC (r_1 c m9 w9 x8) (v584 c m1 w1 m2 w2 m3 w3 m4 w4 m5 w5 m22 x0 x1 x2 x3 x4) (v590 c m1 w1 m2 w2 m3 w3 m4 w4 m5 w5 m22 x0 x1 x2 x3 x4)))) (v2629 c m1 w1 m2 w2 m3 w3 m19 x0 x1 x2) (v2630 c m1 w1 m2 w2 m3 w3 m20 x0 x1 x2) (r_605 c m1 w1 m2 w2 m3 w3 m4 w4 m5 w5 m9 w9 m19 m20 m22 m23 x0 x1 x2 x3 x4 x8)) (stC (argC (half1 (pairC (r_1 c m9 w9 x8) (v1106 c m1 w1 m2 w2 m3 w3 m4 w4 m5 w5 m22 x0 x1 x2 x3 x4) (v1112 c m1 w1 m2 w2 m3 w3 m4 w4 m5 w5 m22 x0 x1 x2 x3 x4)))) (v3068 c m1 w1 m2 w2 m3 w3 m19 x0 x1 x2) (v3069 c m1 w1 m2 w2 m3 w3 m20 x0 x1 x2) (r_616 c m1 w1 m2 w2 m3 w3 m4 w4 m5 w5 m9 w9 m19 m20 m22 m23 x0 x1 x2 x3 x4 x8)) (r_630 c m1 w1 m2 w2 m3 w3 m4 w4 m5 w5 m9 w9 m19 m20 m22 m23 x0 x1 x2 x3 x4 x8) (r_643 c m1 w1 m2 w2 m3 w3 m4 w4 m5 w5 m9 w9 m19 m20 m22 m23 x0 x1 x2 x3 x4 x8) _ (fun h a e => stF K V G (T h) h.val 8 a e) h a e (st_0_8 L a e) (st_1_8 L a e) (st_2_8 L a e) (st_3_8 L a e)

end Cert.Gla.CaseC
-- ==== Proof.GlaRunC.lean ====
/- What the body reads back in case C, and the five results of the projection that it leaves. -/
module

public import proofs.«01_k».proof.Proof.GlaCaseC
public import proofs.«01_k».proof.Proof.GlaFields

@[expose] public section

set_option maxRecDepth 16384

noncomputable section

namespace Cert.Gla.CaseC

open Cert.KernelGlaIdeal Cert.KernelGlaIdeal.Gen Cert.KernelGlaIdeal.Gen.kernelRun0_C.sl
open Idealize.ShloMosaic Idealize.ShloMosaic.TcCoe Idealize.SL.Sem
open Cert.Tail (normRow)

variable {c : Dev nD} {i : grid0.Coords} {m1 : Memref sig .tc .vmem S512x1024 .f32} {w1 : m1.IsWhole} {m2 : Memref sig .tc .vmem S1x1024 .f32} {w2 : m2.IsWhole} {m3 : Memref sig .tc .vmem S1024x8208 .bf16} {w3 : m3.IsWhole} {m4 : Memref sig .tc .vmem S128x512 .bf16} {w4 : m4.IsWhole} {m5 : Memref sig .tc .vmem S1x512 .f32} {w5 : m5.IsWhole} {m6 : Memref sig .tc .vmem S1x256 .f32} {w6 : m6.IsWhole} {m7 : Memref sig .tc .vmem S1x256 .f32} {w7 : m7.IsWhole} {m8 : Memref sig .tc .vmem S256x256 .bf16} {w8 : m8.IsWhole} {m9 : Memref sig .tc .vmem S256x128 .bf16} {w9 : m9.IsWhole} {m10 : Memref sig .tc .vmem S1x256 .f32} {w10 : m10.IsWhole} {m11 : Memref sig .tc .vmem S512x1024 .bf16} {w11 : m11.IsWhole} {m12 : Memref sig .tc .vmem S512x1024 .bf16} {w12 : m12.IsWhole} {m13 : Memref sig .tc .vmem S512x1024 .bf16} {w13 : m13.IsWhole} {m14 : Memref sig .tc .vmem S512x1024 .bf16} {w14 : m14.IsWhole} {m15 : Memref sig .tc .vmem S512x1024 .bf16} {w15 : m15.IsWhole} {m16 : Memref sig .tc .vmem S512x1024 .bf16} {w16 : m16.IsWhole} {m17 : Memref sig .tc .vmem S1024x2048 .bf16} {w17 : m17.IsWhole} {m18 : Memref sig .tc .vmem S512x512 .bf16} {w18 : m18.IsWhole} {m19 : Memref sig .tc .vmem S512x512 .bf16} {w19 : m19.IsWhole} {m20 : Memref sig .tc .vmem S512x1024 .bf16} {w20 : m20.IsWhole} {m21 : Memref sig .tc .vmem S512x1024 .bf16} {w21 : m21.IsWhole} {m22 : Memref sig .tc .vmem S512x512 .f32} {w22 : m22.IsWhole} {m23 : Memref sig .tc .vmem S4x128x256 .f32} {w23 : m23.IsWhole} {x0 : Vec Ideal S512x1024 .f32} {x1 : Vec Ideal S1x1024 .f32} {x2 : Vec Ideal S1024x8208 .bf16} {x3 : Vec Ideal S128x512 .bf16} {x4 : Vec Ideal S1x512 .f32} {x5 : Vec Ideal S1x256 .f32} {x6 : Vec Ideal S1x256 .f32} {x7 : Vec Ideal S256x256 .bf16} {x8 : Vec Ideal S256x128 .bf16} {x9 : Vec Ideal S1x256 .f32} {xs0 : Vec Ideal S1024x2048 .bf16}

theorem row_at (p : Fin 512) (k : Fin 1024) : r c m1 w1 m2 w2 x0 x1 (ix2 p k) = normRow (fun k => x0 (ix2 p k)) (fun k => x1 (ix2 0 k)) k :=
  normed_at m1 w1 m2 w2 _ _ p k

theorem r_2_at (p l : Fin 512) (n : Fin 8208) (hn : n.val = 3072 + l.val) : (r_2 c m1 w1 m2 w2 m3 w3 x0 x1 x2) (ix2 p l) = bproj x0 x1 x2 p n :=
  proj512_at (H := r c m1 w1 m2 w2 x0 x1) row_at m3 w3 3072 _ p l n hn

theorem r_3_at (p l : Fin 512) (n : Fin 8208) (hn : n.val = 3584 + l.val) : (r_3 c m1 w1 m2 w2 m3 w3 x0 x1 x2) (ix2 p l) = bproj x0 x1 x2 p n :=
  proj512_at (H := r c m1 w1 m2 w2 x0 x1) row_at m3 w3 3584 _ p l n hn

theorem r_4_at (p l : Fin 512) (n : Fin 8208) (hn : n.val = 4096 + l.val) : (r_4 c m1 w1 m2 w2 m3 w3 x0 x1 x2) (ix2 p l) = bproj x0 x1 x2 p n :=
  proj512_at (H := r c m1 w1 m2 w2 x0 x1) row_at m3 w3 4096 _ p l n hn

theorem r_5_at (p l : Fin 512) (n : Fin 8208) (hn : n.val = 5632 + l.val) : (r_5 c m1 w1 m2 w2 m3 w3 x0 x1 x2) (ix2 p l) = bproj x0 x1 x2 p n :=
  proj512_at (H := r c m1 w1 m2 w2 x0 x1) row_at m3 w3 5632 _ p l n hn

theorem r_6_at (p l : Fin 512) (n : Fin 8208) (hn : n.val = 2048 + l.val) : (r_6 c m1 w1 m2 w2 m3 w3 x0 x1 x2) (ix2 p l) = bproj x0 x1 x2 p n :=
  proj512_at (H := r c m1 w1 m2 w2 x0 x1) row_at m3 w3 2048 _ p l n hn

theorem r_9_at (p l : Fin 512) (n : Fin 8208) (hn : n.val = 2560 + l.val) : (r_9 c m1 w1 m2 w2 m3 w3 x0 x1 x2) (ix2 p l) = bproj x0 x1 x2 p n :=
  proj512_at (H := r c m1 w1 m2 w2 x0 x1) row_at m3 w3 2560 _ p l n hn

theorem r_8_at (p : Fin 512) (l : Fin 256) (n : Fin 8208) (hn : n.val = 0 + l.val) : (r_8 c m1 w1 m2 w2 m3 w3 x0 x1 x2) (ix2 p l) = bproj x0 x1 x2 p n :=
  proj256_at (H := r c m1 w1 m2 w2 x0 x1) row_at m3 w3 0 _ p l n hn

theorem r_152_at (p : Fin 512) (l : Fin 256) (n : Fin 8208) (hn : n.val = 256 + l.val) : (r_152 c m1 w1 m2 w2 m3 w3 x0 x1 x2) (ix2 p l) = bproj x0 x1 x2 p n :=
  proj256_at (H := r c m1 w1 m2 w2 x0 x1) row_at m3 w3 256 _ p l n hn

theorem r_390_at (p : Fin 512) (l : Fin 256) (n : Fin 8208) (hn : n.val = 512 + l.val) : (r_390 c m1 w1 m2 w2 m3 w3 x0 x1 x2) (ix2 p l) = bproj x0 x1 x2 p n :=
  proj256_at (H := r c m1 w1 m2 w2 x0 x1) row_at m3 w3 512 _ p l n hn

theorem r_469_at (p : Fin 512) (l : Fin 256) (n : Fin 8208) (hn : n.val = 768 + l.val) : (r_469 c m1 w1 m2 w2 m3 w3 x0 x1 x2) (ix2 p l) = bproj x0 x1 x2 p n :=
  proj256_at (H := r c m1 w1 m2 w2 x0 x1) row_at m3 w3 768 _ p l n hn

theorem r_555_at (p : Fin 512) (l : Fin 256) (n : Fin 8208) (hn : n.val = 1024 + l.val) : (r_555 c m1 w1 m2 w2 m3 w3 x0 x1 x2) (ix2 p l) = bproj x0 x1 x2 p n :=
  proj256_at (H := r c m1 w1 m2 w2 x0 x1) row_at m3 w3 1024 _ p l n hn

theorem r_604_at (p : Fin 512) (l : Fin 256) (n : Fin 8208) (hn : n.val = 1280 + l.val) : (r_604 c m1 w1 m2 w2 m3 w3 x0 x1 x2) (ix2 p l) = bproj x0 x1 x2 p n :=
  proj256_at (H := r c m1 w1 m2 w2 x0 x1) row_at m3 w3 1280 _ p l n hn

theorem r_613_at (p : Fin 512) (l : Fin 256) (n : Fin 8208) (hn : n.val = 1536 + l.val) : (r_613 c m1 w1 m2 w2 m3 w3 x0 x1 x2) (ix2 p l) = bproj x0 x1 x2 p n :=
  proj256_at (H := r c m1 w1 m2 w2 x0 x1) row_at m3 w3 1536 _ p l n hn

theorem r_622_at (p : Fin 512) (l : Fin 256) (n : Fin 8208) (hn : n.val = 1792 + l.val) : (r_622 c m1 w1 m2 w2 m3 w3 x0 x1 x2) (ix2 p l) = bproj x0 x1 x2 p n :=
  proj256_at (H := r c m1 w1 m2 w2 x0 x1) row_at m3 w3 1792 _ p l n hn

theorem v_left (p l : Fin 512) : (k0_pay20 (r_4 c m1 w1 m2 w2 m3 w3 x0 x1 x2)) (ix2 p l) = bV x0 x1 x2 p ⟨l.val, by omega⟩ :=
  (kept_at _ _ _).trans (r_4_at p l _ rfl)

theorem v_right (p l : Fin 512) : (k0_pay22 (r c m1 w1 m2 w2 x0 x1) (View.readAt (Elt Ideal) m3.view (Rect.unit (s := S1024x8208) ![0, 4608] S1024x512.size inb_S1024x8208_S1024x512_0_4608).toLoadRect (w3.unread x2))) (ix2 p l) = bV x0 x1 x2 p ⟨512 + l.val, by omega⟩ :=
  (kept_at _ _ _).trans (proj512_at (H := r c m1 w1 m2 w2 x0 x1) row_at m3 w3 4608 _ p l _ (show 4096 + (512 + l.val) = 4608 + l.val by omega))

theorem r_left (p l : Fin 512) : (k0_pay25 (r_7 c m1 w1 m2 w2 m3 w3 x0 x1 x2)) (ix2 p l) = bR x0 x1 x2 p ⟨l.val, by omega⟩ :=
  (silu_at _ _ _).trans (congrArg silu (proj512_at (H := r c m1 w1 m2 w2 x0 x1) row_at m3 w3 5120 _ p l _ rfl))

theorem r_right (p l : Fin 512) : (k0_pay27 (r_5 c m1 w1 m2 w2 m3 w3 x0 x1 x2)) (ix2 p l) = bR x0 x1 x2 p ⟨512 + l.val, by omega⟩ :=
  (silu_at _ _ _).trans (congrArg silu (r_5_at p l _ (show 5120 + (512 + l.val) = 5632 + l.val by omega)))

/-- What the body reads back. -/
theorem reads (hl : IsLevels x8) (hg : ∀ p l, ∃ r : ℝ, bG x0 x1 x2 x3 x4 p l = (r : EReal)) :
    Reads c m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 x0 x1 x2 x3 x4 x5 x6 x7 x8 x9 xs0 (bQ x0 x1 x2) (bK x0 x1 x2) (bV x0 x1 x2) (bG x0 x1 x2 x3 x4) (bR x0 x1 x2) (fun a => x9 (ix2 0 a)) (fun _ _ _ => 0) where
  lev := (congrArg (fun M => IsLevels (k0_pay6 (F := Ideal) M)) (full_at m9 w9 x8 _ _ (fun a => match a with | 0 => rfl | 1 => rfl))).mpr (levels_kept x8 hl)
  real := hg
  q r0 c0 inb j l := (read_one m18.view _ r0 c0 _ inb j l).trans ((scaled_at _ _ _).trans (congrArg (· * Ideal.ofBits .f32 0x3DB504F3#32) (r_2_at _ _ _ rfl)))
  k r0 c0 inb j l := (read_one m19.view _ r0 c0 _ inb j l).trans ((kept_at _ _ _).trans (r_3_at _ _ _ rfl))
  v r0 c0 inb j l := read_two m20.view (bV x0 x1 x2) _ _ v_left v_right r0 c0 _ _ inb j l
  r r0 c0 inb j l := read_two m21.view (bR x0 x1 x2) _ _ r_left r_right r0 c0 _ _ inb j l
  g r0 c0 inb j l := (read_one m22.view _ r0 c0 _ inb j l).trans (logit_at (H := r c m1 w1 m2 w2 x0 x1) row_at m3 w3 _ m4 w4 x3 _ m5 w5 x4 _ _ _)
  ng a := congrFun (full_at m10 w10 x9 _ _ (fun a => match a with | 0 => rfl | 1 => rfl)) (ix2 0 a)
  t0 a e := (state_cov m23.view _ 0 0 rfl _ a e).trans (state_zero _ 0 a e)
  t1 a e := ((state_cov m23.view _ 1 1 rfl _ a e).trans (canon_skip 0 _ _ _ 1 (by decide) a e)).trans (state_zero _ 1 a e)
  t2 a e := (((state_cov m23.view _ 2 2 rfl _ a e).trans (canon_skip 1 _ _ _ 2 (by decide) a e)).trans (canon_skip 0 _ _ _ 2 (by decide) a e)).trans (state_zero _ 2 a e)
  t3 a e := ((((state_cov m23.view _ 3 3 rfl _ a e).trans (canon_skip 2 _ _ _ 3 (by decide) a e)).trans (canon_skip 1 _ _ _ 3 (by decide) a e)).trans (canon_skip 0 _ _ _ 3 (by decide) a e)).trans (state_zero _ 3 a e)

theorem q_tile0 (p : Fin 512) (l : Fin 256) : ((r_153 c m1 w1 m2 w2 m3 w3 m6 w6 m8 w8 x0 x1 x2 x5 x7) : FVec Ideal S512x256 .bf16) (ix2 p l) = bH x0 x1 x2 0 (by decide) x5 x7 p ⟨256 * 0 + l.val, by omega⟩ :=
  headed_at (y := (r_8 c m1 w1 m2 w2 m3 w3 x0 x1 x2)) 0 (by decide) 0 (by decide) (fun p l => r_8_at p l _ (show 0 + (256 * 0 + l.val) = 0 + l.val by omega)) m6 w6 x5 _ m8 w8 x7 _ p l

theorem q_tile1 (p : Fin 512) (l : Fin 256) : ((k0_pay504 (r_152 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))) : FVec Ideal S512x256 .bf16) (ix2 p l) = bH x0 x1 x2 0 (by decide) x5 x7 p ⟨256 * 1 + l.val, by omega⟩ :=
  headed_at (y := (r_152 c m1 w1 m2 w2 m3 w3 x0 x1 x2)) 0 (by decide) 1 (by decide) (fun p l => r_152_at p l _ (show 0 + (256 * 1 + l.val) = 256 + l.val by omega)) m6 w6 x5 _ m8 w8 x7 _ p l

theorem q_tile2 (p : Fin 512) (l : Fin 256) : ((k0_pay589 (r_470 c m6 w6 x5) (r_471 c m1 w1 m2 w2 m3 w3 m8 w8 x0 x1 x2 x7)) : FVec Ideal S512x256 .bf16) (ix2 p l) = bH x0 x1 x2 0 (by decide) x5 x7 p ⟨256 * 2 + l.val, by omega⟩ :=
  headed_at (y := (r_390 c m1 w1 m2 w2 m3 w3 x0 x1 x2)) 0 (by decide) 2 (by decide) (fun p l => r_390_at p l _ (show 0 + (256 * 2 + l.val) = 512 + l.val by omega)) m6 w6 x5 _ m8 w8 x7 _ p l

theorem q_tile3 (p : Fin 512) (l : Fin 256) : ((k0_pay680 (r_469 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))) : FVec Ideal S512x256 .bf16) (ix2 p l) = bH x0 x1 x2 0 (by decide) x5 x7 p ⟨256 * 3 + l.val, by omega⟩ :=
  headed_at (y := (r_469 c m1 w1 m2 w2 m3 w3 x0 x1 x2)) 0 (by decide) 3 (by decide) (fun p l => r_469_at p l _ (show 0 + (256 * 3 + l.val) = 768 + l.val by omega)) m6 w6 x5 _ m8 w8 x7 _ p l

theorem q_at (i : grid0.Coords) (hc0 : cond0_0 i) (hc1 : ¬cond0_1 i) (p : Fin 512) (e : Fin 1024) :
    out0_C_10 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix2 p e) = bH x0 x1 x2 0 (by decide) x5 x7 p e := by
  unfold out0_C_10
  rw [View.read_writes_junk_eq_canon]
  show View.canon (Val := Elt Ideal) (s := S512x1024) (e := .bf16) [⟨Rect.unit (s := S512x1024) ![0, 768] S512x256.size inb_S512x1024_S512x256_0_768, k0_pay680 (r_469 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))⟩, ⟨Rect.unit (s := S512x1024) ![0, 512] S512x256.size inb_S512x1024_S512x256_0_512, k0_pay589 (r_470 c m6 w6 x5) (r_471 c m1 w1 m2 w2 m3 w3 m8 w8 x0 x1 x2 x7)⟩, ⟨Rect.unit (s := S512x1024) ![0, 256] S512x256.size inb_S512x1024_S512x256_0_256, k0_pay504 (r_152 c m1 w1 m2 w2 m3 w3 x0 x1 x2) (View.readAt (Elt Ideal) m6.view (Rect.unit ![0, 0] S1x256.size inb_S1x256_S1x256_0_0).toLoadRect (w6.unread x5)) (View.readAt (Elt Ideal) m8.view (Rect.unit ![0, 0] S256x256.size inb_S256x256_S256x256_0_0).toLoadRect (w8.unread x7))⟩, ⟨Rect.unit (s := S512x1024) ![0, 0] S512x256.size inb_S512x1024_S512x256_0_0, r_153 c m1 w1 m2 w2 m3 w3 m6 w6 m8 w8 x0 x1 x2 x5 x7⟩] (ix2 p e) = _
  exact tiles_at (bH x0 x1 x2 0 (by decide) x5 x7) _ _ _ _ (fun p l => (q_tile0 p l).trans (congrArg _ (Fin.ext (Nat.zero_add _)))) q_tile1 q_tile2 q_tile3 _ _ _ _ p e

theorem k_tile0 (p : Fin 512) (l : Fin 256) : ((k0_pay741 (r_555 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 0 + l.val, by omega⟩ :=
  headed_at (y := (r_555 c m1 w1 m2 w2 m3 w3 x0 x1 x2)) 1024 (by decide) 0 (by decide) (fun p l => r_555_at p l _ (show 1024 + (256 * 0 + l.val) = 1024 + l.val by omega)) m7 w7 x6 _ m8 w8 x7 _ p l

theorem k_tile1 (p : Fin 512) (l : Fin 256) : ((k0_pay777 (r_604 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 1 + l.val, by omega⟩ :=
  headed_at (y := (r_604 c m1 w1 m2 w2 m3 w3 x0 x1 x2)) 1024 (by decide) 1 (by decide) (fun p l => r_604_at p l _ (show 1024 + (256 * 1 + l.val) = 1280 + l.val by omega)) m7 w7 x6 _ m8 w8 x7 _ p l

theorem k_tile2 (p : Fin 512) (l : Fin 256) : ((k0_pay795 (r_613 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 2 + l.val, by omega⟩ :=
  headed_at (y := (r_613 c m1 w1 m2 w2 m3 w3 x0 x1 x2)) 1024 (by decide) 2 (by decide) (fun p l => r_613_at p l _ (show 1024 + (256 * 2 + l.val) = 1536 + l.val by omega)) m7 w7 x6 _ m8 w8 x7 _ p l

theorem k_tile3 (p : Fin 512) (l : Fin 256) : ((k0_pay813 (r_622 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))) : FVec Ideal S512x256 .bf16) (ix2 p l) = bH x0 x1 x2 1024 (by decide) x6 x7 p ⟨256 * 3 + l.val, by omega⟩ :=
  headed_at (y := (r_622 c m1 w1 m2 w2 m3 w3 x0 x1 x2)) 1024 (by decide) 3 (by decide) (fun p l => r_622_at p l _ (show 1024 + (256 * 3 + l.val) = 1792 + l.val by omega)) m7 w7 x6 _ m8 w8 x7 _ p l

theorem k_at (i : grid0.Coords) (hc0 : cond0_0 i) (hc1 : ¬cond0_1 i) (p : Fin 512) (e : Fin 1024) :
    out0_C_11 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix2 p e) = bH x0 x1 x2 1024 (by decide) x6 x7 p e := by
  unfold out0_C_11
  rw [View.read_writes_junk_eq_canon]
  show View.canon (Val := Elt Ideal) (s := S512x1024) (e := .bf16) [⟨Rect.unit (s := S512x1024) ![0, 768] S512x256.size inb_S512x1024_S512x256_0_768, k0_pay813 (r_622 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 512] S512x256.size inb_S512x1024_S512x256_0_512, k0_pay795 (r_613 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 256] S512x256.size inb_S512x1024_S512x256_0_256, k0_pay777 (r_604 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩, ⟨Rect.unit (s := S512x1024) ![0, 0] S512x256.size inb_S512x1024_S512x256_0_0, k0_pay741 (r_555 c m1 w1 m2 w2 m3 w3 x0 x1 x2) (View.readAt (Elt Ideal) m7.view (Rect.unit ![0, 0] S1x256.size inb_S1x256_S1x256_0_0).toLoadRect (w7.unread x6)) (View.readAt (Elt Ideal) m8.view (Rect.unit ![0, 0] S256x256.size inb_S256x256_S256x256_0_0).toLoadRect (w8.unread x7))⟩] (ix2 p e) = _
  exact tiles_at (bH x0 x1 x2 1024 (by decide) x6 x7) _ _ _ _ (fun p l => (k_tile0 p l).trans (congrArg _ (Fin.ext (Nat.zero_add _)))) k_tile1 k_tile2 k_tile3 _ _ _ _ p e

theorem v_at (i : grid0.Coords) (hc0 : cond0_0 i) (hc1 : ¬cond0_1 i) (p : Fin 512) (e : Fin 1024) :
    out0_C_12 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix2 p e) = bVo x0 x1 x2 p e := by
  unfold out0_C_12
  rw [View.read_writes_junk_eq_canon]
  show View.canon (Val := Elt Ideal) (s := S512x1024) (e := .bf16) [⟨Rect.unit (s := S512x1024) ![0, 512] S512x512.size inb_S512x1024_S512x512_0_512, k0_pay388 (r_9 c m1 w1 m2 w2 m3 w3 x0 x1 x2)⟩, ⟨Rect.unit (s := S512x1024) ![0, 0] S512x512.size inb_S512x1024_S512x512_0_0, k0_pay29 (r_6 c m1 w1 m2 w2 m3 w3 x0 x1 x2)⟩] (ix2 p e) = _
  exact halves_at (e := .bf16) (bVo x0 x1 x2) _ _ (fun p l => (plain_at _ _ _).trans (r_6_at p l _ rfl)) (fun p l => (plain_at _ _ _).trans (r_9_at p l _ (show 2048 + (512 + l.val) = 2560 + l.val by omega))) _ _ p e

theorem gs_at (i : grid0.Coords) (hc0 : cond0_0 i) (hc1 : ¬cond0_1 i) (p : Fin 512) (e : Fin 1024) :
    out0_C_13 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix2 p e) = bgate x0 x1 xs0 p ⟨0 + e.val, by omega⟩ := by
  unfold out0_C_13
  rw [View.read_writes_junk_eq_canon]
  show View.canon (Val := Elt Ideal) (s := S512x1024) (e := .bf16) [⟨Rect.unit (s := S512x1024) ![0, 512] S512x512.size inb_S512x1024_S512x512_0_512, k0_pay635 (r_429 c m1 w1 m2 w2 m17 w17 x0 x1 xs0)⟩, ⟨Rect.unit (s := S512x1024) ![0, 0] S512x512.size inb_S512x1024_S512x512_0_0, k0_pay545 (r_294 c m1 w1 m2 w2 m17 w17 x0 x1 xs0)⟩] (ix2 p e) = _
  exact halves_at (e := .bf16) (fun p e => bgate x0 x1 xs0 p ⟨0 + e.val, by omega⟩) _ _ (fun p l => (merged_at (H := r c m1 w1 m2 w2 x0 x1) row_at _ xs0 p l ⟨0 + l.val, by omega⟩ (fun k => cols_at (n := 512) (n' := 2048) m17 w17 xs0 0 _ k l (by omega))).trans (congrArg _ (Fin.ext (show 0 + l.val = 0 + (l.val) by omega)))) (fun p l => (merged_at (H := r c m1 w1 m2 w2 x0 x1) row_at _ xs0 p l ⟨512 + l.val, by omega⟩ (fun k => cols_at (n := 512) (n' := 2048) m17 w17 xs0 512 _ k l (by omega))).trans (congrArg _ (Fin.ext (show 512 + l.val = 0 + (512 + l.val) by omega)))) _ _ p e

theorem gg_at (i : grid0.Coords) (hc0 : cond0_0 i) (hc1 : ¬cond0_1 i) (p : Fin 512) (e : Fin 1024) :
    out0_C_14 c i m1 w1 m2 w2 m3 w3 m4 w4 m5 w5 m6 w6 m7 w7 m8 w8 m9 w9 m10 w10 m11 w11 m12 w12 m13 w13 m14 w14 m15 w15 m16 w16 m17 w17 m18 w18 m19 w19 m20 w20 m21 w21 m22 w22 m23 w23 hc0 hc1 x0 x1 x2 x3 x4 x5 x6 x7 x8 x9 xs0 (ix2 p e) = bgate x0 x1 xs0 p ⟨1024 + e.val, by omega⟩ := by
  unfold out0_C_14
  rw [View.read_writes_junk_eq_canon]
  show View.canon (Val := Elt Ideal) (s := S512x1024) (e := .bf16) [⟨Rect.unit (s := S512x1024) ![0, 512] S512x512.size inb_S512x1024_S512x512_0_512, k0_pay759 (r_594 c m1 w1 m2 w2 m17 w17 x0 x1 xs0)⟩, ⟨Rect.unit (s := S512x1024) ![0, 0] S512x512.size inb_S512x1024_S512x512_0_0, k0_pay722 (r_513 c m1 w1 m2 w2 m17 w17 x0 x1 xs0)⟩] (ix2 p e) = _
  exact halves_at (e := .bf16) (fun p e => bgate x0 x1 xs0 p ⟨1024 + e.val, by omega⟩) _ _ (fun p l => (merged_at (H := r c m1 w1 m2 w2 x0 x1) row_at _ xs0 p l ⟨1024 + l.val, by omega⟩ (fun k => cols_at (n := 512) (n' := 2048) m17 w17 xs0 1024 _ k l (by omega))).trans (congrArg _ (Fin.ext (show 1024 + l.val = 1024 + (l.val) by omega)))) (fun p l => (merged_at (H := r c m1 w1 m2 w2 x0 x1) row_at _ xs0 p l ⟨1536 + l.val, by omega⟩ (fun k => cols_at (n := 512) (n' := 2048) m17 w17 xs0 1536 _ k l (by omega))).trans (congrArg _ (Fin.ext (show 1536 + l.val = 1024 + (512 + l.val) by omega)))) _ _ p e

end Cert.Gla.CaseC
-- ==== Proof.GlaValue.lean ====
/- What the points of the grid keep for those after them. -/
module

public import proofs.«01_k».proof.Proof.GlaSpec
public import proofs.«01_k».proof.Proof.GlaLev
public import proofs.«01_k».proof.Proof.GlaNorm
public import proofs.«01_k».proof.Proof.GlaRunA
public import proofs.«01_k».proof.Proof.GlaRunB
public import proofs.«01_k».proof.Proof.GlaRunC

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

/-- Every gate logit lies above minus infinity. -/
def LogitsOk (x : FVec Ideal S8x4096x1024 .f32) (g : FVec Ideal S1x1024 .f32) (w : FVec Ideal S1x1024x8208 .f32)
    (w2 : FVec Ideal S1x16x512 .f32) (gb : FVec Ideal S1x512 .f32) : Prop := ∀ b s l, sLogit x g w w2 gb b s l ≠ ⊥

/-- The gates of a block are real. -/
theorem gates_real (c : Dev nD) (ok : LogitsOk (aX m c) (aN m c) (aW m c) (aW2 m c) (aGb m c)) (t : Fin cfg0.N) (p l : Fin 512) :
    ∃ r : ℝ, bG (iblk m c 0 t) (iblk m c 1 t) (iblk m c 2 t) (iblk m c 3 t) (iblk m c 4 t) p l = (r : EReal) := by
  rw [bG_at]
  obtain ⟨r, _, hr⟩ := gate_real (ok (seqOf t) (posOf t p) l)
  exact ⟨r, hr⟩

/-- The kept columns after a point. -/
abbrev keptAt (c : Dev nD) (n : ℕ) (h : n < cfg0.N) : FVec Ideal S1024x2048 .bf16 := (outsAt0 m c n h).2.2.2.2.2.2.1
/-- The states after a point. -/
abbrev statesAt (c : Dev nD) (n : ℕ) (h : n < cfg0.N) : FVec Ideal S4x128x256 .f32 := (outsAt0 m c n h).2.2.2.2.2.2.2

theorem wbOf_at (c : Dev nD) (t : Fin cfg0.N) (k : Fin 1024) (n : Fin 2048) : wbOf (iblk m c 2 t) (ix2 k n) = aW m c (ix3 0 k ⟨6160 + n.val, by omega⟩) :=
  blk2_at m c t k _

/-- The kept columns are the last columns of the in-projection's weights. -/
theorem kept_at_all (c : Dev nD) : ∀ (n : ℕ) (h : n < cfg0.N) (k : Fin 1024) (j : Fin 2048), keptAt m c n h (ix2 k j) = aW m c (ix3 0 k ⟨6160 + j.val, by omega⟩) := by
  intro n
  induction n using Nat.strong_induction_on with
  | _ n ih =>
    intro h k j
    by_cases h1 : n % 64 = 0
    · have h0 : n % 8 = 0 := by omega
      unfold keptAt
      rw [outsAt0_A m c ⟨n, h⟩ h0 h1]
      dsimp only
      exact (CaseA.keep_at (i := grid0.coords ⟨n, h⟩) (hc0 := (hcond0_0 ⟨n, h⟩).mpr h0) (hc1 := (hcond0_1 ⟨n, h⟩).mpr h1) (k := k) (n := j)).trans (wbOf_at m c ⟨n, h⟩ k j)
    · by_cases h0 : n % 8 = 0
      · refine Eq.trans ?_ (ih (n - 1) (by omega) (Nat.lt_of_le_of_lt (Nat.sub_le _ _) h) k j)
        unfold keptAt
        rw [outsAt0_C m c ⟨n, h⟩ h0 h1]
        rfl
      · refine Eq.trans ?_ (ih (n - 1) (by omega) (Nat.lt_of_le_of_lt (Nat.sub_le _ _) h) k j)
        unfold keptAt
        rw [outsAt0_B m c ⟨n, h⟩ h0 h1]
        rfl

theorem state_zero_eq {x : FVec Ideal S8x4096x1024 .f32} {g : FVec Ideal S1x1024 .f32} {w : FVec Ideal S1x1024x8208 .f32}
    {w2 : FVec Ideal S1x16x512 .f32} {gb : FVec Ideal S1x512 .f32} (b : Fin 8) (h n : ℕ) (hn : n = 0) : (fun _ _ => 0 : Fin 128 → Fin 256 → EReal) = sState x g w w2 gb b h n := by
  subst hn
  rfl

/-- Inside a sequence a point begins from the states that the point before it left. -/
theorem states_before (c : Dev nD) (t : Fin cfg0.N) (h0 : ¬t.val % 8 = 0)
    (H : ∀ (i : Fin 4) (a : Fin 128) (e : Fin 256), statesAt m c (t.val - 1) (Nat.lt_of_le_of_lt (Nat.sub_le _ _) t.isLt) (ix3 i a e)
      = sState (aX m c) (aN m c) (aW m c) (aW2 m c) (aGb m c) (seqOf ⟨t.val - 1, Nat.lt_of_le_of_lt (Nat.sub_le _ _) t.isLt⟩) i.val (8 * ((t.val - 1) % 8) + 8) a e) (i : Fin 4) :
    (fun a e => statesAt m c (t.val - 1) (Nat.lt_of_le_of_lt (Nat.sub_le _ _) t.isLt) (ix3 i a e)) = sState (aX m c) (aN m c) (aW m c) (aW2 m c) (aGb m c) (seqOf t) i.val (8 * (t.val % 8)) := by
  have e1 : seqOf ⟨t.val - 1, Nat.lt_of_le_of_lt (Nat.sub_le _ _) t.isLt⟩ = seqOf t := Fin.ext (by show (t.val - 1) / 8 = t.val / 8; omega)
  have e2 : 8 * ((t.val - 1) % 8) + 8 = 8 * (t.val % 8) := by omega
  funext a e
  rw [H i a e, e1, e2]

end Cert.Gla
-- ==== Proof.GlaOut.lean ====
/- The five results of the projections after the run. -/
module

public import proofs.«01_k».proof.Proof.GlaValue

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

theorem gate_at (c : Dev nD) (t : Fin cfg0.N) (wb : FVec Ideal S1024x2048 .bf16) (hw : ∀ k j, wb (ix2 k j) = aW m c (ix3 0 k ⟨6160 + j.val, by omega⟩)) (o : ℕ) (ho : o ≤ 1024) (p : Fin 512) (e : Fin 1024) :
    bgate (iblk m c 0 t) (iblk m c 1 t) wb p ⟨o + e.val, by omega⟩ = sGate (aX m c) (aN m c) (aW m c) o ho (seqOf t) (posOf t p) e := by
  unfold bgate sGate P rowProj
  simp only [blk0_at, blk1_at, hw]

theorem seven_at (c : Dev nD) (t : Fin cfg0.N) : IsAvg (iblk m c 7 t : FVec Ideal S256x256 .bf16) := blk7_at m c t

theorem q_head_at (c : Dev nD) (t : Fin cfg0.N) (p : Fin 512) (e : Fin 1024) :
    bH (iblk m c 0 t) (iblk m c 1 t) (iblk m c 2 t) 0 (by decide) (iblk m c 5 t) (iblk m c 7 t) p e
      = sHead (aX m c) (aN m c) (aW m c) 0 (by decide) (fun l => aQn m c (ix2 0 l) * Ideal.ofBits .f32 1043900987#32) (seqOf t) (posOf t p) e :=
  head_eq (seven_at m c t) (bproj_at m c t p) _ (fun l => aQn m c (ix2 0 l) * Ideal.ofBits .f32 1043900987#32) (blk5_at m c t) e

theorem k_head_at (c : Dev nD) (t : Fin cfg0.N) (p : Fin 512) (e : Fin 1024) :
    bH (iblk m c 0 t) (iblk m c 1 t) (iblk m c 2 t) 1024 (by decide) (iblk m c 6 t) (iblk m c 7 t) p e
      = sHead (aX m c) (aN m c) (aW m c) 1024 (by decide) (fun l => aKn m c (ix2 0 l)) (seqOf t) (posOf t p) e :=
  head_eq (seven_at m c t) (bproj_at m c t p) _ (fun l => aKn m c (ix2 0 l)) (blk6_at m c t) e

theorem q_point (c : Dev nD) (t : Fin cfg0.N) (p : Fin 512) (e : Fin 1024) :
    (outsAt0 m c t.val t.isLt).1 (ix2 p e) = sHead (aX m c) (aN m c) (aW m c) 0 (by decide) (fun l => aQn m c (ix2 0 l) * Ideal.ofBits .f32 1043900987#32) (seqOf t) (posOf t p) e := by
  by_cases h0 : t.val % 8 = 0
  · by_cases h1 : t.val % 64 = 0
    · rw [outsAt0_A m c t h0 h1]
      dsimp only
      exact (CaseA.q_at (grid0.coords t) _ _ p e).trans (q_head_at m c t p e)
    · rw [outsAt0_C m c t h0 h1]
      dsimp only
      exact (CaseC.q_at (grid0.coords t) _ _ p e).trans (q_head_at m c t p e)
  · have h1 : ¬t.val % 64 = 0 := by omega
    rw [outsAt0_B m c t h0 h1]
    dsimp only
    exact (CaseB.q_at (grid0.coords t) _ _ p e).trans (q_head_at m c t p e)

theorem k_point (c : Dev nD) (t : Fin cfg0.N) (p : Fin 512) (e : Fin 1024) :
    (outsAt0 m c t.val t.isLt).2.1 (ix2 p e) = sHead (aX m c) (aN m c) (aW m c) 1024 (by decide) (fun l => aKn m c (ix2 0 l)) (seqOf t) (posOf t p) e := by
  by_cases h0 : t.val % 8 = 0
  · by_cases h1 : t.val % 64 = 0
    · rw [outsAt0_A m c t h0 h1]
      dsimp only
      exact (CaseA.k_at (grid0.coords t) _ _ p e).trans (k_head_at m c t p e)
    · rw [outsAt0_C m c t h0 h1]
      dsimp only
      exact (CaseC.k_at (grid0.coords t) _ _ p e).trans (k_head_at m c t p e)
  · have h1 : ¬t.val % 64 = 0 := by omega
    rw [outsAt0_B m c t h0 h1]
    dsimp only
    exact (CaseB.k_at (grid0.coords t) _ _ p e).trans (k_head_at m c t p e)

theorem v_point (c : Dev nD) (t : Fin cfg0.N) (p : Fin 512) (e : Fin 1024) :
    (outsAt0 m c t.val t.isLt).2.2.1 (ix2 p e) = sVo (aX m c) (aN m c) (aW m c) (seqOf t) (posOf t p) e := by
  by_cases h0 : t.val % 8 = 0
  · by_cases h1 : t.val % 64 = 0
    · rw [outsAt0_A m c t h0 h1]
      dsimp only
      exact (CaseA.v_at (grid0.coords t) _ _ p e).trans (bVo_at m c t p e)
    · rw [outsAt0_C m c t h0 h1]
      dsimp only
      exact (CaseC.v_at (grid0.coords t) _ _ p e).trans (bVo_at m c t p e)
  · have h1 : ¬t.val % 64 = 0 := by omega
    rw [outsAt0_B m c t h0 h1]
    dsimp only
    exact (CaseB.v_at (grid0.coords t) _ _ p e).trans (bVo_at m c t p e)

theorem gs_point (c : Dev nD) (t : Fin cfg0.N) (p : Fin 512) (e : Fin 1024) :
    (outsAt0 m c t.val t.isLt).2.2.2.1 (ix2 p e) = sGate (aX m c) (aN m c) (aW m c) 0 (by decide) (seqOf t) (posOf t p) e := by
  by_cases h0 : t.val % 8 = 0
  · by_cases h1 : t.val % 64 = 0
    · rw [outsAt0_A m c t h0 h1]
      dsimp only
      exact (CaseA.gs_at (grid0.coords t) _ _ p e).trans (gate_at m c t _ (wbOf_at m c t) 0 (by decide) p e)
    · rw [outsAt0_C m c t h0 h1]
      dsimp only
      exact (CaseC.gs_at (grid0.coords t) _ _ p e).trans (gate_at m c t _ (fun k j => kept_at_all m c (t.val - 1) (Nat.lt_of_le_of_lt (Nat.sub_le _ _) t.isLt) k j) 0 (by decide) p e)
  · have h1 : ¬t.val % 64 = 0 := by omega
    rw [outsAt0_B m c t h0 h1]
    dsimp only
    exact (CaseB.gs_at (grid0.coords t) _ _ p e).trans (gate_at m c t _ (fun k j => kept_at_all m c (t.val - 1) (Nat.lt_of_le_of_lt (Nat.sub_le _ _) t.isLt) k j) 0 (by decide) p e)

theorem gg_point (c : Dev nD) (t : Fin cfg0.N) (p : Fin 512) (e : Fin 1024) :
    (outsAt0 m c t.val t.isLt).2.2.2.2.1 (ix2 p e) = sGate (aX m c) (aN m c) (aW m c) 1024 (by decide) (seqOf t) (posOf t p) e := by
  by_cases h0 : t.val % 8 = 0
  · by_cases h1 : t.val % 64 = 0
    · rw [outsAt0_A m c t h0 h1]
      dsimp only
      exact (CaseA.gg_at (grid0.coords t) _ _ p e).trans (gate_at m c t _ (wbOf_at m c t) 1024 (by decide) p e)
    · rw [outsAt0_C m c t h0 h1]
      dsimp only
      exact (CaseC.gg_at (grid0.coords t) _ _ p e).trans (gate_at m c t _ (fun k j => kept_at_all m c (t.val - 1) (Nat.lt_of_le_of_lt (Nat.sub_le _ _) t.isLt) k j) 1024 (by decide) p e)
  · have h1 : ¬t.val % 64 = 0 := by omega
    rw [outsAt0_B m c t h0 h1]
    dsimp only
    exact (CaseB.gg_at (grid0.coords t) _ _ p e).trans (gate_at m c t _ (fun k j => kept_at_all m c (t.val - 1) (Nat.lt_of_le_of_lt (Nat.sub_le _ _) t.isLt) k j) 1024 (by decide) p e)

/-- A result's block of point `t` in the array of rows. -/
theorem rows_emb (f : Fin 8 → Fin 4096 → Fin 1024 → EReal) (t : Fin cfg0.N) (p : Fin 512) (e : Fin 1024) (h : t.val * 512 + p.val < 32768) :
    rows f (ix2 ⟨t.val * 512 + p.val, h⟩ e) = f (seqOf t) (posOf t p) e := by
  have hp := p.isLt
  have ht := pt_lt t
  exact congrArg₂ (fun b s => f b s e) (Fin.ext (by show (t.val * 512 + p.val) / 4096 = t.val / 8; omega)) (Fin.ext (by show (t.val * 512 + p.val) % 4096 = t.val % 8 * 512 + p.val; omega))

theorem q_final (c : Dev nD) : (dats m 0 c).arrAt 10 (cfgs 0).N = rows (sHead (aX m c) (aN m c) (aW m c) 0 (by decide) (fun l => aQn m c (ix2 0 l) * Ideal.ofBits .f32 1043900987#32)) := by
  refine (dats m 0 c).arrAt_eq_of_covers 10 _ (by decide +kernel) fun t _ y => ?_
  blk_simp
  rw [after0_10]
  idx_vars y
  have he : ((cfg0.win 10).blk t).view.emb (ix2 y0 y1) = ix2 ⟨t.val * 512 + y0.val, by have := pt_lt t; omega⟩ y1 := by blk_ext [idx t]
  exact (q_point m c t y0 y1).trans ((rows_emb (sHead (aX m c) (aN m c) (aW m c) 0 (by decide) (fun l => aQn m c (ix2 0 l) * Ideal.ofBits .f32 1043900987#32)) t y0 y1 _).symm.trans (congrArg _ he.symm))

theorem k_final (c : Dev nD) : (dats m 0 c).arrAt 11 (cfgs 0).N = rows (sHead (aX m c) (aN m c) (aW m c) 1024 (by decide) (fun l => aKn m c (ix2 0 l))) := by
  refine (dats m 0 c).arrAt_eq_of_covers 11 _ (by decide +kernel) fun t _ y => ?_
  blk_simp
  rw [after0_11]
  idx_vars y
  have he : ((cfg0.win 11).blk t).view.emb (ix2 y0 y1) = ix2 ⟨t.val * 512 + y0.val, by have := pt_lt t; omega⟩ y1 := by blk_ext [idx t]
  exact (k_point m c t y0 y1).trans ((rows_emb (sHead (aX m c) (aN m c) (aW m c) 1024 (by decide) (fun l => aKn m c (ix2 0 l))) t y0 y1 _).symm.trans (congrArg _ he.symm))

theorem v_final (c : Dev nD) : (dats m 0 c).arrAt 12 (cfgs 0).N = rows (sVo (aX m c) (aN m c) (aW m c)) := by
  refine (dats m 0 c).arrAt_eq_of_covers 12 _ (by decide +kernel) fun t _ y => ?_
  blk_simp
  rw [after0_12]
  idx_vars y
  have he : ((cfg0.win 12).blk t).view.emb (ix2 y0 y1) = ix2 ⟨t.val * 512 + y0.val, by have := pt_lt t; omega⟩ y1 := by blk_ext [idx t]
  exact (v_point m c t y0 y1).trans ((rows_emb (sVo (aX m c) (aN m c) (aW m c)) t y0 y1 _).symm.trans (congrArg _ he.symm))

theorem gs_final (c : Dev nD) : (dats m 0 c).arrAt 13 (cfgs 0).N = rows (sGate (aX m c) (aN m c) (aW m c) 0 (by decide)) := by
  refine (dats m 0 c).arrAt_eq_of_covers 13 _ (by decide +kernel) fun t _ y => ?_
  blk_simp
  rw [after0_13]
  idx_vars y
  have he : ((cfg0.win 13).blk t).view.emb (ix2 y0 y1) = ix2 ⟨t.val * 512 + y0.val, by have := pt_lt t; omega⟩ y1 := by blk_ext [idx t]
  exact (gs_point m c t y0 y1).trans ((rows_emb (sGate (aX m c) (aN m c) (aW m c) 0 (by decide)) t y0 y1 _).symm.trans (congrArg _ he.symm))

theorem gg_final (c : Dev nD) : (dats m 0 c).arrAt 14 (cfgs 0).N = rows (sGate (aX m c) (aN m c) (aW m c) 1024 (by decide)) := by
  refine (dats m 0 c).arrAt_eq_of_covers 14 _ (by decide +kernel) fun t _ y => ?_
  blk_simp
  rw [after0_14]
  idx_vars y
  have he : ((cfg0.win 14).blk t).view.emb (ix2 y0 y1) = ix2 ⟨t.val * 512 + y0.val, by have := pt_lt t; omega⟩ y1 := by blk_ext [idx t]
  exact (gg_point m c t y0 y1).trans ((rows_emb (sGate (aX m c) (aN m c) (aW m c) 1024 (by decide)) t y0 y1 _).symm.trans (congrArg _ he.symm))

end Cert.Gla
-- ==== Proof.GlaState.lean ====
/- The states after each point of the grid. -/
module

public import proofs.«01_k».proof.Proof.GlaValue

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

/-- The states after a point are those of its sequence after its eight chunks. -/
theorem states_at_all (c : Dev nD) (ok : LogitsOk (aX m c) (aN m c) (aW m c) (aW2 m c) (aGb m c)) : ∀ (n : ℕ) (h : n < cfg0.N) (i : Fin 4) (a : Fin 128) (e : Fin 256),
    statesAt m c n h (ix3 i a e) = sState (aX m c) (aN m c) (aW m c) (aW2 m c) (aGb m c) (seqOf ⟨n, h⟩) i.val (8 * (n % 8) + 8) a e := by
  intro n
  induction n using Nat.strong_induction_on with
  | _ n ih =>
    intro h i a e
    have hl := blk8_at m c ⟨n, h⟩
    have hg := gates_real m c ok ⟨n, h⟩
    by_cases h0 : n % 8 = 0
    · have hz : 8 * ((⟨n, h⟩ : Fin cfg0.N).val % 8) = 0 := by show 8 * (n % 8) = 0; omega
      by_cases h1 : n % 64 = 0
      · unfold statesAt
        rw [outsAt0_A m c ⟨n, h⟩ h0 h1]
        dsimp only
        exact (CaseA.state_at (CaseA.reads hl hg) _ _ _ i a e).trans (congrFun (congrFun (stF_at m c ⟨n, h⟩ i.val _ (state_zero_eq _ _ _ hz) 8 (le_refl 8)) a) e)
      · unfold statesAt
        rw [outsAt0_C m c ⟨n, h⟩ h0 h1]
        dsimp only
        exact (CaseC.state_at (CaseC.reads hl hg) _ _ _ i a e).trans (congrFun (congrFun (stF_at m c ⟨n, h⟩ i.val _ (state_zero_eq _ _ _ hz) 8 (le_refl 8)) a) e)
    · have h1 : ¬n % 64 = 0 := by omega
      unfold statesAt
      rw [outsAt0_B m c ⟨n, h⟩ h0 h1]
      dsimp only
      refine (CaseB.state_at (CaseB.reads hl hg) _ _ _ i a e).trans (congrFun (congrFun (stF_at m c ⟨n, h⟩ i.val _ ?_ 8 (le_refl 8)) a) e)
      exact states_before m c ⟨n, h⟩ h0 (fun i a e => ih (n - 1) (by omega) (Nat.lt_of_le_of_lt (Nat.sub_le _ _) h) i a e) i

end Cert.Gla
-- ==== Proof.GlaOg.lean ====
/- The gated output of the recurrence after the run. -/
module

public import proofs.«01_k».proof.Proof.GlaState
public import proofs.«01_k».proof.Proof.GlaOut

@[expose] public section

set_option maxRecDepth 16384

noncomputable section

namespace Cert.Gla

open Cert.KernelGlaIdeal Cert.KernelGlaIdeal.Gen
open Idealize.ShloMosaic Idealize.ShloMosaic.TcCoe Idealize.SL.Sem
open Idealize.ShloMosaic.Pipeline (Dat)

variable (m : (ℓ : Loc nD τ sig) → Buf (Elt Ideal) ℓ)

theorem og_point (c : Dev nD) (ok : LogitsOk (aX m c) (aN m c) (aW m c) (aW2 m c) (aGb m c)) (t : Fin cfg0.N) (p : Fin 512) (e : Fin 1024) :
    (outsAt0 m c t.val t.isLt).2.2.2.2.2.1 (ix2 p e) = sOg (aX m c) (aN m c) (aW m c) (aW2 m c) (aGb m c) (aOn m c) (seqOf t) (posOf t p) e := by
  have hl := blk8_at m c t
  have hg := gates_real m c ok t
  by_cases h0 : t.val % 8 = 0
  · have hz : 8 * (t.val % 8) = 0 := by omega
    by_cases h1 : t.val % 64 = 0
    · rw [outsAt0_A m c t h0 h1]
      dsimp only
      refine Eq.trans (CaseA.og_at (CaseA.reads hl hg) (grid0.coords t) ((hcond0_0 t).mpr h0) ((hcond0_1 t).mpr h1) p e) ?_
      exact (ogB_at m c t _ (fun i => state_zero_eq _ _ _ hz) p e)
    · rw [outsAt0_C m c t h0 h1]
      dsimp only
      refine Eq.trans (CaseC.og_at (CaseC.reads hl hg) (grid0.coords t) ((hcond0_0 t).mpr h0) (fun h => h1 ((hcond0_1 t).mp h)) p e) ?_
      exact (ogB_at m c t _ (fun i => state_zero_eq _ _ _ hz) p e)
  · have h1 : ¬t.val % 64 = 0 := by omega
    rw [outsAt0_B m c t h0 h1]
    dsimp only
    refine Eq.trans (CaseB.og_at (CaseB.reads hl hg) (grid0.coords t) (fun h => h0 ((hcond0_0 t).mp h)) (fun h => h1 ((hcond0_1 t).mp h)) p e) ?_
    exact (ogB_at m c t _ (fun i => states_before m c t h0 (fun i a e => states_at_all m c ok (t.val - 1) (Nat.lt_of_le_of_lt (Nat.sub_le _ _) t.isLt) i a e) i) p e)

theorem og_final (c : Dev nD) (ok : LogitsOk (aX m c) (aN m c) (aW m c) (aW2 m c) (aGb m c)) : (dats m 0 c).arrAt 15 (cfgs 0).N = rows (sOg (aX m c) (aN m c) (aW m c) (aW2 m c) (aGb m c) (aOn m c)) := by
  refine (dats m 0 c).arrAt_eq_of_covers 15 _ (by decide +kernel) fun t _ y => ?_
  blk_simp
  rw [after0_15]
  idx_vars y
  have he : ((cfg0.win 15).blk t).view.emb (ix2 y0 y1) = ix2 ⟨t.val * 512 + y0.val, by have := pt_lt t; omega⟩ y1 := by blk_ext [idx t]
  exact (og_point m c ok t y0 y1).trans ((rows_emb (sOg (aX m c) (aN m c) (aW m c) (aW2 m c) (aGb m c) (aOn m c)) t y0 y1 _).symm.trans (congrArg _ he.symm))

end Cert.Gla
-- ==== Proof.GlaRefStep.lean ====
/- One chunk of the recurrence's reference, at an index. -/
module

public import proofs.«01_k».proof.Proof.GlaSpec
public import proofs.«01_k».proof.Proof.Gen.ReferenceGlaIdeal.Run
public import Idealize.ShloMosaic.Lib.DynamicIndex

@[expose] public section

set_option maxRecDepth 16384

noncomputable section

namespace Cert.GlaRef

open Cert.ReferenceGlaIdeal Cert.ReferenceGlaIdeal.Gen
open Cert.Gla (cum score cut_eq stepS outRow)
open Idealize.ShloMosaic Idealize.ShloMosaic.TcCoe Idealize.SL.Sem

theorem foldl_add_eq {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The window of the running sum. -/
abbrev Win : Shape := ⟨4, ![1, 1, 64, 1]⟩

theorem win_numel : Win.numel = 64 := by decide

theorem win_pos (n : Fin Win.numel) : (Win.rowMajor.symm n 2).val = n.val := by
  have h : (Win.rowMajor (Win.rowMajor.symm n)).val = n.val := by rw [Equiv.apply_symm_apply]
  rw [Shape.rowMajor_val_four] at h
  have h0 : (Win.rowMajor.symm n 0).val < 1 := (Win.rowMajor.symm n 0).isLt
  have h1 : (Win.rowMajor.symm n 1).val < 1 := (Win.rowMajor.symm n 1).isLt
  have h3 : (Win.rowMajor.symm n 3).val < 1 := (Win.rowMajor.symm n 3).isLt
  change (((Win.rowMajor.symm n 0).val * 1 + (Win.rowMajor.symm n 1).val) * 64 + (Win.rowMajor.symm n 2).val) * 1 + (Win.rowMajor.symm n 3).val = n.val at h
  omega

/-- The place in the chunk that a position of row `i`'s window reads. -/
def place (i : Fin 64) : Fin Win.numel ≃ Fin 64 where
  toFun n := ⟨(i.val + n.val + 1) % 64, Nat.mod_lt _ (by decide)⟩
  invFun m := ⟨(m.val + 127 - i.val - 64) % 64, by rw [win_numel]; exact Nat.mod_lt _ (by decide)⟩
  left_inv n := Fin.ext (by
    have hn : n.val < 64 := n.isLt.trans_eq win_numel
    show ((i.val + n.val + 1) % 64 + 127 - i.val - 64) % 64 = n.val
    omega)
  right_inv m := Fin.ext (by
    show (i.val + (m.val + 127 - i.val - 64) % 64 + 1) % 64 = m.val
    omega)

/-- The running sum of the log gates down a chunk. -/
def cumA (G : FVec Ideal S8x4x64x128 .f32) : FVec Ideal S8x4x64x128 .f32 :=
  Host.reduceWindowAdd ![1, 1, 64, 1] ![1, 1, 1, 1] ![0, 0, 63, 0] ![0, 0, 0, 0] G (broadcastInDim S_ ![] bcast_S_S_ (constant S_ .f32 0x00000000#32)) reduceWindows_S8x4x64x128_S8x4x64x128_w1s1p0_0_w1s1p0_0_w64s1p63_0_w1s1p0_0 h_S_

theorem cumA_at (G : FVec Ideal S8x4x64x128 .f32) (b : Fin 8) (h : Fin 4) (i : Fin 64) (l : Fin 128) :
    cumA G (ix4 b h i l) = cum (fun m => G (ix4 b h m l)) i := by
  have hz : (constant S_ .f32 0x00000000#32 : FVec Ideal S_ .f32) = fun _ => (0 : EReal) := by
    funext j; exact (Ideal.ofBits_zero .f32 : Ideal.ofBits .f32 0x00000000#32 = 0)
  unfold cumA Host.reduceWindowAdd
  rw [Ideal.hostReduceWindowAdd_def]
  unfold Ideal.hostReduceWindowAdd Host.reduceWindow
  refine (foldl_add_eq _ _ _).trans ?_
  rw [← Fin.sum_univ_def]
  have h0 : (broadcastInDim S_ ![] bcast_S_S_ (constant (F := Ideal) S_ .f32 0x00000000#32)) (Shape.Idx.first h_S_) = (0 : EReal) := congrFun hz _
  rw [h0, zero_add]
  unfold cum
  refine Fintype.sum_equiv (place i) _ _ fun n => ?_
  have hn : n.val < 64 := n.isLt.trans_eq win_numel
  have hw := win_pos n
  have w0 : (Win.rowMajor.symm n 0).val < 1 := (Win.rowMajor.symm n 0).isLt
  have w1 : (Win.rowMajor.symm n 1).val < 1 := (Win.rowMajor.symm n 1).isLt
  have w3 : (Win.rowMajor.symm n 3).val < 1 := (Win.rowMajor.symm n 3).isLt
  by_cases hc : 63 ≤ i.val + n.val
  · rw [if_pos (show place i n ≤ i from by show (i.val + n.val + 1) % 64 ≤ i.val; omega)]
    rw [dif_pos (fun a => by
      match a with
      | ⟨0, _⟩ => show 0 ≤ b.val * 1 + (Win.rowMajor.symm n 0).val ∧ b.val * 1 + (Win.rowMajor.symm n 0).val - 0 < 8; omega
      | ⟨1, _⟩ => show 0 ≤ h.val * 1 + (Win.rowMajor.symm n 1).val ∧ h.val * 1 + (Win.rowMajor.symm n 1).val - 0 < 4; omega
      | ⟨2, _⟩ => show 63 ≤ i.val * 1 + (Win.rowMajor.symm n 2).val ∧ i.val * 1 + (Win.rowMajor.symm n 2).val - 63 < 64; omega
      | ⟨3, _⟩ => show 0 ≤ l.val * 1 + (Win.rowMajor.symm n 3).val ∧ l.val * 1 + (Win.rowMajor.symm n 3).val - 0 < 128; omega)]
    refine congrArg G (funext fun a => Fin.ext ?_)
    match a with
    | ⟨0, _⟩ => show b.val * 1 + (Win.rowMajor.symm n 0).val - 0 = b.val; omega
    | ⟨1, _⟩ => show h.val * 1 + (Win.rowMajor.symm n 1).val - 0 = h.val; omega
    | ⟨2, _⟩ => show i.val * 1 + (Win.rowMajor.symm n 2).val - 63 = (i.val + n.val + 1) % 64; omega
    | ⟨3, _⟩ => show l.val * 1 + (Win.rowMajor.symm n 3).val - 0 = l.val; omega
  · rw [if_neg (show ¬ place i n ≤ i from by show ¬ (i.val + n.val + 1) % 64 ≤ i.val; omega)]
    rw [dif_neg (fun hin => by
      have h2 := (hin ⟨2, by decide⟩).1
      change 63 ≤ i.val * 1 + (Win.rowMajor.symm n 2).val at h2
      omega)]

/-- The running sum at a chunk's end. -/
def lastA (C : FVec Ideal S8x4x64x128 .f32) : FVec Ideal S8x4x1x128 .f32 := extractStridedSlice S8x4x1x128 ![0, 0, 63, 0] C slices_S8x4x64x128_S8x4x1x128_0_0_63_0

theorem lastA_at (C : FVec Ideal S8x4x64x128 .f32) (b : Fin 8) (h : Fin 4) (i : Fin 1) (l : Fin 128) : lastA C (ix4 b h i l) = C (ix4 b h 63 l) := by
  refine congrArg C (funext fun a => Fin.ext ?_)
  match a with
  | ⟨0, _⟩ => show 0 + b.val = b.val; omega
  | ⟨1, _⟩ => show 0 + h.val = h.val; omega
  | ⟨2, _⟩ => show 63 + i.val = 63; omega
  | ⟨3, _⟩ => show 0 + l.val = l.val; omega

/-- The last row as a table without its unit axis. -/
def lastS (L : FVec Ideal S8x4x1x128 .f32) : FVec Ideal S8x4x128 .f32 := shapeCast S8x4x128 L shapeCasts_S8x4x1x128_S8x4x128

theorem lastS_at (L : FVec Ideal S8x4x1x128 .f32) (b : Fin 8) (h : Fin 4) (l : Fin 128) : lastS L (ix3 b h l) = L (ix4 b h 0 l) :=
  shapeCast_apply _ _ _ _ (by rw [Shape.rowMajor_val_four, Shape.rowMajor_val_three]; show ((b.val * 4 + h.val) * 1 + 0) * 128 + l.val = (b.val * 4 + h.val) * 128 + l.val; omega)

/-- The states after a chunk. -/
def stA (S : FVec Ideal S8x4x128x256 .f32) (K C : FVec Ideal S8x4x64x128 .f32) (V : FVec Ideal S8x4x64x256 .f32) (L : FVec Ideal S8x4x1x128 .f32) : FVec Ideal S8x4x128x256 .f32 :=
  addf (mulf S (broadcastInDim S8x4x128x256 ![0, 1, 2, 3] bcast_S8x4x128x1_S8x4x128x256_0_1_2_3 (broadcastInDim S8x4x128x1 ![0, 1, 2] bcast_S8x4x128_S8x4x128x1_0_1_2 (Host.exp (lastS L)))))
    (Host.dotGeneral dot_S8x4x64x128_S8x4x64x256_S8x4x128x256_2_2_3_3_01_01 none (mulf K (Host.exp (subf (broadcastInDim S8x4x64x128 ![0, 1, 2, 3] bcast_S8x4x1x128_S8x4x64x128_0_1_2_3 L) C))) V)

theorem stA_at (S : FVec Ideal S8x4x128x256 .f32) (K C : FVec Ideal S8x4x64x128 .f32) (V : FVec Ideal S8x4x64x256 .f32) (L : FVec Ideal S8x4x1x128 .f32) (b : Fin 8) (h : Fin 4) (a : Fin 128) (e : Fin 256) :
    stA S K C V L (ix4 b h a e) = S (ix4 b h a e) * Ideal.exp (L (ix4 b h 0 a)) + ∑ j : Fin 64, K (ix4 b h j a) * Ideal.exp (L (ix4 b h 0 a) - C (ix4 b h j a)) * V (ix4 b h j e) := by
  pointwise [stA, lastS_at]

/-- The scores of a chunk. -/
def scA (Q K C : FVec Ideal S8x4x64x128 .f32) (M : IVec S64x64 1) : FVec Ideal S8x4x64x64 .f32 :=
  Host.reduceAdd (mulf (mulf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 Q)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 K)))
    (select (broadcastInDim S8x4x64x64x128 ![2, 3, 4] bcast_S64x64x1_S8x4x64x64x128_2_3_4 (broadcastInDim S64x64x1 ![0, 1] bcast_S64x64_S64x64x1_0_1 M)) (Host.exp (minimumf (subf (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 C)) (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 C))) (broadcastInDim S8x4x64x64x128 ![] bcast_S_S8x4x64x64x128 (constant S_ .f32 0x00000000#32)))) (broadcastInDim S8x4x64x64x128 ![] bcast_S_S8x4x64x64x128 (id (constant S_ .f32 0x00000000#32))))) (constant S_ .f32 0x00000000#32) reducesTo_S8x4x64x64x128_S8x4x64x64_d4 h_S_

theorem scA_at (Q K C : FVec Ideal S8x4x64x128 .f32) (M : IVec S64x64 1) (b : Fin 8) (h : Fin 4) (i j : Fin 64) :
    scA Q K C M (ix4 b h i j) = ∑ l : Fin 128, Q (ix4 b h i l) * K (ix4 b h j l) * (if M (ix2 i j) = 1#1 then Ideal.exp (min (C (ix4 b h i l) - C (ix4 b h j l)) 0) else 0) := by
  pointwise [scA]
  refine Finset.sum_congr rfl fun l _ => ?_
  have hz : (id (constant (F := Ideal) S_ .f32 0#32)) ix0 = (0 : EReal) := (Ideal.ofBits_zero .f32 : Ideal.ofBits .f32 0x00000000#32 = 0)
  rw [hz]
  rfl

/-- The outputs of a chunk. -/
def outA (Q K C : FVec Ideal S8x4x64x128 .f32) (V : FVec Ideal S8x4x64x256 .f32) (M : IVec S64x64 1) (S : FVec Ideal S8x4x128x256 .f32) : FVec Ideal S8x4x64x256 .f32 :=
  addf (Host.dotGeneral dot_S8x4x64x128_S8x4x128x256_S8x4x64x256_3_2_2_3_01_01 none (mulf Q (Host.exp C)) S)
    (Host.dotGeneral dot_S8x4x64x64_S8x4x64x256_S8x4x64x256_3_2_2_3_01_01 none (scA Q K C M) V)

theorem outA_at (Q K C : FVec Ideal S8x4x64x128 .f32) (V : FVec Ideal S8x4x64x256 .f32) (M : IVec S64x64 1) (S : FVec Ideal S8x4x128x256 .f32) (b : Fin 8) (h : Fin 4) (i : Fin 64) (e : Fin 256) :
    outA Q K C V M S (ix4 b h i e) = (∑ l : Fin 128, Q (ix4 b h i l) * Ideal.exp (C (ix4 b h i l)) * S (ix4 b h l e)) + ∑ j : Fin 64, scA Q K C M (ix4 b h i j) * V (ix4 b h j e) := by
  pointwise [outA]

/-- The reference's cut-off score is the score. -/
theorem score_eq (q k g : Fin 64 → Fin 128 → EReal) (hg : ∀ m l, ∃ r : ℝ, r ≤ 0 ∧ g m l = (r : EReal)) (i j : Fin 64) (M : BitVec 1) (hM : M = if j ≤ i then 1#1 else 0#1) :
    ∑ l : Fin 128, q i l * k j l * (if M = 1#1 then Ideal.exp (min (cum (fun m => g m l) i - cum (fun m => g m l) j) 0) else 0) = score q k g i j := by
  choose r hr e using hg
  obtain rfl : g = fun m l => (r m l : EReal) := by funext m l; exact e m l
  unfold score
  by_cases h : j ≤ i
  · rw [if_pos h]
    rw [if_pos h] at hM
    subst hM
    refine Finset.sum_congr rfl fun l _ => ?_
    rw [if_pos rfl, cut_eq (fun m => r m l) (fun m => hr m l) h]
  · rw [if_neg h]
    rw [if_neg h] at hM
    subst hM
    refine Finset.sum_eq_zero fun l _ => ?_
    rw [if_neg (by decide), mul_zero]

/-- A loop's counter as the first of five starts. -/
def starts (ctr : IVec S_ 32) : Fin 5 → Int := fun k => (((![ctr, constantI S_ 32 0#32, constantI S_ 32 0#32, constantI S_ 32 0#32, constantI S_ 32 0#32] : Fin 5 → IVec S_ 32)) k (Shape.Idx.first h_S_)).toInt

theorem starts_at (ctr : IVec S_ 32) (k : ℕ) (hk : k < 64) (hc : ctr = fun _ => BitVec.ofNat 32 k) (a : Fin 5) : starts ctr a = (((![k, 0, 0, 0, 0] : Fin 5 → ℕ) a : ℕ) : Int) := by
  subst hc
  match a with
  | ⟨0, _⟩ => exact toInt_ofNat_of_lt (by omega)
  | ⟨1, _⟩ => rfl
  | ⟨2, _⟩ => rfl
  | ⟨3, _⟩ => rfl
  | ⟨4, _⟩ => rfl

/-- A chunk of the queries, keys or gates. -/
theorem chunk_at (A : FVec Ideal S64x8x4x64x128 .f32) (ctr : IVec S_ 32) (k : ℕ) (hk : k < 64) (hc : ctr = fun _ => BitVec.ofNat 32 k) (b : Fin 8) (h : Fin 4) (j : Fin 64) (l : Fin 128) :
    shapeCast S8x4x64x128 (Host.dynamicSlice S1x8x4x64x128 A (starts ctr) sliceFits_S64x8x4x64x128_S1x8x4x64x128) shapeCasts_S1x8x4x64x128_S8x4x64x128 (ix4 b h j l) = A (ix5 ⟨k, hk⟩ b h j l) := by
  refine (shapeCast_apply _ _ _ (ix5 (0 : Fin 1) b h j l) (by rw [Shape.rowMajor_val_five, Shape.rowMajor_val_four]; show (((0 * 8 + b.val) * 4 + h.val) * 64 + j.val) * 128 + l.val = ((b.val * 4 + h.val) * 64 + j.val) * 128 + l.val; omega)).trans ?_
  rw [Host.dynamicSlice_eq_extractStridedSlice S1x8x4x64x128 A (starts ctr) ![k, 0, 0, 0, 0] _ ⟨rfl, fun a => by
    match a with
    | ⟨0, _⟩ => show k + 1 ≤ 64; omega
    | ⟨1, _⟩ => show 0 + 8 ≤ 8; omega
    | ⟨2, _⟩ => show 0 + 4 ≤ 4; omega
    | ⟨3, _⟩ => show 0 + 64 ≤ 64; omega
    | ⟨4, _⟩ => show 0 + 128 ≤ 128; omega⟩ (starts_at ctr k hk hc)]
  refine congrArg A (funext fun a => Fin.ext ?_)
  match a with
  | ⟨0, _⟩ => show k + 0 = k; omega
  | ⟨1, _⟩ => show 0 + b.val = b.val; omega
  | ⟨2, _⟩ => show 0 + h.val = h.val; omega
  | ⟨3, _⟩ => show 0 + j.val = j.val; omega
  | ⟨4, _⟩ => show 0 + l.val = l.val; omega

/-- A chunk of the values. -/
theorem vchunk_at (A : FVec Ideal S64x8x4x64x256 .f32) (ctr : IVec S_ 32) (k : ℕ) (hk : k < 64) (hc : ctr = fun _ => BitVec.ofNat 32 k) (b : Fin 8) (h : Fin 4) (j : Fin 64) (l : Fin 256) :
    shapeCast S8x4x64x256 (Host.dynamicSlice S1x8x4x64x256 A (starts ctr) sliceFits_S64x8x4x64x256_S1x8x4x64x256) shapeCasts_S1x8x4x64x256_S8x4x64x256 (ix4 b h j l) = A (ix5 ⟨k, hk⟩ b h j l) := by
  refine (shapeCast_apply _ _ _ (ix5 (0 : Fin 1) b h j l) (by rw [Shape.rowMajor_val_five, Shape.rowMajor_val_four]; show (((0 * 8 + b.val) * 4 + h.val) * 64 + j.val) * 256 + l.val = ((b.val * 4 + h.val) * 64 + j.val) * 256 + l.val; omega)).trans ?_
  rw [Host.dynamicSlice_eq_extractStridedSlice S1x8x4x64x256 A (starts ctr) ![k, 0, 0, 0, 0] _ ⟨rfl, fun a => by
    match a with
    | ⟨0, _⟩ => show k + 1 ≤ 64; omega
    | ⟨1, _⟩ => show 0 + 8 ≤ 8; omega
    | ⟨2, _⟩ => show 0 + 4 ≤ 4; omega
    | ⟨3, _⟩ => show 0 + 64 ≤ 64; omega
    | ⟨4, _⟩ => show 0 + 256 ≤ 256; omega⟩ (starts_at ctr k hk hc)]
  refine congrArg A (funext fun a => Fin.ext ?_)
  match a with
  | ⟨0, _⟩ => show k + 0 = k; omega
  | ⟨1, _⟩ => show 0 + b.val = b.val; omega
  | ⟨2, _⟩ => show 0 + h.val = h.val; omega
  | ⟨3, _⟩ => show 0 + j.val = j.val; omega
  | ⟨4, _⟩ => show 0 + l.val = l.val; omega

/-- The outputs' array with a chunk laid in. -/
theorem lay_at (X : FVec Ideal S64x8x4x64x256 .f32) (U : FVec Ideal S8x4x64x256 .f32) (ctr : IVec S_ 32) (k : ℕ) (hk : k < 64) (hc : ctr = fun _ => BitVec.ofNat 32 k) (n : Fin 64) (b : Fin 8) (h : Fin 4) (i : Fin 64) (e : Fin 256) :
    Host.dynamicUpdateSlice X (broadcastInDim S1x8x4x64x256 ![1, 2, 3, 4] bcast_S8x4x64x256_S1x8x4x64x256_1_2_3_4 U) (starts ctr) updateFits_S64x8x4x64x256_S1x8x4x64x256 (ix5 n b h i e)
      = if n.val = k then U (ix4 b h i e) else X (ix5 n b h i e) := by
  have hs := starts_at ctr k hk hc
  have c0 : Host.clampedStart S64x8x4x64x256 S1x8x4x64x256 updateFits_S64x8x4x64x256_S1x8x4x64x256.1 (starts ctr) 0 = k := Host.clampedStart_of_le _ _ 0 k (hs 0) (by show k + 1 ≤ 64; omega)
  have c1 : Host.clampedStart S64x8x4x64x256 S1x8x4x64x256 updateFits_S64x8x4x64x256_S1x8x4x64x256.1 (starts ctr) 1 = 0 := Host.clampedStart_of_le _ _ 1 0 (hs 1) (by show 0 + 8 ≤ 8; omega)
  have c2 : Host.clampedStart S64x8x4x64x256 S1x8x4x64x256 updateFits_S64x8x4x64x256_S1x8x4x64x256.1 (starts ctr) 2 = 0 := Host.clampedStart_of_le _ _ 2 0 (hs 2) (by show 0 + 4 ≤ 4; omega)
  have c3 : Host.clampedStart S64x8x4x64x256 S1x8x4x64x256 updateFits_S64x8x4x64x256_S1x8x4x64x256.1 (starts ctr) 3 = 0 := Host.clampedStart_of_le _ _ 3 0 (hs 3) (by show 0 + 64 ≤ 64; omega)
  have c4 : Host.clampedStart S64x8x4x64x256 S1x8x4x64x256 updateFits_S64x8x4x64x256_S1x8x4x64x256.1 (starts ctr) 4 = 0 := Host.clampedStart_of_le _ _ 4 0 (hs 4) (by show 0 + 256 ≤ 256; omega)
  rw [Host.dynamicUpdateSlice_apply]
  by_cases hn : n.val = k
  · rw [if_pos hn, dif_pos (fun a => by
      match a with
      | ⟨0, _⟩ => exact ⟨by rw [show (⟨0, _⟩ : Fin 5) = 0 from rfl, c0]; exact hn.ge, by rw [show (⟨0, _⟩ : Fin 5) = 0 from rfl, c0]; show n.val < k + 1; omega⟩
      | ⟨1, _⟩ => exact ⟨by rw [show (⟨1, _⟩ : Fin 5) = 1 from rfl, c1]; exact Nat.zero_le _, by rw [show (⟨1, _⟩ : Fin 5) = 1 from rfl, c1]; show b.val < 0 + 8; omega⟩
      | ⟨2, _⟩ => exact ⟨by rw [show (⟨2, _⟩ : Fin 5) = 2 from rfl, c2]; exact Nat.zero_le _, by rw [show (⟨2, _⟩ : Fin 5) = 2 from rfl, c2]; show h.val < 0 + 4; omega⟩
      | ⟨3, _⟩ => exact ⟨by rw [show (⟨3, _⟩ : Fin 5) = 3 from rfl, c3]; exact Nat.zero_le _, by rw [show (⟨3, _⟩ : Fin 5) = 3 from rfl, c3]; show i.val < 0 + 64; omega⟩
      | ⟨4, _⟩ => exact ⟨by rw [show (⟨4, _⟩ : Fin 5) = 4 from rfl, c4]; exact Nat.zero_le _, by rw [show (⟨4, _⟩ : Fin 5) = 4 from rfl, c4]; show e.val < 0 + 256; omega⟩)]
    refine (broadcastInDim_apply _ _ _ _ (ix4 b h i e) fun a => ?_)
    match a with
    | ⟨0, _⟩ => show b.val = if (8 : ℕ) = 1 then 0 else b.val - Host.clampedStart S64x8x4x64x256 S1x8x4x64x256 _ (starts ctr) 1; rw [c1]; simp
    | ⟨1, _⟩ => show h.val = if (4 : ℕ) = 1 then 0 else h.val - Host.clampedStart S64x8x4x64x256 S1x8x4x64x256 _ (starts ctr) 2; rw [c2]; simp
    | ⟨2, _⟩ => show i.val = if (64 : ℕ) = 1 then 0 else i.val - Host.clampedStart S64x8x4x64x256 S1x8x4x64x256 _ (starts ctr) 3; rw [c3]; simp
    | ⟨3, _⟩ => show e.val = if (256 : ℕ) = 1 then 0 else e.val - Host.clampedStart S64x8x4x64x256 S1x8x4x64x256 _ (starts ctr) 4; rw [c4]; simp
  · rw [if_neg hn, dif_neg (fun hin => hn (by
      have h0 := hin 0
      rw [c0] at h0
      have h1 : k ≤ n.val := h0.1
      have h2 : n.val < k + 1 := h0.2
      omega))]

end Cert.GlaRef
-- ==== Proof.GlaRefIn.lean ====
/- The recurrence's reference, stage by stage, at an index. -/
module

public import proofs.«01_k».proof.Proof.GlaSpec
public import proofs.«01_k».proof.Proof.Gen.ReferenceGlaIdeal.Run

@[expose] public section

set_option maxRecDepth 16384

noncomputable section

namespace Cert.GlaRef

open Cert.ReferenceGlaIdeal Cert.ReferenceGlaIdeal.Gen
open Cert.Gla (P sQ sK sV sR sLogit sG sVo sGate sHead sOg rows gateRef gatedRow)
open Idealize.ShloMosaic Idealize.ShloMosaic.TcCoe Idealize.SL.Sem

/-- The normed rows. -/
def normX (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast S1024 g shapeCasts_S1x1024_S1024)))

/-- The in-projection. -/
def proj (x : FVec Ideal S8x4096x1024 .f32) (g : FVec Ideal S1x1024 .f32) (w : FVec Ideal S1x1024x8208 .f32) : FVec Ideal S8x4096x8208 .f32 :=
  Host.dotGeneral dot_S8x4096x1024_S1024x8208_S8x4096x8208_2_0_01_1_n_n none (normX x g) (shapeCast S1024x8208 w shapeCasts_S1x1024x8208_S1024x8208)

theorem normX_at (x : FVec Ideal S8x4096x1024 .f32) (g : FVec Ideal S1x1024 .f32) (b : Fin 8) (s : Fin 4096) (k : Fin 1024) :
    normX x g (ix3 b s k) = Cert.Tail.normRow (fun k => x (ix3 b s k)) (fun k => g (ix2 0 k)) k := by
  pointwise [normX, Cert.Tail.normRow]

theorem proj_at (x : FVec Ideal S8x4096x1024 .f32) (g : FVec Ideal S1x1024 .f32) (w : FVec Ideal S1x1024x8208 .f32) (b : Fin 8) (s : Fin 4096) (n : Fin 8208) :
    proj x g w (ix3 b s n) = P x g w b s n := by
  pointwise [proj, normX_at, P, Cert.Gla.rowProj]

/-- An array of rows, its sequences laid one after another. -/
def flat (y : FVec Ideal S8x4096x1024 .f32) : FVec Ideal S32768x1024 .bf16 := truncf .bf16 (shapeCast S32768x1024 y shapeCasts_S8x4096x1024_S32768x1024) bitsLt_bf16_f32

theorem flat_eq (y : FVec Ideal S8x4096x1024 .f32) (f : Fin 8 → Fin 4096 → Fin 1024 → EReal) (h : ∀ b s e, y (ix3 b s e) = f b s e) : flat y = rows f := by
  funext j
  idx_vars j
  refine Eq.trans ?_ (h ⟨j0.val / 4096, by omega⟩ ⟨j0.val % 4096, Nat.mod_lt _ (by decide)⟩ j1)
  exact shapeCast_apply _ _ _ _ (by rw [Shape.rowMajor_val_three, Shape.rowMajor_val_two]; show (j0.val / 4096 * 4096 + j0.val % 4096) * 1024 + j1.val = j0.val * 1024 + j1.val; omega)

/-- The same of an array of heads. -/
def flat4 (y : FVec Ideal S8x4096x16x64 .f32) : FVec Ideal S32768x1024 .bf16 := truncf .bf16 (shapeCast S32768x1024 y shapeCasts_S8x4096x16x64_S32768x1024) bitsLt_bf16_f32

theorem flat4_eq (y : FVec Ideal S8x4096x16x64 .f32) (f : Fin 8 → Fin 4096 → Fin 1024 → EReal)
    (h : ∀ b s (e : Fin 1024), y (ix4 b s ⟨e.val / 64, by omega⟩ ⟨e.val % 64, Nat.mod_lt _ (by decide)⟩) = f b s e) : flat4 y = rows f := by
  funext j
  idx_vars j
  refine Eq.trans ?_ (h ⟨j0.val / 4096, by omega⟩ ⟨j0.val % 4096, Nat.mod_lt _ (by decide)⟩ j1)
  exact shapeCast_apply _ _ _ _ (by rw [Shape.rowMajor_val_four, Shape.rowMajor_val_two]; show ((j0.val / 4096 * 4096 + j0.val % 4096) * 16 + j1.val / 64) * 64 + j1.val % 64 = j0.val * 1024 + j1.val; omega)

/-- The sixteen heads of a row. -/
def split16 (y : FVec Ideal S8x4096x1024 .f32) : FVec Ideal S8x4096x16x64 .f32 := shapeCast S8x4096x16x64 y shapeCasts_S8x4096x1024_S8x4096x16x64

theorem split16_at (y : FVec Ideal S8x4096x1024 .f32) (b : Fin 8) (s : Fin 4096) (h : Fin 16) (l : Fin 64) : split16 y (ix4 b s h l) = y (ix3 b s ⟨64 * h.val + l.val, by omega⟩) :=
  shapeCast_apply _ _ _ _ (by rw [Shape.rowMajor_val_four, Shape.rowMajor_val_three]; show (b.val * 4096 + s.val) * 1024 + (64 * h.val + l.val) = ((b.val * 4096 + s.val) * 16 + h.val) * 64 + l.val; omega)

/-- The heads of a row, each normed. -/
def hnorm (Y : FVec Ideal S8x4096x16x64 .f32) (gn : FVec Ideal S1x64 .f32) : FVec Ideal S8x4096x16x64 .f32 :=
  mulf (mulf Y (broadcastInDim S8x4096x16x64 ![0, 1, 2, 3] bcast_S8x4096x16x1_S8x4096x16x64_0_1_2_3 (Host.rsqrt (addf (Host.divf (broadcastInDim S8x4096x16x1 ![0, 1, 2] bcast_S8x4096x16_S8x4096x16x1_0_1_2 (Host.reduceAdd (mulf Y Y) (constant S_ .f32 0x00000000#32) reducesTo_S8x4096x16x64_S8x4096x16_d3 h_S_)) (broadcastInDim S8x4096x16x1 ![] bcast_S_S8x4096x16x1 (constant S_ .f32 0x42800000#32))) (broadcastInDim S8x4096x16x1 ![] bcast_S_S8x4096x16x1 (constant S_ .f32 0x358637BD#32))))))
    (broadcastInDim S8x4096x16x64 ![0, 1, 2, 3] bcast_S1x1x1x64_S8x4096x16x64_0_1_2_3 (broadcastInDim S1x1x1x64 ![3] bcast_S64_S1x1x1x64_3 (shapeCast S64 gn shapeCasts_S1x64_S64)))

theorem hnorm_at (Y : FVec Ideal S8x4096x16x64 .f32) (gn : FVec Ideal S1x64 .f32) (b : Fin 8) (s : Fin 4096) (h : Fin 16) (l : Fin 64) :
    hnorm Y gn (ix4 b s h l) = Y (ix4 b s h l) * Ideal.rsqrt (Ideal.div (∑ i : Fin 64, Y (ix4 b s h i) * Y (ix4 b s h i)) (Ideal.ofBits .f32 0x42800000#32) + Ideal.ofBits .f32 0x358637BD#32) * gn (ix2 0 l) := by
  pointwise [hnorm]

/-- A row's logistic, spelt with a quotient. -/
def logi (y : FVec Ideal S8x4096x1024 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf y)))

theorem logi_at (y : FVec Ideal S8x4096x1024 .f32) (b : Fin 8) (s : Fin 4096) (e : Fin 1024) : logi y (ix3 b s e) = Ideal.logistic (y (ix3 b s e)) := by
  pointwise [logi]
  rfl

section Slices
variable (x : FVec Ideal S8x4096x1024 .f32) (g : FVec Ideal S1x1024 .f32) (w : FVec Ideal S1x1024x8208 .f32)

def col (o : ℕ) (h : S8x4096x8208.Slices ![0, 0, o] S8x4096x1024) : FVec Ideal S8x4096x1024 .f32 := extractStridedSlice S8x4096x1024 ![0, 0, o] (proj x g w) h
def colS (o : ℕ) (h : S8x4096x8208.Slices ![0, 0, o] S8x4096x512) : FVec Ideal S8x4096x512 .f32 := extractStridedSlice S8x4096x512 ![0, 0, o] (proj x g w) h
def colL (o : ℕ) (h : S8x4096x8208.Slices ![0, 0, o] S8x4096x16) : FVec Ideal S8x4096x16 .f32 := extractStridedSlice S8x4096x16 ![0, 0, o] (proj x g w) h

theorem col_at (o : ℕ) (h : S8x4096x8208.Slices ![0, 0, o] S8x4096x1024) (b : Fin 8) (s : Fin 4096) (e : Fin 1024) (n : Fin 8208) (hn : n.val = o + e.val) : col x g w o h (ix3 b s e) = P x g w b s n := by
  refine Eq.trans ?_ (proj_at x g w b s n)
  refine congrArg (proj x g w) (funext fun a => Fin.ext ?_)
  match a with
  | ⟨0, _⟩ => show 0 + b.val = b.val; omega
  | ⟨1, _⟩ => show 0 + s.val = s.val; omega
  | ⟨2, _⟩ => exact hn.symm

theorem colS_at (o : ℕ) (h : S8x4096x8208.Slices ![0, 0, o] S8x4096x512) (b : Fin 8) (s : Fin 4096) (e : Fin 512) (n : Fin 8208) (hn : n.val = o + e.val) : colS x g w o h (ix3 b s e) = P x g w b s n := by
  refine Eq.trans ?_ (proj_at x g w b s n)
  refine congrArg (proj x g w) (funext fun a => Fin.ext ?_)
  match a with
  | ⟨0, _⟩ => show 0 + b.val = b.val; omega
  | ⟨1, _⟩ => show 0 + s.val = s.val; omega
  | ⟨2, _⟩ => exact hn.symm

theorem colL_at (o : ℕ) (h : S8x4096x8208.Slices ![0, 0, o] S8x4096x16) (b : Fin 8) (s : Fin 4096) (e : Fin 16) (n : Fin 8208) (hn : n.val = o + e.val) : colL x g w o h (ix3 b s e) = P x g w b s n := by
  refine Eq.trans ?_ (proj_at x g w b s n)
  refine congrArg (proj x g w) (funext fun a => Fin.ext ?_)
  match a with
  | ⟨0, _⟩ => show 0 + b.val = b.val; omega
  | ⟨1, _⟩ => show 0 + s.val = s.val; omega
  | ⟨2, _⟩ => exact hn.symm

/-- The queries and keys of the attention, before the queries' factor. -/
theorem head_at (base : ℕ) (hb : base ≤ 4096) (h : S8x4096x8208.Slices ![0, 0, base] S8x4096x1024) (gn : FVec Ideal S1x64 .f32) (b : Fin 8) (s : Fin 4096) (e : Fin 1024) :
    hnorm (split16 (col x g w base h)) gn (ix4 b s ⟨e.val / 64, by omega⟩ ⟨e.val % 64, Nat.mod_lt _ (by decide)⟩)
      = sHead x g w base hb (fun l => gn (ix2 0 l)) b s e := by
  have he (i : Fin 64) : split16 (col x g w base h) (ix4 b s ⟨e.val / 64, by omega⟩ i) = P x g w b s ⟨base + (64 * (e.val / 64) + i.val), by omega⟩ :=
    (split16_at _ b s _ i).trans (col_at x g w base h b s _ _ rfl)
  refine (hnorm_at _ gn b s _ _).trans ?_
  simp only [he]
  unfold sHead
  have e1 : (⟨base + (64 * (e.val / 64) + e.val % 64), by omega⟩ : Fin 8208) = ⟨base + e.val, by omega⟩ := Fin.ext (by show base + (64 * (e.val / 64) + e.val % 64) = base + e.val; omega)
  rw [e1]

end Slices

end Cert.GlaRef
-- ==== Proof.GlaRefEntry.lean ====
/- What the recurrence's reference takes into its loop over the chunks. -/
module

public import proofs.«01_k».proof.Proof.GlaRefIn
public import Idealize.ShloMosaic.Lib.StableHlo.RunRead

@[expose] public section

set_option maxRecDepth 16384

noncomputable section

namespace Cert.GlaRef

open Cert.ReferenceGlaIdeal Cert.ReferenceGlaIdeal.Gen Cert.ReferenceGlaIdeal.Value
open Cert.Gla (P sQ sK sV sR sLogit sG ch gate gateRef gateRef_eq)
open Idealize.ShloMosaic Idealize.ShloMosaic.TcCoe Idealize.SL.Sem Idealize.ShloMosaic.StableHlo

/-- The heads of a row of 512 columns, ahead of the places. -/
def heads (y : FVec Ideal S8x4096x512 .f32) : FVec Ideal S8x4x4096x128 .f32 :=
  transpose S8x4x4096x128 [0, 2, 1, 3] (shapeCast S8x4096x4x128 y shapeCasts_S8x4096x512_S8x4096x4x128) transposes_S8x4096x4x128_S8x4x4096x128_0_2_1_3

/-- The same of a row of 1024. -/
def headsV (y : FVec Ideal S8x4096x1024 .f32) : FVec Ideal S8x4x4096x256 .f32 :=
  transpose S8x4x4096x256 [0, 2, 1, 3] (shapeCast S8x4096x4x256 y shapeCasts_S8x4096x1024_S8x4096x4x256) transposes_S8x4096x4x256_S8x4x4096x256_0_2_1_3

/-- The places cut into chunks, the chunks first. -/
def chunks (z : FVec Ideal S8x4x4096x128 .f32) : FVec Ideal S64x8x4x64x128 .f32 :=
  transpose S64x8x4x64x128 [2, 0, 1, 3, 4] (shapeCast S8x4x64x64x128 z shapeCasts_S8x4x4096x128_S8x4x64x64x128) transposes_S8x4x64x64x128_S64x8x4x64x128_2_0_1_3_4

def chunksV (z : FVec Ideal S8x4x4096x256 .f32) : FVec Ideal S64x8x4x64x256 .f32 :=
  transpose S64x8x4x64x256 [2, 0, 1, 3, 4] (shapeCast S8x4x64x64x256 z shapeCasts_S8x4x4096x256_S8x4x64x64x256) transposes_S8x4x64x64x256_S64x8x4x64x256_2_0_1_3_4

theorem heads_at (y : FVec Ideal S8x4096x512 .f32) (b : Fin 8) (h : Fin 4) (s : Fin 4096) (l : Fin 128) : heads y (ix4 b h s l) = y (ix3 b s ⟨128 * h.val + l.val, by omega⟩) :=
  (transpose_apply [0, 2, 1, 3] (shapeCast S8x4096x4x128 y shapeCasts_S8x4096x512_S8x4096x4x128) transposes_S8x4096x4x128_S8x4x4096x128_0_2_1_3 _ (ix4 b s h l) (fun a => match a with | 0 => rfl | 1 => rfl | 2 => rfl | 3 => rfl)).trans
    (shapeCast_apply _ _ _ _ (by rw [Shape.rowMajor_val_four, Shape.rowMajor_val_three]; show (b.val * 4096 + s.val) * 512 + (128 * h.val + l.val) = ((b.val * 4096 + s.val) * 4 + h.val) * 128 + l.val; omega))

theorem headsV_at (y : FVec Ideal S8x4096x1024 .f32) (b : Fin 8) (h : Fin 4) (s : Fin 4096) (l : Fin 256) : headsV y (ix4 b h s l) = y (ix3 b s ⟨256 * h.val + l.val, by omega⟩) :=
  (transpose_apply [0, 2, 1, 3] (shapeCast S8x4096x4x256 y shapeCasts_S8x4096x1024_S8x4096x4x256) transposes_S8x4096x4x256_S8x4x4096x256_0_2_1_3 _ (ix4 b s h l) (fun a => match a with | 0 => rfl | 1 => rfl | 2 => rfl | 3 => rfl)).trans
    (shapeCast_apply _ _ _ _ (by rw [Shape.rowMajor_val_four, Shape.rowMajor_val_three]; show (b.val * 4096 + s.val) * 1024 + (256 * h.val + l.val) = ((b.val * 4096 + s.val) * 4 + h.val) * 256 + l.val; omega))

theorem chunks_at (z : FVec Ideal S8x4x4096x128 .f32) (n : Fin 64) (b : Fin 8) (h : Fin 4) (j : Fin 64) (l : Fin 128) : chunks z (ix5 n b h j l) = z (ix4 b h ⟨64 * n.val + j.val, by omega⟩ l) :=
  (transpose_apply [2, 0, 1, 3, 4] (shapeCast S8x4x64x64x128 z shapeCasts_S8x4x4096x128_S8x4x64x64x128) transposes_S8x4x64x64x128_S64x8x4x64x128_2_0_1_3_4 _ (ix5 b h n j l) (fun a => match a with | 0 => rfl | 1 => rfl | 2 => rfl | 3 => rfl | 4 => rfl)).trans
    (shapeCast_apply _ _ _ _ (by rw [Shape.rowMajor_val_four, Shape.rowMajor_val_five]; show ((b.val * 4 + h.val) * 4096 + (64 * n.val + j.val)) * 128 + l.val = (((b.val * 4 + h.val) * 64 + n.val) * 64 + j.val) * 128 + l.val; omega))

theorem chunksV_at (z : FVec Ideal S8x4x4096x256 .f32) (n : Fin 64) (b : Fin 8) (h : Fin 4) (j : Fin 64) (l : Fin 256) : chunksV z (ix5 n b h j l) = z (ix4 b h ⟨64 * n.val + j.val, by omega⟩ l) :=
  (transpose_apply [2, 0, 1, 3, 4] (shapeCast S8x4x64x64x256 z shapeCasts_S8x4x4096x256_S8x4x64x64x256) transposes_S8x4x64x64x256_S64x8x4x64x256_2_0_1_3_4 _ (ix5 b h n j l) (fun a => match a with | 0 => rfl | 1 => rfl | 2 => rfl | 3 => rfl | 4 => rfl)).trans
    (shapeCast_apply _ _ _ _ (by rw [Shape.rowMajor_val_four, Shape.rowMajor_val_five]; show ((b.val * 4 + h.val) * 4096 + (64 * n.val + j.val)) * 256 + l.val = (((b.val * 4 + h.val) * 64 + n.val) * 64 + j.val) * 256 + l.val; omega))

/-- The gate's logits. -/
def logits (lr : FVec Ideal S8x4096x16 .f32) (w2 : FVec Ideal S1x16x512 .f32) (gb : FVec Ideal S1x512 .f32) : FVec Ideal S8x4096x512 .f32 :=
  addf (Host.dotGeneral dot_S8x4096x16_S16x512_S8x4096x512_2_0_01_1_n_n none lr (shapeCast S16x512 w2 shapeCasts_S1x16x512_S16x512))
    (broadcastInDim S8x4096x512 ![0, 1, 2] bcast_S1x1x512_S8x4096x512_0_1_2 (broadcastInDim S1x1x512 ![2] bcast_S512_S1x1x512_2 (shapeCast S512 gb shapeCasts_S1x512_S512)))

theorem logits_at (lr : FVec Ideal S8x4096x16 .f32) (w2 : FVec Ideal S1x16x512 .f32) (gb : FVec Ideal S1x512 .f32) (b : Fin 8) (s : Fin 4096) (l : Fin 512) :
    logits lr w2 gb (ix3 b s l) = (∑ a : Fin 16, lr (ix3 b s a) * w2 (ix3 0 a l)) + gb (ix2 0 l) := by
  pointwise [logits]

/-- The zero the softplus is written with. -/
def zeros : FVec Ideal S8x4096x512 .f32 := broadcastInDim S8x4096x512 ![] bcast_S_S8x4096x512 (constant S_ .f32 0x00000000#32)

theorem zeros_at (j : S8x4096x512.Idx) : zeros j = 0 := by
  show Ideal.ofBits .f32 0x00000000#32 = 0
  exact Ideal.ofBits_zero .f32

/-- The log gates, by the softplus of the negated logits. -/
def gates (z : FVec Ideal S8x4096x512 .f32) : FVec Ideal S8x4096x512 .f32 :=
  Host.divf (Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))) (broadcastInDim S8x4096x512 ![] bcast_S_S8x4096x512 (constant S_ .f32 0x41800000#32))

theorem gates_at (z : FVec Ideal S8x4096x512 .f32) (j : S8x4096x512.Idx) : gates z j = gateRef (z j) := by
  pointwise [gates, zeros_at, gateRef]
  rw [if_neg (fun h => h rfl)]
  rfl

variable (m : (ℓ : Loc nD τ sig) → Buf (Elt Ideal) ℓ)

abbrev rX (c : Dev nD) : FVec Ideal S8x4096x1024 .f32 := m ((c.tc : Thread nD τ).loc main_arg0)
abbrev rN (c : Dev nD) : FVec Ideal S1x1024 .f32 := m ((c.tc : Thread nD τ).loc main_arg1)
abbrev rW (c : Dev nD) : FVec Ideal S1x1024x8208 .f32 := m ((c.tc : Thread nD τ).loc main_arg2)
abbrev rW2 (c : Dev nD) : FVec Ideal S1x16x512 .f32 := m ((c.tc : Thread nD τ).loc main_arg5)
abbrev rGb (c : Dev nD) : FVec Ideal S1x512 .f32 := m ((c.tc : Thread nD τ).loc main_arg6)

theorem entry_q (c : Dev nD) : entryContents preI m c (Proc.devRef .tc main_v57_0)
    = chunks (mulf (heads (colS (rX m c) (rN m c) (rW m c) 3072 slices_S8x4096x8208_S8x4096x512_0_0_3072)) (broadcastInDim S8x4x4096x128 ![] bcast_S_S8x4x4096x128 (constant S_ .f32 0x3DB504F3#32))) := by
  simp only [entryContents, afterL_cons, afterL_nil]
  after_reads_simp
  rfl

theorem entry_k (c : Dev nD) : entryContents preI m c (Proc.devRef .tc main_v57_1)
    = chunks (heads (colS (rX m c) (rN m c) (rW m c) 3584 slices_S8x4096x8208_S8x4096x512_0_0_3584)) := by
  simp only [entryContents, afterL_cons, afterL_nil]
  after_reads_simp
  rfl

theorem entry_v (c : Dev nD) : entryContents preI m c (Proc.devRef .tc main_v57_2)
    = chunksV (headsV (col (rX m c) (rN m c) (rW m c) 4096 slices_S8x4096x8208_S8x4096x1024_0_0_4096)) := by
  simp only [entryContents, afterL_cons, afterL_nil]
  after_reads_simp
  rfl

theorem entry_g (c : Dev nD) : entryContents preI m c (Proc.devRef .tc main_v57_3)
    = chunks (heads (gates (logits (colL (rX m c) (rN m c) (rW m c) 6144 slices_S8x4096x8208_S8x4096x16_0_0_6144) (rW2 m c) (rGb m c)))) := by
  simp only [entryContents, afterL_cons, afterL_nil]
  after_reads_simp
  rfl

/-- The causal mask. -/
def mask : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))

theorem entry_mask (c : Dev nD) : entryContents preI m c (Proc.devRef .tc main_v57_4) = mask := by
  simp only [entryContents, afterL_cons, afterL_nil]
  after_reads_simp
  rfl

theorem mask_at (i j : Fin 64) : mask (ix2 i j) = if j ≤ i then 1#1 else 0#1 := by
  revert i j
  decide +kernel

theorem entry_st (c : Dev nD) : entryContents preI m c (Proc.devRef .tc main_v57_6) = broadcastInDim S8x4x128x256 ![] bcast_S_S8x4x128x256 (constant (F := Ideal) S_ .f32 0x00000000#32) := by
  simp only [entryContents, afterL_cons, afterL_nil]
  after_reads_simp
  rfl

end Cert.GlaRef
-- ==== Proof.GlaRefLoop.lean ====
/- The reference's loop over the chunks: its states and its outputs, trip by trip. -/
module

public import proofs.«01_k».proof.Proof.GlaRefStep
public import proofs.«01_k».proof.Proof.GlaRefEntry

@[expose] public section

set_option maxRecDepth 16384

noncomputable section

namespace Cert.GlaRef

open Cert.ReferenceGlaIdeal Cert.ReferenceGlaIdeal.Gen Cert.ReferenceGlaIdeal.Value
open Idealize.ShloMosaic Idealize.ShloMosaic.TcCoe Idealize.SL.Sem Idealize.ShloMosaic.StableHlo
open Cert.Gla (P sQ sK sV sR sLogit sG sState ch gate gateRef gateRef_eq gate_real cum score stepS outRow stateAt)

/-- A place and a column of a chunk. -/
theorem ch_at {D d : ℕ} [NeZero D] (X : Fin 4096 → Fin D → EReal) (h : ℕ) (n : ℕ) (j : Fin 64) (l : Fin d) (s : Fin 4096) (e : Fin D) (hs : s.val = 64 * n + j.val) (he : e.val = d * h + l.val) :
    X s e = ch (d := d) X h n j l := by
  have e1 : s = Fin.ofNat 4096 (64 * n + j.val) := Fin.ext (by show s.val = (64 * n + j.val) % 4096; rw [← hs, Nat.mod_eq_of_lt s.isLt])
  have e2 : e = Fin.ofNat D (d * h + l.val) := Fin.ext (by show e.val = (d * h + l.val) % D; rw [← he, Nat.mod_eq_of_lt e.isLt])
  unfold ch
  rw [← e1, ← e2]

section Loop
variable (x : FVec Ideal S8x4096x1024 .f32) (g : FVec Ideal S1x1024 .f32) (w : FVec Ideal S1x1024x8208 .f32) (w2 : FVec Ideal S1x16x512 .f32) (gb : FVec Ideal S1x512 .f32)

/-- The loop's arrays before trip `k`. -/
structure Inv (V : Valuation τ sig (Elt Ideal)) (k : ℕ) : Prop where
  qAt : ∀ n b h j l, (V (Proc.devRef .tc main_v57_0) : FVec Ideal S64x8x4x64x128 .f32) (ix5 n b h j l) = ch (sQ x g w b) h.val n.val j l
  kAt : ∀ n b h j l, (V (Proc.devRef .tc main_v57_1) : FVec Ideal S64x8x4x64x128 .f32) (ix5 n b h j l) = ch (sK x g w b) h.val n.val j l
  vAt : ∀ n b h j l, (V (Proc.devRef .tc main_v57_2) : FVec Ideal S64x8x4x64x256 .f32) (ix5 n b h j l) = ch (sV x g w b) h.val n.val j l
  gAt : ∀ n b h j l, (V (Proc.devRef .tc main_v57_3) : FVec Ideal S64x8x4x64x128 .f32) (ix5 n b h j l) = ch (sG x g w w2 gb b) h.val n.val j l
  mask : ∀ i j, (V (Proc.devRef .tc main_v57_4) : IVec S64x64 1) (ix2 i j) = if j ≤ i then 1#1 else 0#1
  ctr : (V (Proc.devRef .tc main_v57_5) : IVec S_ 32) = fun _ => BitVec.ofNat 32 k
  st : ∀ b h a e, (V (Proc.devRef .tc main_v57_6) : FVec Ideal S8x4x128x256 .f32) (ix4 b h a e) = sState x g w w2 gb b h.val k a e
  out : ∀ n b h i e, n.val < k → (V (Proc.devRef .tc main_v57_7) : FVec Ideal S64x8x4x64x256 .f32) (ix5 n b h i e)
    = outRow (ch (sQ x g w b) h.val n.val) (ch (sK x g w b) h.val n.val) (ch (sV x g w b) h.val n.val) (ch (sG x g w w2 gb b) h.val n.val) (sState x g w w2 gb b h.val n.val) i e

variable {x g w w2 gb}

/-- A trip advances the states by a chunk and lays the chunk's outputs in. -/
theorem inv_step (hg : ∀ b s l, ∃ r : ℝ, r ≤ 0 ∧ sG x g w w2 gb b s l = (r : EReal)) (V : Valuation τ sig (Elt Ideal)) (k : ℕ) (hk : k < 64) (I : Inv x g w w2 gb V k) :
    Inv x g w w2 gb (STEP V) (k + 1) := by
  have hQ : ∀ b h j l, (res_main_while0b_v160 V : FVec Ideal S8x4x64x128 .f32) (ix4 b h j l) = ch (sQ x g w b) h.val k j l := fun b h j l =>
    (chunk_at _ _ k hk I.ctr b h j l).trans (I.qAt ⟨k, hk⟩ b h j l)
  have hK : ∀ b h j l, (res_main_while0b_v161 V : FVec Ideal S8x4x64x128 .f32) (ix4 b h j l) = ch (sK x g w b) h.val k j l := fun b h j l =>
    (chunk_at _ _ k hk I.ctr b h j l).trans (I.kAt ⟨k, hk⟩ b h j l)
  have hV : ∀ b h j l, (res_main_while0b_v162 V : FVec Ideal S8x4x64x256 .f32) (ix4 b h j l) = ch (sV x g w b) h.val k j l := fun b h j l =>
    (vchunk_at _ _ k hk I.ctr b h j l).trans (I.vAt ⟨k, hk⟩ b h j l)
  have hC : ∀ b h i l, (res_main_while0b_v164 V : FVec Ideal S8x4x64x128 .f32) (ix4 b h i l) = cum (fun m => ch (d := 128) (sG x g w w2 gb b) h.val k m l) i := fun b h i l =>
    (cumA_at _ b h i l).trans (congrArg (fun f => cum f i) (funext fun m => (chunk_at _ _ k hk I.ctr b h m l).trans (I.gAt ⟨k, hk⟩ b h m l)))
  have hL : ∀ b h i l, (res_main_while0b_v186 V : FVec Ideal S8x4x1x128 .f32) (ix4 b h i l) = cum (fun m => ch (d := 128) (sG x g w w2 gb b) h.val k m l) 63 := fun b h i l =>
    (lastA_at _ b h i l).trans (hC b h 63 l)
  refine ⟨fun n b h j l => ?_, fun n b h j l => ?_, fun n b h j l => ?_, fun n b h j l => ?_, fun i j => ?_, ?_, fun b h a e => ?_, fun n b h i e hn => ?_⟩
  · rw [STEP_main_v57_0]; exact I.qAt n b h j l
  · rw [STEP_main_v57_1]; exact I.kAt n b h j l
  · rw [STEP_main_v57_2]; exact I.vAt n b h j l
  · rw [STEP_main_v57_3]; exact I.gAt n b h j l
  · rw [STEP_main_v57_4]; exact I.mask i j
  · rw [STEP_main_v57_5]
    unfold step_main_v57_5
    rw [I.ctr]
    funext j
    exact (BitVec.ofNat_add k 1).symm
  · rw [STEP_main_v57_6]
    refine (stA_at (V (Proc.devRef .tc main_v57_6)) (res_main_while0b_v161 V) (res_main_while0b_v164 V) (res_main_while0b_v162 V) (res_main_while0b_v186 V) b h a e).trans ?_
    simp only [hK, hC, hL, hV, I.st]
    rfl
  · rw [STEP_main_v57_7]
    refine (lay_at (V (Proc.devRef .tc main_v57_7)) (outA (res_main_while0b_v160 V) (res_main_while0b_v161 V) (res_main_while0b_v164 V) (res_main_while0b_v162 V) (V (Proc.devRef .tc main_v57_4)) (V (Proc.devRef .tc main_v57_6))) (V (Proc.devRef .tc main_v57_5)) k hk I.ctr n b h i e).trans ?_
    by_cases hnk : n.val = k
    · rw [if_pos hnk, outA_at, hnk]
      have hs : ∀ j, scA (res_main_while0b_v160 V) (res_main_while0b_v161 V) (res_main_while0b_v164 V) (V (Proc.devRef .tc main_v57_4)) (ix4 b h i j)
          = score (ch (sQ x g w b) h.val k) (ch (sK x g w b) h.val k) (ch (sG x g w w2 gb b) h.val k) i j := fun j => by
        rw [scA_at]
        simp only [hQ, hK, hC]
        exact score_eq _ _ _ (fun m l => hg b _ _) i j _ (I.mask i j)
      simp only [hs, hQ, hC, hV, I.st]
      rfl
    · rw [if_neg hnk]
      exact I.out n b h i e (by omega)

end Loop

variable (m : (ℓ : Loc nD τ sig) → Buf (Elt Ideal) ℓ)

/-- Every gate logit lies above minus infinity. -/
abbrev Ok (c : Dev nD) : Prop := ∀ b s l, sLogit (rX m c) (rN m c) (rW m c) (rW2 m c) (rGb m c) b s l ≠ ⊥

theorem gates_ok (c : Dev nD) (ok : Ok m c) : ∀ b s l, ∃ r : ℝ, r ≤ 0 ∧ sG (rX m c) (rN m c) (rW m c) (rW2 m c) (rGb m c) b s l = (r : EReal) :=
  fun b s l => gate_real (ok b s l)

theorem inv_entry (c : Dev nD) (ok : Ok m c) : Inv (rX m c) (rN m c) (rW m c) (rW2 m c) (rGb m c) (entryContents preI m c) 0 := by
  refine ⟨fun n b h j l => ?_, fun n b h j l => ?_, fun n b h j l => ?_, fun n b h j l => ?_, fun i j => ?_, ?_, fun b h a e => ?_, fun n b h i e hn => absurd hn (Nat.not_lt_zero _)⟩
  · rw [entry_q]
    refine (chunks_at _ n b h j l).trans ?_
    refine Eq.trans (congrArg (· * Ideal.ofBits .f32 0x3DB504F3#32) ((heads_at _ b h _ l).trans (colS_at _ _ _ 3072 _ b _ _ ⟨3072 + (128 * h.val + l.val), by omega⟩ rfl))) ?_
    exact ch_at (sQ (rX m c) (rN m c) (rW m c) b) h.val n.val j l ⟨64 * n.val + j.val, by omega⟩ ⟨128 * h.val + l.val, by omega⟩ rfl rfl
  · rw [entry_k]
    refine (chunks_at _ n b h j l).trans ?_
    refine ((heads_at _ b h _ l).trans (colS_at _ _ _ 3584 _ b _ _ ⟨3584 + (128 * h.val + l.val), by omega⟩ rfl)).trans ?_
    exact ch_at (sK (rX m c) (rN m c) (rW m c) b) h.val n.val j l ⟨64 * n.val + j.val, by omega⟩ ⟨128 * h.val + l.val, by omega⟩ rfl rfl
  · rw [entry_v]
    refine (chunksV_at _ n b h j l).trans ?_
    refine ((headsV_at _ b h _ l).trans (col_at _ _ _ 4096 _ b _ _ ⟨4096 + (256 * h.val + l.val), by omega⟩ rfl)).trans ?_
    exact ch_at (sV (rX m c) (rN m c) (rW m c) b) h.val n.val j l ⟨64 * n.val + j.val, by omega⟩ ⟨256 * h.val + l.val, by omega⟩ rfl rfl
  · rw [entry_g]
    refine (chunks_at _ n b h j l).trans ?_
    have hz (s : Fin 4096) (e : Fin 512) : logits (colL (rX m c) (rN m c) (rW m c) 6144 slices_S8x4096x8208_S8x4096x16_0_0_6144) (rW2 m c) (rGb m c) (ix3 b s e)
        = sLogit (rX m c) (rN m c) (rW m c) (rW2 m c) (rGb m c) b s e := by
      rw [logits_at]
      refine congrArg (· + _) (Finset.sum_congr rfl fun a _ => congrArg (· * _) ?_)
      exact colL_at _ _ _ 6144 _ b s a _ rfl
    refine ((heads_at _ b h _ l).trans ((gates_at _ _).trans (congrArg gateRef (hz _ _)))).trans ?_
    refine (gateRef_eq (ok b _ _)).trans ?_
    exact ch_at (sG (rX m c) (rN m c) (rW m c) (rW2 m c) (rGb m c) b) h.val n.val j l ⟨64 * n.val + j.val, by omega⟩ ⟨128 * h.val + l.val, by omega⟩ rfl rfl
  · rw [entry_mask]
    exact mask_at i j
  · exact ctr_entry m c
  · rw [entry_st]
    exact (Ideal.ofBits_zero .f32 : Ideal.ofBits .f32 0x00000000#32 = 0)

/-- The loop's arrays after `k` trips. -/
theorem inv_at (c : Dev nD) (ok : Ok m c) : ∀ k, k ≤ 64 → Inv (rX m c) (rN m c) (rW m c) (rW2 m c) (rGb m c) (STEP^[k] (entryContents preI m c)) k
  | 0, _ => inv_entry m c ok
  | k + 1, h => by
    rw [Function.iterate_succ_apply']
    exact inv_step (gates_ok m c ok) _ k (by omega) (inv_at c ok k (by omega))

end Cert.GlaRef
-- ==== Proof.GlaRefOut.lean ====
/- The reference's six results as arrays of rows. -/
module

public import proofs.«01_k».proof.Proof.GlaRefLoop

@[expose] public section

set_option maxRecDepth 16384

noncomputable section

namespace Cert.GlaRef

open Cert.ReferenceGlaIdeal Cert.ReferenceGlaIdeal.Gen Cert.ReferenceGlaIdeal.Value
open Idealize.ShloMosaic Idealize.ShloMosaic.TcCoe Idealize.SL.Sem Idealize.ShloMosaic.StableHlo
open Cert.Gla (P sQ sK sV sR sLogit sG sVo sGate sHead sOg sState ch rows gatedRow outRow)

/-- The chunks' outputs laid back along the sequence, a row's heads last. -/
def joined (o : FVec Ideal S64x8x4x64x256 .f32) : FVec Ideal S8x4096x4x256 .f32 :=
  transpose S8x4096x4x256 [0, 2, 1, 3] (shapeCast S8x4x4096x256 (transpose S8x4x64x64x256 [1, 2, 0, 3, 4] o transposes_S64x8x4x64x256_S8x4x64x64x256_1_2_0_3_4) shapeCasts_S8x4x64x64x256_S8x4x4096x256) transposes_S8x4x4096x256_S8x4096x4x256_0_2_1_3

theorem joined_at (o : FVec Ideal S64x8x4x64x256 .f32) (b : Fin 8) (s : Fin 4096) (h : Fin 4) (e : Fin 256) :
    joined o (ix4 b s h e) = o (ix5 ⟨s.val / 64, by omega⟩ b h ⟨s.val % 64, Nat.mod_lt _ (by decide)⟩ e) := by
  refine (transpose_apply [0, 2, 1, 3] (shapeCast S8x4x4096x256 (transpose S8x4x64x64x256 [1, 2, 0, 3, 4] o transposes_S64x8x4x64x256_S8x4x64x64x256_1_2_0_3_4) shapeCasts_S8x4x64x64x256_S8x4x4096x256) transposes_S8x4x4096x256_S8x4096x4x256_0_2_1_3 _ (ix4 b h s e)
    (fun a => match a with | 0 => rfl | 1 => rfl | 2 => rfl | 3 => rfl)).trans ?_
  refine (shapeCast_apply _ _ _ (ix5 b h (⟨s.val / 64, by omega⟩ : Fin 64) (⟨s.val % 64, Nat.mod_lt _ (by decide)⟩ : Fin 64) e) (by
    rw [Shape.rowMajor_val_five, Shape.rowMajor_val_four]
    show (((b.val * 4 + h.val) * 64 + s.val / 64) * 64 + s.val % 64) * 256 + e.val = ((b.val * 4 + h.val) * 4096 + s.val) * 256 + e.val
    omega)).trans ?_
  exact transpose_apply [1, 2, 0, 3, 4] o transposes_S64x8x4x64x256_S8x4x64x64x256_1_2_0_3_4 _ _ (fun a => match a with | 0 => rfl | 1 => rfl | 2 => rfl | 3 => rfl | 4 => rfl)

/-- The outputs, each head's normed. -/
def onorm (o : FVec Ideal S8x4096x4x256 .f32) (ng : FVec Ideal S1x256 .f32) : FVec Ideal S8x4096x4x256 .f32 :=
  mulf (mulf o (broadcastInDim S8x4096x4x256 ![0, 1, 2, 3] bcast_S8x4096x4x1_S8x4096x4x256_0_1_2_3 (Host.rsqrt (addf (Host.divf (broadcastInDim S8x4096x4x1 ![0, 1, 2] bcast_S8x4096x4_S8x4096x4x1_0_1_2 (Host.reduceAdd (mulf o o) (constant S_ .f32 0x00000000#32) reducesTo_S8x4096x4x256_S8x4096x4_d3 h_S_)) (broadcastInDim S8x4096x4x1 ![] bcast_S_S8x4096x4x1 (constant S_ .f32 0x43800000#32))) (broadcastInDim S8x4096x4x1 ![] bcast_S_S8x4096x4x1 (constant S_ .f32 0x358637BD#32))))))
    (broadcastInDim S8x4096x4x256 ![0, 1, 2, 3] bcast_S1x1x1x256_S8x4096x4x256_0_1_2_3 (broadcastInDim S1x1x1x256 ![3] bcast_S256_S1x1x1x256_3 (shapeCast S256 ng shapeCasts_S1x256_S256)))

theorem onorm_at (o : FVec Ideal S8x4096x4x256 .f32) (ng : FVec Ideal S1x256 .f32) (b : Fin 8) (s : Fin 4096) (h : Fin 4) (e : Fin 256) :
    onorm o ng (ix4 b s h e) = o (ix4 b s h e) * Ideal.rsqrt (Ideal.div (∑ i : Fin 256, o (ix4 b s h i) * o (ix4 b s h i)) (Ideal.ofBits .f32 0x43800000#32) + Ideal.ofBits .f32 0x358637BD#32) * ng (ix2 0 e) := by
  pointwise [onorm]

/-- The heads side by side in a row. -/
def joinH (o : FVec Ideal S8x4096x4x256 .f32) : FVec Ideal S8x4096x1024 .f32 := shapeCast S8x4096x1024 o shapeCasts_S8x4096x4x256_S8x4096x1024

theorem joinH_at (o : FVec Ideal S8x4096x4x256 .f32) (b : Fin 8) (s : Fin 4096) (e : Fin 1024) : joinH o (ix3 b s e) = o (ix4 b s ⟨e.val / 256, by omega⟩ ⟨e.val % 256, Nat.mod_lt _ (by decide)⟩) :=
  shapeCast_apply _ _ _ _ (by rw [Shape.rowMajor_val_four, Shape.rowMajor_val_three]; show ((b.val * 4096 + s.val) * 4 + e.val / 256) * 256 + e.val % 256 = (b.val * 4096 + s.val) * 1024 + e.val; omega)

/-- The queries' scale. -/
def scaled (y : FVec Ideal S8x4096x16x64 .f32) : FVec Ideal S8x4096x16x64 .f32 :=
  mulf y (broadcastInDim S8x4096x16x64 ![] bcast_S_S8x4096x16x64 (constant S_ .f32 0x3E38AA3B#32))

theorem scaled_at (y : FVec Ideal S8x4096x16x64 .f32) (j : S8x4096x16x64.Idx) : scaled y j = y j * Ideal.ofBits .f32 1043900987#32 := rfl

/-- A product with a head's gains scaled. -/
theorem head_scaled (x : FVec Ideal S8x4096x1024 .f32) (g : FVec Ideal S1x1024 .f32) (w : FVec Ideal S1x1024x8208 .f32) (base : ℕ) (hb : base ≤ 4096) (gn : Fin 64 → EReal) (k : EReal) (b : Fin 8) (s : Fin 4096) (e : Fin 1024) :
    sHead x g w base hb gn b s e * k = sHead x g w base hb (fun l => gn l * k) b s e := by
  unfold sHead
  generalize Ideal.rsqrt _ = r
  exact mul_assoc _ _ _

/-- The gated rows, from a row's heads and the gate's columns. -/
def gatedA (o : FVec Ideal S8x4096x1024 .f32) (r : FVec Ideal S8x4096x1024 .f32) : FVec Ideal S8x4096x1024 .f32 := mulf o (mulf r (logi r))

theorem gatedA_at (o r : FVec Ideal S8x4096x1024 .f32) (b : Fin 8) (s : Fin 4096) (e : Fin 1024) :
    gatedA o r (ix3 b s e) = o (ix3 b s e) * (r (ix3 b s e) * Ideal.logistic (r (ix3 b s e))) := by
  unfold gatedA
  show o (ix3 b s e) * (r (ix3 b s e) * logi r (ix3 b s e)) = _
  rw [logi_at]

section Outs
variable (V : Valuation τ sig (Elt Ideal))

theorem out_q : out_main_v149 V = flat4 (scaled (hnorm (split16 (col (V (Proc.devRef .tc main_arg0)) (V (Proc.devRef .tc main_arg1)) (V (Proc.devRef .tc main_arg2)) 0 slices_S8x4096x8208_S8x4096x1024_0_0_0)) (V (Proc.devRef .tc main_arg3)))) := by
  unfold out_main_v149
  rfl
theorem out_k : out_main_v151 V = flat4 (hnorm (split16 (col (V (Proc.devRef .tc main_arg0)) (V (Proc.devRef .tc main_arg1)) (V (Proc.devRef .tc main_arg2)) 1024 slices_S8x4096x8208_S8x4096x1024_0_0_1024)) (V (Proc.devRef .tc main_arg4))) := by
  unfold out_main_v151
  rfl
theorem out_v : out_main_v153 V = flat (col (V (Proc.devRef .tc main_arg0)) (V (Proc.devRef .tc main_arg1)) (V (Proc.devRef .tc main_arg2)) 2048 slices_S8x4096x8208_S8x4096x1024_0_0_2048) := by
  unfold out_main_v153
  rfl
theorem out_gs : out_main_v155 V = flat (logi (col (V (Proc.devRef .tc main_arg0)) (V (Proc.devRef .tc main_arg1)) (V (Proc.devRef .tc main_arg2)) 6160 slices_S8x4096x8208_S8x4096x1024_0_0_6160)) := by
  unfold out_main_v155
  rfl
theorem out_gg : out_main_v157 V = flat (logi (col (V (Proc.devRef .tc main_arg0)) (V (Proc.devRef .tc main_arg1)) (V (Proc.devRef .tc main_arg2)) 7184 slices_S8x4096x8208_S8x4096x1024_0_0_7184)) := by
  unfold out_main_v157
  rfl
theorem out_og : out_main_v159 V = flat (gatedA (joinH (onorm (joined (V (Proc.devRef .tc main_v57_7))) (V (Proc.devRef .tc main_arg7))))
    (col (V (Proc.devRef .tc main_arg0)) (V (Proc.devRef .tc main_arg1)) (V (Proc.devRef .tc main_arg2)) 5120 slices_S8x4096x8208_S8x4096x1024_0_0_5120)) := by
  unfold out_main_v159
  rfl

end Outs

variable (m : (ℓ : Loc nD τ sig) → Buf (Elt Ideal) ℓ)

abbrev rQn (c : Dev nD) : FVec Ideal S1x64 .f32 := m ((c.tc : Thread nD τ).loc main_arg3)
abbrev rKn (c : Dev nD) : FVec Ideal S1x64 .f32 := m ((c.tc : Thread nD τ).loc main_arg4)
abbrev rOn (c : Dev nD) : FVec Ideal S1x256 .f32 := m ((c.tc : Thread nD τ).loc main_arg7)

theorem q_result (c : Dev nD) : out_main_v149 (STEP^[64] (entryContents preI m c))
    = rows (sHead (rX m c) (rN m c) (rW m c) 0 (by decide) (fun l => rQn m c (ix2 0 l) * Ideal.ofBits .f32 1043900987#32)) := by
  rw [out_q, iter_main_arg0, iter_main_arg1, iter_main_arg2, iter_main_arg3]
  refine flat4_eq _ _ fun b s e => ?_
  rw [scaled_at, head_at _ _ _ 0 (by decide) _ _ b s e]
  exact head_scaled _ _ _ 0 (by decide) _ _ b s e

theorem k_result (c : Dev nD) : out_main_v151 (STEP^[64] (entryContents preI m c))
    = rows (sHead (rX m c) (rN m c) (rW m c) 1024 (by decide) (fun l => rKn m c (ix2 0 l))) := by
  rw [out_k, iter_main_arg0, iter_main_arg1, iter_main_arg2, iter_main_arg4]
  exact flat4_eq _ _ fun b s e => head_at _ _ _ 1024 (by decide) _ _ b s e

theorem v_result (c : Dev nD) : out_main_v153 (STEP^[64] (entryContents preI m c)) = rows (sVo (rX m c) (rN m c) (rW m c)) := by
  rw [out_v, iter_main_arg0, iter_main_arg1, iter_main_arg2]
  exact flat_eq _ _ fun b s e => col_at _ _ _ 2048 _ b s e _ rfl

theorem gs_result (c : Dev nD) : out_main_v155 (STEP^[64] (entryContents preI m c)) = rows (sGate (rX m c) (rN m c) (rW m c) 0 (by decide)) := by
  rw [out_gs, iter_main_arg0, iter_main_arg1, iter_main_arg2]
  exact flat_eq _ _ fun b s e => (logi_at _ b s e).trans (congrArg Ideal.logistic (col_at _ _ _ 6160 _ b s e ⟨6160 + (0 + e.val), by omega⟩ (by show 6160 + (0 + e.val) = 6160 + e.val; omega)))

theorem gg_result (c : Dev nD) : out_main_v157 (STEP^[64] (entryContents preI m c)) = rows (sGate (rX m c) (rN m c) (rW m c) 1024 (by decide)) := by
  rw [out_gg, iter_main_arg0, iter_main_arg1, iter_main_arg2]
  exact flat_eq _ _ fun b s e => (logi_at _ b s e).trans (congrArg Ideal.logistic (col_at _ _ _ 7184 _ b s e ⟨6160 + (1024 + e.val), by omega⟩ (by show 6160 + (1024 + e.val) = 7184 + e.val; omega)))

theorem og_of_outs (x : FVec Ideal S8x4096x1024 .f32) (g : FVec Ideal S1x1024 .f32) (w : FVec Ideal S1x1024x8208 .f32) (w2 : FVec Ideal S1x16x512 .f32) (gb : FVec Ideal S1x512 .f32) (ng : FVec Ideal S1x256 .f32)
    (o : FVec Ideal S64x8x4x64x256 .f32)
    (ho : ∀ n b h i e, o (ix5 n b h i e) = outRow (ch (sQ x g w b) h.val n.val) (ch (sK x g w b) h.val n.val) (ch (sV x g w b) h.val n.val) (ch (sG x g w w2 gb b) h.val n.val) (sState x g w w2 gb b h.val n.val) i e) :
    flat (gatedA (joinH (onorm (joined o) ng)) (col x g w 5120 slices_S8x4096x8208_S8x4096x1024_0_0_5120)) = rows (sOg x g w w2 gb ng) := by
  refine flat_eq _ _ fun b s e => ?_
  rw [gatedA_at, joinH_at, onorm_at, col_at x g w 5120 _ b s e ⟨5120 + e.val, by omega⟩ rfl]
  simp only [joined_at, ho]
  unfold sOg gatedRow sR Cert.Gla.silu
  rfl

theorem og_result (c : Dev nD) (ok : Ok m c) : out_main_v159 (STEP^[64] (entryContents preI m c)) = rows (sOg (rX m c) (rN m c) (rW m c) (rW2 m c) (rGb m c) (rOn m c)) := by
  rw [out_og, iter_main_arg0, iter_main_arg1, iter_main_arg2, iter_main_arg7]
  have I := inv_at m c ok 64 (le_refl 64)
  revert I
  generalize STEP^[64] (entryContents preI m c) = V
  intro I
  exact og_of_outs _ _ _ _ _ _ _ fun n b h i e => I.out n b h i e n.isLt

end Cert.GlaRef
-- ==== Proof.GlaClaims.lean ====
/- The recurrence call's claims: the frames, with the precondition and without it, that the idealization rewrites
   nothing, and the equality of the six results. -/
module

public import proofs.«01_k».proof.Defs
public import proofs.«01_k».proof.Proof.Gen.KernelGla.Frame
public import proofs.«01_k».proof.Proof.Gen.Pre_gate_logits_above_minus_infinity
public import proofs.«01_k».proof.Proof.GlaOut
public import proofs.«01_k».proof.Proof.GlaOg
public import proofs.«01_k».proof.Proof.GlaRefOut
public import Idealize.ShloMosaic.Lib.Claim
public import Idealize.ShloMosaic.Lib.Quiescent

@[expose] public section

set_option maxRecDepth 16384

noncomputable section

namespace Cert.GlaClaims

open Idealize.ShloMosaic Idealize.ShloMosaic.TcCoe Idealize.SL.Sem
open Cert.GlaRef (logits colL logits_at colL_at)

theorem frame_p : Cert.quiescent_KernelGla := fun m ρ _ => Cert.KernelGla.Gen.frame m ρ

theorem frame_pi : Cert.quiescent_KernelGlaIdeal := fun m ρ _ => Cert.KernelGlaIdeal.Gen.frame m ρ

theorem frame_pi_pre : Cert.quiescent_KernelGlaIdeal_pre_gate_logits_above_minus_infinity := fun m ρ _ => Cert.KernelGlaIdeal.Gen.frame m ρ

theorem frame_ri : Cert.quiescent_ReferenceGlaIdeal := fun m ρ _ =>
  (θ_run Cert.ReferenceGlaIdeal.defs _ _).mono (fun r h => ⟨fun c => (h c).2.2.2.2.2.2,
      Idealize.ShloMosaic.sem_eq_zero_of_no_sems (by decide) r.2⟩)
    (Cert.ReferenceGlaIdeal.Value.run (F := Ideal) m ρ)

theorem frame_ri_pre : Cert.quiescent_ReferenceGlaIdeal_pre_gate_logits_above_minus_infinity := fun m ρ _ => frame_ri m ρ trivial

theorem preserves : Cert.preserves_KernelGla_KernelGlaIdeal := trivial

section Pre
open Cert.ReferenceGlaIdeal Cert.ReferenceGlaIdeal.Gen

/-- The predicate is the comparison of the gate's logits with minus infinity. -/
theorem pre_eq (x : FVec Ideal S8x4096x1024 .f32) (g : FVec Ideal S1x1024 .f32) (w : FVec Ideal S1x1024x8208 .f32) (qn kn : FVec Ideal S1x64 .f32) (w2 : FVec Ideal S1x16x512 .f32) (gb : FVec Ideal S1x512 .f32) (ng : FVec Ideal S1x256 .f32) :
    Cert.Pre_gate_logits_above_minus_infinity.fn (F := Ideal) x g w qn kn w2 gb ng
      = cmpf .ogt (logits (colL x g w 6144 slices_S8x4096x8208_S8x4096x16_0_0_6144) w2 gb)
          (broadcastInDim S8x4096x512 ![] bcast_S_S8x4096x512 (constant S_ .f32 0xFF800000#32)) := by
  unfold Cert.Pre_gate_logits_above_minus_infinity.fn
  rfl

theorem logit_ne (z : EReal) (h : FloatOps.cmpf (F := Ideal) (φ := .f32) .ogt z (FloatOps.ofBits (F := Ideal) .f32 0xFF800000#32) = 1#1) : z ≠ ⊥ := by
  rintro rfl
  have hb : (FloatOps.ofBits (F := Ideal) .f32 0xFF800000#32 : EReal) = ⊥ := by
    show Ideal.ofBits .f32 0xFF800000#32 = ⊥
    simp [Ideal.ofBits, Ideal.ieee]
  rw [hb] at h
  simp [FloatOps.cmpf, Ideal.cmp] at h

/-- Where the predicate holds, every logit lies above minus infinity. -/
theorem logits_ok (x : FVec Ideal S8x4096x1024 .f32) (g : FVec Ideal S1x1024 .f32) (w : FVec Ideal S1x1024x8208 .f32) (qn kn : FVec Ideal S1x64 .f32) (w2 : FVec Ideal S1x16x512 .f32) (gb : FVec Ideal S1x512 .f32) (ng : FVec Ideal S1x256 .f32)
    (h : Cert.Pre_gate_logits_above_minus_infinity.fn (F := Ideal) x g w qn kn w2 gb ng = (fun _ => 1#1)) : Cert.Gla.LogitsOk x g w w2 gb := by
  intro b s l
  rw [pre_eq] at h
  have e := logit_ne _ (congrFun h (ix3 b s l))
  refine fun hz => e (Eq.trans ?_ hz)
  rw [logits_at]
  exact congrArg (· + _) (Finset.sum_congr rfl fun a _ => congrArg (· * _) (colL_at _ _ _ 6144 _ b s a _ rfl))

end Pre

section Kernel
open Cert.KernelGlaIdeal Cert.KernelGlaIdeal.Gen Cert.Gla

/-- The kernel's run: its six arrays, and its arguments unchanged. -/
theorem kernel_run (m : (ℓ : Loc nD τ sig) → Buf (Elt Ideal) ℓ) (g : Dev nD → PrngReg) (ok : ∀ c, LogitsOk (aX m c) (aN m c) (aW m c) (aW2 m c) (aGb m c)) :
    θ_run (defs (F := Ideal)) (onTc (τ := τ) (main (F := Ideal))) ⟨m, fun _ => 0, g⟩ (fun r => ∀ c : Dev nD,
      r.2.mem ((c.tc : Thread nD τ).loc main_v100_0) = rows (sHead (aX m c) (aN m c) (aW m c) 0 (by decide) (fun l => aQn m c (ix2 0 l) * Ideal.ofBits .f32 1043900987#32))
      ∧ r.2.mem ((c.tc : Thread nD τ).loc main_v100_1) = rows (sHead (aX m c) (aN m c) (aW m c) 1024 (by decide) (fun l => aKn m c (ix2 0 l)))
      ∧ r.2.mem ((c.tc : Thread nD τ).loc main_v100_2) = rows (sVo (aX m c) (aN m c) (aW m c))
      ∧ r.2.mem ((c.tc : Thread nD τ).loc main_v100_3) = rows (sGate (aX m c) (aN m c) (aW m c) 0 (by decide))
      ∧ r.2.mem ((c.tc : Thread nD τ).loc main_v100_4) = rows (sGate (aX m c) (aN m c) (aW m c) 1024 (by decide))
      ∧ r.2.mem ((c.tc : Thread nD τ).loc main_v100_5) = rows (sOg (aX m c) (aN m c) (aW m c) (aW2 m c) (aGb m c) (aOn m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 10).trans (q_final m c), ((h.1 c).1 11).trans (k_final m c), ((h.1 c).1 12).trans (v_final m c),
    ((h.1 c).1 13).trans (gs_final m c), ((h.1 c).1 14).trans (gg_final m c), ((h.1 c).1 15).trans (og_final m c (ok c)), h.2 c⟩)
    (θ_run_and (run_main (F := Ideal) m g) (unchanged (F := Ideal) m g))

end Kernel

/-- Over the extended reals the call and its reference leave the same six arrays. -/
theorem algebraic : Cert.algebraic_KernelGlaIdeal_ReferenceGlaIdeal_pre_gate_logits_above_minus_infinity := by
  intro m g m' g' hpre hagree
  have ok : ∀ c, Cert.Gla.LogitsOk (Cert.Gla.aX m c) (Cert.Gla.aN m c) (Cert.Gla.aW m c) (Cert.Gla.aW2 m c) (Cert.Gla.aGb m c) := fun c =>
    logits_ok _ _ _ _ _ _ _ _ (hpre c)
  refine ⟨_, _, _, _, _, _, kernel_run m g ok, (θ_run Cert.ReferenceGlaIdeal.defs _ _).mono (fun r h c => ?_) (Cert.ReferenceGlaIdeal.Value.run (F := Ideal) m' g')⟩
  obtain ⟨h0, h1, h2, h3, h4, h5, h6, h7⟩ := hagree c
  have e0 : Cert.GlaRef.rX m' c = Cert.Gla.aX m c := h0
  have e1 : Cert.GlaRef.rN m' c = Cert.Gla.aN m c := h1
  have e2 : Cert.GlaRef.rW m' c = Cert.Gla.aW m c := h2
  have e3 : Cert.GlaRef.rQn m' c = Cert.Gla.aQn m c := h3
  have e4 : Cert.GlaRef.rKn m' c = Cert.Gla.aKn m c := h4
  have e5 : Cert.GlaRef.rW2 m' c = Cert.Gla.aW2 m c := h5
  have e6 : Cert.GlaRef.rGb m' c = Cert.Gla.aGb m c := h6
  have e7 : Cert.GlaRef.rOn m' c = Cert.Gla.aOn m c := h7
  have ok' : Cert.GlaRef.Ok m' c := by
    show Cert.Gla.LogitsOk (Cert.GlaRef.rX m' c) (Cert.GlaRef.rN m' c) (Cert.GlaRef.rW m' c) (Cert.GlaRef.rW2 m' c) (Cert.GlaRef.rGb m' c)
    rw [e0, e1, e2, e5, e6]
    exact ok c
  have q := Cert.GlaRef.q_result m' c
  have k := Cert.GlaRef.k_result m' c
  have v := Cert.GlaRef.v_result m' c
  have gs := Cert.GlaRef.gs_result m' c
  have gg := Cert.GlaRef.gg_result m' c
  have og := Cert.GlaRef.og_result m' c ok'
  rw [e0, e1, e2, e3] at q
  rw [e0, e1, e2, e4] at k
  rw [e0, e1, e2] at v gs gg
  rw [e0, e1, e2, e5, e6, e7] at og
  obtain ⟨r0, r1, r2, r3, r4, r5, rest⟩ := h c
  exact ⟨r0.trans q, r1.trans k, r2.trans v, r3.trans gs, r4.trans gg, r5.trans og, rest⟩

end Cert.GlaClaims

end
-- ==== Proof.lean ====
module

public import proofs.«01_k».proof.Defs
public import proofs.«01_k».proof.Proof.Gen.KernelTail
public import proofs.«01_k».proof.Proof.Gen.KernelTail.Skeleton
public import proofs.«01_k».proof.Proof.Gen.KernelTail.Launch
public import proofs.«01_k».proof.Proof.Gen.KernelTail.Points
public import proofs.«01_k».proof.Proof.Gen.KernelTail.Frame
public import proofs.«01_k».proof.Proof.Gen.KernelTailIdeal
public import proofs.«01_k».proof.Proof.Gen.KernelTailIdeal.Skeleton
public import proofs.«01_k».proof.Proof.Gen.KernelTailIdeal.Launch
public import proofs.«01_k».proof.Proof.Gen.KernelTailIdeal.Points
public import proofs.«01_k».proof.Proof.Gen.KernelTailIdeal.Frame
public import proofs.«01_k».proof.Proof.Gen.KernelTailIdeal.Value
public import proofs.«01_k».proof.Proof.Gen.ReferenceTailIdeal.Run
public import proofs.«01_k».proof.Proof.Gen.ReferenceTailIdeal
public import proofs.«01_k».proof.Proof.TailClaims
public import proofs.«01_k».proof.Proof.GlaClaims
public import proofs.«01_k».proof.Proof.Gen.KernelGla
public import proofs.«01_k».proof.Proof.Gen.KernelGla.Frame
public import proofs.«01_k».proof.Proof.Gen.KernelGlaIdeal
public import proofs.«01_k».proof.Proof.Gen.KernelGlaIdeal.Frame
public import proofs.«01_k».proof.Proof.Gen.KernelGlaIdeal.Value
public import proofs.«01_k».proof.Proof.Gen.ReferenceGlaIdeal
public import proofs.«01_k».proof.Proof.Gen.ReferenceGlaIdeal.Run
public import proofs.«01_k».proof.Proof.Gen.Pre_gate_logits_above_minus_infinity
public import Idealize.ShloMosaic.Adequacy
public import Idealize.ShloMosaic.Init

@[expose] public section

noncomputable section

namespace Cert.Proof

open Idealize.ShloMosaic Idealize.SL.Sem Cert.KernelTail

theorem claim : Cert.Claim := ⟨Cert.KernelTail.Gen.facts, Cert.KernelTailIdeal.Gen.facts, Cert.ReferenceTailIdeal.Gen.facts,
  Cert.KernelGla.Gen.facts, Cert.KernelGlaIdeal.Gen.facts, Cert.ReferenceGlaIdeal.Gen.facts, Cert.Pre_gate_logits_above_minus_infinity.Gen.facts,
  Cert.TailClaims.frame_p, Cert.TailClaims.frame_pi, Cert.TailClaims.frame_ri,
  Cert.GlaClaims.frame_p, Cert.GlaClaims.frame_pi, Cert.GlaClaims.frame_pi_pre, Cert.GlaClaims.frame_ri, Cert.GlaClaims.frame_ri_pre,
  Cert.TailClaims.preserves, Cert.TailClaims.algebraic, Cert.GlaClaims.preserves, Cert.GlaClaims.algebraic⟩

end Cert.Proof

end
